-- ==== Defs.lean ====
def Pre_LbKernel (m : (ℓ : Loc Cert.LbKernel.nD Cert.LbKernel.τ Cert.LbKernel.sig) → Buf (Elt Bits) ℓ) : Prop :=
  True

def Pre_LbKernelIdeal (m : (ℓ : Loc Cert.LbKernelIdeal.nD Cert.LbKernelIdeal.τ Cert.LbKernelIdeal.sig) → Buf (Elt Ideal) ℓ) : Prop :=
  True

def Pre_LbKernelIdeal_lb_finite [hPre_lb_finite : Cert.Pre_lb_finite.Facts] (m : (ℓ : Loc Cert.LbKernelIdeal.nD Cert.LbKernelIdeal.τ Cert.LbKernelIdeal.sig) → Buf (Elt Ideal) ℓ) : Prop :=
  ∀ c : Dev Cert.LbKernelIdeal.nD,
    (Cert.Pre_lb_finite.fn (F := Ideal) (m ((c.tc : Thread Cert.LbKernelIdeal.nD Cert.LbKernelIdeal.τ).loc Cert.LbKernelIdeal.main_arg0)) (m ((c.tc : Thread Cert.LbKernelIdeal.nD Cert.LbKernelIdeal.τ).loc Cert.LbKernelIdeal.main_arg1))).1 = (fun _ => 1#1)
    ∧ (Cert.Pre_lb_finite.fn (F := Ideal) (m ((c.tc : Thread Cert.LbKernelIdeal.nD Cert.LbKernelIdeal.τ).loc Cert.LbKernelIdeal.main_arg0)) (m ((c.tc : Thread Cert.LbKernelIdeal.nD Cert.LbKernelIdeal.τ).loc Cert.LbKernelIdeal.main_arg1))).2 = (fun _ => 1#1)

def Pre_LbReferenceIdeal (m : (ℓ : Loc Cert.LbReferenceIdeal.nD Cert.LbReferenceIdeal.τ Cert.LbReferenceIdeal.sig) → Buf (Elt Ideal) ℓ) : Prop :=
  True

def Pre_LbReferenceIdeal_lb_finite [hPre_lb_finite : Cert.Pre_lb_finite.Facts] (m : (ℓ : Loc Cert.LbReferenceIdeal.nD Cert.LbReferenceIdeal.τ Cert.LbReferenceIdeal.sig) → Buf (Elt Ideal) ℓ) : Prop :=
  ∀ c : Dev Cert.LbReferenceIdeal.nD,
    (Cert.Pre_lb_finite.fn (F := Ideal) (m ((c.tc : Thread Cert.LbReferenceIdeal.nD Cert.LbReferenceIdeal.τ).loc Cert.LbReferenceIdeal.main_arg0)) (m ((c.tc : Thread Cert.LbReferenceIdeal.nD Cert.LbReferenceIdeal.τ).loc Cert.LbReferenceIdeal.main_arg1))).1 = (fun _ => 1#1)
    ∧ (Cert.Pre_lb_finite.fn (F := Ideal) (m ((c.tc : Thread Cert.LbReferenceIdeal.nD Cert.LbReferenceIdeal.τ).loc Cert.LbReferenceIdeal.main_arg0)) (m ((c.tc : Thread Cert.LbReferenceIdeal.nD Cert.LbReferenceIdeal.τ).loc Cert.LbReferenceIdeal.main_arg1))).2 = (fun _ => 1#1)

def Pre_FinKernel (m : (ℓ : Loc Cert.FinKernel.nD Cert.FinKernel.τ Cert.FinKernel.sig) → Buf (Elt Bits) ℓ) : Prop :=
  True

def Pre_FinKernelIdeal (m : (ℓ : Loc Cert.FinKernelIdeal.nD Cert.FinKernelIdeal.τ Cert.FinKernelIdeal.sig) → Buf (Elt Ideal) ℓ) : Prop :=
  True

def Pre_FinReferenceIdeal (m : (ℓ : Loc Cert.FinReferenceIdeal.nD Cert.FinReferenceIdeal.τ Cert.FinReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MrgKernel (m : (ℓ : Loc Cert.MrgKernel.nD Cert.MrgKernel.τ Cert.MrgKernel.sig) → Buf (Elt Bits) ℓ) : Prop :=
  True

def Pre_MrgKernelIdeal (m : (ℓ : Loc Cert.MrgKernelIdeal.nD Cert.MrgKernelIdeal.τ Cert.MrgKernelIdeal.sig) → Buf (Elt Ideal) ℓ) : Prop :=
  True

def Pre_MrgReferenceIdeal (m : (ℓ : Loc Cert.MrgReferenceIdeal.nD Cert.MrgReferenceIdeal.τ Cert.MrgReferenceIdeal.sig) → Buf (Elt Ideal) ℓ) : Prop :=
  True

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_FfwKernel (m : (ℓ : Loc Cert.FfwKernel.nD Cert.FfwKernel.τ Cert.FfwKernel.sig) → Buf (Elt Bits) ℓ) : Prop :=
  True

def Pre_FfwKernelIdeal (m : (ℓ : Loc Cert.FfwKernelIdeal.nD Cert.FfwKernelIdeal.τ Cert.FfwKernelIdeal.sig) → Buf (Elt Ideal) ℓ) : Prop :=
  True

def Pre_FfwReferenceIdeal (m : (ℓ : Loc Cert.FfwReferenceIdeal.nD Cert.FfwReferenceIdeal.τ Cert.FfwReferenceIdeal.sig) → Buf (Elt Ideal) ℓ) : Prop :=
  True

def Pre_RmfKernel (m : (ℓ : Loc Cert.RmfKernel.nD Cert.RmfKernel.τ Cert.RmfKernel.sig) → Buf (Elt Bits) ℓ) : Prop :=
  True

def Pre_RmfKernelIdeal (m : (ℓ : Loc Cert.RmfKernelIdeal.nD Cert.RmfKernelIdeal.τ Cert.RmfKernelIdeal.sig) → Buf (Elt Ideal) ℓ) : Prop :=
  True

def Pre_RmfReferenceIdeal (m : (ℓ : Loc Cert.RmfReferenceIdeal.nD Cert.RmfReferenceIdeal.τ Cert.RmfReferenceIdeal.sig) → Buf (Elt Ideal) ℓ) : Prop :=
  True

def Pre_BgfKernel (m : (ℓ : Loc Cert.BgfKernel.nD Cert.BgfKernel.τ Cert.BgfKernel.sig) → Buf (Elt Bits) ℓ) : Prop :=
  True

def Pre_BgfKernelIdeal (m : (ℓ : Loc Cert.BgfKernelIdeal.nD Cert.BgfKernelIdeal.τ Cert.BgfKernelIdeal.sig) → Buf (Elt Ideal) ℓ) : Prop :=
  True

def Pre_BgfReferenceIdeal (m : (ℓ : Loc Cert.BgfReferenceIdeal.nD Cert.BgfReferenceIdeal.τ Cert.BgfReferenceIdeal.sig) → Buf (Elt Ideal) ℓ) : Prop :=
  True

def Pre_LbfKernel (m : (ℓ : Loc Cert.LbfKernel.nD Cert.LbfKernel.τ Cert.LbfKernel.sig) → Buf (Elt Bits) ℓ) : Prop :=
  True

def Pre_LbfKernelIdeal (m : (ℓ : Loc Cert.LbfKernelIdeal.nD Cert.LbfKernelIdeal.τ Cert.LbfKernelIdeal.sig) → Buf (Elt Ideal) ℓ) : Prop :=
  True

def Pre_LbfKernelIdeal_lbf_finite [hPre_lbf_finite : Cert.Pre_lbf_finite.Facts] (m : (ℓ : Loc Cert.LbfKernelIdeal.nD Cert.LbfKernelIdeal.τ Cert.LbfKernelIdeal.sig) → Buf (Elt Ideal) ℓ) : Prop :=
  ∀ c : Dev Cert.LbfKernelIdeal.nD,
    (Cert.Pre_lbf_finite.fn (F := Ideal) (m ((c.tc : Thread Cert.LbfKernelIdeal.nD Cert.LbfKernelIdeal.τ).loc Cert.LbfKernelIdeal.main_arg0))) = (fun _ => 1#1)

def Pre_LbfReferenceIdeal (m : (ℓ : Loc Cert.LbfReferenceIdeal.nD Cert.LbfReferenceIdeal.τ Cert.LbfReferenceIdeal.sig) → Buf (Elt Ideal) ℓ) : Prop :=
  True

def Pre_LbfReferenceIdeal_lbf_finite [hPre_lbf_finite : Cert.Pre_lbf_finite.Facts] (m : (ℓ : Loc Cert.LbfReferenceIdeal.nD Cert.LbfReferenceIdeal.τ Cert.LbfReferenceIdeal.sig) → Buf (Elt Ideal) ℓ) : Prop :=
  ∀ c : Dev Cert.LbfReferenceIdeal.nD,
    (Cert.Pre_lbf_finite.fn (F := Ideal) (m ((c.tc : Thread Cert.LbfReferenceIdeal.nD Cert.LbfReferenceIdeal.τ).loc Cert.LbfReferenceIdeal.main_arg0))) = (fun _ => 1#1)

def Pre_MxbKernel (m : (ℓ : Loc Cert.MxbKernel.nD Cert.MxbKernel.τ Cert.MxbKernel.sig) → Buf (Elt Bits) ℓ) : Prop :=
  True

def Pre_MxbKernelIdeal (m : (ℓ : Loc Cert.MxbKernelIdeal.nD Cert.MxbKernelIdeal.τ Cert.MxbKernelIdeal.sig) → Buf (Elt Ideal) ℓ) : Prop :=
  True

def Pre_MxbKernelIdeal_mxb_finite [hPre_mxb_finite : Cert.Pre_mxb_finite.Facts] (m : (ℓ : Loc Cert.MxbKernelIdeal.nD Cert.MxbKernelIdeal.τ Cert.MxbKernelIdeal.sig) → Buf (Elt Ideal) ℓ) : Prop :=
  ∀ c : Dev Cert.MxbKernelIdeal.nD,
    (Cert.Pre_mxb_finite.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).1 = (fun _ => 1#1)
    ∧ (Cert.Pre_mxb_finite.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).2.1 = (fun _ => 1#1)
    ∧ (Cert.Pre_mxb_finite.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).2.2.1 = (fun _ => 1#1)
    ∧ (Cert.Pre_mxb_finite.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).2.2.2.1 = (fun _ => 1#1)
    ∧ (Cert.Pre_mxb_finite.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).2.2.2.2.1 = (fun _ => 1#1)
    ∧ (Cert.Pre_mxb_finite.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).2.2.2.2.2 = (fun _ => 1#1)

def Pre_MxbReferenceIdeal (m : (ℓ : Loc Cert.MxbReferenceIdeal.nD Cert.MxbReferenceIdeal.τ Cert.MxbReferenceIdeal.sig) → Buf (Elt Ideal) ℓ) : Prop :=
  True

def Pre_MxbReferenceIdeal_mxb_finite [hPre_mxb_finite : Cert.Pre_mxb_finite.Facts] (m : (ℓ : Loc Cert.MxbReferenceIdeal.nD Cert.MxbReferenceIdeal.τ Cert.MxbReferenceIdeal.sig) → Buf (Elt Ideal) ℓ) : Prop :=
  ∀ c : Dev Cert.MxbReferenceIdeal.nD,
    (Cert.Pre_mxb_finite.fn (F := Ideal) (m ((c.tc : Thread Cert.MxbReferenceIdeal.nD Cert.MxbReferenceIdeal.τ).loc Cert.MxbReferenceIdeal.main_arg0)) (m ((c.tc : Thread Cert.MxbReferenceIdeal.nD Cert.MxbReferenceIdeal.τ).loc Cert.MxbReferenceIdeal.main_arg1)) (m ((c.tc : Thread Cert.MxbReferenceIdeal.nD Cert.MxbReferenceIdeal.τ).loc Cert.MxbReferenceIdeal.main_arg2)) (m ((c.tc : Thread Cert.MxbReferenceIdeal.nD Cert.MxbReferenceIdeal.τ).loc Cert.MxbReferenceIdeal.main_arg3)) (m ((c.tc : Thread Cert.MxbReferenceIdeal.nD Cert.MxbReferenceIdeal.τ).loc Cert.MxbReferenceIdeal.main_arg4)) (m ((c.tc : Thread Cert.MxbReferenceIdeal.nD Cert.MxbReferenceIdeal.τ).loc Cert.MxbReferenceIdeal.main_arg5)) (m ((c.tc : Thread Cert.MxbReferenceIdeal.nD Cert.MxbReferenceIdeal.τ).loc Cert.MxbReferenceIdeal.main_arg6)) (m ((c.tc : Thread Cert.MxbReferenceIdeal.nD Cert.MxbReferenceIdeal.τ).loc Cert.MxbReferenceIdeal.main_arg7)) (m ((c.tc : Thread Cert.MxbReferenceIdeal.nD Cert.MxbReferenceIdeal.τ).loc Cert.MxbReferenceIdeal.main_arg8))).1 = (fun _ => 1#1)
    ∧ (Cert.Pre_mxb_finite.fn (F := Ideal) (m ((c.tc : Thread Cert.MxbReferenceIdeal.nD Cert.MxbReferenceIdeal.τ).loc Cert.MxbReferenceIdeal.main_arg0)) (m ((c.tc : Thread Cert.MxbReferenceIdeal.nD Cert.MxbReferenceIdeal.τ).loc Cert.MxbReferenceIdeal.main_arg1)) (m ((c.tc : Thread Cert.MxbReferenceIdeal.nD Cert.MxbReferenceIdeal.τ).loc Cert.MxbReferenceIdeal.main_arg2)) (m ((c.tc : Thread Cert.MxbReferenceIdeal.nD Cert.MxbReferenceIdeal.τ).loc Cert.MxbReferenceIdeal.main_arg3)) (m ((c.tc : Thread Cert.MxbReferenceIdeal.nD Cert.MxbReferenceIdeal.τ).loc Cert.MxbReferenceIdeal.main_arg4)) (m ((c.tc : Thread Cert.MxbReferenceIdeal.nD Cert.MxbReferenceIdeal.τ).loc Cert.MxbReferenceIdeal.main_arg5)) (m ((c.tc : Thread Cert.MxbReferenceIdeal.nD Cert.MxbReferenceIdeal.τ).loc Cert.MxbReferenceIdeal.main_arg6)) (m ((c.tc : Thread Cert.MxbReferenceIdeal.nD Cert.MxbReferenceIdeal.τ).loc Cert.MxbReferenceIdeal.main_arg7)) (m ((c.tc : Thread Cert.MxbReferenceIdeal.nD Cert.MxbReferenceIdeal.τ).loc Cert.MxbReferenceIdeal.main_arg8))).2.1 = (fun _ => 1#1)
    ∧ (Cert.Pre_mxb_finite.fn (F := Ideal) (m ((c.tc : Thread Cert.MxbReferenceIdeal.nD Cert.MxbReferenceIdeal.τ).loc Cert.MxbReferenceIdeal.main_arg0)) (m ((c.tc : Thread Cert.MxbReferenceIdeal.nD Cert.MxbReferenceIdeal.τ).loc Cert.MxbReferenceIdeal.main_arg1)) (m ((c.tc : Thread Cert.MxbReferenceIdeal.nD Cert.MxbReferenceIdeal.τ).loc Cert.MxbReferenceIdeal.main_arg2)) (m ((c.tc : Thread Cert.MxbReferenceIdeal.nD Cert.MxbReferenceIdeal.τ).loc Cert.MxbReferenceIdeal.main_arg3)) (m ((c.tc : Thread Cert.MxbReferenceIdeal.nD Cert.MxbReferenceIdeal.τ).loc Cert.MxbReferenceIdeal.main_arg4)) (m ((c.tc : Thread Cert.MxbReferenceIdeal.nD Cert.MxbReferenceIdeal.τ).loc Cert.MxbReferenceIdeal.main_arg5)) (m ((c.tc : Thread Cert.MxbReferenceIdeal.nD Cert.MxbReferenceIdeal.τ).loc Cert.MxbReferenceIdeal.main_arg6)) (m ((c.tc : Thread Cert.MxbReferenceIdeal.nD Cert.MxbReferenceIdeal.τ).loc Cert.MxbReferenceIdeal.main_arg7)) (m ((c.tc : Thread Cert.MxbReferenceIdeal.nD Cert.MxbReferenceIdeal.τ).loc Cert.MxbReferenceIdeal.main_arg8))).2.2.1 = (fun _ => 1#1)
    ∧ (Cert.Pre_mxb_finite.fn (F := Ideal) (m ((c.tc : Thread Cert.MxbReferenceIdeal.nD Cert.MxbReferenceIdeal.τ).loc Cert.MxbReferenceIdeal.main_arg0)) (m ((c.tc : Thread Cert.MxbReferenceIdeal.nD Cert.MxbReferenceIdeal.τ).loc Cert.MxbReferenceIdeal.main_arg1)) (m ((c.tc : Thread Cert.MxbReferenceIdeal.nD Cert.MxbReferenceIdeal.τ).loc Cert.MxbReferenceIdeal.main_arg2)) (m ((c.tc : Thread Cert.MxbReferenceIdeal.nD Cert.MxbReferenceIdeal.τ).loc Cert.MxbReferenceIdeal.main_arg3)) (m ((c.tc : Thread Cert.MxbReferenceIdeal.nD Cert.MxbReferenceIdeal.τ).loc Cert.MxbReferenceIdeal.main_arg4)) (m ((c.tc : Thread Cert.MxbReferenceIdeal.nD Cert.MxbReferenceIdeal.τ).loc Cert.MxbReferenceIdeal.main_arg5)) (m ((c.tc : Thread Cert.MxbReferenceIdeal.nD Cert.MxbReferenceIdeal.τ).loc Cert.MxbReferenceIdeal.main_arg6)) (m ((c.tc : Thread Cert.MxbReferenceIdeal.nD Cert.MxbReferenceIdeal.τ).loc Cert.MxbReferenceIdeal.main_arg7)) (m ((c.tc : Thread Cert.MxbReferenceIdeal.nD Cert.MxbReferenceIdeal.τ).loc Cert.MxbReferenceIdeal.main_arg8))).2.2.2.1 = (fun _ => 1#1)
    ∧ (Cert.Pre_mxb_finite.fn (F := Ideal) (m ((c.tc : Thread Cert.MxbReferenceIdeal.nD Cert.MxbReferenceIdeal.τ).loc Cert.MxbReferenceIdeal.main_arg0)) (m ((c.tc : Thread Cert.MxbReferenceIdeal.nD Cert.MxbReferenceIdeal.τ).loc Cert.MxbReferenceIdeal.main_arg1)) (m ((c.tc : Thread Cert.MxbReferenceIdeal.nD Cert.MxbReferenceIdeal.τ).loc Cert.MxbReferenceIdeal.main_arg2)) (m ((c.tc : Thread Cert.MxbReferenceIdeal.nD Cert.MxbReferenceIdeal.τ).loc Cert.MxbReferenceIdeal.main_arg3)) (m ((c.tc : Thread Cert.MxbReferenceIdeal.nD Cert.MxbReferenceIdeal.τ).loc Cert.MxbReferenceIdeal.main_arg4)) (m ((c.tc : Thread Cert.MxbReferenceIdeal.nD Cert.MxbReferenceIdeal.τ).loc Cert.MxbReferenceIdeal.main_arg5)) (m ((c.tc : Thread Cert.MxbReferenceIdeal.nD Cert.MxbReferenceIdeal.τ).loc Cert.MxbReferenceIdeal.main_arg6)) (m ((c.tc : Thread Cert.MxbReferenceIdeal.nD Cert.MxbReferenceIdeal.τ).loc Cert.MxbReferenceIdeal.main_arg7)) (m ((c.tc : Thread Cert.MxbReferenceIdeal.nD Cert.MxbReferenceIdeal.τ).loc Cert.MxbReferenceIdeal.main_arg8))).2.2.2.2.1 = (fun _ => 1#1)
    ∧ (Cert.Pre_mxb_finite.fn (F := Ideal) (m ((c.tc : Thread Cert.MxbReferenceIdeal.nD Cert.MxbReferenceIdeal.τ).loc Cert.MxbReferenceIdeal.main_arg0)) (m ((c.tc : Thread Cert.MxbReferenceIdeal.nD Cert.MxbReferenceIdeal.τ).loc Cert.MxbReferenceIdeal.main_arg1)) (m ((c.tc : Thread Cert.MxbReferenceIdeal.nD Cert.MxbReferenceIdeal.τ).loc Cert.MxbReferenceIdeal.main_arg2)) (m ((c.tc : Thread Cert.MxbReferenceIdeal.nD Cert.MxbReferenceIdeal.τ).loc Cert.MxbReferenceIdeal.main_arg3)) (m ((c.tc : Thread Cert.MxbReferenceIdeal.nD Cert.MxbReferenceIdeal.τ).loc Cert.MxbReferenceIdeal.main_arg4)) (m ((c.tc : Thread Cert.MxbReferenceIdeal.nD Cert.MxbReferenceIdeal.τ).loc Cert.MxbReferenceIdeal.main_arg5)) (m ((c.tc : Thread Cert.MxbReferenceIdeal.nD Cert.MxbReferenceIdeal.τ).loc Cert.MxbReferenceIdeal.main_arg6)) (m ((c.tc : Thread Cert.MxbReferenceIdeal.nD Cert.MxbReferenceIdeal.τ).loc Cert.MxbReferenceIdeal.main_arg7)) (m ((c.tc : Thread Cert.MxbReferenceIdeal.nD Cert.MxbReferenceIdeal.τ).loc Cert.MxbReferenceIdeal.main_arg8))).2.2.2.2.2 = (fun _ => 1#1)

def Pre_MxfKernel (m : (ℓ : Loc Cert.MxfKernel.nD Cert.MxfKernel.τ Cert.MxfKernel.sig) → Buf (Elt Bits) ℓ) : Prop :=
  True

def Pre_MxfKernelIdeal (m : (ℓ : Loc Cert.MxfKernelIdeal.nD Cert.MxfKernelIdeal.τ Cert.MxfKernelIdeal.sig) → Buf (Elt Ideal) ℓ) : Prop :=
  True

def Pre_MxfKernelIdeal_mxf_finite [hPre_mxf_finite : Cert.Pre_mxf_finite.Facts] (m : (ℓ : Loc Cert.MxfKernelIdeal.nD Cert.MxfKernelIdeal.τ Cert.MxfKernelIdeal.sig) → Buf (Elt Ideal) ℓ) : Prop :=
  ∀ c : Dev Cert.MxfKernelIdeal.nD,
    (Cert.Pre_mxf_finite.fn (F := Ideal) (m ((c.tc : Thread Cert.MxfKernelIdeal.nD Cert.MxfKernelIdeal.τ).loc Cert.MxfKernelIdeal.main_arg0)) (m ((c.tc : Thread Cert.MxfKernelIdeal.nD Cert.MxfKernelIdeal.τ).loc Cert.MxfKernelIdeal.main_arg1)) (m ((c.tc : Thread Cert.MxfKernelIdeal.nD Cert.MxfKernelIdeal.τ).loc Cert.MxfKernelIdeal.main_arg2)) (m ((c.tc : Thread Cert.MxfKernelIdeal.nD Cert.MxfKernelIdeal.τ).loc Cert.MxfKernelIdeal.main_arg3)) (m ((c.tc : Thread Cert.MxfKernelIdeal.nD Cert.MxfKernelIdeal.τ).loc Cert.MxfKernelIdeal.main_arg4)) (m ((c.tc : Thread Cert.MxfKernelIdeal.nD Cert.MxfKernelIdeal.τ).loc Cert.MxfKernelIdeal.main_arg5)) (m ((c.tc : Thread Cert.MxfKernelIdeal.nD Cert.MxfKernelIdeal.τ).loc Cert.MxfKernelIdeal.main_arg6)) (m ((c.tc : Thread Cert.MxfKernelIdeal.nD Cert.MxfKernelIdeal.τ).loc Cert.MxfKernelIdeal.main_arg7))) = (fun _ => 1#1)

def Pre_MxfReferenceIdeal (m : (ℓ : Loc Cert.MxfReferenceIdeal.nD Cert.MxfReferenceIdeal.τ Cert.MxfReferenceIdeal.sig) → Buf (Elt Ideal) ℓ) : Prop :=
  True

def Pre_MxfReferenceIdeal_mxf_finite [hPre_mxf_finite : Cert.Pre_mxf_finite.Facts] (m : (ℓ : Loc Cert.MxfReferenceIdeal.nD Cert.MxfReferenceIdeal.τ Cert.MxfReferenceIdeal.sig) → Buf (Elt Ideal) ℓ) : Prop :=
  ∀ c : Dev Cert.MxfReferenceIdeal.nD,
    (Cert.Pre_mxf_finite.fn (F := Ideal) (m ((c.tc : Thread Cert.MxfReferenceIdeal.nD Cert.MxfReferenceIdeal.τ).loc Cert.MxfReferenceIdeal.main_arg0)) (m ((c.tc : Thread Cert.MxfReferenceIdeal.nD Cert.MxfReferenceIdeal.τ).loc Cert.MxfReferenceIdeal.main_arg1)) (m ((c.tc : Thread Cert.MxfReferenceIdeal.nD Cert.MxfReferenceIdeal.τ).loc Cert.MxfReferenceIdeal.main_arg2)) (m ((c.tc : Thread Cert.MxfReferenceIdeal.nD Cert.MxfReferenceIdeal.τ).loc Cert.MxfReferenceIdeal.main_arg3)) (m ((c.tc : Thread Cert.MxfReferenceIdeal.nD Cert.MxfReferenceIdeal.τ).loc Cert.MxfReferenceIdeal.main_arg4)) (m ((c.tc : Thread Cert.MxfReferenceIdeal.nD Cert.MxfReferenceIdeal.τ).loc Cert.MxfReferenceIdeal.main_arg5)) (m ((c.tc : Thread Cert.MxfReferenceIdeal.nD Cert.MxfReferenceIdeal.τ).loc Cert.MxfReferenceIdeal.main_arg6)) (m ((c.tc : Thread Cert.MxfReferenceIdeal.nD Cert.MxfReferenceIdeal.τ).loc Cert.MxfReferenceIdeal.main_arg7))) = (fun _ => 1#1)

def quiescent_LbKernel [hLbKernel : Cert.LbKernel.Facts] : Prop :=
  ∀ (m : (ℓ : Loc Cert.LbKernel.nD Cert.LbKernel.τ Cert.LbKernel.sig) → Buf (Elt Bits) ℓ) (g : Dev Cert.LbKernel.nD → PrngReg), Pre_LbKernel m →
    θ_run (Cert.LbKernel.defs (F := Bits)) (onTc (τ := Cert.LbKernel.τ) (Cert.LbKernel.main (F := Bits))) ⟨m, fun _ => 0, g⟩ (fun r => (∀ c : Dev Cert.LbKernel.nD,
      r.2.mem ((c.tc : Thread Cert.LbKernel.nD Cert.LbKernel.τ).loc Cert.LbKernel.main_arg0) = m ((c.tc : Thread Cert.LbKernel.nD Cert.LbKernel.τ).loc Cert.LbKernel.main_arg0)
      ∧ r.2.mem ((c.tc : Thread Cert.LbKernel.nD Cert.LbKernel.τ).loc Cert.LbKernel.main_arg1) = m ((c.tc : Thread Cert.LbKernel.nD Cert.LbKernel.τ).loc Cert.LbKernel.main_arg1))
      ∧ r.2.sem = fun _ => 0)

def quiescent_LbKernelIdeal [hLbKernelIdeal : Cert.LbKernelIdeal.Facts] : Prop :=
  ∀ (m : (ℓ : Loc Cert.LbKernelIdeal.nD Cert.LbKernelIdeal.τ Cert.LbKernelIdeal.sig) → Buf (Elt Ideal) ℓ) (g : Dev Cert.LbKernelIdeal.nD → PrngReg), Pre_LbKernelIdeal m →
    θ_run (Cert.LbKernelIdeal.defs (F := Ideal)) (onTc (τ := Cert.LbKernelIdeal.τ) (Cert.LbKernelIdeal.main (F := Ideal))) ⟨m, fun _ => 0, g⟩ (fun r => (∀ c : Dev Cert.LbKernelIdeal.nD,
      r.2.mem ((c.tc : Thread Cert.LbKernelIdeal.nD Cert.LbKernelIdeal.τ).loc Cert.LbKernelIdeal.main_arg0) = m ((c.tc : Thread Cert.LbKernelIdeal.nD Cert.LbKernelIdeal.τ).loc Cert.LbKernelIdeal.main_arg0)
      ∧ r.2.mem ((c.tc : Thread Cert.LbKernelIdeal.nD Cert.LbKernelIdeal.τ).loc Cert.LbKernelIdeal.main_arg1) = m ((c.tc : Thread Cert.LbKernelIdeal.nD Cert.LbKernelIdeal.τ).loc Cert.LbKernelIdeal.main_arg1))
      ∧ r.2.sem = fun _ => 0)

def quiescent_LbKernelIdeal_pre_lb_finite [hLbKernelIdeal : Cert.LbKernelIdeal.Facts] [hPre_lb_finite : Cert.Pre_lb_finite.Facts] : Prop :=
  ∀ (m : (ℓ : Loc Cert.LbKernelIdeal.nD Cert.LbKernelIdeal.τ Cert.LbKernelIdeal.sig) → Buf (Elt Ideal) ℓ) (g : Dev Cert.LbKernelIdeal.nD → PrngReg), Pre_LbKernelIdeal_lb_finite m →
    θ_run (Cert.LbKernelIdeal.defs (F := Ideal)) (onTc (τ := Cert.LbKernelIdeal.τ) (Cert.LbKernelIdeal.main (F := Ideal))) ⟨m, fun _ => 0, g⟩ (fun r => (∀ c : Dev Cert.LbKernelIdeal.nD,
      r.2.mem ((c.tc : Thread Cert.LbKernelIdeal.nD Cert.LbKernelIdeal.τ).loc Cert.LbKernelIdeal.main_arg0) = m ((c.tc : Thread Cert.LbKernelIdeal.nD Cert.LbKernelIdeal.τ).loc Cert.LbKernelIdeal.main_arg0)
      ∧ r.2.mem ((c.tc : Thread Cert.LbKernelIdeal.nD Cert.LbKernelIdeal.τ).loc Cert.LbKernelIdeal.main_arg1) = m ((c.tc : Thread Cert.LbKernelIdeal.nD Cert.LbKernelIdeal.τ).loc Cert.LbKernelIdeal.main_arg1))
      ∧ r.2.sem = fun _ => 0)

def quiescent_LbReferenceIdeal [hLbReferenceIdeal : Cert.LbReferenceIdeal.Facts] : Prop :=
  ∀ (m : (ℓ : Loc Cert.LbReferenceIdeal.nD Cert.LbReferenceIdeal.τ Cert.LbReferenceIdeal.sig) → Buf (Elt Ideal) ℓ) (g : Dev Cert.LbReferenceIdeal.nD → PrngReg), Pre_LbReferenceIdeal m →
    θ_run (Cert.LbReferenceIdeal.defs (F := Ideal)) (onTc (τ := Cert.LbReferenceIdeal.τ) (Cert.LbReferenceIdeal.main (F := Ideal))) ⟨m, fun _ => 0, g⟩ (fun r => (∀ c : Dev Cert.LbReferenceIdeal.nD,
      r.2.mem ((c.tc : Thread Cert.LbReferenceIdeal.nD Cert.LbReferenceIdeal.τ).loc Cert.LbReferenceIdeal.main_arg0) = m ((c.tc : Thread Cert.LbReferenceIdeal.nD Cert.LbReferenceIdeal.τ).loc Cert.LbReferenceIdeal.main_arg0)
      ∧ r.2.mem ((c.tc : Thread Cert.LbReferenceIdeal.nD Cert.LbReferenceIdeal.τ).loc Cert.LbReferenceIdeal.main_arg1) = m ((c.tc : Thread Cert.LbReferenceIdeal.nD Cert.LbReferenceIdeal.τ).loc Cert.LbReferenceIdeal.main_arg1))
      ∧ r.2.sem = fun _ => 0)

def quiescent_LbReferenceIdeal_pre_lb_finite [hLbReferenceIdeal : Cert.LbReferenceIdeal.Facts] [hPre_lb_finite : Cert.Pre_lb_finite.Facts] : Prop :=
  ∀ (m : (ℓ : Loc Cert.LbReferenceIdeal.nD Cert.LbReferenceIdeal.τ Cert.LbReferenceIdeal.sig) → Buf (Elt Ideal) ℓ) (g : Dev Cert.LbReferenceIdeal.nD → PrngReg), Pre_LbReferenceIdeal_lb_finite m →
    θ_run (Cert.LbReferenceIdeal.defs (F := Ideal)) (onTc (τ := Cert.LbReferenceIdeal.τ) (Cert.LbReferenceIdeal.main (F := Ideal))) ⟨m, fun _ => 0, g⟩ (fun r => (∀ c : Dev Cert.LbReferenceIdeal.nD,
      r.2.mem ((c.tc : Thread Cert.LbReferenceIdeal.nD Cert.LbReferenceIdeal.τ).loc Cert.LbReferenceIdeal.main_arg0) = m ((c.tc : Thread Cert.LbReferenceIdeal.nD Cert.LbReferenceIdeal.τ).loc Cert.LbReferenceIdeal.main_arg0)
      ∧ r.2.mem ((c.tc : Thread Cert.LbReferenceIdeal.nD Cert.LbReferenceIdeal.τ).loc Cert.LbReferenceIdeal.main_arg1) = m ((c.tc : Thread Cert.LbReferenceIdeal.nD Cert.LbReferenceIdeal.τ).loc Cert.LbReferenceIdeal.main_arg1))
      ∧ r.2.sem = fun _ => 0)

def quiescent_FinKernel [hFinKernel : Cert.FinKernel.Facts] : Prop :=
  ∀ (m : (ℓ : Loc Cert.FinKernel.nD Cert.FinKernel.τ Cert.FinKernel.sig) → Buf (Elt Bits) ℓ) (g : Dev Cert.FinKernel.nD → PrngReg), Pre_FinKernel m →
    θ_run (Cert.FinKernel.defs (F := Bits)) (onTc (τ := Cert.FinKernel.τ) (Cert.FinKernel.main (F := Bits))) ⟨m, fun _ => 0, g⟩ (fun r => (∀ c : Dev Cert.FinKernel.nD,
      r.2.mem ((c.tc : Thread Cert.FinKernel.nD Cert.FinKernel.τ).loc Cert.FinKernel.main_arg0) = m ((c.tc : Thread Cert.FinKernel.nD Cert.FinKernel.τ).loc Cert.FinKernel.main_arg0)
      ∧ r.2.mem ((c.tc : Thread Cert.FinKernel.nD Cert.FinKernel.τ).loc Cert.FinKernel.main_arg1) = m ((c.tc : Thread Cert.FinKernel.nD Cert.FinKernel.τ).loc Cert.FinKernel.main_arg1)
      ∧ r.2.mem ((c.tc : Thread Cert.FinKernel.nD Cert.FinKernel.τ).loc Cert.FinKernel.main_arg2) = m ((c.tc : Thread Cert.FinKernel.nD Cert.FinKernel.τ).loc Cert.FinKernel.main_arg2))
      ∧ r.2.sem = fun _ => 0)

def quiescent_FinKernelIdeal [hFinKernelIdeal : Cert.FinKernelIdeal.Facts] : Prop :=
  ∀ (m : (ℓ : Loc Cert.FinKernelIdeal.nD Cert.FinKernelIdeal.τ Cert.FinKernelIdeal.sig) → Buf (Elt Ideal) ℓ) (g : Dev Cert.FinKernelIdeal.nD → PrngReg), Pre_FinKernelIdeal m →
    θ_run (Cert.FinKernelIdeal.defs (F := Ideal)) (onTc (τ := Cert.FinKernelIdeal.τ) (Cert.FinKernelIdeal.main (F := Ideal))) ⟨m, fun _ => 0, g⟩ (fun r => (∀ c : Dev Cert.FinKernelIdeal.nD,
      r.2.mem ((c.tc : Thread Cert.FinKernelIdeal.nD Cert.FinKernelIdeal.τ).loc Cert.FinKernelIdeal.main_arg0) = m ((c.tc : Thread Cert.FinKernelIdeal.nD Cert.FinKernelIdeal.τ).loc Cert.FinKernelIdeal.main_arg0)
      ∧ r.2.mem ((c.tc : Thread Cert.FinKernelIdeal.nD Cert.FinKernelIdeal.τ).loc Cert.FinKernelIdeal.main_arg1) = m ((c.tc : Thread Cert.FinKernelIdeal.nD Cert.FinKernelIdeal.τ).loc Cert.FinKernelIdeal.main_arg1)
      ∧ r.2.mem ((c.tc : Thread Cert.FinKernelIdeal.nD Cert.FinKernelIdeal.τ).loc Cert.FinKernelIdeal.main_arg2) = m ((c.tc : Thread Cert.FinKernelIdeal.nD Cert.FinKernelIdeal.τ).loc Cert.FinKernelIdeal.main_arg2))
      ∧ r.2.sem = fun _ => 0)

def quiescent_FinReferenceIdeal [hFinReferenceIdeal : Cert.FinReferenceIdeal.Facts] : Prop :=
  ∀ (m : (ℓ : Loc Cert.FinReferenceIdeal.nD Cert.FinReferenceIdeal.τ Cert.FinReferenceIdeal.sig) → Buf (Elt Ideal) ℓ) (g : Dev Cert.FinReferenceIdeal.nD → PrngReg), Pre_FinReferenceIdeal m →
    θ_run (Cert.FinReferenceIdeal.defs (F := Ideal)) (onTc (τ := Cert.FinReferenceIdeal.τ) (Cert.FinReferenceIdeal.main (F := Ideal))) ⟨m, fun _ => 0, g⟩ (fun r => (∀ c : Dev Cert.FinReferenceIdeal.nD,
      r.2.mem ((c.tc : Thread Cert.FinReferenceIdeal.nD Cert.FinReferenceIdeal.τ).loc Cert.FinReferenceIdeal.main_arg0) = m ((c.tc : Thread Cert.FinReferenceIdeal.nD Cert.FinReferenceIdeal.τ).loc Cert.FinReferenceIdeal.main_arg0)
      ∧ r.2.mem ((c.tc : Thread Cert.FinReferenceIdeal.nD Cert.FinReferenceIdeal.τ).loc Cert.FinReferenceIdeal.main_arg1) = m ((c.tc : Thread Cert.FinReferenceIdeal.nD Cert.FinReferenceIdeal.τ).loc Cert.FinReferenceIdeal.main_arg1)
      ∧ r.2.mem ((c.tc : Thread Cert.FinReferenceIdeal.nD Cert.FinReferenceIdeal.τ).loc Cert.FinReferenceIdeal.main_arg2) = m ((c.tc : Thread Cert.FinReferenceIdeal.nD Cert.FinReferenceIdeal.τ).loc Cert.FinReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_MrgKernel [hMrgKernel : Cert.MrgKernel.Facts] : Prop :=
  ∀ (m : (ℓ : Loc Cert.MrgKernel.nD Cert.MrgKernel.τ Cert.MrgKernel.sig) → Buf (Elt Bits) ℓ) (g : Dev Cert.MrgKernel.nD → PrngReg), Pre_MrgKernel m →
    θ_run (Cert.MrgKernel.defs (F := Bits)) (onTc (τ := Cert.MrgKernel.τ) (Cert.MrgKernel.main (F := Bits))) ⟨m, fun _ => 0, g⟩ (fun r => (∀ c : Dev Cert.MrgKernel.nD,
      r.2.mem ((c.tc : Thread Cert.MrgKernel.nD Cert.MrgKernel.τ).loc Cert.MrgKernel.main_arg0) = m ((c.tc : Thread Cert.MrgKernel.nD Cert.MrgKernel.τ).loc Cert.MrgKernel.main_arg0)
      ∧ r.2.mem ((c.tc : Thread Cert.MrgKernel.nD Cert.MrgKernel.τ).loc Cert.MrgKernel.main_arg1) = m ((c.tc : Thread Cert.MrgKernel.nD Cert.MrgKernel.τ).loc Cert.MrgKernel.main_arg1)
      ∧ r.2.mem ((c.tc : Thread Cert.MrgKernel.nD Cert.MrgKernel.τ).loc Cert.MrgKernel.main_arg2) = m ((c.tc : Thread Cert.MrgKernel.nD Cert.MrgKernel.τ).loc Cert.MrgKernel.main_arg2)
      ∧ r.2.mem ((c.tc : Thread Cert.MrgKernel.nD Cert.MrgKernel.τ).loc Cert.MrgKernel.main_arg3) = m ((c.tc : Thread Cert.MrgKernel.nD Cert.MrgKernel.τ).loc Cert.MrgKernel.main_arg3)
      ∧ r.2.mem ((c.tc : Thread Cert.MrgKernel.nD Cert.MrgKernel.τ).loc Cert.MrgKernel.main_arg4) = m ((c.tc : Thread Cert.MrgKernel.nD Cert.MrgKernel.τ).loc Cert.MrgKernel.main_arg4))
      ∧ r.2.sem = fun _ => 0)

def quiescent_MrgKernelIdeal [hMrgKernelIdeal : Cert.MrgKernelIdeal.Facts] : Prop :=
  ∀ (m : (ℓ : Loc Cert.MrgKernelIdeal.nD Cert.MrgKernelIdeal.τ Cert.MrgKernelIdeal.sig) → Buf (Elt Ideal) ℓ) (g : Dev Cert.MrgKernelIdeal.nD → PrngReg), Pre_MrgKernelIdeal m →
    θ_run (Cert.MrgKernelIdeal.defs (F := Ideal)) (onTc (τ := Cert.MrgKernelIdeal.τ) (Cert.MrgKernelIdeal.main (F := Ideal))) ⟨m, fun _ => 0, g⟩ (fun r => (∀ c : Dev Cert.MrgKernelIdeal.nD,
      r.2.mem ((c.tc : Thread Cert.MrgKernelIdeal.nD Cert.MrgKernelIdeal.τ).loc Cert.MrgKernelIdeal.main_arg0) = m ((c.tc : Thread Cert.MrgKernelIdeal.nD Cert.MrgKernelIdeal.τ).loc Cert.MrgKernelIdeal.main_arg0)
      ∧ r.2.mem ((c.tc : Thread Cert.MrgKernelIdeal.nD Cert.MrgKernelIdeal.τ).loc Cert.MrgKernelIdeal.main_arg1) = m ((c.tc : Thread Cert.MrgKernelIdeal.nD Cert.MrgKernelIdeal.τ).loc Cert.MrgKernelIdeal.main_arg1)
      ∧ r.2.mem ((c.tc : Thread Cert.MrgKernelIdeal.nD Cert.MrgKernelIdeal.τ).loc Cert.MrgKernelIdeal.main_arg2) = m ((c.tc : Thread Cert.MrgKernelIdeal.nD Cert.MrgKernelIdeal.τ).loc Cert.MrgKernelIdeal.main_arg2)
      ∧ r.2.mem ((c.tc : Thread Cert.MrgKernelIdeal.nD Cert.MrgKernelIdeal.τ).loc Cert.MrgKernelIdeal.main_arg3) = m ((c.tc : Thread Cert.MrgKernelIdeal.nD Cert.MrgKernelIdeal.τ).loc Cert.MrgKernelIdeal.main_arg3)
      ∧ r.2.mem ((c.tc : Thread Cert.MrgKernelIdeal.nD Cert.MrgKernelIdeal.τ).loc Cert.MrgKernelIdeal.main_arg4) = m ((c.tc : Thread Cert.MrgKernelIdeal.nD Cert.MrgKernelIdeal.τ).loc Cert.MrgKernelIdeal.main_arg4))
      ∧ r.2.sem = fun _ => 0)

def quiescent_MrgReferenceIdeal [hMrgReferenceIdeal : Cert.MrgReferenceIdeal.Facts] : Prop :=
  ∀ (m : (ℓ : Loc Cert.MrgReferenceIdeal.nD Cert.MrgReferenceIdeal.τ Cert.MrgReferenceIdeal.sig) → Buf (Elt Ideal) ℓ) (g : Dev Cert.MrgReferenceIdeal.nD → PrngReg), Pre_MrgReferenceIdeal m →
    θ_run (Cert.MrgReferenceIdeal.defs (F := Ideal)) (onTc (τ := Cert.MrgReferenceIdeal.τ) (Cert.MrgReferenceIdeal.main (F := Ideal))) ⟨m, fun _ => 0, g⟩ (fun r => (∀ c : Dev Cert.MrgReferenceIdeal.nD,
      r.2.mem ((c.tc : Thread Cert.MrgReferenceIdeal.nD Cert.MrgReferenceIdeal.τ).loc Cert.MrgReferenceIdeal.main_arg0) = m ((c.tc : Thread Cert.MrgReferenceIdeal.nD Cert.MrgReferenceIdeal.τ).loc Cert.MrgReferenceIdeal.main_arg0)
      ∧ r.2.mem ((c.tc : Thread Cert.MrgReferenceIdeal.nD Cert.MrgReferenceIdeal.τ).loc Cert.MrgReferenceIdeal.main_arg1) = m ((c.tc : Thread Cert.MrgReferenceIdeal.nD Cert.MrgReferenceIdeal.τ).loc Cert.MrgReferenceIdeal.main_arg1)
      ∧ r.2.mem ((c.tc : Thread Cert.MrgReferenceIdeal.nD Cert.MrgReferenceIdeal.τ).loc Cert.MrgReferenceIdeal.main_arg2) = m ((c.tc : Thread Cert.MrgReferenceIdeal.nD Cert.MrgReferenceIdeal.τ).loc Cert.MrgReferenceIdeal.main_arg2)
      ∧ r.2.mem ((c.tc : Thread Cert.MrgReferenceIdeal.nD Cert.MrgReferenceIdeal.τ).loc Cert.MrgReferenceIdeal.main_arg3) = m ((c.tc : Thread Cert.MrgReferenceIdeal.nD Cert.MrgReferenceIdeal.τ).loc Cert.MrgReferenceIdeal.main_arg3)
      ∧ r.2.mem ((c.tc : Thread Cert.MrgReferenceIdeal.nD Cert.MrgReferenceIdeal.τ).loc Cert.MrgReferenceIdeal.main_arg4) = m ((c.tc : Thread Cert.MrgReferenceIdeal.nD Cert.MrgReferenceIdeal.τ).loc Cert.MrgReferenceIdeal.main_arg4))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1)
      ∧ r.2.mem ((c.tc : Thread Cert.DhKernel.nD Cert.DhKernel.τ).loc Cert.DhKernel.main_arg2) = m ((c.tc : Thread Cert.DhKernel.nD Cert.DhKernel.τ).loc Cert.DhKernel.main_arg2)
      ∧ r.2.mem ((c.tc : Thread Cert.DhKernel.nD Cert.DhKernel.τ).loc Cert.DhKernel.main_arg3) = m ((c.tc : Thread Cert.DhKernel.nD Cert.DhKernel.τ).loc Cert.DhKernel.main_arg3)
      ∧ r.2.mem ((c.tc : Thread Cert.DhKernel.nD Cert.DhKernel.τ).loc Cert.DhKernel.main_arg4) = m ((c.tc : Thread Cert.DhKernel.nD Cert.DhKernel.τ).loc Cert.DhKernel.main_arg4))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4))
      ∧ r.2.sem = fun _ => 0)

def quiescent_FfwKernel [hFfwKernel : Cert.FfwKernel.Facts] : Prop :=
  ∀ (m : (ℓ : Loc Cert.FfwKernel.nD Cert.FfwKernel.τ Cert.FfwKernel.sig) → Buf (Elt Bits) ℓ) (g : Dev Cert.FfwKernel.nD → PrngReg), Pre_FfwKernel m →
    θ_run (Cert.FfwKernel.defs (F := Bits)) (onTc (τ := Cert.FfwKernel.τ) (Cert.FfwKernel.main (F := Bits))) ⟨m, fun _ => 0, g⟩ (fun r => (∀ c : Dev Cert.FfwKernel.nD,
      r.2.mem ((c.tc : Thread Cert.FfwKernel.nD Cert.FfwKernel.τ).loc Cert.FfwKernel.main_arg0) = m ((c.tc : Thread Cert.FfwKernel.nD Cert.FfwKernel.τ).loc Cert.FfwKernel.main_arg0)
      ∧ r.2.mem ((c.tc : Thread Cert.FfwKernel.nD Cert.FfwKernel.τ).loc Cert.FfwKernel.main_arg1) = m ((c.tc : Thread Cert.FfwKernel.nD Cert.FfwKernel.τ).loc Cert.FfwKernel.main_arg1)
      ∧ r.2.mem ((c.tc : Thread Cert.FfwKernel.nD Cert.FfwKernel.τ).loc Cert.FfwKernel.main_arg2) = m ((c.tc : Thread Cert.FfwKernel.nD Cert.FfwKernel.τ).loc Cert.FfwKernel.main_arg2)
      ∧ r.2.mem ((c.tc : Thread Cert.FfwKernel.nD Cert.FfwKernel.τ).loc Cert.FfwKernel.main_arg3) = m ((c.tc : Thread Cert.FfwKernel.nD Cert.FfwKernel.τ).loc Cert.FfwKernel.main_arg3))
      ∧ r.2.sem = fun _ => 0)

def quiescent_FfwKernelIdeal [hFfwKernelIdeal : Cert.FfwKernelIdeal.Facts] : Prop :=
  ∀ (m : (ℓ : Loc Cert.FfwKernelIdeal.nD Cert.FfwKernelIdeal.τ Cert.FfwKernelIdeal.sig) → Buf (Elt Ideal) ℓ) (g : Dev Cert.FfwKernelIdeal.nD → PrngReg), Pre_FfwKernelIdeal m →
    θ_run (Cert.FfwKernelIdeal.defs (F := Ideal)) (onTc (τ := Cert.FfwKernelIdeal.τ) (Cert.FfwKernelIdeal.main (F := Ideal))) ⟨m, fun _ => 0, g⟩ (fun r => (∀ c : Dev Cert.FfwKernelIdeal.nD,
      r.2.mem ((c.tc : Thread Cert.FfwKernelIdeal.nD Cert.FfwKernelIdeal.τ).loc Cert.FfwKernelIdeal.main_arg0) = m ((c.tc : Thread Cert.FfwKernelIdeal.nD Cert.FfwKernelIdeal.τ).loc Cert.FfwKernelIdeal.main_arg0)
      ∧ r.2.mem ((c.tc : Thread Cert.FfwKernelIdeal.nD Cert.FfwKernelIdeal.τ).loc Cert.FfwKernelIdeal.main_arg1) = m ((c.tc : Thread Cert.FfwKernelIdeal.nD Cert.FfwKernelIdeal.τ).loc Cert.FfwKernelIdeal.main_arg1)
      ∧ r.2.mem ((c.tc : Thread Cert.FfwKernelIdeal.nD Cert.FfwKernelIdeal.τ).loc Cert.FfwKernelIdeal.main_arg2) = m ((c.tc : Thread Cert.FfwKernelIdeal.nD Cert.FfwKernelIdeal.τ).loc Cert.FfwKernelIdeal.main_arg2)
      ∧ r.2.mem ((c.tc : Thread Cert.FfwKernelIdeal.nD Cert.FfwKernelIdeal.τ).loc Cert.FfwKernelIdeal.main_arg3) = m ((c.tc : Thread Cert.FfwKernelIdeal.nD Cert.FfwKernelIdeal.τ).loc Cert.FfwKernelIdeal.main_arg3))
      ∧ r.2.sem = fun _ => 0)

def quiescent_FfwReferenceIdeal [hFfwReferenceIdeal : Cert.FfwReferenceIdeal.Facts] : Prop :=
  ∀ (m : (ℓ : Loc Cert.FfwReferenceIdeal.nD Cert.FfwReferenceIdeal.τ Cert.FfwReferenceIdeal.sig) → Buf (Elt Ideal) ℓ) (g : Dev Cert.FfwReferenceIdeal.nD → PrngReg), Pre_FfwReferenceIdeal m →
    θ_run (Cert.FfwReferenceIdeal.defs (F := Ideal)) (onTc (τ := Cert.FfwReferenceIdeal.τ) (Cert.FfwReferenceIdeal.main (F := Ideal))) ⟨m, fun _ => 0, g⟩ (fun r => (∀ c : Dev Cert.FfwReferenceIdeal.nD,
      r.2.mem ((c.tc : Thread Cert.FfwReferenceIdeal.nD Cert.FfwReferenceIdeal.τ).loc Cert.FfwReferenceIdeal.main_arg0) = m ((c.tc : Thread Cert.FfwReferenceIdeal.nD Cert.FfwReferenceIdeal.τ).loc Cert.FfwReferenceIdeal.main_arg0)
      ∧ r.2.mem ((c.tc : Thread Cert.FfwReferenceIdeal.nD Cert.FfwReferenceIdeal.τ).loc Cert.FfwReferenceIdeal.main_arg1) = m ((c.tc : Thread Cert.FfwReferenceIdeal.nD Cert.FfwReferenceIdeal.τ).loc Cert.FfwReferenceIdeal.main_arg1)
      ∧ r.2.mem ((c.tc : Thread Cert.FfwReferenceIdeal.nD Cert.FfwReferenceIdeal.τ).loc Cert.FfwReferenceIdeal.main_arg2) = m ((c.tc : Thread Cert.FfwReferenceIdeal.nD Cert.FfwReferenceIdeal.τ).loc Cert.FfwReferenceIdeal.main_arg2)
      ∧ r.2.mem ((c.tc : Thread Cert.FfwReferenceIdeal.nD Cert.FfwReferenceIdeal.τ).loc Cert.FfwReferenceIdeal.main_arg3) = m ((c.tc : Thread Cert.FfwReferenceIdeal.nD Cert.FfwReferenceIdeal.τ).loc Cert.FfwReferenceIdeal.main_arg3))
      ∧ r.2.sem = fun _ => 0)

def quiescent_RmfKernel [hRmfKernel : Cert.RmfKernel.Facts] : Prop :=
  ∀ (m : (ℓ : Loc Cert.RmfKernel.nD Cert.RmfKernel.τ Cert.RmfKernel.sig) → Buf (Elt Bits) ℓ) (g : Dev Cert.RmfKernel.nD → PrngReg), Pre_RmfKernel m →
    θ_run (Cert.RmfKernel.defs (F := Bits)) (onTc (τ := Cert.RmfKernel.τ) (Cert.RmfKernel.main (F := Bits))) ⟨m, fun _ => 0, g⟩ (fun r => (∀ c : Dev Cert.RmfKernel.nD,
      r.2.mem ((c.tc : Thread Cert.RmfKernel.nD Cert.RmfKernel.τ).loc Cert.RmfKernel.main_arg0) = m ((c.tc : Thread Cert.RmfKernel.nD Cert.RmfKernel.τ).loc Cert.RmfKernel.main_arg0)
      ∧ r.2.mem ((c.tc : Thread Cert.RmfKernel.nD Cert.RmfKernel.τ).loc Cert.RmfKernel.main_arg1) = m ((c.tc : Thread Cert.RmfKernel.nD Cert.RmfKernel.τ).loc Cert.RmfKernel.main_arg1)
      ∧ r.2.mem ((c.tc : Thread Cert.RmfKernel.nD Cert.RmfKernel.τ).loc Cert.RmfKernel.main_arg2) = m ((c.tc : Thread Cert.RmfKernel.nD Cert.RmfKernel.τ).loc Cert.RmfKernel.main_arg2))
      ∧ r.2.sem = fun _ => 0)

def quiescent_RmfKernelIdeal [hRmfKernelIdeal : Cert.RmfKernelIdeal.Facts] : Prop :=
  ∀ (m : (ℓ : Loc Cert.RmfKernelIdeal.nD Cert.RmfKernelIdeal.τ Cert.RmfKernelIdeal.sig) → Buf (Elt Ideal) ℓ) (g : Dev Cert.RmfKernelIdeal.nD → PrngReg), Pre_RmfKernelIdeal m →
    θ_run (Cert.RmfKernelIdeal.defs (F := Ideal)) (onTc (τ := Cert.RmfKernelIdeal.τ) (Cert.RmfKernelIdeal.main (F := Ideal))) ⟨m, fun _ => 0, g⟩ (fun r => (∀ c : Dev Cert.RmfKernelIdeal.nD,
      r.2.mem ((c.tc : Thread Cert.RmfKernelIdeal.nD Cert.RmfKernelIdeal.τ).loc Cert.RmfKernelIdeal.main_arg0) = m ((c.tc : Thread Cert.RmfKernelIdeal.nD Cert.RmfKernelIdeal.τ).loc Cert.RmfKernelIdeal.main_arg0)
      ∧ r.2.mem ((c.tc : Thread Cert.RmfKernelIdeal.nD Cert.RmfKernelIdeal.τ).loc Cert.RmfKernelIdeal.main_arg1) = m ((c.tc : Thread Cert.RmfKernelIdeal.nD Cert.RmfKernelIdeal.τ).loc Cert.RmfKernelIdeal.main_arg1)
      ∧ r.2.mem ((c.tc : Thread Cert.RmfKernelIdeal.nD Cert.RmfKernelIdeal.τ).loc Cert.RmfKernelIdeal.main_arg2) = m ((c.tc : Thread Cert.RmfKernelIdeal.nD Cert.RmfKernelIdeal.τ).loc Cert.RmfKernelIdeal.main_arg2))
      ∧ r.2.sem = fun _ => 0)

def quiescent_RmfReferenceIdeal [hRmfReferenceIdeal : Cert.RmfReferenceIdeal.Facts] : Prop :=
  ∀ (m : (ℓ : Loc Cert.RmfReferenceIdeal.nD Cert.RmfReferenceIdeal.τ Cert.RmfReferenceIdeal.sig) → Buf (Elt Ideal) ℓ) (g : Dev Cert.RmfReferenceIdeal.nD → PrngReg), Pre_RmfReferenceIdeal m →
    θ_run (Cert.RmfReferenceIdeal.defs (F := Ideal)) (onTc (τ := Cert.RmfReferenceIdeal.τ) (Cert.RmfReferenceIdeal.main (F := Ideal))) ⟨m, fun _ => 0, g⟩ (fun r => (∀ c : Dev Cert.RmfReferenceIdeal.nD,
      r.2.mem ((c.tc : Thread Cert.RmfReferenceIdeal.nD Cert.RmfReferenceIdeal.τ).loc Cert.RmfReferenceIdeal.main_arg0) = m ((c.tc : Thread Cert.RmfReferenceIdeal.nD Cert.RmfReferenceIdeal.τ).loc Cert.RmfReferenceIdeal.main_arg0)
      ∧ r.2.mem ((c.tc : Thread Cert.RmfReferenceIdeal.nD Cert.RmfReferenceIdeal.τ).loc Cert.RmfReferenceIdeal.main_arg1) = m ((c.tc : Thread Cert.RmfReferenceIdeal.nD Cert.RmfReferenceIdeal.τ).loc Cert.RmfReferenceIdeal.main_arg1)
      ∧ r.2.mem ((c.tc : Thread Cert.RmfReferenceIdeal.nD Cert.RmfReferenceIdeal.τ).loc Cert.RmfReferenceIdeal.main_arg2) = m ((c.tc : Thread Cert.RmfReferenceIdeal.nD Cert.RmfReferenceIdeal.τ).loc Cert.RmfReferenceIdeal.main_arg2))
      ∧ r.2.sem = fun _ => 0)

def quiescent_BgfKernel [hBgfKernel : Cert.BgfKernel.Facts] : Prop :=
  ∀ (m : (ℓ : Loc Cert.BgfKernel.nD Cert.BgfKernel.τ Cert.BgfKernel.sig) → Buf (Elt Bits) ℓ) (g : Dev Cert.BgfKernel.nD → PrngReg), Pre_BgfKernel m →
    θ_run (Cert.BgfKernel.defs (F := Bits)) (onTc (τ := Cert.BgfKernel.τ) (Cert.BgfKernel.main (F := Bits))) ⟨m, fun _ => 0, g⟩ (fun r => (∀ c : Dev Cert.BgfKernel.nD,
      r.2.mem ((c.tc : Thread Cert.BgfKernel.nD Cert.BgfKernel.τ).loc Cert.BgfKernel.main_arg0) = m ((c.tc : Thread Cert.BgfKernel.nD Cert.BgfKernel.τ).loc Cert.BgfKernel.main_arg0)
      ∧ r.2.mem ((c.tc : Thread Cert.BgfKernel.nD Cert.BgfKernel.τ).loc Cert.BgfKernel.main_arg1) = m ((c.tc : Thread Cert.BgfKernel.nD Cert.BgfKernel.τ).loc Cert.BgfKernel.main_arg1)
      ∧ r.2.mem ((c.tc : Thread Cert.BgfKernel.nD Cert.BgfKernel.τ).loc Cert.BgfKernel.main_arg2) = m ((c.tc : Thread Cert.BgfKernel.nD Cert.BgfKernel.τ).loc Cert.BgfKernel.main_arg2)
      ∧ r.2.mem ((c.tc : Thread Cert.BgfKernel.nD Cert.BgfKernel.τ).loc Cert.BgfKernel.main_arg3) = m ((c.tc : Thread Cert.BgfKernel.nD Cert.BgfKernel.τ).loc Cert.BgfKernel.main_arg3)
      ∧ r.2.mem ((c.tc : Thread Cert.BgfKernel.nD Cert.BgfKernel.τ).loc Cert.BgfKernel.main_arg4) = m ((c.tc : Thread Cert.BgfKernel.nD Cert.BgfKernel.τ).loc Cert.BgfKernel.main_arg4))
      ∧ r.2.sem = fun _ => 0)

def quiescent_BgfKernelIdeal [hBgfKernelIdeal : Cert.BgfKernelIdeal.Facts] : Prop :=
  ∀ (m : (ℓ : Loc Cert.BgfKernelIdeal.nD Cert.BgfKernelIdeal.τ Cert.BgfKernelIdeal.sig) → Buf (Elt Ideal) ℓ) (g : Dev Cert.BgfKernelIdeal.nD → PrngReg), Pre_BgfKernelIdeal m →
    θ_run (Cert.BgfKernelIdeal.defs (F := Ideal)) (onTc (τ := Cert.BgfKernelIdeal.τ) (Cert.BgfKernelIdeal.main (F := Ideal))) ⟨m, fun _ => 0, g⟩ (fun r => (∀ c : Dev Cert.BgfKernelIdeal.nD,
      r.2.mem ((c.tc : Thread Cert.BgfKernelIdeal.nD Cert.BgfKernelIdeal.τ).loc Cert.BgfKernelIdeal.main_arg0) = m ((c.tc : Thread Cert.BgfKernelIdeal.nD Cert.BgfKernelIdeal.τ).loc Cert.BgfKernelIdeal.main_arg0)
      ∧ r.2.mem ((c.tc : Thread Cert.BgfKernelIdeal.nD Cert.BgfKernelIdeal.τ).loc Cert.BgfKernelIdeal.main_arg1) = m ((c.tc : Thread Cert.BgfKernelIdeal.nD Cert.BgfKernelIdeal.τ).loc Cert.BgfKernelIdeal.main_arg1)
      ∧ r.2.mem ((c.tc : Thread Cert.BgfKernelIdeal.nD Cert.BgfKernelIdeal.τ).loc Cert.BgfKernelIdeal.main_arg2) = m ((c.tc : Thread Cert.BgfKernelIdeal.nD Cert.BgfKernelIdeal.τ).loc Cert.BgfKernelIdeal.main_arg2)
      ∧ r.2.mem ((c.tc : Thread Cert.BgfKernelIdeal.nD Cert.BgfKernelIdeal.τ).loc Cert.BgfKernelIdeal.main_arg3) = m ((c.tc : Thread Cert.BgfKernelIdeal.nD Cert.BgfKernelIdeal.τ).loc Cert.BgfKernelIdeal.main_arg3)
      ∧ r.2.mem ((c.tc : Thread Cert.BgfKernelIdeal.nD Cert.BgfKernelIdeal.τ).loc Cert.BgfKernelIdeal.main_arg4) = m ((c.tc : Thread Cert.BgfKernelIdeal.nD Cert.BgfKernelIdeal.τ).loc Cert.BgfKernelIdeal.main_arg4))
      ∧ r.2.sem = fun _ => 0)

def quiescent_BgfReferenceIdeal [hBgfReferenceIdeal : Cert.BgfReferenceIdeal.Facts] : Prop :=
  ∀ (m : (ℓ : Loc Cert.BgfReferenceIdeal.nD Cert.BgfReferenceIdeal.τ Cert.BgfReferenceIdeal.sig) → Buf (Elt Ideal) ℓ) (g : Dev Cert.BgfReferenceIdeal.nD → PrngReg), Pre_BgfReferenceIdeal m →
    θ_run (Cert.BgfReferenceIdeal.defs (F := Ideal)) (onTc (τ := Cert.BgfReferenceIdeal.τ) (Cert.BgfReferenceIdeal.main (F := Ideal))) ⟨m, fun _ => 0, g⟩ (fun r => (∀ c : Dev Cert.BgfReferenceIdeal.nD,
      r.2.mem ((c.tc : Thread Cert.BgfReferenceIdeal.nD Cert.BgfReferenceIdeal.τ).loc Cert.BgfReferenceIdeal.main_arg0) = m ((c.tc : Thread Cert.BgfReferenceIdeal.nD Cert.BgfReferenceIdeal.τ).loc Cert.BgfReferenceIdeal.main_arg0)
      ∧ r.2.mem ((c.tc : Thread Cert.BgfReferenceIdeal.nD Cert.BgfReferenceIdeal.τ).loc Cert.BgfReferenceIdeal.main_arg1) = m ((c.tc : Thread Cert.BgfReferenceIdeal.nD Cert.BgfReferenceIdeal.τ).loc Cert.BgfReferenceIdeal.main_arg1)
      ∧ r.2.mem ((c.tc : Thread Cert.BgfReferenceIdeal.nD Cert.BgfReferenceIdeal.τ).loc Cert.BgfReferenceIdeal.main_arg2) = m ((c.tc : Thread Cert.BgfReferenceIdeal.nD Cert.BgfReferenceIdeal.τ).loc Cert.BgfReferenceIdeal.main_arg2)
      ∧ r.2.mem ((c.tc : Thread Cert.BgfReferenceIdeal.nD Cert.BgfReferenceIdeal.τ).loc Cert.BgfReferenceIdeal.main_arg3) = m ((c.tc : Thread Cert.BgfReferenceIdeal.nD Cert.BgfReferenceIdeal.τ).loc Cert.BgfReferenceIdeal.main_arg3)
      ∧ r.2.mem ((c.tc : Thread Cert.BgfReferenceIdeal.nD Cert.BgfReferenceIdeal.τ).loc Cert.BgfReferenceIdeal.main_arg4) = m ((c.tc : Thread Cert.BgfReferenceIdeal.nD Cert.BgfReferenceIdeal.τ).loc Cert.BgfReferenceIdeal.main_arg4))
      ∧ r.2.sem = fun _ => 0)

def quiescent_LbfKernel [hLbfKernel : Cert.LbfKernel.Facts] : Prop :=
  ∀ (m : (ℓ : Loc Cert.LbfKernel.nD Cert.LbfKernel.τ Cert.LbfKernel.sig) → Buf (Elt Bits) ℓ) (g : Dev Cert.LbfKernel.nD → PrngReg), Pre_LbfKernel m →
    θ_run (Cert.LbfKernel.defs (F := Bits)) (onTc (τ := Cert.LbfKernel.τ) (Cert.LbfKernel.main (F := Bits))) ⟨m, fun _ => 0, g⟩ (fun r => (∀ c : Dev Cert.LbfKernel.nD,
      r.2.mem ((c.tc : Thread Cert.LbfKernel.nD Cert.LbfKernel.τ).loc Cert.LbfKernel.main_arg0) = m ((c.tc : Thread Cert.LbfKernel.nD Cert.LbfKernel.τ).loc Cert.LbfKernel.main_arg0))
      ∧ r.2.sem = fun _ => 0)

def quiescent_LbfKernelIdeal [hLbfKernelIdeal : Cert.LbfKernelIdeal.Facts] : Prop :=
  ∀ (m : (ℓ : Loc Cert.LbfKernelIdeal.nD Cert.LbfKernelIdeal.τ Cert.LbfKernelIdeal.sig) → Buf (Elt Ideal) ℓ) (g : Dev Cert.LbfKernelIdeal.nD → PrngReg), Pre_LbfKernelIdeal m →
    θ_run (Cert.LbfKernelIdeal.defs (F := Ideal)) (onTc (τ := Cert.LbfKernelIdeal.τ) (Cert.LbfKernelIdeal.main (F := Ideal))) ⟨m, fun _ => 0, g⟩ (fun r => (∀ c : Dev Cert.LbfKernelIdeal.nD,
      r.2.mem ((c.tc : Thread Cert.LbfKernelIdeal.nD Cert.LbfKernelIdeal.τ).loc Cert.LbfKernelIdeal.main_arg0) = m ((c.tc : Thread Cert.LbfKernelIdeal.nD Cert.LbfKernelIdeal.τ).loc Cert.LbfKernelIdeal.main_arg0))
      ∧ r.2.sem = fun _ => 0)

def quiescent_LbfKernelIdeal_pre_lbf_finite [hLbfKernelIdeal : Cert.LbfKernelIdeal.Facts] [hPre_lbf_finite : Cert.Pre_lbf_finite.Facts] : Prop :=
  ∀ (m : (ℓ : Loc Cert.LbfKernelIdeal.nD Cert.LbfKernelIdeal.τ Cert.LbfKernelIdeal.sig) → Buf (Elt Ideal) ℓ) (g : Dev Cert.LbfKernelIdeal.nD → PrngReg), Pre_LbfKernelIdeal_lbf_finite m →
    θ_run (Cert.LbfKernelIdeal.defs (F := Ideal)) (onTc (τ := Cert.LbfKernelIdeal.τ) (Cert.LbfKernelIdeal.main (F := Ideal))) ⟨m, fun _ => 0, g⟩ (fun r => (∀ c : Dev Cert.LbfKernelIdeal.nD,
      r.2.mem ((c.tc : Thread Cert.LbfKernelIdeal.nD Cert.LbfKernelIdeal.τ).loc Cert.LbfKernelIdeal.main_arg0) = m ((c.tc : Thread Cert.LbfKernelIdeal.nD Cert.LbfKernelIdeal.τ).loc Cert.LbfKernelIdeal.main_arg0))
      ∧ r.2.sem = fun _ => 0)

def quiescent_LbfReferenceIdeal [hLbfReferenceIdeal : Cert.LbfReferenceIdeal.Facts] : Prop :=
  ∀ (m : (ℓ : Loc Cert.LbfReferenceIdeal.nD Cert.LbfReferenceIdeal.τ Cert.LbfReferenceIdeal.sig) → Buf (Elt Ideal) ℓ) (g : Dev Cert.LbfReferenceIdeal.nD → PrngReg), Pre_LbfReferenceIdeal m →
    θ_run (Cert.LbfReferenceIdeal.defs (F := Ideal)) (onTc (τ := Cert.LbfReferenceIdeal.τ) (Cert.LbfReferenceIdeal.main (F := Ideal))) ⟨m, fun _ => 0, g⟩ (fun r => (∀ c : Dev Cert.LbfReferenceIdeal.nD,
      r.2.mem ((c.tc : Thread Cert.LbfReferenceIdeal.nD Cert.LbfReferenceIdeal.τ).loc Cert.LbfReferenceIdeal.main_arg0) = m ((c.tc : Thread Cert.LbfReferenceIdeal.nD Cert.LbfReferenceIdeal.τ).loc Cert.LbfReferenceIdeal.main_arg0))
      ∧ r.2.sem = fun _ => 0)

def quiescent_LbfReferenceIdeal_pre_lbf_finite [hLbfReferenceIdeal : Cert.LbfReferenceIdeal.Facts] [hPre_lbf_finite : Cert.Pre_lbf_finite.Facts] : Prop :=
  ∀ (m : (ℓ : Loc Cert.LbfReferenceIdeal.nD Cert.LbfReferenceIdeal.τ Cert.LbfReferenceIdeal.sig) → Buf (Elt Ideal) ℓ) (g : Dev Cert.LbfReferenceIdeal.nD → PrngReg), Pre_LbfReferenceIdeal_lbf_finite m →
    θ_run (Cert.LbfReferenceIdeal.defs (F := Ideal)) (onTc (τ := Cert.LbfReferenceIdeal.τ) (Cert.LbfReferenceIdeal.main (F := Ideal))) ⟨m, fun _ => 0, g⟩ (fun r => (∀ c : Dev Cert.LbfReferenceIdeal.nD,
      r.2.mem ((c.tc : Thread Cert.LbfReferenceIdeal.nD Cert.LbfReferenceIdeal.τ).loc Cert.LbfReferenceIdeal.main_arg0) = m ((c.tc : Thread Cert.LbfReferenceIdeal.nD Cert.LbfReferenceIdeal.τ).loc Cert.LbfReferenceIdeal.main_arg0))
      ∧ r.2.sem = fun _ => 0)

def quiescent_MxbKernel [hMxbKernel : Cert.MxbKernel.Facts] : Prop :=
  ∀ (m : (ℓ : Loc Cert.MxbKernel.nD Cert.MxbKernel.τ Cert.MxbKernel.sig) → Buf (Elt Bits) ℓ) (g : Dev Cert.MxbKernel.nD → PrngReg), Pre_MxbKernel m →
    θ_run (Cert.MxbKernel.defs (F := Bits)) (onTc (τ := Cert.MxbKernel.τ) (Cert.MxbKernel.main (F := Bits))) ⟨m, fun _ => 0, g⟩ (fun r => (∀ c : Dev Cert.MxbKernel.nD,
      r.2.mem ((c.tc : Thread Cert.MxbKernel.nD Cert.MxbKernel.τ).loc Cert.MxbKernel.main_arg0) = m ((c.tc : Thread Cert.MxbKernel.nD Cert.MxbKernel.τ).loc Cert.MxbKernel.main_arg0)
      ∧ r.2.mem ((c.tc : Thread Cert.MxbKernel.nD Cert.MxbKernel.τ).loc Cert.MxbKernel.main_arg1) = m ((c.tc : Thread Cert.MxbKernel.nD Cert.MxbKernel.τ).loc Cert.MxbKernel.main_arg1)
      ∧ r.2.mem ((c.tc : Thread Cert.MxbKernel.nD Cert.MxbKernel.τ).loc Cert.MxbKernel.main_arg2) = m ((c.tc : Thread Cert.MxbKernel.nD Cert.MxbKernel.τ).loc Cert.MxbKernel.main_arg2)
      ∧ r.2.mem ((c.tc : Thread Cert.MxbKernel.nD Cert.MxbKernel.τ).loc Cert.MxbKernel.main_arg3) = m ((c.tc : Thread Cert.MxbKernel.nD Cert.MxbKernel.τ).loc Cert.MxbKernel.main_arg3)
      ∧ r.2.mem ((c.tc : Thread Cert.MxbKernel.nD Cert.MxbKernel.τ).loc Cert.MxbKernel.main_arg4) = m ((c.tc : Thread Cert.MxbKernel.nD Cert.MxbKernel.τ).loc Cert.MxbKernel.main_arg4)
      ∧ r.2.mem ((c.tc : Thread Cert.MxbKernel.nD Cert.MxbKernel.τ).loc Cert.MxbKernel.main_arg5) = m ((c.tc : Thread Cert.MxbKernel.nD Cert.MxbKernel.τ).loc Cert.MxbKernel.main_arg5)
      ∧ r.2.mem ((c.tc : Thread Cert.MxbKernel.nD Cert.MxbKernel.τ).loc Cert.MxbKernel.main_arg6) = m ((c.tc : Thread Cert.MxbKernel.nD Cert.MxbKernel.τ).loc Cert.MxbKernel.main_arg6)
      ∧ r.2.mem ((c.tc : Thread Cert.MxbKernel.nD Cert.MxbKernel.τ).loc Cert.MxbKernel.main_arg7) = m ((c.tc : Thread Cert.MxbKernel.nD Cert.MxbKernel.τ).loc Cert.MxbKernel.main_arg7)
      ∧ r.2.mem ((c.tc : Thread Cert.MxbKernel.nD Cert.MxbKernel.τ).loc Cert.MxbKernel.main_arg8) = m ((c.tc : Thread Cert.MxbKernel.nD Cert.MxbKernel.τ).loc Cert.MxbKernel.main_arg8))
      ∧ r.2.sem = fun _ => 0)

def quiescent_MxbKernelIdeal [hMxbKernelIdeal : Cert.MxbKernelIdeal.Facts] : Prop :=
  ∀ (m : (ℓ : Loc Cert.MxbKernelIdeal.nD Cert.MxbKernelIdeal.τ Cert.MxbKernelIdeal.sig) → Buf (Elt Ideal) ℓ) (g : Dev Cert.MxbKernelIdeal.nD → PrngReg), Pre_MxbKernelIdeal m →
    θ_run (Cert.MxbKernelIdeal.defs (F := Ideal)) (onTc (τ := Cert.MxbKernelIdeal.τ) (Cert.MxbKernelIdeal.main (F := Ideal))) ⟨m, fun _ => 0, g⟩ (fun r => (∀ c : Dev Cert.MxbKernelIdeal.nD,
      r.2.mem ((c.tc : Thread Cert.MxbKernelIdeal.nD Cert.MxbKernelIdeal.τ).loc Cert.MxbKernelIdeal.main_arg0) = m ((c.tc : Thread Cert.MxbKernelIdeal.nD Cert.MxbKernelIdeal.τ).loc Cert.MxbKernelIdeal.main_arg0)
      ∧ r.2.mem ((c.tc : Thread Cert.MxbKernelIdeal.nD Cert.MxbKernelIdeal.τ).loc Cert.MxbKernelIdeal.main_arg1) = m ((c.tc : Thread Cert.MxbKernelIdeal.nD Cert.MxbKernelIdeal.τ).loc Cert.MxbKernelIdeal.main_arg1)
      ∧ r.2.mem ((c.tc : Thread Cert.MxbKernelIdeal.nD Cert.MxbKernelIdeal.τ).loc Cert.MxbKernelIdeal.main_arg2) = m ((c.tc : Thread Cert.MxbKernelIdeal.nD Cert.MxbKernelIdeal.τ).loc Cert.MxbKernelIdeal.main_arg2)
      ∧ r.2.mem ((c.tc : Thread Cert.MxbKernelIdeal.nD Cert.MxbKernelIdeal.τ).loc Cert.MxbKernelIdeal.main_arg3) = m ((c.tc : Thread Cert.MxbKernelIdeal.nD Cert.MxbKernelIdeal.τ).loc Cert.MxbKernelIdeal.main_arg3)
      ∧ r.2.mem ((c.tc : Thread Cert.MxbKernelIdeal.nD Cert.MxbKernelIdeal.τ).loc Cert.MxbKernelIdeal.main_arg4) = m ((c.tc : Thread Cert.MxbKernelIdeal.nD Cert.MxbKernelIdeal.τ).loc Cert.MxbKernelIdeal.main_arg4)
      ∧ r.2.mem ((c.tc : Thread Cert.MxbKernelIdeal.nD Cert.MxbKernelIdeal.τ).loc Cert.MxbKernelIdeal.main_arg5) = m ((c.tc : Thread Cert.MxbKernelIdeal.nD Cert.MxbKernelIdeal.τ).loc Cert.MxbKernelIdeal.main_arg5)
      ∧ r.2.mem ((c.tc : Thread Cert.MxbKernelIdeal.nD Cert.MxbKernelIdeal.τ).loc Cert.MxbKernelIdeal.main_arg6) = m ((c.tc : Thread Cert.MxbKernelIdeal.nD Cert.MxbKernelIdeal.τ).loc Cert.MxbKernelIdeal.main_arg6)
      ∧ r.2.mem ((c.tc : Thread Cert.MxbKernelIdeal.nD Cert.MxbKernelIdeal.τ).loc Cert.MxbKernelIdeal.main_arg7) = m ((c.tc : Thread Cert.MxbKernelIdeal.nD Cert.MxbKernelIdeal.τ).loc Cert.MxbKernelIdeal.main_arg7)
      ∧ r.2.mem ((c.tc : Thread Cert.MxbKernelIdeal.nD Cert.MxbKernelIdeal.τ).loc Cert.MxbKernelIdeal.main_arg8) = m ((c.tc : Thread Cert.MxbKernelIdeal.nD Cert.MxbKernelIdeal.τ).loc Cert.MxbKernelIdeal.main_arg8))
      ∧ r.2.sem = fun _ => 0)

def quiescent_MxbKernelIdeal_pre_mxb_finite [hMxbKernelIdeal : Cert.MxbKernelIdeal.Facts] [hPre_mxb_finite : Cert.Pre_mxb_finite.Facts] : Prop :=
  ∀ (m : (ℓ : Loc Cert.MxbKernelIdeal.nD Cert.MxbKernelIdeal.τ Cert.MxbKernelIdeal.sig) → Buf (Elt Ideal) ℓ) (g : Dev Cert.MxbKernelIdeal.nD → PrngReg), Pre_MxbKernelIdeal_mxb_finite m →
    θ_run (Cert.MxbKernelIdeal.defs (F := Ideal)) (onTc (τ := Cert.MxbKernelIdeal.τ) (Cert.MxbKernelIdeal.main (F := Ideal))) ⟨m, fun _ => 0, g⟩ (fun r => (∀ c : Dev Cert.MxbKernelIdeal.nD,
      r.2.mem ((c.tc : Thread Cert.MxbKernelIdeal.nD Cert.MxbKernelIdeal.τ).loc Cert.MxbKernelIdeal.main_arg0) = m ((c.tc : Thread Cert.MxbKernelIdeal.nD Cert.MxbKernelIdeal.τ).loc Cert.MxbKernelIdeal.main_arg0)
      ∧ r.2.mem ((c.tc : Thread Cert.MxbKernelIdeal.nD Cert.MxbKernelIdeal.τ).loc Cert.MxbKernelIdeal.main_arg1) = m ((c.tc : Thread Cert.MxbKernelIdeal.nD Cert.MxbKernelIdeal.τ).loc Cert.MxbKernelIdeal.main_arg1)
      ∧ r.2.mem ((c.tc : Thread Cert.MxbKernelIdeal.nD Cert.MxbKernelIdeal.τ).loc Cert.MxbKernelIdeal.main_arg2) = m ((c.tc : Thread Cert.MxbKernelIdeal.nD Cert.MxbKernelIdeal.τ).loc Cert.MxbKernelIdeal.main_arg2)
      ∧ r.2.mem ((c.tc : Thread Cert.MxbKernelIdeal.nD Cert.MxbKernelIdeal.τ).loc Cert.MxbKernelIdeal.main_arg3) = m ((c.tc : Thread Cert.MxbKernelIdeal.nD Cert.MxbKernelIdeal.τ).loc Cert.MxbKernelIdeal.main_arg3)
      ∧ r.2.mem ((c.tc : Thread Cert.MxbKernelIdeal.nD Cert.MxbKernelIdeal.τ).loc Cert.MxbKernelIdeal.main_arg4) = m ((c.tc : Thread Cert.MxbKernelIdeal.nD Cert.MxbKernelIdeal.τ).loc Cert.MxbKernelIdeal.main_arg4)
      ∧ r.2.mem ((c.tc : Thread Cert.MxbKernelIdeal.nD Cert.MxbKernelIdeal.τ).loc Cert.MxbKernelIdeal.main_arg5) = m ((c.tc : Thread Cert.MxbKernelIdeal.nD Cert.MxbKernelIdeal.τ).loc Cert.MxbKernelIdeal.main_arg5)
      ∧ r.2.mem ((c.tc : Thread Cert.MxbKernelIdeal.nD Cert.MxbKernelIdeal.τ).loc Cert.MxbKernelIdeal.main_arg6) = m ((c.tc : Thread Cert.MxbKernelIdeal.nD Cert.MxbKernelIdeal.τ).loc Cert.MxbKernelIdeal.main_arg6)
      ∧ r.2.mem ((c.tc : Thread Cert.MxbKernelIdeal.nD Cert.MxbKernelIdeal.τ).loc Cert.MxbKernelIdeal.main_arg7) = m ((c.tc : Thread Cert.MxbKernelIdeal.nD Cert.MxbKernelIdeal.τ).loc Cert.MxbKernelIdeal.main_arg7)
      ∧ r.2.mem ((c.tc : Thread Cert.MxbKernelIdeal.nD Cert.MxbKernelIdeal.τ).loc Cert.MxbKernelIdeal.main_arg8) = m ((c.tc : Thread Cert.MxbKernelIdeal.nD Cert.MxbKernelIdeal.τ).loc Cert.MxbKernelIdeal.main_arg8))
      ∧ r.2.sem = fun _ => 0)

def quiescent_MxbReferenceIdeal [hMxbReferenceIdeal : Cert.MxbReferenceIdeal.Facts] : Prop :=
  ∀ (m : (ℓ : Loc Cert.MxbReferenceIdeal.nD Cert.MxbReferenceIdeal.τ Cert.MxbReferenceIdeal.sig) → Buf (Elt Ideal) ℓ) (g : Dev Cert.MxbReferenceIdeal.nD → PrngReg), Pre_MxbReferenceIdeal m →
    θ_run (Cert.MxbReferenceIdeal.defs (F := Ideal)) (onTc (τ := Cert.MxbReferenceIdeal.τ) (Cert.MxbReferenceIdeal.main (F := Ideal))) ⟨m, fun _ => 0, g⟩ (fun r => (∀ c : Dev Cert.MxbReferenceIdeal.nD,
      r.2.mem ((c.tc : Thread Cert.MxbReferenceIdeal.nD Cert.MxbReferenceIdeal.τ).loc Cert.MxbReferenceIdeal.main_arg0) = m ((c.tc : Thread Cert.MxbReferenceIdeal.nD Cert.MxbReferenceIdeal.τ).loc Cert.MxbReferenceIdeal.main_arg0)
      ∧ r.2.mem ((c.tc : Thread Cert.MxbReferenceIdeal.nD Cert.MxbReferenceIdeal.τ).loc Cert.MxbReferenceIdeal.main_arg1) = m ((c.tc : Thread Cert.MxbReferenceIdeal.nD Cert.MxbReferenceIdeal.τ).loc Cert.MxbReferenceIdeal.main_arg1)
      ∧ r.2.mem ((c.tc : Thread Cert.MxbReferenceIdeal.nD Cert.MxbReferenceIdeal.τ).loc Cert.MxbReferenceIdeal.main_arg2) = m ((c.tc : Thread Cert.MxbReferenceIdeal.nD Cert.MxbReferenceIdeal.τ).loc Cert.MxbReferenceIdeal.main_arg2)
      ∧ r.2.mem ((c.tc : Thread Cert.MxbReferenceIdeal.nD Cert.MxbReferenceIdeal.τ).loc Cert.MxbReferenceIdeal.main_arg3) = m ((c.tc : Thread Cert.MxbReferenceIdeal.nD Cert.MxbReferenceIdeal.τ).loc Cert.MxbReferenceIdeal.main_arg3)
      ∧ r.2.mem ((c.tc : Thread Cert.MxbReferenceIdeal.nD Cert.MxbReferenceIdeal.τ).loc Cert.MxbReferenceIdeal.main_arg4) = m ((c.tc : Thread Cert.MxbReferenceIdeal.nD Cert.MxbReferenceIdeal.τ).loc Cert.MxbReferenceIdeal.main_arg4)
      ∧ r.2.mem ((c.tc : Thread Cert.MxbReferenceIdeal.nD Cert.MxbReferenceIdeal.τ).loc Cert.MxbReferenceIdeal.main_arg5) = m ((c.tc : Thread Cert.MxbReferenceIdeal.nD Cert.MxbReferenceIdeal.τ).loc Cert.MxbReferenceIdeal.main_arg5)
      ∧ r.2.mem ((c.tc : Thread Cert.MxbReferenceIdeal.nD Cert.MxbReferenceIdeal.τ).loc Cert.MxbReferenceIdeal.main_arg6) = m ((c.tc : Thread Cert.MxbReferenceIdeal.nD Cert.MxbReferenceIdeal.τ).loc Cert.MxbReferenceIdeal.main_arg6)
      ∧ r.2.mem ((c.tc : Thread Cert.MxbReferenceIdeal.nD Cert.MxbReferenceIdeal.τ).loc Cert.MxbReferenceIdeal.main_arg7) = m ((c.tc : Thread Cert.MxbReferenceIdeal.nD Cert.MxbReferenceIdeal.τ).loc Cert.MxbReferenceIdeal.main_arg7)
      ∧ r.2.mem ((c.tc : Thread Cert.MxbReferenceIdeal.nD Cert.MxbReferenceIdeal.τ).loc Cert.MxbReferenceIdeal.main_arg8) = m ((c.tc : Thread Cert.MxbReferenceIdeal.nD Cert.MxbReferenceIdeal.τ).loc Cert.MxbReferenceIdeal.main_arg8))
      ∧ r.2.sem = fun _ => 0)

def quiescent_MxbReferenceIdeal_pre_mxb_finite [hMxbReferenceIdeal : Cert.MxbReferenceIdeal.Facts] [hPre_mxb_finite : Cert.Pre_mxb_finite.Facts] : Prop :=
  ∀ (m : (ℓ : Loc Cert.MxbReferenceIdeal.nD Cert.MxbReferenceIdeal.τ Cert.MxbReferenceIdeal.sig) → Buf (Elt Ideal) ℓ) (g : Dev Cert.MxbReferenceIdeal.nD → PrngReg), Pre_MxbReferenceIdeal_mxb_finite m →
    θ_run (Cert.MxbReferenceIdeal.defs (F := Ideal)) (onTc (τ := Cert.MxbReferenceIdeal.τ) (Cert.MxbReferenceIdeal.main (F := Ideal))) ⟨m, fun _ => 0, g⟩ (fun r => (∀ c : Dev Cert.MxbReferenceIdeal.nD,
      r.2.mem ((c.tc : Thread Cert.MxbReferenceIdeal.nD Cert.MxbReferenceIdeal.τ).loc Cert.MxbReferenceIdeal.main_arg0) = m ((c.tc : Thread Cert.MxbReferenceIdeal.nD Cert.MxbReferenceIdeal.τ).loc Cert.MxbReferenceIdeal.main_arg0)
      ∧ r.2.mem ((c.tc : Thread Cert.MxbReferenceIdeal.nD Cert.MxbReferenceIdeal.τ).loc Cert.MxbReferenceIdeal.main_arg1) = m ((c.tc : Thread Cert.MxbReferenceIdeal.nD Cert.MxbReferenceIdeal.τ).loc Cert.MxbReferenceIdeal.main_arg1)
      ∧ r.2.mem ((c.tc : Thread Cert.MxbReferenceIdeal.nD Cert.MxbReferenceIdeal.τ).loc Cert.MxbReferenceIdeal.main_arg2) = m ((c.tc : Thread Cert.MxbReferenceIdeal.nD Cert.MxbReferenceIdeal.τ).loc Cert.MxbReferenceIdeal.main_arg2)
      ∧ r.2.mem ((c.tc : Thread Cert.MxbReferenceIdeal.nD Cert.MxbReferenceIdeal.τ).loc Cert.MxbReferenceIdeal.main_arg3) = m ((c.tc : Thread Cert.MxbReferenceIdeal.nD Cert.MxbReferenceIdeal.τ).loc Cert.MxbReferenceIdeal.main_arg3)
      ∧ r.2.mem ((c.tc : Thread Cert.MxbReferenceIdeal.nD Cert.MxbReferenceIdeal.τ).loc Cert.MxbReferenceIdeal.main_arg4) = m ((c.tc : Thread Cert.MxbReferenceIdeal.nD Cert.MxbReferenceIdeal.τ).loc Cert.MxbReferenceIdeal.main_arg4)
      ∧ r.2.mem ((c.tc : Thread Cert.MxbReferenceIdeal.nD Cert.MxbReferenceIdeal.τ).loc Cert.MxbReferenceIdeal.main_arg5) = m ((c.tc : Thread Cert.MxbReferenceIdeal.nD Cert.MxbReferenceIdeal.τ).loc Cert.MxbReferenceIdeal.main_arg5)
      ∧ r.2.mem ((c.tc : Thread Cert.MxbReferenceIdeal.nD Cert.MxbReferenceIdeal.τ).loc Cert.MxbReferenceIdeal.main_arg6) = m ((c.tc : Thread Cert.MxbReferenceIdeal.nD Cert.MxbReferenceIdeal.τ).loc Cert.MxbReferenceIdeal.main_arg6)
      ∧ r.2.mem ((c.tc : Thread Cert.MxbReferenceIdeal.nD Cert.MxbReferenceIdeal.τ).loc Cert.MxbReferenceIdeal.main_arg7) = m ((c.tc : Thread Cert.MxbReferenceIdeal.nD Cert.MxbReferenceIdeal.τ).loc Cert.MxbReferenceIdeal.main_arg7)
      ∧ r.2.mem ((c.tc : Thread Cert.MxbReferenceIdeal.nD Cert.MxbReferenceIdeal.τ).loc Cert.MxbReferenceIdeal.main_arg8) = m ((c.tc : Thread Cert.MxbReferenceIdeal.nD Cert.MxbReferenceIdeal.τ).loc Cert.MxbReferenceIdeal.main_arg8))
      ∧ r.2.sem = fun _ => 0)

def quiescent_MxfKernel [hMxfKernel : Cert.MxfKernel.Facts] : Prop :=
  ∀ (m : (ℓ : Loc Cert.MxfKernel.nD Cert.MxfKernel.τ Cert.MxfKernel.sig) → Buf (Elt Bits) ℓ) (g : Dev Cert.MxfKernel.nD → PrngReg), Pre_MxfKernel m →
    θ_run (Cert.MxfKernel.defs (F := Bits)) (onTc (τ := Cert.MxfKernel.τ) (Cert.MxfKernel.main (F := Bits))) ⟨m, fun _ => 0, g⟩ (fun r => (∀ c : Dev Cert.MxfKernel.nD,
      r.2.mem ((c.tc : Thread Cert.MxfKernel.nD Cert.MxfKernel.τ).loc Cert.MxfKernel.main_arg0) = m ((c.tc : Thread Cert.MxfKernel.nD Cert.MxfKernel.τ).loc Cert.MxfKernel.main_arg0)
      ∧ r.2.mem ((c.tc : Thread Cert.MxfKernel.nD Cert.MxfKernel.τ).loc Cert.MxfKernel.main_arg1) = m ((c.tc : Thread Cert.MxfKernel.nD Cert.MxfKernel.τ).loc Cert.MxfKernel.main_arg1)
      ∧ r.2.mem ((c.tc : Thread Cert.MxfKernel.nD Cert.MxfKernel.τ).loc Cert.MxfKernel.main_arg2) = m ((c.tc : Thread Cert.MxfKernel.nD Cert.MxfKernel.τ).loc Cert.MxfKernel.main_arg2)
      ∧ r.2.mem ((c.tc : Thread Cert.MxfKernel.nD Cert.MxfKernel.τ).loc Cert.MxfKernel.main_arg3) = m ((c.tc : Thread Cert.MxfKernel.nD Cert.MxfKernel.τ).loc Cert.MxfKernel.main_arg3)
      ∧ r.2.mem ((c.tc : Thread Cert.MxfKernel.nD Cert.MxfKernel.τ).loc Cert.MxfKernel.main_arg4) = m ((c.tc : Thread Cert.MxfKernel.nD Cert.MxfKernel.τ).loc Cert.MxfKernel.main_arg4)
      ∧ r.2.mem ((c.tc : Thread Cert.MxfKernel.nD Cert.MxfKernel.τ).loc Cert.MxfKernel.main_arg5) = m ((c.tc : Thread Cert.MxfKernel.nD Cert.MxfKernel.τ).loc Cert.MxfKernel.main_arg5)
      ∧ r.2.mem ((c.tc : Thread Cert.MxfKernel.nD Cert.MxfKernel.τ).loc Cert.MxfKernel.main_arg6) = m ((c.tc : Thread Cert.MxfKernel.nD Cert.MxfKernel.τ).loc Cert.MxfKernel.main_arg6)
      ∧ r.2.mem ((c.tc : Thread Cert.MxfKernel.nD Cert.MxfKernel.τ).loc Cert.MxfKernel.main_arg7) = m ((c.tc : Thread Cert.MxfKernel.nD Cert.MxfKernel.τ).loc Cert.MxfKernel.main_arg7))
      ∧ r.2.sem = fun _ => 0)

def quiescent_MxfKernelIdeal [hMxfKernelIdeal : Cert.MxfKernelIdeal.Facts] : Prop :=
  ∀ (m : (ℓ : Loc Cert.MxfKernelIdeal.nD Cert.MxfKernelIdeal.τ Cert.MxfKernelIdeal.sig) → Buf (Elt Ideal) ℓ) (g : Dev Cert.MxfKernelIdeal.nD → PrngReg), Pre_MxfKernelIdeal m →
    θ_run (Cert.MxfKernelIdeal.defs (F := Ideal)) (onTc (τ := Cert.MxfKernelIdeal.τ) (Cert.MxfKernelIdeal.main (F := Ideal))) ⟨m, fun _ => 0, g⟩ (fun r => (∀ c : Dev Cert.MxfKernelIdeal.nD,
      r.2.mem ((c.tc : Thread Cert.MxfKernelIdeal.nD Cert.MxfKernelIdeal.τ).loc Cert.MxfKernelIdeal.main_arg0) = m ((c.tc : Thread Cert.MxfKernelIdeal.nD Cert.MxfKernelIdeal.τ).loc Cert.MxfKernelIdeal.main_arg0)
      ∧ r.2.mem ((c.tc : Thread Cert.MxfKernelIdeal.nD Cert.MxfKernelIdeal.τ).loc Cert.MxfKernelIdeal.main_arg1) = m ((c.tc : Thread Cert.MxfKernelIdeal.nD Cert.MxfKernelIdeal.τ).loc Cert.MxfKernelIdeal.main_arg1)
      ∧ r.2.mem ((c.tc : Thread Cert.MxfKernelIdeal.nD Cert.MxfKernelIdeal.τ).loc Cert.MxfKernelIdeal.main_arg2) = m ((c.tc : Thread Cert.MxfKernelIdeal.nD Cert.MxfKernelIdeal.τ).loc Cert.MxfKernelIdeal.main_arg2)
      ∧ r.2.mem ((c.tc : Thread Cert.MxfKernelIdeal.nD Cert.MxfKernelIdeal.τ).loc Cert.MxfKernelIdeal.main_arg3) = m ((c.tc : Thread Cert.MxfKernelIdeal.nD Cert.MxfKernelIdeal.τ).loc Cert.MxfKernelIdeal.main_arg3)
      ∧ r.2.mem ((c.tc : Thread Cert.MxfKernelIdeal.nD Cert.MxfKernelIdeal.τ).loc Cert.MxfKernelIdeal.main_arg4) = m ((c.tc : Thread Cert.MxfKernelIdeal.nD Cert.MxfKernelIdeal.τ).loc Cert.MxfKernelIdeal.main_arg4)
      ∧ r.2.mem ((c.tc : Thread Cert.MxfKernelIdeal.nD Cert.MxfKernelIdeal.τ).loc Cert.MxfKernelIdeal.main_arg5) = m ((c.tc : Thread Cert.MxfKernelIdeal.nD Cert.MxfKernelIdeal.τ).loc Cert.MxfKernelIdeal.main_arg5)
      ∧ r.2.mem ((c.tc : Thread Cert.MxfKernelIdeal.nD Cert.MxfKernelIdeal.τ).loc Cert.MxfKernelIdeal.main_arg6) = m ((c.tc : Thread Cert.MxfKernelIdeal.nD Cert.MxfKernelIdeal.τ).loc Cert.MxfKernelIdeal.main_arg6)
      ∧ r.2.mem ((c.tc : Thread Cert.MxfKernelIdeal.nD Cert.MxfKernelIdeal.τ).loc Cert.MxfKernelIdeal.main_arg7) = m ((c.tc : Thread Cert.MxfKernelIdeal.nD Cert.MxfKernelIdeal.τ).loc Cert.MxfKernelIdeal.main_arg7))
      ∧ r.2.sem = fun _ => 0)

def quiescent_MxfKernelIdeal_pre_mxf_finite [hMxfKernelIdeal : Cert.MxfKernelIdeal.Facts] [hPre_mxf_finite : Cert.Pre_mxf_finite.Facts] : Prop :=
  ∀ (m : (ℓ : Loc Cert.MxfKernelIdeal.nD Cert.MxfKernelIdeal.τ Cert.MxfKernelIdeal.sig) → Buf (Elt Ideal) ℓ) (g : Dev Cert.MxfKernelIdeal.nD → PrngReg), Pre_MxfKernelIdeal_mxf_finite m →
    θ_run (Cert.MxfKernelIdeal.defs (F := Ideal)) (onTc (τ := Cert.MxfKernelIdeal.τ) (Cert.MxfKernelIdeal.main (F := Ideal))) ⟨m, fun _ => 0, g⟩ (fun r => (∀ c : Dev Cert.MxfKernelIdeal.nD,
      r.2.mem ((c.tc : Thread Cert.MxfKernelIdeal.nD Cert.MxfKernelIdeal.τ).loc Cert.MxfKernelIdeal.main_arg0) = m ((c.tc : Thread Cert.MxfKernelIdeal.nD Cert.MxfKernelIdeal.τ).loc Cert.MxfKernelIdeal.main_arg0)
      ∧ r.2.mem ((c.tc : Thread Cert.MxfKernelIdeal.nD Cert.MxfKernelIdeal.τ).loc Cert.MxfKernelIdeal.main_arg1) = m ((c.tc : Thread Cert.MxfKernelIdeal.nD Cert.MxfKernelIdeal.τ).loc Cert.MxfKernelIdeal.main_arg1)
      ∧ r.2.mem ((c.tc : Thread Cert.MxfKernelIdeal.nD Cert.MxfKernelIdeal.τ).loc Cert.MxfKernelIdeal.main_arg2) = m ((c.tc : Thread Cert.MxfKernelIdeal.nD Cert.MxfKernelIdeal.τ).loc Cert.MxfKernelIdeal.main_arg2)
      ∧ r.2.mem ((c.tc : Thread Cert.MxfKernelIdeal.nD Cert.MxfKernelIdeal.τ).loc Cert.MxfKernelIdeal.main_arg3) = m ((c.tc : Thread Cert.MxfKernelIdeal.nD Cert.MxfKernelIdeal.τ).loc Cert.MxfKernelIdeal.main_arg3)
      ∧ r.2.mem ((c.tc : Thread Cert.MxfKernelIdeal.nD Cert.MxfKernelIdeal.τ).loc Cert.MxfKernelIdeal.main_arg4) = m ((c.tc : Thread Cert.MxfKernelIdeal.nD Cert.MxfKernelIdeal.τ).loc Cert.MxfKernelIdeal.main_arg4)
      ∧ r.2.mem ((c.tc : Thread Cert.MxfKernelIdeal.nD Cert.MxfKernelIdeal.τ).loc Cert.MxfKernelIdeal.main_arg5) = m ((c.tc : Thread Cert.MxfKernelIdeal.nD Cert.MxfKernelIdeal.τ).loc Cert.MxfKernelIdeal.main_arg5)
      ∧ r.2.mem ((c.tc : Thread Cert.MxfKernelIdeal.nD Cert.MxfKernelIdeal.τ).loc Cert.MxfKernelIdeal.main_arg6) = m ((c.tc : Thread Cert.MxfKernelIdeal.nD Cert.MxfKernelIdeal.τ).loc Cert.MxfKernelIdeal.main_arg6)
      ∧ r.2.mem ((c.tc : Thread Cert.MxfKernelIdeal.nD Cert.MxfKernelIdeal.τ).loc Cert.MxfKernelIdeal.main_arg7) = m ((c.tc : Thread Cert.MxfKernelIdeal.nD Cert.MxfKernelIdeal.τ).loc Cert.MxfKernelIdeal.main_arg7))
      ∧ r.2.sem = fun _ => 0)

def quiescent_MxfReferenceIdeal [hMxfReferenceIdeal : Cert.MxfReferenceIdeal.Facts] : Prop :=
  ∀ (m : (ℓ : Loc Cert.MxfReferenceIdeal.nD Cert.MxfReferenceIdeal.τ Cert.MxfReferenceIdeal.sig) → Buf (Elt Ideal) ℓ) (g : Dev Cert.MxfReferenceIdeal.nD → PrngReg), Pre_MxfReferenceIdeal m →
    θ_run (Cert.MxfReferenceIdeal.defs (F := Ideal)) (onTc (τ := Cert.MxfReferenceIdeal.τ) (Cert.MxfReferenceIdeal.main (F := Ideal))) ⟨m, fun _ => 0, g⟩ (fun r => (∀ c : Dev Cert.MxfReferenceIdeal.nD,
      r.2.mem ((c.tc : Thread Cert.MxfReferenceIdeal.nD Cert.MxfReferenceIdeal.τ).loc Cert.MxfReferenceIdeal.main_arg0) = m ((c.tc : Thread Cert.MxfReferenceIdeal.nD Cert.MxfReferenceIdeal.τ).loc Cert.MxfReferenceIdeal.main_arg0)
      ∧ r.2.mem ((c.tc : Thread Cert.MxfReferenceIdeal.nD Cert.MxfReferenceIdeal.τ).loc Cert.MxfReferenceIdeal.main_arg1) = m ((c.tc : Thread Cert.MxfReferenceIdeal.nD Cert.MxfReferenceIdeal.τ).loc Cert.MxfReferenceIdeal.main_arg1)
      ∧ r.2.mem ((c.tc : Thread Cert.MxfReferenceIdeal.nD Cert.MxfReferenceIdeal.τ).loc Cert.MxfReferenceIdeal.main_arg2) = m ((c.tc : Thread Cert.MxfReferenceIdeal.nD Cert.MxfReferenceIdeal.τ).loc Cert.MxfReferenceIdeal.main_arg2)
      ∧ r.2.mem ((c.tc : Thread Cert.MxfReferenceIdeal.nD Cert.MxfReferenceIdeal.τ).loc Cert.MxfReferenceIdeal.main_arg3) = m ((c.tc : Thread Cert.MxfReferenceIdeal.nD Cert.MxfReferenceIdeal.τ).loc Cert.MxfReferenceIdeal.main_arg3)
      ∧ r.2.mem ((c.tc : Thread Cert.MxfReferenceIdeal.nD Cert.MxfReferenceIdeal.τ).loc Cert.MxfReferenceIdeal.main_arg4) = m ((c.tc : Thread Cert.MxfReferenceIdeal.nD Cert.MxfReferenceIdeal.τ).loc Cert.MxfReferenceIdeal.main_arg4)
      ∧ r.2.mem ((c.tc : Thread Cert.MxfReferenceIdeal.nD Cert.MxfReferenceIdeal.τ).loc Cert.MxfReferenceIdeal.main_arg5) = m ((c.tc : Thread Cert.MxfReferenceIdeal.nD Cert.MxfReferenceIdeal.τ).loc Cert.MxfReferenceIdeal.main_arg5)
      ∧ r.2.mem ((c.tc : Thread Cert.MxfReferenceIdeal.nD Cert.MxfReferenceIdeal.τ).loc Cert.MxfReferenceIdeal.main_arg6) = m ((c.tc : Thread Cert.MxfReferenceIdeal.nD Cert.MxfReferenceIdeal.τ).loc Cert.MxfReferenceIdeal.main_arg6)
      ∧ r.2.mem ((c.tc : Thread Cert.MxfReferenceIdeal.nD Cert.MxfReferenceIdeal.τ).loc Cert.MxfReferenceIdeal.main_arg7) = m ((c.tc : Thread Cert.MxfReferenceIdeal.nD Cert.MxfReferenceIdeal.τ).loc Cert.MxfReferenceIdeal.main_arg7))
      ∧ r.2.sem = fun _ => 0)

def quiescent_MxfReferenceIdeal_pre_mxf_finite [hMxfReferenceIdeal : Cert.MxfReferenceIdeal.Facts] [hPre_mxf_finite : Cert.Pre_mxf_finite.Facts] : Prop :=
  ∀ (m : (ℓ : Loc Cert.MxfReferenceIdeal.nD Cert.MxfReferenceIdeal.τ Cert.MxfReferenceIdeal.sig) → Buf (Elt Ideal) ℓ) (g : Dev Cert.MxfReferenceIdeal.nD → PrngReg), Pre_MxfReferenceIdeal_mxf_finite m →
    θ_run (Cert.MxfReferenceIdeal.defs (F := Ideal)) (onTc (τ := Cert.MxfReferenceIdeal.τ) (Cert.MxfReferenceIdeal.main (F := Ideal))) ⟨m, fun _ => 0, g⟩ (fun r => (∀ c : Dev Cert.MxfReferenceIdeal.nD,
      r.2.mem ((c.tc : Thread Cert.MxfReferenceIdeal.nD Cert.MxfReferenceIdeal.τ).loc Cert.MxfReferenceIdeal.main_arg0) = m ((c.tc : Thread Cert.MxfReferenceIdeal.nD Cert.MxfReferenceIdeal.τ).loc Cert.MxfReferenceIdeal.main_arg0)
      ∧ r.2.mem ((c.tc : Thread Cert.MxfReferenceIdeal.nD Cert.MxfReferenceIdeal.τ).loc Cert.MxfReferenceIdeal.main_arg1) = m ((c.tc : Thread Cert.MxfReferenceIdeal.nD Cert.MxfReferenceIdeal.τ).loc Cert.MxfReferenceIdeal.main_arg1)
      ∧ r.2.mem ((c.tc : Thread Cert.MxfReferenceIdeal.nD Cert.MxfReferenceIdeal.τ).loc Cert.MxfReferenceIdeal.main_arg2) = m ((c.tc : Thread Cert.MxfReferenceIdeal.nD Cert.MxfReferenceIdeal.τ).loc Cert.MxfReferenceIdeal.main_arg2)
      ∧ r.2.mem ((c.tc : Thread Cert.MxfReferenceIdeal.nD Cert.MxfReferenceIdeal.τ).loc Cert.MxfReferenceIdeal.main_arg3) = m ((c.tc : Thread Cert.MxfReferenceIdeal.nD Cert.MxfReferenceIdeal.τ).loc Cert.MxfReferenceIdeal.main_arg3)
      ∧ r.2.mem ((c.tc : Thread Cert.MxfReferenceIdeal.nD Cert.MxfReferenceIdeal.τ).loc Cert.MxfReferenceIdeal.main_arg4) = m ((c.tc : Thread Cert.MxfReferenceIdeal.nD Cert.MxfReferenceIdeal.τ).loc Cert.MxfReferenceIdeal.main_arg4)
      ∧ r.2.mem ((c.tc : Thread Cert.MxfReferenceIdeal.nD Cert.MxfReferenceIdeal.τ).loc Cert.MxfReferenceIdeal.main_arg5) = m ((c.tc : Thread Cert.MxfReferenceIdeal.nD Cert.MxfReferenceIdeal.τ).loc Cert.MxfReferenceIdeal.main_arg5)
      ∧ r.2.mem ((c.tc : Thread Cert.MxfReferenceIdeal.nD Cert.MxfReferenceIdeal.τ).loc Cert.MxfReferenceIdeal.main_arg6) = m ((c.tc : Thread Cert.MxfReferenceIdeal.nD Cert.MxfReferenceIdeal.τ).loc Cert.MxfReferenceIdeal.main_arg6)
      ∧ r.2.mem ((c.tc : Thread Cert.MxfReferenceIdeal.nD Cert.MxfReferenceIdeal.τ).loc Cert.MxfReferenceIdeal.main_arg7) = m ((c.tc : Thread Cert.MxfReferenceIdeal.nD Cert.MxfReferenceIdeal.τ).loc Cert.MxfReferenceIdeal.main_arg7))
      ∧ r.2.sem = fun _ => 0)

def preserves_LbKernel_LbKernelIdeal : Prop :=
  True

def algebraic_LbKernelIdeal_LbReferenceIdeal_pre_lb_finite [hLbKernelIdeal : Cert.LbKernelIdeal.Facts] [hLbReferenceIdeal : Cert.LbReferenceIdeal.Facts] [hPre_lb_finite : Cert.Pre_lb_finite.Facts] : Prop :=
  ∀ (m : (ℓ : Loc Cert.LbKernelIdeal.nD Cert.LbKernelIdeal.τ Cert.LbKernelIdeal.sig) → Buf (Elt Ideal) ℓ) (g : Dev Cert.LbKernelIdeal.nD → PrngReg)
    (m' : (ℓ : Loc Cert.LbReferenceIdeal.nD Cert.LbReferenceIdeal.τ Cert.LbReferenceIdeal.sig) → Buf (Elt Ideal) ℓ) (g' : Dev Cert.LbReferenceIdeal.nD → PrngReg), Pre_LbKernelIdeal_lb_finite m →
    (∀ c : Dev Cert.LbKernelIdeal.nD,
      m' ((c.tc : Thread Cert.LbReferenceIdeal.nD Cert.LbReferenceIdeal.τ).loc Cert.LbReferenceIdeal.main_arg0) = m ((c.tc : Thread Cert.LbKernelIdeal.nD Cert.LbKernelIdeal.τ).loc Cert.LbKernelIdeal.main_arg0)
      ∧ m' ((c.tc : Thread Cert.LbReferenceIdeal.nD Cert.LbReferenceIdeal.τ).loc Cert.LbReferenceIdeal.main_arg1) = m ((c.tc : Thread Cert.LbKernelIdeal.nD Cert.LbKernelIdeal.τ).loc Cert.LbKernelIdeal.main_arg1)) →
    ∃ (v0 : (c : Dev Cert.LbKernelIdeal.nD) → Buf (Elt Ideal) ((c.tc : Thread Cert.LbKernelIdeal.nD Cert.LbKernelIdeal.τ).loc Cert.LbKernelIdeal.main_v0)),
      θ_run (Cert.LbKernelIdeal.defs (F := Ideal)) (onTc (τ := Cert.LbKernelIdeal.τ) (Cert.LbKernelIdeal.main (F := Ideal))) ⟨m, fun _ => 0, g⟩ (fun r => ∀ c : Dev Cert.LbKernelIdeal.nD,
          r.2.mem ((c.tc : Thread Cert.LbKernelIdeal.nD Cert.LbKernelIdeal.τ).loc Cert.LbKernelIdeal.main_v0) = v0 c
          ∧ r.2.mem ((c.tc : Thread Cert.LbKernelIdeal.nD Cert.LbKernelIdeal.τ).loc Cert.LbKernelIdeal.main_arg0) = m ((c.tc : Thread Cert.LbKernelIdeal.nD Cert.LbKernelIdeal.τ).loc Cert.LbKernelIdeal.main_arg0)
          ∧ r.2.mem ((c.tc : Thread Cert.LbKernelIdeal.nD Cert.LbKernelIdeal.τ).loc Cert.LbKernelIdeal.main_arg1) = m ((c.tc : Thread Cert.LbKernelIdeal.nD Cert.LbKernelIdeal.τ).loc Cert.LbKernelIdeal.main_arg1))
      ∧ θ_run (Cert.LbReferenceIdeal.defs (F := Ideal)) (onTc (τ := Cert.LbReferenceIdeal.τ) (Cert.LbReferenceIdeal.main (F := Ideal))) ⟨m', fun _ => 0, g'⟩ (fun r => ∀ c : Dev Cert.LbReferenceIdeal.nD,
          r.2.mem ((c.tc : Thread Cert.LbReferenceIdeal.nD Cert.LbReferenceIdeal.τ).loc Cert.LbReferenceIdeal.main_v54) = v0 c
          ∧ r.2.mem ((c.tc : Thread Cert.LbReferenceIdeal.nD Cert.LbReferenceIdeal.τ).loc Cert.LbReferenceIdeal.main_arg0) = m' ((c.tc : Thread Cert.LbReferenceIdeal.nD Cert.LbReferenceIdeal.τ).loc Cert.LbReferenceIdeal.main_arg0)
          ∧ r.2.mem ((c.tc : Thread Cert.LbReferenceIdeal.nD Cert.LbReferenceIdeal.τ).loc Cert.LbReferenceIdeal.main_arg1) = m' ((c.tc : Thread Cert.LbReferenceIdeal.nD Cert.LbReferenceIdeal.τ).loc Cert.LbReferenceIdeal.main_arg1))

def preserves_FinKernel_FinKernelIdeal : Prop :=
  True

def algebraic_FinKernelIdeal_FinReferenceIdeal [hFinKernelIdeal : Cert.FinKernelIdeal.Facts] [hFinReferenceIdeal : Cert.FinReferenceIdeal.Facts] : Prop :=
  ∀ (m : (ℓ : Loc Cert.FinKernelIdeal.nD Cert.FinKernelIdeal.τ Cert.FinKernelIdeal.sig) → Buf (Elt Ideal) ℓ) (g : Dev Cert.FinKernelIdeal.nD → PrngReg)
    (m' : (ℓ : Loc Cert.FinReferenceIdeal.nD Cert.FinReferenceIdeal.τ Cert.FinReferenceIdeal.sig) → Buf (Elt Ideal) ℓ) (g' : Dev Cert.FinReferenceIdeal.nD → PrngReg), Pre_FinKernelIdeal m →
    (∀ c : Dev Cert.FinKernelIdeal.nD,
      m' ((c.tc : Thread Cert.FinReferenceIdeal.nD Cert.FinReferenceIdeal.τ).loc Cert.FinReferenceIdeal.main_arg0) = m ((c.tc : Thread Cert.FinKernelIdeal.nD Cert.FinKernelIdeal.τ).loc Cert.FinKernelIdeal.main_arg0)
      ∧ m' ((c.tc : Thread Cert.FinReferenceIdeal.nD Cert.FinReferenceIdeal.τ).loc Cert.FinReferenceIdeal.main_arg1) = m ((c.tc : Thread Cert.FinKernelIdeal.nD Cert.FinKernelIdeal.τ).loc Cert.FinKernelIdeal.main_arg1)
      ∧ m' ((c.tc : Thread Cert.FinReferenceIdeal.nD Cert.FinReferenceIdeal.τ).loc Cert.FinReferenceIdeal.main_arg2) = m ((c.tc : Thread Cert.FinKernelIdeal.nD Cert.FinKernelIdeal.τ).loc Cert.FinKernelIdeal.main_arg2)) →
    ∃ (v0 : (c : Dev Cert.FinKernelIdeal.nD) → Buf (Elt Ideal) ((c.tc : Thread Cert.FinKernelIdeal.nD Cert.FinKernelIdeal.τ).loc Cert.FinKernelIdeal.main_v3_0)) (v1 : (c : Dev Cert.FinKernelIdeal.nD) → Buf (Elt Ideal) ((c.tc : Thread Cert.FinKernelIdeal.nD Cert.FinKernelIdeal.τ).loc Cert.FinKernelIdeal.main_v3_1)) (v2 : (c : Dev Cert.FinKernelIdeal.nD) → Buf (Elt Ideal) ((c.tc : Thread Cert.FinKernelIdeal.nD Cert.FinKernelIdeal.τ).loc Cert.FinKernelIdeal.main_v3_2)) (v3 : (c : Dev Cert.FinKernelIdeal.nD) → Buf (Elt Ideal) ((c.tc : Thread Cert.FinKernelIdeal.nD Cert.FinKernelIdeal.τ).loc Cert.FinKernelIdeal.main_v3_3)),
      θ_run (Cert.FinKernelIdeal.defs (F := Ideal)) (onTc (τ := Cert.FinKernelIdeal.τ) (Cert.FinKernelIdeal.main (F := Ideal))) ⟨m, fun _ => 0, g⟩ (fun r => ∀ c : Dev Cert.FinKernelIdeal.nD,
          r.2.mem ((c.tc : Thread Cert.FinKernelIdeal.nD Cert.FinKernelIdeal.τ).loc Cert.FinKernelIdeal.main_v3_0) = v0 c
          ∧ r.2.mem ((c.tc : Thread Cert.FinKernelIdeal.nD Cert.FinKernelIdeal.τ).loc Cert.FinKernelIdeal.main_v3_1) = v1 c
          ∧ r.2.mem ((c.tc : Thread Cert.FinKernelIdeal.nD Cert.FinKernelIdeal.τ).loc Cert.FinKernelIdeal.main_v3_2) = v2 c
          ∧ r.2.mem ((c.tc : Thread Cert.FinKernelIdeal.nD Cert.FinKernelIdeal.τ).loc Cert.FinKernelIdeal.main_v3_3) = v3 c
          ∧ r.2.mem ((c.tc : Thread Cert.FinKernelIdeal.nD Cert.FinKernelIdeal.τ).loc Cert.FinKernelIdeal.main_arg0) = m ((c.tc : Thread Cert.FinKernelIdeal.nD Cert.FinKernelIdeal.τ).loc Cert.FinKernelIdeal.main_arg0)
          ∧ r.2.mem ((c.tc : Thread Cert.FinKernelIdeal.nD Cert.FinKernelIdeal.τ).loc Cert.FinKernelIdeal.main_arg1) = m ((c.tc : Thread Cert.FinKernelIdeal.nD Cert.FinKernelIdeal.τ).loc Cert.FinKernelIdeal.main_arg1)
          ∧ r.2.mem ((c.tc : Thread Cert.FinKernelIdeal.nD Cert.FinKernelIdeal.τ).loc Cert.FinKernelIdeal.main_arg2) = m ((c.tc : Thread Cert.FinKernelIdeal.nD Cert.FinKernelIdeal.τ).loc Cert.FinKernelIdeal.main_arg2))
      ∧ θ_run (Cert.FinReferenceIdeal.defs (F := Ideal)) (onTc (τ := Cert.FinReferenceIdeal.τ) (Cert.FinReferenceIdeal.main (F := Ideal))) ⟨m', fun _ => 0, g'⟩ (fun r => ∀ c : Dev Cert.FinReferenceIdeal.nD,
          r.2.mem ((c.tc : Thread Cert.FinReferenceIdeal.nD Cert.FinReferenceIdeal.τ).loc Cert.FinReferenceIdeal.main_v53) = v0 c
          ∧ r.2.mem ((c.tc : Thread Cert.FinReferenceIdeal.nD Cert.FinReferenceIdeal.τ).loc Cert.FinReferenceIdeal.main_v52) = v1 c
          ∧ r.2.mem ((c.tc : Thread Cert.FinReferenceIdeal.nD Cert.FinReferenceIdeal.τ).loc Cert.FinReferenceIdeal.main_v54) = v2 c
          ∧ r.2.mem ((c.tc : Thread Cert.FinReferenceIdeal.nD Cert.FinReferenceIdeal.τ).loc Cert.FinReferenceIdeal.main_v55) = v3 c
          ∧ r.2.mem ((c.tc : Thread Cert.FinReferenceIdeal.nD Cert.FinReferenceIdeal.τ).loc Cert.FinReferenceIdeal.main_arg0) = m' ((c.tc : Thread Cert.FinReferenceIdeal.nD Cert.FinReferenceIdeal.τ).loc Cert.FinReferenceIdeal.main_arg0)
          ∧ r.2.mem ((c.tc : Thread Cert.FinReferenceIdeal.nD Cert.FinReferenceIdeal.τ).loc Cert.FinReferenceIdeal.main_arg1) = m' ((c.tc : Thread Cert.FinReferenceIdeal.nD Cert.FinReferenceIdeal.τ).loc Cert.FinReferenceIdeal.main_arg1)
          ∧ r.2.mem ((c.tc : Thread Cert.FinReferenceIdeal.nD Cert.FinReferenceIdeal.τ).loc Cert.FinReferenceIdeal.main_arg2) = m' ((c.tc : Thread Cert.FinReferenceIdeal.nD Cert.FinReferenceIdeal.τ).loc Cert.FinReferenceIdeal.main_arg2))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v21_0)) (v1 : (c : Dev Cert.FfnKernelIdeal.nD) → Buf (Elt Ideal) ((c.tc : Thread Cert.FfnKernelIdeal.nD Cert.FfnKernelIdeal.τ).loc Cert.FfnKernelIdeal.main_v21_1)) (v2 : (c : Dev Cert.FfnKernelIdeal.nD) → Buf (Elt Ideal) ((c.tc : Thread Cert.FfnKernelIdeal.nD Cert.FfnKernelIdeal.τ).loc Cert.FfnKernelIdeal.main_v21_2)) (v3 : (c : Dev Cert.FfnKernelIdeal.nD) → Buf (Elt Ideal) ((c.tc : Thread Cert.FfnKernelIdeal.nD Cert.FfnKernelIdeal.τ).loc Cert.FfnKernelIdeal.main_v21_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v21_0) = v0 c
          ∧ r.2.mem ((c.tc : Thread Cert.FfnKernelIdeal.nD Cert.FfnKernelIdeal.τ).loc Cert.FfnKernelIdeal.main_v21_1) = v1 c
          ∧ r.2.mem ((c.tc : Thread Cert.FfnKernelIdeal.nD Cert.FfnKernelIdeal.τ).loc Cert.FfnKernelIdeal.main_v21_2) = v2 c
          ∧ r.2.mem ((c.tc : Thread Cert.FfnKernelIdeal.nD Cert.FfnKernelIdeal.τ).loc Cert.FfnKernelIdeal.main_v21_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v51) = v0 c
          ∧ r.2.mem ((c.tc : Thread Cert.FfnReferenceIdeal.nD Cert.FfnReferenceIdeal.τ).loc Cert.FfnReferenceIdeal.main_v50) = v1 c
          ∧ r.2.mem ((c.tc : Thread Cert.FfnReferenceIdeal.nD Cert.FfnReferenceIdeal.τ).loc Cert.FfnReferenceIdeal.main_v52) = v2 c
          ∧ r.2.mem ((c.tc : Thread Cert.FfnReferenceIdeal.nD Cert.FfnReferenceIdeal.τ).loc Cert.FfnReferenceIdeal.main_v53) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_MrgKernel_MrgKernelIdeal : Prop :=
  True

def algebraic_MrgKernelIdeal_MrgReferenceIdeal [hMrgKernelIdeal : Cert.MrgKernelIdeal.Facts] [hMrgReferenceIdeal : Cert.MrgReferenceIdeal.Facts] : Prop :=
  ∀ (m : (ℓ : Loc Cert.MrgKernelIdeal.nD Cert.MrgKernelIdeal.τ Cert.MrgKernelIdeal.sig) → Buf (Elt Ideal) ℓ) (g : Dev Cert.MrgKernelIdeal.nD → PrngReg)
    (m' : (ℓ : Loc Cert.MrgReferenceIdeal.nD Cert.MrgReferenceIdeal.τ Cert.MrgReferenceIdeal.sig) → Buf (Elt Ideal) ℓ) (g' : Dev Cert.MrgReferenceIdeal.nD → PrngReg), Pre_MrgKernelIdeal m →
    (∀ c : Dev Cert.MrgKernelIdeal.nD,
      m' ((c.tc : Thread Cert.MrgReferenceIdeal.nD Cert.MrgReferenceIdeal.τ).loc Cert.MrgReferenceIdeal.main_arg0) = m ((c.tc : Thread Cert.MrgKernelIdeal.nD Cert.MrgKernelIdeal.τ).loc Cert.MrgKernelIdeal.main_arg0)
      ∧ m' ((c.tc : Thread Cert.MrgReferenceIdeal.nD Cert.MrgReferenceIdeal.τ).loc Cert.MrgReferenceIdeal.main_arg1) = m ((c.tc : Thread Cert.MrgKernelIdeal.nD Cert.MrgKernelIdeal.τ).loc Cert.MrgKernelIdeal.main_arg1)
      ∧ m' ((c.tc : Thread Cert.MrgReferenceIdeal.nD Cert.MrgReferenceIdeal.τ).loc Cert.MrgReferenceIdeal.main_arg2) = m ((c.tc : Thread Cert.MrgKernelIdeal.nD Cert.MrgKernelIdeal.τ).loc Cert.MrgKernelIdeal.main_arg2)
      ∧ m' ((c.tc : Thread Cert.MrgReferenceIdeal.nD Cert.MrgReferenceIdeal.τ).loc Cert.MrgReferenceIdeal.main_arg3) = m ((c.tc : Thread Cert.MrgKernelIdeal.nD Cert.MrgKernelIdeal.τ).loc Cert.MrgKernelIdeal.main_arg3)
      ∧ m' ((c.tc : Thread Cert.MrgReferenceIdeal.nD Cert.MrgReferenceIdeal.τ).loc Cert.MrgReferenceIdeal.main_arg4) = m ((c.tc : Thread Cert.MrgKernelIdeal.nD Cert.MrgKernelIdeal.τ).loc Cert.MrgKernelIdeal.main_arg4)) →
    ∃ (v0 : (c : Dev Cert.MrgKernelIdeal.nD) → Buf (Elt Ideal) ((c.tc : Thread Cert.MrgKernelIdeal.nD Cert.MrgKernelIdeal.τ).loc Cert.MrgKernelIdeal.main_v21_0)) (v1 : (c : Dev Cert.MrgKernelIdeal.nD) → Buf (Elt Ideal) ((c.tc : Thread Cert.MrgKernelIdeal.nD Cert.MrgKernelIdeal.τ).loc Cert.MrgKernelIdeal.main_v21_1)) (v2 : (c : Dev Cert.MrgKernelIdeal.nD) → Buf (Elt Ideal) ((c.tc : Thread Cert.MrgKernelIdeal.nD Cert.MrgKernelIdeal.τ).loc Cert.MrgKernelIdeal.main_v21_2)),
      θ_run (Cert.MrgKernelIdeal.defs (F := Ideal)) (onTc (τ := Cert.MrgKernelIdeal.τ) (Cert.MrgKernelIdeal.main (F := Ideal))) ⟨m, fun _ => 0, g⟩ (fun r => ∀ c : Dev Cert.MrgKernelIdeal.nD,
          r.2.mem ((c.tc : Thread Cert.MrgKernelIdeal.nD Cert.MrgKernelIdeal.τ).loc Cert.MrgKernelIdeal.main_v21_0) = v0 c
          ∧ r.2.mem ((c.tc : Thread Cert.MrgKernelIdeal.nD Cert.MrgKernelIdeal.τ).loc Cert.MrgKernelIdeal.main_v21_1) = v1 c
          ∧ r.2.mem ((c.tc : Thread Cert.MrgKernelIdeal.nD Cert.MrgKernelIdeal.τ).loc Cert.MrgKernelIdeal.main_v21_2) = v2 c
          ∧ r.2.mem ((c.tc : Thread Cert.MrgKernelIdeal.nD Cert.MrgKernelIdeal.τ).loc Cert.MrgKernelIdeal.main_arg0) = m ((c.tc : Thread Cert.MrgKernelIdeal.nD Cert.MrgKernelIdeal.τ).loc Cert.MrgKernelIdeal.main_arg0)
          ∧ r.2.mem ((c.tc : Thread Cert.MrgKernelIdeal.nD Cert.MrgKernelIdeal.τ).loc Cert.MrgKernelIdeal.main_arg1) = m ((c.tc : Thread Cert.MrgKernelIdeal.nD Cert.MrgKernelIdeal.τ).loc Cert.MrgKernelIdeal.main_arg1)
          ∧ r.2.mem ((c.tc : Thread Cert.MrgKernelIdeal.nD Cert.MrgKernelIdeal.τ).loc Cert.MrgKernelIdeal.main_arg2) = m ((c.tc : Thread Cert.MrgKernelIdeal.nD Cert.MrgKernelIdeal.τ).loc Cert.MrgKernelIdeal.main_arg2)
          ∧ r.2.mem ((c.tc : Thread Cert.MrgKernelIdeal.nD Cert.MrgKernelIdeal.τ).loc Cert.MrgKernelIdeal.main_arg3) = m ((c.tc : Thread Cert.MrgKernelIdeal.nD Cert.MrgKernelIdeal.τ).loc Cert.MrgKernelIdeal.main_arg3)
          ∧ r.2.mem ((c.tc : Thread Cert.MrgKernelIdeal.nD Cert.MrgKernelIdeal.τ).loc Cert.MrgKernelIdeal.main_arg4) = m ((c.tc : Thread Cert.MrgKernelIdeal.nD Cert.MrgKernelIdeal.τ).loc Cert.MrgKernelIdeal.main_arg4))
      ∧ θ_run (Cert.MrgReferenceIdeal.defs (F := Ideal)) (onTc (τ := Cert.MrgReferenceIdeal.τ) (Cert.MrgReferenceIdeal.main (F := Ideal))) ⟨m', fun _ => 0, g'⟩ (fun r => ∀ c : Dev Cert.MrgReferenceIdeal.nD,
          r.2.mem ((c.tc : Thread Cert.MrgReferenceIdeal.nD Cert.MrgReferenceIdeal.τ).loc Cert.MrgReferenceIdeal.main_v26) = v0 c
          ∧ r.2.mem ((c.tc : Thread Cert.MrgReferenceIdeal.nD Cert.MrgReferenceIdeal.τ).loc Cert.MrgReferenceIdeal.main_v27) = v1 c
          ∧ r.2.mem ((c.tc : Thread Cert.MrgReferenceIdeal.nD Cert.MrgReferenceIdeal.τ).loc Cert.MrgReferenceIdeal.main_v29) = v2 c
          ∧ r.2.mem ((c.tc : Thread Cert.MrgReferenceIdeal.nD Cert.MrgReferenceIdeal.τ).loc Cert.MrgReferenceIdeal.main_arg0) = m' ((c.tc : Thread Cert.MrgReferenceIdeal.nD Cert.MrgReferenceIdeal.τ).loc Cert.MrgReferenceIdeal.main_arg0)
          ∧ r.2.mem ((c.tc : Thread Cert.MrgReferenceIdeal.nD Cert.MrgReferenceIdeal.τ).loc Cert.MrgReferenceIdeal.main_arg1) = m' ((c.tc : Thread Cert.MrgReferenceIdeal.nD Cert.MrgReferenceIdeal.τ).loc Cert.MrgReferenceIdeal.main_arg1)
          ∧ r.2.mem ((c.tc : Thread Cert.MrgReferenceIdeal.nD Cert.MrgReferenceIdeal.τ).loc Cert.MrgReferenceIdeal.main_arg2) = m' ((c.tc : Thread Cert.MrgReferenceIdeal.nD Cert.MrgReferenceIdeal.τ).loc Cert.MrgReferenceIdeal.main_arg2)
          ∧ r.2.mem ((c.tc : Thread Cert.MrgReferenceIdeal.nD Cert.MrgReferenceIdeal.τ).loc Cert.MrgReferenceIdeal.main_arg3) = m' ((c.tc : Thread Cert.MrgReferenceIdeal.nD Cert.MrgReferenceIdeal.τ).loc Cert.MrgReferenceIdeal.main_arg3)
          ∧ r.2.mem ((c.tc : Thread Cert.MrgReferenceIdeal.nD Cert.MrgReferenceIdeal.τ).loc Cert.MrgReferenceIdeal.main_arg4) = m' ((c.tc : Thread Cert.MrgReferenceIdeal.nD Cert.MrgReferenceIdeal.τ).loc Cert.MrgReferenceIdeal.main_arg4))

def preserves_DhKernel_DhKernelIdeal : Prop :=
  True

def algebraic_DhKernelIdeal_DhReferenceIdeal [hDhKernelIdeal : Cert.DhKernelIdeal.Facts] [hDhReferenceIdeal : Cert.DhReferenceIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)
      ∧ m' ((c.tc : Thread Cert.DhReferenceIdeal.nD Cert.DhReferenceIdeal.τ).loc Cert.DhReferenceIdeal.main_arg2) = m ((c.tc : Thread Cert.DhKernelIdeal.nD Cert.DhKernelIdeal.τ).loc Cert.DhKernelIdeal.main_arg2)
      ∧ m' ((c.tc : Thread Cert.DhReferenceIdeal.nD Cert.DhReferenceIdeal.τ).loc Cert.DhReferenceIdeal.main_arg3) = m ((c.tc : Thread Cert.DhKernelIdeal.nD Cert.DhKernelIdeal.τ).loc Cert.DhKernelIdeal.main_arg3)
      ∧ m' ((c.tc : Thread Cert.DhReferenceIdeal.nD Cert.DhReferenceIdeal.τ).loc Cert.DhReferenceIdeal.main_arg4) = m ((c.tc : Thread Cert.DhKernelIdeal.nD Cert.DhKernelIdeal.τ).loc Cert.DhKernelIdeal.main_arg4)) →
    ∃ (v0 : (c : Dev Cert.DhKernelIdeal.nD) → Buf (Elt Ideal) ((c.tc : Thread Cert.DhKernelIdeal.nD Cert.DhKernelIdeal.τ).loc Cert.DhKernelIdeal.main_v6_0)) (v1 : (c : Dev Cert.DhKernelIdeal.nD) → Buf (Elt Ideal) ((c.tc : Thread Cert.DhKernelIdeal.nD Cert.DhKernelIdeal.τ).loc Cert.DhKernelIdeal.main_v6_1)) (v2 : (c : Dev Cert.DhKernelIdeal.nD) → Buf (Elt Ideal) ((c.tc : Thread Cert.DhKernelIdeal.nD Cert.DhKernelIdeal.τ).loc Cert.DhKernelIdeal.main_v6_2)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v6_0) = v0 c
          ∧ r.2.mem ((c.tc : Thread Cert.DhKernelIdeal.nD Cert.DhKernelIdeal.τ).loc Cert.DhKernelIdeal.main_v6_1) = v1 c
          ∧ r.2.mem ((c.tc : Thread Cert.DhKernelIdeal.nD Cert.DhKernelIdeal.τ).loc Cert.DhKernelIdeal.main_v6_2) = v2 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
          ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
          ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
          ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v38) = v0 c
          ∧ r.2.mem ((c.tc : Thread Cert.DhReferenceIdeal.nD Cert.DhReferenceIdeal.τ).loc Cert.DhReferenceIdeal.main_v39) = v1 c
          ∧ r.2.mem ((c.tc : Thread Cert.DhReferenceIdeal.nD Cert.DhReferenceIdeal.τ).loc Cert.DhReferenceIdeal.main_v40) = v2 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4))

def preserves_FfwKernel_FfwKernelIdeal : Prop :=
  True

def algebraic_FfwKernelIdeal_FfwReferenceIdeal [hFfwKernelIdeal : Cert.FfwKernelIdeal.Facts] [hFfwReferenceIdeal : Cert.FfwReferenceIdeal.Facts] : Prop :=
  ∀ (m : (ℓ : Loc Cert.FfwKernelIdeal.nD Cert.FfwKernelIdeal.τ Cert.FfwKernelIdeal.sig) → Buf (Elt Ideal) ℓ) (g : Dev Cert.FfwKernelIdeal.nD → PrngReg)
    (m' : (ℓ : Loc Cert.FfwReferenceIdeal.nD Cert.FfwReferenceIdeal.τ Cert.FfwReferenceIdeal.sig) → Buf (Elt Ideal) ℓ) (g' : Dev Cert.FfwReferenceIdeal.nD → PrngReg), Pre_FfwKernelIdeal m →
    (∀ c : Dev Cert.FfwKernelIdeal.nD,
      m' ((c.tc : Thread Cert.FfwReferenceIdeal.nD Cert.FfwReferenceIdeal.τ).loc Cert.FfwReferenceIdeal.main_arg0) = m ((c.tc : Thread Cert.FfwKernelIdeal.nD Cert.FfwKernelIdeal.τ).loc Cert.FfwKernelIdeal.main_arg0)
      ∧ m' ((c.tc : Thread Cert.FfwReferenceIdeal.nD Cert.FfwReferenceIdeal.τ).loc Cert.FfwReferenceIdeal.main_arg1) = m ((c.tc : Thread Cert.FfwKernelIdeal.nD Cert.FfwKernelIdeal.τ).loc Cert.FfwKernelIdeal.main_arg1)
      ∧ m' ((c.tc : Thread Cert.FfwReferenceIdeal.nD Cert.FfwReferenceIdeal.τ).loc Cert.FfwReferenceIdeal.main_arg2) = m ((c.tc : Thread Cert.FfwKernelIdeal.nD Cert.FfwKernelIdeal.τ).loc Cert.FfwKernelIdeal.main_arg2)
      ∧ m' ((c.tc : Thread Cert.FfwReferenceIdeal.nD Cert.FfwReferenceIdeal.τ).loc Cert.FfwReferenceIdeal.main_arg3) = m ((c.tc : Thread Cert.FfwKernelIdeal.nD Cert.FfwKernelIdeal.τ).loc Cert.FfwKernelIdeal.main_arg3)) →
    ∃ (v0 : (c : Dev Cert.FfwKernelIdeal.nD) → Buf (Elt Ideal) ((c.tc : Thread Cert.FfwKernelIdeal.nD Cert.FfwKernelIdeal.τ).loc Cert.FfwKernelIdeal.main_v3_0)) (v1 : (c : Dev Cert.FfwKernelIdeal.nD) → Buf (Elt Ideal) ((c.tc : Thread Cert.FfwKernelIdeal.nD Cert.FfwKernelIdeal.τ).loc Cert.FfwKernelIdeal.main_v3_1)) (v2 : (c : Dev Cert.FfwKernelIdeal.nD) → Buf (Elt Ideal) ((c.tc : Thread Cert.FfwKernelIdeal.nD Cert.FfwKernelIdeal.τ).loc Cert.FfwKernelIdeal.main_v3_2)),
      θ_run (Cert.FfwKernelIdeal.defs (F := Ideal)) (onTc (τ := Cert.FfwKernelIdeal.τ) (Cert.FfwKernelIdeal.main (F := Ideal))) ⟨m, fun _ => 0, g⟩ (fun r => ∀ c : Dev Cert.FfwKernelIdeal.nD,
          r.2.mem ((c.tc : Thread Cert.FfwKernelIdeal.nD Cert.FfwKernelIdeal.τ).loc Cert.FfwKernelIdeal.main_v3_0) = v0 c
          ∧ r.2.mem ((c.tc : Thread Cert.FfwKernelIdeal.nD Cert.FfwKernelIdeal.τ).loc Cert.FfwKernelIdeal.main_v3_1) = v1 c
          ∧ r.2.mem ((c.tc : Thread Cert.FfwKernelIdeal.nD Cert.FfwKernelIdeal.τ).loc Cert.FfwKernelIdeal.main_v3_2) = v2 c
          ∧ r.2.mem ((c.tc : Thread Cert.FfwKernelIdeal.nD Cert.FfwKernelIdeal.τ).loc Cert.FfwKernelIdeal.main_arg0) = m ((c.tc : Thread Cert.FfwKernelIdeal.nD Cert.FfwKernelIdeal.τ).loc Cert.FfwKernelIdeal.main_arg0)
          ∧ r.2.mem ((c.tc : Thread Cert.FfwKernelIdeal.nD Cert.FfwKernelIdeal.τ).loc Cert.FfwKernelIdeal.main_arg1) = m ((c.tc : Thread Cert.FfwKernelIdeal.nD Cert.FfwKernelIdeal.τ).loc Cert.FfwKernelIdeal.main_arg1)
          ∧ r.2.mem ((c.tc : Thread Cert.FfwKernelIdeal.nD Cert.FfwKernelIdeal.τ).loc Cert.FfwKernelIdeal.main_arg2) = m ((c.tc : Thread Cert.FfwKernelIdeal.nD Cert.FfwKernelIdeal.τ).loc Cert.FfwKernelIdeal.main_arg2)
          ∧ r.2.mem ((c.tc : Thread Cert.FfwKernelIdeal.nD Cert.FfwKernelIdeal.τ).loc Cert.FfwKernelIdeal.main_arg3) = m ((c.tc : Thread Cert.FfwKernelIdeal.nD Cert.FfwKernelIdeal.τ).loc Cert.FfwKernelIdeal.main_arg3))
      ∧ θ_run (Cert.FfwReferenceIdeal.defs (F := Ideal)) (onTc (τ := Cert.FfwReferenceIdeal.τ) (Cert.FfwReferenceIdeal.main (F := Ideal))) ⟨m', fun _ => 0, g'⟩ (fun r => ∀ c : Dev Cert.FfwReferenceIdeal.nD,
          r.2.mem ((c.tc : Thread Cert.FfwReferenceIdeal.nD Cert.FfwReferenceIdeal.τ).loc Cert.FfwReferenceIdeal.main_v17) = v0 c
          ∧ r.2.mem ((c.tc : Thread Cert.FfwReferenceIdeal.nD Cert.FfwReferenceIdeal.τ).loc Cert.FfwReferenceIdeal.main_v18) = v1 c
          ∧ r.2.mem ((c.tc : Thread Cert.FfwReferenceIdeal.nD Cert.FfwReferenceIdeal.τ).loc Cert.FfwReferenceIdeal.main_v19) = v2 c
          ∧ r.2.mem ((c.tc : Thread Cert.FfwReferenceIdeal.nD Cert.FfwReferenceIdeal.τ).loc Cert.FfwReferenceIdeal.main_arg0) = m' ((c.tc : Thread Cert.FfwReferenceIdeal.nD Cert.FfwReferenceIdeal.τ).loc Cert.FfwReferenceIdeal.main_arg0)
          ∧ r.2.mem ((c.tc : Thread Cert.FfwReferenceIdeal.nD Cert.FfwReferenceIdeal.τ).loc Cert.FfwReferenceIdeal.main_arg1) = m' ((c.tc : Thread Cert.FfwReferenceIdeal.nD Cert.FfwReferenceIdeal.τ).loc Cert.FfwReferenceIdeal.main_arg1)
          ∧ r.2.mem ((c.tc : Thread Cert.FfwReferenceIdeal.nD Cert.FfwReferenceIdeal.τ).loc Cert.FfwReferenceIdeal.main_arg2) = m' ((c.tc : Thread Cert.FfwReferenceIdeal.nD Cert.FfwReferenceIdeal.τ).loc Cert.FfwReferenceIdeal.main_arg2)
          ∧ r.2.mem ((c.tc : Thread Cert.FfwReferenceIdeal.nD Cert.FfwReferenceIdeal.τ).loc Cert.FfwReferenceIdeal.main_arg3) = m' ((c.tc : Thread Cert.FfwReferenceIdeal.nD Cert.FfwReferenceIdeal.τ).loc Cert.FfwReferenceIdeal.main_arg3))

def preserves_RmfKernel_RmfKernelIdeal : Prop :=
  True

def algebraic_RmfKernelIdeal_RmfReferenceIdeal [hRmfKernelIdeal : Cert.RmfKernelIdeal.Facts] [hRmfReferenceIdeal : Cert.RmfReferenceIdeal.Facts] : Prop :=
  ∀ (m : (ℓ : Loc Cert.RmfKernelIdeal.nD Cert.RmfKernelIdeal.τ Cert.RmfKernelIdeal.sig) → Buf (Elt Ideal) ℓ) (g : Dev Cert.RmfKernelIdeal.nD → PrngReg)
    (m' : (ℓ : Loc Cert.RmfReferenceIdeal.nD Cert.RmfReferenceIdeal.τ Cert.RmfReferenceIdeal.sig) → Buf (Elt Ideal) ℓ) (g' : Dev Cert.RmfReferenceIdeal.nD → PrngReg), Pre_RmfKernelIdeal m →
    (∀ c : Dev Cert.RmfKernelIdeal.nD,
      m' ((c.tc : Thread Cert.RmfReferenceIdeal.nD Cert.RmfReferenceIdeal.τ).loc Cert.RmfReferenceIdeal.main_arg0) = m ((c.tc : Thread Cert.RmfKernelIdeal.nD Cert.RmfKernelIdeal.τ).loc Cert.RmfKernelIdeal.main_arg0)
      ∧ m' ((c.tc : Thread Cert.RmfReferenceIdeal.nD Cert.RmfReferenceIdeal.τ).loc Cert.RmfReferenceIdeal.main_arg1) = m ((c.tc : Thread Cert.RmfKernelIdeal.nD Cert.RmfKernelIdeal.τ).loc Cert.RmfKernelIdeal.main_arg1)
      ∧ m' ((c.tc : Thread Cert.RmfReferenceIdeal.nD Cert.RmfReferenceIdeal.τ).loc Cert.RmfReferenceIdeal.main_arg2) = m ((c.tc : Thread Cert.RmfKernelIdeal.nD Cert.RmfKernelIdeal.τ).loc Cert.RmfKernelIdeal.main_arg2)) →
    ∃ (v0 : (c : Dev Cert.RmfKernelIdeal.nD) → Buf (Elt Ideal) ((c.tc : Thread Cert.RmfKernelIdeal.nD Cert.RmfKernelIdeal.τ).loc Cert.RmfKernelIdeal.main_v3_0)) (v1 : (c : Dev Cert.RmfKernelIdeal.nD) → Buf (Elt Ideal) ((c.tc : Thread Cert.RmfKernelIdeal.nD Cert.RmfKernelIdeal.τ).loc Cert.RmfKernelIdeal.main_v3_1)) (v2 : (c : Dev Cert.RmfKernelIdeal.nD) → Buf (Elt Ideal) ((c.tc : Thread Cert.RmfKernelIdeal.nD Cert.RmfKernelIdeal.τ).loc Cert.RmfKernelIdeal.main_v3_2)),
      θ_run (Cert.RmfKernelIdeal.defs (F := Ideal)) (onTc (τ := Cert.RmfKernelIdeal.τ) (Cert.RmfKernelIdeal.main (F := Ideal))) ⟨m, fun _ => 0, g⟩ (fun r => ∀ c : Dev Cert.RmfKernelIdeal.nD,
          r.2.mem ((c.tc : Thread Cert.RmfKernelIdeal.nD Cert.RmfKernelIdeal.τ).loc Cert.RmfKernelIdeal.main_v3_0) = v0 c
          ∧ r.2.mem ((c.tc : Thread Cert.RmfKernelIdeal.nD Cert.RmfKernelIdeal.τ).loc Cert.RmfKernelIdeal.main_v3_1) = v1 c
          ∧ r.2.mem ((c.tc : Thread Cert.RmfKernelIdeal.nD Cert.RmfKernelIdeal.τ).loc Cert.RmfKernelIdeal.main_v3_2) = v2 c
          ∧ r.2.mem ((c.tc : Thread Cert.RmfKernelIdeal.nD Cert.RmfKernelIdeal.τ).loc Cert.RmfKernelIdeal.main_arg0) = m ((c.tc : Thread Cert.RmfKernelIdeal.nD Cert.RmfKernelIdeal.τ).loc Cert.RmfKernelIdeal.main_arg0)
          ∧ r.2.mem ((c.tc : Thread Cert.RmfKernelIdeal.nD Cert.RmfKernelIdeal.τ).loc Cert.RmfKernelIdeal.main_arg1) = m ((c.tc : Thread Cert.RmfKernelIdeal.nD Cert.RmfKernelIdeal.τ).loc Cert.RmfKernelIdeal.main_arg1)
          ∧ r.2.mem ((c.tc : Thread Cert.RmfKernelIdeal.nD Cert.RmfKernelIdeal.τ).loc Cert.RmfKernelIdeal.main_arg2) = m ((c.tc : Thread Cert.RmfKernelIdeal.nD Cert.RmfKernelIdeal.τ).loc Cert.RmfKernelIdeal.main_arg2))
      ∧ θ_run (Cert.RmfReferenceIdeal.defs (F := Ideal)) (onTc (τ := Cert.RmfReferenceIdeal.τ) (Cert.RmfReferenceIdeal.main (F := Ideal))) ⟨m', fun _ => 0, g'⟩ (fun r => ∀ c : Dev Cert.RmfReferenceIdeal.nD,
          r.2.mem ((c.tc : Thread Cert.RmfReferenceIdeal.nD Cert.RmfReferenceIdeal.τ).loc Cert.RmfReferenceIdeal.main_v14) = v0 c
          ∧ r.2.mem ((c.tc : Thread Cert.RmfReferenceIdeal.nD Cert.RmfReferenceIdeal.τ).loc Cert.RmfReferenceIdeal.main_v16) = v1 c
          ∧ r.2.mem ((c.tc : Thread Cert.RmfReferenceIdeal.nD Cert.RmfReferenceIdeal.τ).loc Cert.RmfReferenceIdeal.main_v17) = v2 c
          ∧ r.2.mem ((c.tc : Thread Cert.RmfReferenceIdeal.nD Cert.RmfReferenceIdeal.τ).loc Cert.RmfReferenceIdeal.main_arg0) = m' ((c.tc : Thread Cert.RmfReferenceIdeal.nD Cert.RmfReferenceIdeal.τ).loc Cert.RmfReferenceIdeal.main_arg0)
          ∧ r.2.mem ((c.tc : Thread Cert.RmfReferenceIdeal.nD Cert.RmfReferenceIdeal.τ).loc Cert.RmfReferenceIdeal.main_arg1) = m' ((c.tc : Thread Cert.RmfReferenceIdeal.nD Cert.RmfReferenceIdeal.τ).loc Cert.RmfReferenceIdeal.main_arg1)
          ∧ r.2.mem ((c.tc : Thread Cert.RmfReferenceIdeal.nD Cert.RmfReferenceIdeal.τ).loc Cert.RmfReferenceIdeal.main_arg2) = m' ((c.tc : Thread Cert.RmfReferenceIdeal.nD Cert.RmfReferenceIdeal.τ).loc Cert.RmfReferenceIdeal.main_arg2))

def preserves_BgfKernel_BgfKernelIdeal : Prop :=
  True

def algebraic_BgfKernelIdeal_BgfReferenceIdeal [hBgfKernelIdeal : Cert.BgfKernelIdeal.Facts] [hBgfReferenceIdeal : Cert.BgfReferenceIdeal.Facts] : Prop :=
  ∀ (m : (ℓ : Loc Cert.BgfKernelIdeal.nD Cert.BgfKernelIdeal.τ Cert.BgfKernelIdeal.sig) → Buf (Elt Ideal) ℓ) (g : Dev Cert.BgfKernelIdeal.nD → PrngReg)
    (m' : (ℓ : Loc Cert.BgfReferenceIdeal.nD Cert.BgfReferenceIdeal.τ Cert.BgfReferenceIdeal.sig) → Buf (Elt Ideal) ℓ) (g' : Dev Cert.BgfReferenceIdeal.nD → PrngReg), Pre_BgfKernelIdeal m →
    (∀ c : Dev Cert.BgfKernelIdeal.nD,
      m' ((c.tc : Thread Cert.BgfReferenceIdeal.nD Cert.BgfReferenceIdeal.τ).loc Cert.BgfReferenceIdeal.main_arg0) = m ((c.tc : Thread Cert.BgfKernelIdeal.nD Cert.BgfKernelIdeal.τ).loc Cert.BgfKernelIdeal.main_arg0)
      ∧ m' ((c.tc : Thread Cert.BgfReferenceIdeal.nD Cert.BgfReferenceIdeal.τ).loc Cert.BgfReferenceIdeal.main_arg1) = m ((c.tc : Thread Cert.BgfKernelIdeal.nD Cert.BgfKernelIdeal.τ).loc Cert.BgfKernelIdeal.main_arg1)
      ∧ m' ((c.tc : Thread Cert.BgfReferenceIdeal.nD Cert.BgfReferenceIdeal.τ).loc Cert.BgfReferenceIdeal.main_arg2) = m ((c.tc : Thread Cert.BgfKernelIdeal.nD Cert.BgfKernelIdeal.τ).loc Cert.BgfKernelIdeal.main_arg2)
      ∧ m' ((c.tc : Thread Cert.BgfReferenceIdeal.nD Cert.BgfReferenceIdeal.τ).loc Cert.BgfReferenceIdeal.main_arg3) = m ((c.tc : Thread Cert.BgfKernelIdeal.nD Cert.BgfKernelIdeal.τ).loc Cert.BgfKernelIdeal.main_arg3)
      ∧ m' ((c.tc : Thread Cert.BgfReferenceIdeal.nD Cert.BgfReferenceIdeal.τ).loc Cert.BgfReferenceIdeal.main_arg4) = m ((c.tc : Thread Cert.BgfKernelIdeal.nD Cert.BgfKernelIdeal.τ).loc Cert.BgfKernelIdeal.main_arg4)) →
    ∃ (v0 : (c : Dev Cert.BgfKernelIdeal.nD) → Buf (Elt Ideal) ((c.tc : Thread Cert.BgfKernelIdeal.nD Cert.BgfKernelIdeal.τ).loc Cert.BgfKernelIdeal.main_v4_0)) (v1 : (c : Dev Cert.BgfKernelIdeal.nD) → Buf (Elt Ideal) ((c.tc : Thread Cert.BgfKernelIdeal.nD Cert.BgfKernelIdeal.τ).loc Cert.BgfKernelIdeal.main_v4_1)) (v2 : (c : Dev Cert.BgfKernelIdeal.nD) → Buf (Elt Ideal) ((c.tc : Thread Cert.BgfKernelIdeal.nD Cert.BgfKernelIdeal.τ).loc Cert.BgfKernelIdeal.main_v4_2)),
      θ_run (Cert.BgfKernelIdeal.defs (F := Ideal)) (onTc (τ := Cert.BgfKernelIdeal.τ) (Cert.BgfKernelIdeal.main (F := Ideal))) ⟨m, fun _ => 0, g⟩ (fun r => ∀ c : Dev Cert.BgfKernelIdeal.nD,
          r.2.mem ((c.tc : Thread Cert.BgfKernelIdeal.nD Cert.BgfKernelIdeal.τ).loc Cert.BgfKernelIdeal.main_v4_0) = v0 c
          ∧ r.2.mem ((c.tc : Thread Cert.BgfKernelIdeal.nD Cert.BgfKernelIdeal.τ).loc Cert.BgfKernelIdeal.main_v4_1) = v1 c
          ∧ r.2.mem ((c.tc : Thread Cert.BgfKernelIdeal.nD Cert.BgfKernelIdeal.τ).loc Cert.BgfKernelIdeal.main_v4_2) = v2 c
          ∧ r.2.mem ((c.tc : Thread Cert.BgfKernelIdeal.nD Cert.BgfKernelIdeal.τ).loc Cert.BgfKernelIdeal.main_arg0) = m ((c.tc : Thread Cert.BgfKernelIdeal.nD Cert.BgfKernelIdeal.τ).loc Cert.BgfKernelIdeal.main_arg0)
          ∧ r.2.mem ((c.tc : Thread Cert.BgfKernelIdeal.nD Cert.BgfKernelIdeal.τ).loc Cert.BgfKernelIdeal.main_arg1) = m ((c.tc : Thread Cert.BgfKernelIdeal.nD Cert.BgfKernelIdeal.τ).loc Cert.BgfKernelIdeal.main_arg1)
          ∧ r.2.mem ((c.tc : Thread Cert.BgfKernelIdeal.nD Cert.BgfKernelIdeal.τ).loc Cert.BgfKernelIdeal.main_arg2) = m ((c.tc : Thread Cert.BgfKernelIdeal.nD Cert.BgfKernelIdeal.τ).loc Cert.BgfKernelIdeal.main_arg2)
          ∧ r.2.mem ((c.tc : Thread Cert.BgfKernelIdeal.nD Cert.BgfKernelIdeal.τ).loc Cert.BgfKernelIdeal.main_arg3) = m ((c.tc : Thread Cert.BgfKernelIdeal.nD Cert.BgfKernelIdeal.τ).loc Cert.BgfKernelIdeal.main_arg3)
          ∧ r.2.mem ((c.tc : Thread Cert.BgfKernelIdeal.nD Cert.BgfKernelIdeal.τ).loc Cert.BgfKernelIdeal.main_arg4) = m ((c.tc : Thread Cert.BgfKernelIdeal.nD Cert.BgfKernelIdeal.τ).loc Cert.BgfKernelIdeal.main_arg4))
      ∧ θ_run (Cert.BgfReferenceIdeal.defs (F := Ideal)) (onTc (τ := Cert.BgfReferenceIdeal.τ) (Cert.BgfReferenceIdeal.main (F := Ideal))) ⟨m', fun _ => 0, g'⟩ (fun r => ∀ c : Dev Cert.BgfReferenceIdeal.nD,
          r.2.mem ((c.tc : Thread Cert.BgfReferenceIdeal.nD Cert.BgfReferenceIdeal.τ).loc Cert.BgfReferenceIdeal.main_v13) = v0 c
          ∧ r.2.mem ((c.tc : Thread Cert.BgfReferenceIdeal.nD Cert.BgfReferenceIdeal.τ).loc Cert.BgfReferenceIdeal.main_v14) = v1 c
          ∧ r.2.mem ((c.tc : Thread Cert.BgfReferenceIdeal.nD Cert.BgfReferenceIdeal.τ).loc Cert.BgfReferenceIdeal.main_v16) = v2 c
          ∧ r.2.mem ((c.tc : Thread Cert.BgfReferenceIdeal.nD Cert.BgfReferenceIdeal.τ).loc Cert.BgfReferenceIdeal.main_arg0) = m' ((c.tc : Thread Cert.BgfReferenceIdeal.nD Cert.BgfReferenceIdeal.τ).loc Cert.BgfReferenceIdeal.main_arg0)
          ∧ r.2.mem ((c.tc : Thread Cert.BgfReferenceIdeal.nD Cert.BgfReferenceIdeal.τ).loc Cert.BgfReferenceIdeal.main_arg1) = m' ((c.tc : Thread Cert.BgfReferenceIdeal.nD Cert.BgfReferenceIdeal.τ).loc Cert.BgfReferenceIdeal.main_arg1)
          ∧ r.2.mem ((c.tc : Thread Cert.BgfReferenceIdeal.nD Cert.BgfReferenceIdeal.τ).loc Cert.BgfReferenceIdeal.main_arg2) = m' ((c.tc : Thread Cert.BgfReferenceIdeal.nD Cert.BgfReferenceIdeal.τ).loc Cert.BgfReferenceIdeal.main_arg2)
          ∧ r.2.mem ((c.tc : Thread Cert.BgfReferenceIdeal.nD Cert.BgfReferenceIdeal.τ).loc Cert.BgfReferenceIdeal.main_arg3) = m' ((c.tc : Thread Cert.BgfReferenceIdeal.nD Cert.BgfReferenceIdeal.τ).loc Cert.BgfReferenceIdeal.main_arg3)
          ∧ r.2.mem ((c.tc : Thread Cert.BgfReferenceIdeal.nD Cert.BgfReferenceIdeal.τ).loc Cert.BgfReferenceIdeal.main_arg4) = m' ((c.tc : Thread Cert.BgfReferenceIdeal.nD Cert.BgfReferenceIdeal.τ).loc Cert.BgfReferenceIdeal.main_arg4))

def preserves_LbfKernel_LbfKernelIdeal : Prop :=
  True

def algebraic_LbfKernelIdeal_LbfReferenceIdeal_pre_lbf_finite [hLbfKernelIdeal : Cert.LbfKernelIdeal.Facts] [hLbfReferenceIdeal : Cert.LbfReferenceIdeal.Facts] [hPre_lbf_finite : Cert.Pre_lbf_finite.Facts] : Prop :=
  ∀ (m : (ℓ : Loc Cert.LbfKernelIdeal.nD Cert.LbfKernelIdeal.τ Cert.LbfKernelIdeal.sig) → Buf (Elt Ideal) ℓ) (g : Dev Cert.LbfKernelIdeal.nD → PrngReg)
    (m' : (ℓ : Loc Cert.LbfReferenceIdeal.nD Cert.LbfReferenceIdeal.τ Cert.LbfReferenceIdeal.sig) → Buf (Elt Ideal) ℓ) (g' : Dev Cert.LbfReferenceIdeal.nD → PrngReg), Pre_LbfKernelIdeal_lbf_finite m →
    (∀ c : Dev Cert.LbfKernelIdeal.nD,
      m' ((c.tc : Thread Cert.LbfReferenceIdeal.nD Cert.LbfReferenceIdeal.τ).loc Cert.LbfReferenceIdeal.main_arg0) = m ((c.tc : Thread Cert.LbfKernelIdeal.nD Cert.LbfKernelIdeal.τ).loc Cert.LbfKernelIdeal.main_arg0)) →
    ∃ (v0 : (c : Dev Cert.LbfKernelIdeal.nD) → Buf (Elt Ideal) ((c.tc : Thread Cert.LbfKernelIdeal.nD Cert.LbfKernelIdeal.τ).loc Cert.LbfKernelIdeal.main_v0)),
      θ_run (Cert.LbfKernelIdeal.defs (F := Ideal)) (onTc (τ := Cert.LbfKernelIdeal.τ) (Cert.LbfKernelIdeal.main (F := Ideal))) ⟨m, fun _ => 0, g⟩ (fun r => ∀ c : Dev Cert.LbfKernelIdeal.nD,
          r.2.mem ((c.tc : Thread Cert.LbfKernelIdeal.nD Cert.LbfKernelIdeal.τ).loc Cert.LbfKernelIdeal.main_v0) = v0 c
          ∧ r.2.mem ((c.tc : Thread Cert.LbfKernelIdeal.nD Cert.LbfKernelIdeal.τ).loc Cert.LbfKernelIdeal.main_arg0) = m ((c.tc : Thread Cert.LbfKernelIdeal.nD Cert.LbfKernelIdeal.τ).loc Cert.LbfKernelIdeal.main_arg0))
      ∧ θ_run (Cert.LbfReferenceIdeal.defs (F := Ideal)) (onTc (τ := Cert.LbfReferenceIdeal.τ) (Cert.LbfReferenceIdeal.main (F := Ideal))) ⟨m', fun _ => 0, g'⟩ (fun r => ∀ c : Dev Cert.LbfReferenceIdeal.nD,
          r.2.mem ((c.tc : Thread Cert.LbfReferenceIdeal.nD Cert.LbfReferenceIdeal.τ).loc Cert.LbfReferenceIdeal.main_v16) = v0 c
          ∧ r.2.mem ((c.tc : Thread Cert.LbfReferenceIdeal.nD Cert.LbfReferenceIdeal.τ).loc Cert.LbfReferenceIdeal.main_arg0) = m' ((c.tc : Thread Cert.LbfReferenceIdeal.nD Cert.LbfReferenceIdeal.τ).loc Cert.LbfReferenceIdeal.main_arg0))

def preserves_MxbKernel_MxbKernelIdeal : Prop :=
  IdealRules.named_const.Statement Cert.MxbKernelIdeal.κ "gelu_a" .f32 0x3D372713#32 ((8943 / 200000 : ℝ) : EReal)
  ∧ IdealRules.named_const.Statement Cert.MxbKernelIdeal.κ "gelu_3a" .f32 0x3E095D4F#32 ((26829 / 200000 : ℝ) : EReal)

def algebraic_MxbKernelIdeal_MxbReferenceIdeal_on_mxb_on_pre_mxb_finite [hMxbKernelIdeal : Cert.MxbKernelIdeal.Facts] [hMxbReferenceIdeal : Cert.MxbReferenceIdeal.Facts] [hPre_mxb_finite : Cert.Pre_mxb_finite.Facts] [hOn_mxb_on : Cert.On_mxb_on.Facts] : Prop :=
  ∀ (m : (ℓ : Loc Cert.MxbKernelIdeal.nD Cert.MxbKernelIdeal.τ Cert.MxbKernelIdeal.sig) → Buf (Elt Ideal) ℓ) (g : Dev Cert.MxbKernelIdeal.nD → PrngReg)
    (m' : (ℓ : Loc Cert.MxbReferenceIdeal.nD Cert.MxbReferenceIdeal.τ Cert.MxbReferenceIdeal.sig) → Buf (Elt Ideal) ℓ) (g' : Dev Cert.MxbReferenceIdeal.nD → PrngReg), Pre_MxbKernelIdeal_mxb_finite m →
    (∀ c : Dev Cert.MxbKernelIdeal.nD,
      m' ((c.tc : Thread Cert.MxbReferenceIdeal.nD Cert.MxbReferenceIdeal.τ).loc Cert.MxbReferenceIdeal.main_arg0) = m ((c.tc : Thread Cert.MxbKernelIdeal.nD Cert.MxbKernelIdeal.τ).loc Cert.MxbKernelIdeal.main_arg0)
      ∧ m' ((c.tc : Thread Cert.MxbReferenceIdeal.nD Cert.MxbReferenceIdeal.τ).loc Cert.MxbReferenceIdeal.main_arg1) = m ((c.tc : Thread Cert.MxbKernelIdeal.nD Cert.MxbKernelIdeal.τ).loc Cert.MxbKernelIdeal.main_arg1)
      ∧ m' ((c.tc : Thread Cert.MxbReferenceIdeal.nD Cert.MxbReferenceIdeal.τ).loc Cert.MxbReferenceIdeal.main_arg2) = m ((c.tc : Thread Cert.MxbKernelIdeal.nD Cert.MxbKernelIdeal.τ).loc Cert.MxbKernelIdeal.main_arg2)
      ∧ m' ((c.tc : Thread Cert.MxbReferenceIdeal.nD Cert.MxbReferenceIdeal.τ).loc Cert.MxbReferenceIdeal.main_arg3) = m ((c.tc : Thread Cert.MxbKernelIdeal.nD Cert.MxbKernelIdeal.τ).loc Cert.MxbKernelIdeal.main_arg3)
      ∧ m' ((c.tc : Thread Cert.MxbReferenceIdeal.nD Cert.MxbReferenceIdeal.τ).loc Cert.MxbReferenceIdeal.main_arg4) = m ((c.tc : Thread Cert.MxbKernelIdeal.nD Cert.MxbKernelIdeal.τ).loc Cert.MxbKernelIdeal.main_arg4)
      ∧ m' ((c.tc : Thread Cert.MxbReferenceIdeal.nD Cert.MxbReferenceIdeal.τ).loc Cert.MxbReferenceIdeal.main_arg5) = m ((c.tc : Thread Cert.MxbKernelIdeal.nD Cert.MxbKernelIdeal.τ).loc Cert.MxbKernelIdeal.main_arg5)
      ∧ m' ((c.tc : Thread Cert.MxbReferenceIdeal.nD Cert.MxbReferenceIdeal.τ).loc Cert.MxbReferenceIdeal.main_arg6) = m ((c.tc : Thread Cert.MxbKernelIdeal.nD Cert.MxbKernelIdeal.τ).loc Cert.MxbKernelIdeal.main_arg6)
      ∧ m' ((c.tc : Thread Cert.MxbReferenceIdeal.nD Cert.MxbReferenceIdeal.τ).loc Cert.MxbReferenceIdeal.main_arg7) = m ((c.tc : Thread Cert.MxbKernelIdeal.nD Cert.MxbKernelIdeal.τ).loc Cert.MxbKernelIdeal.main_arg7)
      ∧ m' ((c.tc : Thread Cert.MxbReferenceIdeal.nD Cert.MxbReferenceIdeal.τ).loc Cert.MxbReferenceIdeal.main_arg8) = m ((c.tc : Thread Cert.MxbKernelIdeal.nD Cert.MxbKernelIdeal.τ).loc Cert.MxbKernelIdeal.main_arg8)) →
    ∃ (v0 : (c : Dev Cert.MxbKernelIdeal.nD) → Buf (Elt Ideal) ((c.tc : Thread Cert.MxbKernelIdeal.nD Cert.MxbKernelIdeal.τ).loc Cert.MxbKernelIdeal.main_v352_0)) (v1 : (c : Dev Cert.MxbKernelIdeal.nD) → Buf (Elt Ideal) ((c.tc : Thread Cert.MxbKernelIdeal.nD Cert.MxbKernelIdeal.τ).loc Cert.MxbKernelIdeal.main_v352_1)) (v2 : (c : Dev Cert.MxbKernelIdeal.nD) → Buf (Elt Ideal) ((c.tc : Thread Cert.MxbKernelIdeal.nD Cert.MxbKernelIdeal.τ).loc Cert.MxbKernelIdeal.main_v352_2)) (v3 : (c : Dev Cert.MxbKernelIdeal.nD) → Buf (Elt Ideal) ((c.tc : Thread Cert.MxbKernelIdeal.nD Cert.MxbKernelIdeal.τ).loc Cert.MxbKernelIdeal.main_v352_3)),
      θ_run (Cert.MxbKernelIdeal.defs (F := Ideal)) (onTc (τ := Cert.MxbKernelIdeal.τ) (Cert.MxbKernelIdeal.main (F := Ideal))) ⟨m, fun _ => 0, g⟩ (fun r => ∀ c : Dev Cert.MxbKernelIdeal.nD,
          (∀ i : (⟨2, ![2048, 4608]⟩ : Shape).Idx, (Cert.On_mxb_on.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).1 i = 1#1 → r.2.mem ((c.tc : Thread Cert.MxbKernelIdeal.nD Cert.MxbKernelIdeal.τ).loc Cert.MxbKernelIdeal.main_v352_0) i = v0 c i)
          ∧ (∀ i : (⟨2, ![8, 512]⟩ : Shape).Idx, (Cert.On_mxb_on.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).2.1 i = 1#1 → r.2.mem ((c.tc : Thread Cert.MxbKernelIdeal.nD Cert.MxbKernelIdeal.τ).loc Cert.MxbKernelIdeal.main_v352_1) i = v1 c i)
          ∧ (∀ i : (⟨3, ![4, 128, 128]⟩ : Shape).Idx, (Cert.On_mxb_on.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).2.2.1 i = 1#1 → r.2.mem ((c.tc : Thread Cert.MxbKernelIdeal.nD Cert.MxbKernelIdeal.τ).loc Cert.MxbKernelIdeal.main_v352_2) i = v2 c i)
          ∧ (∀ i : (⟨2, ![128, 4]⟩ : Shape).Idx, (Cert.On_mxb_on.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).2.2.2 i = 1#1 → r.2.mem ((c.tc : Thread Cert.MxbKernelIdeal.nD Cert.MxbKernelIdeal.τ).loc Cert.MxbKernelIdeal.main_v352_3) i = v3 c i)
          ∧ r.2.mem ((c.tc : Thread Cert.MxbKernelIdeal.nD Cert.MxbKernelIdeal.τ).loc Cert.MxbKernelIdeal.main_arg0) = m ((c.tc : Thread Cert.MxbKernelIdeal.nD Cert.MxbKernelIdeal.τ).loc Cert.MxbKernelIdeal.main_arg0)
          ∧ r.2.mem ((c.tc : Thread Cert.MxbKernelIdeal.nD Cert.MxbKernelIdeal.τ).loc Cert.MxbKernelIdeal.main_arg1) = m ((c.tc : Thread Cert.MxbKernelIdeal.nD Cert.MxbKernelIdeal.τ).loc Cert.MxbKernelIdeal.main_arg1)
          ∧ r.2.mem ((c.tc : Thread Cert.MxbKernelIdeal.nD Cert.MxbKernelIdeal.τ).loc Cert.MxbKernelIdeal.main_arg2) = m ((c.tc : Thread Cert.MxbKernelIdeal.nD Cert.MxbKernelIdeal.τ).loc Cert.MxbKernelIdeal.main_arg2)
          ∧ r.2.mem ((c.tc : Thread Cert.MxbKernelIdeal.nD Cert.MxbKernelIdeal.τ).loc Cert.MxbKernelIdeal.main_arg3) = m ((c.tc : Thread Cert.MxbKernelIdeal.nD Cert.MxbKernelIdeal.τ).loc Cert.MxbKernelIdeal.main_arg3)
          ∧ r.2.mem ((c.tc : Thread Cert.MxbKernelIdeal.nD Cert.MxbKernelIdeal.τ).loc Cert.MxbKernelIdeal.main_arg4) = m ((c.tc : Thread Cert.MxbKernelIdeal.nD Cert.MxbKernelIdeal.τ).loc Cert.MxbKernelIdeal.main_arg4)
          ∧ r.2.mem ((c.tc : Thread Cert.MxbKernelIdeal.nD Cert.MxbKernelIdeal.τ).loc Cert.MxbKernelIdeal.main_arg5) = m ((c.tc : Thread Cert.MxbKernelIdeal.nD Cert.MxbKernelIdeal.τ).loc Cert.MxbKernelIdeal.main_arg5)
          ∧ r.2.mem ((c.tc : Thread Cert.MxbKernelIdeal.nD Cert.MxbKernelIdeal.τ).loc Cert.MxbKernelIdeal.main_arg6) = m ((c.tc : Thread Cert.MxbKernelIdeal.nD Cert.MxbKernelIdeal.τ).loc Cert.MxbKernelIdeal.main_arg6)
          ∧ r.2.mem ((c.tc : Thread Cert.MxbKernelIdeal.nD Cert.MxbKernelIdeal.τ).loc Cert.MxbKernelIdeal.main_arg7) = m ((c.tc : Thread Cert.MxbKernelIdeal.nD Cert.MxbKernelIdeal.τ).loc Cert.MxbKernelIdeal.main_arg7)
          ∧ r.2.mem ((c.tc : Thread Cert.MxbKernelIdeal.nD Cert.MxbKernelIdeal.τ).loc Cert.MxbKernelIdeal.main_arg8) = m ((c.tc : Thread Cert.MxbKernelIdeal.nD Cert.MxbKernelIdeal.τ).loc Cert.MxbKernelIdeal.main_arg8))
      ∧ θ_run (Cert.MxbReferenceIdeal.defs (F := Ideal)) (onTc (τ := Cert.MxbReferenceIdeal.τ) (Cert.MxbReferenceIdeal.main (F := Ideal))) ⟨m', fun _ => 0, g'⟩ (fun r => ∀ c : Dev Cert.MxbReferenceIdeal.nD,
          (∀ i : (⟨2, ![2048, 4608]⟩ : Shape).Idx, (Cert.On_mxb_on.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).1 i = 1#1 → r.2.mem ((c.tc : Thread Cert.MxbReferenceIdeal.nD Cert.MxbReferenceIdeal.τ).loc Cert.MxbReferenceIdeal.main_v244) i = v0 c i)
          ∧ (∀ i : (⟨2, ![8, 512]⟩ : Shape).Idx, (Cert.On_mxb_on.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).2.1 i = 1#1 → r.2.mem ((c.tc : Thread Cert.MxbReferenceIdeal.nD Cert.MxbReferenceIdeal.τ).loc Cert.MxbReferenceIdeal.main_v243) i = v1 c i)
          ∧ (∀ i : (⟨3, ![4, 128, 128]⟩ : Shape).Idx, (Cert.On_mxb_on.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).2.2.1 i = 1#1 → r.2.mem ((c.tc : Thread Cert.MxbReferenceIdeal.nD Cert.MxbReferenceIdeal.τ).loc Cert.MxbReferenceIdeal.main_v132) i = v2 c i)
          ∧ (∀ i : (⟨2, ![128, 4]⟩ : Shape).Idx, (Cert.On_mxb_on.fn (F := Ideal) (m ((c.tc : Thread Cert.MxbKernelIdeal.nD Cert.MxbKernelIdeal.τ).loc Cert.MxbKernelIdeal.main_arg0)) (m ((c.tc : Thread Cert.MxbKernelIdeal.nD Cert.MxbKernelIdeal.τ).loc Cert.MxbKernelIdeal.main_arg1)) (m ((c.tc : Thread Cert.MxbKernelIdeal.nD Cert.MxbKernelIdeal.τ).loc Cert.MxbKernelIdeal.main_arg2)) (m ((c.tc : Thread Cert.MxbKernelIdeal.nD Cert.MxbKernelIdeal.τ).loc Cert.MxbKernelIdeal.main_arg3)) (m ((c.tc : Thread Cert.MxbKernelIdeal.nD Cert.MxbKernelIdeal.τ).loc Cert.MxbKernelIdeal.main_arg4)) (m ((c.tc : Thread Cert.MxbKernelIdeal.nD Cert.MxbKernelIdeal.τ).loc Cert.MxbKernelIdeal.main_arg5)) (m ((c.tc : Thread Cert.MxbKernelIdeal.nD Cert.MxbKernelIdeal.τ).loc Cert.MxbKernelIdeal.main_arg6)) (m ((c.tc : Thread Cert.MxbKernelIdeal.nD Cert.MxbKernelIdeal.τ).loc Cert.MxbKernelIdeal.main_arg7)) (m ((c.tc : Thread Cert.MxbKernelIdeal.nD Cert.MxbKernelIdeal.τ).loc Cert.MxbKernelIdeal.main_arg8))).2.2.2 i = 1#1 → r.2.mem ((c.tc : Thread Cert.MxbReferenceIdeal.nD Cert.MxbReferenceIdeal.τ).loc Cert.MxbReferenceIdeal.main_v245) i = v3 c i)
          ∧ r.2.mem ((c.tc : Thread Cert.MxbReferenceIdeal.nD Cert.MxbReferenceIdeal.τ).loc Cert.MxbReferenceIdeal.main_arg0) = m' ((c.tc : Thread Cert.MxbReferenceIdeal.nD Cert.MxbReferenceIdeal.τ).loc Cert.MxbReferenceIdeal.main_arg0)
          ∧ r.2.mem ((c.tc : Thread Cert.MxbReferenceIdeal.nD Cert.MxbReferenceIdeal.τ).loc Cert.MxbReferenceIdeal.main_arg1) = m' ((c.tc : Thread Cert.MxbReferenceIdeal.nD Cert.MxbReferenceIdeal.τ).loc Cert.MxbReferenceIdeal.main_arg1)
          ∧ r.2.mem ((c.tc : Thread Cert.MxbReferenceIdeal.nD Cert.MxbReferenceIdeal.τ).loc Cert.MxbReferenceIdeal.main_arg2) = m' ((c.tc : Thread Cert.MxbReferenceIdeal.nD Cert.MxbReferenceIdeal.τ).loc Cert.MxbReferenceIdeal.main_arg2)
          ∧ r.2.mem ((c.tc : Thread Cert.MxbReferenceIdeal.nD Cert.MxbReferenceIdeal.τ).loc Cert.MxbReferenceIdeal.main_arg3) = m' ((c.tc : Thread Cert.MxbReferenceIdeal.nD Cert.MxbReferenceIdeal.τ).loc Cert.MxbReferenceIdeal.main_arg3)
          ∧ r.2.mem ((c.tc : Thread Cert.MxbReferenceIdeal.nD Cert.MxbReferenceIdeal.τ).loc Cert.MxbReferenceIdeal.main_arg4) = m' ((c.tc : Thread Cert.MxbReferenceIdeal.nD Cert.MxbReferenceIdeal.τ).loc Cert.MxbReferenceIdeal.main_arg4)
          ∧ r.2.mem ((c.tc : Thread Cert.MxbReferenceIdeal.nD Cert.MxbReferenceIdeal.τ).loc Cert.MxbReferenceIdeal.main_arg5) = m' ((c.tc : Thread Cert.MxbReferenceIdeal.nD Cert.MxbReferenceIdeal.τ).loc Cert.MxbReferenceIdeal.main_arg5)
          ∧ r.2.mem ((c.tc : Thread Cert.MxbReferenceIdeal.nD Cert.MxbReferenceIdeal.τ).loc Cert.MxbReferenceIdeal.main_arg6) = m' ((c.tc : Thread Cert.MxbReferenceIdeal.nD Cert.MxbReferenceIdeal.τ).loc Cert.MxbReferenceIdeal.main_arg6)
          ∧ r.2.mem ((c.tc : Thread Cert.MxbReferenceIdeal.nD Cert.MxbReferenceIdeal.τ).loc Cert.MxbReferenceIdeal.main_arg7) = m' ((c.tc : Thread Cert.MxbReferenceIdeal.nD Cert.MxbReferenceIdeal.τ).loc Cert.MxbReferenceIdeal.main_arg7)
          ∧ r.2.mem ((c.tc : Thread Cert.MxbReferenceIdeal.nD Cert.MxbReferenceIdeal.τ).loc Cert.MxbReferenceIdeal.main_arg8) = m' ((c.tc : Thread Cert.MxbReferenceIdeal.nD Cert.MxbReferenceIdeal.τ).loc Cert.MxbReferenceIdeal.main_arg8))

def preserves_MxfKernel_MxfKernelIdeal : Prop :=
  True

def algebraic_MxfKernelIdeal_MxfReferenceIdeal_pre_mxf_finite [hMxfKernelIdeal : Cert.MxfKernelIdeal.Facts] [hMxfReferenceIdeal : Cert.MxfReferenceIdeal.Facts] [hPre_mxf_finite : Cert.Pre_mxf_finite.Facts] : Prop :=
  ∀ (m : (ℓ : Loc Cert.MxfKernelIdeal.nD Cert.MxfKernelIdeal.τ Cert.MxfKernelIdeal.sig) → Buf (Elt Ideal) ℓ) (g : Dev Cert.MxfKernelIdeal.nD → PrngReg)
    (m' : (ℓ : Loc Cert.MxfReferenceIdeal.nD Cert.MxfReferenceIdeal.τ Cert.MxfReferenceIdeal.sig) → Buf (Elt Ideal) ℓ) (g' : Dev Cert.MxfReferenceIdeal.nD → PrngReg), Pre_MxfKernelIdeal_mxf_finite m →
    (∀ c : Dev Cert.MxfKernelIdeal.nD,
      m' ((c.tc : Thread Cert.MxfReferenceIdeal.nD Cert.MxfReferenceIdeal.τ).loc Cert.MxfReferenceIdeal.main_arg0) = m ((c.tc : Thread Cert.MxfKernelIdeal.nD Cert.MxfKernelIdeal.τ).loc Cert.MxfKernelIdeal.main_arg0)
      ∧ m' ((c.tc : Thread Cert.MxfReferenceIdeal.nD Cert.MxfReferenceIdeal.τ).loc Cert.MxfReferenceIdeal.main_arg1) = m ((c.tc : Thread Cert.MxfKernelIdeal.nD Cert.MxfKernelIdeal.τ).loc Cert.MxfKernelIdeal.main_arg1)
      ∧ m' ((c.tc : Thread Cert.MxfReferenceIdeal.nD Cert.MxfReferenceIdeal.τ).loc Cert.MxfReferenceIdeal.main_arg2) = m ((c.tc : Thread Cert.MxfKernelIdeal.nD Cert.MxfKernelIdeal.τ).loc Cert.MxfKernelIdeal.main_arg2)
      ∧ m' ((c.tc : Thread Cert.MxfReferenceIdeal.nD Cert.MxfReferenceIdeal.τ).loc Cert.MxfReferenceIdeal.main_arg3) = m ((c.tc : Thread Cert.MxfKernelIdeal.nD Cert.MxfKernelIdeal.τ).loc Cert.MxfKernelIdeal.main_arg3)
      ∧ m' ((c.tc : Thread Cert.MxfReferenceIdeal.nD Cert.MxfReferenceIdeal.τ).loc Cert.MxfReferenceIdeal.main_arg4) = m ((c.tc : Thread Cert.MxfKernelIdeal.nD Cert.MxfKernelIdeal.τ).loc Cert.MxfKernelIdeal.main_arg4)
      ∧ m' ((c.tc : Thread Cert.MxfReferenceIdeal.nD Cert.MxfReferenceIdeal.τ).loc Cert.MxfReferenceIdeal.main_arg5) = m ((c.tc : Thread Cert.MxfKernelIdeal.nD Cert.MxfKernelIdeal.τ).loc Cert.MxfKernelIdeal.main_arg5)
      ∧ m' ((c.tc : Thread Cert.MxfReferenceIdeal.nD Cert.MxfReferenceIdeal.τ).loc Cert.MxfReferenceIdeal.main_arg6) = m ((c.tc : Thread Cert.MxfKernelIdeal.nD Cert.MxfKernelIdeal.τ).loc Cert.MxfKernelIdeal.main_arg6)
      ∧ m' ((c.tc : Thread Cert.MxfReferenceIdeal.nD Cert.MxfReferenceIdeal.τ).loc Cert.MxfReferenceIdeal.main_arg7) = m ((c.tc : Thread Cert.MxfKernelIdeal.nD Cert.MxfKernelIdeal.τ).loc Cert.MxfKernelIdeal.main_arg7)) →
    ∃ (v0 : (c : Dev Cert.MxfKernelIdeal.nD) → Buf (Elt Ideal) ((c.tc : Thread Cert.MxfKernelIdeal.nD Cert.MxfKernelIdeal.τ).loc Cert.MxfKernelIdeal.main_v5_0)),
      θ_run (Cert.MxfKernelIdeal.defs (F := Ideal)) (onTc (τ := Cert.MxfKernelIdeal.τ) (Cert.MxfKernelIdeal.main (F := Ideal))) ⟨m, fun _ => 0, g⟩ (fun r => ∀ c : Dev Cert.MxfKernelIdeal.nD,
          r.2.mem ((c.tc : Thread Cert.MxfKernelIdeal.nD Cert.MxfKernelIdeal.τ).loc Cert.MxfKernelIdeal.main_v5_0) = v0 c
          ∧ r.2.mem ((c.tc : Thread Cert.MxfKernelIdeal.nD Cert.MxfKernelIdeal.τ).loc Cert.MxfKernelIdeal.main_arg0) = m ((c.tc : Thread Cert.MxfKernelIdeal.nD Cert.MxfKernelIdeal.τ).loc Cert.MxfKernelIdeal.main_arg0)
          ∧ r.2.mem ((c.tc : Thread Cert.MxfKernelIdeal.nD Cert.MxfKernelIdeal.τ).loc Cert.MxfKernelIdeal.main_arg1) = m ((c.tc : Thread Cert.MxfKernelIdeal.nD Cert.MxfKernelIdeal.τ).loc Cert.MxfKernelIdeal.main_arg1)
          ∧ r.2.mem ((c.tc : Thread Cert.MxfKernelIdeal.nD Cert.MxfKernelIdeal.τ).loc Cert.MxfKernelIdeal.main_arg2) = m ((c.tc : Thread Cert.MxfKernelIdeal.nD Cert.MxfKernelIdeal.τ).loc Cert.MxfKernelIdeal.main_arg2)
          ∧ r.2.mem ((c.tc : Thread Cert.MxfKernelIdeal.nD Cert.MxfKernelIdeal.τ).loc Cert.MxfKernelIdeal.main_arg3) = m ((c.tc : Thread Cert.MxfKernelIdeal.nD Cert.MxfKernelIdeal.τ).loc Cert.MxfKernelIdeal.main_arg3)
          ∧ r.2.mem ((c.tc : Thread Cert.MxfKernelIdeal.nD Cert.MxfKernelIdeal.τ).loc Cert.MxfKernelIdeal.main_arg4) = m ((c.tc : Thread Cert.MxfKernelIdeal.nD Cert.MxfKernelIdeal.τ).loc Cert.MxfKernelIdeal.main_arg4)
          ∧ r.2.mem ((c.tc : Thread Cert.MxfKernelIdeal.nD Cert.MxfKernelIdeal.τ).loc Cert.MxfKernelIdeal.main_arg5) = m ((c.tc : Thread Cert.MxfKernelIdeal.nD Cert.MxfKernelIdeal.τ).loc Cert.MxfKernelIdeal.main_arg5)
          ∧ r.2.mem ((c.tc : Thread Cert.MxfKernelIdeal.nD Cert.MxfKernelIdeal.τ).loc Cert.MxfKernelIdeal.main_arg6) = m ((c.tc : Thread Cert.MxfKernelIdeal.nD Cert.MxfKernelIdeal.τ).loc Cert.MxfKernelIdeal.main_arg6)
          ∧ r.2.mem ((c.tc : Thread Cert.MxfKernelIdeal.nD Cert.MxfKernelIdeal.τ).loc Cert.MxfKernelIdeal.main_arg7) = m ((c.tc : Thread Cert.MxfKernelIdeal.nD Cert.MxfKernelIdeal.τ).loc Cert.MxfKernelIdeal.main_arg7))
      ∧ θ_run (Cert.MxfReferenceIdeal.defs (F := Ideal)) (onTc (τ := Cert.MxfReferenceIdeal.τ) (Cert.MxfReferenceIdeal.main (F := Ideal))) ⟨m', fun _ => 0, g'⟩ (fun r => ∀ c : Dev Cert.MxfReferenceIdeal.nD,
          r.2.mem ((c.tc : Thread Cert.MxfReferenceIdeal.nD Cert.MxfReferenceIdeal.τ).loc Cert.MxfReferenceIdeal.main_v185) = v0 c
          ∧ r.2.mem ((c.tc : Thread Cert.MxfReferenceIdeal.nD Cert.MxfReferenceIdeal.τ).loc Cert.MxfReferenceIdeal.main_arg0) = m' ((c.tc : Thread Cert.MxfReferenceIdeal.nD Cert.MxfReferenceIdeal.τ).loc Cert.MxfReferenceIdeal.main_arg0)
          ∧ r.2.mem ((c.tc : Thread Cert.MxfReferenceIdeal.nD Cert.MxfReferenceIdeal.τ).loc Cert.MxfReferenceIdeal.main_arg1) = m' ((c.tc : Thread Cert.MxfReferenceIdeal.nD Cert.MxfReferenceIdeal.τ).loc Cert.MxfReferenceIdeal.main_arg1)
          ∧ r.2.mem ((c.tc : Thread Cert.MxfReferenceIdeal.nD Cert.MxfReferenceIdeal.τ).loc Cert.MxfReferenceIdeal.main_arg2) = m' ((c.tc : Thread Cert.MxfReferenceIdeal.nD Cert.MxfReferenceIdeal.τ).loc Cert.MxfReferenceIdeal.main_arg2)
          ∧ r.2.mem ((c.tc : Thread Cert.MxfReferenceIdeal.nD Cert.MxfReferenceIdeal.τ).loc Cert.MxfReferenceIdeal.main_arg3) = m' ((c.tc : Thread Cert.MxfReferenceIdeal.nD Cert.MxfReferenceIdeal.τ).loc Cert.MxfReferenceIdeal.main_arg3)
          ∧ r.2.mem ((c.tc : Thread Cert.MxfReferenceIdeal.nD Cert.MxfReferenceIdeal.τ).loc Cert.MxfReferenceIdeal.main_arg4) = m' ((c.tc : Thread Cert.MxfReferenceIdeal.nD Cert.MxfReferenceIdeal.τ).loc Cert.MxfReferenceIdeal.main_arg4)
          ∧ r.2.mem ((c.tc : Thread Cert.MxfReferenceIdeal.nD Cert.MxfReferenceIdeal.τ).loc Cert.MxfReferenceIdeal.main_arg5) = m' ((c.tc : Thread Cert.MxfReferenceIdeal.nD Cert.MxfReferenceIdeal.τ).loc Cert.MxfReferenceIdeal.main_arg5)
          ∧ r.2.mem ((c.tc : Thread Cert.MxfReferenceIdeal.nD Cert.MxfReferenceIdeal.τ).loc Cert.MxfReferenceIdeal.main_arg6) = m' ((c.tc : Thread Cert.MxfReferenceIdeal.nD Cert.MxfReferenceIdeal.τ).loc Cert.MxfReferenceIdeal.main_arg6)
          ∧ r.2.mem ((c.tc : Thread Cert.MxfReferenceIdeal.nD Cert.MxfReferenceIdeal.τ).loc Cert.MxfReferenceIdeal.main_arg7) = m' ((c.tc : Thread Cert.MxfReferenceIdeal.nD Cert.MxfReferenceIdeal.τ).loc Cert.MxfReferenceIdeal.main_arg7))

def Claim : Prop :=
  ∃ (hLbKernel : Cert.LbKernel.Facts) (hLbKernelIdeal : Cert.LbKernelIdeal.Facts) (hLbReferenceIdeal : Cert.LbReferenceIdeal.Facts) (hFinKernel : Cert.FinKernel.Facts) (hFinKernelIdeal : Cert.FinKernelIdeal.Facts) (hFinReferenceIdeal : Cert.FinReferenceIdeal.Facts) (hFfnKernel : Cert.FfnKernel.Facts) (hFfnKernelIdeal : Cert.FfnKernelIdeal.Facts) (hFfnReferenceIdeal : Cert.FfnReferenceIdeal.Facts) (hMrgKernel : Cert.MrgKernel.Facts) (hMrgKernelIdeal : Cert.MrgKernelIdeal.Facts) (hMrgReferenceIdeal : Cert.MrgReferenceIdeal.Facts) (hDhKernel : Cert.DhKernel.Facts) (hDhKernelIdeal : Cert.DhKernelIdeal.Facts) (hDhReferenceIdeal : Cert.DhReferenceIdeal.Facts) (hFfwKernel : Cert.FfwKernel.Facts) (hFfwKernelIdeal : Cert.FfwKernelIdeal.Facts) (hFfwReferenceIdeal : Cert.FfwReferenceIdeal.Facts) (hRmfKernel : Cert.RmfKernel.Facts) (hRmfKernelIdeal : Cert.RmfKernelIdeal.Facts) (hRmfReferenceIdeal : Cert.RmfReferenceIdeal.Facts) (hBgfKernel : Cert.BgfKernel.Facts) (hBgfKernelIdeal : Cert.BgfKernelIdeal.Facts) (hBgfReferenceIdeal : Cert.BgfReferenceIdeal.Facts) (hLbfKernel : Cert.LbfKernel.Facts) (hLbfKernelIdeal : Cert.LbfKernelIdeal.Facts) (hLbfReferenceIdeal : Cert.LbfReferenceIdeal.Facts) (hMxbKernel : Cert.MxbKernel.Facts) (hMxbKernelIdeal : Cert.MxbKernelIdeal.Facts) (hMxbReferenceIdeal : Cert.MxbReferenceIdeal.Facts) (hMxfKernel : Cert.MxfKernel.Facts) (hMxfKernelIdeal : Cert.MxfKernelIdeal.Facts) (hMxfReferenceIdeal : Cert.MxfReferenceIdeal.Facts) (hPre_lb_finite : Cert.Pre_lb_finite.Facts) (hPre_lbf_finite : Cert.Pre_lbf_finite.Facts) (hPre_mxb_finite : Cert.Pre_mxb_finite.Facts) (hPre_mxf_finite : Cert.Pre_mxf_finite.Facts) (hOn_mxb_on : Cert.On_mxb_on.Facts),
    quiescent_LbKernel (hLbKernel := hLbKernel)
    ∧ quiescent_LbKernelIdeal (hLbKernelIdeal := hLbKernelIdeal)
    ∧ quiescent_LbKernelIdeal_pre_lb_finite (hLbKernelIdeal := hLbKernelIdeal) (hPre_lb_finite := hPre_lb_finite)
    ∧ quiescent_LbReferenceIdeal (hLbReferenceIdeal := hLbReferenceIdeal)
    ∧ quiescent_LbReferenceIdeal_pre_lb_finite (hLbReferenceIdeal := hLbReferenceIdeal) (hPre_lb_finite := hPre_lb_finite)
    ∧ quiescent_FinKernel (hFinKernel := hFinKernel)
    ∧ quiescent_FinKernelIdeal (hFinKernelIdeal := hFinKernelIdeal)
    ∧ quiescent_FinReferenceIdeal (hFinReferenceIdeal := hFinReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MrgKernel (hMrgKernel := hMrgKernel)
    ∧ quiescent_MrgKernelIdeal (hMrgKernelIdeal := hMrgKernelIdeal)
    ∧ quiescent_MrgReferenceIdeal (hMrgReferenceIdeal := hMrgReferenceIdeal)
    ∧ quiescent_DhKernel (hDhKernel := hDhKernel)
    ∧ quiescent_DhKernelIdeal (hDhKernelIdeal := hDhKernelIdeal)
    ∧ quiescent_DhReferenceIdeal (hDhReferenceIdeal := hDhReferenceIdeal)
    ∧ quiescent_FfwKernel (hFfwKernel := hFfwKernel)
    ∧ quiescent_FfwKernelIdeal (hFfwKernelIdeal := hFfwKernelIdeal)
    ∧ quiescent_FfwReferenceIdeal (hFfwReferenceIdeal := hFfwReferenceIdeal)
    ∧ quiescent_RmfKernel (hRmfKernel := hRmfKernel)
    ∧ quiescent_RmfKernelIdeal (hRmfKernelIdeal := hRmfKernelIdeal)
    ∧ quiescent_RmfReferenceIdeal (hRmfReferenceIdeal := hRmfReferenceIdeal)
    ∧ quiescent_BgfKernel (hBgfKernel := hBgfKernel)
    ∧ quiescent_BgfKernelIdeal (hBgfKernelIdeal := hBgfKernelIdeal)
    ∧ quiescent_BgfReferenceIdeal (hBgfReferenceIdeal := hBgfReferenceIdeal)
    ∧ quiescent_LbfKernel (hLbfKernel := hLbfKernel)
    ∧ quiescent_LbfKernelIdeal (hLbfKernelIdeal := hLbfKernelIdeal)
    ∧ quiescent_LbfKernelIdeal_pre_lbf_finite (hLbfKernelIdeal := hLbfKernelIdeal) (hPre_lbf_finite := hPre_lbf_finite)
    ∧ quiescent_LbfReferenceIdeal (hLbfReferenceIdeal := hLbfReferenceIdeal)
    ∧ quiescent_LbfReferenceIdeal_pre_lbf_finite (hLbfReferenceIdeal := hLbfReferenceIdeal) (hPre_lbf_finite := hPre_lbf_finite)
    ∧ quiescent_MxbKernel (hMxbKernel := hMxbKernel)
    ∧ quiescent_MxbKernelIdeal (hMxbKernelIdeal := hMxbKernelIdeal)
    ∧ quiescent_MxbKernelIdeal_pre_mxb_finite (hMxbKernelIdeal := hMxbKernelIdeal) (hPre_mxb_finite := hPre_mxb_finite)
    ∧ quiescent_MxbReferenceIdeal (hMxbReferenceIdeal := hMxbReferenceIdeal)
    ∧ quiescent_MxbReferenceIdeal_pre_mxb_finite (hMxbReferenceIdeal := hMxbReferenceIdeal) (hPre_mxb_finite := hPre_mxb_finite)
    ∧ quiescent_MxfKernel (hMxfKernel := hMxfKernel)
    ∧ quiescent_MxfKernelIdeal (hMxfKernelIdeal := hMxfKernelIdeal)
    ∧ quiescent_MxfKernelIdeal_pre_mxf_finite (hMxfKernelIdeal := hMxfKernelIdeal) (hPre_mxf_finite := hPre_mxf_finite)
    ∧ quiescent_MxfReferenceIdeal (hMxfReferenceIdeal := hMxfReferenceIdeal)
    ∧ quiescent_MxfReferenceIdeal_pre_mxf_finite (hMxfReferenceIdeal := hMxfReferenceIdeal) (hPre_mxf_finite := hPre_mxf_finite)
    ∧ preserves_LbKernel_LbKernelIdeal
    ∧ algebraic_LbKernelIdeal_LbReferenceIdeal_pre_lb_finite (hLbKernelIdeal := hLbKernelIdeal) (hLbReferenceIdeal := hLbReferenceIdeal) (hPre_lb_finite := hPre_lb_finite)
    ∧ preserves_FinKernel_FinKernelIdeal
    ∧ algebraic_FinKernelIdeal_FinReferenceIdeal (hFinKernelIdeal := hFinKernelIdeal) (hFinReferenceIdeal := hFinReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_MrgKernel_MrgKernelIdeal
    ∧ algebraic_MrgKernelIdeal_MrgReferenceIdeal (hMrgKernelIdeal := hMrgKernelIdeal) (hMrgReferenceIdeal := hMrgReferenceIdeal)
    ∧ preserves_DhKernel_DhKernelIdeal
    ∧ algebraic_DhKernelIdeal_DhReferenceIdeal (hDhKernelIdeal := hDhKernelIdeal) (hDhReferenceIdeal := hDhReferenceIdeal)
    ∧ preserves_FfwKernel_FfwKernelIdeal
    ∧ algebraic_FfwKernelIdeal_FfwReferenceIdeal (hFfwKernelIdeal := hFfwKernelIdeal) (hFfwReferenceIdeal := hFfwReferenceIdeal)
    ∧ preserves_RmfKernel_RmfKernelIdeal
    ∧ algebraic_RmfKernelIdeal_RmfReferenceIdeal (hRmfKernelIdeal := hRmfKernelIdeal) (hRmfReferenceIdeal := hRmfReferenceIdeal)
    ∧ preserves_BgfKernel_BgfKernelIdeal
    ∧ algebraic_BgfKernelIdeal_BgfReferenceIdeal (hBgfKernelIdeal := hBgfKernelIdeal) (hBgfReferenceIdeal := hBgfReferenceIdeal)
    ∧ preserves_LbfKernel_LbfKernelIdeal
    ∧ algebraic_LbfKernelIdeal_LbfReferenceIdeal_pre_lbf_finite (hLbfKernelIdeal := hLbfKernelIdeal) (hLbfReferenceIdeal := hLbfReferenceIdeal) (hPre_lbf_finite := hPre_lbf_finite)
    ∧ preserves_MxbKernel_MxbKernelIdeal
    ∧ algebraic_MxbKernelIdeal_MxbReferenceIdeal_on_mxb_on_pre_mxb_finite (hMxbKernelIdeal := hMxbKernelIdeal) (hMxbReferenceIdeal := hMxbReferenceIdeal) (hPre_mxb_finite := hPre_mxb_finite) (hOn_mxb_on := hOn_mxb_on)
    ∧ preserves_MxfKernel_MxfKernelIdeal
    ∧ algebraic_MxfKernelIdeal_MxfReferenceIdeal_pre_mxf_finite (hMxfKernelIdeal := hMxfKernelIdeal) (hMxfReferenceIdeal := hMxfReferenceIdeal) (hPre_mxf_finite := hPre_mxf_finite)
-- ==== On_mxb_on.lean ====
abbrev S2048x4608 : Shape := ⟨2, ![2048, 4608]⟩
abbrev S512 : Shape := ⟨1, ![512]⟩
abbrev S3x512 : Shape := ⟨2, ![3, 512]⟩
abbrev S4x128x128 : Shape := ⟨3, ![4, 128, 128]⟩
abbrev S4x128 : Shape := ⟨2, ![4, 128]⟩
abbrev S2048x1536 : Shape := ⟨2, ![2048, 1536]⟩
abbrev S8x512 : Shape := ⟨2, ![8, 512]⟩
abbrev S_ : Shape := ⟨0, ![]⟩
abbrev S128x4 : Shape := ⟨2, ![128, 4]⟩

class Facts : Prop where
  bcast_S_S2048x4608 : S_.BroadcastsInDim S2048x4608 (![] : Fin 0 → Fin S2048x4608.rank)
  bcast_S_S8x512 : S_.BroadcastsInDim S8x512 (![] : Fin 0 → Fin S8x512.rank)
  bcast_S_S4x128x128 : S_.BroadcastsInDim S4x128x128 (![] : Fin 0 → Fin S4x128x128.rank)
  bcast_S_S128x4 : S_.BroadcastsInDim S128x4 (![] : Fin 0 → Fin S128x4.rank)

variable [Facts]

def fn {F : FTy → Type} [FloatOps F] (main_arg0 : FVec F S2048x4608 .f32) (main_arg1 : FVec F S512 .f32) (main_arg2 : FVec F S512 .f32) (main_arg3 : FVec F S3x512 .f32) (main_arg4 : FVec F S512 .f32) (main_arg5 : FVec F S512 .f32) (main_arg6 : FVec F S4x128x128 .f32) (main_arg7 : FVec F S4x128 .f32) (main_arg8 : FVec F S2048x1536 .f32) : IVec S2048x4608 1 × IVec S8x512 1 × IVec S4x128x128 1 × IVec S128x4 1 :=
  let main_v0 : IVec S8x512 32 := iotaInDim S8x512 32 0
  let main_v1 : IVec S2048x4608 32 := iotaInDim S2048x4608 32 1
  let main_c : IVec S_ 32 := constantI S_ 32 2048#32
  let main_v2 : IVec S2048x4608 32 := broadcastInDim S2048x4608 ![] bcast_S_S2048x4608 main_c
  let main_v3 : IVec S2048x4608 1 := cmpi .sge main_v1 main_v2
  let main_c_0 : IVec S_ 32 := constantI S_ 32 2#32
  let main_v4 : IVec S8x512 32 := broadcastInDim S8x512 ![] bcast_S_S8x512 main_c_0
  let main_v5 : IVec S8x512 1 := cmpi .sge main_v0 main_v4
  let main_c_1 : IVec S_ 32 := constantI S_ 32 7#32
  let main_v6 : IVec S8x512 32 := broadcastInDim S8x512 ![] bcast_S_S8x512 main_c_1
  let main_v7 : IVec S8x512 1 := cmpi .slt main_v0 main_v6
  let main_v8 : IVec S8x512 1 := andi main_v5 main_v7
  let main_c_2 : IVec S_ 1 := constantI S_ 1 1#1
  let main_v9 : IVec S4x128x128 1 := broadcastInDim S4x128x128 ![] bcast_S_S4x128x128 main_c_2
  let main_c_3 : IVec S_ 1 := constantI S_ 1 1#1
  let main_v10 : IVec S128x4 1 := broadcastInDim S128x4 ![] bcast_S_S128x4 main_c_3
  (main_v3, main_v8, main_v9, main_v10)
-- ==== Pre_lb_finite.lean ====
abbrev S4x512 : Shape := ⟨2, ![4, 512]⟩
abbrev S_ : Shape := ⟨0, ![]⟩

class Facts : Prop where
  bcast_S_S4x512 : S_.BroadcastsInDim S4x512 (![] : Fin 0 → Fin S4x512.rank)

variable [Facts]

def fn {F : FTy → Type} [FloatOps F] (main_arg0 : FVec F S4x512 .f32) (main_arg1 : FVec F S4x512 .f32) : IVec S4x512 1 × IVec S4x512 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  let main_v3 : FVec F S4x512 .f32 := Host.absf main_arg1
  let main_cst_0 : FVec F S_ .f32 := constant S_ .f32 0x7F800000#32
  let main_v4 : FVec F S4x512 .f32 := broadcastInDim S4x512 ![] bcast_S_S4x512 main_cst_0
  let main_v5 : IVec S4x512 1 := cmpf .olt main_v3 main_v4
  (main_v2, main_v5)
-- ==== Pre_lbf_finite.lean ====
abbrev S4x512 : Shape := ⟨2, ![4, 512]⟩
abbrev S_ : Shape := ⟨0, ![]⟩

class Facts : Prop where
  bcast_S_S4x512 : S_.BroadcastsInDim S4x512 (![] : Fin 0 → Fin S4x512.rank)

variable [Facts]

def fn {F : FTy → Type} [FloatOps F] (main_arg0 : FVec F S4x512 .f32) : IVec S4x512 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  main_v2
-- ==== Pre_mxb_finite.lean ====
abbrev S2048x4608 : Shape := ⟨2, ![2048, 4608]⟩
abbrev S512 : Shape := ⟨1, ![512]⟩
abbrev S3x512 : Shape := ⟨2, ![3, 512]⟩
abbrev S4x128x128 : Shape := ⟨3, ![4, 128, 128]⟩
abbrev S4x128 : Shape := ⟨2, ![4, 128]⟩
abbrev S2048x1536 : Shape := ⟨2, ![2048, 1536]⟩
abbrev S_ : Shape := ⟨0, ![]⟩

class Facts : Prop where
  bcast_S_S2048x4608 : S_.BroadcastsInDim S2048x4608 (![] : Fin 0 → Fin S2048x4608.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S2048x1536 : S_.BroadcastsInDim S2048x1536 (![] : Fin 0 → Fin S2048x1536.rank)

variable [Facts]

def fn {F : FTy → Type} [FloatOps F] (main_arg0 : FVec F S2048x4608 .f32) (main_arg1 : FVec F S512 .f32) (main_arg2 : FVec F S512 .f32) (main_arg3 : FVec F S3x512 .f32) (main_arg4 : FVec F S512 .f32) (main_arg5 : FVec F S512 .f32) (main_arg6 : FVec F S4x128x128 .f32) (main_arg7 : FVec F S4x128 .f32) (main_arg8 : FVec F S2048x1536 .f32) : IVec S2048x4608 1 × IVec S512 1 × IVec S512 1 × IVec S4x128x128 1 × IVec S4x128 1 × IVec S2048x1536 1 :=
  let main_v0 : FVec F S2048x4608 .f32 := Host.absf main_arg0
  let main_cst : FVec F S_ .f32 := constant S_ .f32 0x7F800000#32
  let main_v1 : FVec F S2048x4608 .f32 := broadcastInDim S2048x4608 ![] bcast_S_S2048x4608 main_cst
  let main_v2 : IVec S2048x4608 1 := cmpf .olt main_v0 main_v1
  let main_v3 : FVec F S512 .f32 := Host.absf main_arg4
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S512 .f32 := Host.absf main_arg5
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S4x128x128 .f32 := Host.absf main_arg6
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg7
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  let main_v15 : FVec F S2048x1536 .f32 := Host.absf main_arg8
  let main_cst_4 : FVec F S_ .f32 := constant S_ .f32 0x7F800000#32
  let main_v16 : FVec F S2048x1536 .f32 := broadcastInDim S2048x1536 ![] bcast_S_S2048x1536 main_cst_4
  let main_v17 : IVec S2048x1536 1 := cmpf .olt main_v15 main_v16
  (main_v2, main_v5, main_v8, main_v11, main_v14, main_v17)
-- ==== Pre_mxf_finite.lean ====
abbrev S2048x4608 : Shape := ⟨2, ![2048, 4608]⟩
abbrev S512 : Shape := ⟨1, ![512]⟩
abbrev S3x512 : Shape := ⟨2, ![3, 512]⟩
abbrev S4x128x128 : Shape := ⟨3, ![4, 128, 128]⟩
abbrev S4x128 : Shape := ⟨2, ![4, 128]⟩
abbrev S_ : Shape := ⟨0, ![]⟩

class Facts : Prop where
  bcast_S_S512 : S_.BroadcastsInDim S512 (![] : Fin 0 → Fin S512.rank)

variable [Facts]

def fn {F : FTy → Type} [FloatOps F] (main_arg0 : FVec F S2048x4608 .f32) (main_arg1 : FVec F S512 .f32) (main_arg2 : FVec F S512 .f32) (main_arg3 : FVec F S3x512 .f32) (main_arg4 : FVec F S512 .f32) (main_arg5 : FVec F S512 .f32) (main_arg6 : FVec F S4x128x128 .f32) (main_arg7 : FVec F S4x128 .f32) : IVec S512 1 :=
  let main_v0 : FVec F S512 .f32 := Host.absf main_arg1
  let main_cst : FVec F S_ .f32 := constant S_ .f32 0x7F800000#32
  let main_v1 : FVec F S512 .f32 := broadcastInDim S512 ![] bcast_S_S512 main_cst
  let main_v2 : IVec S512 1 := cmpf .olt main_v0 main_v1
  main_v2
-- ==== LbKernel.lean ====
abbrev S4x512 : Shape := ⟨2, ![4, 512]⟩
abbrev S1x512 : Shape := ⟨2, ![1, 512]⟩

abbrev nBuf : Space → Nat
  | .hbm => 3
  | .vmem => 3
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbReferenceIdeal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S_, .f32⟩
  | .hbm, ⟨3, _⟩ => ⟨S512, .f32⟩
  | .hbm, ⟨4, _⟩ => ⟨S1x512, .f32⟩
  | .hbm, ⟨5, _⟩ => ⟨S4x512, .f32⟩
  | .hbm, ⟨6, _⟩ => ⟨S4x512, .i1⟩
  | .hbm, ⟨7, _⟩ => ⟨S4x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S_, .f32⟩
  | .hbm, ⟨17, _⟩ => ⟨S512, .f32⟩
  | .hbm, ⟨18, _⟩ => ⟨S512, .i1⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S4x512, .f32⟩
  | .hbm, ⟨29, _⟩ => ⟨S4x512, .f32⟩
  | .hbm, ⟨30, _⟩ => ⟨S4x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S4x512, .f32⟩
  | .hbm, ⟨35, _⟩ => ⟨S4x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S_, .f32⟩
  | .hbm, ⟨42, _⟩ => ⟨S4x512, .f32⟩
  | .hbm, ⟨43, _⟩ => ⟨S1x512, .f32⟩
  | .hbm, ⟨44, _⟩ => ⟨S512, .f32⟩
  | .hbm, ⟨45, _⟩ => ⟨S1x512, .f32⟩
  | .hbm, ⟨46, _⟩ => ⟨S4x512, .f32⟩
  | .hbm, ⟨47, _⟩ => ⟨S4x512, .f32⟩
  | .hbm, ⟨48, _⟩ => ⟨S4x512, .f32⟩
  | .hbm, ⟨49, _⟩ => ⟨S4x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S4x512, .f32⟩
  | .hbm, ⟨58, _⟩ => ⟨S_, .f32⟩
  | .hbm, ⟨59, _⟩ => ⟨S_, .f32⟩
  | .hbm, ⟨60, _⟩ => ⟨S4x512, .f32⟩
  | .hbm, ⟨61, _⟩ => ⟨S4x512, .f32⟩
  | .hbm, ⟨62, _⟩ => ⟨S4x512, .f32⟩
  | .hbm, ⟨63, _⟩ => ⟨S4x512, .f32⟩
  | .hbm, ⟨64, _⟩ => ⟨S4x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S1x512, .f32⟩
  | .hbm, ⟨69, _⟩ => ⟨S4x512, .f32⟩
  | .hbm, ⟨70, _⟩ => ⟨S4x512, .f32⟩
  | .hbm, ⟨71, _⟩ => ⟨S_, .f32⟩
  | .hbm, ⟨72, _⟩ => ⟨S512, .f32⟩
  | .hbm, ⟨73, _⟩ => ⟨S4x512, .f32⟩
  | .hbm, ⟨74, _⟩ => ⟨S4x512, .f32⟩
  | .hbm, ⟨75, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_call1_call0_cst : Ref sig .tc := ⟨.hbm, 58, rfl⟩
abbrev main_call1_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== FinKernel.lean ====
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x128, .f32⟩
  | .hbm, ⟨7, _⟩ => ⟨S2048x1024, .f32⟩
  | .hbm, ⟨8, _⟩ => ⟨S2048x1024, .bf16⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v56 : BitVec 32 := Scalar.extui v0
  let c0_i32_21 : BitVec 32 := 0#32
  let v57 : BitVec 1 := Scalar.cmpi .ne v56 c0_i32_21
  v57

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_22 : BitVec 1 := 1#1
  let v58 : BitVec 1 := Scalar.xori v0 true_22
  let v59 : BitVec 32 := Scalar.extui v58
  let c0_i32_23 : BitVec 32 := 0#32
  let v60 : BitVec 1 := Scalar.cmpi .ne v59 c0_i32_23
  v60

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v49 : BitVec 32 := Scalar.extui v0
  let c0_i32_19 : BitVec 32 := 0#32
  let v50 : BitVec 1 := Scalar.cmpi .ne v49 c0_i32_19
  v50

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v51 : BitVec 1 := Scalar.xori v0 v_true
  let v52 : BitVec 32 := Scalar.extui v51
  let c0_i32_20 : BitVec 32 := 0#32
  let v53 : BitVec 1 := Scalar.cmpi .ne v52 c0_i32_20
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FinReferenceIdeal.lean ====
abbrev S1x2048x1024 : Shape := ⟨3, ![1, 2048, 1024]⟩
abbrev S1024 : Shape := ⟨1, ![1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x1024, .f32⟩
  | .hbm, ⟨61, _⟩ => ⟨S2048x1024, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S1x128, .f32⟩
  | .hbm, ⟨74, _⟩ => ⟨S2048x1024, .bf16⟩
  | .hbm, ⟨75, _⟩ => ⟨S1x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== FfnKernel.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 35
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S1024x4096, .bf16⟩
  | .hbm, ⟨6, _⟩ => ⟨S4096x1024, .bf16⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | .hbm, ⟨24, _⟩ => ⟨S2048x4096, .f32⟩
  | .hbm, ⟨25, _⟩ => ⟨S_, .f32⟩
  | .hbm, ⟨26, _⟩ => ⟨S2048x4096, .f32⟩
  | .hbm, ⟨27, _⟩ => ⟨S2048x4096, .f32⟩
  | .hbm, ⟨28, _⟩ => ⟨S2048x4096, .bf16⟩
  | .hbm, ⟨29, _⟩ => ⟨S2048x1024, .bf16⟩
  | .hbm, ⟨30, _⟩ => ⟨S1x1024, .f32⟩
  | .hbm, ⟨31, _⟩ => ⟨S2048x4096, .bf16⟩
  | .hbm, ⟨32, _⟩ => ⟨S2048x1024, .f32⟩
  | .hbm, ⟨33, _⟩ => ⟨S2048x1024, .bf16⟩
  | .hbm, ⟨34, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x2048, .bf16⟩
  | .local _ .vmem, ⟨8, _⟩ => ⟨S512x2048, .bf16⟩
  | .local _ .vmem, ⟨9, _⟩ => ⟨S1024x2048, .bf16⟩
  | .local _ .vmem, ⟨10, _⟩ => ⟨S1024x2048, .bf16⟩
  | .local _ .vmem, ⟨11, _⟩ => ⟨S2048x1024, .bf16⟩
  | .local _ .vmem, ⟨12, _⟩ => ⟨S2048x1024, .bf16⟩
  | .local _ .vmem, ⟨13, _⟩ => ⟨S512x2048, .bf16⟩
  | .local _ .vmem, ⟨14, _⟩ => ⟨S512x2048, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v24 : BitVec 1 := Scalar.cmpi .eq arg1 c1_i32
  let v25 : BitVec 32 := Scalar.extui v24
  let c0_i32_16 : BitVec 32 := 0#32
  let v26 : BitVec 1 := Scalar.cmpi .ne v25 c0_i32_16
  v26

def k0_cond3 (i : grid0.Coords) : BitVec 1 :=
  let arg0 : BitVec 32 := BitVec.ofNat 32 (i 0).val
  let c0_i32_35 : BitVec 32 := 0#32
  let v61 : BitVec 1 := Scalar.cmpi .eq arg0 c0_i32_35
  let v62 : BitVec 32 := Scalar.extui v61
  let c0_i32_36 : BitVec 32 := 0#32
  let v63 : BitVec 1 := Scalar.cmpi .ne v62 c0_i32_36
  v63

def k0_cond4 (i : grid0.Coords) : BitVec 1 :=
  let arg0 : BitVec 32 := BitVec.ofNat 32 (i 0).val
  let c0_i32_35 : BitVec 32 := 0#32
  let v61 : BitVec 1 := Scalar.cmpi .eq arg0 c0_i32_35
  let v_true : BitVec 1 := 1#1
  let v64 : BitVec 1 := Scalar.xori v61 v_true
  let v65 : BitVec 32 := Scalar.extui v64
  let c0_i32_37 : BitVec 32 := 0#32
  let v66 : BitVec 1 := Scalar.cmpi .ne v65 c0_i32_37
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== FfnReferenceIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S_, .f32⟩
  | .hbm, ⟨30, _⟩ => ⟨S2048x4096, .f32⟩
  | .hbm, ⟨31, _⟩ => ⟨S2048x4096, .i1⟩
  | .hbm, ⟨32, _⟩ => ⟨S_, .f32⟩
  | .hbm, ⟨33, _⟩ => ⟨S2048x4096, .f32⟩
  | .hbm, ⟨34, _⟩ => ⟨S2048x4096, .f32⟩
  | .hbm, ⟨35, _⟩ => ⟨S_, .f32⟩
  | .hbm, ⟨36, _⟩ => ⟨S2048x4096, .f32⟩
  | .hbm, ⟨37, _⟩ => ⟨S2048x4096, .f32⟩
  | .hbm, ⟨38, _⟩ => ⟨S2048x1024, .f32⟩
  | .hbm, ⟨39, _⟩ => ⟨S2048x4096, .f32⟩
  | .hbm, ⟨40, _⟩ => ⟨S2048x4096, .f32⟩
  | .hbm, ⟨41, _⟩ => ⟨S_, .f32⟩
  | .hbm, ⟨42, _⟩ => ⟨S2048x4096, .f32⟩
  | .hbm, ⟨43, _⟩ => ⟨S2048x4096, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S2048x1024, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x1024, .f32⟩
  | .hbm, ⟨58, _⟩ => ⟨S2048x1024, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x4096, .bf16⟩
  | .hbm, ⟨72, _⟩ => ⟨S2048x1024, .bf16⟩
  | .hbm, ⟨73, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== MrgKernel.lean ====
abbrev S2048x1536 : Shape := ⟨2, ![2048, 1536]⟩
abbrev S3x512x1024 : Shape := ⟨3, ![3, 512, 1024]⟩
abbrev S2048x3072 : Shape := ⟨2, ![2048, 3072]⟩
abbrev S1024x1024 : Shape := ⟨2, ![1024, 1024]⟩
abbrev S2048x1024 : Shape := ⟨2, ![2048, 1024]⟩
abbrev S2048x512 : Shape := ⟨2, ![2048, 512]⟩
abbrev S1x512x1024 : Shape := ⟨3, ![1, 512, 1024]⟩
abbrev S512x1024 : Shape := ⟨2, ![512, 1024]⟩
abbrev S512x3072 : Shape := ⟨2, ![512, 3072]⟩
abbrev S512x1536 : Shape := ⟨2, ![512, 1536]⟩
abbrev S512x512 : Shape := ⟨2, ![512, 512]⟩

abbrev nBuf : Space → Nat
  | .hbm => 29
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S3x512x1024, .f32⟩
  | .hbm, ⟨2, _⟩ => ⟨S2048x3072, .f32⟩
  | .hbm, ⟨3, _⟩ => ⟨S1024x1024, .f32⟩
  | .hbm, ⟨4, _⟩ => ⟨S2048x1024, .f32⟩
  | .hbm, ⟨5, _⟩ => ⟨S3x512x1024, .bf16⟩
  | .hbm, ⟨6, _⟩ => ⟨S2048x1536, .bf16⟩
  | .hbm, ⟨7, _⟩ => ⟨S2048x512, .bf16⟩
  | .hbm, ⟨8, _⟩ => ⟨S1x512x1024, .bf16⟩
  | .hbm, ⟨9, _⟩ => ⟨S512x1024, .bf16⟩
  | .hbm, ⟨10, _⟩ => ⟨S2048x1024, .f32⟩
  | .hbm, ⟨11, _⟩ => ⟨S2048x1024, .bf16⟩
  | .hbm, ⟨12, _⟩ => ⟨S2048x512, .bf16⟩
  | .hbm, ⟨13, _⟩ => ⟨S1x512x1024, .bf16⟩
  | .hbm, ⟨14, _⟩ => ⟨S512x1024, .bf16⟩
  | .hbm, ⟨15, _⟩ => ⟨S2048x1024, .f32⟩
  | .hbm, ⟨16, _⟩ => ⟨S2048x1024, .bf16⟩
  | .hbm, ⟨17, _⟩ => ⟨S2048x512, .bf16⟩
  | .hbm, ⟨18, _⟩ => ⟨S1x512x1024, .bf16⟩
  | .hbm, ⟨19, _⟩ => ⟨S512x1024, .bf16⟩
  | .hbm, ⟨20, _⟩ => ⟨S2048x1024, .f32⟩
  | .hbm, ⟨21, _⟩ => ⟨S2048x1024, .bf16⟩
  | .hbm, ⟨22, _⟩ => ⟨S2048x3072, .bf16⟩
  | .hbm, ⟨23, _⟩ => ⟨S2048x1024, .bf16⟩
  | .hbm, ⟨24, _⟩ => ⟨S1024x1024, .bf16⟩
  | .hbm, ⟨25, _⟩ => ⟨S2048x3072, .bf16⟩
  | .hbm, ⟨26, _⟩ => ⟨S2048x3072, .bf16⟩
  | .hbm, ⟨27, _⟩ => ⟨S2048x3072, .bf16⟩
  | .hbm, ⟨28, _⟩ => ⟨S2048x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | .local _ .vmem, ⟨7, _⟩ => ⟨S3x512x1024, .bf16⟩
  | .local _ .vmem, ⟨8, _⟩ => ⟨S512x3072, .bf16⟩
  | .local _ .vmem, ⟨9, _⟩ => ⟨S512x3072, .bf16⟩
  | .local _ .vmem, ⟨10, _⟩ => ⟨S512x3072, .bf16⟩
  | .local _ .vmem, ⟨11, _⟩ => ⟨S512x3072, .bf16⟩
  | .local _ .vmem, ⟨12, _⟩ => ⟨S512x1536, .bf16⟩
  | .local _ .vmem, ⟨13, _⟩ => ⟨S512x1536, .bf16⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MrgReferenceIdeal.lean ====
abbrev S2048x1536 : Shape := ⟨2, ![2048, 1536]⟩
abbrev S3x512x1024 : Shape := ⟨3, ![3, 512, 1024]⟩
abbrev S2048x3072 : Shape := ⟨2, ![2048, 3072]⟩
abbrev S1024x1024 : Shape := ⟨2, ![1024, 1024]⟩
abbrev S2048x1024 : Shape := ⟨2, ![2048, 1024]⟩
abbrev S2048x3x512 : Shape := ⟨3, ![2048, 3, 512]⟩
abbrev S3x1024x2048 : Shape := ⟨3, ![3, 1024, 2048]⟩
abbrev S2048x3x1024 : Shape := ⟨3, ![2048, 3, 1024]⟩
abbrev S_ : Shape := ⟨0, ![]⟩
abbrev S3x2048x512 : Shape := ⟨3, ![3, 2048, 512]⟩

abbrev nBuf : Space → Nat
  | .hbm => 39
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S3x512x1024, .f32⟩
  | .hbm, ⟨2, _⟩ => ⟨S2048x3072, .f32⟩
  | .hbm, ⟨3, _⟩ => ⟨S1024x1024, .f32⟩
  | .hbm, ⟨4, _⟩ => ⟨S2048x1024, .f32⟩
  | .hbm, ⟨5, _⟩ => ⟨S2048x3x512, .f32⟩
  | .hbm, ⟨6, _⟩ => ⟨S3x1024x2048, .f32⟩
  | .hbm, ⟨7, _⟩ => ⟨S2048x3x1024, .f32⟩
  | .hbm, ⟨8, _⟩ => ⟨S2048x3072, .f32⟩
  | .hbm, ⟨9, _⟩ => ⟨S2048x3072, .f32⟩
  | .hbm, ⟨10, _⟩ => ⟨S_, .f32⟩
  | .hbm, ⟨11, _⟩ => ⟨S2048x3072, .f32⟩
  | .hbm, ⟨12, _⟩ => ⟨S2048x3072, .f32⟩
  | .hbm, ⟨13, _⟩ => ⟨S_, .f32⟩
  | .hbm, ⟨14, _⟩ => ⟨S2048x3072, .f32⟩
  | .hbm, ⟨15, _⟩ => ⟨S2048x3072, .f32⟩
  | .hbm, ⟨16, _⟩ => ⟨S_, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S2048x3x1024, .f32⟩
  | .hbm, ⟨21, _⟩ => ⟨S2048x3x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x3x1024, .f32⟩
  | .hbm, ⟨27, _⟩ => ⟨S2048x3x1024, .f32⟩
  | .hbm, ⟨28, _⟩ => ⟨S2048x3x1024, .f32⟩
  | .hbm, ⟨29, _⟩ => ⟨S2048x3072, .f32⟩
  | .hbm, ⟨30, _⟩ => ⟨S2048x3072, .f32⟩
  | .hbm, ⟨31, _⟩ => ⟨S3x1024x2048, .f32⟩
  | .hbm, ⟨32, _⟩ => ⟨S3x2048x512, .f32⟩
  | .hbm, ⟨33, _⟩ => ⟨S2048x3x512, .f32⟩
  | .hbm, ⟨34, _⟩ => ⟨S2048x3072, .f32⟩
  | .hbm, ⟨35, _⟩ => ⟨S2048x3072, .bf16⟩
  | .hbm, ⟨36, _⟩ => ⟨S2048x3072, .bf16⟩
  | .hbm, ⟨37, _⟩ => ⟨S2048x1536, .f32⟩
  | .hbm, ⟨38, _⟩ => ⟨S2048x1536, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== DhKernel.lean ====
abbrev S2048x1024 : Shape := ⟨2, ![2048, 1024]⟩
abbrev S1024 : Shape := ⟨1, ![1024]⟩
abbrev S1024x7680 : Shape := ⟨2, ![1024, 7680]⟩
abbrev S2048x7680 : Shape := ⟨2, ![2048, 7680]⟩
abbrev S2048x4608 : Shape := ⟨2, ![2048, 4608]⟩
abbrev S2048x3072 : Shape := ⟨2, ![2048, 3072]⟩
abbrev S7680x1024 : Shape := ⟨2, ![7680, 1024]⟩
abbrev S1x1024 : Shape := ⟨2, ![1, 1024]⟩
abbrev S1024x1536 : Shape := ⟨2, ![1024, 1536]⟩
abbrev S1536x1024 : Shape := ⟨2, ![1536, 1024]⟩
abbrev S1024x1024 : Shape := ⟨2, ![1024, 1024]⟩
abbrev S1024x1 : Shape := ⟨2, ![1024, 1]⟩

abbrev nBuf : Space → Nat
  | .hbm => 14
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x7680, .f32⟩
  | .hbm, ⟨3, _⟩ => ⟨S2048x1024, .f32⟩
  | .hbm, ⟨4, _⟩ => ⟨S2048x7680, .f32⟩
  | .hbm, ⟨5, _⟩ => ⟨S2048x7680, .bf16⟩
  | .hbm, ⟨6, _⟩ => ⟨S2048x4608, .bf16⟩
  | .hbm, ⟨7, _⟩ => ⟨S2048x3072, .bf16⟩
  | .hbm, ⟨8, _⟩ => ⟨S7680x1024, .f32⟩
  | .hbm, ⟨9, _⟩ => ⟨S7680x1024, .bf16⟩
  | .hbm, ⟨10, _⟩ => ⟨S1x1024, .f32⟩
  | .hbm, ⟨11, _⟩ => ⟨S2048x1024, .f32⟩
  | .hbm, ⟨12, _⟩ => ⟨S2048x1024, .bf16⟩
  | .hbm, ⟨13, _⟩ => ⟨S1x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1536x1024, .bf16⟩
  | .local _ .vmem, ⟨5, _⟩ => ⟨S1536x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 5], ![false, false]⟩

def k0_cond4 (i : grid0.Coords) : BitVec 1 :=
  let arg1 : BitVec 32 := BitVec.ofNat 32 (i 1).val
  let c4_i32 : BitVec 32 := 4#32
  let v9 : BitVec 1 := Scalar.cmpi .eq arg1 c4_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg0 : BitVec 32 := BitVec.ofNat 32 (i 0).val
  let c0_i32_21 : BitVec 32 := 0#32
  let v46 : BitVec 1 := Scalar.cmpi .eq arg0 c0_i32_21
  let v47 : BitVec 32 := Scalar.extui v46
  let c0_i32_22 : BitVec 32 := 0#32
  let v48 : BitVec 1 := Scalar.cmpi .ne v47 c0_i32_22
  v48

def k0_cond6 (i : grid0.Coords) : BitVec 1 :=
  let arg0 : BitVec 32 := BitVec.ofNat 32 (i 0).val
  let c0_i32_21 : BitVec 32 := 0#32
  let v46 : BitVec 1 := Scalar.cmpi .eq arg0 c0_i32_21
  let v_true : BitVec 1 := 1#1
  let v49 : BitVec 1 := Scalar.xori v46 v_true
  let v50 : BitVec 32 := Scalar.extui v49
  let c0_i32_23 : BitVec 32 := 0#32
  let v51 : BitVec 1 := Scalar.cmpi .ne v50 c0_i32_23
  v51

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== DhReferenceIdeal.lean ====
abbrev S2048x1024 : Shape := ⟨2, ![2048, 1024]⟩
abbrev S1024 : Shape := ⟨1, ![1024]⟩
abbrev S1024x7680 : Shape := ⟨2, ![1024, 7680]⟩
abbrev S2048x7680 : Shape := ⟨2, ![2048, 7680]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x7680, .f32⟩
  | .hbm, ⟨3, _⟩ => ⟨S2048x1024, .f32⟩
  | .hbm, ⟨4, _⟩ => ⟨S2048x7680, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x7680, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .bf16⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== FfwKernel.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S2048x4096 : Shape := ⟨2, ![2048, 4096]⟩
abbrev S1024x1024 : Shape := ⟨2, ![1024, 1024]⟩
abbrev S1024x1 : Shape := ⟨2, ![1024, 1]⟩

abbrev nBuf : Space → Nat
  | .hbm => 10
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S2048x1024, .f32⟩
  | .hbm, ⟨8, _⟩ => ⟨S2048x1024, .bf16⟩
  | .hbm, ⟨9, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfwReferenceIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x1024, .f32⟩
  | .hbm, ⟨26, _⟩ => ⟨S2048x1024, .f32⟩
  | .hbm, ⟨27, _⟩ => ⟨S2048x1024, .bf16⟩
  | .hbm, ⟨28, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== RmfKernel.lean ====
abbrev S2048x1024 : Shape := ⟨2, ![2048, 1024]⟩
abbrev S1024 : Shape := ⟨1, ![1024]⟩
abbrev S1024x7680 : Shape := ⟨2, ![1024, 7680]⟩
abbrev S1x1024 : Shape := ⟨2, ![1, 1024]⟩
abbrev S7680x1024 : Shape := ⟨2, ![7680, 1024]⟩
abbrev S2048x4608 : Shape := ⟨2, ![2048, 4608]⟩
abbrev S2048x3072 : Shape := ⟨2, ![2048, 3072]⟩
abbrev S1024x1024 : Shape := ⟨2, ![1024, 1024]⟩
abbrev S1536x1024 : Shape := ⟨2, ![1536, 1024]⟩
abbrev S1024x1536 : Shape := ⟨2, ![1024, 1536]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x7680, .f32⟩
  | .hbm, ⟨3, _⟩ => ⟨S1x1024, .f32⟩
  | .hbm, ⟨4, _⟩ => ⟨S7680x1024, .f32⟩
  | .hbm, ⟨5, _⟩ => ⟨S7680x1024, .bf16⟩
  | .hbm, ⟨6, _⟩ => ⟨S2048x4608, .f32⟩
  | .hbm, ⟨7, _⟩ => ⟨S2048x3072, .bf16⟩
  | .hbm, ⟨8, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1536x1024, .bf16⟩
  | .local _ .vmem, ⟨4, _⟩ => ⟨S1536x1024, .bf16⟩
  | .local _ .vmem, ⟨5, _⟩ => ⟨S1024x1536, .f32⟩
  | .local _ .vmem, ⟨6, _⟩ => ⟨S1024x1536, .f32⟩
  | .local _ .vmem, ⟨7, _⟩ => ⟨S1024x1536, .bf16⟩
  | .local _ .vmem, ⟨8, _⟩ => ⟨S1024x1536, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c3_i32 : BitVec 32 := 3#32
  let v7 : BitVec 1 := Scalar.cmpi .slt arg1 c3_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c3_i32_5 : BitVec 32 := 3#32
  let v10 : BitVec 1 := Scalar.cmpi .sge arg1 c3_i32_5
  let v11 : BitVec 32 := Scalar.extui v10
  let c0_i32_6 : BitVec 32 := 0#32
  let v12 : BitVec 1 := Scalar.cmpi .ne v11 c0_i32_6
  v12

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RmfReferenceIdeal.lean ====
abbrev S2048x1024 : Shape := ⟨2, ![2048, 1024]⟩
abbrev S1024 : Shape := ⟨1, ![1024]⟩
abbrev S1024x7680 : Shape := ⟨2, ![1024, 7680]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x7680 : Shape := ⟨2, ![2048, 7680]⟩
abbrev S2048x4608 : Shape := ⟨2, ![2048, 4608]⟩
abbrev S2048x3072 : Shape := ⟨2, ![2048, 3072]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x7680, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x7680, .f32⟩
  | .hbm, ⟨20, _⟩ => ⟨S2048x4608, .f32⟩
  | .hbm, ⟨21, _⟩ => ⟨S2048x3072, .f32⟩
  | .hbm, ⟨22, _⟩ => ⟨S2048x3072, .bf16⟩
  | .hbm, ⟨23, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== BgfKernel.lean ====
abbrev S2048x1536 : Shape := ⟨2, ![2048, 1536]⟩
abbrev S3x512x1024 : Shape := ⟨3, ![3, 512, 1024]⟩
abbrev S2048x3072 : Shape := ⟨2, ![2048, 3072]⟩
abbrev S2048x1024 : Shape := ⟨2, ![2048, 1024]⟩
abbrev S1024x1024 : Shape := ⟨2, ![1024, 1024]⟩
abbrev S512x1536 : Shape := ⟨2, ![512, 1536]⟩
abbrev S512x3072 : Shape := ⟨2, ![512, 3072]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 12
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S3x512x1024, .f32⟩
  | .hbm, ⟨2, _⟩ => ⟨S2048x3072, .f32⟩
  | .hbm, ⟨3, _⟩ => ⟨S2048x1024, .f32⟩
  | .hbm, ⟨4, _⟩ => ⟨S1024x1024, .f32⟩
  | .hbm, ⟨5, _⟩ => ⟨S2048x1536, .bf16⟩
  | .hbm, ⟨6, _⟩ => ⟨S3x512x1024, .bf16⟩
  | .hbm, ⟨7, _⟩ => ⟨S2048x3072, .bf16⟩
  | .hbm, ⟨8, _⟩ => ⟨S1024x1024, .bf16⟩
  | .hbm, ⟨9, _⟩ => ⟨S2048x3072, .bf16⟩
  | .hbm, ⟨10, _⟩ => ⟨S2048x1024, .bf16⟩
  | .hbm, ⟨11, _⟩ => ⟨S2048x1024, .f32⟩
  | .local _ .vmem, ⟨0, _⟩ => ⟨S512x1536, .bf16⟩
  | .local _ .vmem, ⟨1, _⟩ => ⟨S512x1536, .bf16⟩
  | .local _ .vmem, ⟨2, _⟩ => ⟨S3x512x1024, .bf16⟩
  | .local _ .vmem, ⟨3, _⟩ => ⟨S512x3072, .bf16⟩
  | .local _ .vmem, ⟨4, _⟩ => ⟨S512x3072, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BgfReferenceIdeal.lean ====
abbrev S2048x1536 : Shape := ⟨2, ![2048, 1536]⟩
abbrev S3x512x1024 : Shape := ⟨3, ![3, 512, 1024]⟩
abbrev S2048x3072 : Shape := ⟨2, ![2048, 3072]⟩
abbrev S2048x1024 : Shape := ⟨2, ![2048, 1024]⟩
abbrev S1024x1024 : Shape := ⟨2, ![1024, 1024]⟩
abbrev S2048x3x512 : Shape := ⟨3, ![2048, 3, 512]⟩
abbrev S3x1024x2048 : Shape := ⟨3, ![3, 1024, 2048]⟩
abbrev S2048x3x1024 : Shape := ⟨3, ![2048, 3, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S3x512x1024, .f32⟩
  | .hbm, ⟨2, _⟩ => ⟨S2048x3072, .f32⟩
  | .hbm, ⟨3, _⟩ => ⟨S2048x1024, .f32⟩
  | .hbm, ⟨4, _⟩ => ⟨S1024x1024, .f32⟩
  | .hbm, ⟨5, _⟩ => ⟨S2048x3x512, .f32⟩
  | .hbm, ⟨6, _⟩ => ⟨S3x1024x2048, .f32⟩
  | .hbm, ⟨7, _⟩ => ⟨S2048x3x1024, .f32⟩
  | .hbm, ⟨8, _⟩ => ⟨S2048x3072, .f32⟩
  | .hbm, ⟨9, _⟩ => ⟨S2048x3072, .f32⟩
  | .hbm, ⟨10, _⟩ => ⟨S_, .f32⟩
  | .hbm, ⟨11, _⟩ => ⟨S2048x3072, .f32⟩
  | .hbm, ⟨12, _⟩ => ⟨S2048x3072, .f32⟩
  | .hbm, ⟨13, _⟩ => ⟨S_, .f32⟩
  | .hbm, ⟨14, _⟩ => ⟨S2048x3072, .f32⟩
  | .hbm, ⟨15, _⟩ => ⟨S2048x3072, .f32⟩
  | .hbm, ⟨16, _⟩ => ⟨S2048x3x1024, .f32⟩
  | .hbm, ⟨17, _⟩ => ⟨S2048x3x1024, .f32⟩
  | .hbm, ⟨18, _⟩ => ⟨S_, .f32⟩
  | .hbm, ⟨19, _⟩ => ⟨S2048x1024, .f32⟩
  | .hbm, ⟨20, _⟩ => ⟨S2048x3072, .f32⟩
  | .hbm, ⟨21, _⟩ => ⟨S2048x3072, .bf16⟩
  | .hbm, ⟨22, _⟩ => ⟨S2048x1024, .bf16⟩
  | .hbm, ⟨23, _⟩ => ⟨S2048x1024, .f32⟩
  | .hbm, ⟨24, _⟩ => ⟨S2048x1024, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== LbfKernel.lean ====
abbrev S4x512 : Shape := ⟨2, ![4, 512]⟩
abbrev S1x512 : Shape := ⟨2, ![1, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .local _ .vmem, ⟨0, _⟩ => ⟨S4x512, .f32⟩
  | .local _ .vmem, ⟨1, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbfReferenceIdeal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S_, .f32⟩
  | .hbm, ⟨17, _⟩ => ⟨S4x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S4x512, .f32⟩
  | .hbm, ⟨22, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== MxbKernel.lean ====
abbrev S2048x4608 : Shape := ⟨2, ![2048, 4608]⟩
abbrev S512 : Shape := ⟨1, ![512]⟩
abbrev S3x512 : Shape := ⟨2, ![3, 512]⟩
abbrev S4x128x128 : Shape := ⟨3, ![4, 128, 128]⟩
abbrev S4x128 : Shape := ⟨2, ![4, 128]⟩
abbrev S2048x1536 : Shape := ⟨2, ![2048, 1536]⟩
abbrev S64x64 : Shape := ⟨2, ![64, 64]⟩
abbrev S2048x512 : Shape := ⟨2, ![2048, 512]⟩
abbrev S32x64x4x128 : Shape := ⟨4, ![32, 64, 4, 128]⟩
abbrev S_ : Shape := ⟨0, ![]⟩
abbrev S1x1x4x128 : Shape := ⟨4, ![1, 1, 4, 128]⟩
abbrev S32x1x4x128 : Shape := ⟨4, ![32, 1, 4, 128]⟩
abbrev S32x4x128x128 : Shape := ⟨4, ![32, 4, 128, 128]⟩
abbrev S32x4x1x128 : Shape := ⟨4, ![32, 4, 1, 128]⟩
abbrev S0x4x1x128 : Shape := ⟨4, ![0, 4, 1, 128]⟩
abbrev S0x4x128x128 : Shape := ⟨4, ![0, 4, 128, 128]⟩
abbrev S1x4x1x128 : Shape := ⟨4, ![1, 4, 1, 128]⟩
abbrev S4x1x128 : Shape := ⟨3, ![4, 1, 128]⟩
abbrev S1x4x128x128 : Shape := ⟨4, ![1, 4, 128, 128]⟩
abbrev S16x4x128x128 : Shape := ⟨4, ![16, 4, 128, 128]⟩
abbrev S32x4x64x64 : Shape := ⟨4, ![32, 4, 64, 64]⟩
abbrev S32x4x128x64 : Shape := ⟨4, ![32, 4, 128, 64]⟩
abbrev S1x512 : Shape := ⟨2, ![1, 512]⟩
abbrev S128x4 : Shape := ⟨2, ![128, 4]⟩
abbrev S8x512 : Shape := ⟨2, ![8, 512]⟩
abbrev S256x512 : Shape := ⟨2, ![256, 512]⟩
abbrev S256x1536 : Shape := ⟨2, ![256, 1536]⟩
abbrev S4x4x128x128 : Shape := ⟨4, ![4, 4, 128, 128]⟩
abbrev S256x4608 : Shape := ⟨2, ![256, 4608]⟩
abbrev S264x512 : Shape := ⟨2, ![264, 512]⟩
abbrev S128x512 : Shape := ⟨2, ![128, 512]⟩
abbrev S64x1 : Shape := ⟨2, ![64, 1]⟩
abbrev S64x512 : Shape := ⟨2, ![64, 512]⟩
abbrev S64x128 : Shape := ⟨2, ![64, 128]⟩
abbrev S64 : Shape := ⟨1, ![64]⟩
abbrev S1x128 : Shape := ⟨2, ![1, 128]⟩
abbrev S128 : Shape := ⟨1, ![128]⟩
abbrev S1x1x128x128 : Shape := ⟨4, ![1, 1, 128, 128]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 394
  | .vmem => 44
  | .smem => 0
  | _ => 0

abbrev hbmTy0_0 (i : Nat) : BufTy := match i % 128 with
  | 0 => ⟨S2048x4608, .f32⟩
  | 1 => ⟨S512, .f32⟩
  | 2 => ⟨S512, .f32⟩
  | 3 => ⟨S3x512, .f32⟩
  | 4 => ⟨S512, .f32⟩
  | 5 => ⟨S512, .f32⟩
  | 6 => ⟨S4x128x128, .f32⟩
  | 7 => ⟨S4x128, .f32⟩
  | 8 => ⟨S2048x1536, .f32⟩
  | 9 => ⟨S64x64, .i32⟩
  | 10 => ⟨S64x64, .i32⟩
  | 11 => ⟨S64x64, .i1⟩
  | 12 => ⟨S2048x512, .f32⟩
  | 13 => ⟨S32x64x4x128, .f32⟩
  | 14 => ⟨S2048x512, .f32⟩
  | 15 => ⟨S32x64x4x128, .f32⟩
  | 16 => ⟨S2048x512, .f32⟩
  | 17 => ⟨S32x64x4x128, .f32⟩
  | 18 => ⟨S4x128, .f32⟩
  | 19 => ⟨S_, .f32⟩
  | 20 => ⟨S4x128, .f32⟩
  | 21 => ⟨S4x128, .f32⟩
  | 22 => ⟨S4x128, .f32⟩
  | 23 => ⟨S4x128, .f32⟩
  | 24 => ⟨S4x128, .f32⟩
  | 25 => ⟨S32x64x4x128, .f32⟩
  | 26 => ⟨S_, .f32⟩
  | 27 => ⟨S32x64x4x128, .f32⟩
  | 28 => ⟨S32x64x4x128, .f32⟩
  | 29 => ⟨S32x64x4x128, .f32⟩
  | 30 => ⟨S32x64x4x128, .f32⟩
  | 31 => ⟨S32x64x4x128, .i1⟩
  | 32 => ⟨S32x64x4x128, .f32⟩
  | 33 => ⟨S32x64x4x128, .f32⟩
  | 34 => ⟨S32x64x4x128, .f32⟩
  | 35 => ⟨S32x64x4x128, .f32⟩
  | 36 => ⟨S32x64x4x128, .f32⟩
  | 37 => ⟨S32x64x4x128, .f32⟩
  | 38 => ⟨S32x64x4x128, .f32⟩
  | 39 => ⟨S32x64x4x128, .f32⟩
  | 40 => ⟨S32x64x4x128, .f32⟩
  | 41 => ⟨S1x1x4x128, .f32⟩
  | 42 => ⟨S32x64x4x128, .f32⟩
  | 43 => ⟨S32x64x4x128, .f32⟩
  | 44 => ⟨S1x1x4x128, .f32⟩
  | 45 => ⟨S32x64x4x128, .f32⟩
  | 46 => ⟨S32x64x4x128, .f32⟩
  | 47 => ⟨S32x64x4x128, .f32⟩
  | 48 => ⟨S32x64x4x128, .f32⟩
  | 49 => ⟨S32x64x4x128, .i1⟩
  | 50 => ⟨S32x64x4x128, .f32⟩
  | 51 => ⟨S32x64x4x128, .f32⟩
  | 52 => ⟨S32x64x4x128, .f32⟩
  | 53 => ⟨S32x64x4x128, .f32⟩
  | 54 => ⟨S32x64x4x128, .f32⟩
  | 55 => ⟨S32x64x4x128, .f32⟩
  | 56 => ⟨S32x64x4x128, .f32⟩
  | 57 => ⟨S32x64x4x128, .f32⟩
  | 58 => ⟨S32x64x4x128, .f32⟩
  | 59 => ⟨S32x64x4x128, .f32⟩
  | 60 => ⟨S32x64x4x128, .f32⟩
  | 61 => ⟨S_, .f32⟩
  | 62 => ⟨S32x64x4x128, .f32⟩
  | 63 => ⟨S32x64x4x128, .f32⟩
  | 64 => ⟨S_, .f32⟩
  | 65 => ⟨S32x64x4x128, .f32⟩
  | 66 => ⟨S32x64x4x128, .f32⟩
  | 67 => ⟨S_, .f32⟩
  | 68 => ⟨S4x128, .f32⟩
  | 69 => ⟨S4x128, .f32⟩
  | 70 => ⟨S1x1x4x128, .f32⟩
  | 71 => ⟨S32x64x4x128, .f32⟩
  | 72 => ⟨S32x64x4x128, .f32⟩
  | 73 => ⟨S_, .f32⟩
  | 74 => ⟨S_, .f32⟩
  | 75 => ⟨S32x64x4x128, .f32⟩
  | 76 => ⟨S32x1x4x128, .f32⟩
  | 77 => ⟨S32x64x4x128, .f32⟩
  | 78 => ⟨S32x64x4x128, .f32⟩
  | 79 => ⟨S_, .f32⟩
  | 80 => ⟨S32x64x4x128, .f32⟩
  | 81 => ⟨S32x64x4x128, .f32⟩
  | 82 => ⟨S_, .f32⟩
  | 83 => ⟨S32x64x4x128, .f32⟩
  | 84 => ⟨S32x64x4x128, .f32⟩
  | 85 => ⟨S32x64x4x128, .f32⟩
  | 86 => ⟨S32x64x4x128, .f32⟩
  | 87 => ⟨S32x64x4x128, .f32⟩
  | 88 => ⟨S32x64x4x128, .bf16⟩
  | 89 => ⟨S32x64x4x128, .f32⟩
  | 90 => ⟨S32x64x4x128, .f32⟩
  | 91 => ⟨S32x64x4x128, .f32⟩
  | 92 => ⟨S32x64x4x128, .bf16⟩
  | 93 => ⟨S32x64x4x128, .f32⟩
  | 94 => ⟨S32x64x4x128, .f32⟩
  | 95 => ⟨S32x64x4x128, .f32⟩
  | 96 => ⟨S32x64x4x128, .f32⟩
  | 97 => ⟨S32x64x4x128, .bf16⟩
  | 98 => ⟨S32x64x4x128, .bf16⟩
  | 99 => ⟨S32x4x128x128, .f32⟩
  | 100 => ⟨S32x1x4x128, .f32⟩
  | 101 => ⟨S32x4x1x128, .f32⟩
  | 102 => ⟨S_, .f32⟩
  | 103 => ⟨S4x128x128, .f32⟩
  | 104 => ⟨S0x4x1x128, .f32⟩
  | 105 => ⟨S32x4x1x128, .f32⟩
  | 106 => ⟨S0x4x128x128, .f32⟩
  | 107 => ⟨S32x4x128x128, .f32⟩
  | 108 => ⟨S_, .f32⟩
  | 109 => ⟨S0x4x128x128, .f32⟩
  | 110 => ⟨S1x4x1x128, .f32⟩
  | 111 => ⟨S4x1x128, .f32⟩
  | 112 => ⟨S1x4x128x128, .f32⟩
  | 113 => ⟨S4x128x128, .f32⟩
  | 114 => ⟨S4x128x128, .f32⟩
  | 115 => ⟨S4x128x128, .f32⟩
  | 116 => ⟨S4x128x128, .f32⟩
  | 117 => ⟨S1x4x1x128, .f32⟩
  | 118 => ⟨S4x1x128, .f32⟩
  | 119 => ⟨S1x4x128x128, .f32⟩
  | 120 => ⟨S4x128x128, .f32⟩
  | 121 => ⟨S4x128x128, .f32⟩
  | 122 => ⟨S4x128x128, .f32⟩
  | 123 => ⟨S4x128x128, .f32⟩
  | 124 => ⟨S1x4x1x128, .f32⟩
  | 125 => ⟨S4x1x128, .f32⟩
  | 126 => ⟨S1x4x128x128, .f32⟩
  | 127 => ⟨S4x128x128, .f32⟩
  | _ => ⟨S2048x4608, .f32⟩

abbrev hbmTy0_1 (i : Nat) : BufTy := match i % 128 with
  | 0 => ⟨S4x128x128, .f32⟩
  | 1 => ⟨S4x128x128, .f32⟩
  | 2 => ⟨S4x128x128, .f32⟩
  | 3 => ⟨S1x4x1x128, .f32⟩
  | 4 => ⟨S4x1x128, .f32⟩
  | 5 => ⟨S1x4x128x128, .f32⟩
  | 6 => ⟨S4x128x128, .f32⟩
  | 7 => ⟨S4x128x128, .f32⟩
  | 8 => ⟨S4x128x128, .f32⟩
  | 9 => ⟨S4x128x128, .f32⟩
  | 10 => ⟨S1x4x1x128, .f32⟩
  | 11 => ⟨S4x1x128, .f32⟩
  | 12 => ⟨S1x4x128x128, .f32⟩
  | 13 => ⟨S4x128x128, .f32⟩
  | 14 => ⟨S4x128x128, .f32⟩
  | 15 => ⟨S4x128x128, .f32⟩
  | 16 => ⟨S4x128x128, .f32⟩
  | 17 => ⟨S1x4x1x128, .f32⟩
  | 18 => ⟨S4x1x128, .f32⟩
  | 19 => ⟨S1x4x128x128, .f32⟩
  | 20 => ⟨S4x128x128, .f32⟩
  | 21 => ⟨S4x128x128, .f32⟩
  | 22 => ⟨S4x128x128, .f32⟩
  | 23 => ⟨S4x128x128, .f32⟩
  | 24 => ⟨S1x4x1x128, .f32⟩
  | 25 => ⟨S4x1x128, .f32⟩
  | 26 => ⟨S1x4x128x128, .f32⟩
  | 27 => ⟨S4x128x128, .f32⟩
  | 28 => ⟨S4x128x128, .f32⟩
  | 29 => ⟨S4x128x128, .f32⟩
  | 30 => ⟨S4x128x128, .f32⟩
  | 31 => ⟨S1x4x1x128, .f32⟩
  | 32 => ⟨S4x1x128, .f32⟩
  | 33 => ⟨S1x4x128x128, .f32⟩
  | 34 => ⟨S4x128x128, .f32⟩
  | 35 => ⟨S4x128x128, .f32⟩
  | 36 => ⟨S4x128x128, .f32⟩
  | 37 => ⟨S4x128x128, .f32⟩
  | 38 => ⟨S1x4x1x128, .f32⟩
  | 39 => ⟨S4x1x128, .f32⟩
  | 40 => ⟨S1x4x128x128, .f32⟩
  | 41 => ⟨S4x128x128, .f32⟩
  | 42 => ⟨S4x128x128, .f32⟩
  | 43 => ⟨S4x128x128, .f32⟩
  | 44 => ⟨S4x128x128, .f32⟩
  | 45 => ⟨S1x4x1x128, .f32⟩
  | 46 => ⟨S4x1x128, .f32⟩
  | 47 => ⟨S1x4x128x128, .f32⟩
  | 48 => ⟨S4x128x128, .f32⟩
  | 49 => ⟨S4x128x128, .f32⟩
  | 50 => ⟨S4x128x128, .f32⟩
  | 51 => ⟨S4x128x128, .f32⟩
  | 52 => ⟨S1x4x1x128, .f32⟩
  | 53 => ⟨S4x1x128, .f32⟩
  | 54 => ⟨S1x4x128x128, .f32⟩
  | 55 => ⟨S4x128x128, .f32⟩
  | 56 => ⟨S4x128x128, .f32⟩
  | 57 => ⟨S4x128x128, .f32⟩
  | 58 => ⟨S4x128x128, .f32⟩
  | 59 => ⟨S1x4x1x128, .f32⟩
  | 60 => ⟨S4x1x128, .f32⟩
  | 61 => ⟨S1x4x128x128, .f32⟩
  | 62 => ⟨S4x128x128, .f32⟩
  | 63 => ⟨S4x128x128, .f32⟩
  | 64 => ⟨S4x128x128, .f32⟩
  | 65 => ⟨S4x128x128, .f32⟩
  | 66 => ⟨S1x4x1x128, .f32⟩
  | 67 => ⟨S4x1x128, .f32⟩
  | 68 => ⟨S1x4x128x128, .f32⟩
  | 69 => ⟨S4x128x128, .f32⟩
  | 70 => ⟨S4x128x128, .f32⟩
  | 71 => ⟨S4x128x128, .f32⟩
  | 72 => ⟨S4x128x128, .f32⟩
  | 73 => ⟨S1x4x1x128, .f32⟩
  | 74 => ⟨S4x1x128, .f32⟩
  | 75 => ⟨S1x4x128x128, .f32⟩
  | 76 => ⟨S4x128x128, .f32⟩
  | 77 => ⟨S4x128x128, .f32⟩
  | 78 => ⟨S4x128x128, .f32⟩
  | 79 => ⟨S4x128x128, .f32⟩
  | 80 => ⟨S1x4x1x128, .f32⟩
  | 81 => ⟨S4x1x128, .f32⟩
  | 82 => ⟨S1x4x128x128, .f32⟩
  | 83 => ⟨S4x128x128, .f32⟩
  | 84 => ⟨S4x128x128, .f32⟩
  | 85 => ⟨S4x128x128, .f32⟩
  | 86 => ⟨S4x128x128, .f32⟩
  | 87 => ⟨S1x4x1x128, .f32⟩
  | 88 => ⟨S4x1x128, .f32⟩
  | 89 => ⟨S1x4x128x128, .f32⟩
  | 90 => ⟨S4x128x128, .f32⟩
  | 91 => ⟨S4x128x128, .f32⟩
  | 92 => ⟨S4x128x128, .f32⟩
  | 93 => ⟨S4x128x128, .f32⟩
  | 94 => ⟨S1x4x1x128, .f32⟩
  | 95 => ⟨S4x1x128, .f32⟩
  | 96 => ⟨S1x4x128x128, .f32⟩
  | 97 => ⟨S4x128x128, .f32⟩
  | 98 => ⟨S4x128x128, .f32⟩
  | 99 => ⟨S4x128x128, .f32⟩
  | 100 => ⟨S4x128x128, .f32⟩
  | 101 => ⟨S1x4x1x128, .f32⟩
  | 102 => ⟨S4x1x128, .f32⟩
  | 103 => ⟨S1x4x128x128, .f32⟩
  | 104 => ⟨S4x128x128, .f32⟩
  | 105 => ⟨S4x128x128, .f32⟩
  | 106 => ⟨S4x128x128, .f32⟩
  | 107 => ⟨S4x128x128, .f32⟩
  | 108 => ⟨S1x4x1x128, .f32⟩
  | 109 => ⟨S4x1x128, .f32⟩
  | 110 => ⟨S1x4x128x128, .f32⟩
  | 111 => ⟨S4x128x128, .f32⟩
  | 112 => ⟨S4x128x128, .f32⟩
  | 113 => ⟨S4x128x128, .f32⟩
  | 114 => ⟨S4x128x128, .f32⟩
  | 115 => ⟨S1x4x1x128, .f32⟩
  | 116 => ⟨S4x1x128, .f32⟩
  | 117 => ⟨S1x4x128x128, .f32⟩
  | 118 => ⟨S4x128x128, .f32⟩
  | 119 => ⟨S4x128x128, .f32⟩
  | 120 => ⟨S4x128x128, .f32⟩
  | 121 => ⟨S4x128x128, .f32⟩
  | 122 => ⟨S1x4x1x128, .f32⟩
  | 123 => ⟨S4x1x128, .f32⟩
  | 124 => ⟨S1x4x128x128, .f32⟩
  | 125 => ⟨S4x128x128, .f32⟩
  | 126 => ⟨S4x128x128, .f32⟩
  | 127 => ⟨S4x128x128, .f32⟩
  | _ => ⟨S2048x4608, .f32⟩

abbrev hbmTy0_2 (i : Nat) : BufTy := match i % 128 with
  | 0 => ⟨S4x128x128, .f32⟩
  | 1 => ⟨S1x4x1x128, .f32⟩
  | 2 => ⟨S4x1x128, .f32⟩
  | 3 => ⟨S1x4x128x128, .f32⟩
  | 4 => ⟨S4x128x128, .f32⟩
  | 5 => ⟨S4x128x128, .f32⟩
  | 6 => ⟨S4x128x128, .f32⟩
  | 7 => ⟨S4x128x128, .f32⟩
  | 8 => ⟨S1x4x1x128, .f32⟩
  | 9 => ⟨S4x1x128, .f32⟩
  | 10 => ⟨S1x4x128x128, .f32⟩
  | 11 => ⟨S4x128x128, .f32⟩
  | 12 => ⟨S4x128x128, .f32⟩
  | 13 => ⟨S4x128x128, .f32⟩
  | 14 => ⟨S4x128x128, .f32⟩
  | 15 => ⟨S1x4x1x128, .f32⟩
  | 16 => ⟨S4x1x128, .f32⟩
  | 17 => ⟨S1x4x128x128, .f32⟩
  | 18 => ⟨S4x128x128, .f32⟩
  | 19 => ⟨S4x128x128, .f32⟩
  | 20 => ⟨S4x128x128, .f32⟩
  | 21 => ⟨S4x128x128, .f32⟩
  | 22 => ⟨S1x4x1x128, .f32⟩
  | 23 => ⟨S4x1x128, .f32⟩
  | 24 => ⟨S1x4x128x128, .f32⟩
  | 25 => ⟨S4x128x128, .f32⟩
  | 26 => ⟨S4x128x128, .f32⟩
  | 27 => ⟨S4x128x128, .f32⟩
  | 28 => ⟨S4x128x128, .f32⟩
  | 29 => ⟨S1x4x1x128, .f32⟩
  | 30 => ⟨S4x1x128, .f32⟩
  | 31 => ⟨S1x4x128x128, .f32⟩
  | 32 => ⟨S4x128x128, .f32⟩
  | 33 => ⟨S4x128x128, .f32⟩
  | 34 => ⟨S4x128x128, .f32⟩
  | 35 => ⟨S4x128x128, .f32⟩
  | 36 => ⟨S1x4x1x128, .f32⟩
  | 37 => ⟨S4x1x128, .f32⟩
  | 38 => ⟨S1x4x128x128, .f32⟩
  | 39 => ⟨S4x128x128, .f32⟩
  | 40 => ⟨S4x128x128, .f32⟩
  | 41 => ⟨S4x128x128, .f32⟩
  | 42 => ⟨S4x128x128, .f32⟩
  | 43 => ⟨S1x4x1x128, .f32⟩
  | 44 => ⟨S4x1x128, .f32⟩
  | 45 => ⟨S1x4x128x128, .f32⟩
  | 46 => ⟨S4x128x128, .f32⟩
  | 47 => ⟨S4x128x128, .f32⟩
  | 48 => ⟨S4x128x128, .f32⟩
  | 49 => ⟨S4x128x128, .f32⟩
  | 50 => ⟨S1x4x1x128, .f32⟩
  | 51 => ⟨S4x1x128, .f32⟩
  | 52 => ⟨S1x4x128x128, .f32⟩
  | 53 => ⟨S4x128x128, .f32⟩
  | 54 => ⟨S4x128x128, .f32⟩
  | 55 => ⟨S4x128x128, .f32⟩
  | 56 => ⟨S4x128x128, .f32⟩
  | 57 => ⟨S1x4x1x128, .f32⟩
  | 58 => ⟨S4x1x128, .f32⟩
  | 59 => ⟨S1x4x128x128, .f32⟩
  | 60 => ⟨S4x128x128, .f32⟩
  | 61 => ⟨S4x128x128, .f32⟩
  | 62 => ⟨S4x128x128, .f32⟩
  | 63 => ⟨S4x128x128, .f32⟩
  | 64 => ⟨S1x4x1x128, .f32⟩
  | 65 => ⟨S4x1x128, .f32⟩
  | 66 => ⟨S1x4x128x128, .f32⟩
  | 67 => ⟨S4x128x128, .f32⟩
  | 68 => ⟨S4x128x128, .f32⟩
  | 69 => ⟨S4x128x128, .f32⟩
  | 70 => ⟨S4x128x128, .f32⟩
  | 71 => ⟨S1x4x1x128, .f32⟩
  | 72 => ⟨S4x1x128, .f32⟩
  | 73 => ⟨S1x4x128x128, .f32⟩
  | 74 => ⟨S4x128x128, .f32⟩
  | 75 => ⟨S4x128x128, .f32⟩
  | 76 => ⟨S4x128x128, .f32⟩
  | 77 => ⟨S4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S1x4x128x128, .f32⟩
  | 109 => ⟨S1x4x128x128, .f32⟩
  | 110 => ⟨S16x4x128x128, .f32⟩
  | 111 => ⟨S16x4x128x128, .f32⟩
  | 112 => ⟨S32x4x128x128, .f32⟩
  | 113 => ⟨S32x4x128x128, .f32⟩
  | 114 => ⟨S32x4x64x64, .f32⟩
  | 115 => ⟨S_, .f32⟩
  | 116 => ⟨S_, .f32⟩
  | 117 => ⟨S32x4x64x64, .i1⟩
  | 118 => ⟨S32x4x64x64, .f32⟩
  | 119 => ⟨S32x4x64x64, .f32⟩
  | 120 => ⟨S32x4x64x64, .bf16⟩
  | 121 => ⟨S32x4x128x64, .f32⟩
  | 122 => ⟨S32x64x4x128, .f32⟩
  | 123 => ⟨S32x4x128x128, .bf16⟩
  | 124 => ⟨S32x4x128x64, .f32⟩
  | 125 => ⟨S32x64x4x128, .f32⟩
  | 126 => ⟨S32x64x4x128, .f32⟩
  | 127 => ⟨S2048x512, .f32⟩
  | _ => ⟨S2048x4608, .f32⟩

abbrev hbmTy0_3 (i : Nat) : BufTy := match i % 128 with
  | 0 => ⟨S1x512, .f32⟩
  | 1 => ⟨S1x512, .f32⟩
  | 2 => ⟨S1x512, .f32⟩
  | 3 => ⟨S1x512, .f32⟩
  | 4 => ⟨S128x4, .f32⟩
  | 5 => ⟨S2048x1536, .bf16⟩
  | 6 => ⟨S2048x4608, .bf16⟩
  | 7 => ⟨S8x512, .f32⟩
  | 8 => ⟨S4x128x128, .f32⟩
  | 9 => ⟨S128x4, .f32⟩
  | _ => ⟨S2048x4608, .f32⟩

abbrev hbmTy (i : Nat) : BufTy := match i / 128 with
  | 0 => hbmTy0_0 i
  | 1 => hbmTy0_1 i
  | 2 => hbmTy0_2 i
  | 3 => hbmTy0_3 i
  | _ => ⟨S2048x4608, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S256x1536, .bf16⟩
  | .local _ .vmem, ⟨23, _⟩ => ⟨S256x1536, .bf16⟩
  | .local _ .vmem, ⟨24, _⟩ => ⟨S256x512, .f32⟩
  | .local _ .vmem, ⟨25, _⟩ => ⟨S256x512, .f32⟩
  | .local _ .vmem, ⟨26, _⟩ => ⟨S4x4x128x128, .f32⟩
  | .local _ .vmem, ⟨27, _⟩ => ⟨S4x4x128x128, .f32⟩
  | .local _ .vmem, ⟨28, _⟩ => ⟨S1x512, .f32⟩
  | .local _ .vmem, ⟨29, _⟩ => ⟨S1x512, .f32⟩
  | .local _ .vmem, ⟨30, _⟩ => ⟨S3x512, .f32⟩
  | .local _ .vmem, ⟨31, _⟩ => ⟨S1x512, .f32⟩
  | .local _ .vmem, ⟨32, _⟩ => ⟨S1x512, .f32⟩
  | .local _ .vmem, ⟨33, _⟩ => ⟨S4x128x128, .f32⟩
  | .local _ .vmem, ⟨34, _⟩ => ⟨S128x4, .f32⟩
  | .local _ .vmem, ⟨35, _⟩ => ⟨S256x4608, .bf16⟩
  | .local _ .vmem, ⟨36, _⟩ => ⟨S256x4608, .bf16⟩
  | .local _ .vmem, ⟨37, _⟩ => ⟨S8x512, .f32⟩
  | .local _ .vmem, ⟨38, _⟩ => ⟨S4x128x128, .f32⟩
  | .local _ .vmem, ⟨39, _⟩ => ⟨S128x4, .f32⟩
  | .local _ .vmem, ⟨40, _⟩ => ⟨S4x128x128, .f32⟩
  | .local _ .vmem, ⟨41, _⟩ => ⟨S264x512, .f32⟩
  | .local _ .vmem, ⟨42, _⟩ => ⟨S264x512, .f32⟩
  | .local _ .vmem, ⟨43, _⟩ => ⟨S128x512, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_0 : Ref sig .tc := ⟨.hbm, 61, rfl⟩
abbrev main_v36 : Ref sig .tc := ⟨.hbm, 62, rfl⟩
abbrev main_v37 : Ref sig .tc := ⟨.hbm, 63, rfl⟩
abbrev main_cst_1 : Ref sig .tc := ⟨.hbm, 64, rfl⟩
abbrev main_v38 : Ref sig .tc := ⟨.hbm, 65, rfl⟩
abbrev main_v39 : Ref sig .tc := ⟨.hbm, 66, rfl⟩
abbrev main_cst_2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call1_call0_cst : Ref sig .tc := ⟨.hbm, 73, rfl⟩
abbrev main_call1_call0_v0 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_3 : Ref sig .tc := ⟨.hbm, 79, rfl⟩
abbrev main_v49 : Ref sig .tc := ⟨.hbm, 80, rfl⟩
abbrev main_v50 : Ref sig .tc := ⟨.hbm, 81, rfl⟩
abbrev main_cst_4 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_5 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_6 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_v306 : Ref sig .tc := ⟨.hbm, 340, rfl⟩
abbrev main_v307 : Ref sig .tc := ⟨.hbm, 341, rfl⟩
abbrev main_v308 : Ref sig .tc := ⟨.hbm, 342, rfl⟩
abbrev main_v309 : Ref sig .tc := ⟨.hbm, 343, rfl⟩
abbrev main_v310 : Ref sig .tc := ⟨.hbm, 344, rfl⟩
abbrev main_v311 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_v325 : Ref sig .tc := ⟨.hbm, 359, rfl⟩
abbrev main_v326 : Ref sig .tc := ⟨.hbm, 360, rfl⟩
abbrev main_v327 : Ref sig .tc := ⟨.hbm, 361, rfl⟩
abbrev main_v328 : Ref sig .tc := ⟨.hbm, 362, rfl⟩
abbrev main_v329 : Ref sig .tc := ⟨.hbm, 363, rfl⟩
abbrev main_v330 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_cst_7 : Ref sig .tc := ⟨.hbm, 371, rfl⟩
abbrev main_call2_v0 : Ref sig .tc := ⟨.hbm, 372, rfl⟩
abbrev main_call2_v1 : Ref sig .tc := ⟨.hbm, 373, rfl⟩
abbrev main_call2_v2 : Ref sig .tc := ⟨.hbm, 374, rfl⟩
abbrev main_v337 : Ref sig .tc := ⟨.hbm, 375, rfl⟩
abbrev main_v338 : Ref sig .tc := ⟨.hbm, 376, rfl⟩
abbrev main_v339 : Ref sig .tc := ⟨.hbm, 377, rfl⟩
abbrev main_v340 : Ref sig .tc := ⟨.hbm, 378, rfl⟩
abbrev main_v341 : Ref sig .tc := ⟨.hbm, 379, rfl⟩
abbrev main_v342 : Ref sig .tc := ⟨.hbm, 380, rfl⟩
abbrev main_v343 : Ref sig .tc := ⟨.hbm, 381, rfl⟩
abbrev main_v344 : Ref sig .tc := ⟨.hbm, 382, rfl⟩
abbrev main_v345 : Ref sig .tc := ⟨.hbm, 383, rfl⟩
abbrev main_v346 : Ref sig .tc := ⟨.hbm, 384, rfl⟩
abbrev main_v347 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩
abbrev main_v352_0 : Ref sig .tc := ⟨.hbm, 390, rfl⟩
abbrev main_v352_1 : Ref sig .tc := ⟨.hbm, 391, rfl⟩
abbrev main_v352_2 : Ref sig .tc := ⟨.hbm, 392, rfl⟩
abbrev main_v352_3 : Ref sig .tc := ⟨.hbm, 393, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem21_1 : DmaSem sig := 36
abbrev cc0_sem22_0 : DmaSem sig := 37
abbrev cc0_sem23_0 : DmaSem sig := 38
abbrev cc0_sem24_0 : DmaSem sig := 39

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_1010 : BitVec 32 := 7#32
  let v2889 : BitVec 1 := Scalar.cmpi .eq arg0 c7_i32_1010
  let v2890 : BitVec 32 := Scalar.extui v2889
  let c0_i32_1011 : BitVec 32 := 0#32
  let v2891 : BitVec 1 := Scalar.cmpi .ne v2890 c0_i32_1011
  v2891

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c5_i32 : BitVec 32 := 5#32
  let c0_i32 : BitVec 32 := 0#32
  ![v0.toNat, c5_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c6_i32 : BitVec 32 := 6#32
  let c0_i32 : BitVec 32 := 0#32
  ![v0.toNat, c6_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c7_i32_0 : BitVec 32 := 7#32
  let c0_i32 : BitVec 32 := 0#32
  ![v0.toNat, c7_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let c0_i32 : BitVec 32 := 0#32
  ![v0.toNat, c8_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c6_i32 : BitVec 32 := 6#32
  let c0_i32_0 : BitVec 32 := 0#32
  ![v3.toNat, c6_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x4608 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x4 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== MxbKernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== MxbReferenceIdeal.lean ====
abbrev S2048x4608 : Shape := ⟨2, ![2048, 4608]⟩
abbrev S512 : Shape := ⟨1, ![512]⟩
abbrev S3x512 : Shape := ⟨2, ![3, 512]⟩
abbrev S4x128x128 : Shape := ⟨3, ![4, 128, 128]⟩
abbrev S4x128 : Shape := ⟨2, ![4, 128]⟩
abbrev S2048x1536 : Shape := ⟨2, ![2048, 1536]⟩
abbrev S2048x512 : Shape := ⟨2, ![2048, 512]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S2048 : Shape := ⟨1, ![2048]⟩
abbrev S2048x1 : Shape := ⟨2, ![2048, 1]⟩
abbrev S16x128x4x128 : Shape := ⟨4, ![16, 128, 4, 128]⟩
abbrev S128x128 : Shape := ⟨2, ![128, 128]⟩
abbrev S1x128x128 : Shape := ⟨3, ![1, 128, 128]⟩
abbrev S4x16x128x128 : Shape := ⟨4, ![4, 16, 128, 128]⟩
abbrev S128x4 : Shape := ⟨2, ![128, 4]⟩
abbrev S128x4x1 : Shape := ⟨3, ![128, 4, 1]⟩
abbrev S1x128x4x1 : Shape := ⟨4, ![1, 128, 4, 1]⟩
abbrev S8x512 : Shape := ⟨2, ![8, 512]⟩

abbrev nBuf : Space → Nat
  | .hbm => 328
  | .vmem => 0
  | .smem => 0
  | _ => 0

abbrev hbmTy0_0 (i : Nat) : BufTy := match i % 128 with
  | 0 => ⟨S2048x4608, .f32⟩
  | 1 => ⟨S512, .f32⟩
  | 2 => ⟨S512, .f32⟩
  | 3 => ⟨S3x512, .f32⟩
  | 4 => ⟨S512, .f32⟩
  | 5 => ⟨S512, .f32⟩
  | 6 => ⟨S4x128x128, .f32⟩
  | 7 => ⟨S4x128, .f32⟩
  | 8 => ⟨S2048x1536, .f32⟩
  | 9 => ⟨S2048x512, .f32⟩
  | 10 => ⟨S2048x512, .f32⟩
  | 11 => ⟨S2048x512, .f32⟩
  | 12 => ⟨S2048x512, .f32⟩
  | 13 => ⟨S2048x512, .f32⟩
  | 14 => ⟨S2048x512, .f32⟩
  | 15 => ⟨S2048x512, .f32⟩
  | 16 => ⟨S2048x512, .f32⟩
  | 17 => ⟨S_, .f32⟩
  | 18 => ⟨S2x512, .f32⟩
  | 19 => ⟨S2050x512, .f32⟩
  | 20 => ⟨S_, .f32⟩
  | 21 => ⟨S2x512, .f32⟩
  | 22 => ⟨S1x512, .f32⟩
  | 23 => ⟨S512, .f32⟩
  | 24 => ⟨S2048x512, .f32⟩
  | 25 => ⟨S1x512, .f32⟩
  | 26 => ⟨S2048x512, .f32⟩
  | 27 => ⟨S2048x512, .f32⟩
  | 28 => ⟨S1x512, .f32⟩
  | 29 => ⟨S512, .f32⟩
  | 30 => ⟨S2048x512, .f32⟩
  | 31 => ⟨S1x512, .f32⟩
  | 32 => ⟨S2048x512, .f32⟩
  | 33 => ⟨S2048x512, .f32⟩
  | 34 => ⟨S2048x512, .f32⟩
  | 35 => ⟨S1x512, .f32⟩
  | 36 => ⟨S512, .f32⟩
  | 37 => ⟨S2048x512, .f32⟩
  | 38 => ⟨S1x512, .f32⟩
  | 39 => ⟨S2048x512, .f32⟩
  | 40 => ⟨S2048x512, .f32⟩
  | 41 => ⟨S2048x512, .f32⟩
  | 42 => ⟨S2048x512, .f32⟩
  | 43 => ⟨S2048x512, .f32⟩
  | 44 => ⟨S2048x512, .f32⟩
  | 45 => ⟨S2048x512, .f32⟩
  | 46 => ⟨S_, .f32⟩
  | 47 => ⟨S2048x512, .f32⟩
  | 48 => ⟨S2048x512, .f32⟩
  | 49 => ⟨S_, .f32⟩
  | 50 => ⟨S2048x512, .f32⟩
  | 51 => ⟨S2048x512, .f32⟩
  | 52 => ⟨S_, .f32⟩
  | 53 => ⟨S2048x512, .f32⟩
  | 54 => ⟨S2048x512, .f32⟩
  | 55 => ⟨S2048x512, .f32⟩
  | 56 => ⟨S_, .f32⟩
  | 57 => ⟨S2048x512, .f32⟩
  | 58 => ⟨S2048x512, .f32⟩
  | 59 => ⟨S2048x512, .f32⟩
  | 60 => ⟨S_, .f32⟩
  | 61 => ⟨S2048x512, .f32⟩
  | 62 => ⟨S2048x512, .f32⟩
  | 63 => ⟨S_, .f32⟩
  | 64 => ⟨S2048x512, .f32⟩
  | 65 => ⟨S2048x512, .f32⟩
  | 66 => ⟨S2048x512, .f32⟩
  | 67 => ⟨S_, .f32⟩
  | 68 => ⟨S2048x512, .f32⟩
  | 69 => ⟨S2048x512, .f32⟩
  | 70 => ⟨S_, .f32⟩
  | 71 => ⟨S2048x512, .f32⟩
  | 72 => ⟨S2048x512, .f32⟩
  | 73 => ⟨S2048x512, .f32⟩
  | 74 => ⟨S2048x512, .f32⟩
  | 75 => ⟨S2048x512, .f32⟩
  | 76 => ⟨S2048x512, .f32⟩
  | 77 => ⟨S_, .f32⟩
  | 78 => ⟨S2048x512, .f32⟩
  | 79 => ⟨S2048x512, .f32⟩
  | 80 => ⟨S_, .f32⟩
  | 81 => ⟨S2048x512, .f32⟩
  | 82 => ⟨S2048x512, .f32⟩
  | 83 => ⟨S_, .f32⟩
  | 84 => ⟨S2048x512, .f32⟩
  | 85 => ⟨S2048x512, .f32⟩
  | 86 => ⟨S2048x512, .f32⟩
  | 87 => ⟨S_, .f32⟩
  | 88 => ⟨S2048x512, .f32⟩
  | 89 => ⟨S2048x512, .f32⟩
  | 90 => ⟨S2048x512, .f32⟩
  | 91 => ⟨S_, .f32⟩
  | 92 => ⟨S2048x512, .f32⟩
  | 93 => ⟨S2048x512, .f32⟩
  | 94 => ⟨S_, .f32⟩
  | 95 => ⟨S2048x512, .f32⟩
  | 96 => ⟨S2048x512, .f32⟩
  | 97 => ⟨S2048x512, .f32⟩
  | 98 => ⟨S_, .f32⟩
  | 99 => ⟨S2048x512, .f32⟩
  | 100 => ⟨S2048x512, .f32⟩
  | 101 => ⟨S_, .f32⟩
  | 102 => ⟨S2048x512, .f32⟩
  | 103 => ⟨S2048x512, .f32⟩
  | 104 => ⟨S2048x512, .f32⟩
  | 105 => ⟨S_, .f32⟩
  | 106 => ⟨S2048, .f32⟩
  | 107 => ⟨S2048x1, .f32⟩
  | 108 => ⟨S_, .f32⟩
  | 109 => ⟨S2048x1, .f32⟩
  | 110 => ⟨S2048x1, .f32⟩
  | 111 => ⟨S2048x512, .f32⟩
  | 112 => ⟨S2048x512, .f32⟩
  | 113 => ⟨S2048x512, .f32⟩
  | 114 => ⟨S_, .f32⟩
  | 115 => ⟨S2048, .f32⟩
  | 116 => ⟨S2048x1, .f32⟩
  | 117 => ⟨S_, .f32⟩
  | 118 => ⟨S2048x1, .f32⟩
  | 119 => ⟨S2048x1, .f32⟩
  | 120 => ⟨S_, .f32⟩
  | 121 => ⟨S2048x1, .f32⟩
  | 122 => ⟨S2048x1, .f32⟩
  | 123 => ⟨S2048x1, .f32⟩
  | 124 => ⟨S2048x1, .f32⟩
  | 125 => ⟨S_, .f32⟩
  | 126 => ⟨S2048x1, .f32⟩
  | 127 => ⟨S2048x1, .f32⟩
  | _ => ⟨S2048x4608, .f32⟩

abbrev hbmTy0_1 (i : Nat) : BufTy := match i % 128 with
  | 0 => ⟨S2048x512, .f32⟩
  | 1 => ⟨S2048x512, .f32⟩
  | 2 => ⟨S1x512, .f32⟩
  | 3 => ⟨S2048x512, .f32⟩
  | 4 => ⟨S2048x512, .f32⟩
  | 5 => ⟨S1x512, .f32⟩
  | 6 => ⟨S2048x512, .f32⟩
  | 7 => ⟨S2048x512, .f32⟩
  | 8 => ⟨S16x128x4x128, .f32⟩
  | 9 => ⟨S_, .f32⟩
  | 10 => ⟨S128x128, .f32⟩
  | 11 => ⟨S128x128, .i32⟩
  | 12 => ⟨S_, .i32⟩
  | 13 => ⟨S128x128, .i32⟩
  | 14 => ⟨S128x128, .i32⟩
  | 15 => ⟨S128x128, .i32⟩
  | 16 => ⟨S128x128, .i1⟩
  | 17 => ⟨S_, .f32⟩
  | 18 => ⟨S128x128, .f32⟩
  | 19 => ⟨S128x128, .f32⟩
  | 20 => ⟨S1x128x128, .f32⟩
  | 21 => ⟨S4x128x128, .f32⟩
  | 22 => ⟨S4x128x128, .f32⟩
  | 23 => ⟨S4x16x128x128, .f32⟩
  | 24 => ⟨S16x128x4x128, .f32⟩
  | 25 => ⟨S128x4, .f32⟩
  | 26 => ⟨S128x4x1, .f32⟩
  | 27 => ⟨S1x128x4x1, .f32⟩
  | 28 => ⟨S16x128x4x128, .f32⟩
  | 29 => ⟨S16x128x4x128, .f32⟩
  | 30 => ⟨S2048x512, .f32⟩
  | 31 => ⟨S2048x512, .f32⟩
  | 32 => ⟨S2048x512, .f32⟩
  | 33 => ⟨S2048x512, .f32⟩
  | 34 => ⟨S16x128x4x128, .f32⟩
  | 35 => ⟨S_, .f32⟩
  | 36 => ⟨S128x4, .f32⟩
  | 37 => ⟨S1x128x4x1, .f32⟩
  | 38 => ⟨S_, .f32⟩
  | 39 => ⟨S128x4, .f32⟩
  | 40 => ⟨S128x4x1, .f32⟩
  | 41 => ⟨S_, .f32⟩
  | 42 => ⟨S128x4, .f32⟩
  | 43 => ⟨S4x128, .f32⟩
  | 44 => ⟨S4x16x128x128, .f32⟩
  | 45 => ⟨S4x128x128, .f32⟩
  | 46 => ⟨S4x16x128x128, .f32⟩
  | 47 => ⟨S16x128x4x128, .f32⟩
  | 48 => ⟨S4x128x128, .f32⟩
  | 49 => ⟨S4x128x128, .f32⟩
  | 50 => ⟨S2048x512, .f32⟩
  | 51 => ⟨S_, .f32⟩
  | 52 => ⟨S512, .f32⟩
  | 53 => ⟨S1x512, .f32⟩
  | 54 => ⟨S_, .f32⟩
  | 55 => ⟨S512, .f32⟩
  | 56 => ⟨S2048x512, .f32⟩
  | 57 => ⟨S_, .f32⟩
  | 58 => ⟨S512, .f32⟩
  | 59 => ⟨S1x512, .f32⟩
  | 60 => ⟨S2048x512, .f32⟩
  | 61 => ⟨S2048x512, .f32⟩
  | 62 => ⟨S_, .f32⟩
  | 63 => ⟨S512, .f32⟩
  | 64 => ⟨S2048x512, .f32⟩
  | 65 => ⟨S_, .f32⟩
  | 66 => ⟨S2048, .f32⟩
  | 67 => ⟨S2048x1, .f32⟩
  | 68 => ⟨S2048x512, .f32⟩
  | 69 => ⟨S2048x512, .f32⟩
  | 70 => ⟨S2048x1, .f32⟩
  | 71 => ⟨S_, .f32⟩
  | 72 => ⟨S2048x1, .f32⟩
  | 73 => ⟨S2048x1, .f32⟩
  | 74 => ⟨S_, .f32⟩
  | 75 => ⟨S2048, .f32⟩
  | 76 => ⟨S2048x512, .f32⟩
  | 77 => ⟨S2048x512, .f32⟩
  | 78 => ⟨S2048x512, .f32⟩
  | 79 => ⟨S2048x512, .f32⟩
  | 80 => ⟨S2048x512, .f32⟩
  | 81 => ⟨S2048x512, .f32⟩
  | 82 => ⟨S_, .f32⟩
  | 83 => ⟨S2048, .f32⟩
  | 84 => ⟨S2048x1, .f32⟩
  | 85 => ⟨S_, .f32⟩
  | 86 => ⟨S2048x1, .f32⟩
  | 87 => ⟨S2048x1, .f32⟩
  | 88 => ⟨S_, .f32⟩
  | 89 => ⟨S2048, .f32⟩
  | 90 => ⟨S2048x512, .f32⟩
  | 91 => ⟨S2048x512, .f32⟩
  | 92 => ⟨S2048x512, .f32⟩
  | 93 => ⟨S2048x512, .f32⟩
  | 94 => ⟨S_, .f32⟩
  | 95 => ⟨S2048x512, .f32⟩
  | 96 => ⟨S2048x512, .f32⟩
  | 97 => ⟨S2048x512, .f32⟩
  | 98 => ⟨S_, .f32⟩
  | 99 => ⟨S2048x512, .f32⟩
  | 100 => ⟨S2048x512, .f32⟩
  | 101 => ⟨S2048x512, .f32⟩
  | 102 => ⟨S_, .f32⟩
  | 103 => ⟨S2048x512, .f32⟩
  | 104 => ⟨S2048x512, .f32⟩
  | 105 => ⟨S_, .f32⟩
  | 106 => ⟨S2048x512, .f32⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S_, .f32⟩
  | 113 => ⟨S2048x512, .f32⟩
  | 114 => ⟨S2048x512, .f32⟩
  | 115 => ⟨S2048x512, .f32⟩
  | 116 => ⟨S_, .f32⟩
  | 117 => ⟨S2048x512, .f32⟩
  | 118 => ⟨S2048x512, .f32⟩
  | 119 => ⟨S2048x512, .f32⟩
  | 120 => ⟨S_, .f32⟩
  | 121 => ⟨S2048x512, .f32⟩
  | 122 => ⟨S2048x512, .f32⟩
  | 123 => ⟨S_, .f32⟩
  | 124 => ⟨S2048x512, .f32⟩
  | 125 => ⟨S2048x512, .f32⟩
  | 126 => ⟨S2048x512, .f32⟩
  | 127 => ⟨S2048x512, .f32⟩
  | _ => ⟨S2048x4608, .f32⟩

abbrev hbmTy0_2 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S2048x512, .f32⟩
  | 5 => ⟨S_, .f32⟩
  | 6 => ⟨S512, .f32⟩
  | 7 => ⟨S1x512, .f32⟩
  | 8 => ⟨S_, .f32⟩
  | 9 => ⟨S512, .f32⟩
  | 10 => ⟨S_, .f32⟩
  | 11 => ⟨S2050x512, .f32⟩
  | 12 => ⟨S1x512, .f32⟩
  | 13 => ⟨S_, .f32⟩
  | 14 => ⟨S3x512, .f32⟩
  | 15 => ⟨S2048x512, .f32⟩
  | 16 => ⟨S2048x512, .f32⟩
  | 17 => ⟨S2048x512, .f32⟩
  | 18 => ⟨S_, .f32⟩
  | 19 => ⟨S512, .f32⟩
  | 20 => ⟨S1x512, .f32⟩
  | 21 => ⟨S_, .f32⟩
  | 22 => ⟨S512, .f32⟩
  | 23 => ⟨S_, .f32⟩
  | 24 => ⟨S2050x512, .f32⟩
  | 25 => ⟨S2050x512, .f32⟩
  | 26 => ⟨S1x512, .f32⟩
  | 27 => ⟨S_, .f32⟩
  | 28 => ⟨S3x512, .f32⟩
  | 29 => ⟨S3x512, .f32⟩
  | 30 => ⟨S2048x512, .f32⟩
  | 31 => ⟨S2048x512, .f32⟩
  | 32 => ⟨S2048x512, .f32⟩
  | 33 => ⟨S_, .f32⟩
  | 34 => ⟨S512, .f32⟩
  | 35 => ⟨S1x512, .f32⟩
  | 36 => ⟨S_, .f32⟩
  | 37 => ⟨S512, .f32⟩
  | 38 => ⟨S_, .f32⟩
  | 39 => ⟨S2050x512, .f32⟩
  | 40 => ⟨S2050x512, .f32⟩
  | 41 => ⟨S1x512, .f32⟩
  | 42 => ⟨S_, .f32⟩
  | 43 => ⟨S3x512, .f32⟩
  | 44 => ⟨S3x512, .f32⟩
  | 45 => ⟨S2x512, .f32⟩
  | 46 => ⟨S2048x512, .f32⟩
  | 47 => ⟨S2048x512, .f32⟩
  | 48 => ⟨S2048x512, .f32⟩
  | 49 => ⟨S_, .f32⟩
  | 50 => ⟨S2048x4608, .f32⟩
  | 51 => ⟨S_, .f32⟩
  | 52 => ⟨S2048x4608, .f32⟩
  | 53 => ⟨S2048x4608, .f32⟩
  | 54 => ⟨S_, .f32⟩
  | 55 => ⟨S2048x4608, .f32⟩
  | 56 => ⟨S2048x4608, .f32⟩
  | 57 => ⟨S_, .f32⟩
  | 58 => ⟨S2048x4608, .f32⟩
  | 59 => ⟨S2048x4608, .f32⟩
  | 60 => ⟨S_, .f32⟩
  | 61 => ⟨S2048x4608, .f32⟩
  | 62 => ⟨S2048x4608, .f32⟩
  | 63 => ⟨S_, .f32⟩
  | 64 => ⟨S2x512, .f32⟩
  | 65 => ⟨S1x512, .f32⟩
  | 66 => ⟨S1x512, .f32⟩
  | 67 => ⟨S_, .f32⟩
  | 68 => ⟨S1x512, .f32⟩
  | 69 => ⟨S8x512, .f32⟩
  | 70 => ⟨S2048x4608, .bf16⟩
  | 71 => ⟨S128x4, .f32⟩
  | _ => ⟨S2048x4608, .f32⟩

abbrev hbmTy (i : Nat) : BufTy := match i / 128 with
  | 0 => hbmTy0_0 i
  | 1 => hbmTy0_1 i
  | 2 => hbmTy0_2 i
  | _ => ⟨S2048x4608, .f32⟩

abbrev bufTy : (tb : Table) → Fin (tcTables nBuf tb) → BufTy
  | .hbm, ⟨i, _⟩ => hbmTy i
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_cst_18 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_19 : Ref sig .tc := ⟨.hbm, 114, rfl⟩
abbrev main_v85 : Ref sig .tc := ⟨.hbm, 115, rfl⟩
abbrev main_v86 : Ref sig .tc := ⟨.hbm, 116, rfl⟩
abbrev main_cst_20 : Ref sig .tc := ⟨.hbm, 117, rfl⟩
abbrev main_v87 : Ref sig .tc := ⟨.hbm, 118, rfl⟩
abbrev main_v88 : Ref sig .tc := ⟨.hbm, 119, rfl⟩
abbrev main_cst_21 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_22 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_23 : Ref sig .tc := ⟨.hbm, 137, rfl⟩
abbrev main_v104 : Ref sig .tc := ⟨.hbm, 138, rfl⟩
abbrev main_call0_v0 : Ref sig .tc := ⟨.hbm, 139, rfl⟩
abbrev main_call0_c : Ref sig .tc := ⟨.hbm, 140, rfl⟩
abbrev main_call0_v1 : Ref sig .tc := ⟨.hbm, 141, rfl⟩
abbrev main_call0_v2 : Ref sig .tc := ⟨.hbm, 142, rfl⟩
abbrev main_call0_v3 : Ref sig .tc := ⟨.hbm, 143, rfl⟩
abbrev main_call0_v4 : Ref sig .tc := ⟨.hbm, 144, rfl⟩
abbrev main_call0_cst : Ref sig .tc := ⟨.hbm, 145, rfl⟩
abbrev main_call0_v5 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_24 : Ref sig .tc := ⟨.hbm, 163, rfl⟩
abbrev main_v121 : Ref sig .tc := ⟨.hbm, 164, rfl⟩
abbrev main_v122 : Ref sig .tc := ⟨.hbm, 165, rfl⟩
abbrev main_cst_25 : Ref sig .tc := ⟨.hbm, 166, rfl⟩
abbrev main_v123 : Ref sig .tc := ⟨.hbm, 167, rfl⟩
abbrev main_v124 : Ref sig .tc := ⟨.hbm, 168, rfl⟩
abbrev main_cst_26 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_27 : Ref sig .tc := ⟨.hbm, 179, rfl⟩
abbrev main_v134 : Ref sig .tc := ⟨.hbm, 180, rfl⟩
abbrev main_v135 : Ref sig .tc := ⟨.hbm, 181, rfl⟩
abbrev main_cst_28 : Ref sig .tc := ⟨.hbm, 182, rfl⟩
abbrev main_v136 : Ref sig .tc := ⟨.hbm, 183, rfl⟩
abbrev main_v137 : Ref sig .tc := ⟨.hbm, 184, rfl⟩
abbrev main_cst_29 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_30 : Ref sig .tc := ⟨.hbm, 190, rfl⟩
abbrev main_v142 : Ref sig .tc := ⟨.hbm, 191, rfl⟩
abbrev main_v143 : Ref sig .tc := ⟨.hbm, 192, rfl⟩
abbrev main_cst_31 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_32 : Ref sig .tc := ⟨.hbm, 199, rfl⟩
abbrev main_v149 : Ref sig .tc := ⟨.hbm, 200, rfl⟩
abbrev main_v150 : Ref sig .tc := ⟨.hbm, 201, rfl⟩
abbrev main_cst_33 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst_34 : Ref sig .tc := ⟨.hbm, 210, rfl⟩
abbrev main_v158 : Ref sig .tc := ⟨.hbm, 211, rfl⟩
abbrev main_v159 : Ref sig .tc := ⟨.hbm, 212, rfl⟩
abbrev main_cst_35 : Ref sig .tc := ⟨.hbm, 213, rfl⟩
abbrev main_v160 : Ref sig .tc := ⟨.hbm, 214, rfl⟩
abbrev main_v161 : Ref sig .tc := ⟨.hbm, 215, rfl⟩
abbrev main_cst_36 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_cst_37 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_cst_38 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_39 : Ref sig .tc := ⟨.hbm, 230, rfl⟩
abbrev main_v173 : Ref sig .tc := ⟨.hbm, 231, rfl⟩
abbrev main_v174 : Ref sig .tc := ⟨.hbm, 232, rfl⟩
abbrev main_cst_40 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_cst_41 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_cst_42 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_cst_43 : Ref sig .tc := ⟨.hbm, 248, rfl⟩
abbrev main_v187 : Ref sig .tc := ⟨.hbm, 249, rfl⟩
abbrev main_v188 : Ref sig .tc := ⟨.hbm, 250, rfl⟩
abbrev main_cst_44 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_cst_45 : Ref sig .tc := ⟨.hbm, 261, rfl⟩
abbrev main_v198 : Ref sig .tc := ⟨.hbm, 262, rfl⟩
abbrev main_v199 : Ref sig .tc := ⟨.hbm, 263, rfl⟩
abbrev main_cst_46 : Ref sig .tc := ⟨.hbm, 264, rfl⟩
abbrev main_v200 : Ref sig .tc := ⟨.hbm, 265, rfl⟩
abbrev main_cst_47 : Ref sig .tc := ⟨.hbm, 266, rfl⟩
abbrev main_v201 : Ref sig .tc := ⟨.hbm, 267, rfl⟩
abbrev main_v202 : Ref sig .tc := ⟨.hbm, 268, rfl⟩
abbrev main_cst_48 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_cst_49 : Ref sig .tc := ⟨.hbm, 274, rfl⟩
abbrev main_v207 : Ref sig .tc := ⟨.hbm, 275, rfl⟩
abbrev main_v208 : Ref sig .tc := ⟨.hbm, 276, rfl⟩
abbrev main_cst_50 : Ref sig .tc := ⟨.hbm, 277, rfl⟩
abbrev main_v209 : Ref sig .tc := ⟨.hbm, 278, rfl⟩
abbrev main_cst_51 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_cst_52 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_cst_53 : Ref sig .tc := ⟨.hbm, 289, rfl⟩
abbrev main_v218 : Ref sig .tc := ⟨.hbm, 290, rfl⟩
abbrev main_v219 : Ref sig .tc := ⟨.hbm, 291, rfl⟩
abbrev main_cst_54 : Ref sig .tc := ⟨.hbm, 292, rfl⟩
abbrev main_v220 : Ref sig .tc := ⟨.hbm, 293, rfl⟩
abbrev main_cst_55 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_cst_56 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_cst_57 : Ref sig .tc := ⟨.hbm, 305, rfl⟩
abbrev main_v230 : Ref sig .tc := ⟨.hbm, 306, rfl⟩
abbrev main_cst_58 : Ref sig .tc := ⟨.hbm, 307, rfl⟩
abbrev main_v231 : Ref sig .tc := ⟨.hbm, 308, rfl⟩
abbrev main_v232 : Ref sig .tc := ⟨.hbm, 309, rfl⟩
abbrev main_cst_59 : Ref sig .tc := ⟨.hbm, 310, rfl⟩
abbrev main_v233 : Ref sig .tc := ⟨.hbm, 311, rfl⟩
abbrev main_v234 : Ref sig .tc := ⟨.hbm, 312, rfl⟩
abbrev main_cst_60 : Ref sig .tc := ⟨.hbm, 313, rfl⟩
abbrev main_v235 : Ref sig .tc := ⟨.hbm, 314, rfl⟩
abbrev main_v236 : Ref sig .tc := ⟨.hbm, 315, rfl⟩
abbrev main_cst_61 : Ref sig .tc := ⟨.hbm, 316, rfl⟩
abbrev main_v237 : Ref sig .tc := ⟨.hbm, 317, rfl⟩
abbrev main_v238 : Ref sig .tc := ⟨.hbm, 318, rfl⟩
abbrev main_cst_62 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_cst_63 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩

abbrev nD : Nat := 1
abbrev τ : Topo := Topo.v7x

variable {F : FTy → Type} [FloatOps F]
-- ==== MxfKernel.lean ====
abbrev S2048x4608 : Shape := ⟨2, ![2048, 4608]⟩
abbrev S512 : Shape := ⟨1, ![512]⟩
abbrev S3x512 : Shape := ⟨2, ![3, 512]⟩
abbrev S4x128x128 : Shape := ⟨3, ![4, 128, 128]⟩
abbrev S4x128 : Shape := ⟨2, ![4, 128]⟩
abbrev S1x512 : Shape := ⟨2, ![1, 512]⟩
abbrev S128x4 : Shape := ⟨2, ![128, 4]⟩
abbrev S2048x1536 : Shape := ⟨2, ![2048, 1536]⟩
abbrev S2048x512 : Shape := ⟨2, ![2048, 512]⟩
abbrev S32x4x128x128 : Shape := ⟨4, ![32, 4, 128, 128]⟩
abbrev S256x512 : Shape := ⟨2, ![256, 512]⟩
abbrev S256x1536 : Shape := ⟨2, ![256, 1536]⟩
abbrev S4x4x128x128 : Shape := ⟨4, ![4, 4, 128, 128]⟩
abbrev S264x512 : Shape := ⟨2, ![264, 512]⟩
abbrev S8x512 : Shape := ⟨2, ![8, 512]⟩
abbrev S64x64 : Shape := ⟨2, ![64, 64]⟩
abbrev S64x1 : Shape := ⟨2, ![64, 1]⟩
abbrev S64x512 : Shape := ⟨2, ![64, 512]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x128 : Shape := ⟨2, ![1, 128]⟩
abbrev S64 : Shape := ⟨1, ![64]⟩
abbrev S128x512 : Shape := ⟨2, ![128, 512]⟩
abbrev S128 : Shape := ⟨1, ![128]⟩
abbrev S128x1 : Shape := ⟨2, ![128, 1]⟩

abbrev nBuf : Space → Nat
  | .hbm => 16
  | .vmem => 33
  | .smem => 0
  | _ => 0

abbrev bufTy : (tb : Table) → Fin (tcTables nBuf tb) → BufTy
  | .hbm, ⟨0, _⟩ => ⟨S2048x4608, .f32⟩
  | .hbm, ⟨1, _⟩ => ⟨S512, .f32⟩
  | .hbm, ⟨2, _⟩ => ⟨S512, .f32⟩
  | .hbm, ⟨3, _⟩ => ⟨S3x512, .f32⟩
  | .hbm, ⟨4, _⟩ => ⟨S512, .f32⟩
  | .hbm, ⟨5, _⟩ => ⟨S512, .f32⟩
  | .hbm, ⟨6, _⟩ => ⟨S4x128x128, .f32⟩
  | .hbm, ⟨7, _⟩ => ⟨S4x128, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S128x4, .f32⟩
  | .hbm, ⟨13, _⟩ => ⟨S2048x1536, .bf16⟩
  | .hbm, ⟨14, _⟩ => ⟨S2048x512, .f32⟩
  | .hbm, ⟨15, _⟩ => ⟨S32x4x128x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S1x512, .f32⟩
  | .local _ .vmem, ⟨19, _⟩ => ⟨S1x512, .f32⟩
  | .local _ .vmem, ⟨20, _⟩ => ⟨S3x512, .f32⟩
  | .local _ .vmem, ⟨21, _⟩ => ⟨S1x512, .f32⟩
  | .local _ .vmem, ⟨22, _⟩ => ⟨S1x512, .f32⟩
  | .local _ .vmem, ⟨23, _⟩ => ⟨S4x128x128, .f32⟩
  | .local _ .vmem, ⟨24, _⟩ => ⟨S128x4, .f32⟩
  | .local _ .vmem, ⟨25, _⟩ => ⟨S256x1536, .bf16⟩
  | .local _ .vmem, ⟨26, _⟩ => ⟨S256x1536, .bf16⟩
  | .local _ .vmem, ⟨27, _⟩ => ⟨S256x512, .f32⟩
  | .local _ .vmem, ⟨28, _⟩ => ⟨S256x512, .f32⟩
  | .local _ .vmem, ⟨29, _⟩ => ⟨S4x4x128x128, .f32⟩
  | .local _ .vmem, ⟨30, _⟩ => ⟨S4x4x128x128, .f32⟩
  | .local _ .vmem, ⟨31, _⟩ => ⟨S4x128x128, .f32⟩
  | .local _ .vmem, ⟨32, _⟩ => ⟨S264x512, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x4x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MxfReferenceIdeal.lean ====
abbrev S2048x4608 : Shape := ⟨2, ![2048, 4608]⟩
abbrev S512 : Shape := ⟨1, ![512]⟩
abbrev S3x512 : Shape := ⟨2, ![3, 512]⟩
abbrev S4x128x128 : Shape := ⟨3, ![4, 128, 128]⟩
abbrev S4x128 : Shape := ⟨2, ![4, 128]⟩
abbrev S2048x512 : Shape := ⟨2, ![2048, 512]⟩
abbrev S_ : Shape := ⟨0, ![]⟩
abbrev S1x512 : Shape := ⟨2, ![1, 512]⟩
abbrev S64x64 : Shape := ⟨2, ![64, 64]⟩
abbrev S64x64x1 : Shape := ⟨3, ![64, 64, 1]⟩
abbrev S32x64x4x128 : Shape := ⟨4, ![32, 64, 4, 128]⟩
abbrev S32x4x64x128 : Shape := ⟨4, ![32, 4, 64, 128]⟩
abbrev S1x4x64x128 : Shape := ⟨4, ![1, 4, 64, 128]⟩
abbrev S4x64x128 : Shape := ⟨3, ![4, 64, 128]⟩
abbrev S4x64x1x128 : Shape := ⟨4, ![4, 64, 1, 128]⟩
abbrev S4x1x64x128 : Shape := ⟨4, ![4, 1, 64, 128]⟩
abbrev S4x64x64x128 : Shape := ⟨4, ![4, 64, 64, 128]⟩
abbrev S4x64x64 : Shape := ⟨3, ![4, 64, 64]⟩
abbrev S4x1x128 : Shape := ⟨3, ![4, 1, 128]⟩
abbrev S4x128x1 : Shape := ⟨3, ![4, 128, 1]⟩
abbrev S2048x4x128 : Shape := ⟨3, ![2048, 4, 128]⟩
abbrev S2048x4 : Shape := ⟨2, ![2048, 4]⟩
abbrev S2048x4x1 : Shape := ⟨3, ![2048, 4, 1]⟩
abbrev S1x4x128 : Shape := ⟨3, ![1, 4, 128]⟩
abbrev S2x512 : Shape := ⟨2, ![2, 512]⟩
abbrev S2050x512 : Shape := ⟨2, ![2050, 512]⟩
abbrev S2048 : Shape := ⟨1, ![2048]⟩
abbrev S2048x1 : Shape := ⟨2, ![2048, 1]⟩
abbrev S16x128x4x128 : Shape := ⟨4, ![16, 128, 4, 128]⟩
abbrev S128x128 : Shape := ⟨2, ![128, 128]⟩
abbrev S1x128x128 : Shape := ⟨3, ![1, 128, 128]⟩
abbrev S4x16x128x128 : Shape := ⟨4, ![4, 16, 128, 128]⟩
abbrev S128x4 : Shape := ⟨2, ![128, 4]⟩
abbrev S128x4x1 : Shape := ⟨3, ![128, 4, 1]⟩
abbrev S1x128x4x1 : Shape := ⟨4, ![1, 128, 4, 1]⟩
abbrev S2048x1536 : Shape := ⟨2, ![2048, 1536]⟩

abbrev nBuf : Space → Nat
  | .hbm => 327
  | .vmem => 0
  | .smem => 0
  | _ => 0

abbrev hbmTy0_0 (i : Nat) : BufTy := match i % 128 with
  | 0 => ⟨S2048x4608, .f32⟩
  | 1 => ⟨S512, .f32⟩
  | 2 => ⟨S512, .f32⟩
  | 3 => ⟨S3x512, .f32⟩
  | 4 => ⟨S512, .f32⟩
  | 5 => ⟨S512, .f32⟩
  | 6 => ⟨S4x128x128, .f32⟩
  | 7 => ⟨S4x128, .f32⟩
  | 8 => ⟨S2048x512, .f32⟩
  | 9 => ⟨S2048x512, .f32⟩
  | 10 => ⟨S2048x512, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S_, .f32⟩
  | 17 => ⟨S2048x512, .f32⟩
  | 18 => ⟨S2048x512, .f32⟩
  | 19 => ⟨S2048x512, .f32⟩
  | 20 => ⟨S_, .f32⟩
  | 21 => ⟨S512, .f32⟩
  | 22 => ⟨S512, .f32⟩
  | 23 => ⟨S512, .f32⟩
  | 24 => ⟨S512, .f32⟩
  | 25 => ⟨S512, .f32⟩
  | 26 => ⟨S2048x512, .f32⟩
  | 27 => ⟨S_, .f32⟩
  | 28 => ⟨S2048x512, .f32⟩
  | 29 => ⟨S2048x512, .f32⟩
  | 30 => ⟨S2048x512, .f32⟩
  | 31 => ⟨S2048x512, .f32⟩
  | 32 => ⟨S2048x512, .i1⟩
  | 33 => ⟨S2048x512, .f32⟩
  | 34 => ⟨S2048x512, .f32⟩
  | 35 => ⟨S2048x512, .f32⟩
  | 36 => ⟨S2048x512, .f32⟩
  | 37 => ⟨S2048x512, .f32⟩
  | 38 => ⟨S2048x512, .f32⟩
  | 39 => ⟨S2048x512, .f32⟩
  | 40 => ⟨S2048x512, .f32⟩
  | 41 => ⟨S1x512, .f32⟩
  | 42 => ⟨S2048x512, .f32⟩
  | 43 => ⟨S2048x512, .f32⟩
  | 44 => ⟨S1x512, .f32⟩
  | 45 => ⟨S2048x512, .f32⟩
  | 46 => ⟨S2048x512, .f32⟩
  | 47 => ⟨S2048x512, .f32⟩
  | 48 => ⟨S2048x512, .f32⟩
  | 49 => ⟨S2048x512, .i1⟩
  | 50 => ⟨S2048x512, .f32⟩
  | 51 => ⟨S2048x512, .f32⟩
  | 52 => ⟨S2048x512, .f32⟩
  | 53 => ⟨S2048x512, .f32⟩
  | 54 => ⟨S2048x512, .f32⟩
  | 55 => ⟨S2048x512, .f32⟩
  | 56 => ⟨S2048x512, .f32⟩
  | 57 => ⟨S2048x512, .f32⟩
  | 58 => ⟨S_, .f32⟩
  | 59 => ⟨S512, .f32⟩
  | 60 => ⟨S512, .f32⟩
  | 61 => ⟨S2048x512, .f32⟩
  | 62 => ⟨S2048x512, .f32⟩
  | 63 => ⟨S2048x512, .f32⟩
  | 64 => ⟨S_, .f32⟩
  | 65 => ⟨S2048x512, .f32⟩
  | 66 => ⟨S2048x512, .f32⟩
  | 67 => ⟨S_, .f32⟩
  | 68 => ⟨S2048x512, .f32⟩
  | 69 => ⟨S2048x512, .f32⟩
  | 70 => ⟨S1x512, .f32⟩
  | 71 => ⟨S2048x512, .f32⟩
  | 72 => ⟨S2048x512, .f32⟩
  | 73 => ⟨S_, .i1⟩
  | 74 => ⟨S64x64, .i1⟩
  | 75 => ⟨S64x64, .i32⟩
  | 76 => ⟨S_, .i32⟩
  | 77 => ⟨S64x64, .i32⟩
  | 78 => ⟨S64x64, .i32⟩
  | 79 => ⟨S64x64, .i32⟩
  | 80 => ⟨S64x64, .i1⟩
  | 81 => ⟨S_, .i1⟩
  | 82 => ⟨S64x64, .i1⟩
  | 83 => ⟨S64x64, .i1⟩
  | 84 => ⟨S64x64x1, .i1⟩
  | 85 => ⟨S_, .f32⟩
  | 86 => ⟨S4x128x128, .f32⟩
  | 87 => ⟨S32x64x4x128, .f32⟩
  | 88 => ⟨S32x4x64x128, .f32⟩
  | 89 => ⟨S32x64x4x128, .f32⟩
  | 90 => ⟨S32x4x64x128, .f32⟩
  | 91 => ⟨S32x64x4x128, .f32⟩
  | 92 => ⟨S32x4x64x128, .f32⟩
  | 93 => ⟨S32x64x4x128, .f32⟩
  | 94 => ⟨S32x4x64x128, .f32⟩
  | 95 => ⟨S_, .f32⟩
  | 96 => ⟨S32x4x64x128, .f32⟩
  | 97 => ⟨S_, .i32⟩
  | 98 => ⟨S32x4x64x128, .f32⟩
  | 99 => ⟨S32x4x64x128, .f32⟩
  | 100 => ⟨S32x4x64x128, .f32⟩
  | 101 => ⟨S32x4x64x128, .f32⟩
  | 102 => ⟨S64x64x1, .i1⟩
  | 103 => ⟨S_, .i32⟩
  | 104 => ⟨S4x128x128, .f32⟩
  | 105 => ⟨S32x4x64x128, .f32⟩
  | 106 => ⟨S_, .i32⟩
  | 107 => ⟨S_, .i1⟩
  | 108 => ⟨S_, .i32⟩
  | 109 => ⟨S_, .i32⟩
  | 110 => ⟨S_, .i32⟩
  | 111 => ⟨S1x4x64x128, .f32⟩
  | 112 => ⟨S4x64x128, .f32⟩
  | 113 => ⟨S_, .i32⟩
  | 114 => ⟨S_, .i32⟩
  | 115 => ⟨S_, .i32⟩
  | 116 => ⟨S1x4x64x128, .f32⟩
  | 117 => ⟨S4x64x128, .f32⟩
  | 118 => ⟨S_, .i32⟩
  | 119 => ⟨S_, .i32⟩
  | 120 => ⟨S_, .i32⟩
  | 121 => ⟨S1x4x64x128, .f32⟩
  | 122 => ⟨S4x64x128, .f32⟩
  | 123 => ⟨S_, .i32⟩
  | 124 => ⟨S_, .i32⟩
  | 125 => ⟨S_, .i32⟩
  | 126 => ⟨S1x4x64x128, .f32⟩
  | 127 => ⟨S4x64x128, .f32⟩
  | _ => ⟨S2048x4608, .f32⟩

abbrev hbmTy0_1 (i : Nat) : BufTy := match i % 128 with
  | 0 => ⟨S_, .f32⟩
  | 1 => ⟨S_, .f32⟩
  | 2 => ⟨S4x64x128, .f32⟩
  | 3 => ⟨S4x64x1x128, .f32⟩
  | 4 => ⟨S4x1x64x128, .f32⟩
  | 5 => ⟨S4x64x64x128, .f32⟩
  | 6 => ⟨S4x64x64x128, .f32⟩
  | 7 => ⟨S4x64x64x128, .f32⟩
  | 8 => ⟨S_, .f32⟩
  | 9 => ⟨S_, .f32⟩
  | 10 => ⟨S4x64x64x128, .i1⟩
  | 11 => ⟨S4x64x64x128, .f32⟩
  | 12 => ⟨S4x64x64x128, .f32⟩
  | 13 => ⟨S4x64x64x128, .f32⟩
  | 14 => ⟨S_, .f32⟩
  | 15 => ⟨S_, .f32⟩
  | 16 => ⟨S4x64x64x128, .i1⟩
  | 17 => ⟨S4x64x64x128, .f32⟩
  | 18 => ⟨S4x64x64x128, .f32⟩
  | 19 => ⟨S4x64x1x128, .f32⟩
  | 20 => ⟨S4x1x64x128, .f32⟩
  | 21 => ⟨S4x64x64x128, .f32⟩
  | 22 => ⟨S4x64x64x128, .f32⟩
  | 23 => ⟨S4x64x64x128, .f32⟩
  | 24 => ⟨S4x64x64x128, .f32⟩
  | 25 => ⟨S_, .f32⟩
  | 26 => ⟨S4x64x64, .f32⟩
  | 27 => ⟨S4x64x128, .f32⟩
  | 28 => ⟨S4x64x128, .f32⟩
  | 29 => ⟨S4x64x128, .f32⟩
  | 30 => ⟨S4x64x128, .f32⟩
  | 31 => ⟨S4x64x128, .f32⟩
  | 32 => ⟨S4x1x128, .f32⟩
  | 33 => ⟨S4x128, .f32⟩
  | 34 => ⟨S4x128, .f32⟩
  | 35 => ⟨S4x128x1, .f32⟩
  | 36 => ⟨S4x128x128, .f32⟩
  | 37 => ⟨S4x128x128, .f32⟩
  | 38 => ⟨S4x64x128, .f32⟩
  | 39 => ⟨S4x64x128, .f32⟩
  | 40 => ⟨S4x64x128, .f32⟩
  | 41 => ⟨S4x64x128, .f32⟩
  | 42 => ⟨S4x128x128, .f32⟩
  | 43 => ⟨S4x128x128, .f32⟩
  | 44 => ⟨S1x4x64x128, .f32⟩
  | 45 => ⟨S_, .i32⟩
  | 46 => ⟨S_, .i32⟩
  | 47 => ⟨S_, .i32⟩
  | 48 => ⟨S32x4x64x128, .f32⟩
  | 49 => ⟨S_, .i32⟩
  | 50 => ⟨S_, .i32⟩
  | 51 => ⟨S32x64x4x128, .f32⟩
  | 52 => ⟨S2048x4x128, .f32⟩
  | 53 => ⟨S2048x512, .f32⟩
  | 54 => ⟨S2048x512, .f32⟩
  | 55 => ⟨S2048x512, .f32⟩
  | 56 => ⟨S2048x512, .f32⟩
  | 57 => ⟨S2048x512, .f32⟩
  | 58 => ⟨S2048x512, .f32⟩
  | 59 => ⟨S4x128, .f32⟩
  | 60 => ⟨S2048x4x128, .f32⟩
  | 61 => ⟨S_, .f32⟩
  | 62 => ⟨S2048x4, .f32⟩
  | 63 => ⟨S2048x4x1, .f32⟩
  | 64 => ⟨S_, .f32⟩
  | 65 => ⟨S2048x4x1, .f32⟩
  | 66 => ⟨S2048x4x1, .f32⟩
  | 67 => ⟨S_, .f32⟩
  | 68 => ⟨S2048x4x1, .f32⟩
  | 69 => ⟨S2048x4x1, .f32⟩
  | 70 => ⟨S2048x4x1, .f32⟩
  | 71 => ⟨S2048x4x128, .f32⟩
  | 72 => ⟨S2048x4x128, .f32⟩
  | 73 => ⟨S1x4x128, .f32⟩
  | 74 => ⟨S2048x4x128, .f32⟩
  | 75 => ⟨S2048x4x128, .f32⟩
  | 76 => ⟨S2048x512, .f32⟩
  | 77 => ⟨S2048x512, .f32⟩
  | 78 => ⟨S_, .f32⟩
  | 79 => ⟨S2048x512, .f32⟩
  | 80 => ⟨S2048x512, .f32⟩
  | 81 => ⟨S_, .f32⟩
  | 82 => ⟨S2048x512, .f32⟩
  | 83 => ⟨S2048x512, .f32⟩
  | 84 => ⟨S2048x4x128, .f32⟩
  | 85 => ⟨S2048x4x128, .f32⟩
  | 86 => ⟨S2048x512, .f32⟩
  | 87 => ⟨S2048x512, .f32⟩
  | 88 => ⟨S_, .f32⟩
  | 89 => ⟨S2x512, .f32⟩
  | 90 => ⟨S2050x512, .f32⟩
  | 91 => ⟨S1x512, .f32⟩
  | 92 => ⟨S512, .f32⟩
  | 93 => ⟨S2048x512, .f32⟩
  | 94 => ⟨S1x512, .f32⟩
  | 95 => ⟨S2048x512, .f32⟩
  | 96 => ⟨S2048x512, .f32⟩
  | 97 => ⟨S1x512, .f32⟩
  | 98 => ⟨S512, .f32⟩
  | 99 => ⟨S2048x512, .f32⟩
  | 100 => ⟨S1x512, .f32⟩
  | 101 => ⟨S2048x512, .f32⟩
  | 102 => ⟨S2048x512, .f32⟩
  | 103 => ⟨S2048x512, .f32⟩
  | 104 => ⟨S1x512, .f32⟩
  | 105 => ⟨S512, .f32⟩
  | 106 => ⟨S2048x512, .f32⟩
  | 107 => ⟨S1x512, .f32⟩
  | 108 => ⟨S2048x512, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S_, .f32⟩
  | 115 => ⟨S2048x512, .f32⟩
  | 116 => ⟨S2048x512, .f32⟩
  | 117 => ⟨S2048x512, .f32⟩
  | 118 => ⟨S_, .f32⟩
  | 119 => ⟨S2048x512, .f32⟩
  | 120 => ⟨S2048x512, .f32⟩
  | 121 => ⟨S2048x512, .f32⟩
  | 122 => ⟨S_, .f32⟩
  | 123 => ⟨S2048x512, .f32⟩
  | 124 => ⟨S2048x512, .f32⟩
  | 125 => ⟨S_, .f32⟩
  | 126 => ⟨S2048x512, .f32⟩
  | 127 => ⟨S2048x512, .f32⟩
  | _ => ⟨S2048x4608, .f32⟩

abbrev hbmTy0_2 (i : Nat) : BufTy := match i % 128 with
  | 0 => ⟨S2048x512, .f32⟩
  | 1 => ⟨S2048x512, .f32⟩
  | 2 => ⟨S2048x512, .f32⟩
  | 3 => ⟨S_, .f32⟩
  | 4 => ⟨S2048x512, .f32⟩
  | 5 => ⟨S2048x512, .f32⟩
  | 6 => ⟨S2048x512, .f32⟩
  | 7 => ⟨S_, .f32⟩
  | 8 => ⟨S2048x512, .f32⟩
  | 9 => ⟨S2048x512, .f32⟩
  | 10 => ⟨S2048x512, .f32⟩
  | 11 => ⟨S_, .f32⟩
  | 12 => ⟨S2048x512, .f32⟩
  | 13 => ⟨S2048x512, .f32⟩
  | 14 => ⟨S_, .f32⟩
  | 15 => ⟨S2048x512, .f32⟩
  | 16 => ⟨S2048x512, .f32⟩
  | 17 => ⟨S2048x512, .f32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x512, .f32⟩
  | 25 => ⟨S2048x512, .f32⟩
  | 26 => ⟨S2048x512, .f32⟩
  | 27 => ⟨S_, .f32⟩
  | 28 => ⟨S2048, .f32⟩
  | 29 => ⟨S2048x1, .f32⟩
  | 30 => ⟨S_, .f32⟩
  | 31 => ⟨S2048x1, .f32⟩
  | 32 => ⟨S2048x1, .f32⟩
  | 33 => ⟨S_, .f32⟩
  | 34 => ⟨S2048x1, .f32⟩
  | 35 => ⟨S2048x1, .f32⟩
  | 36 => ⟨S2048x1, .f32⟩
  | 37 => ⟨S2048x512, .f32⟩
  | 38 => ⟨S2048x512, .f32⟩
  | 39 => ⟨S1x512, .f32⟩
  | 40 => ⟨S2048x512, .f32⟩
  | 41 => ⟨S2048x512, .f32⟩
  | 42 => ⟨S1x512, .f32⟩
  | 43 => ⟨S2048x512, .f32⟩
  | 44 => ⟨S2048x512, .f32⟩
  | 45 => ⟨S16x128x4x128, .f32⟩
  | 46 => ⟨S_, .f32⟩
  | 47 => ⟨S128x128, .f32⟩
  | 48 => ⟨S128x128, .i32⟩
  | 49 => ⟨S_, .i32⟩
  | 50 => ⟨S128x128, .i32⟩
  | 51 => ⟨S128x128, .i32⟩
  | 52 => ⟨S128x128, .i32⟩
  | 53 => ⟨S128x128, .i1⟩
  | 54 => ⟨S_, .f32⟩
  | 55 => ⟨S128x128, .f32⟩
  | 56 => ⟨S128x128, .f32⟩
  | 57 => ⟨S1x128x128, .f32⟩
  | 58 => ⟨S4x128x128, .f32⟩
  | 59 => ⟨S4x128x128, .f32⟩
  | 60 => ⟨S4x16x128x128, .f32⟩
  | 61 => ⟨S16x128x4x128, .f32⟩
  | 62 => ⟨S128x4, .f32⟩
  | 63 => ⟨S128x4x1, .f32⟩
  | 64 => ⟨S1x128x4x1, .f32⟩
  | 65 => ⟨S16x128x4x128, .f32⟩
  | 66 => ⟨S16x128x4x128, .f32⟩
  | 67 => ⟨S2048x512, .f32⟩
  | 68 => ⟨S2048x512, .f32⟩
  | 69 => ⟨S2048x1536, .f32⟩
  | 70 => ⟨S2048x1536, .bf16⟩
  | _ => ⟨S2048x4608, .f32⟩

abbrev hbmTy (i : Nat) : BufTy := match i / 128 with
  | 0 => hbmTy0_0 i
  | 1 => hbmTy0_1 i
  | 2 => hbmTy0_2 i
  | _ => ⟨S2048x4608, .f32⟩

abbrev bufTy : (tb : Table) → Fin (tcTables nBuf tb) → BufTy
  | .hbm, ⟨i, _⟩ => hbmTy i
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_1 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_2 : Ref sig .tc := ⟨.hbm, 64, rfl⟩
abbrev main_v45 : Ref sig .tc := ⟨.hbm, 65, rfl⟩
abbrev main_v46 : Ref sig .tc := ⟨.hbm, 66, rfl⟩
abbrev main_cst_3 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c : Ref sig .tc := ⟨.hbm, 73, rfl⟩
abbrev main_v52 : Ref sig .tc := ⟨.hbm, 74, rfl⟩
abbrev main_call1_v0 : Ref sig .tc := ⟨.hbm, 75, rfl⟩
abbrev main_call1_c : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_c_0 : Ref sig .tc := ⟨.hbm, 81, rfl⟩
abbrev main_call1_v5 : Ref sig .tc := ⟨.hbm, 82, rfl⟩
abbrev main_v53 : Ref sig .tc := ⟨.hbm, 83, rfl⟩
abbrev main_v54 : Ref sig .tc := ⟨.hbm, 84, rfl⟩
abbrev main_cst_4 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_5 : Ref sig .tc := ⟨.hbm, 95, rfl⟩
abbrev main_v64 : Ref sig .tc := ⟨.hbm, 96, rfl⟩
abbrev main_c_6 : Ref sig .tc := ⟨.hbm, 97, rfl⟩
abbrev main_v65_0 : Ref sig .tc := ⟨.hbm, 98, rfl⟩
abbrev main_v65_1 : Ref sig .tc := ⟨.hbm, 99, rfl⟩
abbrev main_v65_2 : Ref sig .tc := ⟨.hbm, 100, rfl⟩
abbrev main_v65_3 : Ref sig .tc := ⟨.hbm, 101, rfl⟩
abbrev main_v65_4 : Ref sig .tc := ⟨.hbm, 102, rfl⟩
abbrev main_v65_5 : Ref sig .tc := ⟨.hbm, 103, rfl⟩
abbrev main_v65_6 : Ref sig .tc := ⟨.hbm, 104, rfl⟩
abbrev main_v65_7 : Ref sig .tc := ⟨.hbm, 105, rfl⟩
abbrev main_while0c_c_34 : Ref sig .tc := ⟨.hbm, 106, rfl⟩
abbrev main_while0c_v186 : Ref sig .tc := ⟨.hbm, 107, rfl⟩
abbrev main_while0b_call2_c : Ref sig .tc := ⟨.hbm, 108, rfl⟩
abbrev main_while0b_call2_c_0 : Ref sig .tc := ⟨.hbm, 109, rfl⟩
abbrev main_while0b_call2_c_1 : Ref sig .tc := ⟨.hbm, 110, rfl⟩
abbrev main_while0b_call2_v0 : Ref sig .tc := ⟨.hbm, 111, rfl⟩
abbrev main_while0b_v186 : Ref sig .tc := ⟨.hbm, 112, rfl⟩
abbrev main_while0b_call3_c : Ref sig .tc := ⟨.hbm, 113, rfl⟩
abbrev main_while0b_call3_c_0 : Ref sig .tc := ⟨.hbm, 114, rfl⟩
abbrev main_while0b_call3_c_1 : Ref sig .tc := ⟨.hbm, 115, rfl⟩
abbrev main_while0b_call3_v0 : Ref sig .tc := ⟨.hbm, 116, rfl⟩
abbrev main_while0b_v187 : Ref sig .tc := ⟨.hbm, 117, rfl⟩
abbrev main_while0b_call4_c : Ref sig .tc := ⟨.hbm, 118, rfl⟩
abbrev main_while0b_call4_c_0 : Ref sig .tc := ⟨.hbm, 119, rfl⟩
abbrev main_while0b_call4_c_1 : Ref sig .tc := ⟨.hbm, 120, rfl⟩
abbrev main_while0b_call4_v0 : Ref sig .tc := ⟨.hbm, 121, rfl⟩
abbrev main_while0b_v188 : Ref sig .tc := ⟨.hbm, 122, rfl⟩
abbrev main_while0b_call5_c : Ref sig .tc := ⟨.hbm, 123, rfl⟩
abbrev main_while0b_call5_c_0 : Ref sig .tc := ⟨.hbm, 124, rfl⟩
abbrev main_while0b_call5_c_1 : Ref sig .tc := ⟨.hbm, 125, rfl⟩
abbrev main_while0b_call5_v0 : Ref sig .tc := ⟨.hbm, 126, rfl⟩
abbrev main_while0b_v189 : Ref sig .tc := ⟨.hbm, 127, rfl⟩
abbrev main_while0b_call6_call0_cst : Ref sig .tc := ⟨.hbm, 128, rfl⟩
abbrev main_while0b_call6_call0_v0 : Ref sig .tc := ⟨.hbm, 129, rfl⟩
abbrev main_while0b_v190 : Ref sig .tc := ⟨.hbm, 130, rfl⟩
abbrev main_while0b_v191 : Ref sig .tc := ⟨.hbm, 131, rfl⟩
abbrev main_while0b_v192 : Ref sig .tc := ⟨.hbm, 132, rfl⟩
abbrev main_while0b_v193 : Ref sig .tc := ⟨.hbm, 133, rfl⟩
abbrev main_while0b_v194 : Ref sig .tc := ⟨.hbm, 134, rfl⟩
abbrev main_while0b_v195 : Ref sig .tc := ⟨.hbm, 135, rfl⟩
abbrev main_while0b_cst_34 : Ref sig .tc := ⟨.hbm, 136, rfl⟩
abbrev main_while0b_call7_v0 : Ref sig .tc := ⟨.hbm, 137, rfl⟩
abbrev main_while0b_call7_v1 : Ref sig .tc := ⟨.hbm, 138, rfl⟩
abbrev main_while0b_call7_v2 : Ref sig .tc := ⟨.hbm, 139, rfl⟩
abbrev main_while0b_v196 : Ref sig .tc := ⟨.hbm, 140, rfl⟩
abbrev main_while0b_v197 : Ref sig .tc := ⟨.hbm, 141, rfl⟩
abbrev main_while0b_cst_35 : Ref sig .tc := ⟨.hbm, 142, rfl⟩
abbrev main_while0b_call8_v0 : Ref sig .tc := ⟨.hbm, 143, rfl⟩
abbrev main_while0b_call8_v1 : Ref sig .tc := ⟨.hbm, 144, rfl⟩
abbrev main_while0b_call8_v2 : Ref sig .tc := ⟨.hbm, 145, rfl⟩
abbrev main_while0b_v198 : Ref sig .tc := ⟨.hbm, 146, rfl⟩
abbrev main_while0b_v199 : Ref sig .tc := ⟨.hbm, 147, rfl⟩
abbrev main_while0b_v200 : Ref sig .tc := ⟨.hbm, 148, rfl⟩
abbrev main_while0b_v201 : Ref sig .tc := ⟨.hbm, 149, rfl⟩
abbrev main_while0b_v202 : Ref sig .tc := ⟨.hbm, 150, rfl⟩
abbrev main_while0b_v203 : Ref sig .tc := ⟨.hbm, 151, rfl⟩
abbrev main_while0b_v204 : Ref sig .tc := ⟨.hbm, 152, rfl⟩
abbrev main_while0b_cst_36 : Ref sig .tc := ⟨.hbm, 153, rfl⟩
abbrev main_while0b_v205 : Ref sig .tc := ⟨.hbm, 154, rfl⟩
abbrev main_while0b_v206 : Ref sig .tc := ⟨.hbm, 155, rfl⟩
abbrev main_while0b_v207 : Ref sig .tc := ⟨.hbm, 156, rfl⟩
abbrev main_while0b_v208 : Ref sig .tc := ⟨.hbm, 157, rfl⟩
abbrev main_while0b_v209 : Ref sig .tc := ⟨.hbm, 158, rfl⟩
abbrev main_while0b_v210 : Ref sig .tc := ⟨.hbm, 159, rfl⟩
abbrev main_while0b_v211 : Ref sig .tc := ⟨.hbm, 160, rfl⟩
abbrev main_while0b_v212 : Ref sig .tc := ⟨.hbm, 161, rfl⟩
abbrev main_while0b_v213 : Ref sig .tc := ⟨.hbm, 162, rfl⟩
abbrev main_while0b_v214 : Ref sig .tc := ⟨.hbm, 163, rfl⟩
abbrev main_while0b_v215 : Ref sig .tc := ⟨.hbm, 164, rfl⟩
abbrev main_while0b_v216 : Ref sig .tc := ⟨.hbm, 165, rfl⟩
abbrev main_while0b_v217 : Ref sig .tc := ⟨.hbm, 166, rfl⟩
abbrev main_while0b_v218 : Ref sig .tc := ⟨.hbm, 167, rfl⟩
abbrev main_while0b_v219 : Ref sig .tc := ⟨.hbm, 168, rfl⟩
abbrev main_while0b_v220 : Ref sig .tc := ⟨.hbm, 169, rfl⟩
abbrev main_while0b_v221 : Ref sig .tc := ⟨.hbm, 170, rfl⟩
abbrev main_while0b_v222 : Ref sig .tc := ⟨.hbm, 171, rfl⟩
abbrev main_while0b_call9_v0 : Ref sig .tc := ⟨.hbm, 172, rfl⟩
abbrev main_while0b_call9_c : Ref sig .tc := ⟨.hbm, 173, rfl⟩
abbrev main_while0b_call9_c_0 : Ref sig .tc := ⟨.hbm, 174, rfl⟩
abbrev main_while0b_call9_c_1 : Ref sig .tc := ⟨.hbm, 175, rfl⟩
abbrev main_while0b_v223 : Ref sig .tc := ⟨.hbm, 176, rfl⟩
abbrev main_while0b_c_37 : Ref sig .tc := ⟨.hbm, 177, rfl⟩
abbrev main_while0b_v224 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_cst_7 : Ref sig .tc := ⟨.hbm, 189, rfl⟩
abbrev main_v76 : Ref sig .tc := ⟨.hbm, 190, rfl⟩
abbrev main_v77 : Ref sig .tc := ⟨.hbm, 191, rfl⟩
abbrev main_cst_8 : Ref sig .tc := ⟨.hbm, 192, rfl⟩
abbrev main_v78 : Ref sig .tc := ⟨.hbm, 193, rfl⟩
abbrev main_v79 : Ref sig .tc := ⟨.hbm, 194, rfl⟩
abbrev main_cst_9 : Ref sig .tc := ⟨.hbm, 195, rfl⟩
abbrev main_v80 : Ref sig .tc := ⟨.hbm, 196, rfl⟩
abbrev main_v81 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_v87 : Ref sig .tc := ⟨.hbm, 203, rfl⟩
abbrev main_v88 : Ref sig .tc := ⟨.hbm, 204, rfl⟩
abbrev main_v89 : Ref sig .tc := ⟨.hbm, 205, rfl⟩
abbrev main_cst_10 : Ref sig .tc := ⟨.hbm, 206, rfl⟩
abbrev main_v90 : Ref sig .tc := ⟨.hbm, 207, rfl⟩
abbrev main_v91 : Ref sig .tc := ⟨.hbm, 208, rfl⟩
abbrev main_cst_11 : Ref sig .tc := ⟨.hbm, 209, rfl⟩
abbrev main_v92 : Ref sig .tc := ⟨.hbm, 210, rfl⟩
abbrev main_v93 : Ref sig .tc := ⟨.hbm, 211, rfl⟩
abbrev main_v94 : Ref sig .tc := ⟨.hbm, 212, rfl⟩
abbrev main_v95 : Ref sig .tc := ⟨.hbm, 213, rfl⟩
abbrev main_v96 : Ref sig .tc := ⟨.hbm, 214, rfl⟩
abbrev main_v97 : Ref sig .tc := ⟨.hbm, 215, rfl⟩
abbrev main_cst_12 : Ref sig .tc := ⟨.hbm, 216, rfl⟩
abbrev main_v98 : Ref sig .tc := ⟨.hbm, 217, rfl⟩
abbrev main_v99 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_v115 : Ref sig .tc := ⟨.hbm, 234, rfl⟩
abbrev main_v116 : Ref sig .tc := ⟨.hbm, 235, rfl⟩
abbrev main_v117 : Ref sig .tc := ⟨.hbm, 236, rfl⟩
abbrev main_v118 : Ref sig .tc := ⟨.hbm, 237, rfl⟩
abbrev main_v119 : Ref sig .tc := ⟨.hbm, 238, rfl⟩
abbrev main_v120 : Ref sig .tc := ⟨.hbm, 239, rfl⟩
abbrev main_v121 : Ref sig .tc := ⟨.hbm, 240, rfl⟩
abbrev main_v122 : Ref sig .tc := ⟨.hbm, 241, rfl⟩
abbrev main_cst_13 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_cst_14 : Ref sig .tc := ⟨.hbm, 246, rfl⟩
abbrev main_v126 : Ref sig .tc := ⟨.hbm, 247, rfl⟩
abbrev main_v127 : Ref sig .tc := ⟨.hbm, 248, rfl⟩
abbrev main_v128 : Ref sig .tc := ⟨.hbm, 249, rfl⟩
abbrev main_cst_15 : Ref sig .tc := ⟨.hbm, 250, rfl⟩
abbrev main_v129 : Ref sig .tc := ⟨.hbm, 251, rfl⟩
abbrev main_v130 : Ref sig .tc := ⟨.hbm, 252, rfl⟩
abbrev main_cst_16 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_cst_17 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_cst_18 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_cst_19 : Ref sig .tc := ⟨.hbm, 267, rfl⟩
abbrev main_v142 : Ref sig .tc := ⟨.hbm, 268, rfl⟩
abbrev main_v143 : Ref sig .tc := ⟨.hbm, 269, rfl⟩
abbrev main_cst_20 : Ref sig .tc := ⟨.hbm, 270, rfl⟩
abbrev main_v144 : Ref sig .tc := ⟨.hbm, 271, rfl⟩
abbrev main_v145 : Ref sig .tc := ⟨.hbm, 272, rfl⟩
abbrev main_v146 : Ref sig .tc := ⟨.hbm, 273, rfl⟩
abbrev main_cst_21 : Ref sig .tc := ⟨.hbm, 274, rfl⟩
abbrev main_v147 : Ref sig .tc := ⟨.hbm, 275, rfl⟩
abbrev main_v148 : Ref sig .tc := ⟨.hbm, 276, rfl⟩
abbrev main_cst_22 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_cst_23 : Ref sig .tc := ⟨.hbm, 283, rfl⟩
abbrev main_v154 : Ref sig .tc := ⟨.hbm, 284, rfl⟩
abbrev main_v155 : Ref sig .tc := ⟨.hbm, 285, rfl⟩
abbrev main_cst_24 : Ref sig .tc := ⟨.hbm, 286, rfl⟩
abbrev main_v156 : Ref sig .tc := ⟨.hbm, 287, rfl⟩
abbrev main_v157 : Ref sig .tc := ⟨.hbm, 288, rfl⟩
abbrev main_cst_25 : Ref sig .tc := ⟨.hbm, 289, rfl⟩
abbrev main_v158 : Ref sig .tc := ⟨.hbm, 290, rfl⟩
abbrev main_v159 : Ref sig .tc := ⟨.hbm, 291, rfl⟩
abbrev main_v160 : Ref sig .tc := ⟨.hbm, 292, rfl⟩
abbrev main_v161 : Ref sig .tc := ⟨.hbm, 293, rfl⟩
abbrev main_v162 : Ref sig .tc := ⟨.hbm, 294, rfl⟩
abbrev main_v163 : Ref sig .tc := ⟨.hbm, 295, rfl⟩
abbrev main_v164 : Ref sig .tc := ⟨.hbm, 296, rfl⟩
abbrev main_v165 : Ref sig .tc := ⟨.hbm, 297, rfl⟩
abbrev main_v166 : Ref sig .tc := ⟨.hbm, 298, rfl⟩
abbrev main_v167 : Ref sig .tc := ⟨.hbm, 299, rfl⟩
abbrev main_v168 : Ref sig .tc := ⟨.hbm, 300, rfl⟩
abbrev main_v169 : Ref sig .tc := ⟨.hbm, 301, rfl⟩
abbrev main_cst_26 : Ref sig .tc := ⟨.hbm, 302, rfl⟩
abbrev main_v170 : Ref sig .tc := ⟨.hbm, 303, rfl⟩
abbrev main_call10_v0 : Ref sig .tc := ⟨.hbm, 304, rfl⟩
abbrev main_call10_c : Ref sig .tc := ⟨.hbm, 305, rfl⟩
abbrev main_call10_v1 : Ref sig .tc := ⟨.hbm, 306, rfl⟩
abbrev main_call10_v2 : Ref sig .tc := ⟨.hbm, 307, rfl⟩
abbrev main_call10_v3 : Ref sig .tc := ⟨.hbm, 308, rfl⟩
abbrev main_call10_v4 : Ref sig .tc := ⟨.hbm, 309, rfl⟩
abbrev main_call10_cst : Ref sig .tc := ⟨.hbm, 310, rfl⟩
abbrev main_call10_v5 : Ref sig .tc := ⟨.hbm, 311, rfl⟩
abbrev main_v171 : Ref sig .tc := ⟨.hbm, 312, rfl⟩
abbrev main_v172 : Ref sig .tc := ⟨.hbm, 313, rfl⟩
abbrev main_v173 : Ref sig .tc := ⟨.hbm, 314, rfl⟩
abbrev main_v174 : Ref sig .tc := ⟨.hbm, 315, rfl⟩
abbrev main_v175 : Ref sig .tc := ⟨.hbm, 316, rfl⟩
abbrev main_v176 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩
abbrev main_v180 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_v184 : Ref sig .tc := ⟨.hbm, 325, rfl⟩
abbrev main_v185 : Ref sig .tc := ⟨.hbm, 326, rfl⟩

abbrev nD : Nat := 1
abbrev τ : Topo := Topo.v7x

variable {F : FTy → Type} [FloatOps F]

abbrev main_while0_count : Scf.Loop 32 := ⟨0#32, 32#32, 1#32⟩
-- ==== Proof.Reals.lean ====
/-
  Extended reals that are real numbers: the operations of the ideal instance on them are the real operations.
-/
module

public import Idealize.ShloMosaic.PureOps.Ideal
public import Idealize.ShloMosaic.PureOps.Ideal.Laws
public import Idealize.ShloMosaic.Lib.IdealHost

@[expose] public section

noncomputable section

namespace Cert.Proof.Reals

open Idealize.ShloMosaic
open scoped BigOperators

/-- An array of real numbers, read as extended reals. -/
abbrev up {ι : Type} (f : ι → ℝ) : ι → EReal := fun i => (f i : EReal)

theorem exists_real_of_lt {x : EReal} (h : max x (-x) < ⊤) : ∃ r : ℝ, x = r := by
  induction x using EReal.rec with
  | bot => simp at h
  | top => simp at h
  | coe r => exact ⟨r, rfl⟩

theorem exists_real {x t : EReal} (ht : t = ⊤) (h : Ideal.cmp .olt (max x (-x)) t = 1#1) : ∃ r : ℝ, x = r := by
  subst ht
  refine exists_real_of_lt ?_
  by_contra hn
  simp [Ideal.cmp, hn] at h

/-- The word of the float infinity. -/
theorem ofBits_inf : Ideal.ofBits .f32 0x7F800000#32 = ⊤ := by
  simp [Ideal.ofBits, Ideal.ieee]
theorem ofBits_ninf : Ideal.ofBits .f32 0xFF800000#32 = ⊥ := by
  simp [Ideal.ofBits, Ideal.ieee]

theorem exists_up {ι : Type} {f : ι → EReal} (h : ∀ i, ∃ r : ℝ, f i = r) : ∃ g : ι → ℝ, f = up g := by
  choose g hg using h
  exact ⟨g, funext hg⟩

theorem add_up (a b : ℝ) : (a : EReal) + (b : EReal) = ((a + b : ℝ) : EReal) := (EReal.coe_add a b).symm
theorem sub_up (a b : ℝ) : (a : EReal) - (b : EReal) = ((a - b : ℝ) : EReal) := (EReal.coe_sub a b).symm
theorem mul_up (a b : ℝ) : (a : EReal) * (b : EReal) = ((a * b : ℝ) : EReal) := (EReal.coe_mul a b).symm
theorem neg_up (a : ℝ) : -(a : EReal) = ((-a : ℝ) : EReal) := (EReal.coe_neg a).symm
theorem max_up (a b : ℝ) : max (a : EReal) (b : EReal) = ((max a b : ℝ) : EReal) :=
  (EReal.coe_strictMono.monotone.map_max).symm
theorem zero_up : (0 : EReal) = ((0 : ℝ) : EReal) := rfl
theorem one_up : (1 : EReal) = ((1 : ℝ) : EReal) := rfl
theorem div_up {b : ℝ} (a : ℝ) (h : b ≠ 0) : Ideal.div (a : EReal) (b : EReal) = ((a / b : ℝ) : EReal) := by
  rw [Ideal.div_coe h, mul_up]; congr 1; ring
theorem exp_up (a : ℝ) : Ideal.exp (a : EReal) = ((Real.exp a : ℝ) : EReal) := rfl
theorem tanh_up (a : ℝ) : Ideal.tanh (a : EReal) = ((Real.tanh a : ℝ) : EReal) := rfl
theorem rsqrt_up {a : ℝ} (h : 0 < a) : Ideal.rsqrt (a : EReal) = (((Real.sqrt a)⁻¹ : ℝ) : EReal) := by
  rw [Ideal.rsqrt_coe, if_neg h.le.not_gt, if_neg h.ne']
theorem sum_up {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, add_up]

end Cert.Proof.Reals

end
-- ==== Proof.LbVal.lean ====
/-
  The gradient of the layer bounds: the softmax over the four layers and the running sum after it, both differentiated
  by the rule of the forward expression, against the kernel's `s (d - Σ s d)`.
-/
module

public import proofs.«01_k».proof.Proof.Gen.LbReferenceIdeal.Read
public import proofs.«01_k».proof.Proof.Gen.LbKernelIdeal.Value
public import proofs.«01_k».proof.Proof.Reals
public import Idealize.ShloMosaic.Lib.Pointwise
public import proofs.«01_k».proof.Defs
public import proofs.«01_k».proof.Proof.Gen.LbReferenceIdeal.Run
public import proofs.«01_k».proof.Proof.Gen.Pre_lb_finite

@[expose] public section

set_option maxRecDepth 16384

noncomputable section

namespace Cert.Proof.LbVal

open Idealize.ShloMosaic Reals
open scoped BigOperators

/-! ### Real numbers -/

/-- The softmax over the layers, any shift taken off first. -/
def sm (x : Fin 4 → ℝ) (l : Fin 4) : ℝ := Real.exp (x l) / ∑ k, Real.exp (x k)

/-- What reaches layer `l`'s softmax: nothing at the first layer, the sum from `l` on at the others. -/
def dsm (d : Fin 4 → ℝ) : Fin 4 → ℝ := ![0, d 3 + d 2 + d 1, d 3 + d 2, d 3]

/-- The gradient. -/
def grad (x d : Fin 4 → ℝ) (l : Fin 4) : ℝ := sm x l * (dsm d l - ∑ k, sm x k * dsm d k)

theorem sum_exp_pos (x : Fin 4 → ℝ) : 0 < ∑ k, Real.exp (x k) :=
  Finset.sum_pos (fun _ _ => Real.exp_pos _) ⟨0, Finset.mem_univ _⟩

theorem sm_shift (x : Fin 4 → ℝ) (M : ℝ) (l : Fin 4) :
    Real.exp (x l - M) / ∑ k, Real.exp (x k - M) = sm x l := by
  have : ∀ k, Real.exp (x k - M) = Real.exp (x k) * Real.exp (-M) := fun k => by
    rw [← Real.exp_add, sub_eq_add_neg]
  simp only [this, ← Finset.sum_mul, sm]
  have h := (Real.exp_pos (-M)).ne'
  have h' := (sum_exp_pos x).ne'
  field_simp

section Reference
open LbReferenceIdeal LbReferenceIdeal.Gen LbReferenceIdeal.Read

variable (x d : S4x512.Idx → ℝ)

/-- Layer `l` of column `j`. -/
abbrev at4 (l : Fin 4) (j : Fin 512) : S4x512.Idx := ix2 l j

theorem foldl_max_real {α : Type} (f : α → ℝ) (L : List α) (r : ℝ) :
    ∃ M : ℝ, L.foldl (fun a n => max a (f n : EReal)) (r : EReal) = M := by
  induction L generalizing r with
  | nil => exact ⟨r, rfl⟩
  | cons a L ih => rw [List.foldl_cons, max_up]; exact ih _

theorem foldl_max_bot {α : Type} (f : α → ℝ) (L : List α) (h : L ≠ []) :
    ∃ M : ℝ, L.foldl (fun a n => max a (f n : EReal)) ⊥ = M := by
  cases L with
  | nil => exact absurd rfl h
  | cons a L => rw [List.foldl_cons, max_eq_right bot_le]; exact foldl_max_real f L _

theorem max_real (j : S512.Idx) : ∃ M : ℝ, val_main_v7 (F := Ideal) (up x) j = M := by
  rw [val_main_v7_apply, val_main_v6_apply, val_main_cst_1_apply]
  unfold val_main_v0 Host.reduce
  pointwise [val_main_cst]
  rw [ofBits_ninf, max_eq_right bot_le]
  refine foldl_max_bot _ _ (List.ne_nil_of_mem (a := S4x512.rowMajor (ix2 0 (j 0))) (List.mem_filter.2 ⟨List.mem_finRange _, ?_⟩))
  rw [Equiv.symm_apply_apply, decide_eq_true_eq]
  exact funext fun a => Fin.ext (by match a with | ⟨0, _⟩ => rfl)

theorem foldl_four {α : Type} {N : ℕ} (h : N = 4) (g : α → Fin N → α) (v : α) :
    (List.finRange N).foldl g v = g (g (g (g v (Fin.cast h.symm 0)) (Fin.cast h.symm 1)) (Fin.cast h.symm 2)) (Fin.cast h.symm 3) := by
  subst h; rfl

/-- The four positions of the window, in row-major order. -/
theorem place (n : Fin (⟨2, ![4, 1]⟩ : Shape).numel) (a : Fin 2) : ((⟨2, ![4, 1]⟩ : Shape).rowMajor.symm n a).val = (![n.val, 0] : Fin 2 → ℕ) a := by
  revert n a; decide +kernel

theorem window (y : S4x512.Idx → EReal) (l : Fin 4) (j : Fin 512) :
    Host.reduceWindow (· + ·) ![4, 1] ![1, 1] ![0, 0] ![3, 0] y (fun _ : (⟨0, ![]⟩ : Shape).Idx => 0)
      reduceWindows_S4x512_S4x512_w4s1p0_3_w1s1p0_0 (by decide) (at4 l j)
    = (![y (at4 0 j) + y (at4 1 j) + y (at4 2 j) + y (at4 3 j), y (at4 1 j) + y (at4 2 j) + y (at4 3 j), y (at4 2 j) + y (at4 3 j), y (at4 3 j)] : Fin 4 → EReal) l := by
  unfold Host.reduceWindow
  dsimp only
  rw [foldl_four (by decide +kernel)]
  fin_cases l <;> simp [place]
  all_goals repeat' apply congrArg₂ (· + ·)
  all_goals exact congrArg y (funext fun a => Fin.ext (by match a with | ⟨0, _⟩ => rfl | ⟨1, _⟩ => simp))

theorem v20_eq (j : Fin 512) (M : ℝ) (hM : val_main_v7 (F := Ideal) (up x) (ix1 j) = M) (l : Fin 4) :
    val_main_v20 (F := Ideal) (up x) (at4 l j) = (Real.exp (x (at4 l j) - M) : ℝ) := by
  pointwise [val_main_v20, val_main_v19, val_main_v18, val_main_v17]
  rw [hM, up, sub_up, exp_up]

theorem v22_eq (j : Fin 512) (M : ℝ) (hM : val_main_v7 (F := Ideal) (up x) (ix1 j) = M) :
    val_main_v22 (F := Ideal) (up x) (ix2 0 j) = (∑ k, Real.exp (x (at4 k j) - M) : ℝ) := by
  pointwise [val_main_v22, val_main_v21, val_main_cst_7]
  simp only [v20_eq x j M hM, sum_up]

theorem v41_eq (j : Fin 512) (l : Fin 4) :
    val_main_v41 (F := Ideal) (up d) (at4 l j)
      = ((![d (at4 0 j) + d (at4 1 j) + d (at4 2 j) + d (at4 3 j), d (at4 1 j) + d (at4 2 j) + d (at4 3 j), d (at4 2 j) + d (at4 3 j), d (at4 3 j)] : Fin 4 → ℝ) l : ℝ) := by
  have h0 : val_main_call1_call0_v0 (F := Ideal) = fun _ => 0 := funext fun i => by
    pointwise [val_main_call1_call0_v0, val_main_call1_call0_cst]
  have h34 : val_main_v34 (F := Ideal) (up d) = up d := funext fun i => by
    idx_vars i
    pointwise [val_main_v34]
  rw [val_main_v41, h0, h34]
  refine (window (up d) l j).trans ?_
  fin_cases l <;> simp [up]

theorem v42_eq (j : Fin 512) (l : Fin 4) :
    val_main_v42 (F := Ideal) (up d) (at4 l j) = (dsm (fun k => d (at4 k j)) l : ℝ) := by
  pointwise [val_main_v42, val_main_v40, val_main_v39, val_main_v38, val_main_v37, val_main_v36, val_main_v35, val_main_cst_9, val_main_cst_10, val_main_cst_11]
  rw [v41_eq]
  simp only [up, neg_up, sum_up, ← zero_up]
  fin_cases l
  · simp [dsm, Fin.sum_univ_four, ← EReal.coe_neg, ← EReal.coe_add]
    norm_cast; ring_nf
  all_goals simp [dsm]
  all_goals norm_cast
  all_goals ring

theorem v54_eq (j : Fin 512) (M : ℝ) (hM : val_main_v7 (F := Ideal) (up x) (ix1 j) = M) (l : Fin 4) :
    val_main_v54 (F := Ideal) (up x) (up d) (at4 l j) = (grad (fun k => x (at4 k j)) (fun k => d (at4 k j)) l : ℝ) := by
  have hs := (sum_exp_pos fun k => x (at4 k j) - M).ne'
  pointwise [val_main_v54, val_main_v53, val_main_v52, val_main_v51, val_main_v50, val_main_v49, val_main_v48, val_main_v47, val_main_v46, val_main_v45, val_main_v44, val_main_v43, val_main_v27, val_main_v26, val_main_v25, val_main_cst_8, val_main_cst_12, val_main_cst_13]
  rw [v22_eq x j M hM, v42_eq, v20_eq x j M hM]
  simp only [v42_eq, v20_eq x j M hM, mul_up, one_up, div_up _ hs, div_up _ (mul_ne_zero hs hs), neg_up, sum_up, add_up]
  simp only [grad, ← sm_shift _ M]
  generalize (∑ k, Real.exp (x (at4 k j) - M)) = S at *
  congr 1
  simp only [Fin.sum_univ_four, Fin.sum_univ_one]
  field_simp
  ring

theorem grad_eq (l : Fin 4) (j : Fin 512) :
    val_main_v54 (F := Ideal) (up x) (up d) (at4 l j) = (grad (fun k => x (at4 k j)) (fun k => d (at4 k j)) l : ℝ) :=
  let ⟨M, hM⟩ := max_real x (ix1 j)
  v54_eq x d j M hM l

end Reference

section Kernel
open LbKernelIdeal LbKernelIdeal.Gen LbKernelIdeal.Value

variable (x d : S4x512.Idx → ℝ)

/-- The four rows the kernel stores, as one array. -/
def out (i : S4x512.Idx) : EReal := (grad (fun k => x (ix2 k (i 1))) (fun k => d (ix2 k (i 1))) (i 0) : ℝ)

theorem kernel_eq (i : S4x512.Idx) : G2 (F := Ideal) (up x) (up d) i = out x d i := by
  refine View.canon_apply_of_pieces (Val := Elt Ideal) (out x d) _ ?_ i (cover0_2 _ _ _ _ i)
  have emb : ∀ j : Fin 512, r0_0.emb (ix2 0 j) = ix2 0 j ∧ r0_1.emb (ix2 0 j) = ix2 1 j ∧ r0_2.emb (ix2 0 j) = ix2 2 j ∧ r0_3.emb (ix2 0 j) = ix2 3 j := fun j => by
    refine ⟨?_, ?_, ?_, ?_⟩ <;> exact funext fun a => Fin.ext (by match a with | ⟨0, _⟩ => rfl | ⟨1, _⟩ => simp)
  intro p hp k
  simp only [List.mem_cons, List.not_mem_nil, or_false] at hp
  rcases hp with rfl | rfl | rfl | rfl
  all_goals
    idx_vars k
    obtain rfl : k0 = 0 := Subsingleton.elim _ _
    obtain ⟨e0, e1, e2, e3⟩ := emb k1
    have hs : ∀ M : ℝ, Real.exp (x (ix2 0 k1) - M) + Real.exp (x (ix2 1 k1) - M) + Real.exp (x (ix2 2 k1) - M) + Real.exp (x (ix2 3 k1) - M) ≠ 0 := fun M => by
      rw [← Fin.sum_univ_four fun k => Real.exp (x (ix2 k k1) - M)]; exact (sum_exp_pos fun k => x (ix2 k k1) - M).ne'
    simp only [e0, e1, e2, e3, out]
    pointwise [k0_pay20, k0_pay19, k0_pay18, k0_pay17, k0_pay16, k0_pay15, k0_pay14, k0_pay13, k0_pay12, k0_pay11, k0_pay10, k0_pay9, k0_pay8, k0_pay4, k0_pay5, k0_pay6, k0_pay7, k0_pay3, k0_pay2, k0_pay1]
    simp only [up, max_up, sub_up, exp_up, add_up, div_up _ (hs _), mul_up, neg_up, zero_up]
    simp only [grad, ← sm_shift _ (max (max (max (x (ix2 0 k1)) (x (ix2 1 k1))) (x (ix2 2 k1))) (x (ix2 3 k1))), Fin.sum_univ_four, dsm]
    refine congrArg _ ?_
    generalize max (max (max (x (ix2 0 k1)) (x (ix2 1 k1))) (x (ix2 2 k1))) (x (ix2 3 k1)) = M
    simp
    try ring_nf

end Kernel

open LbReferenceIdeal in
/-- Kernel and reference agree wherever both arrays are real. -/
theorem value_eq (a b : S4x512.Idx → EReal) (ha : ∀ i, ∃ r : ℝ, a i = r) (hb : ∀ i, ∃ r : ℝ, b i = r) :
    LbKernelIdeal.Value.G2 (F := Ideal) a b = LbReferenceIdeal.Read.val_main_v54 (F := Ideal) a b := by
  obtain ⟨x, rfl⟩ := exists_up ha
  obtain ⟨d, rfl⟩ := exists_up hb
  funext i
  rw [kernel_eq]
  idx_vars i
  exact (grad_eq x d i0 i1).symm

end Cert.Proof.LbVal

namespace Cert.Proof

open Idealize.ShloMosaic Idealize.SL.Sem Reals

/-- What the precondition says of one element: it is a real number. -/
theorem lb_real {a b : (⟨2, ![4, 512]⟩ : Shape).Idx → EReal}
    (h : (Pre_lb_finite.fn (F := Ideal) a b).1 = (fun _ => 1#1) ∧ (Pre_lb_finite.fn (F := Ideal) a b).2 = (fun _ => 1#1)) :
    (∀ i, ∃ r : ℝ, a i = r) ∧ ∀ i, ∃ r : ℝ, b i = r :=
  ⟨fun i => exists_real ofBits_inf (congrFun h.1 i), fun i => exists_real ofBits_inf (congrFun h.2 i)⟩

theorem algebraic_LbKernelIdeal_LbReferenceIdeal : algebraic_LbKernelIdeal_LbReferenceIdeal_pre_lb_finite := by
  intro m ρ m' ρ' hpre hagree
  refine ⟨_, LbKernelIdeal.Value.run (F := Ideal) m ρ, ?_⟩
  refine (θ_run LbReferenceIdeal.defs _ _).mono (fun _ h c => ⟨?_, (h c).2⟩) (LbReferenceIdeal.Value.run (F := Ideal) m' ρ')
  obtain ⟨ha, hb⟩ := lb_real (hpre c)
  rw [(h c).1, LbReferenceIdeal.Read.val_main_v54_eq, (hagree c).1, (hagree c).2]
  exact (LbVal.value_eq _ _ ha hb).symm

end Cert.Proof

end
-- ==== Proof.Reads.lean ====
module

public import Idealize.ShloMosaic.Lib.Claim
public import Idealize.ShloMosaic.Lib.Pipeline.Value

@[expose] public section

noncomputable section

namespace Cert.Proof.Reads

open Idealize.ShloMosaic

variable {Val : EltTy → Type} {A B : ℕ} {e : EltTy}

theorem hz : (![0, 0] : Fin 2 → Nat) = fun _ => 0 := funext fun a => by fin_cases a <;> rfl

/-- A matrix read in full is itself. -/
theorem ld_all (h) (X : (⟨2, ![A, B]⟩ : Shape).Idx → Val e) :
    View.ld X (Rect.unit (s := ⟨2, ![A, B]⟩) (![0, 0] : Fin 2 → Nat) ![A, B] h) = X :=
  View.ld_unit_zero (S := ⟨2, ![A, B]⟩) hz h X

/-- What was stored in full is read back. -/
theorem cov_all [∀ e, Nonempty (Val e)] {sig : RefSig} {κ : Kind} {sp : Space} (v : View sig κ sp ⟨2, ![A, B]⟩ e)
    (h) (w : (⟨2, ![A, B]⟩ : Shape).Idx → Val e) :
    v.readCov [(⟨Rect.unit (s := ⟨2, ![A, B]⟩) (![0, 0] : Fin 2 → Nat) ![A, B] h, w⟩ : View.Piece Val ⟨2, ![A, B]⟩ e)]
      (Rect.unit (s := ⟨2, ![A, B]⟩) (![0, 0] : Fin 2 → Nat) ![A, B] h).toLoadRect = w :=
  View.readCov_unit_zero (S := ⟨2, ![A, B]⟩) v hz h w

end Cert.Proof.Reads

end
-- ==== Proof.Rms.lean ====
/-
  The backward pass of a root-mean-square normalisation, on real numbers: the form written by hand and the form the
  transposed forward lines have are the same number.
-/
module

public import proofs.«01_k».proof.Proof.Reals

@[expose] public section

noncomputable section

namespace Cert.Proof.Rms

open Idealize.ShloMosaic Reals
open scoped BigOperators

/-- The small constant under the root: the rational of its float word. -/
def eps : ℝ := 8796093 / 8796093022208

theorem eps_pos : 0 < eps := by unfold eps; norm_num

theorem ofBits_eps : Ideal.ofBits .f32 897988541#32 = ((eps : ℝ) : EReal) := by
  unfold eps
  simp [Ideal.ofBits, Ideal.ieee]
  norm_num
  rw [mul_up]
  norm_num
theorem ofBits_1024 : Ideal.ofBits .f32 1149239296#32 = ((1024 : ℝ) : EReal) := by
  simp [Ideal.ofBits, Ideal.ieee]
  norm_num
  rw [mul_up]
  norm_num
theorem ofBits_inv_1024 : Ideal.ofBits .f32 981467136#32 = ((1 / 1024 : ℝ) : EReal) := by
  simp [Ideal.ofBits, Ideal.ieee]
  norm_num
  rw [mul_up]
  norm_num
theorem ofBits_half : Ideal.ofBits .f32 1056964608#32 = ((1 / 2 : ℝ) : EReal) := by
  simp [Ideal.ofBits, Ideal.ieee]
  norm_num
  rw [mul_up]
  norm_num
theorem ofBits_neg_half : Ideal.ofBits .f32 3204448256#32 = ((-1 / 2 : ℝ) : EReal) := by
  simp [Ideal.ofBits, Ideal.ieee]
  norm_num
  rw [mul_up]
  norm_num
theorem ofBits_two : Ideal.ofBits .f32 1073741824#32 = ((2 : ℝ) : EReal) := by
  simp [Ideal.ofBits, Ideal.ieee]
  norm_num
  rw [mul_up]
  norm_num

/-- The mean square of a row, with the small constant. -/
def ms (x : Fin 1024 → ℝ) : ℝ := (∑ k, x k * x k) / 1024 + eps
/-- One over its root. -/
def rinv (x : Fin 1024 → ℝ) : ℝ := (Real.sqrt (ms x))⁻¹

theorem ms_pos (x : Fin 1024 → ℝ) : 0 < ms x := by
  have : 0 ≤ ∑ k, x k * x k := Finset.sum_nonneg fun k _ => mul_self_nonneg _
  have := eps_pos
  unfold ms
  positivity

theorem rinv_sq (x : Fin 1024 → ℝ) : rinv x * rinv x = 1 / ms x := by
  unfold rinv
  rw [← mul_inv, Real.mul_self_sqrt (ms_pos x).le, one_div]

theorem d1024 (a : ℝ) : Ideal.div (a : EReal) ((1024 : ℝ) : EReal) = ((a / 1024 : ℝ) : EReal) := div_up a (by norm_num)
theorem ms_up (x : Fin 1024 → ℝ) : (((∑ k, x k * x k) / 1024 + eps : ℝ) : EReal) = ((ms x : ℝ) : EReal) := rfl
theorem rinv_up (x : Fin 1024 → ℝ) : Ideal.rsqrt ((ms x : ℝ) : EReal) = ((rinv x : ℝ) : EReal) := rsqrt_up (ms_pos x)
theorem div_ms (a : ℝ) (x : Fin 1024 → ℝ) : Ideal.div (a : EReal) ((ms x : ℝ) : EReal) = ((a / ms x : ℝ) : EReal) :=
  div_up a (ms_pos x).ne'

/-! ## On extended reals, with no entry assumed finite -/

/-- The mean square of a row, with the small constant. -/
def ems (x : Fin 1024 → EReal) : EReal := Ideal.div (∑ k, x k * x k) (Ideal.ofBits .f32 1149239296#32) + Ideal.ofBits .f32 897988541#32
/-- One over its root. -/
def er (x : Fin 1024 → EReal) : EReal := Ideal.rsqrt (ems x)
/-- The gradient of a row, as the hand-written backward pass has it. -/
def kback (x d : Fin 1024 → EReal) (l : Fin 1024) : EReal :=
  er x * (d l - x l * er x * Ideal.div (∑ k, d k * (x k * er x)) (Ideal.ofBits .f32 1149239296#32))
/-- The factor of the transposed mean square. -/
def efac (x d : Fin 1024 → EReal) : EReal :=
  Ideal.div ((∑ k, x k * d k) * (Ideal.ofBits .f32 3204448256#32 * Ideal.div (er x) (ems x))) (Ideal.ofBits .f32 1149239296#32)
/-- The gradient of a row, as the transposed forward lines have it. -/
def rback (x d : Fin 1024 → EReal) (l : Fin 1024) : EReal := d l * er x + x l * efac x d + efac x d * x l

theorem div_1024 (a : EReal) : Ideal.div a (Ideal.ofBits .f32 1149239296#32) = ((1 / 1024 : ℝ) : EReal) * a := by
  rw [ofBits_1024, Ideal.div_coe (by norm_num), mul_comm]

theorem coe_mul_add {c : ℝ} (hc : 0 ≤ c) (a b : EReal) : ((c : ℝ) : EReal) * (a + b) = ((c : ℝ) : EReal) * a + ((c : ℝ) : EReal) * b :=
  EReal.left_distrib_of_nonneg_of_ne_top (EReal.coe_nonneg.mpr hc) (EReal.coe_ne_top c) a b

theorem mul_sum_coe {ι : Type} {c : ℝ} (hc : 0 ≤ c) (s : Finset ι) (f : ι → EReal) : ((c : ℝ) : EReal) * ∑ i ∈ s, f i = ∑ i ∈ s, ((c : ℝ) : EReal) * f i := by
  classical
  induction s using Finset.induction_on with
  | empty => simp
  | insert a s ha ih => rw [Finset.sum_insert ha, Finset.sum_insert ha, coe_mul_add hc, ih]

theorem sq_nonneg' (a : EReal) : 0 ≤ a * a := by
  induction a using EReal.rec with
  | bot => simp
  | top => simp
  | coe r => rw [mul_up]; exact EReal.coe_nonneg.mpr (mul_self_nonneg r)

theorem sum_sq_top (x : Fin 1024 → EReal) (j : Fin 1024) (h : x j = ⊤ ∨ x j = ⊥) : ∑ k, x k * x k = ⊤ := by
  refine top_unique ?_
  calc (⊤ : EReal) = x j * x j := by rcases h with h | h <;> rw [h] <;> rfl
    _ ≤ _ := Finset.single_le_sum (f := fun k => x k * x k) (fun k _ => sq_nonneg' _) (Finset.mem_univ j)

/-- Twice a real multiple. -/
theorem twice (c : ℝ) (S : EReal) : ((c : ℝ) : EReal) * S + ((c : ℝ) : EReal) * S = ((2 * c : ℝ) : EReal) * S := by
  have h : ∀ y : EReal, y + y = ((2 : ℝ) : EReal) * y := by
    intro y
    induction y using EReal.rec with
    | bot => rw [EReal.coe_mul_bot_of_pos (by norm_num)]; rfl
    | top => rw [EReal.coe_mul_top_of_pos (by norm_num)]; rfl
    | coe r => rw [mul_up, add_up]; congr 1; ring
  rw [h, ← mul_assoc, mul_up]

theorem kback_eq (x d : Fin 1024 → EReal) (l : Fin 1024) : kback x d l = rback x d l := by
  by_cases hf : ∃ j, x j = ⊤ ∨ x j = ⊥
  · obtain ⟨j, hj⟩ := hf
    have hm : ems x = ⊤ := by
      unfold ems
      rw [sum_sq_top x j hj, div_1024, ofBits_eps, EReal.coe_mul_top_of_pos (by norm_num)]
      rfl
    have hr : er x = 0 := by unfold er; rw [hm]; rfl
    have hs : efac x d = 0 := by
      unfold efac
      rw [hr, div_1024]
      have : Ideal.div 0 (ems x) = 0 := by
        rw [hm]
        simp [Ideal.div]
      rw [this, mul_zero, mul_zero, mul_zero]
    unfold kback rback
    rw [hr, hs]
    simp
  · push Not at hf
    obtain ⟨X, rfl⟩ : ∃ X : Fin 1024 → ℝ, x = up X := exists_up fun i => by
      have := hf i
      induction h : x i using EReal.rec with
      | bot => exact absurd h this.2
      | top => exact absurd h this.1
      | coe r => exact ⟨r, rfl⟩
    have hm : ems (up X) = ((ms X : ℝ) : EReal) := by
      unfold ems
      simp only [up, ofBits_1024, ofBits_eps, mul_up, sum_up, d1024, add_up, ms_up]
    have hr : er (up X) = ((rinv X : ℝ) : EReal) := by unfold er; rw [hm, rinv_up]
    have hp : 0 ≤ rinv X := inv_nonneg.mpr (Real.sqrt_nonneg _)
    have hk : ∑ k, d k * (up X k * ((rinv X : ℝ) : EReal)) = ((rinv X : ℝ) : EReal) * ∑ k, up X k * d k := by
      rw [mul_sum_coe hp]
      exact Finset.sum_congr rfl fun k _ => by rw [mul_comm (d k), mul_comm (up X k), mul_assoc]
    unfold kback rback efac
    simp only [hm, hr, hk, div_1024, div_ms, ofBits_neg_half]
    generalize ∑ k, up X k * d k = S
    have h2 : rinv X / ms X = rinv X * (rinv X * rinv X) := by rw [rinv_sq]; ring
    rw [h2]
    generalize rinv X = ρ at hp ⊢
    have e1 : ((1 / 1024 : ℝ) : EReal) * (S * (((-1 / 2 : ℝ) : EReal) * ((ρ * (ρ * ρ) : ℝ) : EReal))) = ((-(ρ * (ρ * ρ)) / 2048 : ℝ) : EReal) * S := by
      rw [mul_comm S, ← mul_assoc, mul_up, mul_up]; congr 2; ring
    have e2 : up X l * ((ρ : ℝ) : EReal) * (((1 / 1024 : ℝ) : EReal) * (((ρ : ℝ) : EReal) * S)) = ((X l * ρ * (1 / 1024 * ρ) : ℝ) : EReal) * S := by
      rw [← mul_assoc ((1 / 1024 : ℝ) : EReal), ← mul_assoc, mul_up, mul_up, mul_up]
    have e3 : ∀ c : ℝ, up X l * (((c : ℝ) : EReal) * S) = ((X l * c : ℝ) : EReal) * S := fun c => by rw [← mul_assoc, mul_up]
    rw [e1, e2, mul_comm (_ * S) (up X l), e3, add_assoc, twice, sub_eq_add_neg, coe_mul_add hp, mul_comm (d l), ← neg_mul, ← mul_assoc, neg_up, mul_up]
    congr 3
    ring

end Cert.Proof.Rms

end
-- ==== Proof.FinVal.lean ====
module

public import proofs.«01_k».proof.Proof.Gen.FinReferenceIdeal.Read
public import proofs.«01_k».proof.Proof.Gen.FinKernelIdeal.Value
public import proofs.«01_k».proof.Proof.Reads
public import proofs.«01_k».proof.Proof.Rms
public import Idealize.ShloMosaic.Lib.Pointwise
public import Idealize.ShloMosaic.Lib.Tactic

@[expose] public section

set_option maxRecDepth 16384

noncomputable section

namespace Cert.Proof.FinVal

open Idealize.ShloMosaic Idealize.ShloMosaic.TcCoe Reals Reads Rms FinKernelIdeal FinKernelIdeal.Gen

variable {F : FTy → Type} [FloatOps F]

section Cases
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S1x128 .f32) (h4 : a4.IsWhole) (a5 : Memref sig .tc .vmem S512x1024 .f32) (h5 : a5.IsWhole)
  (a6 : Memref sig .tc .vmem S512x1024 .bf16) (h6 : a6.IsWhole) (a7 : Memref sig .tc .vmem S1x1024 .f32) (h7 : a7.IsWhole)

theorem out_A_3 (hc0 hc1 hc2 hc3) (x t g) : out0_A_3 (F := F) c i a1 h1 a2 h2 a3 h3 a4 h4 a5 h5 a6 h6 a7 h7 hc0 hc1 hc2 hc3 x t g = k0_pay4 (k0_pay11 g x t) := by
  unfold out0_A_3
  rw [View.read_writes_eq_canon _ _ _ (by apply cover0_A_3)]
  unfold kernelRun0_A
  dsimp only
  sl_unfold_words
  rw [View.canon_unit_zero hz]
  simp only [ld_all, cov_all, View.readAt_eq_ld, Memref.IsWhole.read_unread, shapeCast_self]

theorem out_A_4 (hc0 hc1 hc2 hc3) (x t g) : out0_A_4 (F := F) c i a1 h1 a2 h2 a3 h3 a4 h4 a5 h5 a6 h6 a7 h7 hc0 hc1 hc2 hc3 x t g = k0_pay1 (k0_pay8 x) (k0_pay9 x) (k0_pay14 g x t) (k0_pay15 g x t) := by
  unfold out0_A_4
  rw [View.read_writes_eq_canon _ _ _ (by apply cover0_A_4)]
  unfold kernelRun0_A
  dsimp only
  sl_unfold_words
  rw [View.canon_unit_zero hz]
  simp only [ld_all, cov_all, View.readAt_eq_ld, Memref.IsWhole.read_unread, shapeCast_self]

theorem out_A_5 (hc0 hc1 hc2 hc3) (x t g) : out0_A_5 (F := F) c i a1 h1 a2 h2 a3 h3 a4 h4 a5 h5 a6 h6 a7 h7 hc0 hc1 hc2 hc3 x t g = k0_pay2 (k0_pay8 x) (k0_pay9 x) (k0_pay14 g x t) (k0_pay15 g x t) := by
  unfold out0_A_5
  rw [View.read_writes_eq_canon _ _ _ (by apply cover0_A_5)]
  unfold kernelRun0_A
  dsimp only
  sl_unfold_words
  rw [View.canon_unit_zero hz]
  simp only [ld_all, cov_all, View.readAt_eq_ld, Memref.IsWhole.read_unread, shapeCast_self]

theorem out_A_6 (hc0 hc1 hc2 hc3) (x t g) : out0_A_6 (F := F) c i a1 h1 a2 h2 a3 h3 a4 h4 a5 h5 a6 h6 a7 h7 hc0 hc1 hc2 hc3 x t g = k0_pay13 g x t := by
  unfold out0_A_6
  rw [View.read_writes_eq_canon _ _ _ (by apply cover0_A_6)]
  unfold kernelRun0_A
  dsimp only
  sl_unfold_words
  rw [View.canon_unit_zero hz]
  simp only [ld_all, cov_all, View.readAt_eq_ld, Memref.IsWhole.read_unread, shapeCast_self]

theorem out_B_3 (hc0 hc1 hc2 hc3) (x t g u v) : out0_B_3 (F := F) c i a1 h1 a2 h2 a3 h3 a4 h4 a5 h5 a6 h6 a7 h7 hc0 hc1 hc2 hc3 x t g u v = k0_pay5 (k0_pay11 g x t) u := by
  unfold out0_B_3
  rw [View.read_writes_eq_canon _ _ _ (by apply cover0_B_3)]
  unfold kernelRun0_B
  dsimp only
  sl_unfold_words
  rw [View.canon_unit_zero hz]
  simp only [ld_all, cov_all, View.readAt_eq_ld, Memref.IsWhole.read_unread, shapeCast_self]

theorem out_B_4 (hc0 hc1 hc2 hc3) (x t g u v) : out0_B_4 (F := F) c i a1 h1 a2 h2 a3 h3 a4 h4 a5 h5 a6 h6 a7 h7 hc0 hc1 hc2 hc3 x t g u v = k0_pay1 (k0_pay8 x) (k0_pay9 x) (k0_pay14 g x t) (k0_pay15 g x t) := by
  unfold out0_B_4
  rw [View.read_writes_eq_canon _ _ _ (by apply cover0_B_4)]
  unfold kernelRun0_B
  dsimp only
  sl_unfold_words
  rw [View.canon_unit_zero hz]
  simp only [ld_all, cov_all, View.readAt_eq_ld, Memref.IsWhole.read_unread, shapeCast_self]

theorem out_B_5 (hc0 hc1 hc2 hc3) (x t g u v) : out0_B_5 (F := F) c i a1 h1 a2 h2 a3 h3 a4 h4 a5 h5 a6 h6 a7 h7 hc0 hc1 hc2 hc3 x t g u v = k0_pay2 (k0_pay8 x) (k0_pay9 x) (k0_pay14 g x t) (k0_pay15 g x t) := by
  unfold out0_B_5
  rw [View.read_writes_eq_canon _ _ _ (by apply cover0_B_5)]
  unfold kernelRun0_B
  dsimp only
  sl_unfold_words
  rw [View.canon_unit_zero hz]
  simp only [ld_all, cov_all, View.readAt_eq_ld, Memref.IsWhole.read_unread, shapeCast_self]

theorem out_B_6 (hc0 hc1 hc2 hc3) (x t g u v) : out0_B_6 (F := F) c i a1 h1 a2 h2 a3 h3 a4 h4 a5 h5 a6 h6 a7 h7 hc0 hc1 hc2 hc3 x t g u v = k0_pay3 (k0_pay13 g x t) v := by
  unfold out0_B_6
  rw [View.read_writes_eq_canon _ _ _ (by apply cover0_B_6)]
  unfold kernelRun0_B
  dsimp only
  sl_unfold_words
  rw [View.canon_unit_zero hz]
  simp only [ld_all, cov_all, View.readAt_eq_ld, Memref.IsWhole.read_unread, shapeCast_self]

end Cases

/-- The error of one entry. -/
def err (x t g : Fin 1024 → EReal) (l : Fin 1024) : EReal := x l * er x * g l - t l
/-- The gradient at one entry of the output. -/
def de (x t g : Fin 1024 → EReal) (l : Fin 1024) : EReal := err x t g l * Ideal.ofBits .f32 981467136#32
/-- The loss of one row. -/
def rowLoss (x t g : Fin 1024 → EReal) : EReal := Ideal.div (∑ k, err x t g k * err x t g k) (Ideal.ofBits .f32 1149239296#32)

section Rows
variable (x t : Vec Ideal S512x1024 .f32) (g : Vec Ideal S1x1024 .f32)

theorem pay1_at (r : Fin 512) (l : Fin 1024) : k0_pay1 (F := Ideal) (k0_pay8 x) (k0_pay9 x) (k0_pay14 g x t) (k0_pay15 g x t) (ix2 r l)
    = kback (fun k => x (ix2 r k)) (fun k => de (fun k => x (ix2 r k)) (fun k => t (ix2 r k)) (fun k => g (ix2 0 k)) k * g (ix2 0 k)) l := by
  pointwise [k0_pay1, k0_pay8, k0_pay9, k0_pay14, k0_pay15, k0_pay10, k0_pay12, k0_pay7, k0_pay6]
  rfl

theorem pay2_at (r : Fin 512) (l : Fin 1024) : k0_pay2 (F := Ideal) (k0_pay8 x) (k0_pay9 x) (k0_pay14 g x t) (k0_pay15 g x t) (ix2 r l)
    = kback (fun k => x (ix2 r k)) (fun k => de (fun k => x (ix2 r k)) (fun k => t (ix2 r k)) (fun k => g (ix2 0 k)) k * g (ix2 0 k)) l := by
  pointwise [k0_pay2, k0_pay1, k0_pay8, k0_pay9, k0_pay14, k0_pay15, k0_pay10, k0_pay12, k0_pay7, k0_pay6]
  rfl

theorem pay11_at (l : Fin 128) : k0_pay4 (F := Ideal) (k0_pay11 g x t) (ix2 0 l)
    = Ideal.ofBits .f32 1056964608#32 * ∑ r : Fin 512, rowLoss (fun k => x (ix2 r k)) (fun k => t (ix2 r k)) (fun k => g (ix2 0 k)) := by
  pointwise [k0_pay4, k0_pay11, k0_pay8, k0_pay9, k0_pay14, k0_pay15, k0_pay10, k0_pay12, k0_pay7, k0_pay6]
  rfl

theorem pay13_at (l : Fin 1024) : k0_pay13 g x t (ix2 0 l)
    = ∑ r : Fin 512, de (fun k => x (ix2 r k)) (fun k => t (ix2 r k)) (fun k => g (ix2 0 k)) l * (x (ix2 r l) * er (fun k => x (ix2 r k))) := by
  pointwise [k0_pay13, k0_pay8, k0_pay9, k0_pay14, k0_pay15, k0_pay10, k0_pay12, k0_pay7, k0_pay6]
  rfl

end Rows

theorem pay5_at (p : Vec Ideal S1x1 .f32) (u : Vec Ideal S1x128 .f32) (l : Fin 128) : k0_pay5 (F := Ideal) p u (ix2 0 l) = u (ix2 0 l) + k0_pay4 p (ix2 0 l) := by
  pointwise [k0_pay5]
theorem pay3_at (p u : Vec Ideal S1x1024 .f32) (l : Fin 1024) : k0_pay3 (F := Ideal) p u (ix2 0 l) = u (ix2 0 l) + p (ix2 0 l) := by
  pointwise [k0_pay3]

section Ref
open FinReferenceIdeal.Read
variable (x t : Vec Ideal S1x2048x1024 .f32) (g : Vec Ideal S1024 .f32)

/-- The rows of the arguments. -/
abbrev rx (r : Fin 2048) (k : Fin 1024) : EReal := x (ix3 0 r k)
abbrev rg (k : Fin 1024) : EReal := g (ix1 k)

theorem v8_at (r : Fin 2048) : val_main_v8 (F := Ideal) x (ix2 r 0) = ems (rx x r) := by
  pointwise [val_main_v8, val_main_v7, val_main_cst_1, val_main_v6, val_main_v5, val_main_cst_0, val_main_v4, val_main_v3, val_main_cst, val_main_v2, val_main_v0]
  rfl

theorem v18_at (r : Fin 2048) (l : Fin 1024) : val_main_v18 (F := Ideal) x t g (ix2 r l) = err (rx x r) (rx t r) (rg g) l := by
  pointwise [val_main_v18, val_main_v17, val_main_v16, val_main_v15, val_main_v14, val_main_v13, val_main_v9, val_main_v1, val_main_v0]
  simp only [v8_at]
  rfl

theorem half_twice (e : EReal) : Ideal.div (Ideal.ofBits .f32 1056964608#32) (Ideal.ofBits .f32 1149239296#32) * (Ideal.ofBits .f32 1073741824#32 * e) = e * Ideal.ofBits .f32 981467136#32 := by
  rw [ofBits_half, ofBits_1024, ofBits_two, ofBits_inv_1024, d1024, ← mul_assoc, mul_up, mul_comm e]
  congr 2
  norm_num

theorem v32_at (r : Fin 2048) (l : Fin 1024) : val_main_v32 (F := Ideal) x t g (ix2 r l) = de (rx x r) (rx t r) (rg g) l := by
  pointwise [val_main_v32, val_main_v31, val_main_v30, val_main_v29, val_main_cst_10, val_main_v28, val_main_v27, val_main_cst_9, val_main_cst_8, val_main_v21, val_main_v20, val_main_cst_3]
  simp only [v18_at, mul_one, half_twice]
  rfl

theorem v52_at (r : Fin 2048) (l : Fin 1024) : val_main_v52 (F := Ideal) x t g (ix2 r l) = kback (rx x r) (fun k => de (rx x r) (rx t r) (rg g) k * rg g k) l := by
  pointwise [val_main_v52, val_main_v51, val_main_v50, val_main_v49, val_main_v48, val_main_v47, val_main_cst_15, val_main_v46, val_main_v45, val_main_cst_14, val_main_v44, val_main_v43, val_main_v42, val_main_v41, val_main_v40, val_main_cst_13, val_main_v39, val_main_v37, val_main_v36, val_main_v15, val_main_v12, val_main_v11, val_main_v10, val_main_v9, val_main_cst_2, val_main_v13, val_main_v9, val_main_v0]
  simp only [v32_at, Fin.sum_univ_one, v8_at]
  rw [kback_eq]
  rfl

theorem v54_at (r : Fin 2048) (l : Fin 1024) : val_main_v54 (F := Ideal) x t g (ix2 r l) = kback (rx x r) (fun k => de (rx x r) (rx t r) (rg g) k * rg g k) l := by
  pointwise [val_main_v54]
  rw [v52_at]

theorem v55_at (l : Fin 1024) : val_main_v55 (F := Ideal) x t g (ix2 0 l) = ∑ r, de (rx x r) (rx t r) (rg g) l * (rx x r l * er (rx x r)) := by
  pointwise [val_main_v55, val_main_v38, val_main_cst_12, val_main_v35, val_main_v34, val_main_v33, val_main_cst_11, val_main_v14, val_main_v13, val_main_v9, val_main_v0]
  simp only [v32_at, v8_at, Fin.sum_univ_one]
  exact Finset.sum_congr rfl fun r _ => mul_comm _ _

theorem v53_at (l : Fin 128) : val_main_v53 (F := Ideal) x t g (ix2 0 l) = Ideal.ofBits .f32 1056964608#32 * ∑ r, rowLoss (rx x r) (rx t r) (rg g) := by
  pointwise [val_main_v53, val_main_v26, val_main_cst_7, val_main_v25, val_main_cst_6, val_main_v24, val_main_v23, val_main_cst_5, val_main_v22, val_main_cst_4, val_main_v19]
  simp only [v18_at]
  rfl

end Ref

end Cert.Proof.FinVal

end
-- ==== Proof.Tiles.lean ====
/-
  Sums over the rows of an array, taken tile by tile.
-/
module

public import Mathlib.Algebra.BigOperators.Fin

@[expose] public section

noncomputable section

namespace Cert.Proof.Tiles

open scoped BigOperators

variable {M : Type} [AddCommMonoid M]

/-- The terms of the points up to `n`, added. -/
def upTo {N : ℕ} (L : Fin N → M) (n : ℕ) : M := ∑ i : Fin N, if i.val ≤ n then L i else 0

theorem upTo_zero {N : ℕ} (L : Fin N → M) (h : 0 < N) : upTo L 0 = L ⟨0, h⟩ := by
  have e : ∀ i : Fin N, (if i.val ≤ 0 then L i else 0) = if i = ⟨0, h⟩ then L i else 0 := fun i =>
    if_congr (by rw [Fin.ext_iff]; exact Nat.le_zero) rfl rfl
  unfold upTo
  rw [Finset.sum_congr rfl fun i _ => e i, Finset.sum_ite_eq', if_pos (Finset.mem_univ _)]

theorem upTo_succ {N : ℕ} (L : Fin N → M) (n : ℕ) (h : n + 1 < N) : upTo L (n + 1) = upTo L n + L ⟨n + 1, h⟩ := by
  have e : ∀ i : Fin N, (if i.val ≤ n + 1 then L i else 0) = (if i.val ≤ n then L i else 0) + if i = ⟨n + 1, h⟩ then L i else 0 := by
    intro i
    have : i = ⟨n + 1, h⟩ ↔ i.val = n + 1 := Fin.ext_iff
    by_cases h1 : i.val ≤ n
    · rw [if_pos h1, if_pos (by omega), if_neg (by rw [this]; omega), add_zero]
    · by_cases h2 : i.val = n + 1
      · rw [if_neg h1, if_pos (by omega), if_pos (this.mpr h2), zero_add]
      · rw [if_neg h1, if_neg (by omega), if_neg (by rw [this]; omega), add_zero]
  unfold upTo
  rw [Finset.sum_congr rfl fun i _ => e i, Finset.sum_add_distrib, Finset.sum_ite_eq', if_pos (Finset.mem_univ _)]

theorem upTo_last {N : ℕ} (L : Fin N → M) (n : ℕ) (h : N ≤ n + 1) : upTo L n = ∑ i, L i :=
  Finset.sum_congr rfl fun i _ => if_pos (by have := i.isLt; omega)

/-- A sum over `N · b` rows, tile by tile. -/
theorem sum_tiles {N b K : ℕ} (hK : N * b = K) (f : Fin K → M) (hb : ∀ (i : Fin N) (r : Fin b), b * i.val + r.val < K) :
    ∑ i : Fin N, ∑ r : Fin b, f ⟨b * i.val + r.val, hb i r⟩ = ∑ k, f k := by
  subst hK
  rw [← Fintype.sum_equiv finProdFinEquiv (fun p => f (finProdFinEquiv p)) f (fun _ => rfl), Fintype.sum_prod_type]
  refine Finset.sum_congr rfl fun i _ => Finset.sum_congr rfl fun r _ => congrArg f (Fin.ext ?_)
  show b * i.val + r.val = r.val + b * i.val
  omega

end Cert.Proof.Tiles

end
-- ==== Proof.Blocks.lean ====
/-
  Blocks of a two-dimensional array: where a block's entries lie in it, and which block holds an entry.
-/
module

public import Idealize.ShloMosaic.Lib.Pointwise
public import Idealize.ShloMosaic.Lib.Pipeline.Value

@[expose] public section

noncomputable section

namespace Cert.Proof.Blocks

open Idealize.ShloMosaic

variable {A B a b : ℕ} {q : Fin 2 → ℕ} {inb : ∀ x, q x * (![a, b] : Fin 2 → ℕ) x + (![a, b] : Fin 2 → ℕ) x ≤ (⟨2, ![A, B]⟩ : Shape).size x}

theorem eq_ix2 (i : (⟨2, ![A, B]⟩ : Shape).Idx) : ∃ r l, i = ix2 r l := ⟨i 0, i 1, funext fun a => by fin_cases a <;> rfl⟩
theorem eq_row (i : (⟨2, ![1, B]⟩ : Shape).Idx) : ∃ l, i = ix2 0 l := ⟨i 1, funext fun a => by fin_cases a; exacts [Subsingleton.elim (α := Fin 1) _ _, rfl]⟩

theorem bcast_at (h : (⟨1, ![1024]⟩ : Shape).BroadcastsInDim ⟨2, ![1, 1024]⟩ ![1]) (g : Vec Ideal ⟨1, ![1024]⟩ .f32) (l : Fin 1024) :
    broadcastInDim ⟨2, ![1, 1024]⟩ ![1] h g (ix2 0 l) = g (ix1 l) := by
  pointwise []

theorem emb_block {p p' : ℕ} (h : q 0 = p ∧ q 1 = p') (r : Fin a) (l : Fin b) (R : Fin A) (L : Fin B)
    (hr : R.val = a * p + r.val := by first | rfl | omega) (hl : L.val = b * p' + l.val := by first | rfl | omega) :
    (Rect.unit (s := ⟨2, ![A, B]⟩) (fun x => q x * (![a, b] : Fin 2 → ℕ) x) ![a, b] inb).emb (ix2 r l) = ix2 R L :=
  funext fun x => Fin.ext (by
    match x with
    | ⟨0, _⟩ => show q 0 * a + 1 * r.val = R.val; rw [h.1, hr, Nat.mul_comm, Nat.one_mul]
    | ⟨1, _⟩ => show q 1 * b + 1 * l.val = L.val; rw [h.2, hl, Nat.mul_comm, Nat.one_mul])

theorem mem_block (i : (⟨2, ![A, B]⟩ : Shape).Idx) (h : q 0 = (i 0 : ℕ) / a ∧ q 1 = (i 1 : ℕ) / b)
    (ha : 0 < a := by decide) (hb : 0 < b := by decide) : i ∈ (Rect.unit (s := ⟨2, ![A, B]⟩) (fun x => q x * (![a, b] : Fin 2 → ℕ) x) ![a, b] inb).set := by
  rw [Rect.mem_set_unit]
  intro x
  match x with
  | ⟨0, _⟩ => show q 0 * a ≤ (i 0 : ℕ) ∧ (i 0 : ℕ) < q 0 * a + a; rw [h.1]; exact ⟨Nat.div_mul_le_self _ _, Nat.lt_div_mul_add ha⟩
  | ⟨1, _⟩ => show q 1 * b ≤ (i 1 : ℕ) ∧ (i 1 : ℕ) < q 1 * b + b; rw [h.2]; exact ⟨Nat.div_mul_le_self _ _, Nat.lt_div_mul_add hb⟩

end Cert.Proof.Blocks

end
-- ==== Proof.FinRun.lean ====
module

public import proofs.«01_k».proof.Proof.FinVal
public import proofs.«01_k».proof.Proof.Tiles
public import proofs.«01_k».proof.Proof.Blocks
public import Idealize.ShloMosaic.Lib.Pipeline.Value
public import Idealize.ShloMosaic.Lib.StableHlo.Run
public import proofs.«01_k».proof.Defs
public import proofs.«01_k».proof.Proof.Gen.FinReferenceIdeal.Run

@[expose] public section

set_option maxRecDepth 16384

noncomputable section

namespace Cert.Proof.FinRun

open Idealize.ShloMosaic Idealize.ShloMosaic.TcCoe Reals Rms FinKernelIdeal FinKernelIdeal.Gen FinVal Tiles Blocks

variable (m : (ℓ : Loc nD τ sig) → Buf (Elt Ideal) ℓ) (c : Dev nD)

/-- The three arguments. -/
abbrev ax : Vec Ideal S1x2048x1024 .f32 := m ((c : Thread nD τ).loc main_arg0)
abbrev at' : Vec Ideal S1x2048x1024 .f32 := m ((c : Thread nD τ).loc main_arg1)
abbrev ag : Vec Ideal S1024 .f32 := m ((c : Thread nD τ).loc main_arg2)

theorem V_v0 : V m c main_v0 = shapeCast S2048x1024 (ax m c) shapeCasts_S1x2048x1024_S2048x1024 := by
  unfold_abbrev_sides
  after_results
  rfl
theorem V_v1 : V m c main_v1 = shapeCast S2048x1024 (at' m c) shapeCasts_S1x2048x1024_S2048x1024 := by
  unfold_abbrev_sides
  after_results
  rfl
theorem V_v2 : V m c main_v2 = broadcastInDim S1x1024 ![1] bcast_S1024_S1x1024_1 (ag m c) := by
  unfold_abbrev_sides
  after_results

/-- Row `r` of block `t`. -/
def row (t : Fin cfg0.N) (r : Fin 512) : Fin 2048 := ⟨512 * t.val + r.val, by have := t.isLt; have : cfg0.N = 4 := N_0; omega⟩

theorem cast_at (x : Vec Ideal S1x2048x1024 .f32) (r : Fin 2048) (l : Fin 1024) :
    shapeCast S2048x1024 x shapeCasts_S1x2048x1024_S2048x1024 (ix2 r l) = x (ix3 0 r l) := by
  pointwise []

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel

theorem iblk0 (t : Fin cfg0.N) (r : Fin 512) (l : Fin 1024) : iblk m c 0 t (ix2 r l) = ax m c (ix3 0 (row t r) l) :=
  (congrArg (V m c main_v0) (emb_block (index0 t) r l _ _)).trans ((congrFun (V_v0 m c) _).trans (cast_at _ _ _))

theorem iblk1 (t : Fin cfg0.N) (r : Fin 512) (l : Fin 1024) : iblk m c 1 t (ix2 r l) = at' m c (ix3 0 (row t r) l) :=
  (congrArg (V m c main_v1) (emb_block (index1 t) r l _ _)).trans ((congrFun (V_v1 m c) _).trans (cast_at _ _ _))

theorem iblk2 (t : Fin cfg0.N) (l : Fin 1024) : iblk m c 2 t (ix2 0 l) = ag m c (ix1 l) :=
  (congrArg (V m c main_v2) (emb_block (index2 t) 0 l _ _)).trans ((congrFun (V_v2 m c) _).trans (bcast_at ..))

/-- What the outputs' buffers hold after the first point. -/
theorem outs_A (t : Fin cfg0.N) (h : t.val = 0) : outsAt0 m c t.val t.isLt
    = (k0_pay4 (k0_pay11 (iblk m c 2 t) (iblk m c 0 t) (iblk m c 1 t)),
       k0_pay1 (k0_pay8 (iblk m c 0 t)) (k0_pay9 (iblk m c 0 t)) (k0_pay14 (iblk m c 2 t) (iblk m c 0 t) (iblk m c 1 t)) (k0_pay15 (iblk m c 2 t) (iblk m c 0 t) (iblk m c 1 t)),
       k0_pay2 (k0_pay8 (iblk m c 0 t)) (k0_pay9 (iblk m c 0 t)) (k0_pay14 (iblk m c 2 t) (iblk m c 0 t) (iblk m c 1 t)) (k0_pay15 (iblk m c 2 t) (iblk m c 0 t) (iblk m c 1 t)),
       k0_pay13 (iblk m c 2 t) (iblk m c 0 t) (iblk m c 1 t)) := by
  rw [outsAt0_A m c t (by omega) (by omega) (by omega) (by omega), out_A_3, out_A_4, out_A_5, out_A_6]

/-- What they hold after a later point: the loss and the gradient of the scale are added to. -/
theorem outs_B (t : Fin cfg0.N) (h : 1 ≤ t.val) : outsAt0 m c t.val t.isLt
    = (k0_pay5 (k0_pay11 (iblk m c 2 t) (iblk m c 0 t) (iblk m c 1 t)) (outsAt0 m c (t.val - 1) (Nat.lt_of_le_of_lt (Nat.sub_le _ _) t.isLt)).1,
       k0_pay1 (k0_pay8 (iblk m c 0 t)) (k0_pay9 (iblk m c 0 t)) (k0_pay14 (iblk m c 2 t) (iblk m c 0 t) (iblk m c 1 t)) (k0_pay15 (iblk m c 2 t) (iblk m c 0 t) (iblk m c 1 t)),
       k0_pay2 (k0_pay8 (iblk m c 0 t)) (k0_pay9 (iblk m c 0 t)) (k0_pay14 (iblk m c 2 t) (iblk m c 0 t) (iblk m c 1 t)) (k0_pay15 (iblk m c 2 t) (iblk m c 0 t) (iblk m c 1 t)),
       k0_pay3 (k0_pay13 (iblk m c 2 t) (iblk m c 0 t) (iblk m c 1 t)) (outsAt0 m c (t.val - 1) (Nat.lt_of_le_of_lt (Nat.sub_le _ _) t.isLt)).2.2.2) := by
  have hN : cfg0.N = 4 := N_0
  have := t.isLt
  rw [outsAt0_B m c t (by omega) (by omega) (by omega) (by omega), out_B_3, out_B_4, out_B_5, out_B_6]

/-- The loss of one tile. -/
def lossT (t : Fin cfg0.N) : EReal := Ideal.ofBits .f32 1056964608#32 * ∑ r : Fin 512, rowLoss (rx (ax m c) (row t r)) (rx (at' m c) (row t r)) (rg (ag m c))
/-- The gradient of the scale from one tile. -/
def dgT (l : Fin 1024) (t : Fin cfg0.N) : EReal := ∑ r : Fin 512, de (rx (ax m c) (row t r)) (rx (at' m c) (row t r)) (rg (ag m c)) l * (rx (ax m c) (row t r) l * er (rx (ax m c) (row t r)))

/-- The rows of the blocks. -/
theorem rows0 (t : Fin cfg0.N) (r : Fin 512) : (fun k => iblk m c 0 t (ix2 r k)) = rx (ax m c) (row t r) := funext fun k => iblk0 m c t r k
theorem rows1 (t : Fin cfg0.N) (r : Fin 512) : (fun k => iblk m c 1 t (ix2 r k)) = rx (at' m c) (row t r) := funext fun k => iblk1 m c t r k
theorem rows2 (t : Fin cfg0.N) : (fun k => iblk m c 2 t (ix2 0 k)) = rg (ag m c) := funext fun k => iblk2 m c t k

theorem outs_dx (t : Fin cfg0.N) (r : Fin 512) (l : Fin 1024) : (outsAt0 m c t.val t.isLt).2.1 (ix2 r l)
    = kback (rx (ax m c) (row t r)) (fun k => de (rx (ax m c) (row t r)) (rx (at' m c) (row t r)) (rg (ag m c)) k * rg (ag m c) k) l := by
  rw [← rows0, ← rows1, ← rows2 m c t]
  by_cases h : t.val = 0
  · rw [outs_A m c t h]; exact pay1_at _ _ _ r l
  · rw [outs_B m c t (by omega)]; exact pay1_at _ _ _ r l

theorem outs_dxb (t : Fin cfg0.N) (r : Fin 512) (l : Fin 1024) : (outsAt0 m c t.val t.isLt).2.2.1 (ix2 r l)
    = kback (rx (ax m c) (row t r)) (fun k => de (rx (ax m c) (row t r)) (rx (at' m c) (row t r)) (rg (ag m c)) k * rg (ag m c) k) l := by
  rw [← rows0, ← rows1, ← rows2 m c t]
  by_cases h : t.val = 0
  · rw [outs_A m c t h]; exact pay2_at _ _ _ r l
  · rw [outs_B m c t (by omega)]; exact pay2_at _ _ _ r l

theorem tile_loss (t : Fin cfg0.N) (l : Fin 128) : k0_pay4 (k0_pay11 (iblk m c 2 t) (iblk m c 0 t) (iblk m c 1 t)) (ix2 0 l) = lossT m c t := by
  rw [pay11_at, lossT]
  simp only [rows0, rows1, rows2]

theorem tile_dg (t : Fin cfg0.N) (l : Fin 1024) : k0_pay13 (iblk m c 2 t) (iblk m c 0 t) (iblk m c 1 t) (ix2 0 l) = dgT m c l t := by
  rw [pay13_at, dgT]
  simp only [rows0, rows1, rows2, iblk0]

theorem outs_loss (l : Fin 128) : ∀ (n : ℕ) (h : n < cfg0.N), (outsAt0 m c n h).1 (ix2 0 l) = upTo (lossT m c) n
  | 0, h => by
    rw [outs_A m c ⟨0, h⟩ rfl, upTo_zero _ h]
    exact tile_loss m c _ l
  | n + 1, h => by
    rw [outs_B m c ⟨n + 1, h⟩ (Nat.le_add_left _ _), upTo_succ _ _ h]
    dsimp only
    rw [pay5_at, tile_loss]
    exact congrArg (· + _) (outs_loss l n (Nat.lt_of_succ_lt h))

theorem outs_dg (l : Fin 1024) : ∀ (n : ℕ) (h : n < cfg0.N), (outsAt0 m c n h).2.2.2 (ix2 0 l) = upTo (dgT m c l) n
  | 0, h => by
    rw [outs_A m c ⟨0, h⟩ rfl, upTo_zero _ h]
    exact tile_dg m c _ l
  | n + 1, h => by
    rw [outs_B m c ⟨n + 1, h⟩ (Nat.le_add_left _ _), upTo_succ _ _ h]
    dsimp only
    rw [pay3_at, tile_dg]
    exact congrArg (· + _) (outs_dg l n (Nat.lt_of_succ_lt h))

open FinReferenceIdeal.Read in
theorem final4 : (dats m 0 c).arrAt 4 cfg0.N = val_main_v52 (F := Ideal) (ax m c) (at' m c) (ag m c) := by
  refine (dats m 0 c).arrAt_eq_of_cover 4 _ (fun t _ => ?_) fun i => ?_
  · rw [Value.flushed4 m c t]
    funext j
    obtain ⟨r, l, rfl⟩ := eq_ix2 (A := 512) (B := 1024) j
    refine (outs_dx m c t r l).trans ?_
    rw [← v52_at]
    exact (congrArg _ (emb_block (index4 t) r l _ _)).symm
  · have hN : cfg0.N = 4 := N_0
    have h0 : (i 0 : Nat) < 2048 := (i 0).isLt
    have h1 : (i 1 : Nat) < 1024 := (i 1).isLt
    let t : Fin cfg0.N := ⟨(i 0 : Nat) / 512, by omega⟩
    have hi := index4 t
    refine ⟨t, flush0_4 t, ?_⟩
    show i ∈ ((View.whole main_v3_1).slice (win0_4.rect t)).set
    rw [View.set_slice_whole]
    exact mem_block i ⟨hi.1, hi.2.trans (by omega)⟩

open FinReferenceIdeal.Read in
theorem final5 : (dats m 0 c).arrAt 5 cfg0.N = val_main_v54 (F := Ideal) (ax m c) (at' m c) (ag m c) := by
  refine (dats m 0 c).arrAt_eq_of_cover 5 _ (fun t _ => ?_) fun i => ?_
  · rw [Value.flushed5 m c t]
    funext j
    obtain ⟨r, l, rfl⟩ := eq_ix2 (A := 512) (B := 1024) j
    refine (outs_dxb m c t r l).trans ?_
    rw [← v54_at]
    exact (congrArg _ (emb_block (index5 t) r l _ _)).symm
  · have hN : cfg0.N = 4 := N_0
    have h0 : (i 0 : Nat) < 2048 := (i 0).isLt
    have h1 : (i 1 : Nat) < 1024 := (i 1).isLt
    let t : Fin cfg0.N := ⟨(i 0 : Nat) / 512, by omega⟩
    have hi := index5 t
    refine ⟨t, flush0_5 t, ?_⟩
    show i ∈ ((View.whole main_v3_2).slice (win0_5.rect t)).set
    rw [View.set_slice_whole]
    exact mem_block i ⟨hi.1, hi.2.trans (by omega)⟩

open FinReferenceIdeal.Read in
theorem final3 : (dats m 0 c).arrAt 3 cfg0.N = val_main_v53 (F := Ideal) (ax m c) (at' m c) (ag m c) := by
  have hN : cfg0.N = 4 := N_0
  have key : (outsAt0 m c t0_3.val t0_3.isLt).1 = val_main_v53 (F := Ideal) (ax m c) (at' m c) (ag m c) := by
    funext j
    obtain ⟨l, rfl⟩ := eq_row (B := 128) j
    refine (outs_loss m c l t0_3.val t0_3.isLt).trans ?_
    rw [v53_at, upTo_last _ t0_3.val (show cfg0.N ≤ 3 + 1 by omega)]
    unfold lossT
    rw [ofBits_half, ← mul_sum_coe (by norm_num), ← sum_tiles (N := cfg0.N) (b := 512) (K := 2048) (by rw [hN]) _ fun i r => (row i r).isLt]
    rfl
  generalize val_main_v53 (F := Ideal) (ax m c) (at' m c) (ag m c) = res at key ⊢
  refine (dats m 0 c).arrAt_eq_of_cover 3 res (fun t hf => ?_) fun i => ⟨t0_3, (flush0_3 t0_3).mpr rfl, ?_⟩
  · have h3 : t.val = 3 := by have := (flush0_3 t).mp hf; have := t.isLt; omega
    obtain rfl : t = t0_3 := Fin.ext h3
    rw [Value.flushed3 m c t0_3]
    have hz' : (fun a => win0_3.index t0_3 a * main_v3_0.ty.shape.size a) = fun _ => 0 := funext fun a => by fin_cases a <;> decide
    refine Eq.trans ?_ (Memref.read_access_unit_zero (Elt Ideal) main_v3_0 hz' (fun a => by rw [congrFun hz' a]; simp) res).symm
    exact key
  · show i ∈ ((View.whole main_v3_0).slice (win0_3.rect t0_3)).set
    rw [View.set_slice_whole]
    have h0 : (i 0 : Nat) < 1 := (i 0).isLt
    have h1 := (i 1).isLt
    have hi : win0_3.index t0_3 0 = 0 ∧ win0_3.index t0_3 1 = 0 := by decide
    exact mem_block i ⟨hi.1.trans (by omega), hi.2.trans (Nat.div_eq_of_lt h1).symm⟩

open FinReferenceIdeal.Read in
theorem final6 : (dats m 0 c).arrAt 6 cfg0.N = val_main_v55 (F := Ideal) (ax m c) (at' m c) (ag m c) := by
  have hN : cfg0.N = 4 := N_0
  have key : (outsAt0 m c t0_3.val t0_3.isLt).2.2.2 = val_main_v55 (F := Ideal) (ax m c) (at' m c) (ag m c) := by
    funext j
    obtain ⟨l, rfl⟩ := eq_row (B := 1024) j
    refine (outs_dg m c l t0_3.val t0_3.isLt).trans ?_
    rw [v55_at, upTo_last _ t0_3.val (show cfg0.N ≤ 3 + 1 by omega)]
    unfold dgT
    rw [← sum_tiles (N := cfg0.N) (b := 512) (K := 2048) (by rw [hN]) _ fun i r => (row i r).isLt]
    rfl
  generalize val_main_v55 (F := Ideal) (ax m c) (at' m c) (ag m c) = res at key ⊢
  refine (dats m 0 c).arrAt_eq_of_cover 6 res (fun t hf => ?_) fun i => ⟨t0_3, (flush0_6 t0_3).mpr rfl, ?_⟩
  · have h3 : t.val = 3 := by have := (flush0_6 t).mp hf; have := t.isLt; omega
    obtain rfl : t = t0_3 := Fin.ext h3
    rw [Value.flushed6 m c t0_3]
    have hz' : (fun a => win0_6.index t0_3 a * main_v3_3.ty.shape.size a) = fun _ => 0 := funext fun a => by fin_cases a <;> decide
    refine Eq.trans ?_ (Memref.read_access_unit_zero (Elt Ideal) main_v3_3 hz' (fun a => by rw [congrFun hz' a]; simp) res).symm
    exact key
  · show i ∈ ((View.whole main_v3_3).slice (win0_6.rect t0_3)).set
    rw [View.set_slice_whole]
    have h0 : (i 0 : Nat) < 1 := (i 0).isLt
    have h1 := (i 1).isLt
    have hi : win0_6.index t0_3 0 = 0 ∧ win0_6.index t0_3 1 = 0 := by decide
    exact mem_block i ⟨hi.1.trans (by omega), hi.2.trans (Nat.div_eq_of_lt h1).symm⟩
end Cert.Proof.FinRun

namespace Cert.Proof

open Idealize.ShloMosaic Idealize.ShloMosaic.TcCoe Idealize.SL.Sem

open FinKernelIdeal in
open FinKernelIdeal.Gen in
open FinReferenceIdeal.Read in
/-- The kernel's run, with each result named as the reference names it. -/
theorem fin_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3_0) = val_main_v53 (F := Ideal) (FinRun.ax m c) (FinRun.at' m c) (FinRun.ag m c)
      ∧ r.2.mem ((c : Thread nD τ).loc main_v3_1) = val_main_v52 (F := Ideal) (FinRun.ax m c) (FinRun.at' m c) (FinRun.ag m c)
      ∧ r.2.mem ((c : Thread nD τ).loc main_v3_2) = val_main_v54 (F := Ideal) (FinRun.ax m c) (FinRun.at' m c) (FinRun.ag m c)
      ∧ r.2.mem ((c : Thread nD τ).loc main_v3_3) = val_main_v55 (F := Ideal) (FinRun.ax m c) (FinRun.at' m c) (FinRun.ag m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h1, h2, h3, h4⟩ := h c
    exact ⟨h0.trans (FinRun.final3 m c), h1.trans (FinRun.final4 m c), h2.trans (FinRun.final5 m c), h3.trans (FinRun.final6 m c), h4⟩)
    (FinKernelIdeal.Value.run_blocks (F := Ideal) m ρ)

theorem algebraic_FinKernelIdeal_FinReferenceIdeal : algebraic_FinKernelIdeal_FinReferenceIdeal := by
  intro m ρ m' ρ' _ hagree
  refine ⟨_, _, _, _, fin_run m ρ, ?_⟩
  refine (θ_run FinReferenceIdeal.defs _ _).mono (fun _ h c => ?_) (FinReferenceIdeal.Value.run (F := Ideal) m' ρ')
  obtain ⟨h0, h1, h2, h3, h4⟩ := h c
  obtain ⟨a0, a1, a2⟩ := hagree c
  rw [FinReferenceIdeal.Read.val_main_v53_eq, a0, a1, a2] at h0
  rw [FinReferenceIdeal.Read.val_main_v52_eq, a0, a1, a2] at h1
  rw [FinReferenceIdeal.Read.val_main_v54_eq, a0, a1, a2] at h2
  rw [FinReferenceIdeal.Read.val_main_v55_eq, a0, a1, a2] at h3
  exact ⟨h0, h1, h2, h3, h4⟩

end Cert.Proof

end
-- ==== Proof.FfnVal.lean ====
module

public import proofs.«01_k».proof.Proof.Gen.FfnReferenceIdeal.Read
public import proofs.«01_k».proof.Proof.Gen.FfnKernelIdeal.Value
public import proofs.«01_k».proof.Proof.Reads
public import proofs.«01_k».proof.Proof.Rms
public import Idealize.ShloMosaic.Lib.Pointwise
public import Idealize.ShloMosaic.Lib.Tactic

@[expose] public section

set_option maxRecDepth 16384

noncomputable section

namespace Cert.Proof.FfnVal

open Idealize.ShloMosaic Idealize.ShloMosaic.TcCoe Reals Reads Rms FfnKernelIdeal FfnKernelIdeal.Gen

variable {F : FTy → Type} [FloatOps F]

section Cases
variable (c : Dev nD) (i : grid0.Coords)
  (a0 : Memref sig .tc .vmem S512x1024 .f32) (h0 : a0.IsWhole) (a1 : Memref sig .tc .vmem S512x1024 .bf16) (h1 : a1.IsWhole) (a2 : Memref sig .tc .vmem S512x1024 .f32) (h2 : a2.IsWhole) (a3 : Memref sig .tc .vmem S1x1024 .f32) (h3 : a3.IsWhole)
  (a4 : Memref sig .tc .vmem S512x2048 .bf16) (h4 : a4.IsWhole) (a5 : Memref sig .tc .vmem S1024x2048 .bf16) (h5 : a5.IsWhole) (a6 : Memref sig .tc .vmem S2048x1024 .bf16) (h6 : a6.IsWhole) (a7 : Memref sig .tc .vmem S512x2048 .bf16) (h7 : a7.IsWhole)
  (a8 : Memref sig .tc .vmem S512x1024 .f32) (h8 : a8.IsWhole) (a9 : Memref sig .tc .vmem S512x1024 .bf16) (h9 : a9.IsWhole) (a10 : Memref sig .tc .vmem S1x1024 .f32) (h10 : a10.IsWhole) (a11 : Memref sig .tc .vmem S512x1024 .f32) (h11 : a11.IsWhole)

theorem out_A_7 (hc0 hc1) (b0 b1 b2 b3 b4 b5 b6) : out0_A_7 (F := F) c i a0 h0 a1 h1 a2 h2 a3 h3 a4 h4 a5 h5 a6 h6 a7 h7 a8 h8 a9 h9 a10 h10 a11 h11 hc0 hc1 b0 b1 b2 b3 b4 b5 b6 = k0_pay2 b1 b6 b4 := by
  unfold out0_A_7
  rw [View.read_writes_eq_canon _ _ _ (by apply cover0_A_7)]
  unfold kernelRun0_A
  dsimp only
  sl_unfold_words
  rw [View.canon_unit_zero hz]
  simp only [ld_all, cov_all, View.readAt_eq_ld, Memref.IsWhole.read_unread, shapeCast_self]

theorem out_A_s (hc0 hc1) (b0 b1 b2 b3 b4 b5 b6) : sout0_A_0 (F := F) c i a0 h0 a1 h1 a2 h2 a3 h3 a4 h4 a5 h5 a6 h6 a7 h7 a8 h8 a9 h9 a10 h10 a11 h11 hc0 hc1 b0 b1 b2 b3 b4 b5 b6 = k0_pay3 b1 b6 b4 k0_pay1 b5 := by
  unfold sout0_A_0
  rw [View.read_writes_eq_canon _ _ _ (by apply scover0_A_0)]
  unfold kernelRun0_A
  dsimp only
  sl_unfold_words
  rw [View.canon_cons_unit_zero (S := S512x1024) hz]
  simp only [ld_all, cov_all, View.readAt_eq_ld, Memref.IsWhole.read_unread, shapeCast_self]

theorem out_B_7 (hc0 hc1 hc2 hc3) (b0 b1 b2 b3 b4 b5 b6 s) : out0_B_7 (F := F) c i a0 h0 a1 h1 a2 h2 a3 h3 a4 h4 a5 h5 a6 h6 a7 h7 a8 h8 a9 h9 a10 h10 a11 h11 hc0 hc1 hc2 hc3 b0 b1 b2 b3 b4 b5 b6 s = k0_pay2 b1 b6 b4 := by
  unfold out0_B_7
  rw [View.read_writes_eq_canon _ _ _ (by apply cover0_B_7)]
  unfold kernelRun0_B
  dsimp only
  sl_unfold_words
  rw [View.canon_unit_zero hz]
  simp only [ld_all, cov_all, View.readAt_eq_ld, Memref.IsWhole.read_unread, shapeCast_self]

theorem out_B_8 (hc0 hc1 hc2 hc3) (b0 b1 b2 b3 b4 b5 b6 s) : out0_B_8 (F := F) c i a0 h0 a1 h1 a2 h2 a3 h3 a4 h4 a5 h5 a6 h6 a7 h7 a8 h8 a9 h9 a10 h10 a11 h11 hc0 hc1 hc2 hc3 b0 b1 b2 b3 b4 b5 b6 s = k0_pay8 b2 (k0_pay3 b1 b6 b4 s b5) b3 b0 := by
  unfold out0_B_8
  rw [View.read_writes_eq_canon _ _ _ (by apply cover0_B_8)]
  unfold kernelRun0_B
  dsimp only
  sl_unfold_words
  rw [View.canon_unit_zero hz]
  simp only [ld_all, cov_all, View.readAt_eq_ld, Memref.IsWhole.read_unread, shapeCast_self]

theorem out_B_9 (hc0 hc1 hc2 hc3) (b0 b1 b2 b3 b4 b5 b6 s) : out0_B_9 (F := F) c i a0 h0 a1 h1 a2 h2 a3 h3 a4 h4 a5 h5 a6 h6 a7 h7 a8 h8 a9 h9 a10 h10 a11 h11 hc0 hc1 hc2 hc3 b0 b1 b2 b3 b4 b5 b6 s = k0_pay9 b2 (k0_pay3 b1 b6 b4 s b5) b3 b0 := by
  unfold out0_B_9
  rw [View.read_writes_eq_canon _ _ _ (by apply cover0_B_9)]
  unfold kernelRun0_B
  dsimp only
  sl_unfold_words
  rw [View.canon_unit_zero hz]
  simp only [ld_all, cov_all, View.readAt_eq_ld, Memref.IsWhole.read_unread, shapeCast_self]

theorem out_B_10 (hc0 hc1 hc2 hc3) (b0 b1 b2 b3 b4 b5 b6 s) : out0_B_10 (F := F) c i a0 h0 a1 h1 a2 h2 a3 h3 a4 h4 a5 h5 a6 h6 a7 h7 a8 h8 a9 h9 a10 h10 a11 h11 hc0 hc1 hc2 hc3 b0 b1 b2 b3 b4 b5 b6 s = k0_pay7 b2 (k0_pay3 b1 b6 b4 s b5) := by
  unfold out0_B_10
  rw [View.read_writes_eq_canon _ _ _ (by apply cover0_B_10)]
  unfold kernelRun0_B
  dsimp only
  sl_unfold_words
  rw [View.canon_unit_zero hz]
  simp only [ld_all, cov_all, View.readAt_eq_ld, Memref.IsWhole.read_unread, shapeCast_self]

theorem out_B_s (hc0 hc1 hc2 hc3) (b0 b1 b2 b3 b4 b5 b6 s) : sout0_B_0 (F := F) c i a0 h0 a1 h1 a2 h2 a3 h3 a4 h4 a5 h5 a6 h6 a7 h7 a8 h8 a9 h9 a10 h10 a11 h11 hc0 hc1 hc2 hc3 b0 b1 b2 b3 b4 b5 b6 s = k0_pay3 b1 b6 b4 s b5 := by
  unfold sout0_B_0
  rw [View.read_writes_eq_canon _ _ _ (by apply scover0_B_0)]
  unfold kernelRun0_B
  dsimp only
  sl_unfold_words
  rw [View.canon_unit_zero hz]
  simp only [ld_all, cov_all, View.readAt_eq_ld, Memref.IsWhole.read_unread, shapeCast_self]

theorem out_C_7 (hc0 hc1 hc2 hc3) (b0 b1 b2 b3 b4 b5 b6 u s) : out0_C_7 (F := F) c i a0 h0 a1 h1 a2 h2 a3 h3 a4 h4 a5 h5 a6 h6 a7 h7 a8 h8 a9 h9 a10 h10 a11 h11 hc0 hc1 hc2 hc3 b0 b1 b2 b3 b4 b5 b6 u s = k0_pay2 b1 b6 b4 := by
  unfold out0_C_7
  rw [View.read_writes_eq_canon _ _ _ (by apply cover0_C_7)]
  unfold kernelRun0_C
  dsimp only
  sl_unfold_words
  rw [View.canon_unit_zero hz]
  simp only [ld_all, cov_all, View.readAt_eq_ld, Memref.IsWhole.read_unread, shapeCast_self]

theorem out_C_8 (hc0 hc1 hc2 hc3) (b0 b1 b2 b3 b4 b5 b6 u s) : out0_C_8 (F := F) c i a0 h0 a1 h1 a2 h2 a3 h3 a4 h4 a5 h5 a6 h6 a7 h7 a8 h8 a9 h9 a10 h10 a11 h11 hc0 hc1 hc2 hc3 b0 b1 b2 b3 b4 b5 b6 u s = k0_pay8 b2 (k0_pay3 b1 b6 b4 s b5) b3 b0 := by
  unfold out0_C_8
  rw [View.read_writes_eq_canon _ _ _ (by apply cover0_C_8)]
  unfold kernelRun0_C
  dsimp only
  sl_unfold_words
  rw [View.canon_unit_zero hz]
  simp only [ld_all, cov_all, View.readAt_eq_ld, Memref.IsWhole.read_unread, shapeCast_self]

theorem out_C_9 (hc0 hc1 hc2 hc3) (b0 b1 b2 b3 b4 b5 b6 u s) : out0_C_9 (F := F) c i a0 h0 a1 h1 a2 h2 a3 h3 a4 h4 a5 h5 a6 h6 a7 h7 a8 h8 a9 h9 a10 h10 a11 h11 hc0 hc1 hc2 hc3 b0 b1 b2 b3 b4 b5 b6 u s = k0_pay9 b2 (k0_pay3 b1 b6 b4 s b5) b3 b0 := by
  unfold out0_C_9
  rw [View.read_writes_eq_canon _ _ _ (by apply cover0_C_9)]
  unfold kernelRun0_C
  dsimp only
  sl_unfold_words
  rw [View.canon_unit_zero hz]
  simp only [ld_all, cov_all, View.readAt_eq_ld, Memref.IsWhole.read_unread, shapeCast_self]

theorem out_C_10 (hc0 hc1 hc2 hc3) (b0 b1 b2 b3 b4 b5 b6 u s) : out0_C_10 (F := F) c i a0 h0 a1 h1 a2 h2 a3 h3 a4 h4 a5 h5 a6 h6 a7 h7 a8 h8 a9 h9 a10 h10 a11 h11 hc0 hc1 hc2 hc3 b0 b1 b2 b3 b4 b5 b6 u s = k0_pay4 (k0_pay7 b2 (k0_pay3 b1 b6 b4 s b5)) u := by
  unfold out0_C_10
  rw [View.read_writes_eq_canon _ _ _ (by apply cover0_C_10)]
  unfold kernelRun0_C
  dsimp only
  sl_unfold_words
  rw [View.canon_unit_zero hz]
  simp only [ld_all, cov_all, View.readAt_eq_ld, Memref.IsWhole.read_unread, shapeCast_self]

theorem out_C_s (hc0 hc1 hc2 hc3) (b0 b1 b2 b3 b4 b5 b6 u s) : sout0_C_0 (F := F) c i a0 h0 a1 h1 a2 h2 a3 h3 a4 h4 a5 h5 a6 h6 a7 h7 a8 h8 a9 h9 a10 h10 a11 h11 hc0 hc1 hc2 hc3 b0 b1 b2 b3 b4 b5 b6 u s = k0_pay3 b1 b6 b4 s b5 := by
  unfold sout0_C_0
  rw [View.read_writes_eq_canon _ _ _ (by apply scover0_C_0)]
  unfold kernelRun0_C
  dsimp only
  sl_unfold_words
  rw [View.canon_unit_zero hz]
  simp only [ld_all, cov_all, View.readAt_eq_ld, Memref.IsWhole.read_unread, shapeCast_self]

end Cases

section Rows
variable (x a q : Vec Ideal S512x1024 .f32) (g : Vec Ideal S1x1024 .f32) (d : Vec Ideal S512x1024 .bf16) (w2 : Vec Ideal S2048x1024 .bf16) (ra : Vec Ideal S512x2048 .bf16) (w1 : Vec Ideal S1024x2048 .bf16)

theorem pay1_at (r : Fin 512) (l : Fin 1024) : k0_pay1 (F := Ideal) (ix2 r l) = 0 := by
  pointwise [k0_pay1]
theorem pay2_at (r : Fin 512) (f : Fin 2048) : k0_pay2 (F := Ideal) d w2 ra (ix2 r f)
    = (∑ k : Fin 1024, d (ix2 r k) * w2 (ix2 f k)) * (Ideal.ofBits .f32 1073741824#32 * ra (ix2 r f)) := by
  pointwise [k0_pay2]
theorem pay3_at (r : Fin 512) (l : Fin 1024) : k0_pay3 (F := Ideal) d w2 ra a w1 (ix2 r l)
    = a (ix2 r l) + ∑ f : Fin 2048, k0_pay2 (F := Ideal) d w2 ra (ix2 r f) * w1 (ix2 l f) := by
  pointwise [k0_pay3]
theorem pay8_at (r : Fin 512) (l : Fin 1024) : k0_pay8 (F := Ideal) x a g q (ix2 r l)
    = kback (fun k => x (ix2 r k)) (fun k => a (ix2 r k) * g (ix2 0 k)) l + q (ix2 r l) := by
  pointwise [k0_pay8, k0_pay5, k0_pay6]
  rfl
theorem pay9_at (r : Fin 512) (l : Fin 1024) : k0_pay9 (F := Ideal) x a g q (ix2 r l)
    = kback (fun k => x (ix2 r k)) (fun k => a (ix2 r k) * g (ix2 0 k)) l + q (ix2 r l) := by
  pointwise [k0_pay9, k0_pay8, k0_pay5, k0_pay6]
  rfl
theorem pay7_at (l : Fin 1024) : k0_pay7 (F := Ideal) x a (ix2 0 l)
    = ∑ r : Fin 512, a (ix2 r l) * (x (ix2 r l) * er (fun k => x (ix2 r k))) := by
  pointwise [k0_pay7, k0_pay5, k0_pay6]
  rfl
theorem pay4_at (p u : Vec Ideal S1x1024 .f32) (l : Fin 1024) : k0_pay4 (F := Ideal) p u (ix2 0 l) = u (ix2 0 l) + p (ix2 0 l) := by
  pointwise [k0_pay4]
end Rows

section Ref
open FfnReferenceIdeal.Read
variable (x : Vec Ideal S2048x1024 .f32) (g : Vec Ideal S1024 .f32) (w1 : Vec Ideal S1024x4096 .f32) (w2 : Vec Ideal S4096x1024 .f32) (t : Vec Ideal S2048x1024 .f32)

/-- Where the square's argument is not positive, its derivative's factor is zero already. -/
theorem relu_select (e a : EReal) : (if 0 < a then e * (Ideal.ofBits .f32 1073741824#32 * max a 0) else 0) = e * (Ideal.ofBits .f32 1073741824#32 * max a 0) := by
  by_cases h : 0 < a
  · rw [if_pos h]
  · rw [if_neg h, max_eq_right (not_lt.mp h), mul_zero, mul_zero]

theorem v28_at (r : Fin 2048) (f : Fin 4096) : val_main_v28 (F := Ideal) x g w1 w2 t (ix2 r f)
    = (∑ k : Fin 1024, t (ix2 r k) * w2 (ix2 f k)) * (Ideal.ofBits .f32 1073741824#32 * val_main_v17 (F := Ideal) x g w1 (ix2 r f)) := by
  pointwise [val_main_v28, val_main_v27, val_main_cst_6, val_main_v26, val_main_v25, val_main_v23, val_main_v22, val_main_cst_5, val_main_v17, val_main_call0_v0, val_main_call0_cst, val_main_v19, val_main_v18, val_main_cst_3]
  exact relu_select _ _

theorem v6_at (r : Fin 2048) : val_main_v6 (F := Ideal) x (ix2 r 0) = ems (fun k => x (ix2 r k)) := by
  pointwise [val_main_v6, val_main_v5, val_main_cst_1, val_main_v4, val_main_v3, val_main_cst_0, val_main_v2, val_main_v1, val_main_cst, val_main_v0]
  rfl

theorem v29_at (r : Fin 2048) (l : Fin 1024) : val_main_v29 (F := Ideal) x g w1 w2 t (ix2 r l)
    = ∑ f : Fin 4096, val_main_v28 (F := Ideal) x g w1 w2 t (ix2 r f) * w1 (ix2 l f) := by
  pointwise [val_main_v29]

theorem v50_at (r : Fin 2048) (l : Fin 1024) : val_main_v50 (F := Ideal) x g w1 w2 t (ix2 r l)
    = kback (fun k => x (ix2 r k)) (fun k => val_main_v29 (F := Ideal) x g w1 w2 t (ix2 r k) * g (ix1 k)) l + t (ix2 r l) := by
  pointwise [val_main_v50, val_main_v49, val_main_v48, val_main_v47, val_main_v46, val_main_v45, val_main_v44, val_main_cst_11, val_main_v43, val_main_v42, val_main_cst_10, val_main_v41, val_main_v40, val_main_v39, val_main_v38, val_main_v37, val_main_cst_9, val_main_v36, val_main_v34, val_main_v33, val_main_v13, val_main_v10, val_main_v9, val_main_cst_2, val_main_v8, val_main_v7]
  simp only [v6_at, Fin.sum_univ_one]
  rw [kback_eq, add_comm]
  rfl

theorem v52_at (r : Fin 2048) (l : Fin 1024) : val_main_v52 (F := Ideal) x g w1 w2 t (ix2 r l)
    = kback (fun k => x (ix2 r k)) (fun k => val_main_v29 (F := Ideal) x g w1 w2 t (ix2 r k) * g (ix1 k)) l + t (ix2 r l) := by
  pointwise [val_main_v52]
  rw [v50_at]

theorem v51_at (r : Fin 2048) (f : Fin 4096) : val_main_v51 (F := Ideal) x g w1 w2 t (ix2 r f) = val_main_v28 (F := Ideal) x g w1 w2 t (ix2 r f) := by
  pointwise [val_main_v51]

theorem v53_at (l : Fin 1024) : val_main_v53 (F := Ideal) x g w1 w2 t (ix2 0 l)
    = ∑ r : Fin 2048, val_main_v29 (F := Ideal) x g w1 w2 t (ix2 r l) * (x (ix2 r l) * er (fun k => x (ix2 r k))) := by
  pointwise [val_main_v53, val_main_v35, val_main_cst_8, val_main_v32, val_main_v31, val_main_cst_7, val_main_v30, val_main_v12, val_main_v11, val_main_v7]
  simp only [v6_at, Fin.sum_univ_one]
  exact Finset.sum_congr rfl fun r _ => mul_comm _ _

end Ref

end Cert.Proof.FfnVal

end
-- ==== Proof.FfnRun.lean ====
module

public import proofs.«01_k».proof.Proof.FfnVal
public import proofs.«01_k».proof.Proof.Tiles
public import proofs.«01_k».proof.Proof.Blocks
public import Idealize.ShloMosaic.Lib.Pipeline.Value
public import Idealize.ShloMosaic.Lib.StableHlo.Run
public import proofs.«01_k».proof.Defs
public import proofs.«01_k».proof.Proof.Gen.FfnReferenceIdeal.Run

@[expose] public section

set_option maxRecDepth 16384

noncomputable section

namespace Cert.Proof.FfnRun

open Idealize.ShloMosaic Idealize.ShloMosaic.TcCoe Reals Rms FfnKernelIdeal FfnKernelIdeal.Gen FfnVal Tiles Blocks

variable (m : (ℓ : Loc nD τ sig) → Buf (Elt Ideal) ℓ) (c : Dev nD)

/-- The arguments: the rows, the norm's scale, the two weights and the cotangent. -/
abbrev ax : Vec Ideal S2048x1024 .f32 := m ((c : Thread nD τ).loc main_arg0)
abbrev ag : Vec Ideal S1024 .f32 := m ((c : Thread nD τ).loc main_arg1)
abbrev aw1 : Vec Ideal S1024x4096 .f32 := m ((c : Thread nD τ).loc main_arg2)
abbrev aw2 : Vec Ideal S4096x1024 .f32 := m ((c : Thread nD τ).loc main_arg3)
abbrev at' : Vec Ideal S2048x1024 .f32 := m ((c : Thread nD τ).loc main_arg4)

theorem V_v0 : V m c main_v0 = aw1 m c := by
  unfold_abbrev_sides
  unfold hostOps0 hostOps0_1 hostOps0_2
  simp only [List.flatten_cons, List.flatten_nil, List.cons_append, List.nil_append]
  after_results
  rfl
theorem V_v1 : V m c main_v1 = aw2 m c := by
  unfold_abbrev_sides
  unfold hostOps0 hostOps0_1 hostOps0_2
  simp only [List.flatten_cons, List.flatten_nil, List.cons_append, List.nil_append]
  after_results
  rfl
theorem V_v19 : V m c main_v19 = at' m c := by
  unfold_abbrev_sides
  unfold hostOps0 hostOps0_1 hostOps0_2
  simp only [List.flatten_cons, List.flatten_nil, List.cons_append, List.nil_append]
  after_results
  rfl
theorem V_v20 : V m c main_v20 = broadcastInDim S1x1024 ![1] bcast_S1024_S1x1024_1 (ag m c) := by
  unfold_abbrev_sides
  unfold hostOps0 hostOps0_1 hostOps0_2
  simp only [List.flatten_cons, List.flatten_nil, List.cons_append, List.nil_append]
  after_results

open FfnReferenceIdeal.Read in
/-- The host keeps the square root of the hidden layer, as the reference computes it. -/
theorem V_v18 : V m c main_v18 = val_main_v17 (F := Ideal) (ax m c) (ag m c) (aw1 m c) := by
  unfold_abbrev_sides
  unfold hostOps0 hostOps0_1 hostOps0_2
  simp only [List.flatten_cons, List.flatten_nil, List.cons_append, List.nil_append]
  after_results
  simp only [StableHlo.TRef.toBuf, StableHlo.TRef.ofBuf, cast_cast, cast_eq]
  funext j
  obtain ⟨r, l, rfl⟩ := eq_ix2 (A := 2048) (B := 4096) j
  pointwise [val_main_v17, val_main_v16, val_main_v15, val_main_v14, val_main_v13, val_main_v12, val_main_v11, val_main_v7, val_main_v6, val_main_v5, val_main_cst_1, val_main_v4, val_main_v3, val_main_cst_0, val_main_v2, val_main_v1, val_main_cst, val_main_v0, val_main_call0_v0, val_main_call0_cst]

/-- Row `r` of the point's row block; column `f` of its block of the hidden layer. -/
def row (t : Fin cfg0.N) (r : Fin 512) : Fin 2048 := ⟨512 * (t.val / 2) + r.val, by have := t.isLt; have : cfg0.N = 8 := N_0; omega⟩
def colOf (i : Fin 2) (f : Fin 2048) : Fin 4096 := ⟨2048 * i.val + f.val, by omega⟩
def par (t : Fin cfg0.N) : Fin 2 := ⟨t.val % 2, Nat.mod_lt _ (by decide)⟩
theorem par_0 (t : Fin cfg0.N) (h : t.val % 2 = 0) : par t = 0 := Fin.ext h
theorem par_1 (t : Fin cfg0.N) (h : t.val % 2 = 1) : par t = 1 := Fin.ext h

theorem index0 : ∀ t : Fin cfg0.N, win0_0.index t 0 = t.val / 2 ∧ win0_0.index t 1 = 0 := by decide +kernel
theorem index1 : ∀ t : Fin cfg0.N, win0_1.index t 0 = t.val / 2 ∧ win0_1.index t 1 = 0 := by decide +kernel
theorem index2 : ∀ t : Fin cfg0.N, win0_2.index t 0 = t.val / 2 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = t.val / 2 ∧ win0_4.index t 1 = t.val % 2 := by decide +kernel
theorem index5 : ∀ t : Fin cfg0.N, win0_5.index t 0 = 0 ∧ win0_5.index t 1 = t.val % 2 := by decide +kernel
theorem index6 : ∀ t : Fin cfg0.N, win0_6.index t 0 = t.val % 2 ∧ win0_6.index t 1 = 0 := by decide +kernel
theorem index7 : ∀ t : Fin cfg0.N, win0_7.index t 0 = t.val / 2 ∧ win0_7.index t 1 = t.val % 2 := by decide +kernel
theorem index8 : ∀ t : Fin cfg0.N, win0_8.index t 0 = t.val / 2 ∧ win0_8.index t 1 = 0 := by decide +kernel
theorem index9 : ∀ t : Fin cfg0.N, win0_9.index t 0 = t.val / 2 ∧ win0_9.index t 1 = 0 := by decide +kernel
theorem iblk0 (t : Fin cfg0.N) (r : Fin 512) (l : Fin 1024) : iblk m c 0 t (ix2 r l) = at' m c (ix2 (row t r) l) :=
  (congrArg (V m c main_arg4) (emb_block (index0 t) r l _ _)).trans (congrFun (V_main_arg4 m c) _)
theorem iblk1 (t : Fin cfg0.N) (r : Fin 512) (l : Fin 1024) : iblk m c 1 t (ix2 r l) = at' m c (ix2 (row t r) l) :=
  (congrArg (V m c main_v19) (emb_block (index1 t) r l _ _)).trans (congrFun (V_v19 m c) _)
theorem iblk2 (t : Fin cfg0.N) (r : Fin 512) (l : Fin 1024) : iblk m c 2 t (ix2 r l) = ax m c (ix2 (row t r) l) :=
  (congrArg (V m c main_arg0) (emb_block (index2 t) r l _ _)).trans (congrFun (V_main_arg0 m c) _)
theorem iblk4 (t : Fin cfg0.N) (r : Fin 512) (l : Fin 2048) : iblk m c 4 t (ix2 r l) = FfnReferenceIdeal.Read.val_main_v17 (F := Ideal) (ax m c) (ag m c) (aw1 m c) (ix2 (row t r) (colOf (par t) l)) :=
  (congrArg (V m c main_v18) (emb_block (index4 t) r l _ _)).trans (congrFun (V_v18 m c) _)
theorem iblk5 (t : Fin cfg0.N) (r : Fin 1024) (l : Fin 2048) : iblk m c 5 t (ix2 r l) = aw1 m c (ix2 r (colOf (par t) l)) :=
  (congrArg (V m c main_v0) (emb_block (index5 t) r l _ _)).trans (congrFun (V_v0 m c) _)
theorem iblk6 (t : Fin cfg0.N) (r : Fin 2048) (l : Fin 1024) : iblk m c 6 t (ix2 r l) = aw2 m c (ix2 (colOf (par t) r) l) :=
  (congrArg (V m c main_v1) (emb_block (index6 t) r l _ _)).trans (congrFun (V_v1 m c) _)
theorem iblk3 (t : Fin cfg0.N) (l : Fin 1024) : iblk m c 3 t (ix2 0 l) = ag m c (ix1 l) :=
  (congrArg (V m c main_v20) (emb_block (index3 t) 0 l _ _)).trans ((congrFun (V_v20 m c) _).trans (bcast_at ..))

section Outs
open FfnReferenceIdeal.Read

/-- What the point before left. -/
abbrev prev (t : Fin cfg0.N) := outsAt0 m c (t.val - 1) (Nat.lt_of_le_of_lt (Nat.sub_le _ _) t.isLt)

theorem outs_A (t : Fin cfg0.N) (h : t.val % 2 = 0) :
    (outsAt0 m c t.val t.isLt).1 = k0_pay2 (iblk m c 1 t) (iblk m c 6 t) (iblk m c 4 t)
    ∧ (outsAt0 m c t.val t.isLt).2.2.2.1 = (prev m c t).2.2.2.1
    ∧ (outsAt0 m c t.val t.isLt).2.2.2.2 = k0_pay3 (iblk m c 1 t) (iblk m c 6 t) (iblk m c 4 t) (k0_pay1 (F := Ideal)) (iblk m c 5 t) := by
  rw [outsAt0_A m c t (by omega) (by omega)]
  dsimp only
  rw [out_A_7, out_A_s]
  exact ⟨rfl, rfl, rfl⟩

theorem outs_B (t : Fin cfg0.N) (h : t.val % 2 = 1) :
    (outsAt0 m c t.val t.isLt).1 = k0_pay2 (iblk m c 1 t) (iblk m c 6 t) (iblk m c 4 t)
    ∧ (outsAt0 m c t.val t.isLt).2.1 = k0_pay8 (iblk m c 2 t) (outsAt0 m c t.val t.isLt).2.2.2.2 (iblk m c 3 t) (iblk m c 0 t)
    ∧ (outsAt0 m c t.val t.isLt).2.2.1 = k0_pay9 (iblk m c 2 t) (outsAt0 m c t.val t.isLt).2.2.2.2 (iblk m c 3 t) (iblk m c 0 t)
    ∧ (outsAt0 m c t.val t.isLt).2.2.2.2 = k0_pay3 (iblk m c 1 t) (iblk m c 6 t) (iblk m c 4 t) (prev m c t).2.2.2.2 (iblk m c 5 t) := by
  by_cases h2 : t.val < 2
  · rw [outsAt0_B m c t (by omega) (by omega) (by omega) (by omega)]
    dsimp only
    rw [out_B_7, out_B_8, out_B_9, out_B_s]
    exact ⟨rfl, rfl, rfl, rfl⟩
  · rw [outsAt0_C m c t (by omega) (by omega) (by omega) (by omega)]
    dsimp only
    rw [out_C_7, out_C_8, out_C_9, out_C_s]
    exact ⟨rfl, rfl, rfl, rfl⟩

theorem outs_B_dg (t : Fin cfg0.N) (h : t.val = 1) :
    (outsAt0 m c t.val t.isLt).2.2.2.1 = k0_pay7 (iblk m c 2 t) (outsAt0 m c t.val t.isLt).2.2.2.2 := by
  rw [outsAt0_B m c t (by omega) (by omega) (by omega) (by omega)]
  dsimp only
  rw [out_B_10, out_B_s]

theorem outs_C_dg (t : Fin cfg0.N) (h : t.val % 2 = 1) (h2 : 2 ≤ t.val) :
    (outsAt0 m c t.val t.isLt).2.2.2.1 = k0_pay4 (k0_pay7 (iblk m c 2 t) (outsAt0 m c t.val t.isLt).2.2.2.2) (prev m c t).2.2.2.1 := by
  rw [outsAt0_C m c t (by omega) (by omega) (by omega) (by omega)]
  dsimp only
  rw [out_C_10, out_C_s]

/-- The hidden layer's gradient and the normalised rows', as the reference has them. -/
abbrev rda : Vec Ideal S2048x4096 .f32 := val_main_v28 (F := Ideal) (ax m c) (ag m c) (aw1 m c) (aw2 m c) (at' m c)
abbrev rdh : Vec Ideal S2048x1024 .f32 := val_main_v29 (F := Ideal) (ax m c) (ag m c) (aw1 m c) (aw2 m c) (at' m c)

theorem tile_da (t : Fin cfg0.N) (r : Fin 512) (f : Fin 2048) :
    k0_pay2 (iblk m c 1 t) (iblk m c 6 t) (iblk m c 4 t) (ix2 r f) = rda m c (ix2 (row t r) (colOf (par t) f)) := by
  rw [pay2_at, rda, v28_at, iblk4]
  simp only [iblk1, iblk6]

theorem outs_da (t : Fin cfg0.N) (r : Fin 512) (f : Fin 2048) :
    (outsAt0 m c t.val t.isLt).1 (ix2 r f) = rda m c (ix2 (row t r) (colOf (par t) f)) := by
  rw [← tile_da]
  by_cases h : t.val % 2 = 0
  · rw [(outs_A m c t h).1]
  · rw [(outs_B m c t (by omega)).1]

/-- One block's part of the product with the first weight. -/
def part (R : Fin 2048) (l : Fin 1024) (i : Fin 2) : EReal := ∑ f : Fin 2048, rda m c (ix2 R (colOf i f)) * aw1 m c (ix2 l (colOf i f))

theorem tile_acc (t : Fin cfg0.N) (a : Vec Ideal S512x1024 .f32) (r : Fin 512) (l : Fin 1024) :
    k0_pay3 (iblk m c 1 t) (iblk m c 6 t) (iblk m c 4 t) a (iblk m c 5 t) (ix2 r l) = a (ix2 r l) + part m c (row t r) l (par t) := by
  rw [pay3_at, part]
  simp only [tile_da, iblk5]

theorem parts (R : Fin 2048) (l : Fin 1024) : part m c R l 0 + part m c R l 1 = rdh m c (ix2 R l) := by
  rw [rdh, v29_at, ← Fin.sum_univ_two (part m c R l)]
  exact sum_tiles (N := 2) (b := 2048) (K := 4096) rfl (fun f => rda m c (ix2 R f) * aw1 m c (ix2 l f)) fun i f => (colOf i f).isLt

theorem outs_acc (t : Fin cfg0.N) (h : t.val % 2 = 1) (r : Fin 512) (l : Fin 1024) :
    (outsAt0 m c t.val t.isLt).2.2.2.2 (ix2 r l) = rdh m c (ix2 (row t r) l) := by
  have hp : t.val - 1 < cfg0.N := Nat.lt_of_le_of_lt (Nat.sub_le _ _) t.isLt
  have h0 : (t.val - 1) % 2 = 0 := by omega
  have hr : row ⟨t.val - 1, hp⟩ r = row t r := Fin.ext (by show 512 * ((t.val - 1) / 2) + r.val = 512 * (t.val / 2) + r.val; omega)
  rw [(outs_B m c t h).2.2.2, tile_acc, par_1 t h]
  show (outsAt0 m c (⟨t.val - 1, hp⟩ : Fin cfg0.N).val _).2.2.2.2 (ix2 r l) + _ = _
  rw [(outs_A m c ⟨t.val - 1, hp⟩ h0).2.2, tile_acc, pay1_at, zero_add, par_0 _ h0, hr, parts]

theorem rows2 (t : Fin cfg0.N) (r : Fin 512) : (fun k => iblk m c 2 t (ix2 r k)) = fun k => ax m c (ix2 (row t r) k) := funext fun k => iblk2 m c t r k

theorem outs_dx (t : Fin cfg0.N) (h : t.val % 2 = 1) (r : Fin 512) (l : Fin 1024) :
    (outsAt0 m c t.val t.isLt).2.1 (ix2 r l) = val_main_v50 (F := Ideal) (ax m c) (ag m c) (aw1 m c) (aw2 m c) (at' m c) (ix2 (row t r) l) := by
  rw [(outs_B m c t h).2.1, pay8_at, v50_at, rows2, iblk0]
  simp only [outs_acc m c t h, iblk3]

theorem outs_dxb (t : Fin cfg0.N) (h : t.val % 2 = 1) (r : Fin 512) (l : Fin 1024) :
    (outsAt0 m c t.val t.isLt).2.2.1 (ix2 r l) = val_main_v52 (F := Ideal) (ax m c) (ag m c) (aw1 m c) (aw2 m c) (at' m c) (ix2 (row t r) l) := by
  rw [(outs_B m c t h).2.2.1, pay9_at, v52_at, rows2, iblk0]
  simp only [outs_acc m c t h, iblk3]

/-- The gradient of the scale: one row's part, and one row block's. -/
def dgR (l : Fin 1024) (R : Fin 2048) : EReal := rdh m c (ix2 R l) * (ax m c (ix2 R l) * er (fun k => ax m c (ix2 R k)))
def rowOf (i : Fin 4) (r : Fin 512) : Fin 2048 := ⟨512 * i.val + r.val, by omega⟩
def dgT (l : Fin 1024) (i : Fin 4) : EReal := ∑ r : Fin 512, dgR m c l (rowOf i r)

theorem tile_dg (t : Fin cfg0.N) (h : t.val % 2 = 1) (i : Fin 4) (hi : t.val / 2 = i.val) (l : Fin 1024) :
    k0_pay7 (iblk m c 2 t) (outsAt0 m c t.val t.isLt).2.2.2.2 (ix2 0 l) = dgT m c l i := by
  have hr (r : Fin 512) : row t r = rowOf i r := Fin.ext (by show 512 * (t.val / 2) + r.val = 512 * i.val + r.val; omega)
  rw [pay7_at, dgT]
  simp only [outs_acc m c t h, rows2, iblk2, hr, dgR]

theorem outs_dg (l : Fin 1024) : ∀ (n : ℕ) (h : 2 * n + 1 < cfg0.N), (outsAt0 m c (2 * n + 1) h).2.2.2.1 (ix2 0 l) = upTo (dgT m c l) n
  | 0, h => by
    rw [outs_B_dg m c ⟨1, h⟩ rfl, upTo_zero _ (by decide)]
    exact tile_dg m c ⟨1, h⟩ (by show 1 % 2 = 1; rfl) 0 (by show 1 / 2 = 0; rfl) l
  | n + 1, h => by
    have hN : cfg0.N = 8 := N_0
    have h2 : 2 * n + 2 < cfg0.N := by omega
    rw [outs_C_dg m c ⟨2 * (n + 1) + 1, h⟩ (by show (2 * (n + 1) + 1) % 2 = 1; omega) (by show 2 ≤ 2 * (n + 1) + 1; omega), pay4_at,
      tile_dg m c ⟨2 * (n + 1) + 1, h⟩ (by show (2 * (n + 1) + 1) % 2 = 1; omega) ⟨n + 1, by omega⟩ (by show (2 * (n + 1) + 1) / 2 = n + 1; omega), upTo_succ _ _ (by omega)]
    refine congrArg (· + _) (Eq.trans ?_ (outs_dg l n (by omega)))
    exact congrFun (outs_A m c ⟨2 * n + 2, h2⟩ (by show (2 * n + 2) % 2 = 0; omega)).2.1 (ix2 0 l)

theorem outs_dg_last (l : Fin 1024) (t : Fin cfg0.N) (h : t.val = 7) : (outsAt0 m c t.val t.isLt).2.2.2.1 (ix2 0 l) = ∑ i, dgT m c l i := by
  obtain ⟨n, hn⟩ := t
  obtain rfl : n = 2 * 3 + 1 := h
  exact (outs_dg m c l 3 hn).trans (upTo_last _ 3 (by decide))

end Outs

open FfnReferenceIdeal.Read in
theorem final7 : (dats m 0 c).arrAt 7 cfg0.N = val_main_v51 (F := Ideal) (ax m c) (ag m c) (aw1 m c) (aw2 m c) (at' m c) := by
  have hN : cfg0.N = 8 := N_0
  refine (dats m 0 c).arrAt_eq_of_cover 7 _ (fun t hf => ?_) fun i => ?_
  · rw [Value.flushed7 m c t]
    funext j
    obtain ⟨r, l, rfl⟩ := eq_ix2 (A := 512) (B := 2048) j
    refine (outs_da m c t r l).trans ?_
    rw [rda, ← v51_at]
    exact (congrArg _ (emb_block (index7 t) r l _ _)).symm
  · have h0 : (i 0 : Nat) < 2048 := (i 0).isLt
    have h1 : (i 1 : Nat) < 4096 := (i 1).isLt
    let t : Fin cfg0.N := ⟨2 * ((i 0 : Nat) / 512) + (i 1 : Nat) / 2048, by omega⟩
    refine ⟨t, flush0_7 t, ?_⟩
    show i ∈ ((View.whole main_v21_0).slice (win0_7.rect t)).set
    rw [View.set_slice_whole]
    exact mem_block i ⟨(index7 t).1.trans (by show (2 * ((i 0 : Nat) / 512) + (i 1 : Nat) / 2048) / 2 = (i 0 : Nat) / 512; omega), (index7 t).2.trans (by show (2 * ((i 0 : Nat) / 512) + (i 1 : Nat) / 2048) % 2 = (i 1 : Nat) / 2048; omega)⟩

open FfnReferenceIdeal.Read in
theorem final8 : (dats m 0 c).arrAt 8 cfg0.N = val_main_v50 (F := Ideal) (ax m c) (ag m c) (aw1 m c) (aw2 m c) (at' m c) := by
  have hN : cfg0.N = 8 := N_0
  refine (dats m 0 c).arrAt_eq_of_cover 8 _ (fun t hf => ?_) fun i => ?_
  · rw [Value.flushed8 m c t]
    funext j
    obtain ⟨r, l, rfl⟩ := eq_ix2 (A := 512) (B := 1024) j
    refine (outs_dx m c t ((flush0_8 t).mp hf) r l).trans ?_
    exact (congrArg _ (emb_block (index8 t) r l _ _)).symm
  · have h0 : (i 0 : Nat) < 2048 := (i 0).isLt
    have h1 : (i 1 : Nat) < 1024 := (i 1).isLt
    let t : Fin cfg0.N := ⟨2 * ((i 0 : Nat) / 512) + 1, by omega⟩
    refine ⟨t, (flush0_8 t).mpr (by show (2 * ((i 0 : Nat) / 512) + 1) % 2 = 1; omega), ?_⟩
    show i ∈ ((View.whole main_v21_1).slice (win0_8.rect t)).set
    rw [View.set_slice_whole]
    exact mem_block i ⟨(index8 t).1.trans (by show (2 * ((i 0 : Nat) / 512) + 1) / 2 = (i 0 : Nat) / 512; omega), (index8 t).2.trans (by show 0 = (i 1 : Nat) / 1024; omega)⟩

open FfnReferenceIdeal.Read in
theorem final9 : (dats m 0 c).arrAt 9 cfg0.N = val_main_v52 (F := Ideal) (ax m c) (ag m c) (aw1 m c) (aw2 m c) (at' m c) := by
  have hN : cfg0.N = 8 := N_0
  refine (dats m 0 c).arrAt_eq_of_cover 9 _ (fun t hf => ?_) fun i => ?_
  · rw [Value.flushed9 m c t]
    funext j
    obtain ⟨r, l, rfl⟩ := eq_ix2 (A := 512) (B := 1024) j
    refine (outs_dxb m c t ((flush0_9 t).mp hf) r l).trans ?_
    exact (congrArg _ (emb_block (index9 t) r l _ _)).symm
  · have h0 : (i 0 : Nat) < 2048 := (i 0).isLt
    have h1 : (i 1 : Nat) < 1024 := (i 1).isLt
    let t : Fin cfg0.N := ⟨2 * ((i 0 : Nat) / 512) + 1, by omega⟩
    refine ⟨t, (flush0_9 t).mpr (by show (2 * ((i 0 : Nat) / 512) + 1) % 2 = 1; omega), ?_⟩
    show i ∈ ((View.whole main_v21_2).slice (win0_9.rect t)).set
    rw [View.set_slice_whole]
    exact mem_block i ⟨(index9 t).1.trans (by show (2 * ((i 0 : Nat) / 512) + 1) / 2 = (i 0 : Nat) / 512; omega), (index9 t).2.trans (by show 0 = (i 1 : Nat) / 1024; omega)⟩

open FfnReferenceIdeal.Read in
theorem final10 : (dats m 0 c).arrAt 10 cfg0.N = val_main_v53 (F := Ideal) (ax m c) (ag m c) (aw1 m c) (aw2 m c) (at' m c) := by
  have hN : cfg0.N = 8 := N_0
  have key : (outsAt0 m c t0_7.val t0_7.isLt).2.2.2.1 = val_main_v53 (F := Ideal) (ax m c) (ag m c) (aw1 m c) (aw2 m c) (at' m c) := by
    funext j
    obtain ⟨l, rfl⟩ := eq_row (B := 1024) j
    refine (outs_dg_last m c l t0_7 rfl).trans ?_
    rw [v53_at]
    exact sum_tiles (N := 4) (b := 512) (K := 2048) rfl (dgR m c l) fun i r => (rowOf i r).isLt
  generalize val_main_v53 (F := Ideal) (ax m c) (ag m c) (aw1 m c) (aw2 m c) (at' m c) = res at key ⊢
  refine (dats m 0 c).arrAt_eq_of_cover 10 res (fun t hf => ?_) fun i => ⟨t0_7, (flush0_10 t0_7).mpr rfl, ?_⟩
  · have h3 : t.val = 7 := by have := (flush0_10 t).mp hf; have := t.isLt; omega
    obtain rfl : t = t0_7 := Fin.ext h3
    rw [Value.flushed10 m c t0_7]
    have hz' : (fun a => win0_10.index t0_7 a * main_v21_3.ty.shape.size a) = fun _ => 0 := funext fun a => by fin_cases a <;> decide
    refine Eq.trans ?_ (Memref.read_access_unit_zero (Elt Ideal) main_v21_3 hz' (fun a => by rw [congrFun hz' a]; simp) res).symm
    exact key
  · show i ∈ ((View.whole main_v21_3).slice (win0_10.rect t0_7)).set
    rw [View.set_slice_whole]
    have h0 : (i 0 : Nat) < 1 := (i 0).isLt
    have h1 := (i 1).isLt
    have hi : win0_10.index t0_7 0 = 0 ∧ win0_10.index t0_7 1 = 0 := by decide
    exact mem_block i ⟨hi.1.trans (by omega), hi.2.trans (Nat.div_eq_of_lt h1).symm⟩

end Cert.Proof.FfnRun

namespace Cert.Proof

open Idealize.ShloMosaic Idealize.ShloMosaic.TcCoe Idealize.SL.Sem

open FfnKernelIdeal in
open FfnKernelIdeal.Gen in
open FfnReferenceIdeal.Read in
/-- The kernel's run, with each result named as the reference names it. -/
theorem ffn_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v21_0) = val_main_v51 (F := Ideal) (FfnRun.ax m c) (FfnRun.ag m c) (FfnRun.aw1 m c) (FfnRun.aw2 m c) (FfnRun.at' m c)
      ∧ r.2.mem ((c : Thread nD τ).loc main_v21_1) = val_main_v50 (F := Ideal) (FfnRun.ax m c) (FfnRun.ag m c) (FfnRun.aw1 m c) (FfnRun.aw2 m c) (FfnRun.at' m c)
      ∧ r.2.mem ((c : Thread nD τ).loc main_v21_2) = val_main_v52 (F := Ideal) (FfnRun.ax m c) (FfnRun.ag m c) (FfnRun.aw1 m c) (FfnRun.aw2 m c) (FfnRun.at' m c)
      ∧ r.2.mem ((c : Thread nD τ).loc main_v21_3) = val_main_v53 (F := Ideal) (FfnRun.ax m c) (FfnRun.ag m c) (FfnRun.aw1 m c) (FfnRun.aw2 m c) (FfnRun.at' m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, h1, h2, h3, h4⟩ := h c
    exact ⟨h0.trans (FfnRun.final7 m c), h1.trans (FfnRun.final8 m c), h2.trans (FfnRun.final9 m c), h3.trans (FfnRun.final10 m c), h4⟩)
    (FfnKernelIdeal.Value.run_blocks (F := Ideal) m ρ)

theorem algebraic_FfnKernelIdeal_FfnReferenceIdeal : algebraic_FfnKernelIdeal_FfnReferenceIdeal := by
  intro m ρ m' ρ' _ hagree
  refine ⟨_, _, _, _, ffn_run m ρ, ?_⟩
  refine (θ_run FfnReferenceIdeal.defs _ _).mono (fun _ h c => ?_) (FfnReferenceIdeal.Value.run (F := Ideal) m' ρ')
  obtain ⟨h0, h1, h2, h3, h4⟩ := h c
  obtain ⟨a0, a1, a2, a3, a4⟩ := hagree c
  rw [FfnReferenceIdeal.Read.val_main_v51_eq, a0, a1, a2, a3, a4] at h0
  rw [FfnReferenceIdeal.Read.val_main_v50_eq, a0, a1, a2, a3, a4] at h1
  rw [FfnReferenceIdeal.Read.val_main_v52_eq, a0, a1, a2, a3, a4] at h2
  rw [FfnReferenceIdeal.Read.val_main_v53_eq, a0, a1, a2, a3, a4] at h3
  exact ⟨h0, h1, h2, h3, h4⟩

end Cert.Proof

end
-- ==== Proof.MrgVal.lean ====
module

public import proofs.«01_k».proof.Proof.Gen.MrgReferenceIdeal.Read
public import proofs.«01_k».proof.Proof.Gen.MrgKernelIdeal.Value
public import proofs.«01_k».proof.Proof.Rms
public import Idealize.ShloMosaic.Lib.Pointwise
public import Idealize.ShloMosaic.Lib.Tactic
public import Idealize.ShloMosaic.Lib.Pipeline.Value

@[expose] public section

set_option maxRecDepth 16384

noncomputable section

namespace Cert.Proof.MrgVal

open Idealize.ShloMosaic Idealize.ShloMosaic.TcCoe Reals MrgKernelIdeal MrgKernelIdeal.Gen

theorem hz : (![0, 0] : Fin 2 → Nat) = fun _ => 0 := funext fun a => by fin_cases a <;> rfl

/-- Where a tile's entry lies in the three columns side by side. -/
theorem emb_wide (o : ℕ) (inb : ∀ a, (![0, o] : Fin 2 → Nat) a + (![512, 1024] : Fin 2 → Nat) a ≤ S512x3072.size a) (r : Fin 512) (l : Fin 1024) (h : o + l.val < 3072) :
    (Rect.unit (s := S512x3072) ![0, o] ![512, 1024] inb).emb (ix2 r l) = ix2 r ⟨o + l.val, h⟩ :=
  funext fun a => Fin.ext (by
    match a with
    | ⟨0, _⟩ => show 0 + 1 * r.val = r.val; omega
    | ⟨1, _⟩ => show o + 1 * l.val = o + l.val; omega)
theorem ld_wide (X : Vec Ideal S512x3072 .bf16) (o : ℕ) (inb : ∀ a, (![0, o] : Fin 2 → Nat) a + (![512, 1024] : Fin 2 → Nat) a ≤ S512x3072.size a) (r : Fin 512) (l : Fin 1024) (h : o + l.val < 3072) :
    View.ld X (Rect.unit (s := S512x3072) ![0, o] ![512, 1024] inb) (ix2 r l) = X (ix2 r ⟨o + l.val, h⟩) := by
  rw [← emb_wide o inb r l h]
  rfl
theorem emb_thin (o : ℕ) (inb : ∀ a, (![0, o] : Fin 2 → Nat) a + (![512, 512] : Fin 2 → Nat) a ≤ S512x1536.size a) (r : Fin 512) (l : Fin 512) (h : o + l.val < 1536) :
    (Rect.unit (s := S512x1536) ![0, o] ![512, 512] inb).emb (ix2 r l) = ix2 r ⟨o + l.val, h⟩ :=
  funext fun a => Fin.ext (by
    match a with
    | ⟨0, _⟩ => show 0 + 1 * r.val = r.val; omega
    | ⟨1, _⟩ => show o + 1 * l.val = o + l.val; omega)
/-- One branch's weight. -/
theorem ld_weight (X : Vec Ideal S3x512x1024 .bf16) (n : ℕ) (inb : ∀ a, (![n, 0, 0] : Fin 3 → Nat) a + (![1, 512, 1024] : Fin 3 → Nat) a ≤ S3x512x1024.size a) (w : Fin 512) (l : Fin 1024) (h : n < 3) :
    View.ld X (Rect.unit (s := S3x512x1024) ![n, 0, 0] ![1, 512, 1024] inb) (ix3 0 w l) = X (ix3 ⟨n, h⟩ w l) := by
  show X ((Rect.unit (s := S3x512x1024) ![n, 0, 0] ![1, 512, 1024] inb).emb (ix3 0 w l)) = _
  congr 1
  exact funext fun a => Fin.ext (by
    match a with
    | ⟨0, _⟩ => show n + 1 * 0 = n; omega
    | ⟨1, _⟩ => show 0 + 1 * w.val = w.val; omega
    | ⟨2, _⟩ => show 0 + 1 * l.val = l.val; omega)

section Cases
variable (b0 : Vec Ideal S512x1024 .bf16) (b1 : Vec Ideal S1024x1024 .bf16) (b2 b3 : Vec Ideal S512x3072 .bf16) (b4 : Vec Ideal S3x512x1024 .bf16)

/-- The gradient of the merged rows, and of one branch's rows: the entry of column `l` of the three side by side. -/
def dm (r : Fin 512) (d : Fin 1024) : EReal := ∑ k : Fin 1024, b0 (ix2 r k) * b1 (ix2 d k)
def dyT (r : Fin 512) (l : Fin 3072) : EReal := dm b0 b1 r ⟨l.val % 1024, Nat.mod_lt _ (by decide)⟩ * Ideal.logistic (b3 (ix2 r l))
def dgT (r : Fin 512) (l : Fin 3072) : EReal := dyT b0 b1 b3 r l * b2 (ix2 r l) * (1 - Ideal.logistic (b3 (ix2 r l)))
def dzT (r : Fin 512) (l : Fin 1536) : EReal :=
  ∑ d : Fin 1024, dyT b0 b1 b3 r ⟨1024 * (l.val / 512) + d.val, by omega⟩ * b4 (ix3 ⟨l.val / 512, by omega⟩ ⟨l.val % 512, Nat.mod_lt _ (by decide)⟩ d)

theorem mod_at (n o : ℕ) (k : Fin n) (hn : o % n = 0) {h} : (⟨(o + k.val) % n, h⟩ : Fin n) = k :=
  Fin.ext (by show (o + k.val) % n = k.val; rw [Nat.add_mod, hn, Nat.zero_add, Nat.mod_mod, Nat.mod_eq_of_lt k.isLt])

theorem dzT_at (n : Fin 3) (r : Fin 512) (k : Fin 512) (l : Fin 1536) (hl : l.val = 512 * n.val + k.val) :
    dzT b0 b1 b3 b4 r l = ∑ d : Fin 1024, dm b0 b1 r d * Ideal.logistic (b3 (ix2 r ⟨1024 * n.val + d.val, by omega⟩)) * b4 (ix3 n k d) := by
  have h1 : (⟨l.val / 512, by omega⟩ : Fin 3) = n := Fin.ext (by show l.val / 512 = n.val; omega)
  have h2 : (⟨l.val % 512, Nat.mod_lt _ (by decide)⟩ : Fin 512) = k := Fin.ext (by show l.val % 512 = k.val; omega)
  rw [dzT, h1, h2]
  unfold dyT
  refine Finset.sum_congr rfl fun d _ => ?_
  have hm : (⟨(1024 * n.val + d.val) % 1024, Nat.mod_lt _ (by decide)⟩ : Fin 1024) = d := mod_at _ _ d (Nat.mul_mod_right _ _)
  have hd : (⟨1024 * (l.val / 512) + d.val, by omega⟩ : Fin 3072) = ⟨1024 * n.val + d.val, by omega⟩ := Fin.ext (by show 1024 * (l.val / 512) + d.val = 1024 * n.val + d.val; omega)
  rw [hd, hm]

/-- The three tiles' payloads. -/
theorem dm_at (r : Fin 512) (d : Fin 1024) : k0_pay2 (F := Ideal) b0 b1 (ix2 r d) = dm b0 b1 r d := by
  pointwise [k0_pay2]
  rfl

variable (c : Dev nD) (i : grid0.Coords)
  (a0 : Memref sig .tc .vmem S512x1024 .bf16) (h0 : a0.IsWhole) (a1 : Memref sig .tc .vmem S1024x1024 .bf16) (h1 : a1.IsWhole) (a2 : Memref sig .tc .vmem S512x3072 .bf16) (h2 : a2.IsWhole) (a3 : Memref sig .tc .vmem S512x3072 .bf16) (h3 : a3.IsWhole)
  (a4 : Memref sig .tc .vmem S3x512x1024 .bf16) (h4 : a4.IsWhole) (a5 : Memref sig .tc .vmem S512x3072 .bf16) (h5 : a5.IsWhole) (a6 : Memref sig .tc .vmem S512x3072 .bf16) (h6 : a6.IsWhole) (a7 : Memref sig .tc .vmem S512x1536 .bf16) (h7 : a7.IsWhole)

theorem out_A_5 (r : Fin 512) (l : Fin 3072) : out0_A_5 (F := Ideal) c i a0 h0 a1 h1 a2 h2 a3 h3 a4 h4 a5 h5 a6 h6 a7 h7 b0 b1 b2 b3 b4 (ix2 r l) = dyT b0 b1 b3 r l := by
  unfold out0_A_5
  have hc := cover0_A_5 c i a0 h0 a1 h1 a2 h2 a3 h3 a4 h4 a5 h5 a6 h6 a7 h7 b0 b1 b2 b3 b4
  rw [View.read_writes_eq_canon _ _ _ hc]
  have hc' := hc (ix2 r l)
  revert hc'
  clear hc
  unfold kernelRun0_A
  dsimp only
  sl_unfold_words
  simp only [View.readAt_eq_ld, Memref.IsWhole.read_unread, View.ld_unit_zero (S := S1024x1024) hz, View.ld_unit_zero (S := S512x1024) hz, shapeCast_self]
  intro hc'
  refine (View.canon_apply_of_pieces (fun y => dyT b0 b1 b3 (y 0) (y 1)) _ ?_ (ix2 r l) hc').trans rfl
  intro p hp x
  simp only [List.mem_cons, List.not_mem_nil, or_false] at hp
  rcases hp with rfl | rfl | rfl
  all_goals
    obtain ⟨r, k, rfl⟩ : ∃ (r : Fin 512) (k : Fin 1024), x = ix2 r k := ⟨x 0, x 1, funext fun a => by fin_cases a <;> rfl⟩
    dsimp only
    first | rw [emb_wide 2048 _ r k (by omega)] | rw [emb_wide 1024 _ r k (by omega)] | rw [emb_wide 0 _ r k (by omega)]
    show _ = dyT b0 b1 b3 r ⟨_, _⟩
    rw [dyT, mod_at _ _ k rfl, ← dm_at]
    pointwise [k0_pay1, k0_pay3, k0_pay4, k0_pay5, k0_pay6, k0_pay7, k0_pay8, k0_pay9, k0_pay10, k0_pay11, k0_pay12, k0_pay13, k0_pay14, k0_pay15, k0_pay16]
    try rfl

theorem out_A_6 (r : Fin 512) (l : Fin 3072) : out0_A_6 (F := Ideal) c i a0 h0 a1 h1 a2 h2 a3 h3 a4 h4 a5 h5 a6 h6 a7 h7 b0 b1 b2 b3 b4 (ix2 r l) = dgT b0 b1 b2 b3 r l := by
  unfold out0_A_6
  have hc := cover0_A_6 c i a0 h0 a1 h1 a2 h2 a3 h3 a4 h4 a5 h5 a6 h6 a7 h7 b0 b1 b2 b3 b4
  rw [View.read_writes_eq_canon _ _ _ hc]
  have hc' := hc (ix2 r l)
  revert hc'
  clear hc
  unfold kernelRun0_A
  dsimp only
  sl_unfold_words
  simp only [View.readAt_eq_ld, Memref.IsWhole.read_unread, View.ld_unit_zero (S := S1024x1024) hz, View.ld_unit_zero (S := S512x1024) hz, shapeCast_self]
  intro hc'
  refine (View.canon_apply_of_pieces (fun y => dgT b0 b1 b2 b3 (y 0) (y 1)) _ ?_ (ix2 r l) hc').trans rfl
  intro p hp x
  simp only [List.mem_cons, List.not_mem_nil, or_false] at hp
  rcases hp with rfl | rfl | rfl
  all_goals
    obtain ⟨r, k, rfl⟩ : ∃ (r : Fin 512) (k : Fin 1024), x = ix2 r k := ⟨x 0, x 1, funext fun a => by fin_cases a <;> rfl⟩
    dsimp only
    first | rw [emb_wide 2048 _ r k (by omega)] | rw [emb_wide 1024 _ r k (by omega)] | rw [emb_wide 0 _ r k (by omega)]
    show _ = dgT b0 b1 b2 b3 r ⟨_, _⟩
    rw [dgT, dyT, mod_at _ _ k rfl, ← dm_at]
    pointwise [k0_pay1, k0_pay3, k0_pay4, k0_pay5, k0_pay6, k0_pay7, k0_pay8, k0_pay9, k0_pay10, k0_pay11, k0_pay12, k0_pay13, k0_pay14, k0_pay15, k0_pay16]
    try rfl

theorem out_A_7 (r : Fin 512) (l : Fin 1536) : out0_A_7 (F := Ideal) c i a0 h0 a1 h1 a2 h2 a3 h3 a4 h4 a5 h5 a6 h6 a7 h7 b0 b1 b2 b3 b4 (ix2 r l) = dzT b0 b1 b3 b4 r l := by
  unfold out0_A_7
  have hc := cover0_A_7 c i a0 h0 a1 h1 a2 h2 a3 h3 a4 h4 a5 h5 a6 h6 a7 h7 b0 b1 b2 b3 b4
  rw [View.read_writes_eq_canon _ _ _ hc]
  have hc' := hc (ix2 r l)
  revert hc'
  clear hc
  unfold kernelRun0_A
  dsimp only
  sl_unfold_words
  simp only [View.readAt_eq_ld, Memref.IsWhole.read_unread, View.ld_unit_zero (S := S1024x1024) hz, View.ld_unit_zero (S := S512x1024) hz, shapeCast_self]
  intro hc'
  refine (View.canon_apply_of_pieces (fun y => dzT b0 b1 b3 b4 (y 0) (y 1)) _ ?_ (ix2 r l) hc').trans rfl
  intro p hp x
  simp only [List.mem_cons, List.not_mem_nil, or_false] at hp
  rcases hp with rfl | rfl | rfl
  all_goals
    obtain ⟨r, k, rfl⟩ : ∃ (r : Fin 512) (k : Fin 512), x = ix2 r k := ⟨x 0, x 1, funext fun a => by fin_cases a <;> rfl⟩
    dsimp only
    first | rw [emb_thin 1024 _ r k (by omega)] | rw [emb_thin 512 _ r k (by omega)] | rw [emb_thin 0 _ r k (by omega)]
    show _ = dzT b0 b1 b3 b4 r ⟨_, _⟩
    first | rw [dzT_at _ _ _ _ 2 r k _ rfl] | rw [dzT_at _ _ _ _ 1 r k _ rfl] | rw [dzT_at _ _ _ _ 0 r k _ rfl]
    simp only [← dm_at]
    pointwise [k0_pay1, k0_pay3, k0_pay4, k0_pay5, k0_pay6, k0_pay7, k0_pay8, k0_pay9, k0_pay10, k0_pay11, k0_pay12, k0_pay13, k0_pay14, k0_pay15, k0_pay16]
    try rfl

end Cases

section Ref
open MrgReferenceIdeal.Read
variable (z : Vec Ideal S2048x1536 .f32) (w : Vec Ideal S3x512x1024 .f32) (g : Vec Ideal S2048x3072 .f32) (wo : Vec Ideal S1024x1024 .f32) (t : Vec Ideal S2048x1024 .f32)

/-- The reference's sigmoid, written out, is the sigmoid. -/
theorem v8_at (r : Fin 2048) (l : Fin 3072) : val_main_v8 (F := Ideal) g (ix2 r l) = Ideal.logistic (g (ix2 r l)) := by
  pointwise [val_main_v8, val_main_v7, val_main_cst_0, val_main_v6, val_main_v5, val_main_cst, val_main_v4, val_main_v3]
  rfl

theorem v18_at (r : Fin 2048) (n : Fin 3) (d : Fin 1024) : val_main_v18 (F := Ideal) g wo t (ix3 r n d)
    = Ideal.logistic (g (ix2 r ⟨n.val * 1024 + d.val, by omega⟩)) * ∑ k : Fin 1024, t (ix2 r k) * wo (ix2 d k) := by
  pointwise [val_main_v18, val_main_v12, val_main_v17, val_main_v16]
  rw [v8_at]

theorem v26_at (r : Fin 2048) (l : Fin 3072) : val_main_v26 (F := Ideal) g wo t (ix2 r l)
    = (∑ k : Fin 1024, t (ix2 r k) * wo (ix2 ⟨l.val % 1024, Nat.mod_lt _ (by decide)⟩ k)) * Ideal.logistic (g (ix2 r l)) := by
  pointwise [val_main_v26, val_main_v25]
  rw [v18_at, mul_comm]
  have h : (⟨l.val / 1024 * 1024 + l.val % 1024, by omega⟩ : Fin 3072) = l := Fin.ext (by show l.val / 1024 * 1024 + l.val % 1024 = l.val; omega)
  rw [h]

theorem v2_at (r : Fin 2048) (n : Fin 3) (d : Fin 1024) : val_main_v2 (F := Ideal) z w (ix3 r n d)
    = ∑ k : Fin 512, z (ix2 r ⟨n.val * 512 + k.val, by omega⟩) * w (ix3 n k d) := by
  pointwise [val_main_v2, val_main_v1, val_main_v0]
  exact Finset.sum_congr rfl fun k _ => mul_comm _ _

theorem v27_at (r : Fin 2048) (l : Fin 3072) : val_main_v27 (F := Ideal) z w g wo t (ix2 r l)
    = (∑ k : Fin 1024, t (ix2 r k) * wo (ix2 ⟨l.val % 1024, Nat.mod_lt _ (by decide)⟩ k)) * Ideal.logistic (g (ix2 r l))
      * val_main_v2 (F := Ideal) z w (ix3 r ⟨l.val / 1024, by omega⟩ ⟨l.val % 1024, Nat.mod_lt _ (by decide)⟩) * (1 - Ideal.logistic (g (ix2 r l))) := by
  pointwise [val_main_v27, val_main_v21, val_main_v20, val_main_v19, val_main_v17, val_main_v16, val_main_v11, val_main_v10, val_main_v9, val_main_cst_1]
  rw [v8_at]
  generalize Ideal.logistic (g (ix2 r l)) = s
  rw [← mul_assoc]
  congr 1
  rw [mul_right_comm]

theorem v29_at (r : Fin 2048) (l : Fin 1536) : val_main_v29 (F := Ideal) w g wo t (ix2 r l)
    = ∑ d : Fin 1024, val_main_v26 (F := Ideal) g wo t (ix2 r ⟨1024 * (l.val / 512) + d.val, by omega⟩) * w (ix3 ⟨l.val / 512, by omega⟩ ⟨l.val % 512, Nat.mod_lt _ (by decide)⟩ d) := by
  pointwise [val_main_v29, val_main_v28, val_main_v24, val_main_v23, val_main_v22]
  refine Finset.sum_congr rfl fun d _ => ?_
  rw [v18_at, v26_at, mul_comm (Ideal.logistic _)]
  have h : (⟨(1024 * (l.val / 512) + d.val) % 1024, Nat.mod_lt _ (by decide)⟩ : Fin 1024) = d := Fin.ext (by show (1024 * (l.val / 512) + d.val) % 1024 = d.val; omega)
  have h' : (⟨l.val / 512 * 1024 + d.val, by omega⟩ : Fin 3072) = ⟨1024 * (l.val / 512) + d.val, by omega⟩ := Fin.ext (by show l.val / 512 * 1024 + d.val = 1024 * (l.val / 512) + d.val; omega)
  rw [h, h']

end Ref

end Cert.Proof.MrgVal

end
-- ==== Proof.MrgRun.lean ====
module

public import proofs.«01_k».proof.Proof.MrgVal
public import proofs.«01_k».proof.Proof.Tiles
public import proofs.«01_k».proof.Proof.Blocks
public import Idealize.ShloMosaic.Lib.Pipeline.Value
public import Idealize.ShloMosaic.Lib.StableHlo.Run
public import proofs.«01_k».proof.Defs
public import proofs.«01_k».proof.Proof.Gen.MrgReferenceIdeal.Run

@[expose] public section

set_option maxRecDepth 16384

noncomputable section

namespace Cert.Proof.MrgRun

open Idealize.ShloMosaic Idealize.ShloMosaic.TcCoe Reals Rms MrgKernelIdeal MrgKernelIdeal.Gen MrgVal Tiles Blocks

variable (m : (ℓ : Loc nD τ sig) → Buf (Elt Ideal) ℓ) (c : Dev nD)

/-- The arguments: the mixers' rows, the branches' weights, the gates before their sigmoid, the output weight and the cotangent. -/
abbrev az : Vec Ideal S2048x1536 .f32 := m ((c : Thread nD τ).loc main_arg0)
abbrev aw : Vec Ideal S3x512x1024 .f32 := m ((c : Thread nD τ).loc main_arg1)
abbrev ag : Vec Ideal S2048x3072 .f32 := m ((c : Thread nD τ).loc main_arg2)
abbrev ao : Vec Ideal S1024x1024 .f32 := m ((c : Thread nD τ).loc main_arg3)
abbrev at' : Vec Ideal S2048x1024 .f32 := m ((c : Thread nD τ).loc main_arg4)

theorem V_v0 : V m c main_v0 = aw m c := by
  unfold_abbrev_sides
  after_results
  rfl
theorem V_v18 : V m c main_v18 = at' m c := by
  unfold_abbrev_sides
  after_results
  rfl
theorem V_v19 : V m c main_v19 = ao m c := by
  unfold_abbrev_sides
  after_results
  rfl
theorem V_v20 : V m c main_v20 = ag m c := by
  unfold_abbrev_sides
  after_results
  rfl
theorem V_v6 (r : Fin 2048) (l : Fin 1024) : V m c main_v6 (ix2 r l) = ∑ k : Fin 512, az m c (ix2 r ⟨0 + k.val, by omega⟩) * aw m c (ix3 0 k l) := by
  unfold_abbrev_sides
  after_results
  pointwise []

theorem V_v11 (r : Fin 2048) (l : Fin 1024) : V m c main_v11 (ix2 r l) = ∑ k : Fin 512, az m c (ix2 r ⟨512 + k.val, by omega⟩) * aw m c (ix3 1 k l) := by
  unfold_abbrev_sides
  after_results
  pointwise []

theorem V_v16 (r : Fin 2048) (l : Fin 1024) : V m c main_v16 (ix2 r l) = ∑ k : Fin 512, az m c (ix2 r ⟨1024 + k.val, by omega⟩) * aw m c (ix3 2 k l) := by
  unfold_abbrev_sides
  after_results
  pointwise []

/-- The host keeps the three branches' rows side by side. -/
theorem V_v17 : V m c main_v17 = concatenate S2048x3072 1 [⟨S2048x1024, V m c main_v6⟩, ⟨S2048x1024, V m c main_v11⟩, ⟨S2048x1024, V m c main_v16⟩] concatenates_S2048x1024_S2048x1024_S2048x1024_S2048x3072_d1 := by
  unfold_abbrev_sides
  after_results
  rfl

/-- Row `r` of the point's row block. -/
def row (t : Fin cfg0.N) (r : Fin 512) : Fin 2048 := ⟨512 * t.val + r.val, by have := t.isLt; have : cfg0.N = 4 := N_0; omega⟩

section Branches
open MrgReferenceIdeal.Read
theorem V_v17_at (r : Fin 2048) (l : Fin 3072) : V m c main_v17 (ix2 r l)
    = val_main_v2 (F := Ideal) (az m c) (aw m c) (ix3 r ⟨l.val / 1024, by omega⟩ ⟨l.val % 1024, Nat.mod_lt _ (by decide)⟩) := by
  have h6 := V_v6 m c
  have h11 := V_v11 m c
  have h16 := V_v16 m c
  rw [V_v17]
  generalize V m c main_v6 = a6 at *
  generalize V m c main_v11 = a11 at *
  generalize V m c main_v16 = a16 at *
  rw [v2_at]
  pointwise []
  have key (n : Fin 3) (q : Fin 1024) (hn : l.val / 1024 = n.val) (hq : l.val % 1024 = q.val) :
      ∑ k : Fin 512, az m c (ix2 r ⟨512 * n.val + k.val, by omega⟩) * aw m c (ix3 n k q)
        = ∑ k : Fin 512, az m c (ix2 r ⟨l.val / 1024 * 512 + k.val, by omega⟩) * aw m c (ix3 ⟨l.val / 1024, by omega⟩ k ⟨l.val % 1024, Nat.mod_lt _ (by decide)⟩) :=
    Finset.sum_congr rfl fun k _ => by
      have e1 : (⟨l.val / 1024, by omega⟩ : Fin 3) = n := Fin.ext hn
      have e2 : (⟨l.val % 1024, Nat.mod_lt _ (by decide)⟩ : Fin 1024) = q := Fin.ext hq
      have e3 : (⟨l.val / 1024 * 512 + k.val, by omega⟩ : Fin 1536) = ⟨512 * n.val + k.val, by omega⟩ := Fin.ext (by show l.val / 1024 * 512 + k.val = 512 * n.val + k.val; omega)
      rw [e1, e2, e3]
  by_cases h0 : l.val < 1024
  · rw [dif_pos h0]
    exact (h6 r ⟨l.val, h0⟩).trans (key 0 ⟨l.val, h0⟩ (by show l.val / 1024 = 0; omega) (by show l.val % 1024 = l.val; omega))
  · rw [dif_neg h0]
    by_cases h1 : l.val - 1024 < 1024
    · rw [dif_pos h1]
      exact (h11 r ⟨l.val - 1024, h1⟩).trans (key 1 ⟨l.val - 1024, h1⟩ (by show l.val / 1024 = 1; omega) (by show l.val % 1024 = l.val - 1024; omega))
    · rw [dif_neg h1]
      exact (h16 r ⟨l.val - 1024 - 1024, by omega⟩).trans (key 2 ⟨l.val - 1024 - 1024, by omega⟩ (by show l.val / 1024 = 2; omega) (by show l.val % 1024 = l.val - 1024 - 1024; omega))
end Branches

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index4 : ∀ t : Fin cfg0.N, win0_4.index t 0 = 0 ∧ win0_4.index t 1 = 0 ∧ win0_4.index t 2 = 0 := by decide +kernel
theorem iblk0 (t : Fin cfg0.N) (r : Fin 512) (l : Fin 1024) : iblk m c 0 t (ix2 r l) = at' m c (ix2 (row t r) l) :=
  (congrArg (V m c main_v18) (emb_block (index0 t) r l _ _)).trans (congrFun (V_v18 m c) _)
theorem iblk1 (t : Fin cfg0.N) (r : Fin 1024) (l : Fin 1024) : iblk m c 1 t (ix2 r l) = ao m c (ix2 r l) :=
  (congrArg (V m c main_v19) (emb_block (index1 t) r l _ _)).trans (congrFun (V_v19 m c) _)
theorem iblk3 (t : Fin cfg0.N) (r : Fin 512) (l : Fin 3072) : iblk m c 3 t (ix2 r l) = ag m c (ix2 (row t r) l) :=
  (congrArg (V m c main_v20) (emb_block (index3 t) r l _ _)).trans (congrFun (V_v20 m c) _)
theorem iblk2 (t : Fin cfg0.N) (r : Fin 512) (l : Fin 3072) : iblk m c 2 t (ix2 r l) = V m c main_v17 (ix2 (row t r) l) :=
  congrArg (V m c main_v17) (emb_block (index2 t) r l _ _)
theorem iblk4 (t : Fin cfg0.N) (n : Fin 3) (k : Fin 512) (l : Fin 1024) : iblk m c 4 t (ix3 n k l) = aw m c (ix3 n k l) := by
  have hi := index4 t
  unfold iblk
  rw [View.read_apply]
  show V m c main_v0 _ = _
  rw [V_v0]
  congr 1
  funext a
  apply Fin.ext
  match a with
  | ⟨0, _⟩ => show win0_4.index t 0 * 3 + 1 * n.val = n.val; rw [hi.1]; omega
  | ⟨1, _⟩ => show win0_4.index t 1 * 512 + 1 * k.val = k.val; rw [hi.2.1]; omega
  | ⟨2, _⟩ => show win0_4.index t 2 * 1024 + 1 * l.val = l.val; rw [hi.2.2]; omega

section Outs
open MrgReferenceIdeal.Read

theorem tile_dy (t : Fin cfg0.N) (r : Fin 512) (l : Fin 3072) : dyT (iblk m c 0 t) (iblk m c 1 t) (iblk m c 3 t) r l
    = val_main_v26 (F := Ideal) (ag m c) (ao m c) (at' m c) (ix2 (row t r) l) := by
  rw [v26_at, dyT, dm, iblk3]
  simp only [iblk0, iblk1]

theorem tile_dg (t : Fin cfg0.N) (r : Fin 512) (l : Fin 3072) : dgT (iblk m c 0 t) (iblk m c 1 t) (iblk m c 2 t) (iblk m c 3 t) r l
    = val_main_v27 (F := Ideal) (az m c) (aw m c) (ag m c) (ao m c) (at' m c) (ix2 (row t r) l) := by
  rw [v27_at, dgT, tile_dy, v26_at, iblk2, iblk3, V_v17_at]

theorem tile_dz (t : Fin cfg0.N) (r : Fin 512) (l : Fin 1536) : dzT (iblk m c 0 t) (iblk m c 1 t) (iblk m c 3 t) (iblk m c 4 t) r l
    = val_main_v29 (F := Ideal) (aw m c) (ag m c) (ao m c) (at' m c) (ix2 (row t r) l) := by
  rw [v29_at, dzT]
  simp only [tile_dy, iblk4]

end Outs

open MrgReferenceIdeal.Read in
theorem final5 : (dats m 0 c).arrAt 5 cfg0.N = val_main_v26 (F := Ideal) (ag m c) (ao m c) (at' m c) := by
  have hN : cfg0.N = 4 := N_0
  refine (dats m 0 c).arrAt_eq_of_cover 5 _ (fun t hf => ?_) fun i => ?_
  · rw [Value.flushed5_A m c t]
    funext j
    obtain ⟨r, l, rfl⟩ := eq_ix2 (A := 512) (B := 3072) j
    refine ((out_A_5 (iblk m c 0 t) (iblk m c 1 t) (iblk m c 2 t) (iblk m c 3 t) (iblk m c 4 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) r l).trans (tile_dy m c t r l)).trans ?_
    exact (congrArg _ (emb_block (index5 t) r l _ _)).symm
  · have h0 : (i 0 : Nat) < 2048 := (i 0).isLt
    have h1 : (i 1 : Nat) < 3072 := (i 1).isLt
    let t : Fin cfg0.N := ⟨(i 0 : Nat) / 512, by omega⟩
    refine ⟨t, flush0_5 t, ?_⟩
    show i ∈ ((View.whole main_v21_0).slice (win0_5.rect t)).set
    rw [View.set_slice_whole]
    exact mem_block i ⟨(index5 t).1.trans (by show (i 0 : Nat) / 512 = (i 0 : Nat) / 512; omega), (index5 t).2.trans (by show 0 = (i 1 : Nat) / 3072; omega)⟩

open MrgReferenceIdeal.Read in
theorem final6 : (dats m 0 c).arrAt 6 cfg0.N = val_main_v27 (F := Ideal) (az m c) (aw m c) (ag m c) (ao m c) (at' m c) := by
  have hN : cfg0.N = 4 := N_0
  refine (dats m 0 c).arrAt_eq_of_cover 6 _ (fun t hf => ?_) fun i => ?_
  · rw [Value.flushed6_A m c t]
    funext j
    obtain ⟨r, l, rfl⟩ := eq_ix2 (A := 512) (B := 3072) j
    refine ((out_A_6 (iblk m c 0 t) (iblk m c 1 t) (iblk m c 2 t) (iblk m c 3 t) (iblk m c 4 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) r l).trans (tile_dg m c t r l)).trans ?_
    exact (congrArg _ (emb_block (index6 t) r l _ _)).symm
  · have h0 : (i 0 : Nat) < 2048 := (i 0).isLt
    have h1 : (i 1 : Nat) < 3072 := (i 1).isLt
    let t : Fin cfg0.N := ⟨(i 0 : Nat) / 512, by omega⟩
    refine ⟨t, flush0_6 t, ?_⟩
    show i ∈ ((View.whole main_v21_1).slice (win0_6.rect t)).set
    rw [View.set_slice_whole]
    exact mem_block i ⟨(index6 t).1.trans (by show (i 0 : Nat) / 512 = (i 0 : Nat) / 512; omega), (index6 t).2.trans (by show 0 = (i 1 : Nat) / 3072; omega)⟩

open MrgReferenceIdeal.Read in
theorem final7 : (dats m 0 c).arrAt 7 cfg0.N = val_main_v29 (F := Ideal) (aw m c) (ag m c) (ao m c) (at' m c) := by
  have hN : cfg0.N = 4 := N_0
  refine (dats m 0 c).arrAt_eq_of_cover 7 _ (fun t hf => ?_) fun i => ?_
  · rw [Value.flushed7_A m c t]
    funext j
    obtain ⟨r, l, rfl⟩ := eq_ix2 (A := 512) (B := 1536) j
    refine ((out_A_7 (iblk m c 0 t) (iblk m c 1 t) (iblk m c 2 t) (iblk m c 3 t) (iblk m c 4 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) r l).trans (tile_dz m c t r l)).trans ?_
    exact (congrArg _ (emb_block (index7 t) r l _ _)).symm
  · have h0 : (i 0 : Nat) < 2048 := (i 0).isLt
    have h1 : (i 1 : Nat) < 1536 := (i 1).isLt
    let t : Fin cfg0.N := ⟨(i 0 : Nat) / 512, by omega⟩
    refine ⟨t, flush0_7 t, ?_⟩
    show i ∈ ((View.whole main_v21_2).slice (win0_7.rect t)).set
    rw [View.set_slice_whole]
    exact mem_block i ⟨(index7 t).1.trans (by show (i 0 : Nat) / 512 = (i 0 : Nat) / 512; omega), (index7 t).2.trans (by show 0 = (i 1 : Nat) / 1536; omega)⟩

end Cert.Proof.MrgRun

namespace Cert.Proof

open Idealize.ShloMosaic Idealize.ShloMosaic.TcCoe Idealize.SL.Sem

open MrgKernelIdeal in
open MrgKernelIdeal.Gen in
open MrgReferenceIdeal.Read in
/-- The kernel's run, with each result named as the reference names it. -/
theorem mrg_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v21_0) = val_main_v26 (F := Ideal) (MrgRun.ag m c) (MrgRun.ao m c) (MrgRun.at' m c)
      ∧ r.2.mem ((c : Thread nD τ).loc main_v21_1) = val_main_v27 (F := Ideal) (MrgRun.az m c) (MrgRun.aw m c) (MrgRun.ag m c) (MrgRun.ao m c) (MrgRun.at' m c)
      ∧ r.2.mem ((c : Thread nD τ).loc main_v21_2) = val_main_v29 (F := Ideal) (MrgRun.aw m c) (MrgRun.ag m c) (MrgRun.ao m c) (MrgRun.at' m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, h1, h2, h3⟩ := h c
    exact ⟨h0.trans (MrgRun.final5 m c), h1.trans (MrgRun.final6 m c), h2.trans (MrgRun.final7 m c), h3⟩)
    (MrgKernelIdeal.Value.run_blocks (F := Ideal) m ρ)

theorem algebraic_MrgKernelIdeal_MrgReferenceIdeal : algebraic_MrgKernelIdeal_MrgReferenceIdeal := by
  intro m ρ m' ρ' _ hagree
  refine ⟨_, _, _, mrg_run m ρ, ?_⟩
  refine (θ_run MrgReferenceIdeal.defs _ _).mono (fun _ h c => ?_) (MrgReferenceIdeal.Value.run (F := Ideal) m' ρ')
  obtain ⟨h0, h1, h2, h3⟩ := h c
  obtain ⟨a0, a1, a2, a3, a4⟩ := hagree c
  rw [MrgReferenceIdeal.Read.val_main_v26_eq, a2, a3, a4] at h0
  rw [MrgReferenceIdeal.Read.val_main_v27_eq, a0, a1, a2, a3, a4] at h1
  rw [MrgReferenceIdeal.Read.val_main_v29_eq, a1, a2, a3, a4] at h2
  exact ⟨h0, h1, h2, h3⟩

end Cert.Proof

end
-- ==== Proof.DhRun.lean ====
module

public import proofs.«01_k».proof.Proof.Gen.DhReferenceIdeal.Read
public import proofs.«01_k».proof.Proof.Gen.DhKernelIdeal.Value
public import proofs.«01_k».proof.Proof.Reads
public import proofs.«01_k».proof.Proof.Rms
public import Idealize.ShloMosaic.Lib.Pointwise
public import Idealize.ShloMosaic.Lib.Tactic
public import proofs.«01_k».proof.Proof.Tiles
public import proofs.«01_k».proof.Proof.Blocks
public import Idealize.ShloMosaic.Lib.Pipeline.Value
public import Idealize.ShloMosaic.Lib.StableHlo.Run
public import proofs.«01_k».proof.Defs
public import proofs.«01_k».proof.Proof.Gen.DhReferenceIdeal.Run

@[expose] public section

set_option maxRecDepth 16384

noncomputable section

namespace Cert.Proof.DhVal

open Idealize.ShloMosaic Idealize.ShloMosaic.TcCoe Reals Reads Rms DhKernelIdeal DhKernelIdeal.Gen

variable {F : FTy → Type} [FloatOps F]

section Cases
variable (c : Dev nD) (i : grid0.Coords)
  (a0 : Memref sig .tc .vmem S1024x1536 .bf16) (h0 : a0.IsWhole) (a1 : Memref sig .tc .vmem S1024x1536 .bf16) (h1 : a1.IsWhole) (a2 : Memref sig .tc .vmem S1536x1024 .bf16) (h2 : a2.IsWhole) (a3 : Memref sig .tc .vmem S1024x1024 .f32) (h3 : a3.IsWhole)
  (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .bf16) (h7 : a7.IsWhole)
  (a8 : Memref sig .tc .vmem S1x1024 .f32) (h8 : a8.IsWhole) (a9 : Memref sig .tc .vmem S1024x1024 .f32) (h9 : a9.IsWhole)

theorem out_A_s (hc0 hc1 hc2 hc3) (b0 b1 b2 b3 b4 b5) : sout0_A_0 (F := F) c i a0 h0 a1 h1 a2 h2 a3 h3 a4 h4 a5 h5 a6 h6 a7 h7 a8 h8 a9 h9 hc0 hc1 hc2 hc3 b0 b1 b2 b3 b4 b5 = k0_pay2 k0_pay1 b0 b2 := by
  unfold sout0_A_0
  rw [View.read_writes_eq_canon _ _ _ (by apply scover0_A_0)]
  unfold kernelRun0_A
  dsimp only
  sl_unfold_words
  rw [View.canon_cons_unit_zero (S := S1024x1024) hz]
  simp only [ld_all, cov_all, View.readAt_eq_ld, Memref.IsWhole.read_unread, shapeCast_self]

theorem out_B_s (hc0 hc1 hc2 hc3) (b0 b1 b2 b3 b4 b5 s) : sout0_B_0 (F := F) c i a0 h0 a1 h1 a2 h2 a3 h3 a4 h4 a5 h5 a6 h6 a7 h7 a8 h8 a9 h9 hc0 hc1 hc2 hc3 b0 b1 b2 b3 b4 b5 s = k0_pay2 s b0 b2 := by
  unfold sout0_B_0
  rw [View.read_writes_eq_canon _ _ _ (by apply scover0_B_0)]
  unfold kernelRun0_B
  dsimp only
  sl_unfold_words
  rw [View.canon_unit_zero hz]
  simp only [ld_all, cov_all, View.readAt_eq_ld, Memref.IsWhole.read_unread, shapeCast_self]

theorem out_C_s (hc0 hc1 hc2 hc3) (b0 b1 b2 b3 b4 b5 s) : sout0_C_0 (F := F) c i a0 h0 a1 h1 a2 h2 a3 h3 a4 h4 a5 h5 a6 h6 a7 h7 a8 h8 a9 h9 hc0 hc1 hc2 hc3 b0 b1 b2 b3 b4 b5 s = k0_pay3 s b1 b2 := by
  unfold sout0_C_0
  rw [View.read_writes_eq_canon _ _ _ (by apply scover0_C_0)]
  unfold kernelRun0_C
  dsimp only
  sl_unfold_words
  rw [View.canon_unit_zero hz]
  simp only [ld_all, cov_all, View.readAt_eq_ld, Memref.IsWhole.read_unread, shapeCast_self]

theorem out_D_6 (hc0 hc1 hc2 hc3 hc4 hc5) (b0 b1 b2 b3 b4 b5 s) : out0_D_6 (F := F) c i a0 h0 a1 h1 a2 h2 a3 h3 a4 h4 a5 h5 a6 h6 a7 h7 a8 h8 a9 h9 hc0 hc1 hc2 hc3 hc4 hc5 b0 b1 b2 b3 b4 b5 s = k0_pay8 b3 (k0_pay3 s b1 b2) b5 b4 := by
  unfold out0_D_6
  rw [View.read_writes_eq_canon _ _ _ (by apply cover0_D_6)]
  unfold kernelRun0_D
  dsimp only
  sl_unfold_words
  rw [View.canon_unit_zero hz]
  simp only [ld_all, cov_all, View.readAt_eq_ld, Memref.IsWhole.read_unread, shapeCast_self]

theorem out_D_7 (hc0 hc1 hc2 hc3 hc4 hc5) (b0 b1 b2 b3 b4 b5 s) : out0_D_7 (F := F) c i a0 h0 a1 h1 a2 h2 a3 h3 a4 h4 a5 h5 a6 h6 a7 h7 a8 h8 a9 h9 hc0 hc1 hc2 hc3 hc4 hc5 b0 b1 b2 b3 b4 b5 s = k0_pay9 b3 (k0_pay3 s b1 b2) b5 b4 := by
  unfold out0_D_7
  rw [View.read_writes_eq_canon _ _ _ (by apply cover0_D_7)]
  unfold kernelRun0_D
  dsimp only
  sl_unfold_words
  rw [View.canon_unit_zero hz]
  simp only [ld_all, cov_all, View.readAt_eq_ld, Memref.IsWhole.read_unread, shapeCast_self]

theorem out_D_8 (hc0 hc1 hc2 hc3 hc4 hc5) (b0 b1 b2 b3 b4 b5 s) : out0_D_8 (F := F) c i a0 h0 a1 h1 a2 h2 a3 h3 a4 h4 a5 h5 a6 h6 a7 h7 a8 h8 a9 h9 hc0 hc1 hc2 hc3 hc4 hc5 b0 b1 b2 b3 b4 b5 s = k0_pay7 b3 (k0_pay3 s b1 b2) := by
  unfold out0_D_8
  rw [View.read_writes_eq_canon _ _ _ (by apply cover0_D_8)]
  unfold kernelRun0_D
  dsimp only
  sl_unfold_words
  rw [View.canon_unit_zero hz]
  simp only [ld_all, cov_all, View.readAt_eq_ld, Memref.IsWhole.read_unread, shapeCast_self]

theorem out_D_s (hc0 hc1 hc2 hc3 hc4 hc5) (b0 b1 b2 b3 b4 b5 s) : sout0_D_0 (F := F) c i a0 h0 a1 h1 a2 h2 a3 h3 a4 h4 a5 h5 a6 h6 a7 h7 a8 h8 a9 h9 hc0 hc1 hc2 hc3 hc4 hc5 b0 b1 b2 b3 b4 b5 s = k0_pay3 s b1 b2 := by
  unfold sout0_D_0
  rw [View.read_writes_eq_canon _ _ _ (by apply scover0_D_0)]
  unfold kernelRun0_D
  dsimp only
  sl_unfold_words
  rw [View.canon_unit_zero hz]
  simp only [ld_all, cov_all, View.readAt_eq_ld, Memref.IsWhole.read_unread, shapeCast_self]

theorem out_E_6 (hc0 hc1 hc2 hc3 hc4 hc5) (b0 b1 b2 b3 b4 b5 u s) : out0_E_6 (F := F) c i a0 h0 a1 h1 a2 h2 a3 h3 a4 h4 a5 h5 a6 h6 a7 h7 a8 h8 a9 h9 hc0 hc1 hc2 hc3 hc4 hc5 b0 b1 b2 b3 b4 b5 u s = k0_pay8 b3 (k0_pay3 s b1 b2) b5 b4 := by
  unfold out0_E_6
  rw [View.read_writes_eq_canon _ _ _ (by apply cover0_E_6)]
  unfold kernelRun0_E
  dsimp only
  sl_unfold_words
  rw [View.canon_unit_zero hz]
  simp only [ld_all, cov_all, View.readAt_eq_ld, Memref.IsWhole.read_unread, shapeCast_self]

theorem out_E_7 (hc0 hc1 hc2 hc3 hc4 hc5) (b0 b1 b2 b3 b4 b5 u s) : out0_E_7 (F := F) c i a0 h0 a1 h1 a2 h2 a3 h3 a4 h4 a5 h5 a6 h6 a7 h7 a8 h8 a9 h9 hc0 hc1 hc2 hc3 hc4 hc5 b0 b1 b2 b3 b4 b5 u s = k0_pay9 b3 (k0_pay3 s b1 b2) b5 b4 := by
  unfold out0_E_7
  rw [View.read_writes_eq_canon _ _ _ (by apply cover0_E_7)]
  unfold kernelRun0_E
  dsimp only
  sl_unfold_words
  rw [View.canon_unit_zero hz]
  simp only [ld_all, cov_all, View.readAt_eq_ld, Memref.IsWhole.read_unread, shapeCast_self]

theorem out_E_8 (hc0 hc1 hc2 hc3 hc4 hc5) (b0 b1 b2 b3 b4 b5 u s) : out0_E_8 (F := F) c i a0 h0 a1 h1 a2 h2 a3 h3 a4 h4 a5 h5 a6 h6 a7 h7 a8 h8 a9 h9 hc0 hc1 hc2 hc3 hc4 hc5 b0 b1 b2 b3 b4 b5 u s = k0_pay4 (k0_pay7 b3 (k0_pay3 s b1 b2)) u := by
  unfold out0_E_8
  rw [View.read_writes_eq_canon _ _ _ (by apply cover0_E_8)]
  unfold kernelRun0_E
  dsimp only
  sl_unfold_words
  rw [View.canon_unit_zero hz]
  simp only [ld_all, cov_all, View.readAt_eq_ld, Memref.IsWhole.read_unread, shapeCast_self]

theorem out_E_s (hc0 hc1 hc2 hc3 hc4 hc5) (b0 b1 b2 b3 b4 b5 u s) : sout0_E_0 (F := F) c i a0 h0 a1 h1 a2 h2 a3 h3 a4 h4 a5 h5 a6 h6 a7 h7 a8 h8 a9 h9 hc0 hc1 hc2 hc3 hc4 hc5 b0 b1 b2 b3 b4 b5 u s = k0_pay3 s b1 b2 := by
  unfold sout0_E_0
  rw [View.read_writes_eq_canon _ _ _ (by apply scover0_E_0)]
  unfold kernelRun0_E
  dsimp only
  sl_unfold_words
  rw [View.canon_unit_zero hz]
  simp only [ld_all, cov_all, View.readAt_eq_ld, Memref.IsWhole.read_unread, shapeCast_self]

end Cases

section Rows
variable (x a q : Vec Ideal S1024x1024 .f32) (g : Vec Ideal S1x1024 .f32) (d : Vec Ideal S1024x1536 .bf16) (w : Vec Ideal S1536x1024 .bf16)

theorem pay1_at (r : Fin 1024) (l : Fin 1024) : k0_pay1 (F := Ideal) (ix2 r l) = 0 := by
  pointwise [k0_pay1]
theorem pay2_at (r : Fin 1024) (l : Fin 1024) : k0_pay2 (F := Ideal) a d w (ix2 r l) = a (ix2 r l) + ∑ f : Fin 1536, d (ix2 r f) * w (ix2 f l) := by
  pointwise [k0_pay2]
theorem pay3_at (r : Fin 1024) (l : Fin 1024) : k0_pay3 (F := Ideal) a d w (ix2 r l) = a (ix2 r l) + ∑ f : Fin 1536, d (ix2 r f) * w (ix2 f l) := by
  pointwise [k0_pay3]
theorem pay8_at (r : Fin 1024) (l : Fin 1024) : k0_pay8 (F := Ideal) x a g q (ix2 r l)
    = kback (fun k => x (ix2 r k)) (fun k => a (ix2 r k) * g (ix2 0 k)) l + q (ix2 r l) := by
  pointwise [k0_pay8, k0_pay5, k0_pay6]
  rfl
theorem pay9_at (r : Fin 1024) (l : Fin 1024) : k0_pay9 (F := Ideal) x a g q (ix2 r l)
    = kback (fun k => x (ix2 r k)) (fun k => a (ix2 r k) * g (ix2 0 k)) l + q (ix2 r l) := by
  pointwise [k0_pay9, k0_pay8, k0_pay5, k0_pay6]
  rfl
theorem pay7_at (l : Fin 1024) : k0_pay7 (F := Ideal) x a (ix2 0 l)
    = ∑ r : Fin 1024, a (ix2 r l) * (x (ix2 r l) * er (fun k => x (ix2 r k))) := by
  pointwise [k0_pay7, k0_pay5, k0_pay6]
  rfl
theorem pay4_at (p u : Vec Ideal S1x1024 .f32) (l : Fin 1024) : k0_pay4 (F := Ideal) p u (ix2 0 l) = u (ix2 0 l) + p (ix2 0 l) := by
  pointwise [k0_pay4]
end Rows

section Ref
open DhReferenceIdeal.Read
variable (x : Vec Ideal S2048x1024 .f32) (g : Vec Ideal S1024 .f32) (w : Vec Ideal S1024x7680 .f32) (q : Vec Ideal S2048x1024 .f32) (t : Vec Ideal S2048x7680 .f32)

theorem v6_at (r : Fin 2048) : val_main_v6 (F := Ideal) x (ix2 r 0) = ems (fun k => x (ix2 r k)) := by
  pointwise [val_main_v6, val_main_v5, val_main_cst_1, val_main_v4, val_main_v3, val_main_cst_0, val_main_v2, val_main_v1, val_main_cst, val_main_v0]
  rfl

theorem v17_at (r : Fin 2048) (l : Fin 1024) : val_main_v17 (F := Ideal) w t (ix2 r l) = ∑ f : Fin 7680, t (ix2 r f) * w (ix2 l f) := by
  pointwise [val_main_v17]

theorem v38_at (r : Fin 2048) (l : Fin 1024) : val_main_v38 (F := Ideal) x g w q t (ix2 r l)
    = kback (fun k => x (ix2 r k)) (fun k => val_main_v17 (F := Ideal) w t (ix2 r k) * g (ix1 k)) l + q (ix2 r l) := by
  pointwise [val_main_v38, val_main_v37, val_main_v36, val_main_v35, val_main_v34, val_main_v33, val_main_v32, val_main_cst_7, val_main_v31, val_main_v30, val_main_cst_6, val_main_v29, val_main_v28, val_main_v27, val_main_v26, val_main_v25, val_main_cst_5, val_main_v24, val_main_v22, val_main_v21, val_main_v13, val_main_v10, val_main_v9, val_main_cst_2, val_main_v8, val_main_v7]
  simp only [v6_at, Fin.sum_univ_one]
  rw [kback_eq, add_comm]
  rfl

theorem v39_at (r : Fin 2048) (l : Fin 1024) : val_main_v39 (F := Ideal) x g w q t (ix2 r l)
    = kback (fun k => x (ix2 r k)) (fun k => val_main_v17 (F := Ideal) w t (ix2 r k) * g (ix1 k)) l + q (ix2 r l) := by
  pointwise [val_main_v39]
  rw [v38_at]

theorem v40_at (l : Fin 1024) : val_main_v40 (F := Ideal) x w t (ix2 0 l)
    = ∑ r : Fin 2048, val_main_v17 (F := Ideal) w t (ix2 r l) * (x (ix2 r l) * er (fun k => x (ix2 r k))) := by
  pointwise [val_main_v40, val_main_v23, val_main_cst_4, val_main_v20, val_main_v19, val_main_cst_3, val_main_v18, val_main_v12, val_main_v11, val_main_v7]
  simp only [v6_at, Fin.sum_univ_one]
  exact Finset.sum_congr rfl fun r _ => mul_comm _ _

end Ref

end Cert.Proof.DhVal

namespace Cert.Proof.DhRun

open Idealize.ShloMosaic Idealize.ShloMosaic.TcCoe Reals Rms DhKernelIdeal DhKernelIdeal.Gen DhVal Tiles Blocks

variable (m : (ℓ : Loc nD τ sig) → Buf (Elt Ideal) ℓ) (c : Dev nD)

/-- The arguments: the rows, the norm's scale, the weight, the cotangent past the norm and the product's. -/
abbrev ax : Vec Ideal S2048x1024 .f32 := m ((c : Thread nD τ).loc main_arg0)
abbrev ag : Vec Ideal S1024 .f32 := m ((c : Thread nD τ).loc main_arg1)
abbrev aw : Vec Ideal S1024x7680 .f32 := m ((c : Thread nD τ).loc main_arg2)
abbrev aq : Vec Ideal S2048x1024 .f32 := m ((c : Thread nD τ).loc main_arg3)
abbrev at' : Vec Ideal S2048x7680 .f32 := m ((c : Thread nD τ).loc main_arg4)

theorem V_v5 : V m c main_v5 = broadcastInDim S1x1024 ![1] bcast_S1024_S1x1024_1 (ag m c) := by
  unfold_abbrev_sides
  after_results
theorem V_v1 (r : Fin 2048) (l : Fin 4608) : V m c main_v1 (ix2 r l) = at' m c (ix2 r ⟨l.val, by omega⟩) := by
  unfold_abbrev_sides
  after_results
  pointwise []
theorem V_v2 (r : Fin 2048) (l : Fin 3072) : V m c main_v2 (ix2 r l) = at' m c (ix2 r ⟨4608 + l.val, by omega⟩) := by
  unfold_abbrev_sides
  after_results
  pointwise []
theorem V_v4 (f : Fin 7680) (l : Fin 1024) : V m c main_v4 (ix2 f l) = aw m c (ix2 l f) := by
  unfold_abbrev_sides
  after_results
  pointwise []

/-- Row `r` of the point's row block; row `f` of its block of the weight. -/
def row (t : Fin cfg0.N) (r : Fin 1024) : Fin 2048 := ⟨1024 * (t.val / 5) + r.val, by have := t.isLt; have : cfg0.N = 10 := N_0; omega⟩
def colOf (i : Fin 5) (f : Fin 1536) : Fin 7680 := ⟨1536 * i.val + f.val, by omega⟩
def par (t : Fin cfg0.N) : Fin 5 := ⟨t.val % 5, Nat.mod_lt _ (by decide)⟩

theorem index0 : ∀ t : Fin cfg0.N, win0_0.index t 0 = t.val / 5 ∧ win0_0.index t 1 = min (t.val % 5) 2 := by decide +kernel
theorem index1 : ∀ t : Fin cfg0.N, win0_1.index t 0 = t.val / 5 ∧ win0_1.index t 1 = t.val % 5 - 3 := by decide +kernel
theorem index2 : ∀ t : Fin cfg0.N, win0_2.index t 0 = t.val % 5 ∧ win0_2.index t 1 = 0 := by decide +kernel
theorem index3 : ∀ t : Fin cfg0.N, win0_3.index t 0 = t.val / 5 ∧ win0_3.index t 1 = 0 := by decide +kernel
theorem index4 : ∀ t : Fin cfg0.N, win0_4.index t 0 = t.val / 5 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = t.val / 5 ∧ win0_6.index t 1 = 0 := by decide +kernel
theorem index7 : ∀ t : Fin cfg0.N, win0_7.index t 0 = t.val / 5 ∧ win0_7.index t 1 = 0 := by decide +kernel
theorem iblk0 (t : Fin cfg0.N) (h : t.val % 5 ≤ 2) (r : Fin 1024) (l : Fin 1536) : iblk m c 0 t (ix2 r l) = at' m c (ix2 (row t r) (colOf (par t) l)) := by
  have hi := index0 t
  have hN : cfg0.N = 10 := N_0
  have ht := t.isLt
  refine Eq.trans ?_ ((V_v1 m c ⟨1024 * (t.val / 5) + r.val, by omega⟩ ⟨1536 * (t.val % 5) + l.val, by omega⟩).trans ?_)
  · exact congrArg (V m c main_v1) (emb_block hi r l _ _ rfl (by rw [Nat.min_eq_left h]))
  · rfl
theorem iblk1 (t : Fin cfg0.N) (h : 3 ≤ t.val % 5) (r : Fin 1024) (l : Fin 1536) : iblk m c 1 t (ix2 r l) = at' m c (ix2 (row t r) (colOf (par t) l)) := by
  have hi := index1 t
  have hN : cfg0.N = 10 := N_0
  have ht := t.isLt
  refine Eq.trans ?_ ((V_v2 m c ⟨1024 * (t.val / 5) + r.val, by omega⟩ ⟨1536 * (t.val % 5 - 3) + l.val, by omega⟩).trans ?_)
  · exact congrArg (V m c main_v2) (emb_block hi r l _ _)
  · exact congrArg (fun k => at' m c (ix2 (row t r) k)) (Fin.ext (by show 4608 + (1536 * (t.val % 5 - 3) + l.val) = 1536 * (t.val % 5) + l.val; omega))
theorem iblk2 (t : Fin cfg0.N) (r : Fin 1536) (l : Fin 1024) : iblk m c 2 t (ix2 r l) = aw m c (ix2 l (colOf (par t) r)) := by
  have hi := index2 t
  have hN : cfg0.N = 10 := N_0
  have ht := t.isLt
  refine Eq.trans ?_ ((V_v4 m c ⟨1536 * (t.val % 5) + r.val, by omega⟩ ⟨l.val, by omega⟩).trans ?_)
  · exact congrArg (V m c main_v4) (emb_block hi r l _ _ rfl (by show l.val = 1024 * 0 + l.val; omega))
  · rfl
theorem iblk3 (t : Fin cfg0.N) (r : Fin 1024) (l : Fin 1024) : iblk m c 3 t (ix2 r l) = ax m c (ix2 (row t r) l) :=
  (congrArg (V m c main_arg0) (emb_block (index3 t) r l _ _)).trans (congrFun (V_main_arg0 m c) _)
theorem iblk4 (t : Fin cfg0.N) (r : Fin 1024) (l : Fin 1024) : iblk m c 4 t (ix2 r l) = aq m c (ix2 (row t r) l) :=
  (congrArg (V m c main_arg3) (emb_block (index4 t) r l _ _)).trans (congrFun (V_main_arg3 m c) _)
theorem iblk5 (t : Fin cfg0.N) (l : Fin 1024) : iblk m c 5 t (ix2 0 l) = ag m c (ix1 l) :=
  (congrArg (V m c main_v5) (emb_block (index5 t) 0 l _ _)).trans ((congrFun (V_v5 m c) _).trans (bcast_at ..))

section Outs
open DhReferenceIdeal.Read

/-- What the point before left. -/
abbrev prev (t : Fin cfg0.N) := outsAt0 m c (t.val - 1) (Nat.lt_of_le_of_lt (Nat.sub_le _ _) t.isLt)

theorem outs_A (t : Fin cfg0.N) (h : t.val % 5 = 0) :
    (outsAt0 m c t.val t.isLt).2.2.1 = (prev m c t).2.2.1
    ∧ (outsAt0 m c t.val t.isLt).2.2.2 = k0_pay2 (k0_pay1 (F := Ideal)) (iblk m c 0 t) (iblk m c 2 t) := by
  rw [outsAt0_A m c t (by omega) (by omega) (by omega) (by omega)]
  dsimp only
  rw [out_A_s]
  exact ⟨rfl, rfl⟩
theorem outs_B (t : Fin cfg0.N) (h : t.val % 5 = 1 ∨ t.val % 5 = 2) :
    (outsAt0 m c t.val t.isLt).2.2.1 = (prev m c t).2.2.1
    ∧ (outsAt0 m c t.val t.isLt).2.2.2 = k0_pay2 (prev m c t).2.2.2 (iblk m c 0 t) (iblk m c 2 t) := by
  rw [outsAt0_B m c t (by omega) (by omega) (by omega) (by omega)]
  dsimp only
  rw [out_B_s]
  exact ⟨rfl, rfl⟩
theorem outs_C (t : Fin cfg0.N) (h : t.val % 5 = 3) :
    (outsAt0 m c t.val t.isLt).2.2.1 = (prev m c t).2.2.1
    ∧ (outsAt0 m c t.val t.isLt).2.2.2 = k0_pay3 (prev m c t).2.2.2 (iblk m c 1 t) (iblk m c 2 t) := by
  rw [outsAt0_C m c t (by omega) (by omega) (by omega) (by omega)]
  dsimp only
  rw [out_C_s]
  exact ⟨rfl, rfl⟩
theorem outs_D (t : Fin cfg0.N) (h : t.val % 5 = 4) :
    (outsAt0 m c t.val t.isLt).1 = k0_pay8 (iblk m c 3 t) (outsAt0 m c t.val t.isLt).2.2.2 (iblk m c 5 t) (iblk m c 4 t)
    ∧ (outsAt0 m c t.val t.isLt).2.1 = k0_pay9 (iblk m c 3 t) (outsAt0 m c t.val t.isLt).2.2.2 (iblk m c 5 t) (iblk m c 4 t)
    ∧ (outsAt0 m c t.val t.isLt).2.2.2 = k0_pay3 (prev m c t).2.2.2 (iblk m c 1 t) (iblk m c 2 t) := by
  by_cases h2 : t.val < 5
  · rw [outsAt0_D m c t (by omega) (by omega) (by omega) (by omega) (by omega) (by omega)]
    dsimp only
    rw [out_D_6, out_D_7, out_D_s]
    exact ⟨rfl, rfl, rfl⟩
  · rw [outsAt0_E m c t (by omega) (by omega) (by omega) (by omega) (by omega) (by omega)]
    dsimp only
    rw [out_E_6, out_E_7, out_E_s]
    exact ⟨rfl, rfl, rfl⟩
theorem outs_D_dg (t : Fin cfg0.N) (h : t.val = 4) :
    (outsAt0 m c t.val t.isLt).2.2.1 = k0_pay7 (iblk m c 3 t) (outsAt0 m c t.val t.isLt).2.2.2 := by
  rw [outsAt0_D m c t (by omega) (by omega) (by omega) (by omega) (by omega) (by omega)]
  dsimp only
  rw [out_D_8, out_D_s]
theorem outs_E_dg (t : Fin cfg0.N) (h : t.val = 9) :
    (outsAt0 m c t.val t.isLt).2.2.1 = k0_pay4 (k0_pay7 (iblk m c 3 t) (outsAt0 m c t.val t.isLt).2.2.2) (prev m c t).2.2.1 := by
  rw [outsAt0_E m c t (by omega) (by omega) (by omega) (by omega) (by omega) (by omega)]
  dsimp only
  rw [out_E_8, out_E_s]

/-- The normalised rows' gradient, as the reference has it, and one block's part of it. -/
abbrev rdh : Vec Ideal S2048x1024 .f32 := val_main_v17 (F := Ideal) (aw m c) (at' m c)
def part (R : Fin 2048) (l : Fin 1024) (i : Fin 5) : EReal := ∑ f : Fin 1536, at' m c (ix2 R (colOf i f)) * aw m c (ix2 l (colOf i f))

theorem tile2 (t : Fin cfg0.N) (h : t.val % 5 ≤ 2) (a : Vec Ideal S1024x1024 .f32) (r l : Fin 1024) :
    k0_pay2 a (iblk m c 0 t) (iblk m c 2 t) (ix2 r l) = a (ix2 r l) + part m c (row t r) l (par t) := by
  rw [pay2_at, part]
  simp only [iblk0 m c t h, iblk2]
theorem tile3 (t : Fin cfg0.N) (h : 3 ≤ t.val % 5) (a : Vec Ideal S1024x1024 .f32) (r l : Fin 1024) :
    k0_pay3 a (iblk m c 1 t) (iblk m c 2 t) (ix2 r l) = a (ix2 r l) + part m c (row t r) l (par t) := by
  rw [pay3_at, part]
  simp only [iblk1 m c t h, iblk2]

theorem outs_next (t : Fin cfg0.N) (h : ¬t.val % 5 = 0) (r l : Fin 1024) :
    (outsAt0 m c t.val t.isLt).2.2.2 (ix2 r l) = (prev m c t).2.2.2 (ix2 r l) + part m c (row t r) l (par t) := by
  by_cases h2 : t.val % 5 ≤ 2
  · rw [(outs_B m c t (by omega)).2, tile2 m c t h2]
  · by_cases h3 : t.val % 5 = 3
    · rw [(outs_C m c t h3).2, tile3 m c t (by omega)]
    · rw [(outs_D m c t (by omega)).2.2, tile3 m c t (by omega)]

theorem outs_acc (r l : Fin 1024) : ∀ (k n : ℕ) (hn : n < cfg0.N), n % 5 = k →
    (outsAt0 m c n hn).2.2.2 (ix2 r l) = upTo (part m c (row ⟨n, hn⟩ r) l) k
  | 0, n, hn, h => by
    have e : par ⟨n, hn⟩ = 0 := Fin.ext h
    show (outsAt0 m c (⟨n, hn⟩ : Fin cfg0.N).val _).2.2.2 (ix2 r l) = _
    rw [(outs_A m c ⟨n, hn⟩ h).2, tile2 m c ⟨n, hn⟩ (by show n % 5 ≤ 2; omega), pay1_at, zero_add, e, upTo_zero _ (by decide)]
    rfl
  | k + 1, n, hn, h => by
    have hk : k + 1 < 5 := by omega
    have e : par ⟨n, hn⟩ = ⟨k + 1, hk⟩ := Fin.ext h
    have er : row ⟨n - 1, by omega⟩ r = row ⟨n, hn⟩ r := Fin.ext (by show 1024 * ((n - 1) / 5) + r.val = 1024 * (n / 5) + r.val; omega)
    refine (outs_next m c ⟨n, hn⟩ (by show ¬n % 5 = 0; omega) r l).trans ?_
    rw [e, upTo_succ _ _ hk, ← er]
    exact congrArg (· + _) (outs_acc r l k (n - 1) (by omega) (by omega))

theorem outs_dh (t : Fin cfg0.N) (h : t.val % 5 = 4) (r l : Fin 1024) : (outsAt0 m c t.val t.isLt).2.2.2 (ix2 r l) = rdh m c (ix2 (row t r) l) := by
  rw [outs_acc m c r l 4 t.val t.isLt h, upTo_last _ _ (by decide), rdh, v17_at]
  exact sum_tiles (N := 5) (b := 1536) (K := 7680) rfl (fun f => at' m c (ix2 (row t r) f) * aw m c (ix2 l f)) fun i f => (colOf i f).isLt

theorem rows3 (t : Fin cfg0.N) (r : Fin 1024) : (fun k => iblk m c 3 t (ix2 r k)) = fun k => ax m c (ix2 (row t r) k) := funext fun k => iblk3 m c t r k

theorem outs_dx (t : Fin cfg0.N) (h : t.val % 5 = 4) (r : Fin 1024) (l : Fin 1024) :
    (outsAt0 m c t.val t.isLt).1 (ix2 r l) = val_main_v38 (F := Ideal) (ax m c) (ag m c) (aw m c) (aq m c) (at' m c) (ix2 (row t r) l) := by
  rw [(outs_D m c t h).1, pay8_at, v38_at, rows3, iblk4]
  simp only [outs_dh m c t h, iblk5]

theorem outs_dxb (t : Fin cfg0.N) (h : t.val % 5 = 4) (r : Fin 1024) (l : Fin 1024) :
    (outsAt0 m c t.val t.isLt).2.1 (ix2 r l) = val_main_v39 (F := Ideal) (ax m c) (ag m c) (aw m c) (aq m c) (at' m c) (ix2 (row t r) l) := by
  rw [(outs_D m c t h).2.1, pay9_at, v39_at, rows3, iblk4]
  simp only [outs_dh m c t h, iblk5]

/-- The gradient of the scale: one row's part, and one row block's. -/
def dgR (l : Fin 1024) (R : Fin 2048) : EReal := rdh m c (ix2 R l) * (ax m c (ix2 R l) * er (fun k => ax m c (ix2 R k)))
def rowOf (i : Fin 2) (r : Fin 1024) : Fin 2048 := ⟨1024 * i.val + r.val, by omega⟩
def dgT (l : Fin 1024) (i : Fin 2) : EReal := ∑ r : Fin 1024, dgR m c l (rowOf i r)

theorem tile_dg (t : Fin cfg0.N) (h : t.val % 5 = 4) (i : Fin 2) (hi : t.val / 5 = i.val) (l : Fin 1024) :
    k0_pay7 (iblk m c 3 t) (outsAt0 m c t.val t.isLt).2.2.2 (ix2 0 l) = dgT m c l i := by
  have hr (r : Fin 1024) : row t r = rowOf i r := Fin.ext (by show 1024 * (t.val / 5) + r.val = 1024 * i.val + r.val; omega)
  rw [pay7_at, dgT]
  simp only [outs_dh m c t h, rows3, iblk3, hr, dgR]

/-- Between two row blocks' last points the scale's gradient stays. -/
theorem outs_keep (p : ℕ) (hp : p < cfg0.N) (h4 : p = 4) : ∀ (k n : ℕ) (hn : n < cfg0.N), n % 5 = k → k ≤ 3 → 5 ≤ n → (outsAt0 m c n hn).2.2.1 = (outsAt0 m c p hp).2.2.1
  | 0, n, hn, h, _, h5 => by
    have hN : cfg0.N = 10 := N_0
    obtain rfl : p = n - 1 := by omega
    exact (outs_A m c ⟨n, hn⟩ h).1
  | k + 1, n, hn, h, hk, h5 => by
    refine Eq.trans ?_ (outs_keep p hp h4 k (n - 1) (by omega) (by omega) (by omega) (by omega))
    by_cases h3 : n % 5 = 3
    · exact (outs_C m c ⟨n, hn⟩ h3).1
    · exact (outs_B m c ⟨n, hn⟩ (by show n % 5 = 1 ∨ n % 5 = 2; omega)).1

theorem outs_dg_last (l : Fin 1024) (t : Fin cfg0.N) (h : t.val = 9) : (outsAt0 m c t.val t.isLt).2.2.1 (ix2 0 l) = ∑ i, dgT m c l i := by
  have hN : cfg0.N = 10 := N_0
  obtain ⟨p, h4⟩ : ∃ p : ℕ, p = 4 := ⟨_, rfl⟩
  have hp : p < cfg0.N := by omega
  rw [outs_E_dg m c t h, pay4_at, tile_dg m c t (by omega) 1 (by show t.val / 5 = 1; omega), Fin.sum_univ_two,
    outs_keep m c p hp h4 3 (t.val - 1) (by omega) (by omega) (by decide) (by omega)]
  refine congrArg (· + _) ((congrFun (outs_D_dg m c ⟨p, hp⟩ h4) (ix2 0 l)).trans ?_)
  exact tile_dg m c ⟨p, hp⟩ (by show p % 5 = 4; omega) 0 (by show p / 5 = 0; omega) l

end Outs

open DhReferenceIdeal.Read in
theorem final6 : (dats m 0 c).arrAt 6 cfg0.N = val_main_v38 (F := Ideal) (ax m c) (ag m c) (aw m c) (aq m c) (at' m c) := by
  have hN : cfg0.N = 10 := N_0
  refine (dats m 0 c).arrAt_eq_of_cover 6 _ (fun t hf => ?_) fun i => ?_
  · rw [Value.flushed6 m c t]
    funext j
    obtain ⟨r, l, rfl⟩ := eq_ix2 (A := 1024) (B := 1024) j
    refine (outs_dx m c t ((flush0_6 t).mp hf) r l).trans ?_
    exact (congrArg _ (emb_block (index6 t) r l _ _)).symm
  · have h0 : (i 0 : Nat) < 2048 := (i 0).isLt
    have h1 : (i 1 : Nat) < 1024 := (i 1).isLt
    let t : Fin cfg0.N := ⟨5 * ((i 0 : Nat) / 1024) + 4, by omega⟩
    refine ⟨t, (flush0_6 t).mpr (by show (5 * ((i 0 : Nat) / 1024) + 4) % 5 = 4; omega), ?_⟩
    show i ∈ ((View.whole main_v6_0).slice (win0_6.rect t)).set
    rw [View.set_slice_whole]
    exact mem_block i ⟨(index6 t).1.trans (by show (5 * ((i 0 : Nat) / 1024) + 4) / 5 = (i 0 : Nat) / 1024; omega), (index6 t).2.trans (by show 0 = (i 1 : Nat) / 1024; omega)⟩

open DhReferenceIdeal.Read in
theorem final7 : (dats m 0 c).arrAt 7 cfg0.N = val_main_v39 (F := Ideal) (ax m c) (ag m c) (aw m c) (aq m c) (at' m c) := by
  have hN : cfg0.N = 10 := N_0
  refine (dats m 0 c).arrAt_eq_of_cover 7 _ (fun t hf => ?_) fun i => ?_
  · rw [Value.flushed7 m c t]
    funext j
    obtain ⟨r, l, rfl⟩ := eq_ix2 (A := 1024) (B := 1024) j
    refine (outs_dxb m c t ((flush0_7 t).mp hf) r l).trans ?_
    exact (congrArg _ (emb_block (index7 t) r l _ _)).symm
  · have h0 : (i 0 : Nat) < 2048 := (i 0).isLt
    have h1 : (i 1 : Nat) < 1024 := (i 1).isLt
    let t : Fin cfg0.N := ⟨5 * ((i 0 : Nat) / 1024) + 4, by omega⟩
    refine ⟨t, (flush0_7 t).mpr (by show (5 * ((i 0 : Nat) / 1024) + 4) % 5 = 4; omega), ?_⟩
    show i ∈ ((View.whole main_v6_1).slice (win0_7.rect t)).set
    rw [View.set_slice_whole]
    exact mem_block i ⟨(index7 t).1.trans (by show (5 * ((i 0 : Nat) / 1024) + 4) / 5 = (i 0 : Nat) / 1024; omega), (index7 t).2.trans (by show 0 = (i 1 : Nat) / 1024; omega)⟩

open DhReferenceIdeal.Read in
theorem final8 : (dats m 0 c).arrAt 8 cfg0.N = val_main_v40 (F := Ideal) (ax m c) (aw m c) (at' m c) := by
  have hN : cfg0.N = 10 := N_0
  have key : (outsAt0 m c t0_9.val t0_9.isLt).2.2.1 = val_main_v40 (F := Ideal) (ax m c) (aw m c) (at' m c) := by
    funext j
    obtain ⟨l, rfl⟩ := eq_row (B := 1024) j
    refine (outs_dg_last m c l t0_9 rfl).trans ?_
    rw [v40_at]
    exact sum_tiles (N := 2) (b := 1024) (K := 2048) rfl (dgR m c l) fun i r => (rowOf i r).isLt
  generalize val_main_v40 (F := Ideal) (ax m c) (aw m c) (at' m c) = res at key ⊢
  refine (dats m 0 c).arrAt_eq_of_cover 8 res (fun t hf => ?_) fun i => ⟨t0_9, (flush0_8 t0_9).mpr rfl, ?_⟩
  · have h3 : t.val = 9 := by have := (flush0_8 t).mp hf; have := t.isLt; omega
    obtain rfl : t = t0_9 := Fin.ext h3
    rw [Value.flushed8 m c t0_9]
    have hz' : (fun a => win0_8.index t0_9 a * main_v6_2.ty.shape.size a) = fun _ => 0 := funext fun a => by fin_cases a <;> decide
    refine Eq.trans ?_ (Memref.read_access_unit_zero (Elt Ideal) main_v6_2 hz' (fun a => by rw [congrFun hz' a]; simp) res).symm
    exact key
  · show i ∈ ((View.whole main_v6_2).slice (win0_8.rect t0_9)).set
    rw [View.set_slice_whole]
    have h0 : (i 0 : Nat) < 1 := (i 0).isLt
    have h1 := (i 1).isLt
    have hi : win0_8.index t0_9 0 = 0 ∧ win0_8.index t0_9 1 = 0 := by decide
    exact mem_block i ⟨hi.1.trans (by omega), hi.2.trans (Nat.div_eq_of_lt h1).symm⟩

end Cert.Proof.DhRun

namespace Cert.Proof

open Idealize.ShloMosaic Idealize.ShloMosaic.TcCoe Idealize.SL.Sem

open DhKernelIdeal in
open DhKernelIdeal.Gen in
open DhReferenceIdeal.Read in
/-- The kernel's run, with each result named as the reference names it. -/
theorem dh_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6_0) = val_main_v38 (F := Ideal) (DhRun.ax m c) (DhRun.ag m c) (DhRun.aw m c) (DhRun.aq m c) (DhRun.at' m c)
      ∧ r.2.mem ((c : Thread nD τ).loc main_v6_1) = val_main_v39 (F := Ideal) (DhRun.ax m c) (DhRun.ag m c) (DhRun.aw m c) (DhRun.aq m c) (DhRun.at' m c)
      ∧ r.2.mem ((c : Thread nD τ).loc main_v6_2) = val_main_v40 (F := Ideal) (DhRun.ax m c) (DhRun.aw m c) (DhRun.at' m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, h1, h2, h3⟩ := h c
    exact ⟨h0.trans (DhRun.final6 m c), h1.trans (DhRun.final7 m c), h2.trans (DhRun.final8 m c), h3⟩)
    (DhKernelIdeal.Value.run_blocks (F := Ideal) m ρ)

theorem algebraic_DhKernelIdeal_DhReferenceIdeal : algebraic_DhKernelIdeal_DhReferenceIdeal := by
  intro m ρ m' ρ' _ hagree
  refine ⟨_, _, _, dh_run m ρ, ?_⟩
  refine (θ_run DhReferenceIdeal.defs _ _).mono (fun _ h c => ?_) (DhReferenceIdeal.Value.run (F := Ideal) m' ρ')
  obtain ⟨h0, h1, h2, h3⟩ := h c
  obtain ⟨a0, a1, a2, a3, a4⟩ := hagree c
  rw [DhReferenceIdeal.Read.val_main_v38_eq, a0, a1, a2, a3, a4] at h0
  rw [DhReferenceIdeal.Read.val_main_v39_eq, a0, a1, a2, a3, a4] at h1
  rw [DhReferenceIdeal.Read.val_main_v40_eq, a0, a2, a4] at h2
  exact ⟨h0, h1, h2, h3⟩

end Cert.Proof

end
-- ==== Proof.Owns.lean ====
/-
  What a buffer holds after a body's run, read off the run's last statement about it.
-/
module

public import proofs.«01_k».proof.Proof.Reads
public import Idealize.ShloMosaic.Lib.Claim
public import Idealize.ShloMosaic.Lib.Tactic
public import Idealize.ShloMosaic.Lib.Pipeline.FrameBody

@[expose] public section

noncomputable section

namespace Cert.Proof.Owns

open Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {nD : ℕ} {τ : Topo} {sig : RefSig}

local notation "𝕄" => MT nD τ sig Unit (Elt F) ℕ (UR sig nD τ) ℕ

/-- A buffer left alone holds what it held. -/
theorem owns_kept {S : Shape} {e : EltTy} (c : Dev nD) {mr : Memref sig .tc .vmem S e} (h : mr.IsWhole) (x : Vec F S e) :
    (mr.view.loc (c : Thread nD τ) ↦[mr.view.set]{fullShare} h.unread x)
      ⊢ (iprop(∃ k, ⌜mr.view.read (Elt F) k = x⌝ ∗ (mr.view.loc (c : Thread nD τ) ↦[mr.view.set]{fullShare} k)) : sProp 𝕄) := by
  iintro H
  iexists _; isplitr
  · ipureintro; exact h.read_unread _
  iexact H

/-- A buffer under writes of which the last is of all of it holds what that one wrote. -/
theorem owns_last {A B : ℕ} {e : EltTy} (c : Dev nD) (mr : Memref sig .tc .vmem ⟨2, ![A, B]⟩ e) (inb : ∀ a, (![0, 0] : Fin 2 → Nat) a + (⟨2, ![A, B]⟩ : Shape).size a ≤ (⟨2, ![A, B]⟩ : Shape).size a)
    (w w' : Vec F ⟨2, ![A, B]⟩ e) (hw : w = w') (L : List (View.Piece (Elt F) ⟨2, ![A, B]⟩ e)) (f) :
    (mr.view.loc (c : Thread nD τ) ↦[mr.view.set]{fullShare} mr.view.writes (Elt F) f ((⟨Rect.unit ![0, 0] (⟨2, ![A, B]⟩ : Shape).size inb, w⟩ : View.Piece (Elt F) ⟨2, ![A, B]⟩ e) :: L))
      ⊢ (iprop(∃ k, ⌜mr.view.read (Elt F) k = w'⌝ ∗ (mr.view.loc (c : Thread nD τ) ↦[mr.view.set]{fullShare} k)) : sProp 𝕄) := by
  subst hw
  iintro H
  iexists _; isplitr
  swap; · iexact H
  ipureintro
  rw [View.read_writes_eq_canon _ _ _ fun y => ⟨_, List.mem_cons_self, ?_⟩, View.canon_cons_unit_zero (S := ⟨2, ![A, B]⟩) hz]
  rw [Rect.mem_set_unit]
  exact fun a => ⟨by rw [congrFun hz a]; exact Nat.zero_le _, by rw [congrFun hz a, Nat.zero_add]; exact (y a).isLt⟩

end Cert.Proof.Owns

end
-- ==== Proof.FfwFrame.lean ====
module

public import proofs.«01_k».proof.Proof.Owns
public import proofs.«01_k».proof.Proof.Gen.FfwKernelIdeal.Frame
public import proofs.«01_k».proof.Proof.Gen.FfwKernelIdeal.Launch
public import proofs.«01_k».proof.Proof.Gen.FfwKernelIdeal.Points
public import proofs.«01_k».proof.Proof.Gen.FfwKernelIdeal.Skeleton
public import Idealize.ShloMosaic.Lib.Claim
public import Idealize.ShloMosaic.Lib.Pipeline.Value

/-! The frame of the feed-forward block's kernel: two row blocks by four blocks of the hidden layer.  The first point of
a row block normalises the rows and clears the sum; every point adds its block's part; the last writes the sum out with
the rows.  `St` names what a point leaves. -/

@[expose] public section

set_option maxRecDepth 16384

noncomputable section

namespace Cert.Proof.FfwFrame

open FfwKernelIdeal FfwKernelIdeal.Gen Reads Owns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ
local notation:max "own" c:max x:max v:max => owns (c : Thread nD τ) x fullShare v

variable (m : (ℓ : Loc nD τ sig) → Buf (Elt F) ℓ) (ρ : Dev nD → PrngReg)

/-! ## Which case a point is, and what each case leaves alone -/

theorem first_iff : ∀ t : Fin cfg0.N, k0_cond1 (grid0.coords t) = 1#1 ↔ t.val % 4 = 0 := by decide +kernel
theorem last_iff : ∀ t : Fin cfg0.N, k0_cond2 (grid0.coords t) = 1#1 ↔ t.val % 4 = 3 := by decide +kernel
theorem idle4 : ∀ t : Fin cfg0.N, ¬t.val % 4 = 3 → cfg0.idle 4 (grid0.coords t) = true := by decide +kernel
theorem live4 : ∀ t : Fin cfg0.N, t.val % 4 = 3 → cfg0.idle 4 (grid0.coords t) = false := by decide +kernel
theorem idle5 : ∀ t : Fin cfg0.N, ¬t.val % 4 = 0 → cfg0.idle 5 (grid0.coords t) = true := by decide +kernel
theorem live5 : ∀ t : Fin cfg0.N, t.val % 4 = 0 → cfg0.idle 5 (grid0.coords t) = false := by decide +kernel
theorem stays4 (t : Fin cfg0.N) (h : ¬t.val % 4 = 3) : (cfg0.win 4).flush t = false := Bool.eq_false_iff.mpr fun e => h ((flush0_4 t).mp e)
theorem stays5 (t : Fin cfg0.N) (h : ¬t.val % 4 = 3) : (cfg0.win 5).flush t = false := Bool.eq_false_iff.mpr fun e => h ((flush0_5 t).mp e)
theorem lt8 (t : Fin cfg0.N) : t.val < 8 := lt_of_lt_of_eq t.isLt (show cfg0.N = 8 from N_0)

/-! ## The body's run -/

section Body
variable (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1024x1024 .bf16) (h4 : a4.IsWhole) (a5 : Memref sig .tc .vmem S1024x1024 .bf16) (h5 : a5.IsWhole)
  (a6 : Memref sig .tc .vmem S1024x1024 .f32) (h6 : a6.IsWhole) (a7 : Memref sig .tc .vmem S1024x1024 .bf16) (h7 : a7.IsWhole)
  (a8 : Memref sig .tc .vmem S1024x1024 .bf16) (h8 : a8.IsWhole) (a9 : Memref sig .tc .vmem S1024x1024 .bf16) (h9 : a9.IsWhole)
  (a10 : Memref sig .tc .vmem S1024x1024 .f32) (h10 : a10.IsWhole)
  (x : Vec F S1024x1024 .f32) (g : Vec F S1x1024 .f32) (w1 w2 hs : Vec F S1024x1024 .bf16) (acc : Vec F S1024x1024 .f32)

/-- The body at the first point of a row block. -/
theorem bodyA (hc : k0_cond1 i = 1#1) (hd : ¬k0_cond2 i = 1#1) (E : Set ℕ) (K : PUnit → sProp 𝕄) :
    iprop(own c a2 x ∗ own c a3 g ∗ own c a4 w1 ∗ own c a5 w2 ∗ (∃ d, own c a7 d) ∗ (∃ d, own c a8 d) ∗ (∃ d, own c a9 d) ∗ (∃ d, own c a10 d)
      ∗ (iprop(own c a2 x ∗ own c a3 g ∗ own c a4 w1 ∗ own c a5 w2 ∗ own c a7 (k0_pay1 x g) ∗ own c a8 (k0_pay5 (k0_pay2 x g) w1) ∗ own c a9 (k0_pay2 x g) ∗ own c a10 (k0_pay6 (k0_pay2 x g) w1 k0_pay3 w2)) -∗ K ⟨⟩))
      ⊢ wp frame (wpE (defs₀ (F := F)) Variants.none c none) E (cc0_ffn i a2 h2 a3 h3 a4 h4 a5 h5 a6 h6 a7 h7 a8 h8 a9 h9 a10 h10) K := by
  simp only [cc0_ffn_eq_skeleton]; unfold cc0_ffn_skel
  unfold owns
  iintro ⟨⟨%f2, %e2, H2⟩, ⟨%f3, %e3, H3⟩, ⟨%f4, %e4, H4⟩, ⟨%f5, %e5, H5⟩, ⟨%d7, %f7, -, H7⟩, ⟨%d8, %f8, -, H8⟩, ⟨%d9, %f9, -, H9⟩, ⟨%d10, %f10, -, H10⟩, Hk⟩
  obtain rfl := h2.eq_unread e2; obtain rfl := h3.eq_unread e3; obtain rfl := h4.eq_unread e4; obtain rfl := h5.eq_unread e5
  sl_exec (disch := first | sl_exact hc | sl_exact hd)
  sl_step
  iapply Hk
  isplitl [H2]; · iapply (owns_kept c h2 _); iexact H2
  isplitl [H3]; · iapply (owns_kept c h3 _); iexact H3
  isplitl [H4]; · iapply (owns_kept c h4 _); iexact H4
  isplitl [H5]; · iapply (owns_kept c h5 _); iexact H5
  isplitl [H7]
  · iapply (owns_last c a7 _ _ _ ?_ _ _)
    swap; · iexact H7
    try sl_unfold_words
    simp only [ld_all, cov_all, View.readAt_eq_ld, Memref.IsWhole.read_unread]
  isplitl [H8]
  · iapply (owns_last c a8 _ _ _ ?_ _ _)
    swap; · iexact H8
    try sl_unfold_words
    simp only [ld_all, cov_all, View.readAt_eq_ld, Memref.IsWhole.read_unread]
  isplitl [H9]
  · iapply (owns_last c a9 _ _ _ ?_ _ _)
    swap; · iexact H9
    try sl_unfold_words
    simp only [ld_all, cov_all, View.readAt_eq_ld, Memref.IsWhole.read_unread]
  iapply (owns_last c a10 _ _ _ ?_ _ _)
  swap; · iexact H10
  try sl_unfold_words
  simp only [ld_all, cov_all, View.readAt_eq_ld, Memref.IsWhole.read_unread]

/-- The body at a middle point. -/
theorem bodyB (hc : ¬k0_cond1 i = 1#1) (hd : ¬k0_cond2 i = 1#1) (E : Set ℕ) (K : PUnit → sProp 𝕄) :
    iprop(own c a4 w1 ∗ own c a5 w2 ∗ own c a9 hs ∗ (∃ d, own c a8 d) ∗ own c a10 acc
      ∗ (iprop(own c a4 w1 ∗ own c a5 w2 ∗ own c a9 hs ∗ own c a8 (k0_pay5 hs w1) ∗ own c a10 (k0_pay6 hs w1 acc w2)) -∗ K ⟨⟩))
      ⊢ wp frame (wpE (defs₀ (F := F)) Variants.none c none) E (cc0_ffn i a2 h2 a3 h3 a4 h4 a5 h5 a6 h6 a7 h7 a8 h8 a9 h9 a10 h10) K := by
  simp only [cc0_ffn_eq_skeleton]; unfold cc0_ffn_skel
  unfold owns
  iintro ⟨⟨%f4, %e4, H4⟩, ⟨%f5, %e5, H5⟩, ⟨%f9, %e9, H9⟩, ⟨%d8, %f8, -, H8⟩, ⟨%f10, %e10, H10⟩, Hk⟩
  obtain rfl := h4.eq_unread e4; obtain rfl := h5.eq_unread e5; obtain rfl := h9.eq_unread e9; obtain rfl := h10.eq_unread e10
  sl_exec (disch := first | sl_exact hc | sl_exact hd)
  sl_step
  iapply Hk
  isplitl [H4]; · iapply (owns_kept c h4 _); iexact H4
  isplitl [H5]; · iapply (owns_kept c h5 _); iexact H5
  isplitl [H9]; · iapply (owns_kept c h9 _); iexact H9
  isplitl [H8]
  · iapply (owns_last c a8 _ _ _ ?_ _ _)
    swap; · iexact H8
    try sl_unfold_words
    simp only [ld_all, cov_all, View.readAt_eq_ld, Memref.IsWhole.read_unread]
  iapply (owns_last c a10 _ _ _ ?_ _ _)
  swap; · iexact H10
  try sl_unfold_words
  simp only [ld_all, cov_all, View.readAt_eq_ld, Memref.IsWhole.read_unread]

/-- The body at the last point of a row block. -/
theorem bodyC (hc : ¬k0_cond1 i = 1#1) (hd : k0_cond2 i = 1#1) (E : Set ℕ) (K : PUnit → sProp 𝕄) :
    iprop(own c a2 x ∗ own c a4 w1 ∗ own c a5 w2 ∗ own c a9 hs ∗ (∃ d, own c a6 d) ∗ (∃ d, own c a8 d) ∗ own c a10 acc
      ∗ (iprop(own c a2 x ∗ own c a4 w1 ∗ own c a5 w2 ∗ own c a9 hs ∗ own c a6 (k0_pay7 x (k0_pay6 hs w1 acc w2)) ∗ own c a8 (k0_pay5 hs w1) ∗ own c a10 (k0_pay6 hs w1 acc w2)) -∗ K ⟨⟩))
      ⊢ wp frame (wpE (defs₀ (F := F)) Variants.none c none) E (cc0_ffn i a2 h2 a3 h3 a4 h4 a5 h5 a6 h6 a7 h7 a8 h8 a9 h9 a10 h10) K := by
  simp only [cc0_ffn_eq_skeleton]; unfold cc0_ffn_skel
  unfold owns
  iintro ⟨⟨%f2, %e2, H2⟩, ⟨%f4, %e4, H4⟩, ⟨%f5, %e5, H5⟩, ⟨%f9, %e9, H9⟩, ⟨%d6, %f6, -, H6⟩, ⟨%d8, %f8, -, H8⟩, ⟨%f10, %e10, H10⟩, Hk⟩
  obtain rfl := h2.eq_unread e2; obtain rfl := h4.eq_unread e4; obtain rfl := h5.eq_unread e5; obtain rfl := h9.eq_unread e9; obtain rfl := h10.eq_unread e10
  sl_exec (disch := first | sl_exact hc | sl_exact hd)
  sl_step
  iapply Hk
  isplitl [H2]; · iapply (owns_kept c h2 _); iexact H2
  isplitl [H4]; · iapply (owns_kept c h4 _); iexact H4
  isplitl [H5]; · iapply (owns_kept c h5 _); iexact H5
  isplitl [H9]; · iapply (owns_kept c h9 _); iexact H9
  isplitl [H6]
  · iapply (owns_last c a6 _ _ _ ?_ _ _)
    swap; · iexact H6
    try sl_unfold_words
    simp only [ld_all, cov_all, View.readAt_eq_ld, Memref.IsWhole.read_unread]
  isplitl [H8]
  · iapply (owns_last c a8 _ _ _ ?_ _ _)
    swap; · iexact H8
    try sl_unfold_words
    simp only [ld_all, cov_all, View.readAt_eq_ld, Memref.IsWhole.read_unread]
  iapply (owns_last c a10 _ _ _ ?_ _ _)
  swap; · iexact H10
  try sl_unfold_words
  simp only [ld_all, cov_all, View.readAt_eq_ld, Memref.IsWhole.read_unread]

end Body

/-! ## What a point leaves -/

/-- The normalised rows and the sum, kept for the next point; the three output blocks. -/
structure St (F : FTy → Type) where
  hs : Vec F S1024x1024 .bf16
  acc : Vec F S1024x1024 .f32
  o : Vec F S1024x1024 .f32
  h : Vec F S1024x1024 .bf16
  ra : Vec F S1024x1024 .bf16

variable (c : Dev nD) (t : Fin cfg0.N)

/-- A point's step from normalised rows and a sum. -/
def step (hs h : Vec F S1024x1024 .bf16) (acc : Vec F S1024x1024 .f32) : St F where
  hs := hs
  acc := k0_pay6 hs (iblk m c 2 t) acc (iblk m c 3 t)
  o := k0_pay7 (iblk m c 0 t) (k0_pay6 hs (iblk m c 2 t) acc (iblk m c 3 t))
  h := h
  ra := k0_pay5 hs (iblk m c 2 t)

/-- What the first point of a row block leaves. -/
def stFirst : St F :=
  step m c t (k0_pay2 (iblk m c 0 t) (iblk m c 1 t)) (k0_pay1 (iblk m c 0 t) (iblk m c 1 t)) k0_pay3

/-- What the body leaves at point `n`. -/
def stAt (c : Dev nD) (n : ℕ) : n < cfg0.N → St F :=
  Nat.rec (motive := fun n => n < cfg0.N → St F) (fun hn => stFirst m c ⟨0, hn⟩)
    (fun n ih hn =>
      if (n + 1) % 4 = 0 then stFirst m c ⟨n + 1, hn⟩
      else step m c ⟨n + 1, hn⟩ (ih (Nat.lt_of_succ_lt hn)).hs (ih (Nat.lt_of_succ_lt hn)).h (ih (Nat.lt_of_succ_lt hn)).acc) n

/-- What the point before `t` left. -/
abbrev stPrev : St F := stAt m c (t.val - 1) (Nat.lt_of_le_of_lt (Nat.sub_le _ _) t.isLt)

theorem stAt_first (h0 : t.val % 4 = 0) : stAt m c t.val t.isLt = stFirst m c t := by
  obtain ⟨n, hn⟩ := t
  cases n with
  | zero => rfl
  | succ n => exact if_pos h0

theorem stAt_later (h0 : ¬t.val % 4 = 0) :
    stAt m c t.val t.isLt = step m c t (stPrev m c t).hs (stPrev m c t).h (stPrev m c t).acc := by
  obtain ⟨n, hn⟩ := t
  cases n with
  | zero => exact absurd (Nat.zero_mod _) h0
  | succ n => exact if_neg h0

/-- The scratch buffers holding what a point left. -/
def kept (c : Dev nD) (s : St F) : sProp 𝕄 :=
  iprop(iprop(own c (Memref.whole cc0_scratch0 : Memref sig .tc .vmem S1024x1024 .bf16) s.hs
    ∗ own c (Memref.whole cc0_scratch1 : Memref sig .tc .vmem S1024x1024 .f32) s.acc) ∗ (∃ r, prngReg c r))

theorem PhiA0_eq (c : Dev nD) :
    (Pipeline.ΦA spec0 c : sProp 𝕄)
      = iprop(iprop((∃ d, own c (Memref.whole cc0_scratch0 : Memref sig .tc .vmem S1024x1024 .bf16) d)
        ∗ (∃ d, own c (Memref.whole cc0_scratch1 : Memref sig .tc .vmem S1024x1024 .f32) d)) ∗ (∃ r, prngReg c r)) := by
  unfold Pipeline.ΦA; rw [scopedRest0_eq]; simp only [owns_whole]; try rfl

/-- What holds between the points. -/
def between (c : Dev nD) : (n : ℕ) → n ≤ cfg0.N → sProp 𝕄
  | 0, _ => Pipeline.ΦA spec0 c
  | n + 1, hn => kept c (stAt m c n hn)

theorem between_pos (c : Dev nD) (n : ℕ) (h : n ≤ cfg0.N) (hz : n ≠ 0) :
    between m c n h = kept c (stAt m c (n - 1) (by omega)) := by
  cases n with
  | zero => exact absurd rfl hz
  | succ n => rfl

theorem forget (c : Dev nD) (s : St F) : kept c s ⊢ (Pipeline.ΦA spec0 c : sProp 𝕄) := by
  rw [PhiA0_eq]; unfold kept
  iintro ⟨⟨H9, H10⟩, Hg⟩
  isplitl [H9 H10]
  · isplitl [H9]; · iexists _; iexact H9
    iexists _; iexact H10
  iexact Hg

theorem between_any (c : Dev nD) (n : ℕ) (h : n ≤ cfg0.N) : between m c n h ⊢ Pipeline.ΦA spec0 c := by
  cases n with
  | zero => exact .rfl
  | succ n => exact forget c _

/-- The data of the pipeline: its arrays as the region finds them, an input's buffer left at its block, an output's
at what the point leaves. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).o
    | ⟨5, _⟩ => (stAt m c t.val t.isLt).h
    | ⟨6, _⟩ => (stAt m c t.val t.isLt).ra
    | ⟨_ + 7, h⟩ => absurd h (Nat.not_lt.2 (Nat.le_add_left _ _))
  Φ t := between m c t.val (Nat.le_of_lt_succ t.isLt)
  q _ := fullShare
  owed _ := 0

local notation:max "◆" => data m 0 c

theorem data_arr (c : Dev nD) (w : Fin cfg0.W) : (data m 0 c).A w = V m c (Pipeline.arrRef spec0 w) := by
  dsimp only [data]

theorem data_between :
    ◆.Φ t.castSucc = between m c t.val (Nat.le_of_lt t.isLt) := by
  dsimp only [data]; exact Pipeline.Dat.Φ_castSucc (between m c) t

theorem left0 : ◆.after 0 t = iblk m c 0 t := by dsimp only [data]
theorem left1 : ◆.after 1 t = iblk m c 1 t := by dsimp only [data]
theorem left2 : ◆.after 2 t = iblk m c 2 t := by dsimp only [data]
theorem left3 : ◆.after 3 t = iblk m c 3 t := by dsimp only [data]
theorem left4 : ◆.after 4 t = (stAt m c t.val t.isLt).o := by dsimp only [data]
theorem left5 : ◆.after 5 t = (stAt m c t.val t.isLt).h := by dsimp only [data]
theorem left6 : ◆.after 6 t = (stAt m c t.val t.isLt).ra := by dsimp only [data]

theorem found0 (d) : ◆.before 0 t d = iblk m c 0 t := before0_0_of m ◆ (data_arr m c 0) (left0 m c) t d
theorem found1 (d) : ◆.before 1 t d = iblk m c 1 t := before0_1_of m ◆ (data_arr m c 1) (left1 m c) t d
theorem found2 (d) : ◆.before 2 t d = iblk m c 2 t := before0_2_of m ◆ (data_arr m c 2) (left2 m c) t d
theorem found3 (d) : ◆.before 3 t d = iblk m c 3 t := before0_3_of m ◆ (data_arr m c 3) (left3 m c) t d

/-- The normalised rows' block, stored at the first point of a row block, is still there at the later ones. -/
theorem found5 (c : Dev nD) (d) : ∀ (n : ℕ) (hn : n < cfg0.N), ¬n % 4 = 0 → (data m 0 c).before 5 ⟨n, hn⟩ d = (stAt m c n hn).h
  | 0, hn, h => absurd rfl h
  | n + 1, hn, h => by
    have hp : n < cfg0.N := Nat.lt_of_succ_lt hn
    have hl := stAt_later m c ⟨n + 1, hn⟩ h
    dsimp only at hl
    have hs : (stAt m c (n + 1) hn).h = (stAt m c n hp).h := by rw [hl]; rfl
    rw [hs, (data m 0 c).before_of_pos 5 ⟨n + 1, hn⟩ (Nat.succ_ne_zero n) ((cfg0.win 5).fetch_out rfl _)]
    show (if (cfg0.win 5).flush ⟨n, hp⟩ = true then d else (data m 0 c).left 5 ⟨n, hp⟩ d) = _
    rw [stays5 ⟨n, hp⟩ (by dsimp only; omega), if_neg Bool.false_ne_true]
    unfold Dat.left
    by_cases h0 : n % 4 = 0
    · rw [live5 ⟨n, hp⟩ h0]
      dsimp only
      unfold Dat.kept
      rw [Pipeline.fill_of_clip_none 5 _ (fun _ => rfl) d ((data m 0 c).after 5 _), Window.fill_cut, left5]
    · rw [idle5 ⟨n, hp⟩ h0]
      exact found5 c d n hp h0

/-! ## The body at one point -/

/-- What the body is called with. -/
def pre : sProp 𝕄 :=
  iprop(◆.Φ t.castSucc ∗ ◆.owesAt () t.castSucc
    ∗ (∃ d, own c (st0_0 t) (◆.before 0 t d))
    ∗ (∃ d, own c (st0_1 t) (◆.before 1 t d))
    ∗ (∃ d, own c (st0_2 t) (◆.before 2 t d))
    ∗ (∃ d, own c (st0_3 t) (◆.before 3 t d))
    ∗ (∃ d, own c (st0_4 t) (◆.before 4 t d))
    ∗ (∃ d, own c (st0_5 t) (◆.before 5 t d))
    ∗ (∃ d, own c (st0_6 t) (◆.before 6 t d)))

/-- What it must hand back. -/
def post : sProp 𝕄 :=
  iprop(◆.Φ t.succ ∗ ◆.owesAt () t.succ
    ∗ ◆.leavesExact 0 t ∗ ◆.leavesExact 1 t ∗ ◆.leavesExact 2 t ∗ ◆.leavesExact 3 t
    ∗ ◆.leavesExact 4 t ∗ ◆.leavesExact 5 t ∗ ◆.leavesExact 6 t)

theorem pre_ins : pre m c t ⊢ iprop(between m c t.val (Nat.le_of_lt t.isLt)
      ∗ ◆.owesAt () t.castSucc
      ∗ own c (st0_0 t) (iblk m c 0 t) ∗ own c (st0_1 t) (iblk m c 1 t)
      ∗ own c (st0_2 t) (iblk m c 2 t) ∗ own c (st0_3 t) (iblk m c 3 t)
      ∗ (∃ d, own c (st0_4 t) (◆.before 4 t d))
      ∗ (∃ d, own c (st0_5 t) (◆.before 5 t d))
      ∗ (∃ d, own c (st0_6 t) (◆.before 6 t d))) := by
  unfold pre
  simp only [found0, found1, found2, found3, data_between]
  iintro ⟨HP, Ho, ⟨%d0, H0⟩, ⟨%d1, H1⟩, ⟨%d2, H2⟩, ⟨%d3, H3⟩, H4, H5, H6⟩
  iframe HP Ho H0 H1 H2 H3 H4 H5; iexact H6

theorem ins_post (s : St F) (hs : stAt m c t.val t.isLt = s) : iprop(kept c s
      ∗ ◆.owesAt () t.castSucc
      ∗ own c (st0_0 t) (iblk m c 0 t) ∗ own c (st0_1 t) (iblk m c 1 t)
      ∗ own c (st0_2 t) (iblk m c 2 t) ∗ own c (st0_3 t) (iblk m c 3 t)
      ∗ ◆.leavesExact 4 t ∗ ◆.leavesExact 5 t
      ∗ own c (st0_6 t) s.ra) ⊢ post m c t := by
  subst hs
  unfold post
  rw [show ◆.owesAt () t.succ = ◆.owesAt () t.castSucc from rfl,
    show ◆.Φ t.succ = kept c (stAt m c t.val t.isLt) from rfl,
    show ◆.leavesExact 0 t = own c (st0_0 t) (iblk m c 0 t) from rfl,
    show ◆.leavesExact 1 t = own c (st0_1 t) (iblk m c 1 t) from rfl,
    show ◆.leavesExact 2 t = own c (st0_2 t) (iblk m c 2 t) from rfl,
    show ◆.leavesExact 3 t = own c (st0_3 t) (iblk m c 3 t) from rfl,
    show ◆.leavesExact 6 t = own c (st0_6 t) (stAt m c t.val t.isLt).ra from rfl]

theorem back4 (h : ¬t.val % 4 = 3) (d) :
    own c (st0_4 t) (◆.before 4 t d) ⊢ (◆.leavesExact 4 t : sProp 𝕄) := by
  rw [Dat.leavesExact_idle ◆ 4 t (idle4 t h) (stays4 t h)]
  iintro H; iexists d; iexact H

theorem out4 (h : t.val % 4 = 3) (s : St F) (hs : stAt m c t.val t.isLt = s) :
    own c (st0_4 t) s.o ⊢ (◆.leavesExact 4 t : sProp 𝕄) := by
  subst hs; unfold Dat.leavesExact; rw [live4 t h, left4]

theorem out5 (h : t.val % 4 = 0) (s : St F) (hs : stAt m c t.val t.isLt = s) :
    own c (st0_5 t) s.h ⊢ (◆.leavesExact 5 t : sProp 𝕄) := by
  subst hs; unfold Dat.leavesExact; rw [live5 t h, left5]

theorem back5 (h : ¬t.val % 4 = 0) (d) :
    own c (st0_5 t) (◆.before 5 t d) ⊢ (◆.leavesExact 5 t : sProp 𝕄) := by
  unfold Dat.leavesExact; rw [idle5 t h]
  by_cases h3 : t.val % 4 = 3
  · rw [(flush0_5 t).mpr h3, left5, found5 m c d t.val t.isLt h]
  · rw [stays5 t h3]; dsimp only; iintro H; iexists d; iexact H

/-- The body at any point. -/
theorem body_sound :
    pre m c t ⊢ wp frame (wpE (defs₀ (F := F)) Variants.none c none) Set.univ (bodyAt0 t) (fun _ => post m c t) := by
  refine (pre_ins m c t).trans ?_
  unfold bodyAt0
  by_cases h0 : t.val % 4 = 0
  · have h1 : ¬t.val % 4 = 3 := by omega
    have hs := stAt_first m c t h0
    refine (sep_mono_left (between_any m c t.val (Nat.le_of_lt t.isLt))).trans ?_
    rw [PhiA0_eq]
    iintro ⟨⟨⟨HS, HT⟩, Hg⟩, Ho, H0, H1, H2, H3, ⟨%d4, H4⟩, ⟨%d5, H5⟩, ⟨%d6, H6⟩⟩
    iapply (bodyA c _ _ _ _ _ _ _ _ _ _ _ _ _ _ _ _ _ _ _ (iblk m c 0 t) (iblk m c 1 t) (iblk m c 2 t) (iblk m c 3 t) ((first_iff t).mpr h0) (fun h => h1 ((last_iff t).mp h)) _ _)
    iframe H0 H1 H2 H3
    isplitl [H5]; · iexists _; iexact H5
    isplitl [H6]; · iexists _; iexact H6
    iframe HS HT
    iintro ⟨H0, H1, H2, H3, H5, H6, HS, HT⟩
    iapply (ins_post m c t _ hs)
    isplitl [HS HT Hg]
    · unfold kept stFirst step; isplitl [HS HT]
      · isplitl [HS]; · iexact HS
        iexact HT
      iexact Hg
    iframe Ho H0 H1 H2 H3
    isplitl [H4]; · iapply (back4 m c t h1 d4); iexact H4
    isplitl [H5]; · iapply (out5 m c t h0 _ hs); iexact H5
    iexact H6
  · have hs := stAt_later m c t h0
    rw [between_pos m c _ _ (fun h => h0 (by rw [h]))]
    unfold kept
    by_cases h1 : t.val % 4 = 3
    · iintro ⟨⟨⟨HS, HT⟩, Hg⟩, Ho, H0, H1, H2, H3, ⟨%d4, H4⟩, ⟨%d5, H5⟩, ⟨%d6, H6⟩⟩
      iapply (bodyC c _ _ _ _ _ _ _ _ _ _ _ _ _ _ _ _ _ _ _ (iblk m c 0 t) (iblk m c 2 t) (iblk m c 3 t) (stPrev m c t).hs (stPrev m c t).acc (fun h => h0 ((first_iff t).mp h)) ((last_iff t).mpr h1) _ _)
      iframe H0 H2 H3 HS
      isplitl [H4]; · iexists _; iexact H4
      isplitl [H6]; · iexists _; iexact H6
      iframe HT
      iintro ⟨H0, H2, H3, HS, H4, H6, HT⟩
      iapply (ins_post m c t _ hs)
      isplitl [HS HT Hg]
      · unfold kept step; isplitl [HS HT]
        · isplitl [HS]; · iexact HS
          iexact HT
        iexact Hg
      iframe Ho H0 H1 H2 H3
      isplitl [H4]; · iapply (out4 m c t h1 _ hs); iexact H4
      isplitl [H5]; · iapply (back5 m c t h0 d5); iexact H5
      iexact H6
    · iintro ⟨⟨⟨HS, HT⟩, Hg⟩, Ho, H0, H1, H2, H3, ⟨%d4, H4⟩, ⟨%d5, H5⟩, ⟨%d6, H6⟩⟩
      iapply (bodyB c _ _ _ _ _ _ _ _ _ _ _ _ _ _ _ _ _ _ _ (iblk m c 2 t) (iblk m c 3 t) (stPrev m c t).hs (stPrev m c t).acc (fun h => h0 ((first_iff t).mp h)) (fun h => h1 ((last_iff t).mp h)) _ _)
      iframe H2 H3 HS
      isplitl [H6]; · iexists _; iexact H6
      iframe HT
      iintro ⟨H2, H3, HS, H6, HT⟩
      iapply (ins_post m c t _ hs)
      isplitl [HS HT Hg]
      · unfold kept step; isplitl [HS HT]
        · isplitl [HS]; · iexact HS
          iexact HT
        iexact Hg
      iframe Ho H0 H1 H2 H3
      isplitl [H4]; · iapply (back4 m c t h1 d4); iexact H4
      isplitl [H5]; · iapply (back5 m c t h0 d5); iexact H5
      iexact H6

theorem row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row]
  exact triple_restated (body_sound m c t) rfl .rfl fun _ => .rfl

theorem enter (c : Dev nD) : Pipeline.ΦA spec0 c ⊢ (data m 0 c).Φ 0 := Idealize.SL.BI.Entails.refl _

theorem leave (c : Dev nD) : (data m 0 c).Φ (Fin.last cfg0.N) ⊢ Pipeline.ΦA spec0 c :=
  between_any m c (Fin.last cfg0.N).val (le_refl _)

set_option backward.isDefEq.respectTransparency.types false in
/-- Every run ends, with every counter at zero and the arrays at what the pipeline's data say. -/
theorem runs : θ_run defs (onTc (τ := τ) (main (F := F))) (s₀ m ρ)
    (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_arr m) (hin := enter m) (hout := leave m)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (data m) (data_arr m) ((θ_run defs _ _).mono (fun _ h => h.1) (runs m ρ)))
    ((θ_run defs _ _).mono (fun _ h => h.2) (runs m ρ))

end Cert.Proof.FfwFrame

end
-- ==== Proof.FfwRun.lean ====
/-
  The feed-forward block, entry by entry: what one point of the kernel computes, and what the plain lines compute.
-/
module

public import proofs.«01_k».proof.Proof.Gen.FfwReferenceIdeal.Read
public import proofs.«01_k».proof.Proof.FfwFrame
public import proofs.«01_k».proof.Proof.Rms
public import Idealize.ShloMosaic.Lib.Pointwise
public import Idealize.ShloMosaic.Lib.Tactic
public import proofs.«01_k».proof.Proof.Tiles
public import proofs.«01_k».proof.Proof.Blocks
public import Idealize.ShloMosaic.Lib.Pipeline.Value
public import Idealize.ShloMosaic.Lib.StableHlo.Run
public import proofs.«01_k».proof.Defs
public import proofs.«01_k».proof.Proof.Gen.FfwReferenceIdeal.Run
public import proofs.«01_k».proof.FfwKernel
public import proofs.«01_k».proof.Proof.Gen.FfwKernel

@[expose] public section

set_option maxRecDepth 16384

noncomputable section

namespace Cert.Proof.FfwVal

open Idealize.ShloMosaic Idealize.ShloMosaic.TcCoe Reals Rms FfwKernelIdeal FfwKernelIdeal.Gen

section Kernel
variable (x a : Vec Ideal S1024x1024 .f32) (g : Vec Ideal S1x1024 .f32) (h w v : Vec Ideal S1024x1024 .bf16)

theorem pay1_at (r l : Fin 1024) : k0_pay1 x g (ix2 r l) = x (ix2 r l) * er (fun k => x (ix2 r k)) * g (ix2 0 l) := by
  pointwise [k0_pay1]
  rfl
theorem pay2_at (r l : Fin 1024) : k0_pay2 x g (ix2 r l) = x (ix2 r l) * er (fun k => x (ix2 r k)) * g (ix2 0 l) := by
  unfold k0_pay2
  rw [shapeCast_self, pay1_at]
theorem pay3_at (r l : Fin 1024) : k0_pay3 (F := Ideal) (ix2 r l) = 0 := by
  pointwise [k0_pay3]
theorem pay4_at (r f : Fin 1024) : k0_pay4 h w (ix2 r f) = max (∑ k : Fin 1024, h (ix2 r k) * w (ix2 k f)) 0 := by
  pointwise [k0_pay4]
theorem pay5_at (r f : Fin 1024) : k0_pay5 h w (ix2 r f) = k0_pay4 h w (ix2 r f) := by
  pointwise [k0_pay5]
theorem pay6_at (r l : Fin 1024) : k0_pay6 h w a v (ix2 r l) = a (ix2 r l) + ∑ f : Fin 1024, k0_pay4 h w (ix2 r f) * k0_pay4 h w (ix2 r f) * v (ix2 f l) := by
  pointwise [k0_pay6]
theorem pay7_at (r l : Fin 1024) : k0_pay7 x a (ix2 r l) = x (ix2 r l) + a (ix2 r l) := by
  pointwise [k0_pay7]

end Kernel

section Ref
open FfwReferenceIdeal.Read
variable (x : Vec Ideal S2048x1024 .f32) (g : Vec Ideal S1024 .f32) (w1 : Vec Ideal S1024x4096 .f32) (w2 : Vec Ideal S4096x1024 .f32)

theorem v6_at (r : Fin 2048) : val_main_v6 (F := Ideal) x (ix2 r 0) = ems (fun k => x (ix2 r k)) := by
  pointwise [val_main_v6, val_main_v5, val_main_cst_1, val_main_v4, val_main_v3, val_main_cst_0, val_main_v2, val_main_v1, val_main_cst, val_main_v0]
  rfl
theorem v18_at (r : Fin 2048) (l : Fin 1024) : val_main_v18 (F := Ideal) x g (ix2 r l) = x (ix2 r l) * er (fun k => x (ix2 r k)) * g (ix1 l) := by
  pointwise [val_main_v18, val_main_v12, val_main_v11, val_main_v10, val_main_v9, val_main_v8, val_main_v7]
  rw [v6_at]
  rfl
theorem v19_at (r : Fin 2048) (f : Fin 4096) : val_main_v19 (F := Ideal) x g w1 (ix2 r f) = max (∑ k : Fin 1024, val_main_v18 (F := Ideal) x g (ix2 r k) * w1 (ix2 k f)) 0 := by
  pointwise [val_main_v19, val_main_v14, val_main_v13, val_main_call0_v0, val_main_call0_cst, val_main_v18]
theorem v17_at (r : Fin 2048) (l : Fin 1024) : val_main_v17 (F := Ideal) x g w1 w2 (ix2 r l)
    = x (ix2 r l) + ∑ f : Fin 4096, val_main_v19 (F := Ideal) x g w1 (ix2 r f) * val_main_v19 (F := Ideal) x g w1 (ix2 r f) * w2 (ix2 f l) := by
  pointwise [val_main_v17, val_main_v16, val_main_v15, val_main_v19]

end Ref

end Cert.Proof.FfwVal

namespace Cert.Proof.FfwRun

open Idealize.ShloMosaic Idealize.ShloMosaic.TcCoe FfwKernelIdeal FfwKernelIdeal.Gen FfwFrame FfwVal Tiles Blocks
open FfwReferenceIdeal.Read (val_main_v17 val_main_v18 val_main_v19)

variable (m : (ℓ : Loc nD τ sig) → Buf (Elt Ideal) ℓ) (c : Dev nD)

/-- The arguments: the rows, the norm's scale and the two weights. -/
abbrev ax : Vec Ideal S2048x1024 .f32 := m ((c : Thread nD τ).loc main_arg0)
abbrev ag : Vec Ideal S1024 .f32 := m ((c : Thread nD τ).loc main_arg1)
abbrev aw1 : Vec Ideal S1024x4096 .f32 := m ((c : Thread nD τ).loc main_arg2)
abbrev aw2 : Vec Ideal S4096x1024 .f32 := m ((c : Thread nD τ).loc main_arg3)
/-- The normalised rows, the hidden layer and the result, as the plain lines have them. -/
abbrev nrm : Vec Ideal S2048x1024 .bf16 := val_main_v18 (F := Ideal) (ax m c) (ag m c)
abbrev hid : Vec Ideal S2048x4096 .bf16 := val_main_v19 (F := Ideal) (ax m c) (ag m c) (aw1 m c)
abbrev res : Vec Ideal S2048x1024 .f32 := val_main_v17 (F := Ideal) (ax m c) (ag m c) (aw1 m c) (aw2 m c)

theorem V_v0 : V m c main_v0 = broadcastInDim S1x1024 ![1] bcast_S1024_S1x1024_1 (ag m c) := by
  unfold_abbrev_sides; unfold hostOps0; after_results
theorem V_v1 : V m c main_v1 = aw1 m c := by
  unfold_abbrev_sides; unfold hostOps0; after_results; rfl
theorem V_v2 : V m c main_v2 = aw2 m c := by
  unfold_abbrev_sides; unfold hostOps0; after_results; rfl

/-- Row `r` of the point's row block; the point's block of the hidden layer, and column `f` of a block. -/
def row (t : Fin cfg0.N) (r : Fin 1024) : Fin 2048 := ⟨1024 * (t.val / 4) + r.val, by have := lt8 t; omega⟩
def colOf (i : Fin 4) (f : Fin 1024) : Fin 4096 := ⟨1024 * i.val + f.val, by omega⟩
def blk (t : Fin cfg0.N) : Fin 4 := ⟨t.val % 4, Nat.mod_lt _ (by decide)⟩

theorem index0 : ∀ t : Fin cfg0.N, win0_0.index t 0 = t.val / 4 ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = t.val % 4 := by decide +kernel
theorem index3 : ∀ t : Fin cfg0.N, win0_3.index t 0 = t.val % 4 ∧ win0_3.index t 1 = 0 := by decide +kernel
theorem index4 : ∀ t : Fin cfg0.N, win0_4.index t 0 = t.val / 4 ∧ win0_4.index t 1 = 0 := by decide +kernel
theorem index5 : ∀ t : Fin cfg0.N, win0_5.index t 0 = t.val / 4 ∧ win0_5.index t 1 = 0 := by decide +kernel
theorem index6 : ∀ t : Fin cfg0.N, win0_6.index t 0 = t.val / 4 ∧ win0_6.index t 1 = t.val % 4 := by decide +kernel

theorem iblk0 (t : Fin cfg0.N) (r l : Fin 1024) : iblk m c 0 t (ix2 r l) = ax m c (ix2 (row t r) l) :=
  (congrArg (V m c main_arg0) (emb_block (index0 t) r l _ _)).trans (congrFun (V_main_arg0 m c) _)
theorem iblk1 (t : Fin cfg0.N) (l : Fin 1024) : iblk m c 1 t (ix2 0 l) = ag m c (ix1 l) :=
  (congrArg (V m c main_v0) (emb_block (index1 t) 0 l _ _)).trans ((congrFun (V_v0 m c) _).trans (bcast_at ..))
theorem iblk2 (t : Fin cfg0.N) (r l : Fin 1024) : iblk m c 2 t (ix2 r l) = aw1 m c (ix2 r (colOf (blk t) l)) :=
  (congrArg (V m c main_v1) (emb_block (index2 t) r l _ _)).trans (congrFun (V_v1 m c) _)
theorem iblk3 (t : Fin cfg0.N) (r l : Fin 1024) : iblk m c 3 t (ix2 r l) = aw2 m c (ix2 (colOf (blk t) r) l) :=
  (congrArg (V m c main_v2) (emb_block (index3 t) r l _ _)).trans (congrFun (V_v2 m c) _)

/-- One block's part of the product with the second weight. -/
def part (R : Fin 2048) (l : Fin 1024) (i : Fin 4) : EReal := ∑ f : Fin 1024, hid m c (ix2 R (colOf i f)) * hid m c (ix2 R (colOf i f)) * aw2 m c (ix2 (colOf i f) l)

theorem parts (R : Fin 2048) (l : Fin 1024) : ax m c (ix2 R l) + ∑ i, part m c R l i = res m c (ix2 R l) := by
  rw [res, v17_at]
  exact congrArg (_ + ·) (sum_tiles (N := 4) (b := 1024) (K := 4096) rfl (fun f => hid m c (ix2 R f) * hid m c (ix2 R f) * aw2 m c (ix2 f l)) fun i f => (colOf i f).isLt)

section Step
variable (t : Fin cfg0.N) (h : Vec Ideal S1024x1024 .bf16) (hh : ∀ r l : Fin 1024, h (ix2 r l) = nrm m c (ix2 (row t r) l))
include hh

theorem tile_hid (r f : Fin 1024) : k0_pay4 h (iblk m c 2 t) (ix2 r f) = hid m c (ix2 (row t r) (colOf (blk t) f)) := by
  rw [pay4_at, hid, v19_at]
  simp only [hh, iblk2]

theorem tile_acc (a : Vec Ideal S1024x1024 .f32) (r l : Fin 1024) :
    k0_pay6 h (iblk m c 2 t) a (iblk m c 3 t) (ix2 r l) = a (ix2 r l) + part m c (row t r) l (blk t) := by
  rw [pay6_at, part]
  simp only [tile_hid m c t h hh, iblk3]

end Step

theorem rows0 (t : Fin cfg0.N) (r : Fin 1024) : (fun k => iblk m c 0 t (ix2 r k)) = fun k => ax m c (ix2 (row t r) k) := funext fun k => iblk0 m c t r k

theorem tile_nrm (t : Fin cfg0.N) (r l : Fin 1024) : k0_pay1 (iblk m c 0 t) (iblk m c 1 t) (ix2 r l) = nrm m c (ix2 (row t r) l) := by
  rw [pay1_at, nrm, v18_at, rows0, iblk0, iblk1]
theorem tile_nrm' (t : Fin cfg0.N) (r l : Fin 1024) : k0_pay2 (iblk m c 0 t) (iblk m c 1 t) (ix2 r l) = nrm m c (ix2 (row t r) l) := by
  rw [pay2_at, ← pay1_at, tile_nrm]

/-- What a point leaves in the two scratch buffers and in the normalised rows' block. -/
theorem kept_at : ∀ (n : ℕ) (hn : n < cfg0.N) (r l : Fin 1024),
    (stAt m c n hn).hs (ix2 r l) = nrm m c (ix2 (row ⟨n, hn⟩ r) l)
    ∧ (stAt m c n hn).h (ix2 r l) = nrm m c (ix2 (row ⟨n, hn⟩ r) l)
    ∧ (stAt m c n hn).acc (ix2 r l) = upTo (part m c (row ⟨n, hn⟩ r) l) (n % 4) := by
  intro n
  induction n with
  | zero =>
    intro hn r l
    rw [show stAt m c 0 hn = stFirst m c ⟨0, hn⟩ from rfl]
    refine ⟨tile_nrm' m c _ r l, tile_nrm m c _ r l, (tile_acc m c _ _ (tile_nrm' m c _) _ r l).trans ?_⟩
    rw [pay3_at, zero_add, upTo_zero _ (by decide)]
    rfl
  | succ n ih =>
    intro hn r l
    by_cases h0 : (n + 1) % 4 = 0
    · rw [stAt_first m c ⟨n + 1, hn⟩ h0]
      refine ⟨tile_nrm' m c _ r l, tile_nrm m c _ r l, (tile_acc m c _ _ (tile_nrm' m c _) _ r l).trans ?_⟩
      rw [pay3_at, zero_add, h0, upTo_zero _ (by decide)]
      exact congrArg _ (Fin.ext h0)
    · have hp : n < cfg0.N := Nat.lt_of_succ_lt hn
      have hr (r : Fin 1024) : row ⟨n, hp⟩ r = row ⟨n + 1, hn⟩ r := Fin.ext (by show 1024 * (n / 4) + r.val = 1024 * ((n + 1) / 4) + r.val; omega)
      have ih (r l : Fin 1024) := ih hp r l
      simp only [hr] at ih
      rw [stAt_later m c ⟨n + 1, hn⟩ h0]
      refine ⟨(ih r l).1, (ih r l).2.1, (tile_acc m c _ _ (fun r l => (ih r l).1) _ r l).trans ?_⟩
      have e : (n + 1) % 4 = n % 4 + 1 := by omega
      have hb : blk ⟨n + 1, hn⟩ = ⟨n % 4 + 1, by omega⟩ := Fin.ext e
      rw [e, upTo_succ _ _ (by omega), hb]
      exact congrArg (· + _) (ih r l).2.2

theorem left_o (t : Fin cfg0.N) (h : t.val % 4 = 3) (r l : Fin 1024) : (stAt m c t.val t.isLt).o (ix2 r l) = res m c (ix2 (row t r) l) := by
  have e : (stAt m c t.val t.isLt).o = k0_pay7 (iblk m c 0 t) (stAt m c t.val t.isLt).acc := by
    rw [stAt_later m c t (by omega)]; rfl
  rw [e, pay7_at, iblk0, (kept_at m c t.val t.isLt r l).2.2, h, upTo_last _ 3 (by decide), ← parts]

theorem left_ra (t : Fin cfg0.N) (r f : Fin 1024) : (stAt m c t.val t.isLt).ra (ix2 r f) = hid m c (ix2 (row t r) (colOf (blk t) f)) := by
  have e : (stAt m c t.val t.isLt).ra = k0_pay5 (stAt m c t.val t.isLt).hs (iblk m c 2 t) := by
    by_cases h0 : t.val % 4 = 0
    · rw [stAt_first m c t h0]; rfl
    · rw [stAt_later m c t h0]; rfl
  rw [e, pay5_at, tile_hid m c t _ fun r l => (kept_at m c t.val t.isLt r l).1]

/-- The last point of an entry's row block. -/
def lastOf (i : Fin 2048) : Fin cfg0.N := ⟨4 * (i.val / 1024) + 3, by have : cfg0.N = 8 := N_0; omega⟩
theorem lastOf_mod (i : Fin 2048) : (lastOf i).val % 4 = 3 := by show (4 * (i.val / 1024) + 3) % 4 = 3; omega
theorem lastOf_div (i : Fin 2048) : (lastOf i).val / 4 = i.val / 1024 := by show (4 * (i.val / 1024) + 3) / 4 = i.val / 1024; omega

theorem final4 : (data m 0 c).arrAt 4 cfg0.N = res m c := by
  refine (data m 0 c).arrAt_eq_of_cover 4 _ (fun t hf => ?_) fun i => ⟨lastOf (i 0), (flush0_4 _).mpr (lastOf_mod (i 0)), ?_⟩
  · have e : (data m 0 c).flushed 4 t = (stAt m c t.val t.isLt).o := by
      rw [← left4]
    rw [e]
    funext j
    obtain ⟨r, l, rfl⟩ := eq_ix2 (A := 1024) (B := 1024) j
    exact (left_o m c t ((flush0_4 t).mp hf) r l).trans (congrArg _ (emb_block (index4 t) r l _ _)).symm
  · show i ∈ ((View.whole main_v3_0).slice (win0_4.rect (lastOf (i 0)))).set
    rw [View.set_slice_whole]
    have h1 := (i 1).isLt
    exact mem_block i ⟨(index4 _).1.trans (lastOf_div (i 0)), (index4 _).2.trans (Nat.div_eq_of_lt h1).symm⟩

theorem final5 : (data m 0 c).arrAt 5 cfg0.N = nrm m c := by
  refine (data m 0 c).arrAt_eq_of_cover 5 _ (fun t hf => ?_) fun i => ⟨lastOf (i 0), (flush0_5 _).mpr (lastOf_mod (i 0)), ?_⟩
  · have e : (data m 0 c).flushed 5 t = (stAt m c t.val t.isLt).h := by
      rw [← left5]
    rw [e]
    funext j
    obtain ⟨r, l, rfl⟩ := eq_ix2 (A := 1024) (B := 1024) j
    exact (kept_at m c t.val t.isLt r l).2.1.trans (congrArg _ (emb_block (index5 t) r l _ _)).symm
  · show i ∈ ((View.whole main_v3_1).slice (win0_5.rect (lastOf (i 0)))).set
    rw [View.set_slice_whole]
    have h1 := (i 1).isLt
    exact mem_block i ⟨(index5 _).1.trans (lastOf_div (i 0)), (index5 _).2.trans (Nat.div_eq_of_lt h1).symm⟩

theorem final6 : (data m 0 c).arrAt 6 cfg0.N = hid m c := by
  have hN : cfg0.N = 8 := N_0
  refine (data m 0 c).arrAt_eq_of_cover 6 _ (fun t hf => ?_) fun i => ?_
  · have e : (data m 0 c).flushed 6 t = (stAt m c t.val t.isLt).ra := by
      rw [← left6]
    rw [e]
    funext j
    obtain ⟨r, l, rfl⟩ := eq_ix2 (A := 1024) (B := 1024) j
    exact (left_ra m c t r l).trans (congrArg _ (emb_block (index6 t) r l _ _)).symm
  · have h0 : (i 0 : Nat) < 2048 := (i 0).isLt
    have h1 : (i 1 : Nat) < 4096 := (i 1).isLt
    let t : Fin cfg0.N := ⟨4 * ((i 0 : Nat) / 1024) + (i 1 : Nat) / 1024, by omega⟩
    refine ⟨t, flush0_6 t, ?_⟩
    show i ∈ ((View.whole main_v3_2).slice (win0_6.rect t)).set
    rw [View.set_slice_whole]
    exact mem_block i ⟨(index6 t).1.trans (by show (4 * ((i 0 : Nat) / 1024) + (i 1 : Nat) / 1024) / 4 = (i 0 : Nat) / 1024; omega),
      (index6 t).2.trans (by show (4 * ((i 0 : Nat) / 1024) + (i 1 : Nat) / 1024) % 4 = (i 1 : Nat) / 1024; omega)⟩

end Cert.Proof.FfwRun

namespace Cert.Proof

open Idealize.ShloMosaic Idealize.ShloMosaic.TcCoe Idealize.SL.Sem

open FfwKernelIdeal in
open FfwKernelIdeal.Gen in
open FfwFrame in
/-- The kernel's run, with each result named as the plain lines name it. -/
theorem ffw_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3_0) = FfwRun.res m c
      ∧ r.2.mem ((c : Thread nD τ).loc main_v3_1) = FfwRun.nrm m c
      ∧ r.2.mem ((c : Thread nD τ).loc main_v3_2) = FfwRun.hid m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ hs c => by
    have h := hs.1
    exact ⟨((h c).1 4).trans (FfwRun.final4 m c), ((h c).1 5).trans (FfwRun.final5 m c), ((h c).1 6).trans (FfwRun.final6 m c),
      ((h c).1 0).trans (((data m 0 c).arrAt_in 0 rfl _).trans ((data_arr m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (runs m ρ)

theorem algebraic_FfwKernelIdeal_FfwReferenceIdeal : algebraic_FfwKernelIdeal_FfwReferenceIdeal := by
  intro m ρ m' ρ' _ hagree
  refine ⟨_, _, _, ffw_run m ρ, ?_⟩
  refine (θ_run FfwReferenceIdeal.defs _ _).mono (fun _ h c => ?_) (FfwReferenceIdeal.Value.run (F := Ideal) m' ρ')
  obtain ⟨h0, h1, h2, h3⟩ := h c
  obtain ⟨a0, a1, a2, a3⟩ := hagree c
  rw [FfwReferenceIdeal.Read.val_main_v17_eq, a0, a1, a2, a3] at h0
  rw [FfwReferenceIdeal.Read.val_main_v18_eq, a0, a1] at h1
  rw [FfwReferenceIdeal.Read.val_main_v19_eq, a0, a1, a2] at h2
  exact ⟨h0, h1, h2, h3⟩

end Cert.Proof

section
set_option maxRecDepth 65536
namespace Cert.Proof.FfwPlain

open FfwKernel FfwKernel.Gen
open Idealize.ShloMosaic Idealize.ShloMosaic.TcCoe Idealize.ShloMosaic.Tactic Idealize.SL.Sem

variable {F : FTy → Type} [FloatOps F]

/-- The frame: the arguments end as they were, and every counter at zero. -/
theorem frame : ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Eq.mpr (by sl_kernel_rfl) (fun m ρ => FfwFrame.frame (F := F) m ρ)

end Cert.Proof.FfwPlain
end

end
-- ==== Proof.RmfFrame.lean ====
module

public import proofs.«01_k».proof.Proof.Owns
public import proofs.«01_k».proof.Proof.Gen.RmfKernelIdeal.Frame
public import proofs.«01_k».proof.Proof.Gen.RmfKernelIdeal.Launch
public import proofs.«01_k».proof.Proof.Gen.RmfKernelIdeal.Points
public import proofs.«01_k».proof.Proof.Gen.RmfKernelIdeal.Skeleton
public import Idealize.ShloMosaic.Lib.Claim
public import Idealize.ShloMosaic.Lib.Pipeline.Value

/-! The frame of the first norm with its projection: two row blocks by five column blocks.  The first point of a row
block normalises the rows; the first three points store the columns of one result, the last two those of the other. -/

@[expose] public section

set_option maxRecDepth 16384

noncomputable section

namespace Cert.Proof.RmfFrame

open RmfKernelIdeal RmfKernelIdeal.Gen Reads Owns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ
local notation:max "own" c:max x:max v:max => owns (c : Thread nD τ) x fullShare v

variable (m : (ℓ : Loc nD τ sig) → Buf (Elt F) ℓ) (ρ : Dev nD → PrngReg)

/-! ## Which case a point is, and what each case leaves alone -/

theorem first_iff : ∀ t : Fin cfg0.N, k0_cond1 (grid0.coords t) = 1#1 ↔ t.val % 5 = 0 := by decide +kernel
theorem left_iff : ∀ t : Fin cfg0.N, k0_cond2 (grid0.coords t) = 1#1 ↔ t.val % 5 ≤ 2 := by decide +kernel
theorem right_iff : ∀ t : Fin cfg0.N, k0_cond3 (grid0.coords t) = 1#1 ↔ 2 < t.val % 5 := by decide +kernel
theorem idle3 : ∀ t : Fin cfg0.N, 2 < t.val % 5 → cfg0.idle 3 (grid0.coords t) = true := by decide +kernel
theorem live3 : ∀ t : Fin cfg0.N, t.val % 5 ≤ 2 → cfg0.idle 3 (grid0.coords t) = false := by decide +kernel
theorem idle4 : ∀ t : Fin cfg0.N, t.val % 5 ≤ 2 → cfg0.idle 4 (grid0.coords t) = true := by decide +kernel
theorem live4 : ∀ t : Fin cfg0.N, 2 < t.val % 5 → cfg0.idle 4 (grid0.coords t) = false := by decide +kernel
theorem idle5 : ∀ t : Fin cfg0.N, ¬t.val % 5 = 0 → cfg0.idle 5 (grid0.coords t) = true := by decide +kernel
theorem live5 : ∀ t : Fin cfg0.N, t.val % 5 = 0 → cfg0.idle 5 (grid0.coords t) = false := by decide +kernel
theorem flush3 : ∀ t : Fin cfg0.N, (cfg0.win 3).flush t = true ↔ t.val % 5 < 2 ∨ t.val % 5 = 4 := by decide +kernel
theorem flush4 : ∀ t : Fin cfg0.N, (cfg0.win 4).flush t = true ↔ 2 < t.val % 5 := by decide +kernel
theorem lt10 (t : Fin cfg0.N) : t.val < 10 := lt_of_lt_of_eq t.isLt (show cfg0.N = 10 from N_0)

/-! ## The body's run -/

section Body
variable (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1536x1024 .bf16) (h4 : a4.IsWhole) (a5 : Memref sig .tc .vmem S1024x1536 .f32) (h5 : a5.IsWhole)
  (a6 : Memref sig .tc .vmem S1024x1536 .bf16) (h6 : a6.IsWhole) (a7 : Memref sig .tc .vmem S1024x1024 .bf16) (h7 : a7.IsWhole)
  (a8 : Memref sig .tc .vmem S1024x1024 .bf16) (h8 : a8.IsWhole)
  (x : Vec F S1024x1024 .f32) (g : Vec F S1x1024 .f32) (w : Vec F S1536x1024 .bf16) (hs : Vec F S1024x1024 .bf16)

/-- The body at the first point of a row block. -/
theorem bodyA (hc : k0_cond1 i = 1#1) (hd : k0_cond2 i = 1#1) (he : ¬k0_cond3 i = 1#1) (E : Set ℕ) (K : PUnit → sProp 𝕄) :
    iprop(own c a2 x ∗ own c a3 g ∗ own c a4 w ∗ (∃ d, own c a5 d) ∗ (∃ d, own c a7 d) ∗ (∃ d, own c a8 d)
      ∗ (iprop(own c a2 x ∗ own c a3 g ∗ own c a4 w ∗ own c a5 (k0_pay3 (k0_pay2 x g) w) ∗ own c a7 (k0_pay1 x g) ∗ own c a8 (k0_pay2 x g)) -∗ K ⟨⟩))
      ⊢ wp frame (wpE (defs₀ (F := F)) Variants.none c none) E (cc0_rms_mm i a2 h2 a3 h3 a4 h4 a5 h5 a6 h6 a7 h7 a8 h8) K := by
  simp only [cc0_rms_mm_eq_skeleton]; unfold cc0_rms_mm_skel
  unfold owns
  iintro ⟨⟨%f2, %e2, H2⟩, ⟨%f3, %e3, H3⟩, ⟨%f4, %e4, H4⟩, ⟨%d5, %f5, -, H5⟩, ⟨%d7, %f7, -, H7⟩, ⟨%d8, %f8, -, H8⟩, Hk⟩
  obtain rfl := h2.eq_unread e2; obtain rfl := h3.eq_unread e3; obtain rfl := h4.eq_unread e4
  sl_exec (disch := first | sl_exact hc | sl_exact hd | sl_exact he)
  sl_step
  iapply Hk
  isplitl [H2]; · iapply (owns_kept c h2 _); iexact H2
  isplitl [H3]; · iapply (owns_kept c h3 _); iexact H3
  isplitl [H4]; · iapply (owns_kept c h4 _); iexact H4
  isplitl [H5]
  · iapply (owns_last c a5 _ _ _ ?_ _ _)
    swap; · iexact H5
    try sl_unfold_words
    simp only [ld_all, cov_all, View.readAt_eq_ld, Memref.IsWhole.read_unread]
  isplitl [H7]
  · iapply (owns_last c a7 _ _ _ ?_ _ _)
    swap; · iexact H7
    try sl_unfold_words
    simp only [ld_all, cov_all, View.readAt_eq_ld, Memref.IsWhole.read_unread]
  iapply (owns_last c a8 _ _ _ ?_ _ _)
  swap; · iexact H8
  try sl_unfold_words
  simp only [ld_all, cov_all, View.readAt_eq_ld, Memref.IsWhole.read_unread]

/-- The body at a later point that stores columns of the first result. -/
theorem bodyB (hc : ¬k0_cond1 i = 1#1) (hd : k0_cond2 i = 1#1) (he : ¬k0_cond3 i = 1#1) (E : Set ℕ) (K : PUnit → sProp 𝕄) :
    iprop(own c a4 w ∗ own c a8 hs ∗ (∃ d, own c a5 d)
      ∗ (iprop(own c a4 w ∗ own c a8 hs ∗ own c a5 (k0_pay3 hs w)) -∗ K ⟨⟩))
      ⊢ wp frame (wpE (defs₀ (F := F)) Variants.none c none) E (cc0_rms_mm i a2 h2 a3 h3 a4 h4 a5 h5 a6 h6 a7 h7 a8 h8) K := by
  simp only [cc0_rms_mm_eq_skeleton]; unfold cc0_rms_mm_skel
  unfold owns
  iintro ⟨⟨%f4, %e4, H4⟩, ⟨%f8, %e8, H8⟩, ⟨%d5, %f5, -, H5⟩, Hk⟩
  obtain rfl := h4.eq_unread e4; obtain rfl := h8.eq_unread e8
  sl_exec (disch := first | sl_exact hc | sl_exact hd | sl_exact he)
  sl_step
  iapply Hk
  isplitl [H4]; · iapply (owns_kept c h4 _); iexact H4
  isplitl [H8]; · iapply (owns_kept c h8 _); iexact H8
  iapply (owns_last c a5 _ _ _ ?_ _ _)
  swap; · iexact H5
  try sl_unfold_words
  simp only [ld_all, cov_all, View.readAt_eq_ld, Memref.IsWhole.read_unread]

/-- The body at a point that stores columns of the second result. -/
theorem bodyC (hc : ¬k0_cond1 i = 1#1) (hd : ¬k0_cond2 i = 1#1) (he : k0_cond3 i = 1#1) (E : Set ℕ) (K : PUnit → sProp 𝕄) :
    iprop(own c a4 w ∗ own c a8 hs ∗ (∃ d, own c a6 d)
      ∗ (iprop(own c a4 w ∗ own c a8 hs ∗ own c a6 (k0_pay4 hs w)) -∗ K ⟨⟩))
      ⊢ wp frame (wpE (defs₀ (F := F)) Variants.none c none) E (cc0_rms_mm i a2 h2 a3 h3 a4 h4 a5 h5 a6 h6 a7 h7 a8 h8) K := by
  simp only [cc0_rms_mm_eq_skeleton]; unfold cc0_rms_mm_skel
  unfold owns
  iintro ⟨⟨%f4, %e4, H4⟩, ⟨%f8, %e8, H8⟩, ⟨%d6, %f6, -, H6⟩, Hk⟩
  obtain rfl := h4.eq_unread e4; obtain rfl := h8.eq_unread e8
  sl_exec (disch := first | sl_exact hc | sl_exact hd | sl_exact he)
  sl_step
  iapply Hk
  isplitl [H4]; · iapply (owns_kept c h4 _); iexact H4
  isplitl [H8]; · iapply (owns_kept c h8 _); iexact H8
  iapply (owns_last c a6 _ _ _ ?_ _ _)
  swap; · iexact H6
  try sl_unfold_words
  simp only [ld_all, cov_all, View.readAt_eq_ld, Memref.IsWhole.read_unread]

end Body

/-! ## What a point leaves -/

variable (c : Dev nD) (t : Fin cfg0.N)

/-- The point at which the row block's rows were normalised, and the last one that stored columns of the first result. -/
def fst : Fin cfg0.N := ⟨t.val - t.val % 5, lt_of_le_of_lt (Nat.sub_le _ _) t.isLt⟩
def mid : Fin cfg0.N := ⟨t.val - (t.val % 5 - 2), lt_of_le_of_lt (Nat.sub_le _ _) t.isLt⟩

theorem fst_succ (n : ℕ) (hn : n + 1 < cfg0.N) (h : ¬(n + 1) % 5 = 0) : fst ⟨n + 1, hn⟩ = fst ⟨n, Nat.lt_of_succ_lt hn⟩ :=
  Fin.ext (by show n + 1 - (n + 1) % 5 = n - n % 5; omega)
theorem mid_succ (n : ℕ) (hn : n + 1 < cfg0.N) (h : 2 < (n + 1) % 5) : mid ⟨n + 1, hn⟩ = mid ⟨n, Nat.lt_of_succ_lt hn⟩ :=
  Fin.ext (by show n + 1 - ((n + 1) % 5 - 2) = n - (n % 5 - 2); omega)
theorem fst_self (h : t.val % 5 = 0) : fst t = t := Fin.ext (by show t.val - t.val % 5 = t.val; omega)
theorem mid_self (h : t.val % 5 ≤ 2) : mid t = t := Fin.ext (by show t.val - (t.val % 5 - 2) = t.val; omega)

/-- The normalised rows, in scratch and as a result; the columns of the two products. -/
def hsAt : Vec F S1024x1024 .bf16 := k0_pay2 (iblk m c 0 (fst t)) (iblk m c 1 (fst t))
def hAt : Vec F S1024x1024 .bf16 := k0_pay1 (iblk m c 0 (fst t)) (iblk m c 1 (fst t))
def pmAt : Vec F S1024x1536 .f32 := k0_pay3 (hsAt m c t) (iblk m c 2 (mid t))
def pgAt : Vec F S1024x1536 .bf16 := k0_pay4 (hsAt m c t) (iblk m c 2 t)

/-- The scratch buffer holding the normalised rows. -/
def kept (c : Dev nD) (s : Vec F S1024x1024 .bf16) : sProp 𝕄 :=
  iprop(own c (Memref.whole cc0_scratch0 : Memref sig .tc .vmem S1024x1024 .bf16) s ∗ (∃ r, prngReg c r))

theorem PhiA0_eq (c : Dev nD) :
    (Pipeline.ΦA spec0 c : sProp 𝕄)
      = iprop((∃ d, own c (Memref.whole cc0_scratch0 : Memref sig .tc .vmem S1024x1024 .bf16) d) ∗ (∃ r, prngReg c r)) := by
  unfold Pipeline.ΦA; rw [scopedRest0_eq]; simp only [owns_whole]; try rfl

/-- What holds between the points. -/
def between (c : Dev nD) : (n : ℕ) → n ≤ cfg0.N → sProp 𝕄
  | 0, _ => Pipeline.ΦA spec0 c
  | n + 1, hn => kept c (hsAt m c ⟨n, hn⟩)

theorem between_later (h : ¬t.val % 5 = 0) : between m c t.val (Nat.le_of_lt t.isLt) = kept c (hsAt m c t) := by
  obtain ⟨n, hn⟩ := t
  cases n with
  | zero => exact absurd rfl h
  | succ n => unfold hsAt; rw [fst_succ n hn h]; rfl

theorem between_any (c : Dev nD) (n : ℕ) (h : n ≤ cfg0.N) : between m c n h ⊢ Pipeline.ΦA spec0 c := by
  cases n with
  | zero => exact .rfl
  | succ n =>
    rw [PhiA0_eq]; unfold between kept
    iintro ⟨H, Hg⟩
    isplitl [H]; · iexists _; iexact H
    iexact Hg

/-- The data of the pipeline: its arrays as the region finds them, an input's buffer left at its block, an output's
at what the point leaves. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => pmAt m c t
    | ⟨4, _⟩ => pgAt m c t
    | ⟨5, _⟩ => hAt m c t
    | ⟨_ + 6, h⟩ => absurd h (Nat.not_lt.2 (Nat.le_add_left _ _))
  Φ t := between m c t.val (Nat.le_of_lt_succ t.isLt)
  q _ := fullShare
  owed _ := 0

local notation:max "◆" => data m 0 c

theorem data_arr (c : Dev nD) (w : Fin cfg0.W) : (data m 0 c).A w = V m c (Pipeline.arrRef spec0 w) := by
  dsimp only [data]

theorem data_between :
    ◆.Φ t.castSucc = between m c t.val (Nat.le_of_lt t.isLt) := by
  dsimp only [data]; exact Pipeline.Dat.Φ_castSucc (between m c) t

theorem left0 : ◆.after 0 t = iblk m c 0 t := by dsimp only [data]
theorem left1 : ◆.after 1 t = iblk m c 1 t := by dsimp only [data]
theorem left2 : ◆.after 2 t = iblk m c 2 t := by dsimp only [data]
theorem left3 : ◆.after 3 t = pmAt m c t := by dsimp only [data]
theorem left4 : ◆.after 4 t = pgAt m c t := by dsimp only [data]
theorem left5 : ◆.after 5 t = hAt m c t := by dsimp only [data]

theorem found0 (d) : ◆.before 0 t d = iblk m c 0 t := before0_0_of m ◆ (data_arr m c 0) (left0 m c) t d
theorem found1 (d) : ◆.before 1 t d = iblk m c 1 t := before0_1_of m ◆ (data_arr m c 1) (left1 m c) t d
theorem found2 (d) : ◆.before 2 t d = iblk m c 2 t := before0_2_of m ◆ (data_arr m c 2) (left2 m c) t d

/-- The last columns stored of the first result are still in its block at the points after them. -/
theorem found3 (c : Dev nD) (d) : ∀ (n : ℕ) (hn : n < cfg0.N), 2 < n % 5 → (data m 0 c).before 3 ⟨n, hn⟩ d = pmAt m c ⟨n, hn⟩
  | 0, hn, h => absurd h (by decide)
  | n + 1, hn, h => by
    have hp : n < cfg0.N := Nat.lt_of_succ_lt hn
    rw [show pmAt m c ⟨n + 1, hn⟩ = pmAt m c ⟨n, hp⟩ by unfold pmAt hsAt; rw [fst_succ n hn (by omega), mid_succ n hn h],
      (data m 0 c).before_of_pos 3 ⟨n + 1, hn⟩ (Nat.succ_ne_zero n) ((cfg0.win 3).fetch_out rfl _)]
    show (if (cfg0.win 3).flush ⟨n, hp⟩ = true then d else (data m 0 c).left 3 ⟨n, hp⟩ d) = _
    rw [if_neg fun e => by have := (flush3 _).mp e; dsimp only at this; omega]
    unfold Dat.left
    by_cases h0 : n % 5 ≤ 2
    · rw [live3 ⟨n, hp⟩ h0]
      dsimp only
      unfold Dat.kept
      rw [Pipeline.fill_of_clip_none 3 _ (fun _ => rfl) d ((data m 0 c).after 3 _), Window.fill_cut, left3]
    · rw [idle3 ⟨n, hp⟩ (by dsimp only; omega)]
      exact found3 c d n hp (by omega)

/-- The normalised rows' block, stored at the first point of a row block, is still there at the later ones. -/
theorem found5 (c : Dev nD) (d) : ∀ (n : ℕ) (hn : n < cfg0.N), ¬n % 5 = 0 → (data m 0 c).before 5 ⟨n, hn⟩ d = hAt m c ⟨n, hn⟩
  | 0, hn, h => absurd rfl h
  | n + 1, hn, h => by
    have hp : n < cfg0.N := Nat.lt_of_succ_lt hn
    rw [show hAt m c ⟨n + 1, hn⟩ = hAt m c ⟨n, hp⟩ by unfold hAt; rw [fst_succ n hn h],
      (data m 0 c).before_of_pos 5 ⟨n + 1, hn⟩ (Nat.succ_ne_zero n) ((cfg0.win 5).fetch_out rfl _)]
    show (if (cfg0.win 5).flush ⟨n, hp⟩ = true then d else (data m 0 c).left 5 ⟨n, hp⟩ d) = _
    rw [if_neg fun e => by have := (flush0_5 _).mp e; dsimp only at this; omega]
    unfold Dat.left
    by_cases h0 : n % 5 = 0
    · rw [live5 ⟨n, hp⟩ h0]
      dsimp only
      unfold Dat.kept
      rw [Pipeline.fill_of_clip_none 5 _ (fun _ => rfl) d ((data m 0 c).after 5 _), Window.fill_cut, left5]
    · rw [idle5 ⟨n, hp⟩ h0]
      exact found5 c d n hp h0

/-! ## The body at one point -/

/-- What the body is called with. -/
def pre : sProp 𝕄 :=
  iprop(◆.Φ t.castSucc ∗ ◆.owesAt () t.castSucc
    ∗ (∃ d, own c (st0_0 t) (◆.before 0 t d))
    ∗ (∃ d, own c (st0_1 t) (◆.before 1 t d))
    ∗ (∃ d, own c (st0_2 t) (◆.before 2 t d))
    ∗ (∃ d, own c (st0_3 t) (◆.before 3 t d))
    ∗ (∃ d, own c (st0_4 t) (◆.before 4 t d))
    ∗ (∃ d, own c (st0_5 t) (◆.before 5 t d)))

/-- What it must hand back. -/
def post : sProp 𝕄 :=
  iprop(◆.Φ t.succ ∗ ◆.owesAt () t.succ
    ∗ ◆.leavesExact 0 t ∗ ◆.leavesExact 1 t ∗ ◆.leavesExact 2 t
    ∗ ◆.leavesExact 3 t ∗ ◆.leavesExact 4 t ∗ ◆.leavesExact 5 t)

theorem ins_post : iprop(kept c (hsAt m c t)
      ∗ ◆.owesAt () t.castSucc
      ∗ own c (st0_0 t) (iblk m c 0 t) ∗ own c (st0_1 t) (iblk m c 1 t)
      ∗ own c (st0_2 t) (iblk m c 2 t)
      ∗ ◆.leavesExact 3 t ∗ ◆.leavesExact 4 t ∗ ◆.leavesExact 5 t) ⊢ post m c t := by
  unfold post
  rw [show ◆.owesAt () t.succ = ◆.owesAt () t.castSucc from rfl,
    show ◆.Φ t.succ = kept c (hsAt m c t) from rfl,
    show ◆.leavesExact 0 t = own c (st0_0 t) (iblk m c 0 t) from rfl,
    show ◆.leavesExact 1 t = own c (st0_1 t) (iblk m c 1 t) from rfl,
    show ◆.leavesExact 2 t = own c (st0_2 t) (iblk m c 2 t) from rfl]

theorem out3 (h : t.val % 5 ≤ 2) :
    own c (st0_3 t) (k0_pay3 (hsAt m c t) (iblk m c 2 t)) ⊢ (◆.leavesExact 3 t : sProp 𝕄) := by
  unfold Dat.leavesExact; rw [live3 t h, left3]; unfold pmAt; rw [mid_self t h]

theorem back3 (h : 2 < t.val % 5) (d) :
    own c (st0_3 t) (◆.before 3 t d) ⊢ (◆.leavesExact 3 t : sProp 𝕄) := by
  unfold Dat.leavesExact; rw [idle3 t h]
  by_cases h4 : t.val % 5 = 4
  · rw [(flush3 t).mpr (.inr h4), left3, found3 m c d t.val t.isLt h]
  · rw [Bool.eq_false_iff.mpr fun e => ((flush3 t).mp e).elim (by omega) h4]; dsimp only; iintro H; iexists d; iexact H

theorem back4 (h : t.val % 5 ≤ 2) (d) :
    own c (st0_4 t) (◆.before 4 t d) ⊢ (◆.leavesExact 4 t : sProp 𝕄) := by
  rw [Dat.leavesExact_idle ◆ 4 t (idle4 t h) (Bool.eq_false_iff.mpr fun e => Nat.not_lt.mpr h ((flush4 t).mp e))]
  iintro H; iexists d; iexact H

theorem out4 (h : 2 < t.val % 5) :
    own c (st0_4 t) (k0_pay4 (hsAt m c t) (iblk m c 2 t)) ⊢ (◆.leavesExact 4 t : sProp 𝕄) := by
  unfold Dat.leavesExact; rw [live4 t h, left4]; rfl

theorem out5 (h : t.val % 5 = 0) :
    own c (st0_5 t) (k0_pay1 (iblk m c 0 t) (iblk m c 1 t)) ⊢ (◆.leavesExact 5 t : sProp 𝕄) := by
  unfold Dat.leavesExact; rw [live5 t h, left5]; unfold hAt; rw [fst_self t h]

theorem back5 (h : ¬t.val % 5 = 0) (d) :
    own c (st0_5 t) (◆.before 5 t d) ⊢ (◆.leavesExact 5 t : sProp 𝕄) := by
  unfold Dat.leavesExact; rw [idle5 t h]
  by_cases h4 : t.val % 5 = 4
  · rw [(flush0_5 t).mpr h4, left5, found5 m c d t.val t.isLt h]
  · rw [Bool.eq_false_iff.mpr fun e => h4 ((flush0_5 t).mp e)]; dsimp only; iintro H; iexists d; iexact H

/-- The body at any point. -/
theorem body_sound :
    pre m c t ⊢ wp frame (wpE (defs₀ (F := F)) Variants.none c none) Set.univ (bodyAt0 t) (fun _ => post m c t) := by
  unfold pre bodyAt0
  simp only [found0, found1, found2, data_between]
  by_cases h0 : t.val % 5 = 0
  · have h1 : t.val % 5 ≤ 2 := by omega
    refine (sep_mono_left (between_any m c t.val (Nat.le_of_lt t.isLt))).trans ?_
    rw [PhiA0_eq]
    iintro ⟨⟨HS, Hg⟩, Ho, ⟨%d0, H0⟩, ⟨%d1, H1⟩, ⟨%d2, H2⟩, ⟨%d3, H3⟩, ⟨%d4, H4⟩, ⟨%d5, H5⟩⟩
    iapply (bodyA c _ _ _ _ _ _ _ _ _ _ _ _ _ _ _ (iblk m c 0 t) (iblk m c 1 t) (iblk m c 2 t) ((first_iff t).mpr h0) ((left_iff t).mpr h1) (fun h => Nat.not_lt.mpr h1 ((right_iff t).mp h)) _ _)
    iframe H0 H1 H2
    isplitl [H3]; · iexists _; iexact H3
    isplitl [H5]; · iexists _; iexact H5
    iframe HS
    have e : k0_pay2 (iblk m c 0 t) (iblk m c 1 t) = hsAt m c t := by unfold hsAt; rw [fst_self t h0]
    rw [e]
    iintro ⟨H0, H1, H2, H3, H5, HS⟩
    iapply (ins_post m c t)
    isplitl [HS Hg]
    · unfold kept; isplitl [HS]; · iexact HS
      iexact Hg
    iframe Ho H0 H1 H2
    isplitl [H3]; · iapply (out3 m c t h1); iexact H3
    isplitl [H4]; · iapply (back4 m c t h1 d4); iexact H4
    iapply (out5 m c t h0); iexact H5
  · rw [between_later m c t h0]
    unfold kept
    by_cases h1 : t.val % 5 ≤ 2
    · iintro ⟨⟨HS, Hg⟩, Ho, ⟨%d0, H0⟩, ⟨%d1, H1⟩, ⟨%d2, H2⟩, ⟨%d3, H3⟩, ⟨%d4, H4⟩, ⟨%d5, H5⟩⟩
      iapply (bodyB c _ _ _ _ _ _ _ _ _ _ _ _ _ _ _ (iblk m c 2 t) (hsAt m c t) (fun h => h0 ((first_iff t).mp h)) ((left_iff t).mpr h1) (fun h => Nat.not_lt.mpr h1 ((right_iff t).mp h)) _ _)
      iframe H2 HS
      isplitl [H3]; · iexists _; iexact H3
      iintro ⟨H2, HS, H3⟩
      iapply (ins_post m c t)
      isplitl [HS Hg]
      · unfold kept; isplitl [HS]; · iexact HS
        iexact Hg
      iframe Ho H0 H1 H2
      isplitl [H3]; · iapply (out3 m c t h1); iexact H3
      isplitl [H4]; · iapply (back4 m c t h1 d4); iexact H4
      iapply (back5 m c t h0 d5); iexact H5
    · have h2 : 2 < t.val % 5 := by omega
      iintro ⟨⟨HS, Hg⟩, Ho, ⟨%d0, H0⟩, ⟨%d1, H1⟩, ⟨%d2, H2⟩, ⟨%d3, H3⟩, ⟨%d4, H4⟩, ⟨%d5, H5⟩⟩
      iapply (bodyC c _ _ _ _ _ _ _ _ _ _ _ _ _ _ _ (iblk m c 2 t) (hsAt m c t) (fun h => h0 ((first_iff t).mp h)) (fun h => h1 ((left_iff t).mp h)) ((right_iff t).mpr h2) _ _)
      iframe H2 HS
      isplitl [H4]; · iexists _; iexact H4
      iintro ⟨H2, HS, H4⟩
      iapply (ins_post m c t)
      isplitl [HS Hg]
      · unfold kept; isplitl [HS]; · iexact HS
        iexact Hg
      iframe Ho H0 H1 H2
      isplitl [H3]; · iapply (back3 m c t h2 d3); iexact H3
      isplitl [H4]; · iapply (out4 m c t h2); iexact H4
      iapply (back5 m c t h0 d5); iexact H5

theorem row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row]
  exact triple_restated (body_sound m c t) rfl .rfl fun _ => .rfl

theorem enter (c : Dev nD) : Pipeline.ΦA spec0 c ⊢ (data m 0 c).Φ 0 := Idealize.SL.BI.Entails.refl _

theorem leave (c : Dev nD) : (data m 0 c).Φ (Fin.last cfg0.N) ⊢ Pipeline.ΦA spec0 c :=
  between_any m c (Fin.last cfg0.N).val (le_refl _)

set_option backward.isDefEq.respectTransparency.types false in
/-- Every run ends, with every counter at zero and the arrays at what the pipeline's data say. -/
theorem runs : θ_run defs (onTc (τ := τ) (main (F := F))) (s₀ m ρ)
    (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_arr m) (hin := enter m) (hout := leave m)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (data m) (data_arr m) ((θ_run defs _ _).mono (fun _ h => h.1) (runs m ρ)))
    ((θ_run defs _ _).mono (fun _ h => h.2) (runs m ρ))

end Cert.Proof.RmfFrame

end
-- ==== Proof.RmfRun.lean ====
/-
  The first norm with its projection, entry by entry: what one point of the kernel computes, and what the plain lines compute.
-/
module

public import proofs.«01_k».proof.Proof.Gen.RmfReferenceIdeal.Read
public import proofs.«01_k».proof.Proof.RmfFrame
public import proofs.«01_k».proof.Proof.Rms
public import Idealize.ShloMosaic.Lib.Pointwise
public import Idealize.ShloMosaic.Lib.Tactic
public import proofs.«01_k».proof.Proof.Blocks
public import Idealize.ShloMosaic.Lib.Pipeline.Value
public import Idealize.ShloMosaic.Lib.StableHlo.Run
public import proofs.«01_k».proof.Defs
public import proofs.«01_k».proof.Proof.Gen.RmfReferenceIdeal.Run
public import proofs.«01_k».proof.RmfKernel
public import proofs.«01_k».proof.Proof.Gen.RmfKernel

@[expose] public section

set_option maxRecDepth 16384

noncomputable section

namespace Cert.Proof.RmfVal

open Idealize.ShloMosaic Idealize.ShloMosaic.TcCoe Reals Rms RmfKernelIdeal RmfKernelIdeal.Gen

section Kernel
variable (x : Vec Ideal S1024x1024 .f32) (g : Vec Ideal S1x1024 .f32) (h : Vec Ideal S1024x1024 .bf16) (w : Vec Ideal S1536x1024 .bf16)

theorem pay1_at (r l : Fin 1024) : k0_pay1 x g (ix2 r l) = x (ix2 r l) * er (fun k => x (ix2 r k)) * g (ix2 0 l) := by
  pointwise [k0_pay1]
  rfl
theorem pay2_at (r l : Fin 1024) : k0_pay2 x g (ix2 r l) = k0_pay1 x g (ix2 r l) := by
  unfold k0_pay2
  rw [shapeCast_self]
theorem pay3_at (r : Fin 1024) (f : Fin 1536) : k0_pay3 h w (ix2 r f) = ∑ k : Fin 1024, h (ix2 r k) * w (ix2 f k) := by
  pointwise [k0_pay3]
theorem pay4_at (r : Fin 1024) (f : Fin 1536) : k0_pay4 h w (ix2 r f) = k0_pay3 h w (ix2 r f) := by
  pointwise [k0_pay4]

end Kernel

section Ref
open RmfReferenceIdeal.Read
variable (x : Vec Ideal S2048x1024 .f32) (g : Vec Ideal S1024 .f32) (w : Vec Ideal S1024x7680 .f32)

theorem v6_at (r : Fin 2048) : val_main_v6 (F := Ideal) x (ix2 r 0) = ems (fun k => x (ix2 r k)) := by
  pointwise [val_main_v6, val_main_v5, val_main_cst_1, val_main_v4, val_main_v3, val_main_cst_0, val_main_v2, val_main_v1, val_main_cst, val_main_v0]
  rfl
theorem v17_at (r : Fin 2048) (l : Fin 1024) : val_main_v17 (F := Ideal) x g (ix2 r l) = x (ix2 r l) * er (fun k => x (ix2 r k)) * g (ix1 l) := by
  pointwise [val_main_v17, val_main_v12, val_main_v11, val_main_v10, val_main_v9, val_main_v8, val_main_v7]
  rw [v6_at]
  rfl
theorem v14_at (r : Fin 2048) (f : Fin 4608) : val_main_v14 (F := Ideal) x g w (ix2 r f) = ∑ k : Fin 1024, val_main_v17 (F := Ideal) x g (ix2 r k) * w (ix2 k ⟨f.val, by omega⟩) := by
  pointwise [val_main_v14, val_main_v13, val_main_v17]
theorem v16_at (r : Fin 2048) (f : Fin 3072) : val_main_v16 (F := Ideal) x g w (ix2 r f) = ∑ k : Fin 1024, val_main_v17 (F := Ideal) x g (ix2 r k) * w (ix2 k ⟨4608 + f.val, by omega⟩) := by
  pointwise [val_main_v16, val_main_v15, val_main_v13, val_main_v17]

end Ref

end Cert.Proof.RmfVal

namespace Cert.Proof.RmfRun

open Idealize.ShloMosaic Idealize.ShloMosaic.TcCoe RmfKernelIdeal RmfKernelIdeal.Gen RmfFrame RmfVal Blocks
open RmfReferenceIdeal.Read (val_main_v14 val_main_v16 val_main_v17)

variable (m : (ℓ : Loc nD τ sig) → Buf (Elt Ideal) ℓ) (c : Dev nD)

/-- The arguments: the rows, the norm's scale and the weight. -/
abbrev ax : Vec Ideal S2048x1024 .f32 := m ((c : Thread nD τ).loc main_arg0)
abbrev ag : Vec Ideal S1024 .f32 := m ((c : Thread nD τ).loc main_arg1)
abbrev aw : Vec Ideal S1024x7680 .f32 := m ((c : Thread nD τ).loc main_arg2)
/-- The normalised rows, the mixers' columns and the gates' columns, as the plain lines have them. -/
abbrev nrm : Vec Ideal S2048x1024 .bf16 := val_main_v17 (F := Ideal) (ax m c) (ag m c)
abbrev mixed : Vec Ideal S2048x4608 .f32 := val_main_v14 (F := Ideal) (ax m c) (ag m c) (aw m c)
abbrev gates : Vec Ideal S2048x3072 .bf16 := val_main_v16 (F := Ideal) (ax m c) (ag m c) (aw m c)

theorem V_v0 : V m c main_v0 = broadcastInDim S1x1024 ![1] bcast_S1024_S1x1024_1 (ag m c) := by
  unfold_abbrev_sides; unfold hostOps0; after_results
theorem V_v2 : V m c main_v2 = transpose S7680x1024 [1, 0] (aw m c) transposes_S1024x7680_S7680x1024_1_0 := by
  unfold_abbrev_sides; unfold hostOps0; after_results; rfl

theorem trans_at (w : FVec Ideal S1024x7680 .f32) (f : Fin 7680) (k : Fin 1024) : transpose S7680x1024 [1, 0] w transposes_S1024x7680_S7680x1024_1_0 (ix2 f k) = w (ix2 k f) := by
  pointwise []

/-- Row `r` of the point's row block, and column `f` of its column block. -/
def row (t : Fin cfg0.N) (r : Fin 1024) : Fin 2048 := ⟨1024 * (t.val / 5) + r.val, by have := lt10 t; omega⟩
def col (t : Fin cfg0.N) (f : Fin 1536) : Fin 7680 := ⟨1536 * (t.val % 5) + f.val, by omega⟩

theorem index0 : ∀ t : Fin cfg0.N, win0_0.index t 0 = t.val / 5 ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val % 5 ∧ win0_2.index t 1 = 0 := by decide +kernel
theorem index3 : ∀ t : Fin cfg0.N, win0_3.index t 0 = t.val / 5 ∧ win0_3.index t 1 = min (t.val % 5) 2 := by decide +kernel
theorem index4 : ∀ t : Fin cfg0.N, win0_4.index t 0 = t.val / 5 ∧ win0_4.index t 1 = t.val % 5 - 3 := by decide +kernel
theorem index5 : ∀ t : Fin cfg0.N, win0_5.index t 0 = t.val / 5 ∧ win0_5.index t 1 = 0 := by decide +kernel

theorem iblk0 (t : Fin cfg0.N) (r l : Fin 1024) : iblk m c 0 t (ix2 r l) = ax m c (ix2 (row t r) l) :=
  (congrArg (V m c main_arg0) (emb_block (index0 t) r l _ _)).trans (congrFun (V_main_arg0 m c) _)
theorem iblk1 (t : Fin cfg0.N) (l : Fin 1024) : iblk m c 1 t (ix2 0 l) = ag m c (ix1 l) :=
  (congrArg (V m c main_v0) (emb_block (index1 t) 0 l _ _)).trans ((congrFun (V_v0 m c) _).trans (bcast_at ..))
theorem iblk2 (t : Fin cfg0.N) (f : Fin 1536) (k : Fin 1024) : iblk m c 2 t (ix2 f k) = aw m c (ix2 k (col t f)) :=
  (congrArg (V m c main_v2) (emb_block (index2 t) f k _ _)).trans ((congrFun (V_v2 m c) _).trans (trans_at _ _ _))

theorem rows0 (t : Fin cfg0.N) (r : Fin 1024) : (fun k => iblk m c 0 t (ix2 r k)) = fun k => ax m c (ix2 (row t r) k) := funext fun k => iblk0 m c t r k
theorem row_fst (t : Fin cfg0.N) (r : Fin 1024) : row (fst t) r = row t r :=
  Fin.ext (by show 1024 * ((t.val - t.val % 5) / 5) + r.val = 1024 * (t.val / 5) + r.val; omega)

theorem h_at (t : Fin cfg0.N) (r l : Fin 1024) : hAt m c t (ix2 r l) = nrm m c (ix2 (row t r) l) := by
  rw [hAt, pay1_at, nrm, v17_at, rows0, iblk0, iblk1, row_fst]
theorem hs_at (t : Fin cfg0.N) (r l : Fin 1024) : hsAt m c t (ix2 r l) = nrm m c (ix2 (row t r) l) := by
  rw [hsAt, pay2_at]
  exact h_at m c t r l

theorem pm_at (t : Fin cfg0.N) (r : Fin 1024) (f : Fin 1536) :
    pmAt m c t (ix2 r f) = mixed m c (ix2 (row t r) ⟨1536 * min (t.val % 5) 2 + f.val, by omega⟩) := by
  have e (h : _) : col (mid t) f = ⟨1536 * min (t.val % 5) 2 + f.val, h⟩ :=
    Fin.ext (by show 1536 * ((t.val - (t.val % 5 - 2)) % 5) + f.val = _; dsimp only; omega)
  rw [pmAt, pay3_at, mixed, v14_at]
  simp only [hs_at, iblk2, e (by omega)]
theorem pg_at (t : Fin cfg0.N) (h : 2 < t.val % 5) (r : Fin 1024) (f : Fin 1536) :
    pgAt m c t (ix2 r f) = gates m c (ix2 (row t r) ⟨1536 * (t.val % 5 - 3) + f.val, by omega⟩) := by
  have e (h : _) : col t f = ⟨4608 + (1536 * (t.val % 5 - 3) + f.val), h⟩ :=
    Fin.ext (by show 1536 * (t.val % 5) + f.val = 4608 + (1536 * (t.val % 5 - 3) + f.val); omega)
  rw [pgAt, pay4_at, pay3_at, gates, v16_at]
  simp only [hs_at, iblk2, e (by omega)]

/-- The point of row block `i / 1024` at step `k`. -/
def pt (i : Fin 2048) (k : Fin 5) : Fin cfg0.N := ⟨5 * (i.val / 1024) + k.val, by have : cfg0.N = 10 := N_0; omega⟩
theorem pt_mod (i : Fin 2048) (k : Fin 5) : (pt i k).val % 5 = k.val := by show (5 * (i.val / 1024) + k.val) % 5 = k.val; omega
theorem pt_div (i : Fin 2048) (k : Fin 5) : (pt i k).val / 5 = i.val / 1024 := by show (5 * (i.val / 1024) + k.val) / 5 = i.val / 1024; omega

theorem final3 : (data m 0 c).arrAt 3 cfg0.N = mixed m c := by
  refine (data m 0 c).arrAt_eq_of_cover 3 _ (fun t hf => ?_) fun i => ?_
  · rw [show (data m 0 c).flushed 3 t = pmAt m c t by rw [← left3]]
    funext j
    obtain ⟨r, l, rfl⟩ := eq_ix2 (A := 1024) (B := 1536) j
    exact (pm_at m c t r l).trans (congrArg _ (emb_block (index3 t) r l _ _)).symm
  · have h1 : (i 1 : Nat) < 4608 := (i 1).isLt
    let k : Fin 5 := if (i 1 : Nat) / 1536 = 2 then 4 else ⟨(i 1 : Nat) / 1536, by omega⟩
    have hk : min k.val 2 = (i 1 : Nat) / 1536 ∧ (k.val < 2 ∨ k.val = 4) := by
      dsimp only [k]; split
      · next h => rw [h]; decide
      · next h => dsimp only; omega
    refine ⟨pt (i 0) k, (flush3 _).mpr (by have e : (pt (i 0) k).val % 5 = k.val := pt_mod _ _; omega), ?_⟩
    show i ∈ ((View.whole main_v3_0).slice (win0_3.rect (pt (i 0) k))).set
    rw [View.set_slice_whole]
    exact mem_block i ⟨(index3 _).1.trans (pt_div _ _), (index3 _).2.trans ((congrArg (min · 2) (pt_mod (i 0) k)).trans hk.1)⟩

theorem final4 : (data m 0 c).arrAt 4 cfg0.N = gates m c := by
  refine (data m 0 c).arrAt_eq_of_cover 4 _ (fun t hf => ?_) fun i => ?_
  · rw [show (data m 0 c).flushed 4 t = pgAt m c t by rw [← left4]]
    funext j
    obtain ⟨r, l, rfl⟩ := eq_ix2 (A := 1024) (B := 1536) j
    exact (pg_at m c t ((flush4 t).mp hf) r l).trans (congrArg _ (emb_block (index4 t) r l _ _)).symm
  · have h1 : (i 1 : Nat) < 3072 := (i 1).isLt
    let k : Fin 5 := ⟨3 + (i 1 : Nat) / 1536, by omega⟩
    refine ⟨pt (i 0) k, (flush4 _).mpr ((Nat.lt_add_right _ (Nat.lt_succ_self 2)).trans_eq (pt_mod (i 0) k).symm), ?_⟩
    show i ∈ ((View.whole main_v3_1).slice (win0_4.rect (pt (i 0) k))).set
    rw [View.set_slice_whole]
    exact mem_block i ⟨(index4 _).1.trans (pt_div _ _), (index4 _).2.trans ((congrArg (· - 3) (pt_mod (i 0) k)).trans (Nat.add_sub_cancel_left ..))⟩

theorem final5 : (data m 0 c).arrAt 5 cfg0.N = nrm m c := by
  refine (data m 0 c).arrAt_eq_of_cover 5 _ (fun t hf => ?_) fun i => ⟨pt (i 0) 4, (flush0_5 _).mpr (pt_mod (i 0) 4), ?_⟩
  · rw [show (data m 0 c).flushed 5 t = hAt m c t by rw [← left5]]
    funext j
    obtain ⟨r, l, rfl⟩ := eq_ix2 (A := 1024) (B := 1024) j
    exact (h_at m c t r l).trans (congrArg _ (emb_block (index5 t) r l _ _)).symm
  · show i ∈ ((View.whole main_v3_2).slice (win0_5.rect (pt (i 0) 4))).set
    rw [View.set_slice_whole]
    exact mem_block i ⟨(index5 _).1.trans (pt_div _ _), (index5 _).2.trans (Nat.div_eq_of_lt (i 1).isLt).symm⟩

end Cert.Proof.RmfRun

namespace Cert.Proof

open Idealize.ShloMosaic Idealize.ShloMosaic.TcCoe Idealize.SL.Sem

open RmfKernelIdeal in
open RmfKernelIdeal.Gen in
open RmfFrame in
/-- The kernel's run, with each result named as the plain lines name it. -/
theorem rmf_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3_0) = RmfRun.mixed m c
      ∧ r.2.mem ((c : Thread nD τ).loc main_v3_1) = RmfRun.gates m c
      ∧ r.2.mem ((c : Thread nD τ).loc main_v3_2) = RmfRun.nrm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ hs c => by
    have h := hs.1
    exact ⟨((h c).1 3).trans (RmfRun.final3 m c), ((h c).1 4).trans (RmfRun.final4 m c), ((h c).1 5).trans (RmfRun.final5 m c),
      ((h c).1 0).trans (((data m 0 c).arrAt_in 0 rfl _).trans ((data_arr m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (runs m ρ)

theorem algebraic_RmfKernelIdeal_RmfReferenceIdeal : algebraic_RmfKernelIdeal_RmfReferenceIdeal := by
  intro m ρ m' ρ' _ hagree
  refine ⟨_, _, _, rmf_run m ρ, ?_⟩
  refine (θ_run RmfReferenceIdeal.defs _ _).mono (fun _ h c => ?_) (RmfReferenceIdeal.Value.run (F := Ideal) m' ρ')
  obtain ⟨h0, h1, h2, h3⟩ := h c
  obtain ⟨a0, a1, a2⟩ := hagree c
  rw [RmfReferenceIdeal.Read.val_main_v14_eq, a0, a1, a2] at h0
  rw [RmfReferenceIdeal.Read.val_main_v16_eq, a0, a1, a2] at h1
  rw [RmfReferenceIdeal.Read.val_main_v17_eq, a0, a1] at h2
  exact ⟨h0, h1, h2, h3⟩

end Cert.Proof

section
set_option maxRecDepth 65536
namespace Cert.Proof.RmfPlain

open RmfKernel RmfKernel.Gen
open Idealize.ShloMosaic Idealize.ShloMosaic.TcCoe Idealize.ShloMosaic.Tactic Idealize.SL.Sem

variable {F : FTy → Type} [FloatOps F]

/-- The frame: the arguments end as they were, and every counter at zero. -/
theorem frame : ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Eq.mpr (by sl_kernel_rfl) (fun m ρ => RmfFrame.frame (F := F) m ρ)

end Cert.Proof.RmfPlain
end

end
-- ==== Proof.BgfVal.lean ====
module

public import proofs.«01_k».proof.Proof.Gen.BgfReferenceIdeal.Read
public import proofs.«01_k».proof.Proof.Gen.BgfKernelIdeal.Value
public import proofs.«01_k».proof.Proof.MrgVal
public import proofs.«01_k».proof.Proof.Blocks
public import Idealize.ShloMosaic.Lib.Pointwise
public import Idealize.ShloMosaic.Lib.Tactic
public import Idealize.ShloMosaic.Lib.Pipeline.Value
public import Idealize.ShloMosaic.Lib.StableHlo.Run
public import proofs.«01_k».proof.Defs
public import proofs.«01_k».proof.Proof.Gen.BgfReferenceIdeal.Run

@[expose] public section

set_option maxRecDepth 16384

noncomputable section

namespace Cert.Proof.BgfVal

open Idealize.ShloMosaic Idealize.ShloMosaic.TcCoe Reals Blocks BgfKernelIdeal BgfKernelIdeal.Gen
open MrgVal (emb_wide ld_wide ld_weight)

theorem hz : (![0, 0] : Fin 2 → Nat) = fun _ => 0 := funext fun a => by fin_cases a <;> rfl

section Tile
variable (z : Vec Ideal S512x1536 .bf16) (w : Vec Ideal S3x512x1024 .bf16) (g : Vec Ideal S512x3072 .bf16) (x : Vec Ideal S512x1024 .f32) (o : Vec Ideal S1024x1024 .bf16)

/-- One branch's rows, column `l` of the three side by side; the gated sum; the rows after the output weight. -/
def yT (r : Fin 512) (l : Fin 3072) : EReal :=
  ∑ k : Fin 512, z (ix2 r ⟨512 * (l.val / 1024) + k.val, by omega⟩) * w (ix3 ⟨l.val / 1024, by omega⟩ k ⟨l.val % 1024, Nat.mod_lt _ (by decide)⟩)
def gT (r : Fin 512) (d : Fin 1024) (n : Fin 3) : EReal := Ideal.logistic (g (ix2 r ⟨1024 * n.val + d.val, by omega⟩)) * yT z w r ⟨1024 * n.val + d.val, by omega⟩
def mT (r : Fin 512) (d : Fin 1024) : EReal := gT z w g r d 0 + gT z w g r d 1 + gT z w g r d 2
def xT (r : Fin 512) (l : Fin 1024) : EReal := x (ix2 r l) + ∑ d : Fin 1024, mT z w g r d * o (ix2 d l)

theorem yT_block (n : Fin 3) (r : Fin 512) (d : Fin 1024) (l : Fin 3072) (hl : l.val = 1024 * n.val + d.val) :
    yT z w r l = ∑ k : Fin 512, z (ix2 r ⟨512 * n.val + k.val, by omega⟩) * w (ix3 n k d) := by
  have h1 : (⟨l.val / 1024, by omega⟩ : Fin 3) = n := Fin.ext (by show l.val / 1024 = n.val; omega)
  have h2 : (⟨l.val % 1024, Nat.mod_lt _ (by decide)⟩ : Fin 1024) = d := Fin.ext (by show l.val % 1024 = d.val; omega)
  rw [yT, h1, h2]
  exact Finset.sum_congr rfl fun k _ => congrArg (fun q => z (ix2 r q) * w (ix3 n k d)) (Fin.ext (by show 512 * (l.val / 1024) + k.val = 512 * n.val + k.val; omega))

theorem ld_z (n : ℕ) (inb : ∀ a, (![0, n] : Fin 2 → Nat) a + (![512, 512] : Fin 2 → Nat) a ≤ S512x1536.size a) (r k : Fin 512) (h : n + k.val < 1536) :
    View.ld z (Rect.unit (s := S512x1536) ![0, n] ![512, 512] inb) (ix2 r k) = z (ix2 r ⟨n + k.val, h⟩) := by
  show z ((Rect.unit (s := S512x1536) ![0, n] ![512, 512] inb).emb (ix2 r k)) = _
  exact congrArg z (funext fun a => Fin.ext (by
    match a with
    | ⟨0, _⟩ => show 0 + 1 * r.val = r.val; omega
    | ⟨1, _⟩ => show n + 1 * k.val = n + k.val; omega))

/-- A branch's product over any loaded tiles. -/
theorem prod_at (a : Vec Ideal S512x512 .bf16) (b : Vec Ideal S1x512x1024 .bf16) (r : Fin 512) (l : Fin 1024) :
    k0_pay3 (F := Ideal) a b (ix2 r l) = ∑ k : Fin 512, a (ix2 r k) * b (ix3 0 k l) := by
  pointwise [k0_pay3]

theorem y0 (r : Fin 512) (d : Fin 1024) : k0_pay3 (F := Ideal) (View.ld z r0_0) (View.ld w r0_1) (ix2 r d) = yT z w r ⟨1024 * 0 + d.val, by omega⟩ := by
  rw [prod_at, yT_block z w 0 r d _ rfl]
  exact Finset.sum_congr rfl fun k _ => congrArg₂ (· * ·) (ld_z z 0 _ r k (by omega)) (ld_weight w 0 _ k d (by omega))
theorem y1 (r : Fin 512) (d : Fin 1024) : k0_pay5 (F := Ideal) (View.ld z r0_3) (View.ld w r0_4) (ix2 r d) = yT z w r ⟨1024 * 1 + d.val, by omega⟩ := by
  refine (prod_at _ _ r d).trans ?_
  rw [yT_block z w 1 r d _ rfl]
  exact Finset.sum_congr rfl fun k _ => congrArg₂ (· * ·) (ld_z z 512 _ r k (by omega)) (ld_weight w 1 _ k d (by omega))
theorem y2 (r : Fin 512) (d : Fin 1024) : k0_pay8 (F := Ideal) (View.ld z r0_6) (View.ld w r0_7) (ix2 r d) = yT z w r ⟨1024 * 2 + d.val, by omega⟩ := by
  refine (prod_at _ _ r d).trans ?_
  rw [yT_block z w 2 r d _ rfl]
  exact Finset.sum_congr rfl fun k _ => congrArg₂ (· * ·) (ld_z z 1024 _ r k (by omega)) (ld_weight w 2 _ k d (by omega))

theorem out5_at (r : Fin 512) (l : Fin 3072) : out0_5 (F := Ideal) z w g x o (ix2 r l) = yT z w r l := by
  refine (View.canon_apply_of_pieces (Val := Elt Ideal) (fun y => yT z w (y 0) (y 1)) _ ?_ (ix2 r l) (cover0_5 _ _ _ _)).trans rfl
  intro p hp y
  simp only [List.mem_cons, List.not_mem_nil, or_false] at hp
  rcases hp with rfl | rfl | rfl
  all_goals obtain ⟨r, k, rfl⟩ := eq_ix2 (A := 512) (B := 1024) y
  · exact (y2 z w r k).trans (congrArg (fun q : S512x3072.Idx => yT z w (q 0) (q 1)) (emb_wide 2048 inb_S512x3072_S512x1024_0_2048 r k (by omega))).symm
  · exact (y1 z w r k).trans (congrArg (fun q : S512x3072.Idx => yT z w (q 0) (q 1)) (emb_wide 1024 inb_S512x3072_S512x1024_0_1024 r k (by omega))).symm
  · exact (y0 z w r k).trans (congrArg (fun q : S512x3072.Idx => yT z w (q 0) (q 1)) (emb_wide 0 inb_S512x3072_S512x1024_0_0 r k (by omega))).symm

theorem merged_at (r : Fin 512) (d : Fin 1024) :
    k0_pay1 (F := Ideal) (k0_pay10 z w g x o) (k0_pay11 z w g x o) (View.ld g r0_8) (ix2 r d) = mT z w g r d := by
  have e0 := y0 z w r d
  have e1 := y1 z w r d
  have e2 := y2 z w r d
  have g0 := ld_wide g 0 inb_S512x3072_S512x1024_0_0 r d (by omega)
  have g1 := ld_wide g 1024 inb_S512x3072_S512x1024_0_1024 r d (by omega)
  have g2 := ld_wide g 2048 inb_S512x3072_S512x1024_0_2048 r d (by omega)
  unfold k0_pay1 k0_pay10 k0_pay11 k0_pay7
  generalize k0_pay3 (F := Ideal) (View.ld z r0_0) (View.ld w r0_1) = a0 at e0 ⊢
  generalize k0_pay5 (F := Ideal) (View.ld z r0_3) (View.ld w r0_4) = a1 at e1 ⊢
  generalize k0_pay8 (F := Ideal) (View.ld z r0_6) (View.ld w r0_7) = a2 at e2 ⊢
  generalize View.ld g r0_2 = b0 at g0 ⊢
  generalize View.ld g r0_5 = b1 at g1 ⊢
  generalize View.ld g r0_8 = b2 at g2 ⊢
  pointwise []
  rw [e0, e1, e2, g0, g1, g2]
  rfl

theorem out6_at (r : Fin 512) (d : Fin 1024) : out0_6 (F := Ideal) z w g x o (ix2 r d) = mT z w g r d := by
  unfold out0_6
  rw [View.canon_unit_zero hz]
  exact merged_at z w g x o r d

theorem out7_at (r : Fin 512) (l : Fin 1024) : out0_7 (F := Ideal) z w g x o (ix2 r l) = xT z w g x o r l := by
  have e := merged_at z w g x o r
  unfold out0_7
  rw [View.canon_unit_zero hz, View.ld_unit_zero (S := S512x1024) hz, View.ld_unit_zero (S := S1024x1024) hz]
  unfold k0_pay2
  generalize k0_pay1 (F := Ideal) (k0_pay10 z w g x o) (k0_pay11 z w g x o) (View.ld g r0_8) = a at e ⊢
  pointwise []
  simp only [e]
  rfl
end Tile

section Ref
open BgfReferenceIdeal.Read
variable (z : Vec Ideal S2048x1536 .f32) (w : Vec Ideal S3x512x1024 .f32) (g : Vec Ideal S2048x3072 .f32) (x : Vec Ideal S2048x1024 .f32) (o : Vec Ideal S1024x1024 .f32)

/-- The reference's three arrays: the branches' rows, the gated sum, the rows after the output weight. -/
def yR (r : Fin 2048) (n : Fin 3) (d : Fin 1024) : EReal := ∑ k : Fin 512, z (ix2 r ⟨512 * n.val + k.val, by omega⟩) * w (ix3 n k d)
def mR (r : Fin 2048) (d : Fin 1024) : EReal := ∑ n : Fin 3, Ideal.logistic (g (ix2 r ⟨1024 * n.val + d.val, by omega⟩)) * yR z w r n d

theorem v2_at (r : Fin 2048) (n : Fin 3) (d : Fin 1024) : val_main_v2 (F := Ideal) z w (ix3 r n d) = yR z w r n d := by
  pointwise [val_main_v2, val_main_v1, val_main_v0]
  exact Finset.sum_congr rfl fun k _ => (mul_comm _ _).trans (congrArg (fun q => z (ix2 r q) * w (ix3 n k d)) (Fin.ext (by simp; omega)))

theorem v13_at (r : Fin 2048) (n : Fin 3) (d : Fin 1024) (l : Fin 3072) (hl : l.val = 1024 * n.val + d.val) :
    val_main_v13 (F := Ideal) z w (ix2 r l) = yR z w r n d := by
  rw [← v2_at]
  unfold val_main_v13 val_main_v12
  generalize val_main_v2 (F := Ideal) z w = a
  pointwise []
  exact congrArg a (funext fun x => Fin.ext (by
    match x with
    | ⟨0, _⟩ => rfl
    | ⟨1, _⟩ => show l.val / 1024 = n.val; omega
    | ⟨2, _⟩ => show l.val % 1024 = d.val; omega))

theorem v11_at (r : Fin 2048) (d : Fin 1024) : val_main_v11 (F := Ideal) z w g (ix2 r d) = mR z w g r d := by
  have e := v2_at z w r
  unfold val_main_v11 val_main_v10 val_main_v9
  generalize val_main_v2 (F := Ideal) z w = a at e ⊢
  pointwise [val_main_v8, val_main_v7, val_main_cst_0, val_main_v6, val_main_v5, val_main_cst, val_main_v4, val_main_v3, val_main_cst_1]
  exact Finset.sum_congr rfl fun n _ => congrArg₂ (· * ·)
    (congrArg (fun q => Ideal.logistic (g (ix2 r q))) (Fin.ext (by show n.val * 1024 + d.val = 1024 * n.val + d.val; omega))) (e n d)

theorem v16_at (r : Fin 2048) (l : Fin 1024) : val_main_v16 (F := Ideal) z w g x o (ix2 r l) = x (ix2 r l) + ∑ d : Fin 1024, mR z w g r d * o (ix2 d l) := by
  have e := v11_at z w g r
  unfold val_main_v16 val_main_v15
  generalize val_main_v11 (F := Ideal) z w g = a at e ⊢
  pointwise []
  simp only [e]

theorem v14_at (r : Fin 2048) (d : Fin 1024) : val_main_v14 (F := Ideal) z w g (ix2 r d) = mR z w g r d := by
  rw [← v11_at]
  unfold val_main_v14
  pointwise []
end Ref

section Run
open BgfReferenceIdeal.Read
variable (m : (ℓ : Loc nD τ sig) → Buf (Elt Ideal) ℓ) (c : Dev nD)

/-- The arguments: the mixers' rows, the branches' weights, the gates before their sigmoid, the rows added to, the output weight. -/
abbrev az : Vec Ideal S2048x1536 .f32 := m ((c : Thread nD τ).loc main_arg0)
abbrev aw : Vec Ideal S3x512x1024 .f32 := m ((c : Thread nD τ).loc main_arg1)
abbrev ag : Vec Ideal S2048x3072 .f32 := m ((c : Thread nD τ).loc main_arg2)
abbrev ax : Vec Ideal S2048x1024 .f32 := m ((c : Thread nD τ).loc main_arg3)
abbrev ao : Vec Ideal S1024x1024 .f32 := m ((c : Thread nD τ).loc main_arg4)

theorem V_v0 : V m c main_v0 = az m c := by
  unfold_abbrev_sides
  after_results
  rfl
theorem V_v1 : V m c main_v1 = aw m c := by
  unfold_abbrev_sides
  after_results
  rfl
theorem V_v2 : V m c main_v2 = ag m c := by
  unfold_abbrev_sides
  after_results
  rfl
theorem V_v3 : V m c main_v3 = ao m c := by
  unfold_abbrev_sides
  after_results
  rfl

def row (t : Fin cfg0.N) (r : Fin 512) : Fin 2048 := ⟨512 * t.val + r.val, by have := t.isLt; have : cfg0.N = 4 := N_0; omega⟩

/-- Where point `t`'s blocks begin: at its own rows, or at the array's first entry. -/
theorem starts (t : Fin cfg0.N) :
    (win0_0.index t 0 = t.val ∧ win0_0.index t 1 = 0) ∧ (win0_2.index t 0 = t.val ∧ win0_2.index t 1 = 0)
    ∧ (win0_3.index t 0 = t.val ∧ win0_3.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_4.index t 0 = 0 ∧ win0_4.index t 1 = 0) ∧ (∀ a, win0_1.index t a = 0) := by
  rcases fin_N0 t with rfl | rfl | rfl | rfl <;> decide

theorem iblk0 (t : Fin cfg0.N) (r : Fin 512) (l : Fin 1536) : iblk m c 0 t (ix2 r l) = az m c (ix2 (row t r) l) :=
  (congrArg (V m c main_v0) (emb_block (starts t).1 r l _ _)).trans (congrFun (V_v0 m c) _)
theorem iblk2 (t : Fin cfg0.N) (r : Fin 512) (l : Fin 3072) : iblk m c 2 t (ix2 r l) = ag m c (ix2 (row t r) l) :=
  (congrArg (V m c main_v2) (emb_block (starts t).2.1 r l _ _)).trans (congrFun (V_v2 m c) _)
theorem iblk3 (t : Fin cfg0.N) (r : Fin 512) (l : Fin 1024) : iblk m c 3 t (ix2 r l) = ax m c (ix2 (row t r) l) :=
  (congrArg (V m c main_arg3) (emb_block (starts t).2.2.1 r l _ _)).trans (congrFun (V_main_arg3 m c) _)
theorem iblk4 (t : Fin cfg0.N) (r l : Fin 1024) : iblk m c 4 t (ix2 r l) = ao m c (ix2 r l) :=
  (congrArg (V m c main_v3) (emb_block (starts t).2.2.2.2.2.2.1 r l _ _)).trans (congrFun (V_v3 m c) _)
theorem iblk1 (t : Fin cfg0.N) (n : Fin 3) (k : Fin 512) (l : Fin 1024) : iblk m c 1 t (ix3 n k l) = aw m c (ix3 n k l) := by
  have hi := (starts t).2.2.2.2.2.2.2
  unfold iblk
  rw [View.read_apply]
  show V m c main_v1 _ = _
  rw [V_v1]
  congr 1
  funext a
  apply Fin.ext
  match a with
  | ⟨0, _⟩ => show win0_1.index t 0 * 3 + 1 * n.val = n.val; rw [hi 0]; omega
  | ⟨1, _⟩ => show win0_1.index t 1 * 512 + 1 * k.val = k.val; rw [hi 1]; omega
  | ⟨2, _⟩ => show win0_1.index t 2 * 1024 + 1 * l.val = l.val; rw [hi 2]; omega

/-- A tile's three arrays are the reference's at the tile's rows. -/
theorem tile_y (t : Fin cfg0.N) (n : Fin 3) (r : Fin 512) (d : Fin 1024) (l : Fin 3072) (hl : l.val = 1024 * n.val + d.val) :
    yT (iblk m c 0 t) (iblk m c 1 t) r l = yR (az m c) (aw m c) (row t r) n d := by
  rw [yT_block _ _ n r d l hl, yR]
  simp only [iblk0, iblk1]
theorem tile_m (t : Fin cfg0.N) (r : Fin 512) (d : Fin 1024) :
    mT (iblk m c 0 t) (iblk m c 1 t) (iblk m c 2 t) r d = mR (az m c) (aw m c) (ag m c) (row t r) d := by
  rw [mR, Fin.sum_univ_three, mT]
  simp only [gT, iblk2]
  rw [tile_y m c t 0 r d _ rfl, tile_y m c t 1 r d _ rfl, tile_y m c t 2 r d _ rfl]
theorem tile_5 (t : Fin cfg0.N) (r : Fin 512) (l : Fin 3072) :
    yT (iblk m c 0 t) (iblk m c 1 t) r l = val_main_v13 (F := Ideal) (az m c) (aw m c) (ix2 (row t r) l) := by
  have h : l.val = 1024 * (l.val / 1024) + l.val % 1024 := by omega
  rw [tile_y m c t ⟨l.val / 1024, by omega⟩ r ⟨l.val % 1024, Nat.mod_lt _ (by decide)⟩ l h, v13_at _ _ _ ⟨l.val / 1024, by omega⟩ ⟨l.val % 1024, Nat.mod_lt _ (by decide)⟩ l h]
theorem tile_7 (t : Fin cfg0.N) (r : Fin 512) (l : Fin 1024) :
    xT (iblk m c 0 t) (iblk m c 1 t) (iblk m c 2 t) (iblk m c 3 t) (iblk m c 4 t) r l
      = val_main_v16 (F := Ideal) (az m c) (aw m c) (ag m c) (ax m c) (ao m c) (ix2 (row t r) l) := by
  rw [xT, v16_at]
  simp only [tile_m, iblk3, iblk4]

/-- The point that writes row `i`. -/
def point (i : Fin 2048) : Fin cfg0.N := ⟨i.val / 512, by have : cfg0.N = 4 := N_0; omega⟩

theorem final5 : (dats m 0 c).arrAt 5 cfg0.N = val_main_v13 (F := Ideal) (az m c) (aw m c) := by
  refine (dats m 0 c).arrAt_eq_of_cover 5 _ (fun t _ => ?_) fun i => ⟨point (i 0), flush0_5 _, ?_⟩
  · rw [Value.flushed5 m c t]
    funext j
    obtain ⟨r, l, rfl⟩ := eq_ix2 (A := 512) (B := 3072) j
    refine ((out5_at (iblk m c 0 t) (iblk m c 1 t) (iblk m c 2 t) (iblk m c 3 t) (iblk m c 4 t) r l).trans (tile_5 m c t r l)).trans ?_
    exact (congrArg _ (emb_block (starts t).2.2.2.1 r l _ _)).symm
  · show i ∈ ((View.whole main_v4_0).slice (win0_5.rect (point (i 0)))).set
    rw [View.set_slice_whole]
    have h1 := (i 1).isLt
    exact mem_block i ⟨(starts (point (i 0))).2.2.2.1.1, (starts (point (i 0))).2.2.2.1.2.trans (Nat.div_eq_of_lt h1).symm⟩

theorem final6 : (dats m 0 c).arrAt 6 cfg0.N = val_main_v14 (F := Ideal) (az m c) (aw m c) (ag m c) := by
  refine (dats m 0 c).arrAt_eq_of_cover 6 _ (fun t _ => ?_) fun i => ⟨point (i 0), flush0_6 _, ?_⟩
  · rw [Value.flushed6 m c t]
    funext j
    obtain ⟨r, l, rfl⟩ := eq_ix2 (A := 512) (B := 1024) j
    refine ((out6_at (iblk m c 0 t) (iblk m c 1 t) (iblk m c 2 t) (iblk m c 3 t) (iblk m c 4 t) r l).trans ((tile_m m c t r l).trans (v14_at _ _ _ _ _).symm)).trans ?_
    exact (congrArg _ (emb_block (starts t).2.2.2.2.1 r l _ _)).symm
  · show i ∈ ((View.whole main_v4_1).slice (win0_6.rect (point (i 0)))).set
    rw [View.set_slice_whole]
    have h1 := (i 1).isLt
    exact mem_block i ⟨(starts (point (i 0))).2.2.2.2.1.1, (starts (point (i 0))).2.2.2.2.1.2.trans (Nat.div_eq_of_lt h1).symm⟩

theorem final7 : (dats m 0 c).arrAt 7 cfg0.N = val_main_v16 (F := Ideal) (az m c) (aw m c) (ag m c) (ax m c) (ao m c) := by
  refine (dats m 0 c).arrAt_eq_of_cover 7 _ (fun t _ => ?_) fun i => ⟨point (i 0), flush0_7 _, ?_⟩
  · rw [Value.flushed7 m c t]
    funext j
    obtain ⟨r, l, rfl⟩ := eq_ix2 (A := 512) (B := 1024) j
    refine ((out7_at (iblk m c 0 t) (iblk m c 1 t) (iblk m c 2 t) (iblk m c 3 t) (iblk m c 4 t) r l).trans (tile_7 m c t r l)).trans ?_
    exact (congrArg _ (emb_block (starts t).2.2.2.2.2.1 r l _ _)).symm
  · show i ∈ ((View.whole main_v4_2).slice (win0_7.rect (point (i 0)))).set
    rw [View.set_slice_whole]
    have h1 := (i 1).isLt
    exact mem_block i ⟨(starts (point (i 0))).2.2.2.2.2.1.1, (starts (point (i 0))).2.2.2.2.2.1.2.trans (Nat.div_eq_of_lt h1).symm⟩

end Run

end Cert.Proof.BgfVal

namespace Cert.Proof

open Idealize.ShloMosaic Idealize.ShloMosaic.TcCoe Idealize.SL.Sem

open BgfKernelIdeal BgfKernelIdeal.Gen BgfReferenceIdeal.Read in
/-- The kernel's run, with each result named as the reference names it. -/
theorem bgf_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4_0) = val_main_v13 (F := Ideal) (BgfVal.az m c) (BgfVal.aw m c)
      ∧ r.2.mem ((c : Thread nD τ).loc main_v4_1) = val_main_v14 (F := Ideal) (BgfVal.az m c) (BgfVal.aw m c) (BgfVal.ag m c)
      ∧ r.2.mem ((c : Thread nD τ).loc main_v4_2) = val_main_v16 (F := Ideal) (BgfVal.az m c) (BgfVal.aw m c) (BgfVal.ag m c) (BgfVal.ax m c) (BgfVal.ao m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, h1, h2, h3⟩ := h c
    exact ⟨h0.trans (BgfVal.final5 m c), h1.trans (BgfVal.final6 m c), h2.trans (BgfVal.final7 m c), h3⟩)
    (BgfKernelIdeal.Value.run_blocks (F := Ideal) m ρ)

theorem algebraic_BgfKernelIdeal_BgfReferenceIdeal : algebraic_BgfKernelIdeal_BgfReferenceIdeal := by
  intro m ρ m' ρ' _ hagree
  refine ⟨_, _, _, bgf_run m ρ, ?_⟩
  refine (θ_run BgfReferenceIdeal.defs _ _).mono (fun _ h c => ?_) (BgfReferenceIdeal.Value.run (F := Ideal) m' ρ')
  obtain ⟨h0, h1, h2, h3⟩ := h c
  obtain ⟨a0, a1, a2, a3, a4⟩ := hagree c
  rw [BgfReferenceIdeal.Read.val_main_v13_eq, a0, a1] at h0
  rw [BgfReferenceIdeal.Read.val_main_v14_eq, a0, a1, a2] at h1
  rw [BgfReferenceIdeal.Read.val_main_v16_eq, a0, a1, a2, a3, a4] at h2
  exact ⟨h0, h1, h2, h3⟩

end Cert.Proof

end
-- ==== Proof.LbfVal.lean ====
/-
  The layer bounds: the softmax over the four layers, then the running sum less the first layer's share.
-/
module

public import proofs.«01_k».proof.Proof.Gen.LbfReferenceIdeal.Read
public import proofs.«01_k».proof.Proof.Gen.LbfKernelIdeal.Value
public import proofs.«01_k».proof.Proof.LbVal
public import proofs.«01_k».proof.Defs
public import proofs.«01_k».proof.Proof.Gen.LbfReferenceIdeal.Run
public import proofs.«01_k».proof.Proof.Gen.Pre_lbf_finite

@[expose] public section

set_option maxRecDepth 16384

noncomputable section

namespace Cert.Proof.LbfVal

open Idealize.ShloMosaic Reals LbVal
open scoped BigOperators

/-- The bound of layer `l`: the shares of the layers after the first, up to it. -/
def bound (x : Fin 4 → ℝ) : Fin 4 → ℝ := ![0, sm x 1, sm x 1 + sm x 2, sm x 1 + sm x 2 + sm x 3]

section Reference
open LbfReferenceIdeal LbfReferenceIdeal.Gen LbfReferenceIdeal.Read

variable (x : S4x512.Idx → ℝ)

theorem top_real (j : S512.Idx) : ∃ M : ℝ, val_main_v2 (F := Ideal) (up x) j = M := by
  rw [val_main_v2_apply, val_main_v1_apply, val_main_cst_0_apply]
  unfold val_main_v0 Host.reduce
  pointwise [val_main_cst]
  rw [ofBits_ninf, max_eq_right bot_le]
  refine foldl_max_bot _ _ (List.ne_nil_of_mem (a := S4x512.rowMajor (ix2 0 (j 0))) (List.mem_filter.2 ⟨List.mem_finRange _, ?_⟩))
  rw [Equiv.symm_apply_apply, decide_eq_true_eq]
  exact funext fun a => Fin.ext (by match a with | ⟨0, _⟩ => rfl)

theorem share_eq (l : Fin 4) (j : Fin 512) : val_main_v10 (F := Ideal) (up x) (ix2 l j) = (sm (fun k => x (ix2 k j)) l : ℝ) := by
  obtain ⟨M, hM⟩ := top_real x (ix1 j)
  have hs := (sum_exp_pos fun k => x (ix2 k j) - M).ne'
  have e (k : Fin 4) : val_main_v6 (F := Ideal) (up x) (ix2 k j) = (Real.exp (x (ix2 k j) - M) : ℝ) := by
    pointwise [val_main_v6, val_main_v5, val_main_v4, val_main_v3]
    rw [hM, up, sub_up, exp_up]
  unfold val_main_v10 val_main_v9 val_main_v8 val_main_v7
  generalize val_main_v6 (F := Ideal) (up x) = a at e ⊢
  pointwise [val_main_cst_1]
  simp only [e, sum_up, div_up _ hs]
  exact congrArg _ (sm_shift (fun k => x (ix2 k j)) M l)

theorem runsum (y : S4x512.Idx → EReal) (l : Fin 4) (j : Fin 512) :
    Host.reduceWindow (· + ·) ![4, 1] ![1, 1] ![3, 0] ![0, 0] y (fun _ : (⟨0, ![]⟩ : Shape).Idx => 0)
      reduceWindows_S4x512_S4x512_w4s1p3_0_w1s1p0_0 (by decide) (ix2 l j)
    = (![y (ix2 0 j), y (ix2 0 j) + y (ix2 1 j), y (ix2 0 j) + y (ix2 1 j) + y (ix2 2 j), y (ix2 0 j) + y (ix2 1 j) + y (ix2 2 j) + y (ix2 3 j)] : Fin 4 → EReal) l := by
  unfold Host.reduceWindow
  dsimp only
  rw [foldl_four (by decide +kernel)]
  fin_cases l <;> simp [place]
  all_goals repeat' apply congrArg₂ (· + ·)
  all_goals exact congrArg y (funext fun a => Fin.ext (by match a with | ⟨0, _⟩ => rfl | ⟨1, _⟩ => simp))

theorem v11_eq (l : Fin 4) (j : Fin 512) : val_main_v11 (F := Ideal) (up x) (ix2 l j)
    = ((![sm (fun k => x (ix2 k j)) 0, sm (fun k => x (ix2 k j)) 0 + sm (fun k => x (ix2 k j)) 1, sm (fun k => x (ix2 k j)) 0 + sm (fun k => x (ix2 k j)) 1 + sm (fun k => x (ix2 k j)) 2,
        sm (fun k => x (ix2 k j)) 0 + sm (fun k => x (ix2 k j)) 1 + sm (fun k => x (ix2 k j)) 2 + sm (fun k => x (ix2 k j)) 3] : Fin 4 → ℝ) l : ℝ) := by
  have h0 : val_main_call0_call0_v0 (F := Ideal) = fun _ => 0 := funext fun i => by
    pointwise [val_main_call0_call0_v0, val_main_call0_call0_cst]
  rw [val_main_v11, h0]
  refine (runsum _ l j).trans ?_
  simp only [share_eq]
  fin_cases l <;> simp

theorem ref_eq (l : Fin 4) (j : Fin 512) : val_main_v16 (F := Ideal) (up x) (ix2 l j) = (bound (fun k => x (ix2 k j)) l : ℝ) := by
  have e := v11_eq x
  unfold val_main_v16 val_main_v15 val_main_v14 val_main_v13 val_main_v12
  generalize val_main_v11 (F := Ideal) (up x) = a at e ⊢
  pointwise []
  simp only [e, share_eq, sub_up, bound]
  refine congrArg _ ?_
  fin_cases l <;> simp <;> ring_nf

end Reference

section Kernel
open LbfKernelIdeal LbfKernelIdeal.Gen LbfKernelIdeal.Value

variable (x : S4x512.Idx → ℝ)

/-- The four rows the kernel stores, as one array. -/
def rows (i : S4x512.Idx) : EReal := (bound (fun k => x (ix2 k (i 1))) (i 0) : ℝ)

theorem kernel_eq (i : S4x512.Idx) : G1 (F := Ideal) (up x) i = rows x i := by
  refine View.canon_apply_of_pieces (Val := Elt Ideal) (rows x) _ ?_ i (cover0_1 _ _ _ _ i)
  have emb : ∀ j : Fin 512, r0_0.emb (ix2 0 j) = ix2 0 j ∧ r0_1.emb (ix2 0 j) = ix2 1 j ∧ r0_2.emb (ix2 0 j) = ix2 2 j ∧ r0_3.emb (ix2 0 j) = ix2 3 j := fun j => by
    refine ⟨?_, ?_, ?_, ?_⟩ <;> exact funext fun a => Fin.ext (by match a with | ⟨0, _⟩ => rfl | ⟨1, _⟩ => simp)
  intro p hp k
  simp only [List.mem_cons, List.not_mem_nil, or_false] at hp
  rcases hp with rfl | rfl | rfl | rfl
  all_goals
    idx_vars k
    obtain rfl : k0 = 0 := Subsingleton.elim _ _
    obtain ⟨e0, e1, e2, e3⟩ := emb k1
    have hs : ∀ M : ℝ, Real.exp (x (ix2 0 k1) - M) + Real.exp (x (ix2 1 k1) - M) + Real.exp (x (ix2 2 k1) - M) + Real.exp (x (ix2 3 k1) - M) ≠ 0 := fun M => by
      rw [← Fin.sum_univ_four fun k => Real.exp (x (ix2 k k1) - M)]; exact (sum_exp_pos fun k => x (ix2 k k1) - M).ne'
    simp only [e0, e1, e2, e3, rows]
    pointwise [k0_pay9, k0_pay8, k0_pay7, k0_pay6, k0_pay5, k0_pay4, k0_pay3, k0_pay2, k0_pay1, e0, e1, e2, e3]
    simp only [up, max_up, sub_up, exp_up, add_up, div_up _ (hs _), zero_up]
    simp only [bound, ← sm_shift _ (max (max (max (x (ix2 0 k1)) (x (ix2 1 k1))) (x (ix2 2 k1))) (x (ix2 3 k1))), Fin.sum_univ_four]
    try simp

end Kernel

open LbfReferenceIdeal in
/-- Kernel and reference agree wherever the array is real. -/
theorem value_eq (a : S4x512.Idx → EReal) (ha : ∀ i, ∃ r : ℝ, a i = r) :
    LbfKernelIdeal.Value.G1 (F := Ideal) a = LbfReferenceIdeal.Read.val_main_v16 (F := Ideal) a := by
  obtain ⟨x, rfl⟩ := exists_up ha
  funext i
  rw [kernel_eq]
  idx_vars i
  exact (ref_eq x i0 i1).symm

end Cert.Proof.LbfVal

namespace Cert.Proof

open Idealize.ShloMosaic Idealize.SL.Sem Reals

theorem algebraic_LbfKernelIdeal_LbfReferenceIdeal : algebraic_LbfKernelIdeal_LbfReferenceIdeal_pre_lbf_finite := by
  intro m ρ m' ρ' hpre hagree
  refine ⟨_, LbfKernelIdeal.Value.run (F := Ideal) m ρ, ?_⟩
  refine (θ_run LbfReferenceIdeal.defs _ _).mono (fun _ h c => ⟨?_, (h c).2⟩) (LbfReferenceIdeal.Value.run (F := Ideal) m' ρ')
  rw [(h c).1, LbfReferenceIdeal.Read.val_main_v16_eq, hagree c]
  exact (LbfVal.value_eq _ fun i => exists_real ofBits_inf (congrFun (hpre c) i)).symm

end Cert.Proof

end
-- ==== Proof.MxbFrame.lean ====
module

public import proofs.«01_k».proof.Proof.Gen.MxbKernelIdeal.Frame.RunC
public import Idealize.ShloMosaic.Lib.Claim
public import Idealize.ShloMosaic.Lib.Pipeline.Value

/-! The frame of the mixer's backward kernel: its eight points, last tile first, and what it carries from one point
to the next (two running sums, the state's gradient, the rows of the convolution's gradient that reach into the
next tile and the bias sums).  `St` names what a point leaves; the case of a point is first, middle or last. -/

@[expose] public section

set_option maxRecDepth 16384

noncomputable section

namespace Cert.Proof.MxbFrame

open MxbKernelIdeal MxbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ
local notation:max "own" c:max x:max v:max => owns (c : Thread nD τ) x fullShare v

variable (m : (ℓ : Loc nD τ sig) → Buf (Elt F) ℓ) (ρ : Dev nD → PrngReg)

/-- What a point leaves: the four output blocks and the three scratch buffers later points read. -/
structure St (F : FTy → Type) where
  dp : Vec F S256x4608 .bf16
  vecs : Vec F S8x512 .f32
  dw : Vec F S4x128x128 .f32
  db : Vec F S128x4 .f32
  st : Vec F S4x128x128 .f32
  dy : Vec F S264x512 .f32
  acc : Vec F S128x512 .f32

theorem lt8 (t : Fin cfg0.N) : t.val < 8 := lt_of_lt_of_eq t.isLt (show cfg0.N = 8 from N_0)

/-- A whole buffer under pieces that cover it holds what any other buffer under them holds. -/
theorem owns_covered {S : Shape} {e : EltTy} (c : Dev nD) (mr : Memref sig .tc .vmem S e) (v : View sig .tc .vmem S e)
    (L : List (View.Piece (Elt F) S e)) (h : ∀ y, ∃ pc ∈ L, y ∈ pc.1.set) :
    iprop(∃ f, (mr.view.loc (c : Thread nD τ) ↦[mr.view.set]{fullShare} mr.view.writes (Elt F) f L))
      ⊢ (own c mr (v.read (Elt F) (v.writes (Elt F) v.junk L)) : sProp 𝕄) := by
  iintro ⟨%f, H⟩
  unfold owns; iexists _; isplitr
  swap; · iexact H
  ipureintro; exact View.read_writes_of_cover _ _ _ _ _ h

/-! ## The first point -/

variable (c : Dev nD) (t : Fin cfg0.N)

local notation "onBufs" f:max => f c (grid0.coords t)
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t)
    (hs0_14 t) (ms0_15 t) (hs0_15 t) (ms0_16 t) (hs0_16 t) (ms0_17 t) (hs0_17 t) (ms0_18 t) (hs0_18 t)
    (ms0_19 t) (hs0_19 t) (ms0_20 t) (hs0_20 t) (ms0_21 t) (hs0_21 t) (ms0_22 t) (hs0_22 t) (ms0_23 t)
    (hs0_23 t) (ms0_24 t) (hs0_24 t)
    scM0_0 (Memref.isWhole_whole _) scM0_1 (Memref.isWhole_whole _) scM0_2 (Memref.isWhole_whole _) scM0_3
    (Memref.isWhole_whole _)

local notation "onBlks" f:max => f
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)
    (iblk m c 13 t) (iblk m c 14 t) (iblk m c 15 t) (iblk m c 16 t) (iblk m c 17 t) (iblk m c 18 t)
    (iblk m c 19 t) (iblk m c 20 t)

/-- The body's run at the first point. -/
def runA (h0 : t.val % 8 = 0) (h1 : ¬t.val % 8 = 7) :=
  (onBlks ((onBufs (kernelRun0_A (F := F))) ((hcond0_0 t).mpr h0) (fun h => h1 ((hcond0_1 t).mp h))))

/-- What that run leaves. -/
def stA (h0 : t.val % 8 = 0) (h1 : ¬t.val % 8 = 7) : St F where
  dp := VO0_21.read (Elt F) (VO0_21.writes (Elt F) VO0_21.junk (runA m c t h0 h1).1)
  vecs := VO0_22.read (Elt F) (VO0_22.writes (Elt F) VO0_22.junk (runA m c t h0 h1).2.1)
  dw := VO0_23.read (Elt F) (VO0_23.writes (Elt F) VO0_23.junk (runA m c t h0 h1).2.2.1)
  db := VO0_24.read (Elt F) (VO0_24.writes (Elt F) VO0_24.junk (runA m c t h0 h1).2.2.2.1)
  st := VS0_0.read (Elt F) (VS0_0.writes (Elt F) VS0_0.junk (runA m c t h0 h1).2.2.2.2.1)
  dy := VS0_2.read (Elt F) (VS0_2.writes (Elt F) VS0_2.junk (runA m c t h0 h1).2.2.2.2.2.1)
  acc := VS0_3.read (Elt F) (VS0_3.writes (Elt F) VS0_3.junk (runA m c t h0 h1).2.2.2.2.2.2.1)

section
variable (h0 : t.val % 8 = 0) (h1 : ¬t.val % 8 = 7)

theorem fullA_dp (y : S256x4608.Idx) :
    ∃ pc ∈ (runA m c t h0 h1).1, y ∈ pc.1.set :=
  View.cover_of_tiledBy (runA m c t h0 h1).1 ![64, 128] (by sl_kernel_rfl) y

theorem fullA_vecs (y : S8x512.Idx) :
    ∃ pc ∈ (runA m c t h0 h1).2.1, y ∈ pc.1.set :=
  View.cover_of_tiledBy (runA m c t h0 h1).2.1 ![1, 512] (by sl_kernel_rfl) y

theorem fullA_dw (y : S4x128x128.Idx) :
    ∃ pc ∈ (runA m c t h0 h1).2.2.1, y ∈ pc.1.set :=
  View.cover_of_tiledBy (runA m c t h0 h1).2.2.1 ![1, 128, 128] (by sl_kernel_rfl) y

theorem fullA_st (y : S4x128x128.Idx) :
    ∃ pc ∈ (runA m c t h0 h1).2.2.2.2.1, y ∈ pc.1.set :=
  View.cover_of_wholeMem (runA m c t h0 h1).2.2.2.2.1 (by unfold runA; sl_whole_mem) y

theorem fullA_dy (y : S264x512.Idx) :
    ∃ pc ∈ (runA m c t h0 h1).2.2.2.2.2.1, y ∈ pc.1.set :=
  View.cover_of_tiledBy (runA m c t h0 h1).2.2.2.2.2.1 ![8, 512] (by sl_kernel_rfl) y

theorem fullA_acc (y : S128x512.Idx) :
    ∃ pc ∈ (runA m c t h0 h1).2.2.2.2.2.2.1, y ∈ pc.1.set :=
  View.cover_of_wholeMem (runA m c t h0 h1).2.2.2.2.2.2.1 (by unfold runA; sl_whole_mem) y

end

/-! ## The middle points -/

/-- The body's run at a point between the first and the last, over what the point before left. -/
def runB (h0 : ¬t.val % 8 = 0) (h1 : ¬t.val % 8 = 7) (p : St F) :=
  (onBlks ((onBufs (kernelRun0_B (F := F))) (fun h => h0 ((hcond0_0 t).mp h)) (fun h => h1 ((hcond0_1 t).mp h)))) p.vecs p.dw p.st p.dy p.acc

/-- What that run leaves. -/
def stB (h0 : ¬t.val % 8 = 0) (h1 : ¬t.val % 8 = 7) (p : St F) : St F where
  dp := VO0_21.read (Elt F) (VO0_21.writes (Elt F) VO0_21.junk (runB m c t h0 h1 p).1)
  vecs := (ms0_22 t).view.read (Elt F) ((ms0_22 t).view.writes (Elt F) ((hs0_22 t).unread p.vecs) (runB m c t h0 h1 p).2.1)
  dw := VO0_23.read (Elt F) (VO0_23.writes (Elt F) VO0_23.junk (runB m c t h0 h1 p).2.2.1)
  db := VO0_24.read (Elt F) (VO0_24.writes (Elt F) VO0_24.junk (runB m c t h0 h1 p).2.2.2.1)
  st := VS0_0.read (Elt F) (VS0_0.writes (Elt F) VS0_0.junk (runB m c t h0 h1 p).2.2.2.2.1)
  dy := VS0_2.read (Elt F) (VS0_2.writes (Elt F) VS0_2.junk (runB m c t h0 h1 p).2.2.2.2.2.1)
  acc := VS0_3.read (Elt F) (VS0_3.writes (Elt F) VS0_3.junk (runB m c t h0 h1 p).2.2.2.2.2.2.1)

section
variable (h0 : ¬t.val % 8 = 0) (h1 : ¬t.val % 8 = 7) (p : St F)

theorem fullB_dp (y : S256x4608.Idx) :
    ∃ pc ∈ (runB m c t h0 h1 p).1, y ∈ pc.1.set :=
  View.cover_of_tiledBy (runB m c t h0 h1 p).1 ![64, 128] (by sl_kernel_rfl) y

theorem fullB_dw (y : S4x128x128.Idx) :
    ∃ pc ∈ (runB m c t h0 h1 p).2.2.1, y ∈ pc.1.set :=
  View.cover_of_tiledL (runB m c t h0 h1 p).2.2.1 S1x128x128.size (by sl_kernel_rfl) y

theorem fullB_st (y : S4x128x128.Idx) :
    ∃ pc ∈ (runB m c t h0 h1 p).2.2.2.2.1, y ∈ pc.1.set :=
  View.cover_of_tiledL (runB m c t h0 h1 p).2.2.2.2.1 S1x128x128.size (by sl_kernel_rfl) y

theorem fullB_dy (y : S264x512.Idx) :
    ∃ pc ∈ (runB m c t h0 h1 p).2.2.2.2.2.1, y ∈ pc.1.set :=
  View.cover_of_tiledBy (runB m c t h0 h1 p).2.2.2.2.2.1 ![8, 512] (by sl_kernel_rfl) y

theorem fullB_acc (y : S128x512.Idx) :
    ∃ pc ∈ (runB m c t h0 h1 p).2.2.2.2.2.2.1, y ∈ pc.1.set :=
  View.cover_of_tiledL (runB m c t h0 h1 p).2.2.2.2.2.2.1 S128x128.size (by sl_kernel_rfl) y

end

/-! ## The last point -/

/-- The body's run at the last point, over what the point before left. -/
def runC (h0 : ¬t.val % 8 = 0) (h1 : t.val % 8 = 7) (p : St F) :=
  (onBlks ((onBufs (kernelRun0_C (F := F))) (fun h => h0 ((hcond0_0 t).mp h)) ((hcond0_1 t).mpr h1))) p.vecs p.dw p.st p.dy p.acc

/-- What that run leaves. -/
def stC (h0 : ¬t.val % 8 = 0) (h1 : t.val % 8 = 7) (p : St F) : St F where
  dp := VO0_21.read (Elt F) (VO0_21.writes (Elt F) VO0_21.junk (runC m c t h0 h1 p).1)
  vecs := (ms0_22 t).view.read (Elt F) ((ms0_22 t).view.writes (Elt F) ((hs0_22 t).unread p.vecs) (runC m c t h0 h1 p).2.1)
  dw := VO0_23.read (Elt F) (VO0_23.writes (Elt F) VO0_23.junk (runC m c t h0 h1 p).2.2.1)
  db := VO0_24.read (Elt F) (VO0_24.writes (Elt F) VO0_24.junk (runC m c t h0 h1 p).2.2.2.1)
  st := VS0_0.read (Elt F) (VS0_0.writes (Elt F) VS0_0.junk (runC m c t h0 h1 p).2.2.2.2.1)
  dy := VS0_2.read (Elt F) (VS0_2.writes (Elt F) VS0_2.junk (runC m c t h0 h1 p).2.2.2.2.2.1)
  acc := VS0_3.read (Elt F) (VS0_3.writes (Elt F) VS0_3.junk (runC m c t h0 h1 p).2.2.2.2.2.2.1)

section
variable (h0 : ¬t.val % 8 = 0) (h1 : t.val % 8 = 7) (p : St F)

theorem fullC_dp (y : S256x4608.Idx) :
    ∃ pc ∈ (runC m c t h0 h1 p).1, y ∈ pc.1.set :=
  View.cover_of_tiledBy (runC m c t h0 h1 p).1 ![64, 128] (by sl_kernel_rfl) y

theorem fullC_dw (y : S4x128x128.Idx) :
    ∃ pc ∈ (runC m c t h0 h1 p).2.2.1, y ∈ pc.1.set :=
  View.cover_of_tiledL (runC m c t h0 h1 p).2.2.1 S1x128x128.size (by sl_kernel_rfl) y

theorem fullC_db (y : S128x4.Idx) :
    ∃ pc ∈ (runC m c t h0 h1 p).2.2.2.1, y ∈ pc.1.set :=
  View.cover_of_tiledL (runC m c t h0 h1 p).2.2.2.1 S128x1.size (by sl_kernel_rfl) y

theorem fullC_st (y : S4x128x128.Idx) :
    ∃ pc ∈ (runC m c t h0 h1 p).2.2.2.2.1, y ∈ pc.1.set :=
  View.cover_of_tiledL (runC m c t h0 h1 p).2.2.2.2.1 S1x128x128.size (by sl_kernel_rfl) y

theorem fullC_dy (y : S264x512.Idx) :
    ∃ pc ∈ (runC m c t h0 h1 p).2.2.2.2.2.1, y ∈ pc.1.set :=
  View.cover_of_tiledBy (runC m c t h0 h1 p).2.2.2.2.2.1 ![8, 512] (by sl_kernel_rfl) y

theorem fullC_acc (y : S128x512.Idx) :
    ∃ pc ∈ (runC m c t h0 h1 p).2.2.2.2.2.2.1, y ∈ pc.1.set :=
  View.cover_of_tiledL (runC m c t h0 h1 p).2.2.2.2.2.2.1 S128x128.size (by sl_kernel_rfl) y

end

/-! ## What every point leaves -/

theorem zero_mod7 : ¬0 % 8 = 7 := by decide

theorem succ_mod (n : ℕ) (hn : n + 1 < cfg0.N) : ¬(n + 1) % 8 = 0 := by
  have := lt8 ⟨n + 1, hn⟩
  dsimp only at this; omega

/-- What the body leaves at point `n`. -/
def stAt (c : Dev nD) (n : ℕ) : n < cfg0.N → St F :=
  Nat.rec (motive := fun n => n < cfg0.N → St F)
    (fun hn => stA m c ⟨0, hn⟩ (Nat.zero_mod _) zero_mod7)
    (fun n ih hn =>
      if h1 : (n + 1) % 8 = 7 then stC m c ⟨n + 1, hn⟩ (succ_mod n hn) h1 (ih (Nat.lt_of_succ_lt hn))
      else stB m c ⟨n + 1, hn⟩ (succ_mod n hn) h1 (ih (Nat.lt_of_succ_lt hn))) n

attribute [local irreducible] stA stB stC

/-- What the point before `t` left. -/
abbrev stPrev : St F := stAt m c (t.val - 1) (Nat.lt_of_le_of_lt (Nat.sub_le _ _) t.isLt)

theorem stAt_first (h0 : t.val % 8 = 0) (h1 : ¬t.val % 8 = 7) :
    stAt m c t.val t.isLt = stA m c t h0 h1 := by
  have h8 := lt8 t
  obtain ⟨n, hn⟩ := t
  cases n with
  | zero => rfl
  | succ n => exfalso; dsimp only at *; omega

theorem stAt_middle (h0 : ¬t.val % 8 = 0) (h1 : ¬t.val % 8 = 7) :
    stAt m c t.val t.isLt = stB m c t h0 h1 (stPrev m c t) := by
  obtain ⟨n, hn⟩ := t
  cases n with
  | zero => exact absurd (Nat.zero_mod _) h0
  | succ n => exact dif_neg h1

theorem stAt_last (h0 : ¬t.val % 8 = 0) (h1 : t.val % 8 = 7) :
    stAt m c t.val t.isLt = stC m c t h0 h1 (stPrev m c t) := by
  obtain ⟨n, hn⟩ := t
  cases n with
  | zero => exact absurd (Nat.zero_mod _) h0
  | succ n => exact dif_pos h1

/-- The scratch buffers holding what a point left, the one no later point reads at anything. -/
def kept (c : Dev nD) (s : St F) : sProp 𝕄 :=
  iprop(iprop(own c scM0_0 s.st ∗ (∃ d, own c scM0_1 d)
    ∗ own c scM0_2 s.dy ∗ own c scM0_3 s.acc) ∗ (∃ r, prngReg c r))

/-- What holds between the points. -/
def between (c : Dev nD) : (n : ℕ) → n ≤ cfg0.N → sProp 𝕄
  | 0, _ => Pipeline.ΦA spec0 c
  | n + 1, hn => kept c (stAt m c n hn)

theorem between_pos (c : Dev nD) (n : ℕ) (h : n ≤ cfg0.N) (hz : n ≠ 0) :
    between m c n h = kept c (stAt m c (n - 1) (by omega)) := by
  cases n with
  | zero => exact absurd rfl hz
  | succ n => rfl

/-- The data of the pipeline: its arrays as the region finds them, an input's buffer left at its block, an output's
at what the point leaves. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (stAt m c t.val t.isLt).dp
    | ⟨22, _⟩ => (stAt m c t.val t.isLt).vecs
    | ⟨23, _⟩ => (stAt m c t.val t.isLt).dw
    | ⟨24, _⟩ => (stAt m c t.val t.isLt).db
    | ⟨_ + 25, h⟩ => absurd h (Nat.not_lt.2 (Nat.le_add_left _ _))
  Φ t := between m c t.val (Nat.le_of_lt_succ t.isLt)
  q w := Pipeline.shareOf spec0 w
  owed _ := 0

local notation:max "◆" => data m 0 c

theorem data_arr (c : Dev nD) (w : Fin cfg0.W) : (data m 0 c).A w = V m c (Pipeline.arrRef spec0 w) := by
  dsimp only [data]

theorem data_between :
    ◆.Φ t.castSucc = between m c t.val (Nat.le_of_lt t.isLt) := by
  dsimp only [data]; exact Pipeline.Dat.Φ_castSucc (between m c) t

theorem left21 : ◆.after 21 t = (stAt m c t.val t.isLt).dp := by
  dsimp only [data]
theorem left22 : ◆.after 22 t = (stAt m c t.val t.isLt).vecs := by
  dsimp only [data]
theorem left23 : ◆.after 23 t = (stAt m c t.val t.isLt).dw := by
  dsimp only [data]
theorem left24 : ◆.after 24 t = (stAt m c t.val t.isLt).db := by
  dsimp only [data]

theorem left0 : ◆.after 0 t = iblk m c 0 t := by dsimp only [data]
theorem left1 : ◆.after 1 t = iblk m c 1 t := by dsimp only [data]
theorem left2 : ◆.after 2 t = iblk m c 2 t := by dsimp only [data]
theorem left3 : ◆.after 3 t = iblk m c 3 t := by dsimp only [data]
theorem left4 : ◆.after 4 t = iblk m c 4 t := by dsimp only [data]
theorem left5 : ◆.after 5 t = iblk m c 5 t := by dsimp only [data]
theorem left6 : ◆.after 6 t = iblk m c 6 t := by dsimp only [data]
theorem left7 : ◆.after 7 t = iblk m c 7 t := by dsimp only [data]
theorem left8 : ◆.after 8 t = iblk m c 8 t := by dsimp only [data]
theorem left9 : ◆.after 9 t = iblk m c 9 t := by dsimp only [data]
theorem left10 : ◆.after 10 t = iblk m c 10 t := by dsimp only [data]
theorem left11 : ◆.after 11 t = iblk m c 11 t := by dsimp only [data]
theorem left12 : ◆.after 12 t = iblk m c 12 t := by dsimp only [data]
theorem left13 : ◆.after 13 t = iblk m c 13 t := by dsimp only [data]
theorem left14 : ◆.after 14 t = iblk m c 14 t := by dsimp only [data]
theorem left15 : ◆.after 15 t = iblk m c 15 t := by dsimp only [data]
theorem left16 : ◆.after 16 t = iblk m c 16 t := by dsimp only [data]
theorem left17 : ◆.after 17 t = iblk m c 17 t := by dsimp only [data]
theorem left18 : ◆.after 18 t = iblk m c 18 t := by dsimp only [data]
theorem left19 : ◆.after 19 t = iblk m c 19 t := by dsimp only [data]
theorem left20 : ◆.after 20 t = iblk m c 20 t := by dsimp only [data]
theorem found0 (d) : ◆.before 0 t d = iblk m c 0 t := before0_0_of m ◆ (data_arr m c 0) (left0 m c) t d
theorem found1 (d) : ◆.before 1 t d = iblk m c 1 t := before0_1_of m ◆ (data_arr m c 1) (left1 m c) t d
theorem found2 (d) : ◆.before 2 t d = iblk m c 2 t := before0_2_of m ◆ (data_arr m c 2) (left2 m c) t d
theorem found3 (d) : ◆.before 3 t d = iblk m c 3 t := before0_3_of m ◆ (data_arr m c 3) (left3 m c) t d
theorem found4 (d) : ◆.before 4 t d = iblk m c 4 t := before0_4_of m ◆ (data_arr m c 4) (left4 m c) t d
theorem found5 (d) : ◆.before 5 t d = iblk m c 5 t := before0_5_of m ◆ (data_arr m c 5) (left5 m c) t d
theorem found6 (d) : ◆.before 6 t d = iblk m c 6 t := before0_6_of m ◆ (data_arr m c 6) (left6 m c) t d
theorem found7 (d) : ◆.before 7 t d = iblk m c 7 t := before0_7_of m ◆ (data_arr m c 7) (left7 m c) t d
theorem found8 (d) : ◆.before 8 t d = iblk m c 8 t := before0_8_of m ◆ (data_arr m c 8) (left8 m c) t d
theorem found9 (d) : ◆.before 9 t d = iblk m c 9 t := before0_9_of m ◆ (data_arr m c 9) (left9 m c) t d
theorem found10 (d) : ◆.before 10 t d = iblk m c 10 t := before0_10_of m ◆ (data_arr m c 10) (left10 m c) t d
theorem found11 (d) : ◆.before 11 t d = iblk m c 11 t := before0_11_of m ◆ (data_arr m c 11) (left11 m c) t d
theorem found12 (d) : ◆.before 12 t d = iblk m c 12 t := before0_12_of m ◆ (data_arr m c 12) (left12 m c) t d
theorem found13 (d) : ◆.before 13 t d = iblk m c 13 t := before0_13_of m ◆ (data_arr m c 13) (left13 m c) t d
theorem found14 (d) : ◆.before 14 t d = iblk m c 14 t := before0_14_of m ◆ (data_arr m c 14) (left14 m c) t d
theorem found15 (d) : ◆.before 15 t d = iblk m c 15 t := before0_15_of m ◆ (data_arr m c 15) (left15 m c) t d
theorem found16 (d) : ◆.before 16 t d = iblk m c 16 t := before0_16_of m ◆ (data_arr m c 16) (left16 m c) t d
theorem found17 (d) : ◆.before 17 t d = iblk m c 17 t := before0_17_of m ◆ (data_arr m c 17) (left17 m c) t d
theorem found18 (d) : ◆.before 18 t d = iblk m c 18 t := before0_18_of m ◆ (data_arr m c 18) (left18 m c) t d
theorem found19 (d) : ◆.before 19 t d = iblk m c 19 t := before0_19_of m ◆ (data_arr m c 19) (left19 m c) t d
theorem found20 (d) : ◆.before 20 t d = iblk m c 20 t := before0_20_of m ◆ (data_arr m c 20) (left20 m c) t d

theorem found22 (h0 : ¬t.val % 8 = 0) (d) :
    ◆.before 22 t d = (stPrev m c t).vecs := by
  have hN := lt8 t
  rw [Dat.before_out_kept _ 22 rfl t (by omega)
    (Bool.eq_false_iff.mpr fun h => by have := (flush0_22 _).mp h; dsimp only at this; omega)
    (fun _ => rfl) (fun _ _ => rfl)]
  dsimp only [data]

theorem found23 (h0 : ¬t.val % 8 = 0) (d) :
    ◆.before 23 t d = (stPrev m c t).dw := by
  have hN := lt8 t
  rw [Dat.before_out_kept _ 23 rfl t (by omega)
    (Bool.eq_false_iff.mpr fun h => by have := (flush0_23 _).mp h; dsimp only at this; omega)
    (fun _ => rfl) (fun _ _ => rfl)]
  dsimp only [data]

/-! ## The body at one point -/

attribute [local semireducible] stA stB stC

/-- Its input buffers at their blocks. -/
def ins : sProp 𝕄 :=
  iprop(own c (ms0_0 t) (iblk m c 0 t) ∗ own c (ms0_1 t) (iblk m c 1 t)
    ∗ own c (ms0_2 t) (iblk m c 2 t) ∗ own c (ms0_3 t) (iblk m c 3 t)
    ∗ own c (ms0_4 t) (iblk m c 4 t) ∗ own c (ms0_5 t) (iblk m c 5 t)
    ∗ own c (ms0_6 t) (iblk m c 6 t) ∗ own c (ms0_7 t) (iblk m c 7 t)
    ∗ own c (ms0_8 t) (iblk m c 8 t) ∗ own c (ms0_9 t) (iblk m c 9 t)
    ∗ own c (ms0_10 t) (iblk m c 10 t) ∗ own c (ms0_11 t) (iblk m c 11 t)
    ∗ own c (ms0_12 t) (iblk m c 12 t) ∗ own c (ms0_13 t) (iblk m c 13 t)
    ∗ own c (ms0_14 t) (iblk m c 14 t) ∗ own c (ms0_15 t) (iblk m c 15 t)
    ∗ own c (ms0_16 t) (iblk m c 16 t) ∗ own c (ms0_17 t) (iblk m c 17 t)
    ∗ own c (ms0_18 t) (iblk m c 18 t) ∗ own c (ms0_19 t) (iblk m c 19 t)
    ∗ own c (ms0_20 t) (iblk m c 20 t))

set_option maxHeartbeats 4000000 in
/-- The body at the first point. -/
theorem bodyA (h0 : t.val % 8 = 0) (h1 : ¬t.val % 8 = 7) (x : Vec F S128x4 .f32) (s : St F) (hs : s = stA m c t h0 h1)
    (K : PUnit → sProp 𝕄) :
    iprop(Pipeline.ΦA spec0 c ∗ ins m c t ∗ (∃ d, own c (ms0_21 t) d)
      ∗ (∃ d, own c (ms0_22 t) d)
      ∗ (∃ d, own c (ms0_23 t) d)
      ∗ own c (ms0_24 t) x
      ∗ (iprop(kept c s ∗ ins m c t ∗ own c (ms0_21 t) s.dp
          ∗ own c (ms0_22 t) s.vecs
          ∗ own c (ms0_23 t) s.dw
          ∗ own c (ms0_24 t) x) -∗ K ⟨⟩))
      ⊢ wp frame (wpE (defs₀ (F := F)) Variants.none c none) Set.univ (bodyAt0 t) K := by
  subst hs
  rw [PhiA0_eq]
  unfold kept ins bodyAt0 stA
  dsimp only
  iintro ⟨⟨⟨HS0, HS1, HS2, HS3⟩, Hg⟩, ⟨H0, H1, H2, H3, H4, H5, H6, H7, H8, H9, H10, H11, H12, H13, H14, H15, H16, H17, H18, H19, H20⟩,
    H21, H22, H23, H24, Hk⟩
  iapply ((runA m c t h0 h1).2.2.2.2.2.2.2.2 _ Set.univ _)
  iframe H0 H1 H2 H3 H4 H5 H6 H7 H8 H9 H10 H11 H12 H13 H14 H15 H16 H17 H18 H19 H20 H21 H22 H23 H24 HS0 HS1 HS2 HS3
  iintro ⟨H0, H1, H2, H3, H4, H5, H6, H7, H8, H9, H10, H11, H12, H13, H14, H15, H16, H17, H18, H19, H20,
    H21, H22, H23, H24, HS0, ⟨%f1, HS1⟩, HS2, HS3⟩
  iapply Hk
  isplitl [HS0 HS1 HS2 HS3 Hg]
  · isplitl [HS0 HS1 HS2 HS3]
    · isplitl [HS0]
      · iapply (owns_covered c _ VS0_0 _ (fullA_st m c t h0 h1)); iexact HS0
      isplitl [HS1]
      · iexists _; unfold owns; iexists _; isplitr
        swap; · iexact HS1
        ipureintro; rfl
      isplitl [HS2]
      · iapply (owns_covered c _ VS0_2 _ (fullA_dy m c t h0 h1)); iexact HS2
      iapply (owns_covered c _ VS0_3 _ (fullA_acc m c t h0 h1)); iexact HS3
    iexact Hg
  isplitl [H0 H1 H2 H3 H4 H5 H6 H7 H8 H9 H10 H11 H12 H13 H14 H15 H16 H17 H18 H19 H20]
  · isplitl [H0]; · iexact H0
    iframe H1 H2 H3 H4 H5 H6 H7 H8 H9 H10 H11 H12 H13 H14 H15 H16 H17 H18 H19
    iexact H20
  isplitl [H21]
  · iapply (owns_covered c _ VO0_21 _ (fullA_dp m c t h0 h1)); iexact H21
  isplitl [H22]
  · iapply (owns_covered c _ VO0_22 _ (fullA_vecs m c t h0 h1)); iexact H22
  isplitl [H23]
  · iapply (owns_covered c _ VO0_23 _ (fullA_dw m c t h0 h1)); iexact H23
  iexact H24

set_option maxHeartbeats 4000000 in
/-- The body at a middle point. -/
theorem bodyB (h0 : ¬t.val % 8 = 0) (h1 : ¬t.val % 8 = 7) (p : St F) (x : Vec F S128x4 .f32) (s : St F) (hs : s = stB m c t h0 h1 p)
    (K : PUnit → sProp 𝕄) :
    iprop(kept c p ∗ ins m c t ∗ (∃ d, own c (ms0_21 t) d)
      ∗ own c (ms0_22 t) p.vecs
      ∗ own c (ms0_23 t) p.dw
      ∗ own c (ms0_24 t) x
      ∗ (iprop(kept c s ∗ ins m c t ∗ own c (ms0_21 t) s.dp
          ∗ own c (ms0_22 t) s.vecs
          ∗ own c (ms0_23 t) s.dw
          ∗ own c (ms0_24 t) x) -∗ K ⟨⟩))
      ⊢ wp frame (wpE (defs₀ (F := F)) Variants.none c none) Set.univ (bodyAt0 t) K := by
  subst hs
  unfold kept ins bodyAt0 stB
  dsimp only
  iintro ⟨⟨⟨HS0, HS1, HS2, HS3⟩, Hg⟩, ⟨H0, H1, H2, H3, H4, H5, H6, H7, H8, H9, H10, H11, H12, H13, H14, H15, H16, H17, H18, H19, H20⟩,
    H21, H22, H23, H24, Hk⟩
  iapply ((runB m c t h0 h1 p).2.2.2.2.2.2.2.2 _ Set.univ _)
  iframe H0 H1 H2 H3 H4 H5 H6 H7 H8 H9 H10 H11 H12 H13 H14 H15 H16 H17 H18 H19 H20 H21 H22 H23 H24 HS0 HS1 HS2 HS3
  iintro ⟨H0, H1, H2, H3, H4, H5, H6, H7, H8, H9, H10, H11, H12, H13, H14, H15, H16, H17, H18, H19, H20,
    H21, H22, H23, H24, HS0, ⟨%f1, HS1⟩, HS2, HS3⟩
  iapply Hk
  isplitl [HS0 HS1 HS2 HS3 Hg]
  · isplitl [HS0 HS1 HS2 HS3]
    · isplitl [HS0]
      · iapply (owns_covered c _ VS0_0 _ (fullB_st m c t h0 h1 p)); iexact HS0
      isplitl [HS1]
      · iexists _; unfold owns; iexists _; isplitr
        swap; · iexact HS1
        ipureintro; rfl
      isplitl [HS2]
      · iapply (owns_covered c _ VS0_2 _ (fullB_dy m c t h0 h1 p)); iexact HS2
      iapply (owns_covered c _ VS0_3 _ (fullB_acc m c t h0 h1 p)); iexact HS3
    iexact Hg
  isplitl [H0 H1 H2 H3 H4 H5 H6 H7 H8 H9 H10 H11 H12 H13 H14 H15 H16 H17 H18 H19 H20]
  · isplitl [H0]; · iexact H0
    iframe H1 H2 H3 H4 H5 H6 H7 H8 H9 H10 H11 H12 H13 H14 H15 H16 H17 H18 H19
    iexact H20
  isplitl [H21]
  · iapply (owns_covered c _ VO0_21 _ (fullB_dp m c t h0 h1 p)); iexact H21
  isplitl [H22]
  · unfold owns; iexists _; isplitr
    swap; · iexact H22
    ipureintro; rfl
  isplitl [H23]
  · iapply (owns_covered c _ VO0_23 _ (fullB_dw m c t h0 h1 p)); iexact H23
  iexact H24

set_option maxHeartbeats 4000000 in
/-- The body at the last point. -/
theorem bodyC (h0 : ¬t.val % 8 = 0) (h1 : t.val % 8 = 7) (p : St F) (s : St F) (hs : s = stC m c t h0 h1 p)
    (K : PUnit → sProp 𝕄) :
    iprop(kept c p ∗ ins m c t ∗ (∃ d, own c (ms0_21 t) d)
      ∗ own c (ms0_22 t) p.vecs
      ∗ own c (ms0_23 t) p.dw
      ∗ (∃ d, own c (ms0_24 t) d)
      ∗ (iprop(kept c s ∗ ins m c t ∗ own c (ms0_21 t) s.dp
          ∗ own c (ms0_22 t) s.vecs
          ∗ own c (ms0_23 t) s.dw
          ∗ own c (ms0_24 t) s.db) -∗ K ⟨⟩))
      ⊢ wp frame (wpE (defs₀ (F := F)) Variants.none c none) Set.univ (bodyAt0 t) K := by
  subst hs
  unfold kept ins bodyAt0 stC
  dsimp only
  iintro ⟨⟨⟨HS0, HS1, HS2, HS3⟩, Hg⟩, ⟨H0, H1, H2, H3, H4, H5, H6, H7, H8, H9, H10, H11, H12, H13, H14, H15, H16, H17, H18, H19, H20⟩,
    H21, H22, H23, H24, Hk⟩
  iapply ((runC m c t h0 h1 p).2.2.2.2.2.2.2.2 Set.univ _)
  iframe H0 H1 H2 H3 H4 H5 H6 H7 H8 H9 H10 H11 H12 H13 H14 H15 H16 H17 H18 H19 H20 H21 H22 H23 H24 HS0 HS1 HS2 HS3
  iintro ⟨H0, H1, H2, H3, H4, H5, H6, H7, H8, H9, H10, H11, H12, H13, H14, H15, H16, H17, H18, H19, H20,
    H21, H22, H23, H24, HS0, ⟨%f1, HS1⟩, HS2, HS3⟩
  iapply Hk
  isplitl [HS0 HS1 HS2 HS3 Hg]
  · isplitl [HS0 HS1 HS2 HS3]
    · isplitl [HS0]
      · iapply (owns_covered c _ VS0_0 _ (fullC_st m c t h0 h1 p)); iexact HS0
      isplitl [HS1]
      · iexists _; unfold owns; iexists _; isplitr
        swap; · iexact HS1
        ipureintro; rfl
      isplitl [HS2]
      · iapply (owns_covered c _ VS0_2 _ (fullC_dy m c t h0 h1 p)); iexact HS2
      iapply (owns_covered c _ VS0_3 _ (fullC_acc m c t h0 h1 p)); iexact HS3
    iexact Hg
  isplitl [H0 H1 H2 H3 H4 H5 H6 H7 H8 H9 H10 H11 H12 H13 H14 H15 H16 H17 H18 H19 H20]
  · isplitl [H0]; · iexact H0
    iframe H1 H2 H3 H4 H5 H6 H7 H8 H9 H10 H11 H12 H13 H14 H15 H16 H17 H18 H19
    iexact H20
  isplitl [H21]
  · iapply (owns_covered c _ VO0_21 _ (fullC_dp m c t h0 h1 p)); iexact H21
  isplitl [H22]
  · unfold owns; iexists _; isplitr
    swap; · iexact H22
    ipureintro; rfl
  isplitl [H23]
  · iapply (owns_covered c _ VO0_23 _ (fullC_dw m c t h0 h1 p)); iexact H23
  iapply (owns_covered c _ VO0_24 _ (fullC_db m c t h0 h1 p)); iexact H24

/-! ## The pipeline's obligation -/

theorem leaves0 : ◆.leavesExact 0 t = own c (ms0_0 t) (iblk m c 0 t) := by unfold Dat.leavesExact; rw [liveAt0_0 t, left0]
theorem leaves1 : ◆.leavesExact 1 t = own c (ms0_1 t) (iblk m c 1 t) := by unfold Dat.leavesExact; rw [liveAt0_1 t, left1]
theorem leaves2 : ◆.leavesExact 2 t = own c (ms0_2 t) (iblk m c 2 t) := by unfold Dat.leavesExact; rw [liveAt0_2 t, left2]
theorem leaves3 : ◆.leavesExact 3 t = own c (ms0_3 t) (iblk m c 3 t) := by unfold Dat.leavesExact; rw [liveAt0_3 t, left3]
theorem leaves4 : ◆.leavesExact 4 t = own c (ms0_4 t) (iblk m c 4 t) := by unfold Dat.leavesExact; rw [liveAt0_4 t, left4]
theorem leaves5 : ◆.leavesExact 5 t = own c (ms0_5 t) (iblk m c 5 t) := by unfold Dat.leavesExact; rw [liveAt0_5 t, left5]
theorem leaves6 : ◆.leavesExact 6 t = own c (ms0_6 t) (iblk m c 6 t) := by unfold Dat.leavesExact; rw [liveAt0_6 t, left6]
theorem leaves7 : ◆.leavesExact 7 t = own c (ms0_7 t) (iblk m c 7 t) := by unfold Dat.leavesExact; rw [liveAt0_7 t, left7]
theorem leaves8 : ◆.leavesExact 8 t = own c (ms0_8 t) (iblk m c 8 t) := by unfold Dat.leavesExact; rw [liveAt0_8 t, left8]
theorem leaves9 : ◆.leavesExact 9 t = own c (ms0_9 t) (iblk m c 9 t) := by unfold Dat.leavesExact; rw [liveAt0_9 t, left9]
theorem leaves10 : ◆.leavesExact 10 t = own c (ms0_10 t) (iblk m c 10 t) := by unfold Dat.leavesExact; rw [liveAt0_10 t, left10]
theorem leaves11 : ◆.leavesExact 11 t = own c (ms0_11 t) (iblk m c 11 t) := by unfold Dat.leavesExact; rw [liveAt0_11 t, left11]
theorem leaves12 : ◆.leavesExact 12 t = own c (ms0_12 t) (iblk m c 12 t) := by unfold Dat.leavesExact; rw [liveAt0_12 t, left12]
theorem leaves13 : ◆.leavesExact 13 t = own c (ms0_13 t) (iblk m c 13 t) := by unfold Dat.leavesExact; rw [liveAt0_13 t, left13]
theorem leaves14 : ◆.leavesExact 14 t = own c (ms0_14 t) (iblk m c 14 t) := by unfold Dat.leavesExact; rw [liveAt0_14 t, left14]
theorem leaves15 : ◆.leavesExact 15 t = own c (ms0_15 t) (iblk m c 15 t) := by unfold Dat.leavesExact; rw [liveAt0_15 t, left15]
theorem leaves16 : ◆.leavesExact 16 t = own c (ms0_16 t) (iblk m c 16 t) := by unfold Dat.leavesExact; rw [liveAt0_16 t, left16]
theorem leaves17 : ◆.leavesExact 17 t = own c (ms0_17 t) (iblk m c 17 t) := by unfold Dat.leavesExact; rw [liveAt0_17 t, left17]
theorem leaves18 : ◆.leavesExact 18 t = own c (ms0_18 t) (iblk m c 18 t) := by unfold Dat.leavesExact; rw [liveAt0_18 t, left18]
theorem leaves19 : ◆.leavesExact 19 t = own c (ms0_19 t) (iblk m c 19 t) := by unfold Dat.leavesExact; rw [liveAt0_19 t, left19]
theorem leaves20 : ◆.leavesExact 20 t = own c (ms0_20 t) (iblk m c 20 t) := by unfold Dat.leavesExact; rw [liveAt0_20 t, left20]
theorem leaves21 : ◆.leavesExact 21 t = own c (ms0_21 t) (stAt m c t.val t.isLt).dp := by unfold Dat.leavesExact; rw [liveAt0_21 t, left21]
theorem leaves22 : ◆.leavesExact 22 t = own c (ms0_22 t) (stAt m c t.val t.isLt).vecs := by unfold Dat.leavesExact; rw [liveAt0_22 t, left22]
theorem leaves23 : ◆.leavesExact 23 t = own c (ms0_23 t) (stAt m c t.val t.isLt).dw := by unfold Dat.leavesExact; rw [liveAt0_23 t, left23]

/-- What the body is called with. -/
def pre : sProp 𝕄 :=
  iprop(◆.Φ t.castSucc ∗ ◆.owesAt () t.castSucc
    ∗ (∃ d, own c (ms0_0 t) (◆.before 0 t d))
    ∗ (∃ d, own c (ms0_1 t) (◆.before 1 t d))
    ∗ (∃ d, own c (ms0_2 t) (◆.before 2 t d))
    ∗ (∃ d, own c (ms0_3 t) (◆.before 3 t d))
    ∗ (∃ d, own c (ms0_4 t) (◆.before 4 t d))
    ∗ (∃ d, own c (ms0_5 t) (◆.before 5 t d))
    ∗ (∃ d, own c (ms0_6 t) (◆.before 6 t d))
    ∗ (∃ d, own c (ms0_7 t) (◆.before 7 t d))
    ∗ (∃ d, own c (ms0_8 t) (◆.before 8 t d))
    ∗ (∃ d, own c (ms0_9 t) (◆.before 9 t d))
    ∗ (∃ d, own c (ms0_10 t) (◆.before 10 t d))
    ∗ (∃ d, own c (ms0_11 t) (◆.before 11 t d))
    ∗ (∃ d, own c (ms0_12 t) (◆.before 12 t d))
    ∗ (∃ d, own c (ms0_13 t) (◆.before 13 t d))
    ∗ (∃ d, own c (ms0_14 t) (◆.before 14 t d))
    ∗ (∃ d, own c (ms0_15 t) (◆.before 15 t d))
    ∗ (∃ d, own c (ms0_16 t) (◆.before 16 t d))
    ∗ (∃ d, own c (ms0_17 t) (◆.before 17 t d))
    ∗ (∃ d, own c (ms0_18 t) (◆.before 18 t d))
    ∗ (∃ d, own c (ms0_19 t) (◆.before 19 t d))
    ∗ (∃ d, own c (ms0_20 t) (◆.before 20 t d))
    ∗ (∃ d, own c (ms0_21 t) (◆.before 21 t d))
    ∗ (∃ d, own c (ms0_22 t) (◆.before 22 t d))
    ∗ (∃ d, own c (ms0_23 t) (◆.before 23 t d))
    ∗ (∃ d, own c (ms0_24 t) (◆.before 24 t d)))

/-- What it returns. -/
def post : sProp 𝕄 :=
  iprop(◆.Φ t.succ ∗ ◆.owesAt () t.succ
    ∗ ◆.leavesExact 0 t ∗ ◆.leavesExact 1 t ∗ ◆.leavesExact 2 t ∗ ◆.leavesExact 3 t
    ∗ ◆.leavesExact 4 t ∗ ◆.leavesExact 5 t ∗ ◆.leavesExact 6 t ∗ ◆.leavesExact 7 t
    ∗ ◆.leavesExact 8 t ∗ ◆.leavesExact 9 t ∗ ◆.leavesExact 10 t ∗ ◆.leavesExact 11 t
    ∗ ◆.leavesExact 12 t ∗ ◆.leavesExact 13 t ∗ ◆.leavesExact 14 t ∗ ◆.leavesExact 15 t
    ∗ ◆.leavesExact 16 t ∗ ◆.leavesExact 17 t ∗ ◆.leavesExact 18 t ∗ ◆.leavesExact 19 t
    ∗ ◆.leavesExact 20 t ∗ ◆.leavesExact 21 t ∗ ◆.leavesExact 22 t ∗ ◆.leavesExact 23 t
    ∗ ◆.leavesExact 24 t)

theorem pre_ins : pre m c t ⊢ iprop(between m c t.val (Nat.le_of_lt t.isLt)
      ∗ ◆.owesAt () t.castSucc ∗ ins m c t
      ∗ (∃ d, own c (ms0_21 t) (◆.before 21 t d))
      ∗ (∃ d, own c (ms0_22 t) (◆.before 22 t d))
      ∗ (∃ d, own c (ms0_23 t) (◆.before 23 t d))
      ∗ (∃ d, own c (ms0_24 t) (◆.before 24 t d))) := by
  unfold pre ins
  simp only [found0, found1, found2, found3, found4, found5, found6, found7, found8, found9, found10, found11, found12, found13, found14, found15, found16, found17, found18, found19, found20, data_between]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, H21, H22, H23, H24⟩
  iframe HP Ho
  isplitl [H0 H1 H2 H3 H4 H5 H6 H7 H8 H9 H10 H11 H12 H13 H14 H15 H16 H17 H18 H19 H20]
  · isplitl [H0]; · iexact H0
    iframe H1 H2 H3 H4 H5 H6 H7 H8 H9 H10 H11 H12 H13 H14 H15 H16 H17 H18 H19
    iexact H20
  iframe H21 H22 H23
  iexact H24

theorem ins_post : iprop(kept c (stAt m c t.val t.isLt)
      ∗ ◆.owesAt () t.castSucc ∗ ins m c t
      ∗ own c (ms0_21 t) (stAt m c t.val t.isLt).dp
      ∗ own c (ms0_22 t) (stAt m c t.val t.isLt).vecs
      ∗ own c (ms0_23 t) (stAt m c t.val t.isLt).dw
      ∗ ◆.leavesExact 24 t) ⊢ post m c t := by
  unfold post ins
  rw [show ◆.owesAt () t.succ = ◆.owesAt () t.castSucc from rfl,
    show ◆.Φ t.succ = kept c (stAt m c t.val t.isLt) from rfl]
  simp only [leaves0, leaves1, leaves2, leaves3, leaves4, leaves5, leaves6, leaves7, leaves8, leaves9, leaves10, leaves11, leaves12, leaves13, leaves14, leaves15, leaves16, leaves17, leaves18, leaves19, leaves20, leaves21, leaves22, leaves23]
  iintro ⟨HP, Ho, ⟨H0, H1, H2, H3, H4, H5, H6, H7, H8, H9, H10, H11, H12, H13, H14, H15, H16, H17, H18, H19, H20⟩, H21, H22, H23, H24⟩
  iframe HP Ho H0 H1 H2 H3 H4 H5 H6 H7 H8 H9 H10 H11 H12 H13 H14 H15 H16 H17 H18 H19 H20 H21 H22 H23
  iexact H24

/-- The body at any point. -/
theorem body_sound :
    pre m c t ⊢ wp frame (wpE (defs₀ (F := F)) Variants.none c none) Set.univ (bodyAt0 t) (fun _ => post m c t) := by
  refine (pre_ins m c t).trans ?_
  have hN := lt8 t
  by_cases h0 : t.val % 8 = 0
  · have h1 : ¬t.val % 8 = 7 := by omega
    rw [show between m c t.val (Nat.le_of_lt t.isLt) = Pipeline.ΦA spec0 c from by
      have hz : t.val = 0 := by omega
      generalize_proofs hp; revert hp; rw [hz]; intro _; rfl]
    iintro ⟨HP, Ho, HI, H21, H22, H23, ⟨%d24, H24⟩⟩
    iapply (bodyA m c t h0 h1 (◆.before 24 t d24) (stAt m c t.val t.isLt) (stAt_first m c t h0 h1))
    iframe HP HI
    isplitl [H21]; · icases H21 with ⟨%d, H21⟩; iexists _; iexact H21
    isplitl [H22]; · icases H22 with ⟨%d, H22⟩; iexists _; iexact H22
    isplitl [H23]; · icases H23 with ⟨%d, H23⟩; iexists _; iexact H23
    isplitl [H24]; · iexact H24
    iintro ⟨HP, HI, H21, H22, H23, H24⟩
    iapply (ins_post m c t)
    iframe HP Ho HI H21 H22 H23
    rw [Dat.leavesExact_idle ◆ 24 t (idleAt0_24_A t ((hcond0_0 t).mpr h0) (fun h => h1 ((hcond0_1 t).mp h))) (noFlush0_24_A t ((hcond0_0 t).mpr h0) (fun h => h1 ((hcond0_1 t).mp h)))]
    iexists d24; iexact H24
  · rw [between_pos m c _ _ (fun h => h0 (by rw [h]))]
    simp only [found22 m c t h0, found23 m c t h0]
    by_cases h1 : t.val % 8 = 7
    · iintro ⟨HP, Ho, HI, H21, ⟨%d22, H22⟩, ⟨%d23, H23⟩, H24⟩
      iapply (bodyC m c t h0 h1 (stPrev m c t) (stAt m c t.val t.isLt) (stAt_last m c t h0 h1))
      iframe HP HI
      isplitl [H21]; · icases H21 with ⟨%d, H21⟩; iexists _; iexact H21
      iframe H22 H23
      isplitl [H24]; · icases H24 with ⟨%d, H24⟩; iexists _; iexact H24
      iintro ⟨HP, HI, H21, H22, H23, H24⟩
      iapply (ins_post m c t)
      iframe HP Ho HI H21 H22 H23
      unfold Dat.leavesExact; rw [liveAt0_24_C t (fun h => h0 ((hcond0_0 t).mp h)) ((hcond0_1 t).mpr h1), left24]
      iexact H24
    · iintro ⟨HP, Ho, HI, H21, ⟨%d22, H22⟩, ⟨%d23, H23⟩, ⟨%d24, H24⟩⟩
      iapply (bodyB m c t h0 h1 (stPrev m c t) (◆.before 24 t d24) (stAt m c t.val t.isLt) (stAt_middle m c t h0 h1))
      iframe HP HI
      isplitl [H21]; · icases H21 with ⟨%d, H21⟩; iexists _; iexact H21
      iframe H22 H23 H24
      iintro ⟨HP, HI, H21, H22, H23, H24⟩
      iapply (ins_post m c t)
      iframe HP Ho HI H21 H22 H23
      rw [Dat.leavesExact_idle ◆ 24 t (idleAt0_24_B t (fun h => h0 ((hcond0_0 t).mp h)) (fun h => h1 ((hcond0_1 t).mp h))) (noFlush0_24_B t (fun h => h0 ((hcond0_0 t).mp h)) (fun h => h1 ((hcond0_1 t).mp h)))]
      iexists d24; iexact H24

theorem row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row]
  exact triple_restated (body_sound m c t) rfl .rfl fun _ => .rfl

theorem enter (c : Dev nD) : Pipeline.ΦA spec0 c ⊢ (data m 0 c).Φ 0 := Idealize.SL.BI.Entails.refl _

theorem leave (c : Dev nD) : (data m 0 c).Φ (Fin.last cfg0.N) ⊢ Pipeline.ΦA spec0 c := by
  rw [show (data m 0 c).Φ (Fin.last cfg0.N) = between m c (Fin.last cfg0.N).val (le_refl _) from rfl,
    between_pos m c _ _ (by rw [Fin.val_last]; have : cfg0.N = 8 := N_0; omega), PhiA0_eq]
  unfold kept
  iintro ⟨⟨HS0, HS1, HS2, HS3⟩, Hg⟩
  isplitl [HS0 HS1 HS2 HS3]
  · isplitl [HS0]; · iexists _; iexact HS0
    isplitl [HS1]; · iexact HS1
    isplitl [HS2]; · iexists _; iexact HS2
    iexists _; iexact HS3
  iexact Hg

set_option backward.isDefEq.respectTransparency.types false in
/-- Every run ends, with every counter at zero and the arrays at what the pipeline's data say. -/
theorem runs : θ_run defs (onTc (τ := τ) (main (F := F))) (s₀ m ρ)
    (fun r => (Pipeline.FramePost cfgs (data m) 0 (V m)) r ∧ r.2.sem = fun _ => 0) :=
  Pipeline.θ_run_frame_track_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_arr m) (hin := enter m) (hout := leave m)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (data m) (data_arr m) ((θ_run defs _ _).mono (fun _ h => h.1) (runs m ρ)))
    ((θ_run defs _ _).mono (fun _ h => h.2) (runs m ρ))

end Cert.Proof.MxbFrame

end
-- ==== Proof.SgMath.lean ====
/-
  Spatial gating on one row of extended reals: the activation, the layer normalisation, and their backward passes, as
  written by hand and as the transposed forward lines have them.
-/
module

public import proofs.«01_k».proof.Proof.Rms

@[expose] public section

noncomputable section

namespace Cert.Proof.Sg

open Idealize.ShloMosaic Reals Rms
open scoped BigOperators

/-- The cubic coefficient of the activation, and three times it. -/
def ga : ℝ := 8943 / 200000
def ga3 : ℝ := 26829 / 200000
/-- The real number of the float word of `√(2/π)`. -/
def gc : ℝ := 6693141 / 8388608
/-- The real number of the float word of the small constant. -/
def leps : ℝ := 2748779 / 274877906944

theorem leps_pos : 0 < leps := by unfold leps; norm_num

abbrev whalf : EReal := Ideal.ofBits .f32 1056964608#32
abbrev wone : EReal := Ideal.ofBits .f32 1065353216#32
abbrev wc : EReal := Ideal.ofBits .f32 1061962282#32
abbrev w512 : EReal := Ideal.ofBits .f32 1140850688#32
abbrev weps : EReal := Ideal.ofBits .f32 925353388#32
abbrev wnum : EReal := Ideal.ofBits .f32 1194240768#32
abbrev wden : EReal := Ideal.ofBits .f32 1232348160#32
abbrev wthree : EReal := Ideal.ofBits .f32 1077936128#32
abbrev wnhalf : EReal := Ideal.ofBits .f32 3204448256#32

theorem of_half : whalf = ((1 / 2 : ℝ) : EReal) := ofBits_half
theorem of_nhalf : wnhalf = ((-1 / 2 : ℝ) : EReal) := ofBits_neg_half
theorem of_one : wone = ((1 : ℝ) : EReal) := by
  simp [Ideal.ofBits, Ideal.ieee]
theorem of_c : wc = ((gc : ℝ) : EReal) := by
  unfold gc
  simp [Ideal.ofBits, Ideal.ieee]
  norm_num
  rw [mul_up]
  norm_num
theorem of_512 : w512 = ((512 : ℝ) : EReal) := by
  simp [Ideal.ofBits, Ideal.ieee]
  norm_num
  rw [mul_up]
  norm_num
theorem of_eps : weps = ((leps : ℝ) : EReal) := by
  unfold leps
  simp [Ideal.ofBits, Ideal.ieee]
  norm_num
  rw [mul_up]
  norm_num
theorem of_num : wnum = ((44715 : ℝ) : EReal) := by
  simp [Ideal.ofBits, Ideal.ieee]
  norm_num
  rw [mul_up]
  norm_num
theorem of_den : wden = ((1000000 : ℝ) : EReal) := by
  simp [Ideal.ofBits, Ideal.ieee]
  norm_num
  rw [mul_up]
  norm_num
theorem of_three : wthree = ((3 : ℝ) : EReal) := by
  simp [Ideal.ofBits, Ideal.ieee]
  norm_num
  rw [mul_up]
  norm_num

/-! ## The activation -/

/-- As the hand-written pass has it. -/
def kg (x : EReal) : EReal := whalf * x * (wone + Ideal.tanh (wc * (x + (ga : EReal) * x * x * x)))
/-- As the plain lines have it. -/
def rg (x : EReal) : EReal := x * (whalf * (wone + Ideal.tanh (wc * (x + Ideal.div (x * x * x * wnum) wden))))
/-- Its derivative, as the hand-written pass has it. -/
def kd (x : EReal) : EReal :=
  whalf * (wone + Ideal.tanh (wc * (x + (ga : EReal) * x * (x * x))))
    + whalf * x * (wone - Ideal.tanh (wc * (x + (ga : EReal) * x * (x * x))) * Ideal.tanh (wc * (x + (ga : EReal) * x * (x * x)))) * wc
      * (wone + (ga3 : EReal) * (x * x))
/-- The argument of the hyperbolic tangent, in the plain lines. -/
def rt (x : EReal) : EReal := Ideal.tanh (wc * (x + Ideal.div (x * x * x * wnum) wden))
/-- The gradient through it, as the transposed lines have it. -/
def rd (g x : EReal) : EReal :=
  g * (whalf * (wone + rt x)) + wc * (whalf * (x * g) * ((wone + rt x) * (wone - rt x)))
    + Ideal.div (wc * (whalf * (x * g) * ((wone + rt x) * (wone - rt x)))) wden * wnum * (wthree * (x * x))

theorem cube (x : EReal) : Ideal.div (x * x * x * wnum) wden = (ga : EReal) * x * x * x := by
  rw [of_den, Ideal.div_coe (by norm_num), of_num, mul_assoc _ ((44715 : ℝ) : EReal), mul_up, mul_comm, mul_assoc (ga : EReal) x x, mul_assoc (ga : EReal)]
  congr 2
  unfold ga
  norm_num

theorem kg_eq (x : EReal) : kg x = rg x := by
  unfold kg rg
  rw [cube, mul_comm whalf x, mul_assoc]

/-- Real numbers among the extended ones. -/
def IsR (x : EReal) : Prop := ∃ r : ℝ, x = r

theorem IsR.add {x y : EReal} (hx : IsR x) (hy : IsR y) : IsR (x + y) := by
  obtain ⟨a, rfl⟩ := hx; obtain ⟨b, rfl⟩ := hy; exact ⟨a + b, add_up a b⟩
theorem IsR.mul {x y : EReal} (hx : IsR x) (hy : IsR y) : IsR (x * y) := by
  obtain ⟨a, rfl⟩ := hx; obtain ⟨b, rfl⟩ := hy; exact ⟨a * b, mul_up a b⟩
theorem IsR.sum {ι : Type} [Fintype ι] {f : ι → EReal} (h : ∀ i, IsR (f i)) : IsR (∑ i, f i) := by
  choose g hg using h
  exact ⟨∑ i, g i, by rw [← sum_up]; exact Finset.sum_congr rfl fun i _ => hg i⟩
theorem IsR.ite {p : Prop} [Decidable p] {x : EReal} (hx : IsR x) : IsR (if p then x else 0) := by
  split
  · exact hx
  · exact ⟨0, rfl⟩

/-- The activation on a real number. -/
def g1 (x : ℝ) : ℝ := 1 / 2 * x * (1 + Real.tanh (gc * (x + ga * x * x * x)))
theorem kg_up (x : ℝ) : kg (x : EReal) = ((g1 x : ℝ) : EReal) := by
  unfold kg g1
  rw [of_half, of_one, of_c]
  simp only [mul_up, add_up, tanh_up]
theorem IsR.kg {x : EReal} (hx : IsR x) : IsR (kg x) := by
  obtain ⟨a, rfl⟩ := hx; exact ⟨g1 a, kg_up a⟩

theorem kd_eq {g x : EReal} (hg : IsR g) (hx : IsR x) : g * kd x = rd g x := by
  obtain ⟨a, rfl⟩ := hg; obtain ⟨b, rfl⟩ := hx
  have h : rt (b : EReal) = Ideal.tanh (wc * ((b : EReal) + (ga : EReal) * b * (b * b))) := by
    unfold rt; rw [cube, mul_assoc ((ga : EReal) * b)]
  unfold rd kd
  rw [h, of_half, of_one, of_c, of_den, of_num, of_three]
  simp only [mul_up, add_up, tanh_up, sub_up, div_up _ (show (1000000 : ℝ) ≠ 0 by norm_num)]
  congr 1
  have : ga3 = 3 * ga := by unfold ga3 ga; norm_num
  rw [this]
  have : ga = 44715 / 1000000 := by unfold ga; norm_num
  rw [this]
  ring

/-! ## The layer normalisation -/

/-- A row of the activation, less its mean. -/
def cen (v : Fin 512 → EReal) (l : Fin 512) : EReal := kg (v l) - Ideal.div (∑ k, kg (v k)) w512
/-- Its mean square with the small constant. -/
def var (v : Fin 512 → EReal) : EReal := Ideal.div (∑ k, cen v k * cen v k) w512 + weps
/-- One over its root. -/
def rs (v : Fin 512 → EReal) : EReal := Ideal.rsqrt (var v)
/-- The normalised row. -/
def hat (v : Fin 512 → EReal) (l : Fin 512) : EReal := cen v l * rs v
/-- The normalised row, scaled and shifted. -/
def vn (v g b : Fin 512 → EReal) (l : Fin 512) : EReal := hat v l * g l + b l
/-- The gradient through the normalisation, as the hand-written pass has it. -/
def kln (v d : Fin 512 → EReal) (l : Fin 512) : EReal :=
  rs v * (d l - Ideal.div (∑ k, d k) w512 - hat v l * Ideal.div (∑ k, d k * hat v k) w512)
/-- The factor of the transposed mean square. -/
def lfac (v d : Fin 512 → EReal) : EReal := Ideal.div ((∑ k, cen v k * d k) * (wnhalf * Ideal.div (rs v) (var v))) w512
/-- The gradient of the centred row, as the transposed lines have it. -/
def rcen (v d : Fin 512 → EReal) (l : Fin 512) : EReal := d l * rs v + cen v l * lfac v d + lfac v d * cen v l
/-- The gradient through the normalisation, as the transposed lines have it. -/
def rln (v d : Fin 512 → EReal) (l : Fin 512) : EReal := rcen v d l + Ideal.div (∑ k, -rcen v d k) w512

/-- On real numbers: the centred row, its mean square, one over the root. -/
def c1 (V : Fin 512 → ℝ) (l : Fin 512) : ℝ := g1 (V l) - (∑ k, g1 (V k)) / 512
def v1 (V : Fin 512 → ℝ) : ℝ := (∑ k, c1 V k * c1 V k) / 512 + leps
def r1 (V : Fin 512 → ℝ) : ℝ := (Real.sqrt (v1 V))⁻¹

theorem d512 (a : ℝ) : Ideal.div (a : EReal) ((512 : ℝ) : EReal) = ((a / 512 : ℝ) : EReal) := div_up a (by norm_num)

theorem v1_pos (V : Fin 512 → ℝ) : 0 < v1 V := by
  have : 0 ≤ ∑ k, c1 V k * c1 V k := Finset.sum_nonneg fun k _ => mul_self_nonneg _
  have := leps_pos
  unfold v1
  positivity

theorem r1_sq (V : Fin 512 → ℝ) : r1 V * r1 V = 1 / v1 V := by
  unfold r1
  rw [← mul_inv, Real.mul_self_sqrt (v1_pos V).le, one_div]

theorem c1_sum (V : Fin 512 → ℝ) : ∑ k, c1 V k = 0 := by
  unfold c1
  rw [Finset.sum_sub_distrib, Finset.sum_const, Finset.card_univ, Fintype.card_fin, nsmul_eq_mul]
  push_cast
  ring

theorem cen_up (V : Fin 512 → ℝ) (l : Fin 512) : cen (up V) l = ((c1 V l : ℝ) : EReal) := by
  unfold cen c1
  simp only [up, kg_up, sum_up, of_512, d512, sub_up]
theorem var_up (V : Fin 512 → ℝ) : var (up V) = ((v1 V : ℝ) : EReal) := by
  unfold var v1
  simp only [cen_up, mul_up, sum_up, of_512, d512, of_eps, add_up]
theorem rs_up (V : Fin 512 → ℝ) : rs (up V) = ((r1 V : ℝ) : EReal) := by
  unfold rs r1
  rw [var_up, rsqrt_up (v1_pos V)]
theorem hat_up (V : Fin 512 → ℝ) (l : Fin 512) : hat (up V) l = ((c1 V l * r1 V : ℝ) : EReal) := by
  unfold hat
  rw [cen_up, rs_up, mul_up]

theorem IsR.hat {v : Fin 512 → EReal} (hv : ∀ k, IsR (v k)) (l : Fin 512) : IsR (hat v l) := by
  obtain ⟨V, rfl⟩ := exists_up hv
  exact ⟨_, hat_up V l⟩
theorem IsR.vn {v g b : Fin 512 → EReal} (hv : ∀ k, IsR (v k)) (hg : ∀ k, IsR (g k)) (hb : ∀ k, IsR (b k)) (l : Fin 512) : IsR (vn v g b l) :=
  ((IsR.hat hv l).mul (hg l)).add (hb l)

theorem kln_up (V D : Fin 512 → ℝ) (l : Fin 512) : kln (up V) (up D) l
    = ((r1 V * (D l - (∑ k, D k) / 512 - c1 V l * r1 V * ((∑ k, D k * (c1 V k * r1 V)) / 512)) : ℝ) : EReal) := by
  unfold kln
  simp only [rs_up, hat_up, up, mul_up, sum_up, of_512, d512, sub_up]

theorem IsR.kln {v d : Fin 512 → EReal} (hv : ∀ k, IsR (v k)) (hd : ∀ k, IsR (d k)) (l : Fin 512) : IsR (kln v d l) := by
  obtain ⟨V, rfl⟩ := exists_up hv
  obtain ⟨D, rfl⟩ := exists_up hd
  exact ⟨_, kln_up V D l⟩

theorem kln_eq {v d : Fin 512 → EReal} (hv : ∀ k, IsR (v k)) (hd : ∀ k, IsR (d k)) (l : Fin 512) : kln v d l = rln v d l := by
  obtain ⟨V, rfl⟩ := exists_up hv
  obtain ⟨D, rfl⟩ := exists_up hd
  rw [kln_up]
  unfold rln rcen lfac
  simp only [rs_up, cen_up, var_up, up, mul_up, sum_up, of_512, d512, of_nhalf, div_up _ (v1_pos V).ne', add_up, neg_up]
  congr 1
  have h1 : ∑ k, D k * (c1 V k * r1 V) = r1 V * ∑ k, c1 V k * D k := by
    rw [Finset.mul_sum]; exact Finset.sum_congr rfl fun k _ => by ring
  have h2 : r1 V / v1 V = r1 V * (r1 V * r1 V) := by rw [r1_sq]; ring
  rw [h1, h2]
  generalize ∑ k, c1 V k * D k = S
  have h3 : ∀ f : ℝ, ∑ k, -(D k * r1 V + c1 V k * f + f * c1 V k) = -(r1 V * ∑ k, D k) := by
    intro f
    rw [Finset.sum_neg_distrib, Finset.sum_add_distrib, Finset.sum_add_distrib, ← Finset.sum_mul, ← Finset.sum_mul, ← Finset.mul_sum, c1_sum]
    ring
  rw [h3]
  ring

/-! ## The gate over a chunk of rows -/

/-- An entry of a matrix kept on and below the diagonal. -/
def low (j k : Fin 128) (x : EReal) : EReal := if k.val ≤ j.val then x else 0
/-- Column `d` of group `g`. -/
def col (g : Fin 4) (d : Fin 128) : Fin 512 := ⟨128 * g.val + d.val, by omega⟩
/-- The gate of group `g`. -/
def sv (w : Fin 128 → Fin 128 → EReal) (b : Fin 128 → EReal) (n : Fin 128 → Fin 128 → EReal) (j d : Fin 128) : EReal :=
  (∑ k, low j k (w j k) * n k d) + b j
/-- The gradient of the mixed rows. -/
def dvn (w : Fin 128 → Fin 128 → EReal) (s : Fin 128 → Fin 128 → EReal) (k d : Fin 128) : EReal := ∑ j, low j k (w j k) * s j d

theorem IsR.low {j k : Fin 128} {x : EReal} (hx : IsR x) : IsR (low j k x) := IsR.ite hx

theorem low_mul (j k : Fin 128) (x : EReal) : low j k x = x * low j k 1 := by
  unfold low
  split
  · rw [mul_one]
  · rw [mul_zero]

end Cert.Proof.Sg

end
-- ==== Proof.Rects.lean ====
/-
  Reading one entry of a buffer through the rectangles stored into it, and a mask below the diagonal.
-/
module

public import proofs.«01_k».proof.Proof.SgMath
public import Idealize.ShloMosaic.Lib.WritesUnit
public import Idealize.ShloMosaic.Lib.Pointwise
public import Idealize.ShloMosaic.Lib.IdealHost

@[expose] public section

set_option maxRecDepth 16384

noncomputable section

namespace Cert.Proof.Rects

open Idealize.ShloMosaic Idealize.ShloMosaic.TcCoe Sg
open scoped BigOperators

/-- The block of sides `a` and `b` at offset `o0`, `o1` lies in the array. -/
abbrev In2 (M N a b o0 o1 : ℕ) : Prop := ∀ i, (![o0, o1] : Fin 2 → ℕ) i + (![a, b] : Fin 2 → ℕ) i ≤ (⟨2, ![M, N]⟩ : Shape).size i
abbrev In3 (M N P a b d o0 : ℕ) : Prop := ∀ i, (![o0, 0, 0] : Fin 3 → ℕ) i + (![a, b, d] : Fin 3 → ℕ) i ≤ (⟨3, ![M, N, P]⟩ : Shape).size i

theorem skip2 {sig : RefSig} {κ : Kind} {sp : Space} {e : EltTy} {M N a b o0 o1 : ℕ} (v : View sig κ sp ⟨2, ![M, N]⟩ e) (f)
    (inb : In2 M N a b o0 o1) (w) (L) (r : Fin M) (c : Fin N)
    (h : r.val < o0 ∨ o0 + a ≤ r.val ∨ c.val < o1 ∨ o1 + b ≤ c.val := by simp <;> omega) :
    v.read (Elt Ideal) (v.writes (Elt Ideal) f (⟨Rect.unit ![o0, o1] ![a, b] inb, w⟩ :: L)) (ix2 r c)
      = v.read (Elt Ideal) (v.writes (Elt Ideal) f L) (ix2 r c) := by
  rcases h with h | h | h | h
  · exact View.read_writes_cons_unit_of_not_mem v f inb w L _ rfl 0 (.inl h)
  · exact View.read_writes_cons_unit_of_not_mem v f inb w L _ rfl 0 (.inr h)
  · exact View.read_writes_cons_unit_of_not_mem v f inb w L _ rfl 1 (.inl h)
  · exact View.read_writes_cons_unit_of_not_mem v f inb w L _ rfl 1 (.inr h)

theorem take2 {sig : RefSig} {κ : Kind} {sp : Space} {e : EltTy} {M N a b o0 o1 : ℕ} (v : View sig κ sp ⟨2, ![M, N]⟩ e) (f)
    (inb : In2 M N a b o0 o1) (w) (L) (r : Fin M) (c : Fin N)
    (x : Fin a) (y : Fin b) (hx : r.val = o0 + x.val := by simp <;> omega) (hy : c.val = o1 + y.val := by simp <;> omega) :
    v.read (Elt Ideal) (v.writes (Elt Ideal) f (⟨Rect.unit ![o0, o1] ![a, b] inb, w⟩ :: L)) (ix2 r c) = w (ix2 x y) :=
  View.read_writes_cons_unit_of_mem v f inb w L _ _ rfl (Fin.forall_fin_two.mpr ⟨hx, hy⟩)

theorem skip3 {sig : RefSig} {κ : Kind} {sp : Space} {e : EltTy} {M N P a b d o0 : ℕ} (v : View sig κ sp ⟨3, ![M, N, P]⟩ e) (f)
    (inb : In3 M N P a b d o0) (w) (L) (r : Fin M) (c : Fin N) (q : Fin P)
    (h : r.val < o0 ∨ o0 + a ≤ r.val := by simp <;> omega) :
    v.read (Elt Ideal) (v.writes (Elt Ideal) f (⟨Rect.unit ![o0, 0, 0] ![a, b, d] inb, w⟩ :: L)) (ix3 r c q)
      = v.read (Elt Ideal) (v.writes (Elt Ideal) f L) (ix3 r c q) :=
  View.read_writes_cons_unit_of_not_mem v f inb w L _ rfl 0 h

theorem take3 {sig : RefSig} {κ : Kind} {sp : Space} {e : EltTy} {M N P a b d o0 : ℕ} (v : View sig κ sp ⟨3, ![M, N, P]⟩ e) (f)
    (inb : In3 M N P a b d o0) (w) (L) (r : Fin M) (c : Fin N) (q : Fin P)
    (x : Fin a) (y : Fin b) (z : Fin d) (hx : r.val = o0 + x.val := by simp <;> omega) (hy : c.val = y.val := by simp <;> omega) (hz : q.val = z.val := by simp <;> omega) :
    v.read (Elt Ideal) (v.writes (Elt Ideal) f (⟨Rect.unit ![o0, 0, 0] ![a, b, d] inb, w⟩ :: L)) (ix3 r c q) = w (ix3 x y z) :=
  View.read_writes_cons_unit_of_mem v f inb w L _ _ rfl (by
    intro i
    match i with
    | ⟨0, _⟩ => exact hx
    | ⟨1, _⟩ => exact hy.trans (Nat.zero_add _).symm
    | ⟨2, _⟩ => exact hz.trans (Nat.zero_add _).symm)

theorem ld2 {e : EltTy} {M N a b o0 o1 : ℕ} (X : (⟨2, ![M, N]⟩ : Shape).Idx → Elt Ideal e)
    (inb : In2 M N a b o0 o1) (x : Fin a) (y : Fin b)
    (r : Fin M) (c : Fin N) (hx : r.val = o0 + x.val := by simp <;> omega) (hy : c.val = o1 + y.val := by simp <;> omega) :
    View.ld X (Rect.unit (s := ⟨2, ![M, N]⟩) ![o0, o1] ![a, b] inb) (ix2 x y) = X (ix2 r c) := by
  show X ((Rect.unit (s := ⟨2, ![M, N]⟩) ![o0, o1] ![a, b] inb).emb (ix2 x y)) = _
  congr 1
  exact funext fun i => Fin.ext (by
    match i with
    | ⟨0, _⟩ => show o0 + 1 * x.val = r.val; omega
    | ⟨1, _⟩ => show o1 + 1 * y.val = c.val; omega)

theorem ld3 {e : EltTy} {M N P a b d o0 : ℕ} (X : (⟨3, ![M, N, P]⟩ : Shape).Idx → Elt Ideal e)
    (inb : In3 M N P a b d o0) (x : Fin a) (y : Fin b) (z : Fin d)
    (r : Fin M) (c : Fin N) (q : Fin P) (hx : r.val = o0 + x.val := by simp <;> omega) (hy : c.val = y.val := by simp <;> omega) (hz : q.val = z.val := by simp <;> omega) :
    View.ld X (Rect.unit (s := ⟨3, ![M, N, P]⟩) ![o0, 0, 0] ![a, b, d] inb) (ix3 x y z) = X (ix3 r c q) := by
  show X ((Rect.unit (s := ⟨3, ![M, N, P]⟩) ![o0, 0, 0] ![a, b, d] inb).emb (ix3 x y z)) = _
  congr 1
  exact funext fun i => Fin.ext (by
    match i with
    | ⟨0, _⟩ => show o0 + 1 * x.val = r.val; omega
    | ⟨1, _⟩ => show 0 + 1 * y.val = c.val; omega
    | ⟨2, _⟩ => show 0 + 1 * z.val = q.val; omega)

/-- An entry of a load from a filled buffer. -/
theorem cov2 {sig : RefSig} {κ : Kind} {sp : Space} {e : EltTy} {M N a b o0 o1 : ℕ} (v : View sig κ sp ⟨2, ![M, N]⟩ e) (L)
    (inb : In2 M N a b o0 o1) (x : Fin a) (y : Fin b)
    (r : Fin M) (c : Fin N) (hx : r.val = o0 + x.val := by simp <;> omega) (hy : c.val = o1 + y.val := by simp <;> omega) :
    v.readCov (Val := Elt Ideal) L (Rect.unit (s := ⟨2, ![M, N]⟩) ![o0, o1] ![a, b] inb).toLoadRect (ix2 x y)
      = v.read (Elt Ideal) (v.writes (Elt Ideal) v.junk L) (ix2 r c) :=
  ld2 (v.read (Elt Ideal) (v.writes (Elt Ideal) v.junk L)) inb x y r c hx hy

/-- An entry of a load from a filled buffer of three axes. -/
theorem cov3 {sig : RefSig} {κ : Kind} {sp : Space} {e : EltTy} {M N P a b d o0 : ℕ} (v : View sig κ sp ⟨3, ![M, N, P]⟩ e) (L)
    (inb : In3 M N P a b d o0) (x : Fin a) (y : Fin b) (z : Fin d)
    (r : Fin M) (c : Fin N) (q : Fin P) (hx : r.val = o0 + x.val) (hy : c.val = y.val) (hz : q.val = z.val) :
    v.readCov (Val := Elt Ideal) L (Rect.unit (s := ⟨3, ![M, N, P]⟩) ![o0, 0, 0] ![a, b, d] inb).toLoadRect (ix3 x y z)
      = v.read (Elt Ideal) (v.writes (Elt Ideal) v.junk L) (ix3 r c q) :=
  ld3 (v.read (Elt Ideal) (v.writes (Elt Ideal) v.junk L)) inb x y z r c q hx hy hz

/-- A mask below the diagonal, from the compared coordinates. -/
theorem sel_le (j k : Fin 128) (x : EReal) :
    Scalar.select (IntOp.cmpi .sle (BitVec.ofNat 32 k.val) (BitVec.ofNat 32 j.val)) x 0 = low j k x := by
  have e (a : Fin 128) : (BitVec.ofNat 32 a.val).toInt = (a.val : Int) := by
    rw [BitVec.toInt_eq_toNat_of_lt (by simp; omega)]
    simp
    omega
  unfold low
  by_cases hk : k.val ≤ j.val
  · simp [Scalar.select, IntOp.cmpi, BitVec.sle, e, hk]
  · simp [Scalar.select, IntOp.cmpi, BitVec.sle, e, hk]

end Cert.Proof.Rects

end
-- ==== Proof.MxbPay.lean ====
/-
  The payloads of the backward mixer's spatial gating, entry by entry.
-/
module

public import proofs.«01_k».proof.Proof.Rects
public import Idealize.ShloMosaic.Lib.Pointwise
public import Idealize.ShloMosaic.Lib.IdealHost
public import proofs.«01_k».proof.Proof.Gen.MxbKernelIdeal.Skeleton

@[expose] public section

set_option maxRecDepth 16384

noncomputable section

namespace Cert.Proof.MxbPay

open Idealize.ShloMosaic Idealize.ShloMosaic.TcCoe Rects Sg MxbKernelIdeal MxbKernelIdeal.Gen
open scoped BigOperators

/-- Row `j` of a chunk. -/
def rw (V : Vec Ideal S128x512 .f32) (j : Fin 128) : Fin 512 → EReal := fun l => V (ix2 j l)
/-- The gate's row factor. -/
def gate (W : FVec Ideal S128x128 .bf16) (N : FVec Ideal S128x512 .bf16) (B : Vec Ideal S128x1 .f32) (g : Fin 4) (j d : Fin 128) : EReal :=
  (∑ k : Fin 128, W (ix2 j k) * N (ix2 k (col g d))) + B (ix2 j 0)

/-- The kernel's two named constants. -/
theorem na : (Named.named κ "gelu_a" 0x3D372713#32 : Ideal .f32) = (ga : EReal) := by
  unfold ga; rfl
theorem n3a : (Named.named κ "gelu_3a" 0x3E095D4F#32 : Ideal .f32) = (ga3 : EReal) := by
  unfold ga3; rfl

variable (U V : Vec Ideal S128x512 .f32) (Z K : FVec Ideal S128x512 .f32) (N : FVec Ideal S128x512 .bf16)
  (W W0 W1 W2 W3 : FVec Ideal S128x128 .bf16) (B : Vec Ideal S128x1 .f32) (G H : FVec Ideal S1x512 .f32)

theorem p500 (j : Fin 128) (l : Fin 512) : k0_pay500 (F := Ideal) U (ix2 j l) = kg (U (ix2 j l)) := by
  unfold kg
  pointwise [k0_pay500]
  simp only [na]

theorem p555 (j : Fin 128) (l : Fin 512) : k0_pay555 (F := Ideal) U (ix2 j l) = kg (U (ix2 j l)) := by
  unfold kg
  pointwise [k0_pay555]
  simp only [na]

theorem p556 (j : Fin 128) (l : Fin 512) : k0_pay556 (F := Ideal) V (ix2 j l) = kg (V (ix2 j l)) := by
  unfold kg
  pointwise [k0_pay556]
  simp only [na]

theorem p501 (j : Fin 128) (l : Fin 512) : k0_pay501 (F := Ideal) V (ix2 j l) = cen (rw V j) l := by
  unfold cen kg rw
  pointwise [k0_pay501]
  simp only [na]

theorem p502 (j : Fin 128) : k0_pay502 (F := Ideal) V (ix2 j 0) = rs (rw V j) := by
  have h := p501 V
  generalize hv : k0_pay501 (F := Ideal) V = a at h
  unfold rs var
  simp only [← h]
  pointwise [k0_pay502, hv]

theorem p503 (j : Fin 128) (l : Fin 512) : k0_pay503 (F := Ideal) V (ix2 j l) = hat (rw V j) l := by
  unfold hat
  rw [← p501, ← p502]
  pointwise [k0_pay503]

theorem p505 (j : Fin 128) (l : Fin 512) : k0_pay505 (F := Ideal) H (k0_pay504 G V) (ix2 j l) = vn (rw V j) (fun l => G (ix2 0 l)) (fun l => H (ix2 0 l)) l := by
  unfold vn
  rw [← p503]
  pointwise [k0_pay505, k0_pay504]

theorem p558 (j : Fin 128) (l : Fin 512) : k0_pay558 (F := Ideal) (k0_pay556 V) (k0_pay557 V) (ix2 j l) = cen (rw V j) l := by
  have h := p556 V
  generalize hv : k0_pay556 (F := Ideal) V = a at h
  unfold cen rw
  simp only [← h]
  pointwise [k0_pay558, k0_pay557, hv]

theorem p559 (j : Fin 128) : k0_pay559 (F := Ideal) (k0_pay556 V) (k0_pay557 V) (ix2 j 0) = rs (rw V j) := by
  have h := p558 V
  generalize hv : k0_pay558 (F := Ideal) (k0_pay556 V) (k0_pay557 V) = a at h
  unfold rs var
  simp only [← h]
  pointwise [k0_pay559, hv]

theorem p560 (j : Fin 128) (l : Fin 512) : k0_pay560 (F := Ideal) (k0_pay556 V) (k0_pay557 V) (ix2 j l) = hat (rw V j) l := by
  unfold hat
  rw [← p558, ← p559]
  pointwise [k0_pay560]

theorem p561 (j : Fin 128) (l : Fin 512) : k0_pay561 (F := Ideal) G H (k0_pay556 V) (k0_pay557 V) (ix2 j l) = vn (rw V j) (fun l => G (ix2 0 l)) (fun l => H (ix2 0 l)) l := by
  unfold vn
  rw [← p560]
  pointwise [k0_pay561]

theorem u00 (j d : Fin 128) : (k0_pay506 H W Z U (k0_pay504 G V) B : FVec Ideal S128x128 .bf16) (ix2 j d) = Z (ix2 j (col 0 d)) * gate W (k0_pay505 H (k0_pay504 G V)) B 0 j d * kd (U (ix2 j (col 0 d))) := by
  unfold kd gate col
  pointwise [k0_pay506]
  simp only [na, n3a]

theorem u01 (j d : Fin 128) : (k0_pay517 (k0_pay512 W Z N B) (k0_pay513 U) (k0_pay514 U) (k0_pay515 U) (k0_pay516 U) (Scalar.ofBits .f32 0x3F000000#32) : FVec Ideal S128x128 .bf16) (ix2 j d) = Z (ix2 j (col 1 d)) * gate W N B 1 j d * kd (U (ix2 j (col 1 d))) := by
  unfold kd gate col
  pointwise [k0_pay517, k0_pay512, k0_pay513, k0_pay514, k0_pay515, k0_pay516]
  simp only [na, n3a]

theorem u02 (j d : Fin 128) : (k0_pay524 W Z U (k0_pay523 N) B : FVec Ideal S128x128 .bf16) (ix2 j d) = Z (ix2 j (col 2 d)) * gate W N B 2 j d * kd (U (ix2 j (col 2 d))) := by
  unfold kd gate col
  pointwise [k0_pay524, k0_pay523]
  simp only [na, n3a]

theorem u03 (j d : Fin 128) : (k0_pay538 (k0_pay531 W Z N B) (k0_pay533 U) (k0_pay535 U) (k0_pay536 U) (k0_pay537 U) (Scalar.ofBits .f32 0x3F800000#32) : FVec Ideal S128x128 .bf16) (ix2 j d) = Z (ix2 j (col 3 d)) * gate W N B 3 j d * kd (U (ix2 j (col 3 d))) := by
  unfold kd gate col
  pointwise [k0_pay538, k0_pay531, k0_pay532, k0_pay533, k0_pay534, k0_pay535, k0_pay536, k0_pay537]
  simp only [na, n3a]

theorem u10 (j d : Fin 128) : (k0_pay569 (k0_pay562 G H W Z (k0_pay556 V) (k0_pay557 V) B) (k0_pay564 U) (k0_pay566 U) (k0_pay567 U) k0_pay568 : FVec Ideal S128x128 .bf16) (ix2 j d) = Z (ix2 j (col 0 d)) * gate W (k0_pay561 G H (k0_pay556 V) (k0_pay557 V)) B 0 j d * kd (U (ix2 j (col 0 d))) := by
  unfold kd gate col
  pointwise [k0_pay569, k0_pay562, k0_pay563, k0_pay564, k0_pay565, k0_pay566, k0_pay567, k0_pay568]
  simp only [na, n3a]

theorem u11 (j d : Fin 128) : (k0_pay578 (k0_pay575 W Z N B) (k0_pay576 U) (k0_pay577 U) : FVec Ideal S128x128 .bf16) (ix2 j d) = Z (ix2 j (col 1 d)) * gate W N B 1 j d * kd (U (ix2 j (col 1 d))) := by
  unfold kd gate col
  pointwise [k0_pay578, k0_pay575, k0_pay576, k0_pay577]
  simp only [na, n3a]

theorem u12 (j d : Fin 128) : (k0_pay593 (k0_pay586 W Z N B) (k0_pay590 U) (k0_pay591 U) (k0_pay592 U) : FVec Ideal S128x128 .bf16) (ix2 j d) = Z (ix2 j (col 2 d)) * gate W N B 2 j d * kd (U (ix2 j (col 2 d))) := by
  unfold kd gate col
  pointwise [k0_pay593, k0_pay586, k0_pay587, k0_pay588, k0_pay589, k0_pay590, k0_pay591, k0_pay592]
  simp only [na, n3a]

theorem u13 (j d : Fin 128) : (k0_pay603 (k0_pay599 W Z N B) (k0_pay600 U) (k0_pay601 U) (k0_pay602 U) : FVec Ideal S128x128 .bf16) (ix2 j d) = Z (ix2 j (col 3 d)) * gate W N B 3 j d * kd (U (ix2 j (col 3 d))) := by
  unfold kd gate col
  pointwise [k0_pay603, k0_pay599, k0_pay600, k0_pay601, k0_pay602]
  simp only [na, n3a]

theorem d0 (k d : Fin 128) : (k0_pay511 W (k0_pay508 Z K) : FVec Ideal S128x128 .f32) (ix2 k d) = ∑ j : Fin 128, W (ix2 j k) * (Z (ix2 j (col 0 d)) * K (ix2 j (col 0 d))) := by
  unfold col
  pointwise [k0_pay511, k0_pay508, k0_pay507]

theorem d1 (k d : Fin 128) : (k0_pay522 W Z K : FVec Ideal S128x128 .f32) (ix2 k d) = ∑ j : Fin 128, W (ix2 j k) * (Z (ix2 j (col 1 d)) * K (ix2 j (col 1 d))) := by
  unfold col
  pointwise [k0_pay522, k0_pay519, k0_pay518]

theorem d2 (k d : Fin 128) : (k0_pay530 W (k0_pay526 Z K) : FVec Ideal S128x128 .f32) (ix2 k d) = ∑ j : Fin 128, W (ix2 j k) * (Z (ix2 j (col 2 d)) * K (ix2 j (col 2 d))) := by
  unfold col
  pointwise [k0_pay530, k0_pay526, k0_pay525]

theorem e0 (k d : Fin 128) : (k0_pay574 W Z K : FVec Ideal S128x128 .f32) (ix2 k d) = ∑ j : Fin 128, W (ix2 j k) * (Z (ix2 j (col 0 d)) * K (ix2 j (col 0 d))) := by
  unfold col
  pointwise [k0_pay574, k0_pay571, k0_pay570]

theorem e1 (k d : Fin 128) : (k0_pay585 W (k0_pay580 Z K) : FVec Ideal S128x128 .f32) (ix2 k d) = ∑ j : Fin 128, W (ix2 j k) * (Z (ix2 j (col 1 d)) * K (ix2 j (col 1 d))) := by
  unfold col
  pointwise [k0_pay585, k0_pay580, k0_pay579]

theorem e2 (k d : Fin 128) : (k0_pay598 W Z K : FVec Ideal S128x128 .f32) (ix2 k d) = ∑ j : Fin 128, W (ix2 j k) * (Z (ix2 j (col 2 d)) * K (ix2 j (col 2 d))) := by
  unfold col
  pointwise [k0_pay598, k0_pay595, k0_pay594]

theorem p540 (j d : Fin 128) : k0_pay540 (F := Ideal) Z K (ix2 j d) = Z (ix2 j (col 3 d)) * K (ix2 j (col 3 d)) := by
  unfold col
  pointwise [k0_pay540, k0_pay539]

theorem p605 (j d : Fin 128) : k0_pay605 (F := Ideal) Z K (ix2 j d) = Z (ix2 j (col 3 d)) * K (ix2 j (col 3 d)) := by
  unfold col
  pointwise [k0_pay605, k0_pay604]

theorem dd (g : Fin 4) (k d : Fin 128) : (k0_pay543 W3 Z K (k0_pay511 W0 (k0_pay508 Z K)) (k0_pay522 W1 Z K) (k0_pay530 W2 (k0_pay526 Z K)) : FVec Ideal S128x512 .f32) (ix2 k (col g d)) = ∑ j : Fin 128, ![W0, W1, W2, W3] g (ix2 j k) * (Z (ix2 j (col g d)) * K (ix2 j (col g d))) := by
  fin_cases g
  · refine Eq.trans ?_ (d0 Z K W0 k d)
    pointwise [k0_pay543]
    rw [dif_pos (show (col 0 d).val < 128 from by show 128 * 0 + d.val < 128; omega)]
    have e (h : (col 0 d).val < 128) : (⟨(col 0 d).val, h⟩ : Fin 128) = d := Fin.ext (by show 128 * 0 + d.val = d.val; omega)
    simp only [e]
  · refine Eq.trans ?_ (d1 Z K W1 k d)
    pointwise [k0_pay543]
    rw [dif_neg (show ¬ (col 1 d).val < 128 from by show ¬ 128 * 1 + d.val < 128; omega), dif_pos (show (col 1 d).val - 128 < 128 from by show 128 * 1 + d.val - 128 < 128; omega)]
    have e (h : (col 1 d).val - 128 < 128) : (⟨(col 1 d).val - 128, h⟩ : Fin 128) = d := Fin.ext (by show 128 * 1 + d.val - 128 = d.val; omega)
    simp only [e]
  · refine Eq.trans ?_ (d2 Z K W2 k d)
    pointwise [k0_pay543]
    rw [dif_neg (show ¬ (col 2 d).val < 128 from by show ¬ 128 * 2 + d.val < 128; omega), dif_neg (show ¬ (col 2 d).val - 128 < 128 from by show ¬ 128 * 2 + d.val - 128 < 128; omega), dif_pos (show (col 2 d).val - 128 - 128 < 128 from by show 128 * 2 + d.val - 128 - 128 < 128; omega)]
    have e (h : (col 2 d).val - 128 - 128 < 128) : (⟨(col 2 d).val - 128 - 128, h⟩ : Fin 128) = d := Fin.ext (by show 128 * 2 + d.val - 128 - 128 = d.val; omega)
    simp only [e]
  · refine Eq.trans ?_ ((Finset.sum_congr rfl fun x _ => by rw [p540]; rfl : ∑ x : Fin 128, W3 (ix2 x k) * k0_pay540 (F := Ideal) Z K (ix2 x d) = _))
    pointwise [k0_pay543]
    rw [dif_neg (show ¬ (col 3 d).val < 128 from by show ¬ 128 * 3 + d.val < 128; omega), dif_neg (show ¬ (col 3 d).val - 128 < 128 from by show ¬ 128 * 3 + d.val - 128 < 128; omega), dif_neg (show ¬ (col 3 d).val - 128 - 128 < 128 from by show ¬ 128 * 3 + d.val - 128 - 128 < 128; omega)]
    have e (h : (col 3 d).val - 128 - 128 - 128 < 128) : (⟨(col 3 d).val - 128 - 128 - 128, h⟩ : Fin 128) = d := Fin.ext (by show 128 * 3 + d.val - 128 - 128 - 128 = d.val; omega)
    simp only [e]

theorem ee (g : Fin 4) (k d : Fin 128) : (k0_pay611 W3 (k0_pay574 W0 Z K) (k0_pay585 W1 (k0_pay580 Z K)) (k0_pay598 W2 Z K) (k0_pay605 Z K) : FVec Ideal S128x512 .f32) (ix2 k (col g d)) = ∑ j : Fin 128, ![W0, W1, W2, W3] g (ix2 j k) * (Z (ix2 j (col g d)) * K (ix2 j (col g d))) := by
  fin_cases g
  · refine Eq.trans ?_ (e0 Z K W0 k d)
    pointwise [k0_pay611]
    rw [dif_pos (show (col 0 d).val < 128 from by show 128 * 0 + d.val < 128; omega)]
    have e (h : (col 0 d).val < 128) : (⟨(col 0 d).val, h⟩ : Fin 128) = d := Fin.ext (by show 128 * 0 + d.val = d.val; omega)
    simp only [e]
  · refine Eq.trans ?_ (e1 Z K W1 k d)
    pointwise [k0_pay611]
    rw [dif_neg (show ¬ (col 1 d).val < 128 from by show ¬ 128 * 1 + d.val < 128; omega), dif_pos (show (col 1 d).val - 128 < 128 from by show 128 * 1 + d.val - 128 < 128; omega)]
    have e (h : (col 1 d).val - 128 < 128) : (⟨(col 1 d).val - 128, h⟩ : Fin 128) = d := Fin.ext (by show 128 * 1 + d.val - 128 = d.val; omega)
    simp only [e]
  · refine Eq.trans ?_ (e2 Z K W2 k d)
    pointwise [k0_pay611]
    rw [dif_neg (show ¬ (col 2 d).val < 128 from by show ¬ 128 * 2 + d.val < 128; omega), dif_neg (show ¬ (col 2 d).val - 128 < 128 from by show ¬ 128 * 2 + d.val - 128 < 128; omega), dif_pos (show (col 2 d).val - 128 - 128 < 128 from by show 128 * 2 + d.val - 128 - 128 < 128; omega)]
    have e (h : (col 2 d).val - 128 - 128 < 128) : (⟨(col 2 d).val - 128 - 128, h⟩ : Fin 128) = d := Fin.ext (by show 128 * 2 + d.val - 128 - 128 = d.val; omega)
    simp only [e]
  · refine Eq.trans ?_ ((Finset.sum_congr rfl fun x _ => by rw [p605]; rfl : ∑ x : Fin 128, W3 (ix2 x k) * k0_pay605 (F := Ideal) Z K (ix2 x d) = _))
    pointwise [k0_pay611]
    rw [dif_neg (show ¬ (col 3 d).val < 128 from by show ¬ 128 * 3 + d.val < 128; omega), dif_neg (show ¬ (col 3 d).val - 128 < 128 from by show ¬ 128 * 3 + d.val - 128 < 128; omega), dif_neg (show ¬ (col 3 d).val - 128 - 128 < 128 from by show ¬ 128 * 3 + d.val - 128 - 128 < 128; omega)]
    have e (h : (col 3 d).val - 128 - 128 - 128 < 128) : (⟨(col 3 d).val - 128 - 128 - 128, h⟩ : Fin 128) = d := Fin.ext (by show 128 * 3 + d.val - 128 - 128 - 128 = d.val; omega)
    simp only [e]

theorem v0 (T : FVec Ideal S128x512 .f32) (j : Fin 128) (l : Fin 512) : (k0_pay553 (k0_pay547 G (k0_pay502 V) (k0_pay503 V) T) (k0_pay550 V) (k0_pay551 V) (k0_pay552 V) : FVec Ideal S128x512 .bf16) (ix2 j l) = kln (rw V j) (fun l => T (ix2 j l) * G (ix2 0 l)) l * kd (V (ix2 j l)) := by
  have h0 := p502 V
  generalize hv0 : k0_pay502 (F := Ideal) V = a0 at h0
  have h1 := p503 V
  generalize hv1 : k0_pay503 (F := Ideal) V = a1 at h1
  unfold kln kd
  simp only [← h0, ← h1]
  pointwise [k0_pay553, k0_pay547, k0_pay548, k0_pay549, k0_pay550, k0_pay551, k0_pay552]
  simp only [na, n3a]

theorem v1 (D0 D1 D2 : FVec Ideal S128x128 .f32) (S3 : FVec Ideal S128x128 .bf16) (j : Fin 128) (l : Fin 512) : (k0_pay1 V (k0_pay614 G W3 (k0_pay559 (k0_pay556 V) (k0_pay557 V)) (k0_pay560 (k0_pay556 V) (k0_pay557 V)) D0 D1 D2 S3) (k0_pay615 V) (k0_pay616 V) (k0_pay617 V) (Scalar.ofBits .f32 0x3F000000#32) : FVec Ideal S128x512 .bf16) (ix2 j l) = kln (rw V j) (fun l => k0_pay611 W3 D0 D1 D2 S3 (ix2 j l) * G (ix2 0 l)) l * kd (V (ix2 j l)) := by
  have h0 := p559 V
  generalize hv0 : k0_pay559 (F := Ideal) (k0_pay556 V) (k0_pay557 V) = a0 at h0
  have h1 := p560 V
  generalize hv1 : k0_pay560 (F := Ideal) (k0_pay556 V) (k0_pay557 V) = a1 at h1
  generalize hT : k0_pay611 (F := Ideal) W3 D0 D1 D2 S3 = T
  unfold kln kd
  simp only [← h0, ← h1]
  pointwise [k0_pay1, k0_pay614, k0_pay615, k0_pay616, k0_pay617, hT]
  simp only [na, n3a]

theorem g0 (D0 D1 D2 : FVec Ideal S128x128 .f32) (l : Fin 512) : (k0_pay545 (broadcast S1x512 (Scalar.ofBits .f32 0x00000000#32)) (k0_pay544 W3 Z K (k0_pay503 V) D0 D1 D2) : FVec Ideal S1x512 .f32) (ix2 0 l) = ∑ j : Fin 128, k0_pay543 W3 Z K D0 D1 D2 (ix2 j l) * hat (rw V j) l := by
  simp only [← p503]
  generalize hT : k0_pay543 (F := Ideal) W3 Z K D0 D1 D2 = T
  pointwise [k0_pay545, k0_pay544, hT]

theorem g1 (D0 D1 D2 : FVec Ideal S128x128 .f32) (S3 : FVec Ideal S128x128 .bf16) (X Y : FVec Ideal S1x512 .f32) (l : Fin 512) : (k0_pay2 (k0_pay612 W3 X (k0_pay560 (k0_pay556 V) (k0_pay557 V)) D0 D1 D2 S3) Y : FVec Ideal S1x512 .f32) (ix2 0 l) = Y (ix2 0 l) + (X (ix2 0 l) + ∑ j : Fin 128, k0_pay611 W3 D0 D1 D2 S3 (ix2 j l) * hat (rw V j) l) := by
  simp only [← p560]
  generalize hT : k0_pay611 (F := Ideal) W3 D0 D1 D2 S3 = T
  pointwise [k0_pay2, k0_pay612, hT]

theorem b0 (T : FVec Ideal S128x512 .f32) (l : Fin 512) : (k0_pay546 (broadcast S1x512 (Scalar.ofBits .f32 0x00000000#32)) T : FVec Ideal S1x512 .f32) (ix2 0 l) = ∑ j : Fin 128, T (ix2 j l) := by
  pointwise [k0_pay546]

theorem b1 (D0 D1 D2 : FVec Ideal S128x128 .f32) (S3 : FVec Ideal S128x128 .bf16) (X Y : FVec Ideal S1x512 .f32) (l : Fin 512) : (k0_pay3 (k0_pay613 W3 X D0 D1 D2 S3) Y : FVec Ideal S1x512 .f32) (ix2 0 l) = Y (ix2 0 l) + (X (ix2 0 l) + ∑ j : Fin 128, k0_pay611 W3 D0 D1 D2 S3 (ix2 j l)) := by
  generalize hT : k0_pay611 (F := Ideal) W3 D0 D1 D2 S3 = T
  pointwise [k0_pay3, k0_pay613, hT]

theorem a00 (X : Vec Ideal S128x128 .f32) (j d : Fin 128) : (k0_pay509 (k0_pay507 Z K) X : FVec Ideal S128x128 .f32) (ix2 j d) = X (ix2 j d) + Z (ix2 j (col 0 d)) * K (ix2 j (col 0 d)) := by
  unfold col
  pointwise [k0_pay509, k0_pay507]

theorem a01 (X : Vec Ideal S128x128 .f32) (j d : Fin 128) : (k0_pay520 Z K X : FVec Ideal S128x128 .f32) (ix2 j d) = X (ix2 j d) + Z (ix2 j (col 1 d)) * K (ix2 j (col 1 d)) := by
  unfold col
  pointwise [k0_pay520, k0_pay518]

theorem a02 (X : Vec Ideal S128x128 .f32) (j d : Fin 128) : (k0_pay528 (k0_pay527 Z K X) : FVec Ideal S128x128 .f32) (ix2 j d) = X (ix2 j d) + Z (ix2 j (col 2 d)) * K (ix2 j (col 2 d)) := by
  unfold col
  pointwise [k0_pay528, k0_pay527, k0_pay525]

theorem a03 (X : Vec Ideal S128x128 .f32) (j d : Fin 128) : (k0_pay541 Z K X : FVec Ideal S128x128 .f32) (ix2 j d) = X (ix2 j d) + Z (ix2 j (col 3 d)) * K (ix2 j (col 3 d)) := by
  unfold col
  pointwise [k0_pay541, k0_pay539]

theorem a10 (X : Vec Ideal S128x128 .f32) (j d : Fin 128) : (k0_pay572 Z K X : FVec Ideal S128x128 .f32) (ix2 j d) = X (ix2 j d) + Z (ix2 j (col 0 d)) * K (ix2 j (col 0 d)) := by
  unfold col
  pointwise [k0_pay572, k0_pay570]

theorem a11 (X : Vec Ideal S128x128 .f32) (j d : Fin 128) : (k0_pay581 Z K X : FVec Ideal S128x128 .f32) (ix2 j d) = X (ix2 j d) + Z (ix2 j (col 1 d)) * K (ix2 j (col 1 d)) := by
  unfold col
  pointwise [k0_pay581, k0_pay579]

theorem a12 (X : Vec Ideal S128x128 .f32) (j d : Fin 128) : (k0_pay596 Z K X : FVec Ideal S128x128 .f32) (ix2 j d) = X (ix2 j d) + Z (ix2 j (col 2 d)) * K (ix2 j (col 2 d)) := by
  unfold col
  pointwise [k0_pay596, k0_pay594]

theorem a13 (X : Vec Ideal S128x128 .f32) (j d : Fin 128) : (k0_pay606 Z K X : FVec Ideal S128x128 .f32) (ix2 j d) = X (ix2 j d) + Z (ix2 j (col 3 d)) * K (ix2 j (col 3 d)) := by
  unfold col
  pointwise [k0_pay606, k0_pay604]

/-- The mask of the entries on and below the diagonal. -/
abbrev msk : IVec S128x128 1 := cmpi .sle (iota .tc S128x128 32 [1] iota_S128x128_d1_w32) (iota .tc S128x128 32 [0] iota_S128x128_d0_w32)

theorem w00 (X : Vec Ideal S1x128x128 .f32) (j k : Fin 128) : (k0_pay510 msk N (k0_pay508 Z K) X : FVec Ideal S1x128x128 .f32) (ix3 0 j k) = X (ix3 0 j k) + low j k (∑ d : Fin 128, Z (ix2 j (col 0 d)) * K (ix2 j (col 0 d)) * N (ix2 k (col 0 d))) := by
  rw [← sel_le]
  unfold col msk
  pointwise [k0_pay510, k0_pay508, k0_pay507]

theorem w01 (X : Vec Ideal S1x128x128 .f32) (j k : Fin 128) : (k0_pay521 msk Z K N X : FVec Ideal S1x128x128 .f32) (ix3 0 j k) = X (ix3 0 j k) + low j k (∑ d : Fin 128, Z (ix2 j (col 1 d)) * K (ix2 j (col 1 d)) * N (ix2 k (col 1 d))) := by
  rw [← sel_le]
  unfold col msk
  pointwise [k0_pay521, k0_pay519, k0_pay518]

theorem w02 (X : Vec Ideal S1x128x128 .f32) (j k : Fin 128) : (k0_pay529 msk N (k0_pay526 Z K) X : FVec Ideal S1x128x128 .f32) (ix3 0 j k) = X (ix3 0 j k) + low j k (∑ d : Fin 128, Z (ix2 j (col 2 d)) * K (ix2 j (col 2 d)) * N (ix2 k (col 2 d))) := by
  rw [← sel_le]
  unfold col msk
  pointwise [k0_pay529, k0_pay526, k0_pay525]

theorem w03 (X : Vec Ideal S1x128x128 .f32) (j k : Fin 128) : (k0_pay542 msk Z K N X : FVec Ideal S1x128x128 .f32) (ix3 0 j k) = X (ix3 0 j k) + low j k (∑ d : Fin 128, Z (ix2 j (col 3 d)) * K (ix2 j (col 3 d)) * N (ix2 k (col 3 d))) := by
  rw [← sel_le]
  unfold col msk
  pointwise [k0_pay542, k0_pay540, k0_pay539]

theorem w10 (X : Vec Ideal S1x128x128 .f32) (j k : Fin 128) : (k0_pay573 msk Z K N X : FVec Ideal S1x128x128 .f32) (ix3 0 j k) = X (ix3 0 j k) + low j k (∑ d : Fin 128, Z (ix2 j (col 0 d)) * K (ix2 j (col 0 d)) * N (ix2 k (col 0 d))) := by
  rw [← sel_le]
  unfold col msk
  pointwise [k0_pay573, k0_pay571, k0_pay570]

theorem w11 (X : Vec Ideal S1x128x128 .f32) (j k : Fin 128) : (k0_pay584 msk (k0_pay580 Z K) (k0_pay582 X) (k0_pay583 N) : FVec Ideal S1x128x128 .f32) (ix3 0 j k) = X (ix3 0 j k) + low j k (∑ d : Fin 128, Z (ix2 j (col 1 d)) * K (ix2 j (col 1 d)) * N (ix2 k (col 1 d))) := by
  rw [← sel_le]
  unfold col msk
  pointwise [k0_pay584, k0_pay580, k0_pay582, k0_pay583, k0_pay579]

theorem w12 (X : Vec Ideal S1x128x128 .f32) (j k : Fin 128) : (k0_pay597 msk Z K N X : FVec Ideal S1x128x128 .f32) (ix3 0 j k) = X (ix3 0 j k) + low j k (∑ d : Fin 128, Z (ix2 j (col 2 d)) * K (ix2 j (col 2 d)) * N (ix2 k (col 2 d))) := by
  rw [← sel_le]
  unfold col msk
  pointwise [k0_pay597, k0_pay595, k0_pay594]

theorem w13 (X : Vec Ideal S1x128x128 .f32) (j k : Fin 128) : (k0_pay610 msk (k0_pay607 X) (k0_pay608 Z K N) k0_pay609 : FVec Ideal S1x128x128 .f32) (ix3 0 j k) = X (ix3 0 j k) + low j k (∑ d : Fin 128, Z (ix2 j (col 3 d)) * K (ix2 j (col 3 d)) * N (ix2 k (col 3 d))) := by
  rw [← sel_le]
  unfold col msk
  pointwise [k0_pay610, k0_pay607, k0_pay608, k0_pay609, k0_pay605, k0_pay604]

theorem wm (X : FVec Ideal S1x128x128 .f32) (j k : Fin 128) : (truncf .bf16 (select msk (shapeCast S128x128 X shapeCasts_S1x128x128_S128x128) (broadcast S128x128 (Scalar.ofBits .f32 0x00000000#32))) bitsLt_bf16_f32 : FVec Ideal S128x128 .bf16) (ix2 j k) = low j k (X (ix3 0 j k)) := by
  rw [← sel_le]
  unfold msk
  pointwise []

end Cert.Proof.MxbPay

end
-- ==== Proof.MxbBlk.lean ====
/-
  The backward mixer's blocks at one grid point, entry by entry: what its spatial gating stores.
-/
module

public import proofs.«01_k».proof.Proof.MxbPay
public import Idealize.ShloMosaic.Lib.WritesUnit

@[expose] public section

set_option maxRecDepth 16384

noncomputable section

namespace Cert.Proof.MxbBlk

open Idealize.ShloMosaic Idealize.ShloMosaic.TcCoe Rects Sg MxbPay MxbKernelIdeal MxbKernelIdeal.Gen
open scoped BigOperators

/-! ## The results of one tile's two chunks, from its blocks -/

/-- Row `j` of chunk `h`. -/
def rowx (x : Vec Ideal S256x512 .f32) (h : Fin 2) (j : Fin 128) : Fin 512 → EReal := fun l => x (ix2 ⟨128 * h.val + j.val, by omega⟩ l)
/-- The gradient's last columns. -/
def zx (x11 : Vec Ideal S256x1536 .bf16) (h : Fin 2) (j : Fin 128) (l : Fin 512) : EReal := x11 (ix2 ⟨128 * h.val + j.val, by omega⟩ ⟨1024 + l.val, by omega⟩)
/-- A vector block. -/
def vec1 (x : Vec Ideal S1x512 .f32) : Fin 512 → EReal := fun l => x (ix2 0 l)
/-- The group of a column. -/
def grp (l : Fin 512) : Fin 4 := ⟨l.val / 128, by omega⟩

theorem grp_col (g : Fin 4) (d : Fin 128) : grp (col g d) = g := Fin.ext (by show (128 * g.val + d.val) / 128 = g.val; omega)
theorem exists_col (l : Fin 512) : ∃ g d, l = col g d := ⟨grp l, ⟨l.val % 128, Nat.mod_lt _ (by decide)⟩, Fin.ext (by show l.val = 128 * (l.val / 128) + l.val % 128; omega)⟩

section
variable (x7 x8 : Vec Ideal S256x512 .f32) (x11 : Vec Ideal S256x1536 .bf16) (x17 x18 : Vec Ideal S1x512 .f32)
  (x19 : Vec Ideal S4x128x128 .f32) (x20 : Vec Ideal S128x4 .f32)

def vnx (h : Fin 2) (k : Fin 128) (l : Fin 512) : EReal := vn (rowx x8 h k) (vec1 x17) (vec1 x18) l
def sx (h : Fin 2) (j : Fin 128) (l : Fin 512) : EReal := zx x11 h j l * kg (rowx x7 h j l)
def dnx (h : Fin 2) (k : Fin 128) (l : Fin 512) : EReal := ∑ j : Fin 128, low j k (x19 (ix3 (grp l) j k)) * sx x7 x11 h j l
def xU (h : Fin 2) (g : Fin 4) (j d : Fin 128) : EReal :=
  zx x11 h j (col g d) * sv (fun j k => x19 (ix3 g j k)) (fun j => x20 (ix2 j g)) (fun k d => vnx x8 x17 x18 h k (col g d)) j d * kd (rowx x7 h j (col g d))
def xV (h : Fin 2) (j : Fin 128) (l : Fin 512) : EReal :=
  kln (rowx x8 h j) (fun l => dnx x7 x11 x19 h j l * vec1 x17 l) l * kd (rowx x8 h j l)
def xW (h : Fin 2) (g : Fin 4) (j k : Fin 128) : EReal := low j k (∑ d : Fin 128, sx x7 x11 h j (col g d) * vnx x8 x17 x18 h k (col g d))
def xG (h : Fin 2) (l : Fin 512) : EReal := ∑ j : Fin 128, dnx x7 x11 x19 h j l * hat (rowx x8 h j) l
def xB (h : Fin 2) (l : Fin 512) : EReal := ∑ j : Fin 128, dnx x7 x11 x19 h j l

/-! ## The operands the stores are written from -/

def U0 (x : Vec Ideal S256x512 .f32) : Vec Ideal S128x512 .f32 := View.ld x (Rect.unit ![0, 0] ![128, 512] inb_S256x512_S128x512_0_0)
def U1 (x : Vec Ideal S256x512 .f32) : Vec Ideal S128x512 .f32 := View.ld x (Rect.unit ![128, 0] ![128, 512] inb_S256x512_S128x512_128_0)
def Z0 : FVec Ideal S128x512 .f32 := k0_pay499 (View.ld x11 (Rect.unit ![0, 1024] ![128, 512] inb_S256x1536_S128x512_0_1024))
def Z1 : FVec Ideal S128x512 .f32 := k0_pay554 (View.ld x11 (Rect.unit ![128, 1024] ![128, 512] inb_S256x1536_S128x512_128_1024))
def vG (x : Vec Ideal S1x512 .f32) : FVec Ideal S1x512 .f32 := shapeCast S1x512 (View.ld x (Rect.unit ![0, 0] ![1, 512] inb_S1x512_S1x512_0_0)) shapeCasts_S1x512_S1x512
def K0 : FVec Ideal S128x512 .f32 := k0_pay500 (U0 x7)
def K1 : FVec Ideal S128x512 .f32 := k0_pay555 (U1 x7)
def N0 : FVec Ideal S128x512 .bf16 := k0_pay505 (vG x18) (k0_pay504 (vG x17) (U0 x8))
def N1 : FVec Ideal S128x512 .bf16 := k0_pay561 (vG x17) (vG x18) (k0_pay556 (U1 x8)) (k0_pay557 (U1 x8))
theorem inbW (g : Fin 4) : ∀ i, (![g.val, 0, 0] : Fin 3 → ℕ) i + (![1, 128, 128] : Fin 3 → ℕ) i ≤ S4x128x128.size i := by
  fin_cases g <;> decide
theorem inbB (g : Fin 4) : ∀ i, (![0, g.val] : Fin 2 → ℕ) i + (![128, 1] : Fin 2 → ℕ) i ≤ S128x4.size i := by
  fin_cases g <;> decide
def wG (g : Fin 4) : FVec Ideal S128x128 .bf16 :=
  truncf .bf16 (select msk (shapeCast S128x128 (View.ld x19 (Rect.unit ![g.val, 0, 0] ![1, 128, 128] (inbW g))) shapeCasts_S1x128x128_S128x128) (broadcast S128x128 (Scalar.ofBits .f32 0x00000000#32))) bitsLt_bf16_f32
def bG (g : Fin 4) : Vec Ideal S128x1 .f32 := View.ld x20 (Rect.unit ![0, g.val] ![128, 1] (inbB g))
def D0 : FVec Ideal S128x512 .f32 := k0_pay543 (wG x19 3) (Z0 x11) (K0 x7) (k0_pay511 (wG x19 0) (k0_pay508 (Z0 x11) (K0 x7))) (k0_pay522 (wG x19 1) (Z0 x11) (K0 x7)) (k0_pay530 (wG x19 2) (k0_pay526 (Z0 x11) (K0 x7)))
def D1 : FVec Ideal S128x512 .f32 := k0_pay611 (wG x19 3) (k0_pay574 (wG x19 0) (Z1 x11) (K1 x7)) (k0_pay585 (wG x19 1) (k0_pay580 (Z1 x11) (K1 x7))) (k0_pay598 (wG x19 2) (Z1 x11) (K1 x7)) (k0_pay605 (Z1 x11) (K1 x7))

theorem U0_row (x : Vec Ideal S256x512 .f32) (j : Fin 128) : rw (U0 x) j = rowx x 0 j := funext fun l => ld2 _ _ _ _ _ _ rfl (Nat.zero_add _).symm
theorem U1_row (x : Vec Ideal S256x512 .f32) (j : Fin 128) : rw (U1 x) j = rowx x 1 j := funext fun l => ld2 _ _ _ _ _ _ rfl (Nat.zero_add _).symm
theorem U0_at (x : Vec Ideal S256x512 .f32) (j : Fin 128) (l : Fin 512) : U0 x (ix2 j l) = rowx x 0 j l := congrFun (U0_row x j) l
theorem U1_at (x : Vec Ideal S256x512 .f32) (j : Fin 128) (l : Fin 512) : U1 x (ix2 j l) = rowx x 1 j l := congrFun (U1_row x j) l
theorem Z0_at (j : Fin 128) (l : Fin 512) : Z0 x11 (ix2 j l) = zx x11 0 j l := by
  refine Eq.trans ?_ (ld2 x11 inb_S256x1536_S128x512_0_1024 j l ⟨128 * (0 : Fin 2).val + j.val, by show 128 * 0 + j.val < 256; omega⟩ ⟨1024 + l.val, by omega⟩ (by show 128 * 0 + j.val = 0 + j.val; omega) rfl)
  unfold Z0
  pointwise [k0_pay499]
theorem Z1_at (j : Fin 128) (l : Fin 512) : Z1 x11 (ix2 j l) = zx x11 1 j l := by
  refine Eq.trans ?_ (ld2 x11 inb_S256x1536_S128x512_128_1024 j l ⟨128 * (1 : Fin 2).val + j.val, by show 128 * 1 + j.val < 256; omega⟩ ⟨1024 + l.val, by omega⟩ (by show 128 * 1 + j.val = 128 + j.val; omega) rfl)
  unfold Z1
  pointwise [k0_pay554]
theorem vG_at (x : Vec Ideal S1x512 .f32) (l : Fin 512) : vG x (ix2 0 l) = vec1 x l := by
  refine Eq.trans ?_ (ld2 x inb_S1x512_S1x512_0_0 0 l 0 l rfl (Nat.zero_add _).symm)
  unfold vG
  pointwise []
theorem vG_eq (x : Vec Ideal S1x512 .f32) : (fun l => vG x (ix2 0 l)) = vec1 x := funext (vG_at x)
theorem K0_at (j : Fin 128) (l : Fin 512) : K0 x7 (ix2 j l) = kg (rowx x7 0 j l) := (p500 _ j l).trans (by rw [U0_at])
theorem K1_at (j : Fin 128) (l : Fin 512) : K1 x7 (ix2 j l) = kg (rowx x7 1 j l) := (p555 _ j l).trans (by rw [U1_at])
theorem N0_at (j : Fin 128) (l : Fin 512) : N0 x8 x17 x18 (ix2 j l) = vnx x8 x17 x18 0 j l := (p505 _ _ _ j l).trans (by rw [U0_row, vG_eq, vG_eq]; rfl)
theorem N1_at (j : Fin 128) (l : Fin 512) : N1 x8 x17 x18 (ix2 j l) = vnx x8 x17 x18 1 j l := (p561 _ _ _ j l).trans (by rw [U1_row, vG_eq, vG_eq]; rfl)
theorem wG_at (g : Fin 4) (j k : Fin 128) : wG x19 g (ix2 j k) = low j k (x19 (ix3 g j k)) := (wm _ j k).trans (by rw [ld3 x19 (inbW g) 0 j k g j k rfl rfl rfl])
theorem bG_at (g : Fin 4) (j : Fin 128) : bG x20 g (ix2 j 0) = x20 (ix2 j g) := ld2 _ _ _ _ _ _ (Nat.zero_add _).symm rfl
theorem wGs (g : Fin 4) : ![wG x19 0, wG x19 1, wG x19 2, wG x19 3] g = wG x19 g := by fin_cases g <;> rfl
theorem D0_at (k : Fin 128) (l : Fin 512) : D0 x7 x11 x19 (ix2 k l) = dnx x7 x11 x19 0 k l := by
  obtain ⟨g, d, rfl⟩ := exists_col l
  refine (dd _ _ _ _ _ _ g k d).trans ?_
  unfold dnx sx
  simp only [wGs, wG_at, Z0_at, K0_at, grp_col]
theorem D1_at (k : Fin 128) (l : Fin 512) : D1 x7 x11 x19 (ix2 k l) = dnx x7 x11 x19 1 k l := by
  obtain ⟨g, d, rfl⟩ := exists_col l
  refine (ee _ _ _ _ _ _ g k d).trans ?_
  unfold dnx sx
  simp only [wGs, wG_at, Z1_at, K1_at, grp_col]
theorem gate0 (g : Fin 4) (j d : Fin 128) : gate (wG x19 g) (N0 x8 x17 x18) (bG x20 g) g j d
    = sv (fun j k => x19 (ix3 g j k)) (fun j => x20 (ix2 j g)) (fun k d => vnx x8 x17 x18 0 k (col g d)) j d := by
  unfold gate sv
  simp only [wG_at, N0_at, bG_at]
theorem gate1 (g : Fin 4) (j d : Fin 128) : gate (wG x19 g) (N1 x8 x17 x18) (bG x20 g) g j d
    = sv (fun j k => x19 (ix3 g j k)) (fun j => x20 (ix2 j g)) (fun k d => vnx x8 x17 x18 1 k (col g d)) j d := by
  unfold gate sv
  simp only [wG_at, N1_at, bG_at]

/-! ## The stores of the spatial gating -/

/-- The stores of the gate's two input gradients, the newest first. -/
def gatePieces : List (View.Piece (Elt Ideal) S256x4608 .bf16) :=
  [⟨Rect.unit ![128, 4096] ![128, 512] inb_S256x4608_S128x512_128_4096, k0_pay1 (U1 x8) (k0_pay614 (vG x17) (wG x19 3) (k0_pay559 (k0_pay556 (U1 x8)) (k0_pay557 (U1 x8))) (k0_pay560 (k0_pay556 (U1 x8)) (k0_pay557 (U1 x8))) (k0_pay574 (wG x19 0) (Z1 x11) (K1 x7)) (k0_pay585 (wG x19 1) (k0_pay580 (Z1 x11) (K1 x7))) (k0_pay598 (wG x19 2) (Z1 x11) (K1 x7)) (k0_pay605 (Z1 x11) (K1 x7))) (k0_pay615 (U1 x8)) (k0_pay616 (U1 x8)) (k0_pay617 (U1 x8)) (Scalar.ofBits .f32 0x3F000000#32)⟩,
   ⟨Rect.unit ![128, 3968] ![128, 128] inb_S256x4608_S128x128_128_3968, k0_pay603 (k0_pay599 (wG x19 3) (Z1 x11) (N1 x8 x17 x18) (bG x20 3)) (k0_pay600 (U1 x7)) (k0_pay601 (U1 x7)) (k0_pay602 (U1 x7))⟩,
   ⟨Rect.unit ![128, 3840] ![128, 128] inb_S256x4608_S128x128_128_3840, k0_pay593 (k0_pay586 (wG x19 2) (Z1 x11) (N1 x8 x17 x18) (bG x20 2)) (k0_pay590 (U1 x7)) (k0_pay591 (U1 x7)) (k0_pay592 (U1 x7))⟩,
   ⟨Rect.unit ![128, 3712] ![128, 128] inb_S256x4608_S128x128_128_3712, k0_pay578 (k0_pay575 (wG x19 1) (Z1 x11) (N1 x8 x17 x18) (bG x20 1)) (k0_pay576 (U1 x7)) (k0_pay577 (U1 x7))⟩,
   ⟨Rect.unit ![128, 3584] ![128, 128] inb_S256x4608_S128x128_128_3584, k0_pay569 (k0_pay562 (vG x17) (vG x18) (wG x19 0) (Z1 x11) (k0_pay556 (U1 x8)) (k0_pay557 (U1 x8)) (bG x20 0)) (k0_pay564 (U1 x7)) (k0_pay566 (U1 x7)) (k0_pay567 (U1 x7)) k0_pay568⟩,
   ⟨Rect.unit ![0, 4096] ![128, 512] inb_S256x4608_S128x512_0_4096, k0_pay553 (k0_pay547 (vG x17) (k0_pay502 (U0 x8)) (k0_pay503 (U0 x8)) (D0 x7 x11 x19)) (k0_pay550 (U0 x8)) (k0_pay551 (U0 x8)) (k0_pay552 (U0 x8))⟩,
   ⟨Rect.unit ![0, 3968] ![128, 128] inb_S256x4608_S128x128_0_3968, k0_pay538 (k0_pay531 (wG x19 3) (Z0 x11) (N0 x8 x17 x18) (bG x20 3)) (k0_pay533 (U0 x7)) (k0_pay535 (U0 x7)) (k0_pay536 (U0 x7)) (k0_pay537 (U0 x7)) (Scalar.ofBits .f32 0x3F800000#32)⟩,
   ⟨Rect.unit ![0, 3840] ![128, 128] inb_S256x4608_S128x128_0_3840, k0_pay524 (wG x19 2) (Z0 x11) (U0 x7) (k0_pay523 (N0 x8 x17 x18)) (bG x20 2)⟩,
   ⟨Rect.unit ![0, 3712] ![128, 128] inb_S256x4608_S128x128_0_3712, k0_pay517 (k0_pay512 (wG x19 1) (Z0 x11) (N0 x8 x17 x18) (bG x20 1)) (k0_pay513 (U0 x7)) (k0_pay514 (U0 x7)) (k0_pay515 (U0 x7)) (k0_pay516 (U0 x7)) (Scalar.ofBits .f32 0x3F000000#32)⟩,
   ⟨Rect.unit ![0, 3584] ![128, 128] inb_S256x4608_S128x128_0_3584, k0_pay506 (vG x18) (wG x19 0) (Z0 x11) (U0 x7) (k0_pay504 (vG x17) (U0 x8)) (bG x20 0)⟩]

theorem n0 : (k0_pay505 (vG x18) (k0_pay504 (vG x17) (U0 x8)) : FVec Ideal S128x512 .bf16) = N0 x8 x17 x18 := rfl
theorem n1 : (k0_pay561 (vG x17) (vG x18) (k0_pay556 (U1 x8)) (k0_pay557 (U1 x8)) : FVec Ideal S128x512 .bf16) = N1 x8 x17 x18 := rfl

variable {sig : RefSig} {κ : Kind} {sp : Space} (v : View sig κ sp S256x4608 .bf16) (f) (R : List (View.Piece (Elt Ideal) S256x4608 .bf16))

theorem gate_u (h : Fin 2) (g : Fin 4) (j d : Fin 128) : v.read (Elt Ideal) (v.writes (Elt Ideal) f (gatePieces x7 x8 x11 x17 x18 x19 x20 ++ R)) (ix2 ⟨128 * h.val + j.val, by omega⟩ ⟨3584 + 128 * g.val + d.val, by omega⟩)
    = xU x7 x8 x11 x17 x18 x19 x20 h g j d := by
  unfold xU
  fin_cases h <;> fin_cases g
  · unfold gatePieces
    simp only [List.cons_append, List.nil_append]
    iterate 9 refine (skip2 _ _ _ _ _ _ _ (by dsimp only [Fin.val]; omega)).trans ?_
    refine (take2 _ _ _ _ _ _ _ j d (by simp <;> omega) (by simp <;> omega)).trans ?_
    exact (u00 _ _ _ _ _ _ _ j d).trans (by
      first | rw [n0] | rw [n1] | skip
      rw [gate0, Z0_at, U0_at]; rfl)
  · unfold gatePieces
    simp only [List.cons_append, List.nil_append]
    iterate 8 refine (skip2 _ _ _ _ _ _ _ (by dsimp only [Fin.val]; omega)).trans ?_
    refine (take2 _ _ _ _ _ _ _ j d (by simp <;> omega) (by simp <;> omega)).trans ?_
    exact (u01 _ _ _ _ _ j d).trans (by
      first | rw [n0] | rw [n1] | skip
      rw [gate0, Z0_at, U0_at]; rfl)
  · unfold gatePieces
    simp only [List.cons_append, List.nil_append]
    iterate 7 refine (skip2 _ _ _ _ _ _ _ (by dsimp only [Fin.val]; omega)).trans ?_
    refine (take2 _ _ _ _ _ _ _ j d (by simp <;> omega) (by simp <;> omega)).trans ?_
    exact (u02 _ _ _ _ _ j d).trans (by
      first | rw [n0] | rw [n1] | skip
      rw [gate0, Z0_at, U0_at]; rfl)
  · unfold gatePieces
    simp only [List.cons_append, List.nil_append]
    iterate 6 refine (skip2 _ _ _ _ _ _ _ (by dsimp only [Fin.val]; omega)).trans ?_
    refine (take2 _ _ _ _ _ _ _ j d (by simp <;> omega) (by simp <;> omega)).trans ?_
    exact (u03 _ _ _ _ _ j d).trans (by
      first | rw [n0] | rw [n1] | skip
      rw [gate0, Z0_at, U0_at]; rfl)
  · unfold gatePieces
    simp only [List.cons_append, List.nil_append]
    iterate 4 refine (skip2 _ _ _ _ _ _ _ (by dsimp only [Fin.val]; omega)).trans ?_
    refine (take2 _ _ _ _ _ _ _ j d (by simp <;> omega) (by simp <;> omega)).trans ?_
    exact (u10 _ _ _ _ _ _ _ j d).trans (by
      first | rw [n0] | rw [n1] | skip
      rw [gate1, Z1_at, U1_at]; rfl)
  · unfold gatePieces
    simp only [List.cons_append, List.nil_append]
    iterate 3 refine (skip2 _ _ _ _ _ _ _ (by dsimp only [Fin.val]; omega)).trans ?_
    refine (take2 _ _ _ _ _ _ _ j d (by simp <;> omega) (by simp <;> omega)).trans ?_
    exact (u11 _ _ _ _ _ j d).trans (by
      first | rw [n0] | rw [n1] | skip
      rw [gate1, Z1_at, U1_at]; rfl)
  · unfold gatePieces
    simp only [List.cons_append, List.nil_append]
    iterate 2 refine (skip2 _ _ _ _ _ _ _ (by dsimp only [Fin.val]; omega)).trans ?_
    refine (take2 _ _ _ _ _ _ _ j d (by simp <;> omega) (by simp <;> omega)).trans ?_
    exact (u12 _ _ _ _ _ j d).trans (by
      first | rw [n0] | rw [n1] | skip
      rw [gate1, Z1_at, U1_at]; rfl)
  · unfold gatePieces
    simp only [List.cons_append, List.nil_append]
    iterate 1 refine (skip2 _ _ _ _ _ _ _ (by dsimp only [Fin.val]; omega)).trans ?_
    refine (take2 _ _ _ _ _ _ _ j d (by simp <;> omega) (by simp <;> omega)).trans ?_
    exact (u13 _ _ _ _ _ j d).trans (by
      first | rw [n0] | rw [n1] | skip
      rw [gate1, Z1_at, U1_at]; rfl)

theorem gate_v (h : Fin 2) (j : Fin 128) (l : Fin 512) : v.read (Elt Ideal) (v.writes (Elt Ideal) f (gatePieces x7 x8 x11 x17 x18 x19 x20 ++ R)) (ix2 ⟨128 * h.val + j.val, by omega⟩ ⟨4096 + l.val, by omega⟩)
    = xV x7 x8 x11 x17 x19 h j l := by
  unfold xV
  fin_cases h
  · unfold gatePieces
    simp only [List.cons_append, List.nil_append]
    iterate 5 refine (skip2 _ _ _ _ _ _ _ (by dsimp only [Fin.val]; omega)).trans ?_
    refine (take2 _ _ _ _ _ _ _ j l (by simp <;> omega) (by simp <;> omega)).trans ?_
    exact (v0 _ _ _ j l).trans (by simp only [U0_row, vG_at, D0_at, U0_at]; rfl)
  · unfold gatePieces
    simp only [List.cons_append, List.nil_append]
    refine (take2 _ _ _ _ _ _ _ j l (by simp <;> omega) (by simp <;> omega)).trans ?_
    refine (v1 _ _ _ _ _ _ _ j l).trans ?_
    have e := D1_at x7 x11 x19
    unfold D1 at e
    simp only [U1_row, vG_at, e, U1_at]
    rfl

end

end Cert.Proof.MxbBlk

end
-- ==== Proof.MxbConv.lean ====
/-
  The backward mixer's short convolution at one grid point, entry by entry.
-/
module

public import proofs.«01_k».proof.Proof.MxbBlk

@[expose] public section

set_option maxRecDepth 16384

noncomputable section

namespace Cert.Proof.MxbConv

open Idealize.ShloMosaic Idealize.ShloMosaic.TcCoe Rects MxbBlk MxbKernelIdeal MxbKernelIdeal.Gen
open scoped BigOperators

section
variable (x4 x5 x6 : Vec Ideal S256x512 .f32) (x9 x10 : Vec Ideal S8x512 .f32) (x11 : Vec Ideal S256x1536 .bf16) (x16 : Vec Ideal S3x512 .f32)

/-- The gated input of the convolution. -/
def zin (r : Fin 256) (l : Fin 512) : EReal := x5 (ix2 r l) * x6 (ix2 r l)
/-- The gradient that reaches the convolution's result. -/
def dz (r : Fin 256) (l : Fin 512) : EReal := x11 (ix2 r ⟨512 + l.val, by omega⟩)
def dyx (r : Fin 256) (l : Fin 512) : EReal := dz x11 r l * x4 (ix2 r l)
/-- A row of the tile or, past its first row, of the tile before. -/
def back (tl : Fin 8 → Fin 512 → EReal) (s : ℕ) (hs : s ≤ 2) (r : Fin 256) (l : Fin 512) : EReal :=
  if h : r.val < s then tl ⟨8 - s + r.val, by omega⟩ l else zin x5 x6 ⟨r.val - s, by omega⟩ l
/-- A row of the tile or, past its last row, of the tile after. -/
def ahead (nx : Fin 8 → Fin 512 → EReal) (s : ℕ) (hs : s ≤ 2) (r : Fin 256) (l : Fin 512) : EReal :=
  if h : r.val + s < 256 then dyx x4 x11 ⟨r.val + s, h⟩ l else nx ⟨r.val + s - 256, by omega⟩ l
def tailx (n : ℕ) (e : Fin 8) (l : Fin 512) : EReal := if n < 7 then x9 (ix2 e l) * x10 (ix2 e l) else 0

def cBg (tl : Fin 8 → Fin 512 → EReal) (r : Fin 256) (l : Fin 512) : EReal :=
  dz x11 r l * ((x16 (ix2 0 l) * back x5 x6 tl 2 le_rfl r l + x16 (ix2 1 l) * back x5 x6 tl 1 (by decide) r l) + x16 (ix2 2 l) * zin x5 x6 r l)
def cZ (nx : Fin 8 → Fin 512 → EReal) (r : Fin 256) (l : Fin 512) : EReal :=
  (x16 (ix2 2 l) * dyx x4 x11 r l + x16 (ix2 1 l) * ahead x4 x11 nx 1 (by decide) r l) + x16 (ix2 0 l) * ahead x4 x11 nx 2 le_rfl r l

abbrev l256 (x : Vec Ideal S256x512 .f32) : Vec Ideal S256x512 .f32 := View.ld x (Rect.unit ![0, 0] ![256, 512] (by decide))
abbrev zM : FVec Ideal S256x512 .f32 := mulf (l256 x5) (l256 x6)
abbrev dM : FVec Ideal S256x512 .f32 := extf .f32 (shapeCast S256x512 (View.ld x11 (Rect.unit ![0, 512] ![256, 512] (by decide))) shapeCasts_S256x512_S256x512 : FVec Ideal S256x512 .bf16) bitsLt_bf16_f32
abbrev yM : FVec Ideal S256x512 .f32 := mulf (dM x11) (l256 x4)
abbrev w0M : FVec Ideal S256x512 .f32 := broadcastTo S256x512 (View.ld x16 (Rect.unit ![0, 0] ![1, 512] (by decide))) broadcasts_S1x512_S256x512
abbrev w1M : FVec Ideal S256x512 .f32 := broadcastTo S256x512 (View.ld x16 (Rect.unit ![1, 0] ![1, 512] (by decide))) broadcasts_S1x512_S256x512
abbrev w2M : FVec Ideal S256x512 .f32 := broadcastTo S256x512 (View.ld x16 (Rect.unit ![2, 0] ![1, 512] (by decide))) broadcasts_S1x512_S256x512

theorem l256_at (x : Vec Ideal S256x512 .f32) (r : Fin 256) (l : Fin 512) : l256 x (ix2 r l) = x (ix2 r l) := ld2 _ _ _ _ _ _ (Nat.zero_add _).symm (Nat.zero_add _).symm
theorem zM_at (r : Fin 256) (l : Fin 512) : zM x5 x6 (ix2 r l) = zin x5 x6 r l := by
  show l256 x5 (ix2 r l) * l256 x6 (ix2 r l) = _
  rw [l256_at, l256_at]; rfl
theorem dM_at (r : Fin 256) (l : Fin 512) : dM x11 (ix2 r l) = dz x11 r l := by
  refine Eq.trans ?_ (ld2 x11 (o0 := 0) (o1 := 512) (a := 256) (b := 512) (by decide) r l r ⟨512 + l.val, by omega⟩ (Nat.zero_add _).symm rfl)
  pointwise [dM]
theorem yM_at (r : Fin 256) (l : Fin 512) : yM x4 x11 (ix2 r l) = dyx x4 x11 r l := by
  show dM x11 (ix2 r l) * l256 x4 (ix2 r l) = _
  rw [dM_at, l256_at]; rfl
theorem bc_at (w : Vec Ideal S1x512 .f32) (r : Fin 256) (l : Fin 512) : broadcastTo S256x512 w broadcasts_S1x512_S256x512 (ix2 r l) = w (ix2 0 l) := by
  pointwise []
theorem w0M_at (r : Fin 256) (l : Fin 512) : w0M x16 (ix2 r l) = x16 (ix2 0 l) := (bc_at _ r l).trans (ld2 _ _ _ _ _ _ rfl (Nat.zero_add _).symm)
theorem w1M_at (r : Fin 256) (l : Fin 512) : w1M x16 (ix2 r l) = x16 (ix2 1 l) := (bc_at _ r l).trans (ld2 _ _ _ _ _ _ rfl (Nat.zero_add _).symm)
theorem w2M_at (r : Fin 256) (l : Fin 512) : w2M x16 (ix2 r l) = x16 (ix2 2 l) := (bc_at _ r l).trans (ld2 _ _ _ _ _ _ rfl (Nat.zero_add _).symm)

theorem zS_at (hs) (r : Fin 256) (l : Fin 512) : shapeCast S256x512 (zM x5 x6) hs (ix2 r l) = zin x5 x6 r l := by
  rw [← zM_at]
  generalize zM x5 x6 = Z
  pointwise []
theorem yS_at (hs) (r : Fin 256) (l : Fin 512) : shapeCast S256x512 (yM x4 x11) hs (ix2 r l) = dyx x4 x11 r l := by
  rw [← yM_at]
  generalize yM x4 x11 = Z
  pointwise []
theorem zero8_at (hs) (e : Fin 8) (l : Fin 512) : shapeCast S8x512 (broadcast S8x512 (FloatOps.ofBits (F := Ideal) FTy.f32 0#32)) hs (ix2 e l) = 0 := by
  pointwise []
theorem id8_at (X : FVec Ideal S8x512 .f32) (hs) (e : Fin 8) (l : Fin 512) : shapeCast S8x512 X hs (ix2 e l) = X (ix2 e l) := by
  pointwise []

/-- The stored gradient of the gate. -/
theorem bg_of (tl : Fin 8 → Fin 512 → EReal) (Y6 Y7 : FVec Ideal S256x512 .f32) (r : Fin 256) (l : Fin 512)
    (h6 : Y6 (ix2 r l) = back x5 x6 tl 2 le_rfl r l) (h7 : Y7 (ix2 r l) = back x5 x6 tl 1 (by decide) r l) (hb) :
    truncf .bf16 (mulf (dM x11) (addf (addf (mulf (w0M x16) Y6) (mulf (w1M x16) Y7)) (mulf (w2M x16) (zM x5 x6)))) hb (ix2 r l)
      = cBg x5 x6 x11 x16 tl r l := by
  show dM x11 (ix2 r l) * ((w0M x16 (ix2 r l) * Y6 (ix2 r l) + w1M x16 (ix2 r l) * Y7 (ix2 r l)) + w2M x16 (ix2 r l) * zM x5 x6 (ix2 r l)) = _
  rw [dM_at, w0M_at, w1M_at, w2M_at, zM_at, h6, h7]
  rfl

/-- The stored gradients of the convolution's two inputs. -/
theorem in_of (nx : Fin 8 → Fin 512 → EReal) (x : Vec Ideal S256x512 .f32) (Y1 Y2 : FVec Ideal S256x512 .f32) (r : Fin 256) (l : Fin 512)
    (h1 : Y1 (ix2 r l) = ahead x4 x11 nx 1 (by decide) r l) (h2 : Y2 (ix2 r l) = ahead x4 x11 nx 2 le_rfl r l) (hb) :
    truncf .bf16 (mulf (addf (addf (mulf (w2M x16) (yM x4 x11)) (mulf (w1M x16) Y1)) (mulf (w0M x16) Y2)) (l256 x)) hb (ix2 r l)
      = cZ x4 x11 x16 nx r l * x (ix2 r l) := by
  show ((w2M x16 (ix2 r l) * yM x4 x11 (ix2 r l) + w1M x16 (ix2 r l) * Y1 (ix2 r l)) + w0M x16 (ix2 r l) * Y2 (ix2 r l)) * l256 x (ix2 r l) = _
  rw [yM_at, w0M_at, w1M_at, w2M_at, l256_at, h1, h2]
  rfl

/-- The row of the convolution weight's gradient. -/
theorem row_of (o : Fin 512 → EReal) (f : Fin 256 → Fin 512 → EReal) (X : FVec Ideal S1x512 .f32) (Y : FVec Ideal S256x512 .f32)
    (hX : ∀ l, X (ix2 0 l) = o l) (hY : ∀ r l, Y (ix2 r l) = f r l) (l : Fin 512) :
    addf (shapeCast S1x512 X shapeCasts_S1x512_S1x512) (shapeCast S1x512 (multiReduction FKind.add [0] S512 (mulf (zM x5 x6) Y) (0#32)) shapeCasts_S512_S1x512) (ix2 0 l)
      = o l + ∑ r : Fin 256, zin x5 x6 r l * f r l := by
  have hz := zM_at x5 x6
  simp only [← hX, ← hY, ← hz]
  generalize zM x5 x6 = Z
  pointwise []

/-- The rows before, out of the buffer that holds them. -/
theorem zbuf_at {sig : RefSig} {κ : Kind} {sp : Space} (v : View sig κ sp S264x512 .f32) (f) (P : S256x512.Idx → EReal) (T : S8x512.Idx → EReal)
    (tl : Fin 8 → Fin 512 → EReal) (hP : ∀ r l, P (ix2 r l) = zin x5 x6 r l) (hT : ∀ e l, T (ix2 e l) = tl e l) (s : ℕ) (hs : s ≤ 2)
    (i8) (i0) (r : Fin 256) (l : Fin 512) :
    v.read (Elt Ideal) (v.writes (Elt Ideal) f [⟨Rect.unit ![8, 0] ![256, 512] i8, P⟩, ⟨Rect.unit ![0, 0] ![8, 512] i0, T⟩]) (ix2 ⟨8 - s + r.val, by omega⟩ l)
      = back x5 x6 tl s hs r l := by
  unfold back
  split
  · refine (skip2 _ _ _ _ _ _ _).trans ?_
    exact (take2 _ _ _ _ _ _ _ ⟨8 - s + r.val, by omega⟩ l).trans (hT _ _)
  · exact (take2 _ _ _ _ _ _ _ ⟨r.val - s, by omega⟩ l).trans (hP _ _)

/-- The rows after, out of the buffer that holds them. -/
theorem ybuf_at {sig : RefSig} {κ : Kind} {sp : Space} (v : View sig κ sp S264x512 .f32) (f) (P : S256x512.Idx → EReal) (L)
    (nx : Fin 8 → Fin 512 → EReal) (hP : ∀ r l, P (ix2 r l) = dyx x4 x11 r l)
    (hn : ∀ (e : Fin 8) l, v.read (Elt Ideal) (v.writes (Elt Ideal) f L) (ix2 ⟨256 + e.val, by omega⟩ l) = nx e l) (s : ℕ) (hs : s ≤ 2)
    (i0) (r : Fin 256) (l : Fin 512) :
    v.read (Elt Ideal) (v.writes (Elt Ideal) f (⟨Rect.unit ![0, 0] ![256, 512] i0, P⟩ :: L)) (ix2 ⟨s + r.val, by omega⟩ l)
      = ahead x4 x11 nx s hs r l := by
  unfold ahead
  split
  · exact (take2 _ _ _ _ _ _ _ ⟨r.val + s, by omega⟩ l).trans (hP _ _)
  · refine (skip2 _ _ _ _ _ _ _).trans ?_
    rw [← hn]
    congr 2
    exact Fin.ext (by show s + r.val = 256 + (r.val + s - 256); omega)

theorem slt7 (n : ℕ) (h : n < 8) : Scalar.cmpi CmpIPredicate.slt (BitVec.ofNat 32 n) 7#32 = if n < 7 then 1#1 else 0#1 := by
  interval_cases n <;> decide

/-- The last rows of the tile before, or zero at the sequence's start. -/
theorem tail_at (n : ℕ) (h : n < 8) (i) (i') (hs) (e : Fin 8) (l : Fin 512) :
    shapeCast S8x512 (Scalar.select (Scalar.cmpi CmpIPredicate.slt (BitVec.ofNat 32 n) 7#32)
      (mulf (φ := .f32) (View.ld x9 (Rect.unit ![0, 0] ![8, 512] i) : FVec Ideal S8x512 .f32) (View.ld x10 (Rect.unit ![0, 0] ![8, 512] i'))) (broadcast S8x512 (FloatOps.ofBits (F := Ideal) FTy.f32 0#32))) hs (ix2 e l)
      = tailx x9 x10 n e l := by
  rw [slt7 n h]
  unfold tailx
  have h9 := ld2 x9 (o0 := 0) (o1 := 0) i e l e l (Nat.zero_add _).symm (Nat.zero_add _).symm
  have h10 := ld2 x10 (o0 := 0) (o1 := 0) i' e l e l (Nat.zero_add _).symm (Nat.zero_add _).symm
  rw [← h9, ← h10]
  generalize (View.ld x9 (Rect.unit ![0, 0] ![8, 512] i) : FVec Ideal S8x512 .f32) = a
  generalize (View.ld x10 (Rect.unit ![0, 0] ![8, 512] i') : FVec Ideal S8x512 .f32) = b
  split
  · show shapeCast S8x512 (mulf (F := Ideal) (s := S8x512) (φ := .f32) a b) hs (ix2 e l) = _
    pointwise []
  · show shapeCast S8x512 (broadcast S8x512 (FloatOps.ofBits FTy.f32 0#32)) hs (ix2 e l) = _
    pointwise []
end

end Cert.Proof.MxbConv

end
-- ==== Proof.MxbAcc.lean ====
/-
  What the backward mixer's body adds to its accumulated results, from its blocks.
-/
module

public import proofs.«01_k».proof.Proof.MxbBlk

@[expose] public section

set_option maxRecDepth 16384

noncomputable section

namespace Cert.Proof.MxbBlk

open Idealize.ShloMosaic Idealize.ShloMosaic.TcCoe Rects Sg MxbPay MxbKernelIdeal MxbKernelIdeal.Gen
open scoped BigOperators

section
variable (x7 x8 : Vec Ideal S256x512 .f32) (x11 : Vec Ideal S256x1536 .bf16) (x17 x18 : Vec Ideal S1x512 .f32) (x19 : Vec Ideal S4x128x128 .f32)

theorem acc0_of (A X : Vec Ideal S128x128 .f32) (b : EReal) (g : Fin 4) (j d : Fin 128)
    (h : A (ix2 j d) = X (ix2 j d) + Z0 x11 (ix2 j (col g d)) * K0 x7 (ix2 j (col g d))) (hX : X (ix2 j d) = b) :
    A (ix2 j d) = b + sx x7 x11 0 j (col g d) := by rw [h, hX, Z0_at, K0_at]; rfl
theorem acc1_of (A X : Vec Ideal S128x128 .f32) (b : EReal) (g : Fin 4) (j d : Fin 128)
    (h : A (ix2 j d) = X (ix2 j d) + Z1 x11 (ix2 j (col g d)) * K1 x7 (ix2 j (col g d))) (hX : X (ix2 j d) = b) :
    A (ix2 j d) = b + sx x7 x11 1 j (col g d) := by rw [h, hX, Z1_at, K1_at]; rfl
theorem dw0_of (A X : Vec Ideal S1x128x128 .f32) (b : EReal) (g : Fin 4) (j i : Fin 128)
    (h : A (ix3 0 j i) = X (ix3 0 j i) + low j i (∑ d : Fin 128, Z0 x11 (ix2 j (col g d)) * K0 x7 (ix2 j (col g d)) * N0 x8 x17 x18 (ix2 i (col g d))))
    (hX : X (ix3 0 j i) = b) : A (ix3 0 j i) = b + xW x7 x8 x11 x17 x18 0 g j i := by
  rw [h, hX]; simp only [Z0_at, K0_at, N0_at]; rfl
theorem dw1_of (A X : Vec Ideal S1x128x128 .f32) (b : EReal) (g : Fin 4) (j i : Fin 128)
    (h : A (ix3 0 j i) = X (ix3 0 j i) + low j i (∑ d : Fin 128, Z1 x11 (ix2 j (col g d)) * K1 x7 (ix2 j (col g d)) * N1 x8 x17 x18 (ix2 i (col g d))))
    (hX : X (ix3 0 j i) = b) : A (ix3 0 j i) = b + xW x7 x8 x11 x17 x18 1 g j i := by
  rw [h, hX]; simp only [Z1_at, K1_at, N1_at]; rfl

theorem rowG_of (Y : Vec Ideal S1x512 .f32) (y : EReal) (l : Fin 512) (hY : Y (ix2 0 l) = y) :
    (k0_pay2 (k0_pay612 (wG x19 3)
      (k0_pay545 (broadcast S1x512 (Scalar.ofBits .f32 0x00000000#32)) (k0_pay544 (wG x19 3) (Z0 x11) (K0 x7) (k0_pay503 (U0 x8)) (k0_pay511 (wG x19 0) (k0_pay508 (Z0 x11) (K0 x7))) (k0_pay522 (wG x19 1) (Z0 x11) (K0 x7)) (k0_pay530 (wG x19 2) (k0_pay526 (Z0 x11) (K0 x7)))))
      (k0_pay560 (k0_pay556 (U1 x8)) (k0_pay557 (U1 x8))) (k0_pay574 (wG x19 0) (Z1 x11) (K1 x7)) (k0_pay585 (wG x19 1) (k0_pay580 (Z1 x11) (K1 x7))) (k0_pay598 (wG x19 2) (Z1 x11) (K1 x7)) (k0_pay605 (Z1 x11) (K1 x7))) Y : FVec Ideal S1x512 .f32) (ix2 0 l)
      = y + (xG x7 x8 x11 x19 0 l + xG x7 x8 x11 x19 1 l) := by
  have e0 := D0_at x7 x11 x19
  have e1 := D1_at x7 x11 x19
  unfold D0 at e0
  unfold D1 at e1
  refine (g1 _ _ _ _ _ _ _ _ l).trans ?_
  rw [hY, g0]
  simp only [e0, e1, U0_row, U1_row]
  rfl
theorem rowB_of (Y : Vec Ideal S1x512 .f32) (y : EReal) (l : Fin 512) (hY : Y (ix2 0 l) = y) :
    (k0_pay3 (k0_pay613 (wG x19 3) (k0_pay546 (broadcast S1x512 (Scalar.ofBits .f32 0x00000000#32)) (D0 x7 x11 x19))
      (k0_pay574 (wG x19 0) (Z1 x11) (K1 x7)) (k0_pay585 (wG x19 1) (k0_pay580 (Z1 x11) (K1 x7))) (k0_pay598 (wG x19 2) (Z1 x11) (K1 x7)) (k0_pay605 (Z1 x11) (K1 x7))) Y : FVec Ideal S1x512 .f32) (ix2 0 l)
      = y + (xB x7 x11 x19 0 l + xB x7 x11 x19 1 l) := by
  have e1 := D1_at x7 x11 x19
  unfold D1 at e1
  refine (b1 _ _ _ _ _ _ _ l).trans ?_
  rw [hY, b0]
  simp only [e1, D0_at]
  rfl
end

theorem pay4_at (X : Vec Ideal S128x128 .f32) (j : Fin 128) : (k0_pay4 X : FVec Ideal S128x1 .f32) (ix2 j 0) = ∑ d : Fin 128, X (ix2 j d) := by
  pointwise [k0_pay4]
theorem pay5_at (X : Vec Ideal S128x128 .f32) (j : Fin 128) : (k0_pay5 X : FVec Ideal S128x1 .f32) (ix2 j 0) = ∑ d : Fin 128, X (ix2 j d) := by
  pointwise [k0_pay5]
theorem pay6_at (X : Vec Ideal S128x128 .f32) (j : Fin 128) : (k0_pay6 X : FVec Ideal S128x1 .f32) (ix2 j 0) = ∑ d : Fin 128, X (ix2 j d) := by
  pointwise [k0_pay6]
theorem pay7_at (X : Vec Ideal S128x128 .f32) (j : Fin 128) : (k0_pay7 X : FVec Ideal S128x1 .f32) (ix2 j 0) = ∑ d : Fin 128, X (ix2 j d) := by
  pointwise [k0_pay7]

end Cert.Proof.MxbBlk

end
-- ==== Proof.MxbSt1.lean ====
/-
  What the backward mixer's body leaves at a grid point, case by case, in terms of its blocks.
-/
module

public import proofs.«01_k».proof.Proof.MxbFrame
public import proofs.«01_k».proof.Proof.MxbConv
public import proofs.«01_k».proof.Proof.MxbAcc

@[expose] public section

set_option maxRecDepth 16384

noncomputable section

namespace Cert.Proof.MxbSt

open Idealize.ShloMosaic Idealize.ShloMosaic.TcCoe Idealize.ShloMosaic.Tactic
open MxbFrame Rects MxbBlk MxbConv Sg MxbKernelIdeal MxbKernelIdeal.Gen
open scoped BigOperators

variable (m : (ℓ : Loc nD τ sig) → Buf (Elt Ideal) ℓ) (c : Dev nD) (t : Fin cfg0.N)
set_option maxHeartbeats 1000000

section reads
variable {sg : RefSig} {κ : Kind} {sp : Space} {e : EltTy} {M N P a b d o0 o1 : ℕ}

theorem past2 {v : View sg κ sp ⟨2, ![M, N]⟩ e} {f} {inb : In2 M N a b o0 o1} {w} {L} {r : Fin M} {c : Fin N} {z}
    (h : r.val < o0 ∨ o0 + a ≤ r.val ∨ c.val < o1 ∨ o1 + b ≤ c.val) (k : v.read (Elt Ideal) (v.writes (Elt Ideal) f L) (ix2 r c) = z) :
    v.read (Elt Ideal) (v.writes (Elt Ideal) f (⟨Rect.unit ![o0, o1] ![a, b] inb, w⟩ :: L)) (ix2 r c) = z := (skip2 v f inb w L r c h).trans k

theorem hit2 {v : View sg κ sp ⟨2, ![M, N]⟩ e} {f} {inb : In2 M N a b o0 o1} {w} {L} {r : Fin M} {c : Fin N} {z}
    (x : Fin a) (y : Fin b) (k : w (ix2 x y) = z) (hx : r.val = o0 + x.val := by simp [col] <;> omega) (hy : c.val = o1 + y.val := by simp [col] <;> omega) :
    v.read (Elt Ideal) (v.writes (Elt Ideal) f (⟨Rect.unit ![o0, o1] ![a, b] inb, w⟩ :: L)) (ix2 r c) = z := (take2 v f inb w L r c x y hx hy).trans k

theorem seen2 {v : View sg κ sp ⟨2, ![M, N]⟩ e} {L} {inb : In2 M N a b o0 o1} {z}
    (x : Fin a) (y : Fin b) (r : Fin M) (c : Fin N) (k : v.read (Elt Ideal) (v.writes (Elt Ideal) v.junk L) (ix2 r c) = z) (hx : r.val = o0 + x.val := by simp [col] <;> omega) (hy : c.val = o1 + y.val := by simp [col] <;> omega) :
    v.readCov (Val := Elt Ideal) L (Rect.unit (s := ⟨2, ![M, N]⟩) ![o0, o1] ![a, b] inb).toLoadRect (ix2 x y) = z := (cov2 v L inb x y r c hx hy).trans k

theorem past3 {v : View sg κ sp ⟨3, ![M, N, P]⟩ e} {f} {inb : In3 M N P a b d o0} {w} {L} {r : Fin M} {c : Fin N} {q : Fin P} {z}
    (h : r.val < o0 ∨ o0 + a ≤ r.val) (k : v.read (Elt Ideal) (v.writes (Elt Ideal) f L) (ix3 r c q) = z) :
    v.read (Elt Ideal) (v.writes (Elt Ideal) f (⟨Rect.unit ![o0, 0, 0] ![a, b, d] inb, w⟩ :: L)) (ix3 r c q) = z := (skip3 v f inb w L r c q h).trans k

theorem hit3 {v : View sg κ sp ⟨3, ![M, N, P]⟩ e} {f} {inb : In3 M N P a b d o0} {w} {L} {r : Fin M} {c : Fin N} {q : Fin P} {u}
    (x : Fin a) (y : Fin b) (z : Fin d) (k : w (ix3 x y z) = u) (hx : r.val = o0 + x.val := by simp [col] <;> omega) (hy : c.val = y.val := by simp [col] <;> omega) (hz : q.val = z.val := by simp [col] <;> omega) :
    v.read (Elt Ideal) (v.writes (Elt Ideal) f (⟨Rect.unit ![o0, 0, 0] ![a, b, d] inb, w⟩ :: L)) (ix3 r c q) = u := (take3 v f inb w L r c q x y z hx hy hz).trans k

theorem seen3 {v : View sg κ sp ⟨3, ![M, N, P]⟩ e} {L} {inb : In3 M N P a b d o0} {u}
    (x : Fin a) (y : Fin b) (z : Fin d) (r : Fin M) (c : Fin N) (q : Fin P) (k : v.read (Elt Ideal) (v.writes (Elt Ideal) v.junk L) (ix3 r c q) = u) (hx : r.val = o0 + x.val := by simp [col] <;> omega) (hy : c.val = y.val := by simp [col] <;> omega) (hz : q.val = z.val := by simp [col] <;> omega) :
    v.readCov (Val := Elt Ideal) L (Rect.unit (s := ⟨3, ![M, N, P]⟩) ![o0, 0, 0] ![a, b, d] inb).toLoadRect (ix3 x y z) = u := (cov3 v L inb x y z r c q hx hy hz).trans k

end reads

/-- The row of the tile after, as the point before left it. -/
def nextOf (p : St Ideal) : Fin 8 → Fin 512 → EReal := fun e l => p.dy (ix2 ⟨256 + e.val, by omega⟩ l)
theorem coordOf (t : Fin cfg0.N) : (grid0.coords t 0).val = t.val := by
  have e0 : (grid0.coords t 0).val = t.val / 1 % 8 := Pipeline.Grid.coords_val t 0 (by decide) rfl
  have := lt8 t
  omega

section first
variable (h0 : t.val % 8 = 0) (h1 : ¬t.val % 8 = 7)

theorem listA : ∃ R, (runA m c t h0 h1).1 = gatePieces (iblk m c 7 t) (iblk m c 8 t) (iblk m c 11 t) (iblk m c 17 t) (iblk m c 18 t) (iblk m c 19 t) (iblk m c 20 t) ++ R := by
  apply Exists.intro
  unfold runA kernelRun0_A
  dsimp only
  sl_unfold_words
  simp only [View.readAt_eq_ld, Memref.IsWhole.read_unread]
  exact rfl

theorem uA (h : Fin 2) (g : Fin 4) (j d : Fin 128) :
    (stA m c t h0 h1).dp (ix2 ⟨128 * h.val + j.val, by omega⟩ ⟨3584 + 128 * g.val + d.val, by omega⟩) = xU (iblk m c 7 t) (iblk m c 8 t) (iblk m c 11 t) (iblk m c 17 t) (iblk m c 18 t) (iblk m c 19 t) (iblk m c 20 t) h g j d := by
  obtain ⟨R, e⟩ := listA m c t h0 h1
  unfold stA
  dsimp only
  rw [e]
  exact gate_u _ _ _ _ _ _ _ _ _ _ h g j d

theorem vA (h : Fin 2) (j : Fin 128) (l : Fin 512) :
    (stA m c t h0 h1).dp (ix2 ⟨128 * h.val + j.val, by omega⟩ ⟨4096 + l.val, by omega⟩) = xV (iblk m c 7 t) (iblk m c 8 t) (iblk m c 11 t) (iblk m c 17 t) (iblk m c 19 t) h j l := by
  obtain ⟨R, e⟩ := listA m c t h0 h1
  unfold stA
  dsimp only
  rw [e]
  exact gate_v _ _ _ _ _ _ _ _ _ _ h j l

end first

section middle
variable (h0 : ¬t.val % 8 = 0) (h1 : ¬t.val % 8 = 7) (p : St Ideal)

theorem listB : ∃ R, (runB m c t h0 h1 p).1 = gatePieces (iblk m c 7 t) (iblk m c 8 t) (iblk m c 11 t) (iblk m c 17 t) (iblk m c 18 t) (iblk m c 19 t) (iblk m c 20 t) ++ R := by
  apply Exists.intro
  unfold runB kernelRun0_B
  dsimp only
  sl_unfold_words
  simp only [View.readAt_eq_ld, Memref.IsWhole.read_unread]
  exact rfl

theorem uB (h : Fin 2) (g : Fin 4) (j d : Fin 128) :
    (stB m c t h0 h1 p).dp (ix2 ⟨128 * h.val + j.val, by omega⟩ ⟨3584 + 128 * g.val + d.val, by omega⟩) = xU (iblk m c 7 t) (iblk m c 8 t) (iblk m c 11 t) (iblk m c 17 t) (iblk m c 18 t) (iblk m c 19 t) (iblk m c 20 t) h g j d := by
  obtain ⟨R, e⟩ := listB m c t h0 h1 p
  unfold stB
  dsimp only
  rw [e]
  exact gate_u _ _ _ _ _ _ _ _ _ _ h g j d

theorem vB (h : Fin 2) (j : Fin 128) (l : Fin 512) :
    (stB m c t h0 h1 p).dp (ix2 ⟨128 * h.val + j.val, by omega⟩ ⟨4096 + l.val, by omega⟩) = xV (iblk m c 7 t) (iblk m c 8 t) (iblk m c 11 t) (iblk m c 17 t) (iblk m c 19 t) h j l := by
  obtain ⟨R, e⟩ := listB m c t h0 h1 p
  unfold stB
  dsimp only
  rw [e]
  exact gate_v _ _ _ _ _ _ _ _ _ _ h j l

end middle

section last
variable (h0 : ¬t.val % 8 = 0) (h1 : t.val % 8 = 7) (p : St Ideal)

theorem listC : ∃ R, (runC m c t h0 h1 p).1 = gatePieces (iblk m c 7 t) (iblk m c 8 t) (iblk m c 11 t) (iblk m c 17 t) (iblk m c 18 t) (iblk m c 19 t) (iblk m c 20 t) ++ R := by
  apply Exists.intro
  unfold runC kernelRun0_C
  dsimp only
  sl_unfold_words
  simp only [View.readAt_eq_ld, Memref.IsWhole.read_unread]
  exact rfl

theorem uC (h : Fin 2) (g : Fin 4) (j d : Fin 128) :
    (stC m c t h0 h1 p).dp (ix2 ⟨128 * h.val + j.val, by omega⟩ ⟨3584 + 128 * g.val + d.val, by omega⟩) = xU (iblk m c 7 t) (iblk m c 8 t) (iblk m c 11 t) (iblk m c 17 t) (iblk m c 18 t) (iblk m c 19 t) (iblk m c 20 t) h g j d := by
  obtain ⟨R, e⟩ := listC m c t h0 h1 p
  unfold stC
  dsimp only
  rw [e]
  exact gate_u _ _ _ _ _ _ _ _ _ _ h g j d

theorem vC (h : Fin 2) (j : Fin 128) (l : Fin 512) :
    (stC m c t h0 h1 p).dp (ix2 ⟨128 * h.val + j.val, by omega⟩ ⟨4096 + l.val, by omega⟩) = xV (iblk m c 7 t) (iblk m c 8 t) (iblk m c 11 t) (iblk m c 17 t) (iblk m c 19 t) h j l := by
  obtain ⟨R, e⟩ := listC m c t h0 h1 p
  unfold stC
  dsimp only
  rw [e]
  exact gate_v _ _ _ _ _ _ _ _ _ _ h j l

end last

end Cert.Proof.MxbSt

end
-- ==== Proof.RefS.lean ====
/-
  The reference's spatial gating, entry by entry.
-/
module

public import proofs.«01_k».proof.Proof.SgMath
public import Idealize.ShloMosaic.Lib.Pointwise
public import Idealize.ShloMosaic.Lib.IdealHost
public import proofs.«01_k».proof.Proof.Gen.MxbReferenceIdeal.Read

@[expose] public section

set_option maxRecDepth 16384

noncomputable section

namespace Cert.Proof.RefS

open Idealize.ShloMosaic Idealize.ShloMosaic.TcCoe Reals Rms Sg MxbReferenceIdeal MxbReferenceIdeal.Gen MxbReferenceIdeal.Read
open scoped BigOperators

/-- Row `j` of chunk `n`. -/
def row (n : Fin 16) (j : Fin 128) : Fin 2048 := ⟨128 * n.val + j.val, by omega⟩
/-- A row of the second gate's input. -/
def vrow (x0 : FVec Ideal S2048x4608 .f32) (R : Fin 2048) : Fin 512 → EReal := fun k => x0 (ix2 R ⟨4096 + k.val, by omega⟩)
/-- A row of a vector. -/
abbrev vec (x : FVec Ideal S512 .f32) : Fin 512 → EReal := fun k => x (ix1 k)

variable (x0 : FVec Ideal S2048x4608 .f32) (x4 x5 : FVec Ideal S512 .f32) (x6 : FVec Ideal S4x128x128 .f32) (x7 : FVec Ideal S4x128 .f32)
  (x8 : FVec Ideal S2048x1536 .f32)

theorem v54_at (R : Fin 2048) (l : Fin 512) : val_main_v54 (F := Ideal) x0 (ix2 R l) = kg (x0 (ix2 R ⟨3584 + l.val, by omega⟩)) := by
  rw [kg_eq, rg]
  pointwise [val_main_v54, val_main_v53, val_main_v52, val_main_cst_8, val_main_v51, val_main_v50, val_main_cst_7, val_main_v44, val_main_v43, val_main_v42, val_main_cst_4, val_main_v41, val_main_v40, val_main_v39, val_main_cst_3, val_main_v38, val_main_v37, val_main_cst_2, val_main_v33, val_main_v32, val_main_v5]

theorem v77_at (R : Fin 2048) (l : Fin 512) : val_main_v77 (F := Ideal) x0 (ix2 R l) = kg (vrow x0 R l) := by
  rw [kg_eq, rg, vrow]
  pointwise [val_main_v77, val_main_v76, val_main_v75, val_main_cst_16, val_main_v74, val_main_v73, val_main_cst_15, val_main_v67, val_main_v66, val_main_v65, val_main_cst_12, val_main_v64, val_main_v63, val_main_v62, val_main_cst_11, val_main_v61, val_main_v60, val_main_cst_10, val_main_v56, val_main_v55, val_main_v6]

theorem v83_at (R : Fin 2048) (l : Fin 512) : val_main_v83 (F := Ideal) x0 (ix2 R l) = cen (vrow x0 R) l := by
  have h := v77_at x0
  generalize hv : val_main_v77 (F := Ideal) x0 = a at h
  unfold cen
  simp only [← h]
  pointwise [val_main_v83, val_main_v82, val_main_v81, val_main_v80, val_main_cst_18, val_main_v79, val_main_v78, val_main_cst_17, hv]

theorem v90_at (R : Fin 2048) : val_main_v90 (F := Ideal) x0 (ix2 R 0) = var (vrow x0 R) := by
  have h := v83_at x0
  generalize hv : val_main_v83 (F := Ideal) x0 = a at h
  unfold var
  simp only [← h]
  pointwise [val_main_v90, val_main_v89, val_main_cst_21, val_main_v88, val_main_v87, val_main_cst_20, val_main_v86, val_main_v85, val_main_cst_19, val_main_v84, hv]

theorem v91_at (R : Fin 2048) : val_main_v91 (F := Ideal) x0 (ix2 R 0) = rs (vrow x0 R) := by
  unfold rs
  rw [← v90_at]
  pointwise [val_main_v91]

theorem v96_at (R : Fin 2048) (l : Fin 512) : val_main_v96 (F := Ideal) x0 (ix2 R l) = hat (vrow x0 R) l := by
  unfold hat
  rw [← v83_at, ← v91_at]
  pointwise [val_main_v96, val_main_v95]

theorem v102_at (R : Fin 2048) (l : Fin 512) : val_main_v102 (F := Ideal) x0 x4 x5 (ix2 R l) = vn (vrow x0 R) (vec x4) (vec x5) l := by
  unfold vn
  rw [← v96_at]
  pointwise [val_main_v102, val_main_v101, val_main_v100, val_main_v99, val_main_v98, val_main_v97]

theorem sel_ge (j k : Fin 128) (x : EReal) :
    Scalar.select (IntOp.cmpi .sge (IntOp.addi (BitVec.ofNat 32 j.val) 0#32) (BitVec.ofNat 32 k.val)) x 0 = low j k x := by
  have h : IntOp.addi (BitVec.ofNat 32 j.val) 0#32 = BitVec.ofNat 32 j.val := by simp [IntOp.addi]
  have e (a : Fin 128) : (BitVec.ofNat 32 a.val).toInt = (a.val : Int) := by
    rw [BitVec.toInt_eq_toNat_of_lt (by simp; omega)]
    simp
    omega
  rw [h]
  unfold low
  by_cases hk : k.val ≤ j.val
  · simp [Scalar.select, IntOp.cmpi, BitVec.sle, e, hk]
  · simp [Scalar.select, IntOp.cmpi, BitVec.sle, e, hk]

theorem v108_at (g : Fin 4) (j k : Fin 128) : val_main_v108 (F := Ideal) x6 (ix3 g j k) = low j k (x6 (ix3 g j k)) := by
  refine Eq.trans ?_ (sel_ge j k _)
  pointwise [val_main_v108, val_main_v107, val_main_v106, val_main_v105, val_main_call0_v5, val_main_call0_cst, val_main_call0_v4, val_main_call0_v3, val_main_call0_v2, val_main_call0_v1, val_main_call0_c, val_main_call0_v0, val_main_v104, val_main_cst_23]

theorem v106_at (j k : Fin 128) : val_main_v106 (F := Ideal) (ix3 0 j k) = low j k 1 := by
  refine Eq.trans ?_ (sel_ge j k _)
  pointwise [val_main_v106, val_main_v105, val_main_call0_v5, val_main_call0_cst, val_main_call0_v4, val_main_call0_v3, val_main_call0_v2, val_main_call0_v1, val_main_call0_c, val_main_call0_v0, val_main_v104, val_main_cst_23]

theorem row' (n : Fin 16) (j : Fin 128) (h : n.val * 128 + j.val < 2048) : (⟨n.val * 128 + j.val, h⟩ : Fin 2048) = row n j := Fin.ext (show n.val * 128 + j.val = 128 * n.val + j.val by omega)
theorem col' (g : Fin 4) (d : Fin 128) (h : g.val * 128 + d.val < 512) : (⟨g.val * 128 + d.val, h⟩ : Fin 512) = col g d := Fin.ext (show g.val * 128 + d.val = 128 * g.val + d.val by omega)
theorem row_div (n : Fin 16) (j : Fin 128) (h : (row n j).val / 128 < 16) : (⟨(row n j).val / 128, h⟩ : Fin 16) = n := Fin.ext (by show (128 * n.val + j.val) / 128 = n.val; omega)
theorem row_mod (n : Fin 16) (j : Fin 128) (h : (row n j).val % 128 < 128) : (⟨(row n j).val % 128, h⟩ : Fin 128) = j := Fin.ext (by show (128 * n.val + j.val) % 128 = j.val; omega)
theorem col_div (g : Fin 4) (d : Fin 128) (h : (col g d).val / 128 < 4) : (⟨(col g d).val / 128, h⟩ : Fin 4) = g := Fin.ext (by show (128 * g.val + d.val) / 128 = g.val; omega)
theorem col_mod (g : Fin 4) (d : Fin 128) (h : (col g d).val % 128 < 128) : (⟨(col g d).val % 128, h⟩ : Fin 128) = d := Fin.ext (by show (128 * g.val + d.val) % 128 = d.val; omega)

theorem v103_at (n : Fin 16) (j : Fin 128) (g : Fin 4) (d : Fin 128) : val_main_v103 (F := Ideal) x0 x4 x5 (ix4 n j g d) = vn (vrow x0 (row n j)) (vec x4) (vec x5) (col g d) := by
  rw [← v102_at]
  generalize hv : val_main_v102 (F := Ideal) x0 x4 x5 = a
  pointwise [val_main_v103, hv]
  rw [row', col']

theorem v116_at (n : Fin 16) (j : Fin 128) (g : Fin 4) (d : Fin 128) : val_main_v116 (F := Ideal) x0 x4 x5 x6 x7 (ix2 (row n j) (col g d))
    = sv (fun j k => x6 (ix3 g j k)) (fun j => x7 (ix2 g j)) (fun k d => vn (vrow x0 (row n k)) (vec x4) (vec x5) (col g d)) j d := by
  have h1 := v103_at x0 x4 x5
  have h2 := v108_at x6
  generalize hv : val_main_v103 (F := Ideal) x0 x4 x5 = a at h1
  generalize hw : val_main_v108 (F := Ideal) x6 = b at h2
  refine Eq.trans (b := ∑ x : Fin 128, a (ix4 n x g d) * b (ix3 g j x) + x7 (ix2 g j)) ?_ ?_
  · pointwise [val_main_v116, val_main_v115, val_main_v114, val_main_v113, val_main_v112, val_main_v111, val_main_v110, val_main_v109, hv, hw]
    simp only [row_div, row_mod, col_div, col_mod]
  · unfold sv
    simp only [h1, h2, mul_comm]

/-- The gradient of the gated rows times the activation. -/
def ds (n : Fin 16) (g : Fin 4) (j d : Fin 128) : EReal :=
  x8 (ix2 (row n j) ⟨1024 + (col g d).val, by omega⟩) * kg (x0 (ix2 (row n j) ⟨3584 + (col g d).val, by omega⟩))

theorem v118_at (n : Fin 16) (j : Fin 128) (g : Fin 4) (d : Fin 128) : val_main_v118 (F := Ideal) x0 x8 (ix2 (row n j) (col g d)) = ds x0 x8 n g j d := by
  unfold ds
  rw [← v54_at, mul_comm]
  pointwise [val_main_v118, val_main_v1]

theorem v119_at (n : Fin 16) (j : Fin 128) (g : Fin 4) (d : Fin 128) : val_main_v119 (F := Ideal) x0 x4 x5 x6 x7 x8 (ix2 (row n j) (col g d))
    = x8 (ix2 (row n j) ⟨1024 + (col g d).val, by omega⟩) * sv (fun j k => x6 (ix3 g j k)) (fun j => x7 (ix2 g j)) (fun k d => vn (vrow x0 (row n k)) (vec x4) (vec x5) (col g d)) j d := by
  rw [← v116_at]
  pointwise [val_main_v119, val_main_v1]

theorem v120_at (n : Fin 16) (j : Fin 128) (g : Fin 4) (d : Fin 128) : val_main_v120 (F := Ideal) x0 x8 (ix4 n j g d) = ds x0 x8 n g j d := by
  rw [← v118_at]
  generalize hv : val_main_v118 (F := Ideal) x0 x8 = a
  pointwise [val_main_v120, hv]
  rw [row', col']

/-- A sum over the first and the last of four axes. -/
theorem sum_ends {n0 n3 : ℕ} (h : (⟨4, ![n0, 128, 4, n3]⟩ : Shape).ReducesTo [0, 3] S128x4) (v : (⟨4, ![n0, 128, 4, n3]⟩ : Shape).Idx → EReal) (j : Fin 128) (g : Fin 4) :
    Ideal.hostReduceAdd h v 0 (ix2 j g) = ∑ n : Fin n0, ∑ d : Fin n3, v (ix4 n j g d) := by
  refine (zero_add _).trans ((Finset.sum_filter_eq_sum_of_fiber _ (fun k : Fin n0 × Fin n3 => ix4 k.1 j g k.2)
    (fun _ _ e => Prod.ext (congrFun e 0) (congrFun e 3)) (fun i => ⟨fun e => ⟨(i 0, i 3), ?_⟩, ?_⟩) v).trans (by simp only [Fintype.sum_prod_type]))
  · funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b; apply Fin.ext
    match b with
    | ⟨0, _⟩ => rfl
    | ⟨1, _⟩ => rfl

theorem v245_at (j : Fin 128) (g : Fin 4) : val_main_v245 (F := Ideal) x0 x8 (ix2 j g) = ∑ n : Fin 16, ∑ d : Fin 128, ds x0 x8 n g j d := by
  have h := v120_at x0 x8
  generalize hv : val_main_v120 (F := Ideal) x0 x8 = a at h
  have h1 : ∀ (j : Fin 128) (g : Fin 4), val_main_v121 (F := Ideal) x0 x8 (ix2 j g) = ∑ n : Fin 16, ∑ d : Fin 128, a (ix4 n j g d) := by
    intro j g
    pointwise [val_main_v121, val_main_cst_24, hv]
    exact sum_ends _ a j g
  simp only [← h, ← h1]
  generalize hw : val_main_v121 (F := Ideal) x0 x8 = b at h1
  have h2 : ∀ (j : Fin 128) (g : Fin 4), val_main_v123 (F := Ideal) x0 x8 (ix2 j g) = b (ix2 j g) := by
    intro j g
    pointwise [val_main_v123, val_main_cst_25, val_main_v122, hw]
    rw [sum_ends, Fin.sum_univ_one, Fin.sum_univ_one]
    pointwise
  generalize hz : val_main_v123 (F := Ideal) x0 x8 = z at h2
  rw [← h2]
  pointwise [val_main_v245, val_main_v126, val_main_v125, val_main_cst_26, val_main_v124, hz]
  rw [Fin.sum_univ_one]

theorem v127_at (g : Fin 4) (n : Fin 16) (d j : Fin 128) : val_main_v127 (F := Ideal) x0 x8 (ix4 g n d j) = ds x0 x8 n g j d := by
  rw [← v120_at]
  pointwise [val_main_v127]

theorem v132_at (g : Fin 4) (j k : Fin 128) : val_main_v132 (F := Ideal) x0 x4 x5 x8 (ix3 g j k)
    = low j k (∑ n : Fin 16, ∑ d : Fin 128, ds x0 x8 n g j d * vn (vrow x0 (row n k)) (vec x4) (vec x5) (col g d)) := by
  have h1 := v103_at x0 x4 x5
  have h2 := v127_at x0 x8
  have h3 := v106_at
  generalize hv : val_main_v103 (F := Ideal) x0 x4 x5 = a at h1
  generalize hw : val_main_v127 (F := Ideal) x0 x8 = b at h2
  generalize hz : val_main_v106 (F := Ideal) = z at h3
  rw [low_mul, ← h3]
  simp only [← h1, ← h2]
  pointwise [val_main_v132, val_main_v131, val_main_v128, hv, hw, hz]

theorem v133_at (n : Fin 16) (k : Fin 128) (g : Fin 4) (d : Fin 128) : val_main_v133 (F := Ideal) x0 x6 x8 (ix2 (row n k) (col g d))
    = dvn (fun j k => x6 (ix3 g j k)) (ds x0 x8 n g) k d := by
  have h1 := v127_at x0 x8
  have h2 := v108_at x6
  generalize hv : val_main_v127 (F := Ideal) x0 x8 = a at h1
  generalize hw : val_main_v108 (F := Ideal) x6 = b at h2
  refine Eq.trans (b := ∑ x : Fin 128, a (ix4 g n d x) * b (ix3 g x k)) ?_ ?_
  · pointwise [val_main_v133, val_main_v130, val_main_v129, hv, hw]
    simp only [row_div, row_mod, col_div, col_mod]
  · unfold dvn
    simp only [h1, h2, mul_comm]

/-- The gradient of the mixed rows, entry by entry. -/
def dv (R : Fin 2048) (l : Fin 512) : EReal := val_main_v133 (F := Ideal) x0 x6 x8 (ix2 R l)

theorem v136_at (l : Fin 512) : val_main_v136 (F := Ideal) x0 x6 x8 (ix1 l) = ∑ R : Fin 2048, dv x0 x6 x8 R l := by
  unfold dv
  generalize hv : val_main_v133 (F := Ideal) x0 x6 x8 = a
  pointwise [val_main_v136, val_main_cst_28, val_main_v135, val_main_v134, val_main_cst_27, hv]
  rw [Fin.sum_univ_one]

theorem v142_at (l : Fin 512) : val_main_v142 (F := Ideal) x0 x6 x8 (ix1 l) = ∑ R : Fin 2048, dv x0 x6 x8 R l * hat (vrow x0 R) l := by
  have h := v96_at x0
  unfold dv
  generalize hv : val_main_v133 (F := Ideal) x0 x6 x8 = a
  generalize hw : val_main_v96 (F := Ideal) x0 = b at h
  simp only [← h, mul_comm (a _)]
  pointwise [val_main_v142, val_main_cst_30, val_main_v139, val_main_v138, val_main_cst_29, val_main_v137, hv, hw]
  rw [Fin.sum_univ_one]

/-- The scaled gradient of the mixed rows. -/
def dh (R : Fin 2048) (l : Fin 512) : EReal := dv x0 x6 x8 R l * vec x4 l

theorem v141_at (R : Fin 2048) (l : Fin 512) : val_main_v141 (F := Ideal) x0 x4 x6 x8 (ix2 R l) = dh x0 x4 x6 x8 R l := by
  unfold dh dv
  generalize hv : val_main_v133 (F := Ideal) x0 x6 x8 = a
  pointwise [val_main_v141, val_main_v140, val_main_v97, hv]

theorem v151_at (R : Fin 2048) : val_main_v151 (F := Ideal) x0 x4 x6 x8 (ix1 R) = lfac (vrow x0 R) (dh x0 x4 x6 x8 R) := by
  have h1 := v83_at x0
  have h2 := v141_at x0 x4 x6 x8
  have h3 := v91_at x0
  have h4 := v90_at x0
  generalize hv : val_main_v83 (F := Ideal) x0 = a at h1
  generalize hw : val_main_v141 (F := Ideal) x0 x4 x6 x8 = b at h2
  generalize hy : val_main_v91 (F := Ideal) x0 = y at h3
  generalize hz : val_main_v90 (F := Ideal) x0 = z at h4
  unfold lfac
  simp only [← h1, ← h2, ← h3, ← h4]
  pointwise [val_main_v151, val_main_cst_33, val_main_v150, val_main_v149, val_main_cst_32, val_main_v148, val_main_v145, val_main_v144, val_main_cst_31, val_main_v143, val_main_v94, val_main_v93, val_main_cst_22, val_main_v92, hv, hw, hy, hz]
  rw [Fin.sum_univ_one]

theorem v156_at (R : Fin 2048) (l : Fin 512) : val_main_v156 (F := Ideal) x0 x4 x6 x8 (ix2 R l) = rcen (vrow x0 R) (dh x0 x4 x6 x8 R) l := by
  have h1 := v83_at x0
  have h2 := v141_at x0 x4 x6 x8
  have h3 := v91_at x0
  have h4 := v151_at x0 x4 x6 x8
  generalize hv : val_main_v83 (F := Ideal) x0 = a at h1
  generalize hw : val_main_v141 (F := Ideal) x0 x4 x6 x8 = b at h2
  generalize hy : val_main_v91 (F := Ideal) x0 = y at h3
  generalize hz : val_main_v151 (F := Ideal) x0 x4 x6 x8 = z at h4
  unfold rcen
  simp only [← h1, ← h2, ← h3, ← h4]
  pointwise [val_main_v156, val_main_v155, val_main_v154, val_main_v153, val_main_v152, val_main_v147, val_main_v146, hv, hw, hy, hz]

theorem v164_at (R : Fin 2048) (l : Fin 512) : val_main_v164 (F := Ideal) x0 x4 x6 x8 (ix2 R l) = rln (vrow x0 R) (dh x0 x4 x6 x8 R) l := by
  have h1 := v156_at x0 x4 x6 x8
  generalize hv : val_main_v156 (F := Ideal) x0 x4 x6 x8 = a at h1
  unfold rln
  simp only [← h1]
  pointwise [val_main_v164, val_main_v163, val_main_v162, val_main_cst_36, val_main_v161, val_main_v160, val_main_cst_35, val_main_v159, val_main_v158, val_main_cst_34, val_main_v157, hv]
  rw [Fin.sum_univ_one]

theorem v178_at (R : Fin 2048) (l : Fin 512) : val_main_v178 (F := Ideal) x0 x4 x6 x8 (ix2 R l) = rd (rln (vrow x0 R) (dh x0 x4 x6 x8 R) l) (vrow x0 R l) := by
  have h1 := v164_at x0 x4 x6 x8
  generalize hv : val_main_v164 (F := Ideal) x0 x4 x6 x8 = a at h1
  rw [← h1]
  unfold rd rt vrow
  pointwise [val_main_v178, val_main_v177, val_main_v176, val_main_v175, val_main_cst_40, val_main_v174, val_main_v173, val_main_cst_39, val_main_v172, val_main_v171, val_main_v170, val_main_cst_38, val_main_v169, val_main_v168, val_main_v167, val_main_cst_37, val_main_v166, val_main_v165,
    val_main_v76, val_main_v75, val_main_cst_16, val_main_v74, val_main_v73, val_main_cst_15, val_main_v72, val_main_v71, val_main_v70, val_main_cst_14, val_main_v69, val_main_v68, val_main_cst_13, val_main_v67, val_main_v66, val_main_v65, val_main_cst_12, val_main_v64, val_main_v63, val_main_v62, val_main_cst_11, val_main_v61, val_main_v60, val_main_cst_10, val_main_v59, val_main_v58, val_main_cst_9, val_main_v57, val_main_v56, val_main_v55, val_main_v6, hv]

theorem v192_at (R : Fin 2048) (l : Fin 512) : val_main_v192 (F := Ideal) x0 x4 x5 x6 x7 x8 (ix2 R l)
    = rd (val_main_v119 (F := Ideal) x0 x4 x5 x6 x7 x8 (ix2 R l)) (x0 (ix2 R ⟨3584 + l.val, by omega⟩)) := by
  generalize hv : val_main_v119 (F := Ideal) x0 x4 x5 x6 x7 x8 = a
  unfold rd rt
  pointwise [val_main_v192, val_main_v191, val_main_v190, val_main_v189, val_main_cst_44, val_main_v188, val_main_v187, val_main_cst_43, val_main_v186, val_main_v185, val_main_v184, val_main_cst_42, val_main_v183, val_main_v182, val_main_v181, val_main_cst_41, val_main_v180, val_main_v179,
    val_main_v53, val_main_v52, val_main_cst_8, val_main_v51, val_main_v50, val_main_cst_7, val_main_v49, val_main_v48, val_main_v47, val_main_cst_6, val_main_v46, val_main_v45, val_main_cst_5, val_main_v44, val_main_v43, val_main_v42, val_main_cst_4, val_main_v41, val_main_v40, val_main_v39, val_main_cst_3, val_main_v38, val_main_v37, val_main_cst_2, val_main_v36, val_main_v35, val_main_cst_1, val_main_v34, val_main_v33, val_main_v32, val_main_v5, hv]

end Cert.Proof.RefS

end
-- ==== Proof.MxbTile.lean ====
/-
  The backward mixer's blocks in terms of its arguments.
-/
module

public import proofs.«01_k».proof.Proof.Blocks
public import proofs.«01_k».proof.Proof.MxbSt1
public import proofs.«01_k».proof.Proof.RefS

@[expose] public section

set_option maxRecDepth 16384

noncomputable section

namespace Cert.Proof.MxbTile

open Blocks Idealize.ShloMosaic Idealize.ShloMosaic.TcCoe Sg MxbFrame Rects MxbBlk MxbConv MxbSt MxbKernelIdeal MxbKernelIdeal.Gen
open RefS (row vrow vec ds)
open scoped BigOperators

/-! ## The gradients, from the arguments -/

section Spec
variable (p : FVec Ideal S2048x4608 .f32) (wc : FVec Ideal S3x512 .f32) (z : FVec Ideal S2048x1536 .f32)

/-- The convolution's input. -/
def zc (R : Fin 2048) (l : Fin 512) : EReal := p (ix2 R ⟨2560 + l.val, by omega⟩) * p (ix2 R ⟨3072 + l.val, by omega⟩)
/-- The gradient of the convolution's output. -/
def dyc (R : Fin 2048) (l : Fin 512) : EReal := z (ix2 R ⟨512 + l.val, by omega⟩) * p (ix2 R ⟨2048 + l.val, by omega⟩)
/-- The input `s` rows before, zero before the first row. -/
def zb (s : ℕ) (R : Fin 2048) (l : Fin 512) : EReal := if s ≤ R.val then zc p ⟨R.val - s, by omega⟩ l else 0
/-- The gradient `s` rows after, zero after the last row. -/
def ya (s : ℕ) (R : Fin 2048) (l : Fin 512) : EReal := if h : R.val + s < 2048 then dyc p z ⟨R.val + s, h⟩ l else 0
def outBg (R : Fin 2048) (l : Fin 512) : EReal :=
  z (ix2 R ⟨512 + l.val, by omega⟩) * ((wc (ix2 0 l) * zb p 2 R l + wc (ix2 1 l) * zb p 1 R l) + wc (ix2 2 l) * zc p R l)
def outZ (R : Fin 2048) (l : Fin 512) : EReal :=
  (wc (ix2 2 l) * dyc p z R l + wc (ix2 1 l) * ya p z 1 R l) + wc (ix2 0 l) * ya p z 2 R l

variable (lg lb : FVec Ideal S512 .f32) (ws : FVec Ideal S4x128x128 .f32) (bs : FVec Ideal S4x128 .f32)

/-- The second gate's rows, normalised. -/
def vr (n : Fin 16) (k : Fin 128) (l : Fin 512) : EReal := vn (vrow p (row n k)) (vec lg) (vec lb) l
def dnl (n : Fin 16) (k : Fin 128) (l : Fin 512) : EReal := ∑ j : Fin 128, low j k (ws (ix3 (grp l) j k)) * (z (ix2 (row n j) ⟨1024 + l.val, by omega⟩) * kg (p (ix2 (row n j) ⟨3584 + l.val, by omega⟩)))
def outU (n : Fin 16) (g : Fin 4) (j d : Fin 128) : EReal :=
  z (ix2 (row n j) ⟨1024 + (col g d).val, by omega⟩) * sv (fun j k => ws (ix3 g j k)) (fun j => bs (ix2 g j)) (fun k d => vr p lg lb n k (col g d)) j d
    * kd (p (ix2 (row n j) ⟨3584 + (col g d).val, by omega⟩))
def outV (n : Fin 16) (j : Fin 128) (l : Fin 512) : EReal :=
  kln (vrow p (row n j)) (fun l => dnl p z ws n j l * vec lg l) l * kd (vrow p (row n j) l)
def outW (n : Fin 16) (g : Fin 4) (j k : Fin 128) : EReal := low j k (∑ d : Fin 128, ds p z n g j d * vr p lg lb n k (col g d))
def outG (n : Fin 16) (l : Fin 512) : EReal := ∑ j : Fin 128, dnl p z ws n j l * hat (vrow p (row n j)) l
def outB (n : Fin 16) (l : Fin 512) : EReal := ∑ j : Fin 128, dnl p z ws n j l

end Spec

variable (m : (ℓ : Loc nD τ sig) → Buf (Elt Ideal) ℓ) (c : Dev nD)

abbrev ap : FVec Ideal S2048x4608 .f32 := m ((c : Thread nD τ).loc main_arg0)
abbrev awc : FVec Ideal S3x512 .f32 := m ((c : Thread nD τ).loc main_arg3)
abbrev alg : FVec Ideal S512 .f32 := m ((c : Thread nD τ).loc main_arg4)
abbrev alb : FVec Ideal S512 .f32 := m ((c : Thread nD τ).loc main_arg5)
abbrev aws : FVec Ideal S4x128x128 .f32 := m ((c : Thread nD τ).loc main_arg6)
abbrev abs' : FVec Ideal S4x128 .f32 := m ((c : Thread nD τ).loc main_arg7)
abbrev az : FVec Ideal S2048x1536 .f32 := m ((c : Thread nD τ).loc main_arg8)

/-- Row `r` of the point's tile; the tiles run from the last to the first. -/
def Rw (t : Fin cfg0.N) (r : Fin 256) : Fin 2048 := ⟨256 * (7 - t.val) + r.val, by omega⟩
/-- Chunk `h` of the point's tile. -/
def Ch (t : Fin cfg0.N) (h : Fin 2) : Fin 16 := ⟨2 * (7 - t.val) + h.val, by omega⟩
theorem Rw_row (t : Fin cfg0.N) (h : Fin 2) (j : Fin 128) : Rw t ⟨128 * h.val + j.val, by omega⟩ = row (Ch t h) j :=
  Fin.ext (by show 256 * (7 - t.val) + (128 * h.val + j.val) = 128 * (2 * (7 - t.val) + h.val) + j.val; omega)

theorem bcast_at (g : FVec Ideal S512 .f32) (l : Fin 512) : broadcastInDim S1x512 ![1] bcast_S512_S1x512_1 g (ix2 0 l) = g (ix1 l) := by
  pointwise []
theorem trans_at (b : FVec Ideal S4x128 .f32) (j : Fin 128) (g : Fin 4) : transpose S128x4 [1, 0] b transposes_S4x128_S128x4_1_0 (ix2 j g) = b (ix2 g j) := by
  pointwise []
theorem trunc_at (z : FVec Ideal S2048x1536 .f32) (i : S2048x1536.Idx) : (truncf .bf16 z bitsLt_bf16_f32 : FVec Ideal S2048x1536 .bf16) i = z i := rfl

/-- What the region finds, behind the last stretch of host lines. -/
theorem V_split : ∃ W : Valuation τ sig (Elt Ideal), ∀ b : Ref sig .tc, V m c b = StableHlo.after hostOps0_6 W (Proc.tc.devRef b) := by
  refine ⟨StableHlo.after (hostOps0 ++ (hostOps0_1 ++ (hostOps0_2 ++ (hostOps0_3 ++ (hostOps0_4 ++ hostOps0_5))))) (fun b => m (c, b)), fun b => ?_⟩
  rw [← StableHlo.after_append]
  simp only [List.append_assoc]
  show StableHlo.after (List.flatten _) _ _ = _
  simp only [List.flatten_cons, List.flatten_nil, List.append_nil]
theorem V_v2 : V m c main_v348 = broadcastInDim S1x512 ![1] bcast_S512_S1x512_1 (alg m c) := by
  obtain ⟨W, h⟩ := V_split m c
  have e : W (Proc.tc.devRef main_arg4) = alg m c := by
    refine Eq.trans ?_ (V_main_arg4 m c)
    rw [h]
    after_results
  rw [h, ← e]
  after_results
theorem V_v3 : V m c main_v349 = broadcastInDim S1x512 ![1] bcast_S512_S1x512_1 (alb m c) := by
  obtain ⟨W, h⟩ := V_split m c
  have e : W (Proc.tc.devRef main_arg5) = alb m c := by
    refine Eq.trans ?_ (V_main_arg5 m c)
    rw [h]
    after_results
  rw [h, ← e]
  after_results
theorem V_v4 : V m c main_v350 = transpose S128x4 [1, 0] (abs' m c) transposes_S4x128_S128x4_1_0 := by
  obtain ⟨W, h⟩ := V_split m c
  have e : W (Proc.tc.devRef main_arg7) = abs' m c := by
    refine Eq.trans ?_ (V_main_arg7 m c)
    rw [h]
    after_results
  rw [h, ← e]
  after_results
theorem V_v5 : V m c main_v351 = truncf .bf16 (az m c) bitsLt_bf16_f32 := by
  obtain ⟨W, h⟩ := V_split m c
  have e : W (Proc.tc.devRef main_arg8) = az m c := by
    refine Eq.trans ?_ (V_main_arg8 m c)
    rw [h]
    after_results
  rw [h, ← e]
  after_results
theorem index4 : ∀ t : Fin cfg0.N, win0_4.index t 0 = 7 - t.val ∧ win0_4.index t 1 = 4 := by decide +kernel
theorem index5 : ∀ t : Fin cfg0.N, win0_5.index t 0 = 7 - t.val ∧ win0_5.index t 1 = 5 := by decide +kernel
theorem index6 : ∀ t : Fin cfg0.N, win0_6.index t 0 = 7 - t.val ∧ win0_6.index t 1 = 6 := by decide +kernel
theorem index7 : ∀ t : Fin cfg0.N, win0_7.index t 0 = 7 - t.val ∧ win0_7.index t 1 = 7 := by decide +kernel
theorem index8 : ∀ t : Fin cfg0.N, win0_8.index t 0 = 7 - t.val ∧ win0_8.index t 1 = 8 := by decide +kernel
theorem index9 : ∀ t : Fin cfg0.N, win0_9.index t 0 = (7 - t.val) * 32 - 1 ∧ win0_9.index t 1 = 5 := by decide +kernel
theorem index10 : ∀ t : Fin cfg0.N, win0_10.index t 0 = (7 - t.val) * 32 - 1 ∧ win0_10.index t 1 = 6 := by decide +kernel
theorem index11 : ∀ t : Fin cfg0.N, win0_11.index t 0 = 7 - t.val ∧ win0_11.index t 1 = 0 := by decide +kernel
theorem index16 : ∀ t : Fin cfg0.N, win0_16.index t 0 = 0 ∧ win0_16.index t 1 = 0 := by decide +kernel
theorem index17 : ∀ t : Fin cfg0.N, win0_17.index t 0 = 0 ∧ win0_17.index t 1 = 0 := by decide +kernel
theorem index18 : ∀ t : Fin cfg0.N, win0_18.index t 0 = 0 ∧ win0_18.index t 1 = 0 := by decide +kernel
theorem index20 : ∀ t : Fin cfg0.N, win0_20.index t 0 = 0 ∧ win0_20.index t 1 = 0 := by decide +kernel
theorem index21 : ∀ t : Fin cfg0.N, win0_21.index t 0 = 7 - t.val ∧ win0_21.index t 1 = 0 := by decide +kernel
theorem index19 : ∀ t : Fin cfg0.N, win0_19.index t 0 = 0 ∧ win0_19.index t 1 = 0 ∧ win0_19.index t 2 = 0 := by decide +kernel
theorem iblk4 (t : Fin cfg0.N) (r : Fin 256) (l : Fin 512) : iblk m c 4 t (ix2 r l) = ap m c (ix2 (Rw t r) ⟨2048 + l.val, by omega⟩) := by
  unfold iblk
  rw [View.read_apply]
  have hV := V_main_arg0 m c
  generalize V m c = W at hV ⊢
  show W main_arg0 _ = _
  rw [hV]
  exact congrArg _ (emb_block (index4 t) r l _ _)
theorem iblk5 (t : Fin cfg0.N) (r : Fin 256) (l : Fin 512) : iblk m c 5 t (ix2 r l) = ap m c (ix2 (Rw t r) ⟨2560 + l.val, by omega⟩) := by
  unfold iblk
  rw [View.read_apply]
  have hV := V_main_arg0 m c
  generalize V m c = W at hV ⊢
  show W main_arg0 _ = _
  rw [hV]
  exact congrArg _ (emb_block (index5 t) r l _ _)
theorem iblk6 (t : Fin cfg0.N) (r : Fin 256) (l : Fin 512) : iblk m c 6 t (ix2 r l) = ap m c (ix2 (Rw t r) ⟨3072 + l.val, by omega⟩) := by
  unfold iblk
  rw [View.read_apply]
  have hV := V_main_arg0 m c
  generalize V m c = W at hV ⊢
  show W main_arg0 _ = _
  rw [hV]
  exact congrArg _ (emb_block (index6 t) r l _ _)
theorem iblk7 (t : Fin cfg0.N) (r : Fin 256) (l : Fin 512) : iblk m c 7 t (ix2 r l) = ap m c (ix2 (Rw t r) ⟨3584 + l.val, by omega⟩) := by
  unfold iblk
  rw [View.read_apply]
  have hV := V_main_arg0 m c
  generalize V m c = W at hV ⊢
  show W main_arg0 _ = _
  rw [hV]
  exact congrArg _ (emb_block (index7 t) r l _ _)
theorem iblk8 (t : Fin cfg0.N) (r : Fin 256) (l : Fin 512) : iblk m c 8 t (ix2 r l) = ap m c (ix2 (Rw t r) ⟨4096 + l.val, by omega⟩) := by
  unfold iblk
  rw [View.read_apply]
  have hV := V_main_arg0 m c
  generalize V m c = W at hV ⊢
  show W main_arg0 _ = _
  rw [hV]
  exact congrArg _ (emb_block (index8 t) r l _ _)
theorem iblk11 (t : Fin cfg0.N) (r : Fin 256) (l : Fin 1536) : iblk m c 11 t (ix2 r l) = az m c (ix2 (Rw t r) l) := by
  have hi := index11 t
  unfold iblk
  rw [View.read_apply]
  have hV := V_v5 m c
  generalize V m c = W at hV ⊢
  show W main_v351 _ = _
  rw [hV, trunc_at]
  congr 1
  funext a
  apply Fin.ext
  match a with
  | ⟨0, _⟩ => show win0_11.index t 0 * 256 + 1 * r.val = 256 * (7 - t.val) + r.val; rw [hi.1]; omega
  | ⟨1, _⟩ => show win0_11.index t 1 * 1536 + 1 * l.val = l.val; rw [hi.2]; omega
theorem iblk16 (t : Fin cfg0.N) (r : Fin 3) (l : Fin 512) : iblk m c 16 t (ix2 r l) = awc m c (ix2 r l) := by
  unfold iblk
  rw [View.read_apply]
  have hV := V_main_arg3 m c
  generalize V m c = W at hV ⊢
  show W main_arg3 _ = _
  rw [hV]
  exact congrArg _ (emb_block (index16 t) r l _ _)
theorem iblk17 (t : Fin cfg0.N) (l : Fin 512) : iblk m c 17 t (ix2 0 l) = alg m c (ix1 l) := by
  unfold iblk
  rw [View.read_apply]
  have hV := V_v2 m c
  generalize V m c = W at hV ⊢
  show W main_v348 _ = _
  rw [hV]
  exact (congrArg _ (emb_block (index17 t) 0 l _ _)).trans (bcast_at _ _)
theorem iblk18 (t : Fin cfg0.N) (l : Fin 512) : iblk m c 18 t (ix2 0 l) = alb m c (ix1 l) := by
  unfold iblk
  rw [View.read_apply]
  have hV := V_v3 m c
  generalize V m c = W at hV ⊢
  show W main_v349 _ = _
  rw [hV]
  exact (congrArg _ (emb_block (index18 t) 0 l _ _)).trans (bcast_at _ _)
theorem iblk20 (t : Fin cfg0.N) (r : Fin 128) (l : Fin 4) : iblk m c 20 t (ix2 r l) = abs' m c (ix2 l r) := by
  unfold iblk
  rw [View.read_apply]
  have hV := V_v4 m c
  generalize V m c = W at hV ⊢
  show W main_v350 _ = _
  rw [hV]
  exact (congrArg _ (emb_block (index20 t) r l _ _)).trans (trans_at _ _ _)
theorem iblk9 (t : Fin cfg0.N) (ht : t.val < 7) (r : Fin 8) (l : Fin 512) : iblk m c 9 t (ix2 r l) = ap m c (ix2 ⟨256 * (7 - t.val) - 8 + r.val, by omega⟩ ⟨2560 + l.val, by omega⟩) := by
  unfold iblk
  rw [View.read_apply]
  have hV := V_main_arg0 m c
  generalize V m c = W at hV ⊢
  show W main_arg0 _ = _
  rw [hV]
  exact congrArg _ (emb_block (index9 t) r l _ _ (by show 256 * (7 - t.val) - 8 + r.val = 8 * ((7 - t.val) * 32 - 1) + r.val; omega))
theorem iblk10 (t : Fin cfg0.N) (ht : t.val < 7) (r : Fin 8) (l : Fin 512) : iblk m c 10 t (ix2 r l) = ap m c (ix2 ⟨256 * (7 - t.val) - 8 + r.val, by omega⟩ ⟨3072 + l.val, by omega⟩) := by
  unfold iblk
  rw [View.read_apply]
  have hV := V_main_arg0 m c
  generalize V m c = W at hV ⊢
  show W main_arg0 _ = _
  rw [hV]
  exact congrArg _ (emb_block (index10 t) r l _ _ (by show 256 * (7 - t.val) - 8 + r.val = 8 * ((7 - t.val) * 32 - 1) + r.val; omega))
theorem iblk19 (t : Fin cfg0.N) (g : Fin 4) (j k : Fin 128) : iblk m c 19 t (ix3 g j k) = aws m c (ix3 g j k) := by
  have hi := index19 t
  unfold iblk
  rw [View.read_apply]
  have hV := V_main_arg6 m c
  generalize V m c = W at hV ⊢
  show W main_arg6 _ = _
  rw [hV]
  congr 1
  funext a
  apply Fin.ext
  match a with
  | ⟨0, _⟩ => show win0_19.index t 0 * 4 + 1 * g.val = g.val; rw [hi.1]; omega
  | ⟨1, _⟩ => show win0_19.index t 1 * 128 + 1 * j.val = j.val; rw [hi.2.1]; omega
  | ⟨2, _⟩ => show win0_19.index t 2 * 128 + 1 * k.val = k.val; rw [hi.2.2]; omega

/-! ## The bodies' quantities, from the arguments -/

theorem rowx7 (t : Fin cfg0.N) (h : Fin 2) (j : Fin 128) (l : Fin 512) : rowx (iblk m c 7 t) h j l = ap m c (ix2 (row (Ch t h) j) ⟨3584 + l.val, by omega⟩) := by
  unfold rowx; rw [iblk7, Rw_row]
theorem rowx8 (t : Fin cfg0.N) (h : Fin 2) (j : Fin 128) : rowx (iblk m c 8 t) h j = vrow (ap m c) (row (Ch t h) j) := by
  funext l; unfold rowx vrow; rw [iblk8, Rw_row]
theorem zx11 (t : Fin cfg0.N) (h : Fin 2) (j : Fin 128) (l : Fin 512) : zx (iblk m c 11 t) h j l = az m c (ix2 (row (Ch t h) j) ⟨1024 + l.val, by omega⟩) := by
  unfold zx; rw [iblk11, Rw_row]
theorem vec17 (t : Fin cfg0.N) : vec1 (iblk m c 17 t) = vec (alg m c) := funext fun l => iblk17 m c t l
theorem vec18 (t : Fin cfg0.N) : vec1 (iblk m c 18 t) = vec (alb m c) := funext fun l => iblk18 m c t l
theorem sx_at (t : Fin cfg0.N) (h : Fin 2) (g : Fin 4) (j d : Fin 128) : sx (iblk m c 7 t) (iblk m c 11 t) h j (col g d) = ds (ap m c) (az m c) (Ch t h) g j d := by
  unfold sx ds; rw [rowx7, zx11]
theorem vnx_at (t : Fin cfg0.N) (h : Fin 2) (k : Fin 128) (l : Fin 512) : vnx (iblk m c 8 t) (iblk m c 17 t) (iblk m c 18 t) h k l = vr (ap m c) (alg m c) (alb m c) (Ch t h) k l := by
  unfold vnx vr; rw [rowx8, vec17, vec18]
theorem dnx_at (t : Fin cfg0.N) (h : Fin 2) (k : Fin 128) (l : Fin 512) : dnx (iblk m c 7 t) (iblk m c 11 t) (iblk m c 19 t) h k l = dnl (ap m c) (az m c) (aws m c) (Ch t h) k l := by
  unfold dnx dnl sx
  refine Finset.sum_congr rfl fun j _ => ?_
  rw [iblk19, rowx7, zx11]
theorem xU_at (t : Fin cfg0.N) (h : Fin 2) (g : Fin 4) (j d : Fin 128) : xU (iblk m c 7 t) (iblk m c 8 t) (iblk m c 11 t) (iblk m c 17 t) (iblk m c 18 t) (iblk m c 19 t) (iblk m c 20 t) h g j d
    = outU (ap m c) (az m c) (alg m c) (alb m c) (aws m c) (abs' m c) (Ch t h) g j d := by
  unfold xU outU
  simp only [zx11, rowx7, vnx_at, iblk19, iblk20]
theorem xV_at (t : Fin cfg0.N) (h : Fin 2) (j : Fin 128) (l : Fin 512) : xV (iblk m c 7 t) (iblk m c 8 t) (iblk m c 11 t) (iblk m c 17 t) (iblk m c 19 t) h j l
    = outV (ap m c) (az m c) (alg m c) (aws m c) (Ch t h) j l := by
  unfold xV outV
  simp only [rowx8, dnx_at, vec17]
theorem xW_at (t : Fin cfg0.N) (h : Fin 2) (g : Fin 4) (j k : Fin 128) : xW (iblk m c 7 t) (iblk m c 8 t) (iblk m c 11 t) (iblk m c 17 t) (iblk m c 18 t) h g j k
    = outW (ap m c) (az m c) (alg m c) (alb m c) (Ch t h) g j k := by
  unfold xW outW
  simp only [sx_at, vnx_at]
theorem xG_at (t : Fin cfg0.N) (h : Fin 2) (l : Fin 512) : xG (iblk m c 7 t) (iblk m c 8 t) (iblk m c 11 t) (iblk m c 19 t) h l
    = outG (ap m c) (az m c) (aws m c) (Ch t h) l := by
  unfold xG outG
  simp only [rowx8, dnx_at]
theorem xB_at (t : Fin cfg0.N) (h : Fin 2) (l : Fin 512) : xB (iblk m c 7 t) (iblk m c 11 t) (iblk m c 19 t) h l
    = outB (ap m c) (az m c) (aws m c) (Ch t h) l := by
  unfold xB outB
  simp only [dnx_at]

theorem zin_at (t : Fin cfg0.N) (r : Fin 256) (l : Fin 512) : zin (iblk m c 5 t) (iblk m c 6 t) r l = zc (ap m c) (Rw t r) l := by
  unfold zin zc; rw [iblk5, iblk6]
theorem dz_at (t : Fin cfg0.N) (r : Fin 256) (l : Fin 512) : dz (iblk m c 11 t) r l = az m c (ix2 (Rw t r) ⟨512 + l.val, by omega⟩) := by
  unfold dz; rw [iblk11]
theorem dyx_at (t : Fin cfg0.N) (r : Fin 256) (l : Fin 512) : dyx (iblk m c 4 t) (iblk m c 11 t) r l = dyc (ap m c) (az m c) (Rw t r) l := by
  unfold dyx dyc; rw [dz_at, iblk4]
theorem back_at (t : Fin cfg0.N) (s : ℕ) (hs : s ≤ 2) (r : Fin 256) (l : Fin 512) :
    back (iblk m c 5 t) (iblk m c 6 t) (tailx (iblk m c 9 t) (iblk m c 10 t) (grid0.coords t 0).val) s hs r l = zb (ap m c) s (Rw t r) l := by
  have h8 := lt8 t
  unfold back zb
  by_cases h : r.val < s
  · rw [dif_pos h]
    unfold tailx
    rw [coordOf]
    by_cases ht : t.val < 7
    · rw [if_pos ht, if_pos (by show s ≤ 256 * (7 - t.val) + r.val; omega), iblk9 m c t ht, iblk10 m c t ht]
      show zc (ap m c) ⟨256 * (7 - t.val) - 8 + (8 - s + r.val), by omega⟩ l = _
      exact congrArg (fun R => zc (ap m c) R l) (Fin.ext (by show 256 * (7 - t.val) - 8 + (8 - s + r.val) = 256 * (7 - t.val) + r.val - s; omega))
    · rw [if_neg ht, if_neg (by show ¬ s ≤ 256 * (7 - t.val) + r.val; omega)]
  · rw [dif_neg h, zin_at, if_pos (by show s ≤ 256 * (7 - t.val) + r.val; omega)]
    exact congrArg (fun R => zc (ap m c) R l) (Fin.ext (by show 256 * (7 - t.val) + (r.val - s) = 256 * (7 - t.val) + r.val - s; omega))
/-- The rows after the tile's last. -/
def nxt (t : Fin cfg0.N) (e : Fin 8) (l : Fin 512) : EReal := ya (ap m c) (az m c) 256 (Rw t ⟨e.val, by omega⟩) l
theorem ahead_at (t : Fin cfg0.N) (nx : Fin 8 → Fin 512 → EReal) (hn : ∀ e l, nx e l = nxt m c t e l) (s : ℕ) (hs : s ≤ 2) (r : Fin 256) (l : Fin 512) :
    ahead (iblk m c 4 t) (iblk m c 11 t) nx s hs r l = ya (ap m c) (az m c) s (Rw t r) l := by
  have h8 := lt8 t
  unfold ahead
  by_cases h : r.val + s < 256
  · rw [dif_pos h, dyx_at]
    unfold ya
    rw [dif_pos (by show 256 * (7 - t.val) + r.val + s < 2048; omega)]
    exact congrArg (fun R => dyc (ap m c) (az m c) R l) (Fin.ext (by show 256 * (7 - t.val) + (r.val + s) = 256 * (7 - t.val) + r.val + s; omega))
  · rw [dif_neg h, hn]
    unfold nxt ya
    have e : 256 * (7 - t.val) + (r.val + s - 256) + 256 = 256 * (7 - t.val) + r.val + s := by omega
    by_cases hb : 256 * (7 - t.val) + r.val + s < 2048
    · rw [dif_pos (by show 256 * (7 - t.val) + (r.val + s - 256) + 256 < 2048; omega), dif_pos (by exact hb)]
      exact congrArg (fun R => dyc (ap m c) (az m c) R l) (Fin.ext e)
    · rw [dif_neg (by show ¬ 256 * (7 - t.val) + (r.val + s - 256) + 256 < 2048; omega), dif_neg (by exact hb)]
theorem cBg_at (t : Fin cfg0.N) (r : Fin 256) (l : Fin 512) :
    cBg (iblk m c 5 t) (iblk m c 6 t) (iblk m c 11 t) (iblk m c 16 t) (tailx (iblk m c 9 t) (iblk m c 10 t) (grid0.coords t 0).val) r l = outBg (ap m c) (awc m c) (az m c) (Rw t r) l := by
  unfold cBg outBg
  rw [dz_at, back_at, back_at, zin_at, iblk16, iblk16, iblk16]
theorem cZ_at (t : Fin cfg0.N) (nx : Fin 8 → Fin 512 → EReal) (hn : ∀ e l, nx e l = nxt m c t e l) (r : Fin 256) (l : Fin 512) :
    cZ (iblk m c 4 t) (iblk m c 11 t) (iblk m c 16 t) nx r l = outZ (ap m c) (awc m c) (az m c) (Rw t r) l := by
  unfold cZ outZ
  rw [ahead_at m c t nx hn, ahead_at m c t nx hn, dyx_at, iblk16, iblk16, iblk16]

end Cert.Proof.MxbTile

end
-- ==== Proof.MxbSt2.lean ====
/-
  What the backward mixer's body leaves at a grid point, case by case, in terms of its blocks.
-/
module

public import proofs.«01_k».proof.Proof.MxbSt1

@[expose] public section

set_option maxRecDepth 16384

noncomputable section

namespace Cert.Proof.MxbSt

open Idealize.ShloMosaic Idealize.ShloMosaic.TcCoe Idealize.ShloMosaic.Tactic
open MxbFrame Rects MxbBlk MxbConv Sg MxbKernelIdeal MxbKernelIdeal.Gen
open scoped BigOperators

variable (m : (ℓ : Loc nD τ sig) → Buf (Elt Ideal) ℓ) (c : Dev nD) (t : Fin cfg0.N)
set_option maxHeartbeats 1000000

section first
variable (h0 : t.val % 8 = 0) (h1 : ¬t.val % 8 = 7)

theorem bgA (r : Fin 256) (l : Fin 512) :
    (stA m c t h0 h1).dp (ix2 r ⟨2048 + l.val, by omega⟩) = cBg (iblk m c 5 t) (iblk m c 6 t) (iblk m c 11 t) (iblk m c 16 t) (tailx (iblk m c 9 t) (iblk m c 10 t) (grid0.coords t 0).val) r l := by
  unfold stA runA kernelRun0_A
  dsimp only
  iterate 12 refine past2 (by simp <;> omega) ?_
  refine hit2 r l ?_
  sl_unfold_words
  simp only [View.readAt_eq_ld, Memref.IsWhole.read_unread]
  refine bg_of _ _ _ _ _ _ _ r l ?_ ?_ _
  · refine seen2 r l ⟨8 - 2 + r.val, by omega⟩ l ?_
    exact zbuf_at _ _ _ _ _ _ _ (zS_at _ _ _) (fun e l => tail_at _ _ _ (lt_of_eq_of_lt (coordOf t) (lt8 t)) _ _ _ e l) 2 (by decide) _ _ r l
  · refine seen2 r l ⟨8 - 1 + r.val, by omega⟩ l ?_
    exact zbuf_at _ _ _ _ _ _ _ (zS_at _ _ _) (fun e l => tail_at _ _ _ (lt_of_eq_of_lt (coordOf t) (lt8 t)) _ _ _ e l) 1 (by decide) _ _ r l

theorem cgA (r : Fin 256) (l : Fin 512) :
    (stA m c t h0 h1).dp (ix2 r ⟨2560 + l.val, by omega⟩) = cZ (iblk m c 4 t) (iblk m c 11 t) (iblk m c 16 t) (fun _ _ => 0) r l * (iblk m c 6 t) (ix2 r l) := by
  unfold stA runA kernelRun0_A
  dsimp only
  iterate 11 refine past2 (by simp <;> omega) ?_
  refine hit2 r l ?_
  sl_unfold_words
  simp only [View.readAt_eq_ld, Memref.IsWhole.read_unread]
  refine in_of _ _ _ _ _ _ _ r l ?_ ?_ _
  · refine seen2 r l ⟨1 + r.val, by omega⟩ l ?_
    exact ybuf_at _ _ _ _ _ _ _ (fun r l => yS_at _ _ _ r l) (fun e l => hit2 e l (zero8_at _ e l)) 1 (by decide) _ r l
  · refine seen2 r l ⟨2 + r.val, by omega⟩ l ?_
    exact ybuf_at _ _ _ _ _ _ _ (fun r l => yS_at _ _ _ r l) (fun e l => hit2 e l (zero8_at _ e l)) 2 (by decide) _ r l

theorem xcA (r : Fin 256) (l : Fin 512) :
    (stA m c t h0 h1).dp (ix2 r ⟨3072 + l.val, by omega⟩) = cZ (iblk m c 4 t) (iblk m c 11 t) (iblk m c 16 t) (fun _ _ => 0) r l * (iblk m c 5 t) (ix2 r l) := by
  unfold stA runA kernelRun0_A
  dsimp only
  iterate 10 refine past2 (by simp <;> omega) ?_
  refine hit2 r l ?_
  sl_unfold_words
  simp only [View.readAt_eq_ld, Memref.IsWhole.read_unread]
  refine in_of _ _ _ _ _ _ _ r l ?_ ?_ _
  · refine seen2 r l ⟨1 + r.val, by omega⟩ l ?_
    exact ybuf_at _ _ _ _ _ _ _ (fun r l => yS_at _ _ _ r l) (fun e l => hit2 e l (zero8_at _ e l)) 1 (by decide) _ r l
  · refine seen2 r l ⟨2 + r.val, by omega⟩ l ?_
    exact ybuf_at _ _ _ _ _ _ _ (fun r l => yS_at _ _ _ r l) (fun e l => hit2 e l (zero8_at _ e l)) 2 (by decide) _ r l

theorem dyA (e : Fin 8) (l : Fin 512) :
    (stA m c t h0 h1).dy (ix2 ⟨256 + e.val, by omega⟩ l) = dyx (iblk m c 4 t) (iblk m c 11 t) ⟨e.val, by omega⟩ l := by
  unfold stA runA kernelRun0_A
  dsimp only
  refine hit2 e l ?_
  sl_unfold_words
  simp only [View.readAt_eq_ld, Memref.IsWhole.read_unread]
  refine (id8_at _ _ e l).trans ?_
  refine seen2 e l ⟨e.val, by omega⟩ l ?_
  refine hit2 ⟨e.val, by omega⟩ l ?_
  exact yS_at _ _ _ ⟨e.val, by omega⟩ l

end first

section middle
variable (h0 : ¬t.val % 8 = 0) (h1 : ¬t.val % 8 = 7) (p : St Ideal)

theorem bgB (r : Fin 256) (l : Fin 512) :
    (stB m c t h0 h1 p).dp (ix2 r ⟨2048 + l.val, by omega⟩) = cBg (iblk m c 5 t) (iblk m c 6 t) (iblk m c 11 t) (iblk m c 16 t) (tailx (iblk m c 9 t) (iblk m c 10 t) (grid0.coords t 0).val) r l := by
  unfold stB runB kernelRun0_B
  dsimp only
  iterate 12 refine past2 (by simp <;> omega) ?_
  refine hit2 r l ?_
  sl_unfold_words
  simp only [View.readAt_eq_ld, Memref.IsWhole.read_unread]
  refine bg_of _ _ _ _ _ _ _ r l ?_ ?_ _
  · refine seen2 r l ⟨8 - 2 + r.val, by omega⟩ l ?_
    exact zbuf_at _ _ _ _ _ _ _ (zS_at _ _ _) (fun e l => tail_at _ _ _ (lt_of_eq_of_lt (coordOf t) (lt8 t)) _ _ _ e l) 2 (by decide) _ _ r l
  · refine seen2 r l ⟨8 - 1 + r.val, by omega⟩ l ?_
    exact zbuf_at _ _ _ _ _ _ _ (zS_at _ _ _) (fun e l => tail_at _ _ _ (lt_of_eq_of_lt (coordOf t) (lt8 t)) _ _ _ e l) 1 (by decide) _ _ r l

theorem cgB (r : Fin 256) (l : Fin 512) :
    (stB m c t h0 h1 p).dp (ix2 r ⟨2560 + l.val, by omega⟩) = cZ (iblk m c 4 t) (iblk m c 11 t) (iblk m c 16 t) (nextOf p) r l * (iblk m c 6 t) (ix2 r l) := by
  unfold stB runB kernelRun0_B
  dsimp only
  iterate 11 refine past2 (by simp <;> omega) ?_
  refine hit2 r l ?_
  sl_unfold_words
  simp only [View.readAt_eq_ld, Memref.IsWhole.read_unread]
  refine in_of _ _ _ _ _ _ _ r l ?_ ?_ _
  · refine (ld2 _ _ r l ⟨1 + r.val, by omega⟩ l (by simp) (by simp)).trans ?_
    exact ybuf_at _ _ _ _ _ _ _ (fun r l => yS_at _ _ _ r l) (fun e l => congrFun ((Memref.isWhole_whole cc0_scratch2).read_unread p.dy) _) 1 (by decide) _ r l
  · refine (ld2 _ _ r l ⟨2 + r.val, by omega⟩ l (by simp) (by simp)).trans ?_
    exact ybuf_at _ _ _ _ _ _ _ (fun r l => yS_at _ _ _ r l) (fun e l => congrFun ((Memref.isWhole_whole cc0_scratch2).read_unread p.dy) _) 2 (by decide) _ r l

theorem xcB (r : Fin 256) (l : Fin 512) :
    (stB m c t h0 h1 p).dp (ix2 r ⟨3072 + l.val, by omega⟩) = cZ (iblk m c 4 t) (iblk m c 11 t) (iblk m c 16 t) (nextOf p) r l * (iblk m c 5 t) (ix2 r l) := by
  unfold stB runB kernelRun0_B
  dsimp only
  iterate 10 refine past2 (by simp <;> omega) ?_
  refine hit2 r l ?_
  sl_unfold_words
  simp only [View.readAt_eq_ld, Memref.IsWhole.read_unread]
  refine in_of _ _ _ _ _ _ _ r l ?_ ?_ _
  · refine (ld2 _ _ r l ⟨1 + r.val, by omega⟩ l (by simp) (by simp)).trans ?_
    exact ybuf_at _ _ _ _ _ _ _ (fun r l => yS_at _ _ _ r l) (fun e l => congrFun ((Memref.isWhole_whole cc0_scratch2).read_unread p.dy) _) 1 (by decide) _ r l
  · refine (ld2 _ _ r l ⟨2 + r.val, by omega⟩ l (by simp) (by simp)).trans ?_
    exact ybuf_at _ _ _ _ _ _ _ (fun r l => yS_at _ _ _ r l) (fun e l => congrFun ((Memref.isWhole_whole cc0_scratch2).read_unread p.dy) _) 2 (by decide) _ r l

theorem dyB (e : Fin 8) (l : Fin 512) :
    (stB m c t h0 h1 p).dy (ix2 ⟨256 + e.val, by omega⟩ l) = dyx (iblk m c 4 t) (iblk m c 11 t) ⟨e.val, by omega⟩ l := by
  unfold stB runB kernelRun0_B
  dsimp only
  refine hit2 e l ?_
  sl_unfold_words
  simp only [View.readAt_eq_ld, Memref.IsWhole.read_unread]
  refine (id8_at _ _ e l).trans ?_
  refine seen2 e l ⟨e.val, by omega⟩ l ?_
  refine hit2 ⟨e.val, by omega⟩ l ?_
  exact yS_at _ _ _ ⟨e.val, by omega⟩ l

end middle

section last
variable (h0 : ¬t.val % 8 = 0) (h1 : t.val % 8 = 7) (p : St Ideal)

theorem bgC (r : Fin 256) (l : Fin 512) :
    (stC m c t h0 h1 p).dp (ix2 r ⟨2048 + l.val, by omega⟩) = cBg (iblk m c 5 t) (iblk m c 6 t) (iblk m c 11 t) (iblk m c 16 t) (tailx (iblk m c 9 t) (iblk m c 10 t) (grid0.coords t 0).val) r l := by
  unfold stC runC kernelRun0_C
  dsimp only
  iterate 12 refine past2 (by simp <;> omega) ?_
  refine hit2 r l ?_
  sl_unfold_words
  simp only [View.readAt_eq_ld, Memref.IsWhole.read_unread]
  refine bg_of _ _ _ _ _ _ _ r l ?_ ?_ _
  · refine seen2 r l ⟨8 - 2 + r.val, by omega⟩ l ?_
    exact zbuf_at _ _ _ _ _ _ _ (zS_at _ _ _) (fun e l => tail_at _ _ _ (lt_of_eq_of_lt (coordOf t) (lt8 t)) _ _ _ e l) 2 (by decide) _ _ r l
  · refine seen2 r l ⟨8 - 1 + r.val, by omega⟩ l ?_
    exact zbuf_at _ _ _ _ _ _ _ (zS_at _ _ _) (fun e l => tail_at _ _ _ (lt_of_eq_of_lt (coordOf t) (lt8 t)) _ _ _ e l) 1 (by decide) _ _ r l

theorem cgC (r : Fin 256) (l : Fin 512) :
    (stC m c t h0 h1 p).dp (ix2 r ⟨2560 + l.val, by omega⟩) = cZ (iblk m c 4 t) (iblk m c 11 t) (iblk m c 16 t) (nextOf p) r l * (iblk m c 6 t) (ix2 r l) := by
  unfold stC runC kernelRun0_C
  dsimp only
  iterate 11 refine past2 (by simp <;> omega) ?_
  refine hit2 r l ?_
  sl_unfold_words
  simp only [View.readAt_eq_ld, Memref.IsWhole.read_unread]
  refine in_of _ _ _ _ _ _ _ r l ?_ ?_ _
  · refine (ld2 _ _ r l ⟨1 + r.val, by omega⟩ l (by simp) (by simp)).trans ?_
    exact ybuf_at _ _ _ _ _ _ _ (fun r l => yS_at _ _ _ r l) (fun e l => congrFun ((Memref.isWhole_whole cc0_scratch2).read_unread p.dy) _) 1 (by decide) _ r l
  · refine (ld2 _ _ r l ⟨2 + r.val, by omega⟩ l (by simp) (by simp)).trans ?_
    exact ybuf_at _ _ _ _ _ _ _ (fun r l => yS_at _ _ _ r l) (fun e l => congrFun ((Memref.isWhole_whole cc0_scratch2).read_unread p.dy) _) 2 (by decide) _ r l

theorem xcC (r : Fin 256) (l : Fin 512) :
    (stC m c t h0 h1 p).dp (ix2 r ⟨3072 + l.val, by omega⟩) = cZ (iblk m c 4 t) (iblk m c 11 t) (iblk m c 16 t) (nextOf p) r l * (iblk m c 5 t) (ix2 r l) := by
  unfold stC runC kernelRun0_C
  dsimp only
  iterate 10 refine past2 (by simp <;> omega) ?_
  refine hit2 r l ?_
  sl_unfold_words
  simp only [View.readAt_eq_ld, Memref.IsWhole.read_unread]
  refine in_of _ _ _ _ _ _ _ r l ?_ ?_ _
  · refine (ld2 _ _ r l ⟨1 + r.val, by omega⟩ l (by simp) (by simp)).trans ?_
    exact ybuf_at _ _ _ _ _ _ _ (fun r l => yS_at _ _ _ r l) (fun e l => congrFun ((Memref.isWhole_whole cc0_scratch2).read_unread p.dy) _) 1 (by decide) _ r l
  · refine (ld2 _ _ r l ⟨2 + r.val, by omega⟩ l (by simp) (by simp)).trans ?_
    exact ybuf_at _ _ _ _ _ _ _ (fun r l => yS_at _ _ _ r l) (fun e l => congrFun ((Memref.isWhole_whole cc0_scratch2).read_unread p.dy) _) 2 (by decide) _ r l

theorem dyC (e : Fin 8) (l : Fin 512) :
    (stC m c t h0 h1 p).dy (ix2 ⟨256 + e.val, by omega⟩ l) = dyx (iblk m c 4 t) (iblk m c 11 t) ⟨e.val, by omega⟩ l := by
  unfold stC runC kernelRun0_C
  dsimp only
  refine hit2 e l ?_
  sl_unfold_words
  simp only [View.readAt_eq_ld, Memref.IsWhole.read_unread]
  refine (id8_at _ _ e l).trans ?_
  refine seen2 e l ⟨e.val, by omega⟩ l ?_
  refine hit2 ⟨e.val, by omega⟩ l ?_
  exact yS_at _ _ _ ⟨e.val, by omega⟩ l

end last

end Cert.Proof.MxbSt

end
-- ==== Proof.MxbSt3.lean ====
/-
  What the backward mixer's body leaves at a grid point, case by case, in terms of its blocks.
-/
module

public import proofs.«01_k».proof.Proof.MxbSt1

@[expose] public section

set_option maxRecDepth 16384

noncomputable section

namespace Cert.Proof.MxbSt

open Idealize.ShloMosaic Idealize.ShloMosaic.TcCoe Idealize.ShloMosaic.Tactic
open MxbFrame Rects MxbBlk MxbConv Sg MxbKernelIdeal MxbKernelIdeal.Gen
open scoped BigOperators

variable (m : (ℓ : Loc nD τ sig) → Buf (Elt Ideal) ℓ) (c : Dev nD) (t : Fin cfg0.N)
set_option maxHeartbeats 1000000

section first
variable (h0 : t.val % 8 = 0) (h1 : ¬t.val % 8 = 7)

theorem accA (g : Fin 4) (j d : Fin 128) :
    (stA m c t h0 h1).acc (ix2 j (col g d)) = 0 + sx (iblk m c 7 t) (iblk m c 11 t) 0 j (col g d) + sx (iblk m c 7 t) (iblk m c 11 t) 1 j (col g d) := by
  unfold stA runA kernelRun0_A
  dsimp only
  sl_unfold_words
  simp only [View.readAt_eq_ld, Memref.IsWhole.read_unread]
  fin_cases g
  all_goals
    repeat (refine past2 ?_ ?_; focus (simp [col] <;> omega))
    refine hit2 j d ?_
  on_goal 1 => refine acc1_of _ _ _ _ _ 0 j d (MxbPay.a10 _ _ _ j d) (seen2 j d j (col 0 d) ?_)
  on_goal 2 => refine acc1_of _ _ _ _ _ 1 j d (MxbPay.a11 _ _ _ j d) (seen2 j d j (col 1 d) ?_)
  on_goal 3 => refine acc1_of _ _ _ _ _ 2 j d (MxbPay.a12 _ _ _ j d) (seen2 j d j (col 2 d) ?_)
  on_goal 4 => refine acc1_of _ _ _ _ _ 3 j d (MxbPay.a13 _ _ _ j d) (seen2 j d j (col 3 d) ?_)
  all_goals
    repeat (refine past2 ?_ ?_; focus (simp [col] <;> omega))
    refine hit2 j d ?_
  on_goal 1 => refine acc0_of _ _ _ _ _ 0 j d (MxbPay.a00 _ _ _ j d) (seen2 j d j (col 0 d) ?_)
  on_goal 2 => refine acc0_of _ _ _ _ _ 1 j d (MxbPay.a01 _ _ _ j d) (seen2 j d j (col 1 d) ?_)
  on_goal 3 => refine acc0_of _ _ _ _ _ 2 j d (MxbPay.a02 _ _ _ j d) (seen2 j d j (col 2 d) ?_)
  on_goal 4 => refine acc0_of _ _ _ _ _ 3 j d (MxbPay.a03 _ _ _ j d) (seen2 j d j (col 3 d) ?_)
  all_goals repeat (refine past2 ?_ ?_; focus (simp [col] <;> omega))
  · exact hit2 j (col 0 d) (by pointwise [])
  · exact hit2 j (col 1 d) (by pointwise [])
  · exact hit2 j (col 2 d) (by pointwise [])
  · exact hit2 j (col 3 d) (by pointwise [])

theorem dwA (g : Fin 4) (j i : Fin 128) :
    (stA m c t h0 h1).dw (ix3 g j i) = 0 + xW (iblk m c 7 t) (iblk m c 8 t) (iblk m c 11 t) (iblk m c 17 t) (iblk m c 18 t) 0 g j i + xW (iblk m c 7 t) (iblk m c 8 t) (iblk m c 11 t) (iblk m c 17 t) (iblk m c 18 t) 1 g j i := by
  unfold stA runA kernelRun0_A
  dsimp only
  sl_unfold_words
  simp only [View.readAt_eq_ld, Memref.IsWhole.read_unread]
  fin_cases g
  all_goals
    repeat (refine past3 ?_ ?_; focus (simp; done))
    refine hit3 0 j i ?_
  on_goal 1 => refine dw1_of _ _ _ _ _ _ _ _ 0 j i (MxbPay.w10 _ _ _ _ j i) (seen3 0 j i 0 j i ?_)
  on_goal 2 => refine dw1_of _ _ _ _ _ _ _ _ 1 j i (MxbPay.w11 _ _ _ _ j i) (seen3 0 j i 1 j i ?_)
  on_goal 3 => refine dw1_of _ _ _ _ _ _ _ _ 2 j i (MxbPay.w12 _ _ _ _ j i) (seen3 0 j i 2 j i ?_)
  on_goal 4 => refine dw1_of _ _ _ _ _ _ _ _ 3 j i (MxbPay.w13 _ _ _ _ j i) (seen3 0 j i 3 j i ?_)
  all_goals
    repeat (refine past3 ?_ ?_; focus (simp; done))
    refine hit3 0 j i ?_
  on_goal 1 => refine dw0_of _ _ _ _ _ _ _ _ 0 j i (MxbPay.w00 _ _ _ _ j i) (seen3 0 j i 0 j i ?_)
  on_goal 2 => refine dw0_of _ _ _ _ _ _ _ _ 1 j i (MxbPay.w01 _ _ _ _ j i) (seen3 0 j i 1 j i ?_)
  on_goal 3 => refine dw0_of _ _ _ _ _ _ _ _ 2 j i (MxbPay.w02 _ _ _ _ j i) (seen3 0 j i 2 j i ?_)
  on_goal 4 => refine dw0_of _ _ _ _ _ _ _ _ 3 j i (MxbPay.w03 _ _ _ _ j i) (seen3 0 j i 3 j i ?_)
  all_goals repeat (refine past3 ?_ ?_; focus (simp; done))
  · exact hit3 0 j i (by pointwise [])
  · exact hit3 1 j i (by pointwise [])
  · exact hit3 2 j i (by pointwise [])
  · exact hit3 3 j i (by pointwise [])

end first

section middle
variable (h0 : ¬t.val % 8 = 0) (h1 : ¬t.val % 8 = 7) (p : St Ideal)

theorem accB (g : Fin 4) (j d : Fin 128) :
    (stB m c t h0 h1 p).acc (ix2 j (col g d)) = p.acc (ix2 j (col g d)) + sx (iblk m c 7 t) (iblk m c 11 t) 0 j (col g d) + sx (iblk m c 7 t) (iblk m c 11 t) 1 j (col g d) := by
  unfold stB runB kernelRun0_B
  dsimp only
  sl_unfold_words
  simp only [View.readAt_eq_ld, Memref.IsWhole.read_unread]
  fin_cases g
  all_goals
    repeat (refine past2 ?_ ?_; focus (simp [col] <;> omega))
    refine hit2 j d ?_
  on_goal 1 => refine acc1_of _ _ _ _ _ 0 j d (MxbPay.a10 _ _ _ j d) (seen2 j d j (col 0 d) ?_)
  on_goal 2 => refine acc1_of _ _ _ _ _ 1 j d (MxbPay.a11 _ _ _ j d) (seen2 j d j (col 1 d) ?_)
  on_goal 3 => refine acc1_of _ _ _ _ _ 2 j d (MxbPay.a12 _ _ _ j d) (seen2 j d j (col 2 d) ?_)
  on_goal 4 => refine acc1_of _ _ _ _ _ 3 j d (MxbPay.a13 _ _ _ j d) (seen2 j d j (col 3 d) ?_)
  all_goals
    repeat (refine past2 ?_ ?_; focus (simp [col] <;> omega))
    refine hit2 j d ?_
  · exact acc0_of _ _ _ _ _ 0 j d (MxbPay.a00 _ _ _ j d) ((ld2 _ _ j d j (col 0 d) (by simp) (by simp [col])).trans (congrFun ((Memref.isWhole_whole cc0_scratch3).read_unread p.acc) _))
  · exact acc0_of _ _ _ _ _ 1 j d (MxbPay.a01 _ _ _ j d) ((ld2 _ _ j d j (col 1 d) (by simp) (by simp [col])).trans (congrFun ((Memref.isWhole_whole cc0_scratch3).read_unread p.acc) _))
  · exact acc0_of _ _ _ _ _ 2 j d (MxbPay.a02 _ _ _ j d) ((ld2 _ _ j d j (col 2 d) (by simp) (by simp [col])).trans (congrFun ((Memref.isWhole_whole cc0_scratch3).read_unread p.acc) _))
  · exact acc0_of _ _ _ _ _ 3 j d (MxbPay.a03 _ _ _ j d) ((ld2 _ _ j d j (col 3 d) (by simp) (by simp [col])).trans (congrFun ((Memref.isWhole_whole cc0_scratch3).read_unread p.acc) _))

theorem dwB (g : Fin 4) (j i : Fin 128) :
    (stB m c t h0 h1 p).dw (ix3 g j i) = p.dw (ix3 g j i) + xW (iblk m c 7 t) (iblk m c 8 t) (iblk m c 11 t) (iblk m c 17 t) (iblk m c 18 t) 0 g j i + xW (iblk m c 7 t) (iblk m c 8 t) (iblk m c 11 t) (iblk m c 17 t) (iblk m c 18 t) 1 g j i := by
  unfold stB runB kernelRun0_B
  dsimp only
  sl_unfold_words
  simp only [View.readAt_eq_ld, Memref.IsWhole.read_unread]
  fin_cases g
  all_goals
    repeat (refine past3 ?_ ?_; focus (simp; done))
    refine hit3 0 j i ?_
  on_goal 1 => refine dw1_of _ _ _ _ _ _ _ _ 0 j i (MxbPay.w10 _ _ _ _ j i) (seen3 0 j i 0 j i ?_)
  on_goal 2 => refine dw1_of _ _ _ _ _ _ _ _ 1 j i (MxbPay.w11 _ _ _ _ j i) (seen3 0 j i 1 j i ?_)
  on_goal 3 => refine dw1_of _ _ _ _ _ _ _ _ 2 j i (MxbPay.w12 _ _ _ _ j i) (seen3 0 j i 2 j i ?_)
  on_goal 4 => refine dw1_of _ _ _ _ _ _ _ _ 3 j i (MxbPay.w13 _ _ _ _ j i) (seen3 0 j i 3 j i ?_)
  all_goals
    repeat (refine past3 ?_ ?_; focus (simp; done))
    refine hit3 0 j i ?_
  · exact dw0_of _ _ _ _ _ _ _ _ 0 j i (MxbPay.w00 _ _ _ _ j i) (ld3 _ _ 0 j i 0 j i (by simp) (by simp) (by simp))
  · exact dw0_of _ _ _ _ _ _ _ _ 1 j i (MxbPay.w01 _ _ _ _ j i) (ld3 _ _ 0 j i 1 j i (by simp) (by simp) (by simp))
  · exact dw0_of _ _ _ _ _ _ _ _ 2 j i (MxbPay.w02 _ _ _ _ j i) (ld3 _ _ 0 j i 2 j i (by simp) (by simp) (by simp))
  · exact dw0_of _ _ _ _ _ _ _ _ 3 j i (MxbPay.w03 _ _ _ _ j i) (ld3 _ _ 0 j i 3 j i (by simp) (by simp) (by simp))

end middle

section last
variable (h0 : ¬t.val % 8 = 0) (h1 : t.val % 8 = 7) (p : St Ideal)

theorem accC (g : Fin 4) (j d : Fin 128) :
    (stC m c t h0 h1 p).acc (ix2 j (col g d)) = p.acc (ix2 j (col g d)) + sx (iblk m c 7 t) (iblk m c 11 t) 0 j (col g d) + sx (iblk m c 7 t) (iblk m c 11 t) 1 j (col g d) := by
  unfold stC runC kernelRun0_C
  dsimp only
  sl_unfold_words
  simp only [View.readAt_eq_ld, Memref.IsWhole.read_unread]
  fin_cases g
  all_goals
    repeat (refine past2 ?_ ?_; focus (simp [col] <;> omega))
    refine hit2 j d ?_
  on_goal 1 => refine acc1_of _ _ _ _ _ 0 j d (MxbPay.a10 _ _ _ j d) (seen2 j d j (col 0 d) ?_)
  on_goal 2 => refine acc1_of _ _ _ _ _ 1 j d (MxbPay.a11 _ _ _ j d) (seen2 j d j (col 1 d) ?_)
  on_goal 3 => refine acc1_of _ _ _ _ _ 2 j d (MxbPay.a12 _ _ _ j d) (seen2 j d j (col 2 d) ?_)
  on_goal 4 => refine acc1_of _ _ _ _ _ 3 j d (MxbPay.a13 _ _ _ j d) (seen2 j d j (col 3 d) ?_)
  all_goals
    repeat (refine past2 ?_ ?_; focus (simp [col] <;> omega))
    refine hit2 j d ?_
  · exact acc0_of _ _ _ _ _ 0 j d (MxbPay.a00 _ _ _ j d) ((ld2 _ _ j d j (col 0 d) (by simp) (by simp [col])).trans (congrFun ((Memref.isWhole_whole cc0_scratch3).read_unread p.acc) _))
  · exact acc0_of _ _ _ _ _ 1 j d (MxbPay.a01 _ _ _ j d) ((ld2 _ _ j d j (col 1 d) (by simp) (by simp [col])).trans (congrFun ((Memref.isWhole_whole cc0_scratch3).read_unread p.acc) _))
  · exact acc0_of _ _ _ _ _ 2 j d (MxbPay.a02 _ _ _ j d) ((ld2 _ _ j d j (col 2 d) (by simp) (by simp [col])).trans (congrFun ((Memref.isWhole_whole cc0_scratch3).read_unread p.acc) _))
  · exact acc0_of _ _ _ _ _ 3 j d (MxbPay.a03 _ _ _ j d) ((ld2 _ _ j d j (col 3 d) (by simp) (by simp [col])).trans (congrFun ((Memref.isWhole_whole cc0_scratch3).read_unread p.acc) _))

theorem dwC (g : Fin 4) (j i : Fin 128) :
    (stC m c t h0 h1 p).dw (ix3 g j i) = p.dw (ix3 g j i) + xW (iblk m c 7 t) (iblk m c 8 t) (iblk m c 11 t) (iblk m c 17 t) (iblk m c 18 t) 0 g j i + xW (iblk m c 7 t) (iblk m c 8 t) (iblk m c 11 t) (iblk m c 17 t) (iblk m c 18 t) 1 g j i := by
  unfold stC runC kernelRun0_C
  dsimp only
  sl_unfold_words
  simp only [View.readAt_eq_ld, Memref.IsWhole.read_unread]
  fin_cases g
  all_goals
    repeat (refine past3 ?_ ?_; focus (simp; done))
    refine hit3 0 j i ?_
  on_goal 1 => refine dw1_of _ _ _ _ _ _ _ _ 0 j i (MxbPay.w10 _ _ _ _ j i) (seen3 0 j i 0 j i ?_)
  on_goal 2 => refine dw1_of _ _ _ _ _ _ _ _ 1 j i (MxbPay.w11 _ _ _ _ j i) (seen3 0 j i 1 j i ?_)
  on_goal 3 => refine dw1_of _ _ _ _ _ _ _ _ 2 j i (MxbPay.w12 _ _ _ _ j i) (seen3 0 j i 2 j i ?_)
  on_goal 4 => refine dw1_of _ _ _ _ _ _ _ _ 3 j i (MxbPay.w13 _ _ _ _ j i) (seen3 0 j i 3 j i ?_)
  all_goals
    repeat (refine past3 ?_ ?_; focus (simp; done))
    refine hit3 0 j i ?_
  · exact dw0_of _ _ _ _ _ _ _ _ 0 j i (MxbPay.w00 _ _ _ _ j i) (ld3 _ _ 0 j i 0 j i (by simp) (by simp) (by simp))
  · exact dw0_of _ _ _ _ _ _ _ _ 1 j i (MxbPay.w01 _ _ _ _ j i) (ld3 _ _ 0 j i 1 j i (by simp) (by simp) (by simp))
  · exact dw0_of _ _ _ _ _ _ _ _ 2 j i (MxbPay.w02 _ _ _ _ j i) (ld3 _ _ 0 j i 2 j i (by simp) (by simp) (by simp))
  · exact dw0_of _ _ _ _ _ _ _ _ 3 j i (MxbPay.w03 _ _ _ _ j i) (ld3 _ _ 0 j i 3 j i (by simp) (by simp) (by simp))

theorem dbC (g : Fin 4) (j : Fin 128) :
    (stC m c t h0 h1 p).db (ix2 j g) = ∑ d : Fin 128, (stC m c t h0 h1 p).acc (ix2 j (col g d)) := by
  unfold stC runC kernelRun0_C
  dsimp only
  fin_cases g
  all_goals
    repeat (refine past2 ?_ ?_; focus (simp; done))
    refine hit2 j 0 ?_
  · exact (pay4_at _ j).trans (Finset.sum_congr rfl fun d _ => cov2 _ _ _ j d j (col 0 d) (by simp) (by simp [col]))
  · exact (pay5_at _ j).trans (Finset.sum_congr rfl fun d _ => cov2 _ _ _ j d j (col 1 d) (by simp) (by simp [col]))
  · exact (pay6_at _ j).trans (Finset.sum_congr rfl fun d _ => cov2 _ _ _ j d j (col 2 d) (by simp) (by simp [col]))
  · exact (pay7_at _ j).trans (Finset.sum_congr rfl fun d _ => cov2 _ _ _ j d j (col 3 d) (by simp) (by simp [col]))

end last

end Cert.Proof.MxbSt

end
-- ==== Proof.MxbSt4.lean ====
/-
  What the backward mixer's body leaves at a grid point, case by case, in terms of its blocks.
-/
module

public import proofs.«01_k».proof.Proof.MxbSt1

@[expose] public section

set_option maxRecDepth 16384

noncomputable section

namespace Cert.Proof.MxbSt

open Idealize.ShloMosaic Idealize.ShloMosaic.TcCoe Idealize.ShloMosaic.Tactic
open MxbFrame Rects MxbBlk MxbConv Sg MxbKernelIdeal MxbKernelIdeal.Gen
open scoped BigOperators

variable (m : (ℓ : Loc nD τ sig) → Buf (Elt Ideal) ℓ) (c : Dev nD) (t : Fin cfg0.N)
set_option maxHeartbeats 1000000

section first
variable (h0 : t.val % 8 = 0) (h1 : ¬t.val % 8 = 7)

theorem vec4A (l : Fin 512) :
    (stA m c t h0 h1).vecs (ix2 4 l) = 0 + ∑ r : Fin 256, zin (iblk m c 5 t) (iblk m c 6 t) r l * ahead (iblk m c 4 t) (iblk m c 11 t) (fun _ _ => 0) 2 (by decide) r l := by
  unfold stA runA kernelRun0_A
  dsimp only
  iterate 4 refine past2 (by simp) ?_
  refine hit2 0 l ?_
  sl_unfold_words
  simp only [View.readAt_eq_ld, Memref.IsWhole.read_unread]
  exact row_of _ _ (fun l => 0) _ _ _ (fun l => seen2 0 l 4 l (past2 (by simp) (past2 (by simp) (hit2 4 l (by pointwise []))))) (fun r l => seen2 r l ⟨2 + r.val, by omega⟩ l (ybuf_at _ _ _ _ _ _ _ (fun r l => yS_at _ _ _ r l) (fun e l => hit2 e l (zero8_at _ e l)) 2 (by decide) _ r l)) l

theorem vec5A (l : Fin 512) :
    (stA m c t h0 h1).vecs (ix2 5 l) = 0 + ∑ r : Fin 256, zin (iblk m c 5 t) (iblk m c 6 t) r l * ahead (iblk m c 4 t) (iblk m c 11 t) (fun _ _ => 0) 1 (by decide) r l := by
  unfold stA runA kernelRun0_A
  dsimp only
  iterate 3 refine past2 (by simp) ?_
  refine hit2 0 l ?_
  sl_unfold_words
  simp only [View.readAt_eq_ld, Memref.IsWhole.read_unread]
  exact row_of _ _ (fun l => 0) _ _ _ (fun l => seen2 0 l 5 l (past2 (by simp) (past2 (by simp) (past2 (by simp) (hit2 5 l (by pointwise [])))))) (fun r l => seen2 r l ⟨1 + r.val, by omega⟩ l (ybuf_at _ _ _ _ _ _ _ (fun r l => yS_at _ _ _ r l) (fun e l => hit2 e l (zero8_at _ e l)) 1 (by decide) _ r l)) l

theorem vec6A (l : Fin 512) :
    (stA m c t h0 h1).vecs (ix2 6 l) = 0 + ∑ r : Fin 256, zin (iblk m c 5 t) (iblk m c 6 t) r l * dyx (iblk m c 4 t) (iblk m c 11 t) r l := by
  unfold stA runA kernelRun0_A
  dsimp only
  iterate 2 refine past2 (by simp) ?_
  refine hit2 0 l ?_
  sl_unfold_words
  simp only [View.readAt_eq_ld, Memref.IsWhole.read_unread]
  exact row_of _ _ (fun l => 0) _ _ _ (fun l => seen2 0 l 6 l (past2 (by simp) (past2 (by simp) (past2 (by simp) (past2 (by simp) (hit2 6 l (by pointwise []))))))) (fun r l => yM_at _ _ r l) l

theorem vec2A (l : Fin 512) :
    (stA m c t h0 h1).vecs (ix2 2 l) = 0 + ((xG (iblk m c 7 t) (iblk m c 8 t) (iblk m c 11 t) (iblk m c 19 t) 0 l + xG (iblk m c 7 t) (iblk m c 8 t) (iblk m c 11 t) (iblk m c 19 t) 1 l)) := by
  unfold stA runA kernelRun0_A
  dsimp only
  iterate 1 refine past2 (by simp) ?_
  refine hit2 0 l ?_
  sl_unfold_words
  simp only [View.readAt_eq_ld, Memref.IsWhole.read_unread]
  exact rowG_of _ _ _ _ _ _ l (seen2 0 l 2 l (past2 (by simp) (past2 (by simp) (past2 (by simp) (past2 (by simp) (past2 (by simp) (hit2 2 l (by pointwise []))))))))

theorem vec3A (l : Fin 512) :
    (stA m c t h0 h1).vecs (ix2 3 l) = 0 + ((xB (iblk m c 7 t) (iblk m c 11 t) (iblk m c 19 t) 0 l + xB (iblk m c 7 t) (iblk m c 11 t) (iblk m c 19 t) 1 l)) := by
  unfold stA runA kernelRun0_A
  dsimp only
  refine hit2 0 l ?_
  sl_unfold_words
  simp only [View.readAt_eq_ld, Memref.IsWhole.read_unread]
  exact rowB_of _ _ _ _ _ l (seen2 0 l 3 l (past2 (by simp) (past2 (by simp) (past2 (by simp) (past2 (by simp) (past2 (by simp) (past2 (by simp) (hit2 3 l (by pointwise [])))))))))

end first

section middle
variable (h0 : ¬t.val % 8 = 0) (h1 : ¬t.val % 8 = 7) (p : St Ideal)

theorem vec4B (l : Fin 512) :
    (stB m c t h0 h1 p).vecs (ix2 4 l) = p.vecs (ix2 4 l) + ∑ r : Fin 256, zin (iblk m c 5 t) (iblk m c 6 t) r l * ahead (iblk m c 4 t) (iblk m c 11 t) (nextOf p) 2 (by decide) r l := by
  unfold stB runB kernelRun0_B
  dsimp only
  iterate 4 refine past2 (by simp) ?_
  refine hit2 0 l ?_
  sl_unfold_words
  simp only [View.readAt_eq_ld, Memref.IsWhole.read_unread]
  exact row_of _ _ (fun l => p.vecs (ix2 4 l)) _ _ _ (fun l => ld2 _ _ 0 l 4 l (by simp) (by simp)) (fun r l => (ld2 _ _ r l ⟨2 + r.val, by omega⟩ l (by simp) (by simp)).trans (ybuf_at _ _ _ _ _ _ _ (fun r l => yS_at _ _ _ r l) (fun e l => congrFun ((Memref.isWhole_whole cc0_scratch2).read_unread p.dy) _) 2 (by decide) _ r l)) l

theorem vec5B (l : Fin 512) :
    (stB m c t h0 h1 p).vecs (ix2 5 l) = p.vecs (ix2 5 l) + ∑ r : Fin 256, zin (iblk m c 5 t) (iblk m c 6 t) r l * ahead (iblk m c 4 t) (iblk m c 11 t) (nextOf p) 1 (by decide) r l := by
  unfold stB runB kernelRun0_B
  dsimp only
  iterate 3 refine past2 (by simp) ?_
  refine hit2 0 l ?_
  sl_unfold_words
  simp only [View.readAt_eq_ld, Memref.IsWhole.read_unread]
  exact row_of _ _ (fun l => p.vecs (ix2 5 l)) _ _ _ (fun l => ld2 _ _ 0 l 5 l (by simp) (by simp)) (fun r l => (ld2 _ _ r l ⟨1 + r.val, by omega⟩ l (by simp) (by simp)).trans (ybuf_at _ _ _ _ _ _ _ (fun r l => yS_at _ _ _ r l) (fun e l => congrFun ((Memref.isWhole_whole cc0_scratch2).read_unread p.dy) _) 1 (by decide) _ r l)) l

theorem vec6B (l : Fin 512) :
    (stB m c t h0 h1 p).vecs (ix2 6 l) = p.vecs (ix2 6 l) + ∑ r : Fin 256, zin (iblk m c 5 t) (iblk m c 6 t) r l * dyx (iblk m c 4 t) (iblk m c 11 t) r l := by
  unfold stB runB kernelRun0_B
  dsimp only
  iterate 2 refine past2 (by simp) ?_
  refine hit2 0 l ?_
  sl_unfold_words
  simp only [View.readAt_eq_ld, Memref.IsWhole.read_unread]
  exact row_of _ _ (fun l => p.vecs (ix2 6 l)) _ _ _ (fun l => ld2 _ _ 0 l 6 l (by simp) (by simp)) (fun r l => yM_at _ _ r l) l

theorem vec2B (l : Fin 512) :
    (stB m c t h0 h1 p).vecs (ix2 2 l) = p.vecs (ix2 2 l) + ((xG (iblk m c 7 t) (iblk m c 8 t) (iblk m c 11 t) (iblk m c 19 t) 0 l + xG (iblk m c 7 t) (iblk m c 8 t) (iblk m c 11 t) (iblk m c 19 t) 1 l)) := by
  unfold stB runB kernelRun0_B
  dsimp only
  iterate 1 refine past2 (by simp) ?_
  refine hit2 0 l ?_
  sl_unfold_words
  simp only [View.readAt_eq_ld, Memref.IsWhole.read_unread]
  exact rowG_of _ _ _ _ _ _ l (ld2 _ _ 0 l 2 l (by simp) (by simp))

theorem vec3B (l : Fin 512) :
    (stB m c t h0 h1 p).vecs (ix2 3 l) = p.vecs (ix2 3 l) + ((xB (iblk m c 7 t) (iblk m c 11 t) (iblk m c 19 t) 0 l + xB (iblk m c 7 t) (iblk m c 11 t) (iblk m c 19 t) 1 l)) := by
  unfold stB runB kernelRun0_B
  dsimp only
  refine hit2 0 l ?_
  sl_unfold_words
  simp only [View.readAt_eq_ld, Memref.IsWhole.read_unread]
  exact rowB_of _ _ _ _ _ l (ld2 _ _ 0 l 3 l (by simp) (by simp))

end middle

section last
variable (h0 : ¬t.val % 8 = 0) (h1 : t.val % 8 = 7) (p : St Ideal)

theorem vec4C (l : Fin 512) :
    (stC m c t h0 h1 p).vecs (ix2 4 l) = p.vecs (ix2 4 l) + ∑ r : Fin 256, zin (iblk m c 5 t) (iblk m c 6 t) r l * ahead (iblk m c 4 t) (iblk m c 11 t) (nextOf p) 2 (by decide) r l := by
  unfold stC runC kernelRun0_C
  dsimp only
  iterate 4 refine past2 (by simp) ?_
  refine hit2 0 l ?_
  sl_unfold_words
  simp only [View.readAt_eq_ld, Memref.IsWhole.read_unread]
  exact row_of _ _ (fun l => p.vecs (ix2 4 l)) _ _ _ (fun l => ld2 _ _ 0 l 4 l (by simp) (by simp)) (fun r l => (ld2 _ _ r l ⟨2 + r.val, by omega⟩ l (by simp) (by simp)).trans (ybuf_at _ _ _ _ _ _ _ (fun r l => yS_at _ _ _ r l) (fun e l => congrFun ((Memref.isWhole_whole cc0_scratch2).read_unread p.dy) _) 2 (by decide) _ r l)) l

theorem vec5C (l : Fin 512) :
    (stC m c t h0 h1 p).vecs (ix2 5 l) = p.vecs (ix2 5 l) + ∑ r : Fin 256, zin (iblk m c 5 t) (iblk m c 6 t) r l * ahead (iblk m c 4 t) (iblk m c 11 t) (nextOf p) 1 (by decide) r l := by
  unfold stC runC kernelRun0_C
  dsimp only
  iterate 3 refine past2 (by simp) ?_
  refine hit2 0 l ?_
  sl_unfold_words
  simp only [View.readAt_eq_ld, Memref.IsWhole.read_unread]
  exact row_of _ _ (fun l => p.vecs (ix2 5 l)) _ _ _ (fun l => ld2 _ _ 0 l 5 l (by simp) (by simp)) (fun r l => (ld2 _ _ r l ⟨1 + r.val, by omega⟩ l (by simp) (by simp)).trans (ybuf_at _ _ _ _ _ _ _ (fun r l => yS_at _ _ _ r l) (fun e l => congrFun ((Memref.isWhole_whole cc0_scratch2).read_unread p.dy) _) 1 (by decide) _ r l)) l

theorem vec6C (l : Fin 512) :
    (stC m c t h0 h1 p).vecs (ix2 6 l) = p.vecs (ix2 6 l) + ∑ r : Fin 256, zin (iblk m c 5 t) (iblk m c 6 t) r l * dyx (iblk m c 4 t) (iblk m c 11 t) r l := by
  unfold stC runC kernelRun0_C
  dsimp only
  iterate 2 refine past2 (by simp) ?_
  refine hit2 0 l ?_
  sl_unfold_words
  simp only [View.readAt_eq_ld, Memref.IsWhole.read_unread]
  exact row_of _ _ (fun l => p.vecs (ix2 6 l)) _ _ _ (fun l => ld2 _ _ 0 l 6 l (by simp) (by simp)) (fun r l => yM_at _ _ r l) l

theorem vec2C (l : Fin 512) :
    (stC m c t h0 h1 p).vecs (ix2 2 l) = p.vecs (ix2 2 l) + ((xG (iblk m c 7 t) (iblk m c 8 t) (iblk m c 11 t) (iblk m c 19 t) 0 l + xG (iblk m c 7 t) (iblk m c 8 t) (iblk m c 11 t) (iblk m c 19 t) 1 l)) := by
  unfold stC runC kernelRun0_C
  dsimp only
  iterate 1 refine past2 (by simp) ?_
  refine hit2 0 l ?_
  sl_unfold_words
  simp only [View.readAt_eq_ld, Memref.IsWhole.read_unread]
  exact rowG_of _ _ _ _ _ _ l (ld2 _ _ 0 l 2 l (by simp) (by simp))

theorem vec3C (l : Fin 512) :
    (stC m c t h0 h1 p).vecs (ix2 3 l) = p.vecs (ix2 3 l) + ((xB (iblk m c 7 t) (iblk m c 11 t) (iblk m c 19 t) 0 l + xB (iblk m c 7 t) (iblk m c 11 t) (iblk m c 19 t) 1 l)) := by
  unfold stC runC kernelRun0_C
  dsimp only
  refine hit2 0 l ?_
  sl_unfold_words
  simp only [View.readAt_eq_ld, Memref.IsWhole.read_unread]
  exact rowB_of _ _ _ _ _ l (ld2 _ _ 0 l 3 l (by simp) (by simp))

end last

end Cert.Proof.MxbSt

end
-- ==== Proof.MxbRun.lean ====
/-
  What the backward mixer's run leaves in its results, from its arguments.
-/
module

public import proofs.«01_k».proof.Proof.MxbTile
public import proofs.«01_k».proof.Proof.MxbSt2
public import proofs.«01_k».proof.Proof.MxbSt3
public import proofs.«01_k».proof.Proof.MxbSt4
public import proofs.«01_k».proof.Proof.Tiles
public import Idealize.ShloMosaic.Lib.Pipeline.Value

@[expose] public section

set_option maxRecDepth 16384

noncomputable section

namespace Cert.Proof.MxbRun

open Idealize.ShloMosaic Idealize.ShloMosaic.TcCoe Idealize.SL.Sem Sg MxbFrame Rects MxbBlk MxbConv MxbSt MxbTile Tiles MxbKernelIdeal MxbKernelIdeal.Gen
open RefS (row vrow vec ds)
open scoped BigOperators

variable (m : (ℓ : Loc nD τ sig) → Buf (Elt Ideal) ℓ) (c : Dev nD)

/-- What holds of the three cases holds at every point. -/
theorem byCase (Q : St Ideal → Prop) (t : Fin cfg0.N) (hA : ∀ h0 h1, Q (stA m c t h0 h1))
    (hB : ∀ h0 h1, Q (stB m c t h0 h1 (stPrev m c t))) (hC : ∀ h0 h1, Q (stC m c t h0 h1 (stPrev m c t))) : Q (stAt m c t.val t.isLt) := by
  have h8 := lt8 t
  by_cases h0 : t.val % 8 = 0
  · have h1 : ¬t.val % 8 = 7 := by omega
    rw [stAt_first m c t h0 h1]; exact hA h0 h1
  · by_cases h1 : t.val % 8 = 7
    · rw [stAt_last m c t h0 h1]; exact hC h0 h1
    · rw [stAt_middle m c t h0 h1]; exact hB h0 h1

/-- A field that every point adds a term to ends at the sum of the terms. -/
theorem total (f : St Ideal → EReal) (X : Fin cfg0.N → EReal) (hA : ∀ t h0 h1, f (stA m c t h0 h1) = 0 + X t)
    (hB : ∀ t h0 h1, f (stB m c t h0 h1 (stPrev m c t)) = f (stPrev m c t) + X t) (hC : ∀ t h0 h1, f (stC m c t h0 h1 (stPrev m c t)) = f (stPrev m c t) + X t)
    (t : Fin cfg0.N) (ht : t.val = 7) : f (stAt m c t.val t.isLt) = ∑ s, X s := by
  have hN : cfg0.N = 8 := N_0
  have step : ∀ n (hn : n < cfg0.N), f (stAt m c n hn) = upTo X n := by
    intro n
    induction n with
    | zero =>
      intro hn
      rw [upTo_zero X hn, stAt_first m c ⟨0, hn⟩ (Nat.zero_mod _) (by show ¬ 0 % 8 = 7; decide), hA, zero_add]
    | succ n ih =>
      intro hn
      rw [upTo_succ X n hn, ← ih (Nat.lt_of_succ_lt hn)]
      have h0 : ¬ (n + 1) % 8 = 0 := by omega
      by_cases h1 : (n + 1) % 8 = 7
      · rw [stAt_last m c ⟨n + 1, hn⟩ h0 h1, hC]; rfl
      · rw [stAt_middle m c ⟨n + 1, hn⟩ h0 h1, hB]; rfl
  rw [step, upTo_last X _ (by omega)]

/-- The points run through the tiles from the last to the first. -/
theorem sum_back {b K : ℕ} (hK : 8 * b = K) (f : Fin K → EReal) (hb : ∀ (t : Fin cfg0.N) (r : Fin b), b * (7 - t.val) + r.val < K) :
    ∑ t : Fin cfg0.N, ∑ r : Fin b, f ⟨b * (7 - t.val) + r.val, hb t r⟩ = ∑ k, f k := by
  have hN : cfg0.N = 8 := N_0
  have hr : ∀ t : Fin cfg0.N, (Fin.revPerm t).val = 7 - t.val := fun t => by rw [Fin.revPerm_apply, Fin.val_rev]; omega
  have hb' : ∀ (t : Fin cfg0.N) (r : Fin b), b * t.val + r.val < K := fun t r => by
    have h := hb (Fin.revPerm t) r
    have h8 := lt8 t
    rw [hr, show 7 - (7 - t.val) = t.val by omega] at h
    exact h
  rw [← sum_tiles (by rw [hN, hK]) f hb', ← Equiv.sum_comp Fin.revPerm (fun t => ∑ r : Fin b, f ⟨b * t.val + r.val, hb' t r⟩)]
  refine Finset.sum_congr rfl fun t _ => Finset.sum_congr rfl fun r _ => congrArg f (Fin.ext ?_)
  show b * (7 - t.val) + r.val = b * (Fin.revPerm t).val + r.val
  rw [hr]

theorem sum_rows (f : Fin 2048 → EReal) : ∑ t : Fin cfg0.N, ∑ r : Fin 256, f (Rw t r) = ∑ R, f R := sum_back (by decide) f _
theorem sum_chunks (f : Fin 16 → EReal) : ∑ t : Fin cfg0.N, (f (Ch t 0) + f (Ch t 1)) = ∑ n, f n := by
  rw [← sum_back (b := 2) (by decide) f (fun t r => by have := lt8 t; omega)]
  exact Finset.sum_congr rfl fun t _ => (Fin.sum_univ_two (fun h => f (Ch t h))).symm

/-! ## The points' blocks of the first result -/

theorem dy_at (t : Fin cfg0.N) (e : Fin 8) (l : Fin 512) :
    (stAt m c t.val t.isLt).dy (ix2 ⟨256 + e.val, by omega⟩ l) = dyc (ap m c) (az m c) (Rw t ⟨e.val, by omega⟩) l :=
  byCase m c (fun s => s.dy (ix2 ⟨256 + e.val, by omega⟩ l) = _) t (fun h0 h1 => (dyA m c t h0 h1 e l).trans (dyx_at m c t _ l))
    (fun h0 h1 => (dyB m c t h0 h1 _ e l).trans (dyx_at m c t _ l)) (fun h0 h1 => (dyC m c t h0 h1 _ e l).trans (dyx_at m c t _ l))

theorem next_first (t : Fin cfg0.N) (h0 : t.val % 8 = 0) (e : Fin 8) (l : Fin 512) : (fun (_ : Fin 8) (_ : Fin 512) => (0 : EReal)) e l = nxt m c t e l := by
  have h8 := lt8 t
  unfold nxt ya
  rw [dif_neg (by show ¬ 256 * (7 - t.val) + e.val + 256 < 2048; omega)]

theorem next_later (t : Fin cfg0.N) (h0 : ¬t.val % 8 = 0) (e : Fin 8) (l : Fin 512) : nextOf (stPrev m c t) e l = nxt m c t e l := by
  have h8 := lt8 t
  have h := dy_at m c ⟨t.val - 1, Nat.lt_of_le_of_lt (Nat.sub_le _ _) t.isLt⟩ e l
  refine Eq.trans h ?_
  unfold nxt ya
  rw [dif_pos (by show 256 * (7 - t.val) + e.val + 256 < 2048; omega)]
  exact congrArg (fun R => dyc (ap m c) (az m c) R l) (Fin.ext (by show 256 * (7 - (t.val - 1)) + e.val = 256 * (7 - t.val) + e.val + 256; omega))

theorem bg_at (t : Fin cfg0.N) (r : Fin 256) (l : Fin 512) :
    (stAt m c t.val t.isLt).dp (ix2 r ⟨2048 + l.val, by omega⟩) = outBg (ap m c) (awc m c) (az m c) (Rw t r) l :=
  byCase m c (fun s => s.dp (ix2 r ⟨2048 + l.val, by omega⟩) = _) t (fun h0 h1 => (bgA m c t h0 h1 r l).trans (cBg_at m c t r l))
    (fun h0 h1 => (bgB m c t h0 h1 _ r l).trans (cBg_at m c t r l)) (fun h0 h1 => (bgC m c t h0 h1 _ r l).trans (cBg_at m c t r l))

theorem cg_at (t : Fin cfg0.N) (r : Fin 256) (l : Fin 512) :
    (stAt m c t.val t.isLt).dp (ix2 r ⟨2560 + l.val, by omega⟩) = outZ (ap m c) (awc m c) (az m c) (Rw t r) l * ap m c (ix2 (Rw t r) ⟨3072 + l.val, by omega⟩) :=
  byCase m c (fun s => s.dp (ix2 r ⟨2560 + l.val, by omega⟩) = _) t (fun h0 h1 => (cgA m c t h0 h1 r l).trans (congrArg₂ (· * ·) (cZ_at m c t _ (next_first m c t h0) r l) (iblk6 m c t r l)))
    (fun h0 h1 => (cgB m c t h0 h1 _ r l).trans (congrArg₂ (· * ·) (cZ_at m c t _ (next_later m c t h0) r l) (iblk6 m c t r l)))
    (fun h0 h1 => (cgC m c t h0 h1 _ r l).trans (congrArg₂ (· * ·) (cZ_at m c t _ (next_later m c t h0) r l) (iblk6 m c t r l)))

theorem xc_at (t : Fin cfg0.N) (r : Fin 256) (l : Fin 512) :
    (stAt m c t.val t.isLt).dp (ix2 r ⟨3072 + l.val, by omega⟩) = outZ (ap m c) (awc m c) (az m c) (Rw t r) l * ap m c (ix2 (Rw t r) ⟨2560 + l.val, by omega⟩) :=
  byCase m c (fun s => s.dp (ix2 r ⟨3072 + l.val, by omega⟩) = _) t (fun h0 h1 => (xcA m c t h0 h1 r l).trans (congrArg₂ (· * ·) (cZ_at m c t _ (next_first m c t h0) r l) (iblk5 m c t r l)))
    (fun h0 h1 => (xcB m c t h0 h1 _ r l).trans (congrArg₂ (· * ·) (cZ_at m c t _ (next_later m c t h0) r l) (iblk5 m c t r l)))
    (fun h0 h1 => (xcC m c t h0 h1 _ r l).trans (congrArg₂ (· * ·) (cZ_at m c t _ (next_later m c t h0) r l) (iblk5 m c t r l)))

theorem u_at (t : Fin cfg0.N) (h : Fin 2) (g : Fin 4) (j d : Fin 128) :
    (stAt m c t.val t.isLt).dp (ix2 ⟨128 * h.val + j.val, by omega⟩ ⟨3584 + 128 * g.val + d.val, by omega⟩) = outU (ap m c) (az m c) (alg m c) (alb m c) (aws m c) (abs' m c) (Ch t h) g j d :=
  byCase m c (fun s => s.dp (ix2 ⟨128 * h.val + j.val, by omega⟩ ⟨3584 + 128 * g.val + d.val, by omega⟩) = _) t (fun h0 h1 => (uA m c t h0 h1 h g j d).trans (xU_at m c t h g j d))
    (fun h0 h1 => (uB m c t h0 h1 _ h g j d).trans (xU_at m c t h g j d)) (fun h0 h1 => (uC m c t h0 h1 _ h g j d).trans (xU_at m c t h g j d))

theorem v_at (t : Fin cfg0.N) (h : Fin 2) (j : Fin 128) (l : Fin 512) :
    (stAt m c t.val t.isLt).dp (ix2 ⟨128 * h.val + j.val, by omega⟩ ⟨4096 + l.val, by omega⟩) = outV (ap m c) (az m c) (alg m c) (aws m c) (Ch t h) j l :=
  byCase m c (fun s => s.dp (ix2 ⟨128 * h.val + j.val, by omega⟩ ⟨4096 + l.val, by omega⟩) = _) t (fun h0 h1 => (vA m c t h0 h1 h j l).trans (xV_at m c t h j l))
    (fun h0 h1 => (vB m c t h0 h1 _ h j l).trans (xV_at m c t h j l)) (fun h0 h1 => (vC m c t h0 h1 _ h j l).trans (xV_at m c t h j l))

/-! ## The accumulated results after the last point -/

variable (t : Fin cfg0.N) (ht : t.val = 7)
include ht

theorem acc_at (g : Fin 4) (j d : Fin 128) : (stAt m c t.val t.isLt).acc (ix2 j (col g d)) = ∑ n : Fin 16, ds (ap m c) (az m c) n g j d := by
  refine (total m c (fun s => s.acc (ix2 j (col g d))) (fun t => ds (ap m c) (az m c) (Ch t 0) g j d + ds (ap m c) (az m c) (Ch t 1) g j d)
    (fun t h0 h1 => ?_) (fun t h0 h1 => ?_) (fun t h0 h1 => ?_) t ht).trans (sum_chunks fun n => ds (ap m c) (az m c) n g j d)
  · rw [accA, sx_at, sx_at, add_assoc]
  · rw [accB, sx_at, sx_at, add_assoc]
  · rw [accC, sx_at, sx_at, add_assoc]

theorem db_at (g : Fin 4) (j : Fin 128) : (stAt m c t.val t.isLt).db (ix2 j g) = ∑ d : Fin 128, ∑ n : Fin 16, ds (ap m c) (az m c) n g j d := by
  have h8 := lt8 t
  have h0 : ¬t.val % 8 = 0 := by omega
  have h1 : t.val % 8 = 7 := by omega
  have e := acc_at m c t ht g j
  rw [stAt_last m c t h0 h1] at e ⊢
  rw [dbC]
  exact Finset.sum_congr rfl fun d _ => e d

theorem dw_at (g : Fin 4) (j i : Fin 128) : (stAt m c t.val t.isLt).dw (ix3 g j i) = ∑ n : Fin 16, outW (ap m c) (az m c) (alg m c) (alb m c) n g j i := by
  refine (total m c (fun s => s.dw (ix3 g j i)) (fun t => outW (ap m c) (az m c) (alg m c) (alb m c) (Ch t 0) g j i + outW (ap m c) (az m c) (alg m c) (alb m c) (Ch t 1) g j i)
    (fun t h0 h1 => ?_) (fun t h0 h1 => ?_) (fun t h0 h1 => ?_) t ht).trans (sum_chunks fun n => outW (ap m c) (az m c) (alg m c) (alb m c) n g j i)
  · rw [dwA, xW_at, xW_at, add_assoc]
  · rw [dwB, xW_at, xW_at, add_assoc]
  · rw [dwC, xW_at, xW_at, add_assoc]

theorem vec4_at (l : Fin 512) : (stAt m c t.val t.isLt).vecs (ix2 4 l) = ∑ R : Fin 2048, zc (ap m c) R l * ya (ap m c) (az m c) 2 R l := by
  refine (total m c (fun s => s.vecs (ix2 4 l)) (fun t => ∑ r : Fin 256, zc (ap m c) (Rw t r) l * ya (ap m c) (az m c) 2 (Rw t r) l)
    (fun t h0 h1 => ?_) (fun t h0 h1 => ?_) (fun t h0 h1 => ?_) t ht).trans (sum_rows fun R => zc (ap m c) R l * ya (ap m c) (az m c) 2 R l)
  · rw [vec4A]; exact congrArg _ (Finset.sum_congr rfl fun r _ => congrArg₂ (· * ·) (zin_at m c t r l) (ahead_at m c t _ (next_first m c t h0) 2 (by decide) r l))
  · rw [vec4B]; exact congrArg _ (Finset.sum_congr rfl fun r _ => congrArg₂ (· * ·) (zin_at m c t r l) (ahead_at m c t _ (next_later m c t h0) 2 (by decide) r l))
  · rw [vec4C]; exact congrArg _ (Finset.sum_congr rfl fun r _ => congrArg₂ (· * ·) (zin_at m c t r l) (ahead_at m c t _ (next_later m c t h0) 2 (by decide) r l))

theorem vec5_at (l : Fin 512) : (stAt m c t.val t.isLt).vecs (ix2 5 l) = ∑ R : Fin 2048, zc (ap m c) R l * ya (ap m c) (az m c) 1 R l := by
  refine (total m c (fun s => s.vecs (ix2 5 l)) (fun t => ∑ r : Fin 256, zc (ap m c) (Rw t r) l * ya (ap m c) (az m c) 1 (Rw t r) l)
    (fun t h0 h1 => ?_) (fun t h0 h1 => ?_) (fun t h0 h1 => ?_) t ht).trans (sum_rows fun R => zc (ap m c) R l * ya (ap m c) (az m c) 1 R l)
  · rw [vec5A]; exact congrArg _ (Finset.sum_congr rfl fun r _ => congrArg₂ (· * ·) (zin_at m c t r l) (ahead_at m c t _ (next_first m c t h0) 1 (by decide) r l))
  · rw [vec5B]; exact congrArg _ (Finset.sum_congr rfl fun r _ => congrArg₂ (· * ·) (zin_at m c t r l) (ahead_at m c t _ (next_later m c t h0) 1 (by decide) r l))
  · rw [vec5C]; exact congrArg _ (Finset.sum_congr rfl fun r _ => congrArg₂ (· * ·) (zin_at m c t r l) (ahead_at m c t _ (next_later m c t h0) 1 (by decide) r l))

theorem vec6_at (l : Fin 512) : (stAt m c t.val t.isLt).vecs (ix2 6 l) = ∑ R : Fin 2048, zc (ap m c) R l * dyc (ap m c) (az m c) R l := by
  refine (total m c (fun s => s.vecs (ix2 6 l)) (fun t => ∑ r : Fin 256, zc (ap m c) (Rw t r) l * dyc (ap m c) (az m c) (Rw t r) l)
    (fun t h0 h1 => ?_) (fun t h0 h1 => ?_) (fun t h0 h1 => ?_) t ht).trans (sum_rows fun R => zc (ap m c) R l * dyc (ap m c) (az m c) R l)
  · rw [vec6A]; exact congrArg _ (Finset.sum_congr rfl fun r _ => congrArg₂ (· * ·) (zin_at m c t r l) (dyx_at m c t r l))
  · rw [vec6B]; exact congrArg _ (Finset.sum_congr rfl fun r _ => congrArg₂ (· * ·) (zin_at m c t r l) (dyx_at m c t r l))
  · rw [vec6C]; exact congrArg _ (Finset.sum_congr rfl fun r _ => congrArg₂ (· * ·) (zin_at m c t r l) (dyx_at m c t r l))

theorem vec2_at (l : Fin 512) : (stAt m c t.val t.isLt).vecs (ix2 2 l) = ∑ n : Fin 16, outG (ap m c) (az m c) (aws m c) n l := by
  refine (total m c (fun s => s.vecs (ix2 2 l)) (fun t => outG (ap m c) (az m c) (aws m c) (Ch t 0) l + outG (ap m c) (az m c) (aws m c) (Ch t 1) l)
    (fun t h0 h1 => ?_) (fun t h0 h1 => ?_) (fun t h0 h1 => ?_) t ht).trans (sum_chunks fun n => outG (ap m c) (az m c) (aws m c) n l)
  · rw [vec2A, xG_at, xG_at]
  · rw [vec2B, xG_at, xG_at]
  · rw [vec2C, xG_at, xG_at]

theorem vec3_at (l : Fin 512) : (stAt m c t.val t.isLt).vecs (ix2 3 l) = ∑ n : Fin 16, outB (ap m c) (az m c) (aws m c) n l := by
  refine (total m c (fun s => s.vecs (ix2 3 l)) (fun t => outB (ap m c) (az m c) (aws m c) (Ch t 0) l + outB (ap m c) (az m c) (aws m c) (Ch t 1) l)
    (fun t h0 h1 => ?_) (fun t h0 h1 => ?_) (fun t h0 h1 => ?_) t ht).trans (sum_chunks fun n => outB (ap m c) (az m c) (aws m c) n l)
  · rw [vec3A, xB_at, xB_at]
  · rw [vec3B, xB_at, xB_at]
  · rw [vec3C, xB_at, xB_at]

omit ht
/-! ## The results -/

theorem disjoint21 (t t' : Fin cfg0.N) (hne : t ≠ t') : Disjoint ((cfg0.win 21).blk t).view.set ((cfg0.win 21).blk t').view.set :=
  (cfg0.win 21).disjoint_blk fun h => hne ((by decide +kernel : ∀ t t' : Fin grid0.N, win0_21.index t = win0_21.index t' → t = t') t t' h)

theorem index21 : ∀ t : Fin cfg0.N, win0_21.index t 0 = 7 - t.val ∧ win0_21.index t 1 = 0 := by decide +kernel

/-- The first result's block of a point. -/
theorem final21 (t : Fin cfg0.N) (r : Fin 256) (k : Fin 4608) :
    ((data m 0 c).arrAt 21 cfg0.N : FVec Ideal S2048x4608 .bf16) (ix2 (Rw t r) k) = (stAt m c t.val t.isLt).dp (ix2 r k) := by
  have h := (data m 0 c).read_blk_arrAt_eq_flushed 21 (fun t t' _ _ hne => disjoint21 t t' hne) cfg0.N t t.isLt (flush0_21 t)
  have hf : (data m 0 c).flushed 21 t = (cfg0.win 21).cut (grid0.coords t) ((stAt m c t.val t.isLt).dp) := by
    show (cfg0.win 21).cut (grid0.coords t) ((data m 0 c).after 21 t) = _
    rw [left21]
  rw [hf] at h
  have h' := congrFun h (ix2 r k)
  rw [View.read_apply] at h'
  refine Eq.trans ?_ h'
  have hi := index21 t
  show (data m 0 c).arrAt 21 cfg0.N _ = (data m 0 c).arrAt 21 cfg0.N _
  congr 1
  funext a
  apply Fin.ext
  match a with
  | ⟨0, _⟩ => show 256 * (7 - t.val) + r.val = win0_21.index t 0 * 256 + 1 * r.val; rw [hi.1]; omega
  | ⟨1, _⟩ => show k.val = win0_21.index t 1 * 4608 + 1 * k.val; rw [hi.2]; omega

theorem final22 : (data m 0 c).arrAt 22 cfg0.N = (stAt m c t0_7.val t0_7.isLt).vecs := by
  have hN : cfg0.N = 8 := N_0
  generalize hres : (stAt m c t0_7.val t0_7.isLt).vecs = res
  refine (data m 0 c).arrAt_eq_of_cover 22 res (fun t hf => ?_) fun i => ⟨t0_7, (flush0_22 t0_7).mpr rfl, ?_⟩
  · have h3 : t.val = 7 := by have := (flush0_22 t).mp hf; have := t.isLt; omega
    obtain rfl : t = t0_7 := Fin.ext h3
    have hf : (data m 0 c).flushed 22 t0_7 = (cfg0.win 22).cut (grid0.coords t0_7) res := by
      show (cfg0.win 22).cut (grid0.coords t0_7) ((data m 0 c).after 22 t0_7) = _
      rw [left22, hres]
    rw [hf]
    have hz' : (fun a => win0_22.index t0_7 a * main_v352_1.ty.shape.size a) = fun _ => 0 := funext fun a => by fin_cases a <;> decide
    refine Eq.trans ?_ (Memref.read_access_unit_zero (Elt Ideal) main_v352_1 hz' (fun a => by rw [congrFun hz' a]; simp) res).symm
    rfl
  · show i ∈ ((View.whole main_v352_1).slice (win0_22.rect t0_7)).set
    rw [View.set_slice_whole, Rect.mem_set_unit]
    intro a
    have h0 : (i 0 : Nat) < 8 := (i 0).isLt
    have h1 : (i 1 : Nat) < 512 := (i 1).isLt
    have hi : ∀ a, win0_22.index t0_7 a = 0 := by decide
    match a with
    | ⟨0, _⟩ => show win0_22.index t0_7 0 * 8 ≤ (i 0 : Nat) ∧ (i 0 : Nat) < win0_22.index t0_7 0 * 8 + 8; rw [hi 0]; omega
    | ⟨1, _⟩ => show win0_22.index t0_7 1 * 512 ≤ (i 1 : Nat) ∧ (i 1 : Nat) < win0_22.index t0_7 1 * 512 + 512; rw [hi 1]; omega

theorem final23 : (data m 0 c).arrAt 23 cfg0.N = (stAt m c t0_7.val t0_7.isLt).dw := by
  have hN : cfg0.N = 8 := N_0
  generalize hres : (stAt m c t0_7.val t0_7.isLt).dw = res
  refine (data m 0 c).arrAt_eq_of_cover 23 res (fun t hf => ?_) fun i => ⟨t0_7, (flush0_23 t0_7).mpr rfl, ?_⟩
  · have h3 : t.val = 7 := by have := (flush0_23 t).mp hf; have := t.isLt; omega
    obtain rfl : t = t0_7 := Fin.ext h3
    have hf : (data m 0 c).flushed 23 t0_7 = (cfg0.win 23).cut (grid0.coords t0_7) res := by
      show (cfg0.win 23).cut (grid0.coords t0_7) ((data m 0 c).after 23 t0_7) = _
      rw [left23, hres]
    rw [hf]
    have hz' : (fun a => win0_23.index t0_7 a * main_v352_2.ty.shape.size a) = fun _ => 0 := funext fun a => by fin_cases a <;> decide
    refine Eq.trans ?_ (Memref.read_access_unit_zero (Elt Ideal) main_v352_2 hz' (fun a => by rw [congrFun hz' a]; simp) res).symm
    rfl
  · show i ∈ ((View.whole main_v352_2).slice (win0_23.rect t0_7)).set
    rw [View.set_slice_whole, Rect.mem_set_unit]
    intro a
    have h0 : (i 0 : Nat) < 4 := (i 0).isLt
    have h1 : (i 1 : Nat) < 128 := (i 1).isLt
    have h2 : (i 2 : Nat) < 128 := (i 2).isLt
    have hi : ∀ a, win0_23.index t0_7 a = 0 := by decide
    match a with
    | ⟨0, _⟩ => show win0_23.index t0_7 0 * 4 ≤ (i 0 : Nat) ∧ (i 0 : Nat) < win0_23.index t0_7 0 * 4 + 4; rw [hi 0]; omega
    | ⟨1, _⟩ => show win0_23.index t0_7 1 * 128 ≤ (i 1 : Nat) ∧ (i 1 : Nat) < win0_23.index t0_7 1 * 128 + 128; rw [hi 1]; omega
    | ⟨2, _⟩ => show win0_23.index t0_7 2 * 128 ≤ (i 2 : Nat) ∧ (i 2 : Nat) < win0_23.index t0_7 2 * 128 + 128; rw [hi 2]; omega

theorem final24 : (data m 0 c).arrAt 24 cfg0.N = (stAt m c t0_7.val t0_7.isLt).db := by
  have hN : cfg0.N = 8 := N_0
  generalize hres : (stAt m c t0_7.val t0_7.isLt).db = res
  refine (data m 0 c).arrAt_eq_of_cover 24 res (fun t hf => ?_) fun i => ⟨t0_7, (flush0_24 t0_7).mpr rfl, ?_⟩
  · have h3 : t.val = 7 := by have := (flush0_24 t).mp hf; have := t.isLt; omega
    obtain rfl : t = t0_7 := Fin.ext h3
    have hf : (data m 0 c).flushed 24 t0_7 = (cfg0.win 24).cut (grid0.coords t0_7) res := by
      show (cfg0.win 24).cut (grid0.coords t0_7) ((data m 0 c).after 24 t0_7) = _
      rw [left24, hres]
    rw [hf]
    have hz' : (fun a => win0_24.index t0_7 a * main_v352_3.ty.shape.size a) = fun _ => 0 := funext fun a => by fin_cases a <;> decide
    refine Eq.trans ?_ (Memref.read_access_unit_zero (Elt Ideal) main_v352_3 hz' (fun a => by rw [congrFun hz' a]; simp) res).symm
    rfl
  · show i ∈ ((View.whole main_v352_3).slice (win0_24.rect t0_7)).set
    rw [View.set_slice_whole, Rect.mem_set_unit]
    intro a
    have h0 : (i 0 : Nat) < 128 := (i 0).isLt
    have h1 : (i 1 : Nat) < 4 := (i 1).isLt
    have hi : ∀ a, win0_24.index t0_7 a = 0 := by decide
    match a with
    | ⟨0, _⟩ => show win0_24.index t0_7 0 * 128 ≤ (i 0 : Nat) ∧ (i 0 : Nat) < win0_24.index t0_7 0 * 128 + 128; rw [hi 0]; omega
    | ⟨1, _⟩ => show win0_24.index t0_7 1 * 4 ≤ (i 1 : Nat) ∧ (i 1 : Nat) < win0_24.index t0_7 1 * 4 + 4; rw [hi 1]; omega

end Cert.Proof.MxbRun

end
-- ==== Proof.RefC.lean ====
/-
  The convolution's gradients in the reference, and its results entry by entry.
-/
module

public import proofs.«01_k».proof.Proof.MxbTile
public import proofs.«01_k».proof.Proof.RefS
public import proofs.«01_k».proof.Proof.Tiles

@[expose] public section

set_option maxRecDepth 16384

noncomputable section

namespace Cert.Proof.RefC

open Idealize.ShloMosaic Idealize.ShloMosaic.TcCoe Sg MxbTile RefS Tiles MxbReferenceIdeal MxbReferenceIdeal.Gen MxbReferenceIdeal.Read
open scoped BigOperators

variable (x0 : FVec Ideal S2048x4608 .f32) (x3 : FVec Ideal S3x512 .f32) (x4 x5 : FVec Ideal S512 .f32) (x6 : FVec Ideal S4x128x128 .f32) (x7 : FVec Ideal S4x128 .f32)
  (x8 : FVec Ideal S2048x1536 .f32)

theorem v7_at (R : Fin 2048) (l : Fin 512) : val_main_v7 (F := Ideal) x0 (ix2 R l) = zc x0 R l := by
  unfold zc
  pointwise [val_main_v7, val_main_v3, val_main_v4]

theorem v13_at (R : Fin 2048) (l : Fin 512) : val_main_v13 (F := Ideal) x0 (ix2 R l) = zb x0 2 R l := by
  have h := v7_at x0
  generalize hv : val_main_v7 (F := Ideal) x0 = a at h
  unfold zb
  simp only [← h]
  pointwise [val_main_v13, val_main_v9, val_main_v8, val_main_cst, hv]
  by_cases hR : 2 ≤ R.val
  · rw [if_pos hR, dif_neg (by omega)]
  · rw [if_neg hR, dif_pos (by omega)]

theorem v19_at (R : Fin 2048) (l : Fin 512) : val_main_v19 (F := Ideal) x0 (ix2 R l) = zb x0 1 R l := by
  have h := v7_at x0
  generalize hv : val_main_v7 (F := Ideal) x0 = a at h
  unfold zb
  simp only [← h]
  pointwise [val_main_v19, val_main_v9, val_main_v8, val_main_cst, hv]
  by_cases hR : 1 ≤ R.val
  · rw [if_pos hR, dif_neg (by omega)]
    exact congrArg (fun S => a (ix2 S l)) (Fin.ext (by show 1 + R.val - 2 = R.val - 1; omega))
  · rw [if_neg hR, dif_pos (by omega)]

theorem v26_at (R : Fin 2048) (l : Fin 512) : val_main_v26 (F := Ideal) x0 (ix2 R l) = zc x0 R l := by
  rw [← v7_at]
  generalize hv : val_main_v7 (F := Ideal) x0 = a
  pointwise [val_main_v26, val_main_v9, val_main_v8, val_main_cst, hv]

theorem v193_at (R : Fin 2048) (l : Fin 512) : val_main_v193 (F := Ideal) x0 x8 (ix2 R l) = dyc x0 x8 R l := by
  unfold dyc
  rw [mul_comm]
  pointwise [val_main_v193, val_main_v2, val_main_v0]

theorem v194_at (R : Fin 2048) (l : Fin 512) : val_main_v194 (F := Ideal) x0 x3 x8 (ix2 R l) = outBg x0 x3 x8 R l := by
  have h0 := v13_at x0
  have h1 := v19_at x0
  have h2 := v26_at x0
  generalize hv : val_main_v13 (F := Ideal) x0 = a at h0
  generalize hw : val_main_v19 (F := Ideal) x0 = b at h1
  generalize hz : val_main_v26 (F := Ideal) x0 = d at h2
  unfold outBg
  simp only [← h0, ← h1, ← h2]
  pointwise [val_main_v194, val_main_v0, val_main_v30, val_main_v29, val_main_v28, val_main_v27, val_main_v25, val_main_v24, val_main_v23, val_main_v22, val_main_v21, val_main_v20, val_main_v18, val_main_v17, val_main_v16, val_main_v15, val_main_v14, val_main_v12, val_main_v11, hv, hw, hz]

theorem v227_at (R : Fin 2048) (l : Fin 512) : val_main_v227 (F := Ideal) x0 x3 x8 (ix2 R l) = outZ x0 x3 x8 R l := by
  have h := v193_at x0 x8
  generalize hv : val_main_v193 (F := Ideal) x0 x8 = a at h
  unfold outZ ya
  simp only [← h]
  pointwise [val_main_v227, val_main_v222, val_main_v221, val_main_v211, val_main_v210, val_main_v201, val_main_v196, val_main_v205, val_main_v216, val_main_v195, val_main_v204, val_main_v215, val_main_v27, val_main_v20, val_main_v14,
    val_main_v25, val_main_v18, val_main_v12, val_main_v24, val_main_v17, val_main_v11, val_main_cst_47, val_main_cst_51, val_main_cst_55, hv]
  refine congrArg₂ (· + ·) (congrArg (fun y => x3 (ix2 2 l) * a (ix2 R l) + y) ?_) ?_
  · by_cases hR : R.val + 1 < 2048
    · rw [dif_pos hR, dif_pos (by omega)]
      exact congrArg (fun S => x3 (ix2 1 l) * a (ix2 S l)) (Fin.ext (by show 2 + R.val - 1 = R.val + 1; omega))
    · rw [dif_neg hR, dif_neg (by omega), mul_zero]
  · by_cases hR : R.val + 2 < 2048
    · rw [dif_pos hR, dif_pos (by omega)]
      exact congrArg (fun S => x3 (ix2 0 l) * a (ix2 S l)) (Fin.ext (by show 2 + R.val = R.val + 2; omega))
    · rw [dif_neg hR, dif_neg (by omega), mul_zero]

/-- The rows before under the gradient are the rows after under the input. -/
theorem shift (s : ℕ) (l : Fin 512) : ∑ R : Fin 2048, dyc x0 x8 R l * zb x0 s R l = ∑ R : Fin 2048, zc x0 R l * ya x0 x8 s R l := by
  have hl : ∀ R : Fin 2048, dyc x0 x8 R l * zb x0 s R l = ∑ S : Fin 2048, if S.val + s = R.val then zc x0 S l * dyc x0 x8 R l else 0 := fun R => by
    unfold zb
    by_cases hR : s ≤ R.val
    · rw [if_pos hR, mul_comm]
      refine Eq.trans ?_ (Finset.sum_eq_single ⟨R.val - s, by omega⟩ (fun S _ hS => if_neg fun e => hS (Fin.ext (by show S.val = R.val - s; omega))) (fun h => absurd (Finset.mem_univ _) h)).symm
      exact (if_pos (by show R.val - s + s = R.val; omega)).symm
    · rw [if_neg hR, mul_zero]
      exact (Finset.sum_eq_zero fun S _ => if_neg (by omega)).symm
  have hr : ∀ S : Fin 2048, zc x0 S l * ya x0 x8 s S l = ∑ R : Fin 2048, if S.val + s = R.val then zc x0 S l * dyc x0 x8 R l else 0 := fun S => by
    unfold ya
    by_cases hS : S.val + s < 2048
    · rw [dif_pos hS]
      refine Eq.trans ?_ (Finset.sum_eq_single ⟨S.val + s, hS⟩ (fun R _ hR => if_neg fun e => hR (Fin.ext e.symm)) (fun h => absurd (Finset.mem_univ _) h)).symm
      exact (if_pos rfl).symm
    · rw [dif_neg hS, mul_zero]
      exact (Finset.sum_eq_zero fun R _ => if_neg (by omega)).symm
  simp only [hl, hr]
  exact Finset.sum_comm

theorem v200_at (l : Fin 512) : val_main_v200 (F := Ideal) x0 x8 (ix1 l) = ∑ R : Fin 2048, dyc x0 x8 R l * zc x0 R l := by
  have h := v193_at x0 x8
  have h1 := v26_at x0
  generalize hv : val_main_v193 (F := Ideal) x0 x8 = a at h
  generalize hw : val_main_v26 (F := Ideal) x0 = b at h1
  simp only [← h, ← h1]
  pointwise [val_main_v200, val_main_v199, val_main_v198, val_main_v197, val_main_cst_45, val_main_cst_46, hv, hw]
  rw [Fin.sum_univ_one]

theorem v209_at (l : Fin 512) : val_main_v209 (F := Ideal) x0 x8 (ix1 l) = ∑ R : Fin 2048, dyc x0 x8 R l * zb x0 1 R l := by
  have h := v193_at x0 x8
  have h1 := v19_at x0
  generalize hv : val_main_v193 (F := Ideal) x0 x8 = a at h
  generalize hw : val_main_v19 (F := Ideal) x0 = b at h1
  simp only [← h, ← h1]
  pointwise [val_main_v209, val_main_v208, val_main_v207, val_main_v206, val_main_cst_49, val_main_cst_50, hv, hw]
  rw [Fin.sum_univ_one]

theorem v220_at (l : Fin 512) : val_main_v220 (F := Ideal) x0 x8 (ix1 l) = ∑ R : Fin 2048, dyc x0 x8 R l * zb x0 2 R l := by
  have h := v193_at x0 x8
  have h1 := v13_at x0
  generalize hv : val_main_v193 (F := Ideal) x0 x8 = a at h
  generalize hw : val_main_v13 (F := Ideal) x0 = b at h1
  simp only [← h, ← h1]
  pointwise [val_main_v220, val_main_v219, val_main_v218, val_main_v217, val_main_cst_53, val_main_cst_54, hv, hw]
  rw [Fin.sum_univ_one]

/-! ## The second result -/

theorem v225_2 (l : Fin 512) : val_main_v225 (F := Ideal) x0 x8 (ix2 2 l) = val_main_v200 (F := Ideal) x0 x8 (ix1 l) := by
  generalize hv : val_main_v200 (F := Ideal) x0 x8 = a
  generalize hw : val_main_v209 (F := Ideal) x0 x8 = b
  generalize hz : val_main_v220 (F := Ideal) x0 x8 = d
  pointwise [val_main_v225, val_main_v224, val_main_v223, val_main_v214, val_main_v213, val_main_v212, val_main_v203, val_main_v202, val_main_cst_48, val_main_cst_52, val_main_cst_56, hv, hw, hz]
  try simp

theorem v225_1 (l : Fin 512) : val_main_v225 (F := Ideal) x0 x8 (ix2 1 l) = val_main_v209 (F := Ideal) x0 x8 (ix1 l) := by
  generalize hv : val_main_v200 (F := Ideal) x0 x8 = a
  generalize hw : val_main_v209 (F := Ideal) x0 x8 = b
  generalize hz : val_main_v220 (F := Ideal) x0 x8 = d
  pointwise [val_main_v225, val_main_v224, val_main_v223, val_main_v214, val_main_v213, val_main_v212, val_main_v203, val_main_v202, val_main_cst_48, val_main_cst_52, val_main_cst_56, hv, hw, hz]
  try simp

theorem v225_0 (l : Fin 512) : val_main_v225 (F := Ideal) x0 x8 (ix2 0 l) = val_main_v220 (F := Ideal) x0 x8 (ix1 l) := by
  generalize hv : val_main_v200 (F := Ideal) x0 x8 = a
  generalize hw : val_main_v209 (F := Ideal) x0 x8 = b
  generalize hz : val_main_v220 (F := Ideal) x0 x8 = d
  pointwise [val_main_v225, val_main_v224, val_main_v223, val_main_v214, val_main_v213, val_main_v212, val_main_v203, val_main_v202, val_main_cst_48, val_main_cst_52, val_main_cst_56, hv, hw, hz]
  try simp

theorem v243_2 (l : Fin 512) : val_main_v243 (F := Ideal) x0 x6 x8 (ix2 2 l) = val_main_v142 (F := Ideal) x0 x6 x8 (ix1 l) := by
  generalize hv : val_main_v136 (F := Ideal) x0 x6 x8 = a
  generalize hw : val_main_v142 (F := Ideal) x0 x6 x8 = b
  generalize hz : val_main_v225 (F := Ideal) x0 x8 = d
  pointwise [val_main_v243, val_main_v242, val_main_v241, val_main_v240, val_main_v239, val_main_cst_62, val_main_cst_63, hv, hw, hz]
  try simp

theorem v243_3 (l : Fin 512) : val_main_v243 (F := Ideal) x0 x6 x8 (ix2 3 l) = val_main_v136 (F := Ideal) x0 x6 x8 (ix1 l) := by
  generalize hv : val_main_v136 (F := Ideal) x0 x6 x8 = a
  generalize hw : val_main_v142 (F := Ideal) x0 x6 x8 = b
  generalize hz : val_main_v225 (F := Ideal) x0 x8 = d
  pointwise [val_main_v243, val_main_v242, val_main_v241, val_main_v240, val_main_v239, val_main_cst_62, val_main_cst_63, hv, hw, hz]
  try simp

theorem v243_4 (l : Fin 512) : val_main_v243 (F := Ideal) x0 x6 x8 (ix2 4 l) = val_main_v225 (F := Ideal) x0 x8 (ix2 0 l) := by
  generalize hv : val_main_v136 (F := Ideal) x0 x6 x8 = a
  generalize hw : val_main_v142 (F := Ideal) x0 x6 x8 = b
  generalize hz : val_main_v225 (F := Ideal) x0 x8 = d
  pointwise [val_main_v243, val_main_v242, val_main_v241, val_main_v240, val_main_v239, val_main_cst_62, val_main_cst_63, hv, hw, hz]
  try simp

theorem v243_5 (l : Fin 512) : val_main_v243 (F := Ideal) x0 x6 x8 (ix2 5 l) = val_main_v225 (F := Ideal) x0 x8 (ix2 1 l) := by
  generalize hv : val_main_v136 (F := Ideal) x0 x6 x8 = a
  generalize hw : val_main_v142 (F := Ideal) x0 x6 x8 = b
  generalize hz : val_main_v225 (F := Ideal) x0 x8 = d
  pointwise [val_main_v243, val_main_v242, val_main_v241, val_main_v240, val_main_v239, val_main_cst_62, val_main_cst_63, hv, hw, hz]
  try simp

theorem v243_6 (l : Fin 512) : val_main_v243 (F := Ideal) x0 x6 x8 (ix2 6 l) = val_main_v225 (F := Ideal) x0 x8 (ix2 2 l) := by
  generalize hv : val_main_v136 (F := Ideal) x0 x6 x8 = a
  generalize hw : val_main_v142 (F := Ideal) x0 x6 x8 = b
  generalize hz : val_main_v225 (F := Ideal) x0 x8 = d
  pointwise [val_main_v243, val_main_v242, val_main_v241, val_main_v240, val_main_v239, val_main_cst_62, val_main_cst_63, hv, hw, hz]
  try simp

/-! ## The first result -/

/-- One block of columns, zero elsewhere. -/
def blk (o : ℕ) (a : FVec Ideal S2048x512 .f32) (R : Fin 2048) (k : Fin 4608) : EReal :=
  if h : o ≤ k.val ∧ k.val - o < 512 then a (ix2 R ⟨k.val - o, h.2⟩) else 0

theorem blk_on (o : ℕ) (a : FVec Ideal S2048x512 .f32) (R : Fin 2048) (l : Fin 512) (hk : o + l.val < 4608) : blk o a R ⟨o + l.val, hk⟩ = a (ix2 R l) := by
  unfold blk
  rw [dif_pos ⟨Nat.le_add_right _ _, by show o + l.val - o < 512; omega⟩]
  exact congrArg (fun S => a (ix2 R S)) (Fin.ext (by show o + l.val - o = l.val; omega))

theorem blk_off (o : ℕ) (a : FVec Ideal S2048x512 .f32) (R : Fin 2048) (k : Fin 4608) (hk : ¬(o ≤ k.val ∧ k.val - o < 512)) : blk o a R k = 0 := dif_neg hk

theorem v244_at (R : Fin 2048) (k : Fin 4608) : val_main_v244 (F := Ideal) x0 x3 x4 x5 x6 x7 x8 (ix2 R k) =
    blk 4096 (val_main_v178 (F := Ideal) x0 x4 x6 x8) R k + blk 3584 (val_main_v192 (F := Ideal) x0 x4 x5 x6 x7 x8) R k + blk 3072 (val_main_v228 (F := Ideal) x0 x3 x8) R k + blk 2560 (val_main_v229 (F := Ideal) x0 x3 x8) R k + blk 2048 (val_main_v194 (F := Ideal) x0 x3 x8) R k := by
  generalize hv : val_main_v178 (F := Ideal) x0 x4 x6 x8 = a
  generalize hw : val_main_v192 (F := Ideal) x0 x4 x5 x6 x7 x8 = b
  generalize hz : val_main_v228 (F := Ideal) x0 x3 x8 = d
  generalize hy : val_main_v229 (F := Ideal) x0 x3 x8 = y
  generalize hu : val_main_v194 (F := Ideal) x0 x3 x8 = u
  unfold blk
  pointwise [val_main_v244, val_main_v238, val_main_v237, val_main_v236, val_main_v235, val_main_v234, val_main_v233, val_main_v232, val_main_v231, val_main_v230, val_main_cst_57, val_main_cst_58, val_main_cst_59, val_main_cst_60, val_main_cst_61, hv, hw, hz, hy, hu]

theorem v244_2048 (R : Fin 2048) (l : Fin 512) : val_main_v244 (F := Ideal) x0 x3 x4 x5 x6 x7 x8 (ix2 R ⟨2048 + l.val, by omega⟩) = val_main_v194 (F := Ideal) x0 x3 x8 (ix2 R l) := by
  rw [v244_at, blk_on, blk_off 4096 _ R _ (by show ¬(4096 ≤ 2048 + l.val ∧ 2048 + l.val - 4096 < 512); omega), blk_off 3584 _ R _ (by show ¬(3584 ≤ 2048 + l.val ∧ 2048 + l.val - 3584 < 512); omega), blk_off 3072 _ R _ (by show ¬(3072 ≤ 2048 + l.val ∧ 2048 + l.val - 3072 < 512); omega), blk_off 2560 _ R _ (by show ¬(2560 ≤ 2048 + l.val ∧ 2048 + l.val - 2560 < 512); omega)]
  simp only [zero_add, add_zero]

theorem v244_2560 (R : Fin 2048) (l : Fin 512) : val_main_v244 (F := Ideal) x0 x3 x4 x5 x6 x7 x8 (ix2 R ⟨2560 + l.val, by omega⟩) = val_main_v229 (F := Ideal) x0 x3 x8 (ix2 R l) := by
  rw [v244_at, blk_on, blk_off 4096 _ R _ (by show ¬(4096 ≤ 2560 + l.val ∧ 2560 + l.val - 4096 < 512); omega), blk_off 3584 _ R _ (by show ¬(3584 ≤ 2560 + l.val ∧ 2560 + l.val - 3584 < 512); omega), blk_off 3072 _ R _ (by show ¬(3072 ≤ 2560 + l.val ∧ 2560 + l.val - 3072 < 512); omega), blk_off 2048 _ R _ (by show ¬(2048 ≤ 2560 + l.val ∧ 2560 + l.val - 2048 < 512); omega)]
  simp only [zero_add, add_zero]

theorem v244_3072 (R : Fin 2048) (l : Fin 512) : val_main_v244 (F := Ideal) x0 x3 x4 x5 x6 x7 x8 (ix2 R ⟨3072 + l.val, by omega⟩) = val_main_v228 (F := Ideal) x0 x3 x8 (ix2 R l) := by
  rw [v244_at, blk_on, blk_off 4096 _ R _ (by show ¬(4096 ≤ 3072 + l.val ∧ 3072 + l.val - 4096 < 512); omega), blk_off 3584 _ R _ (by show ¬(3584 ≤ 3072 + l.val ∧ 3072 + l.val - 3584 < 512); omega), blk_off 2560 _ R _ (by show ¬(2560 ≤ 3072 + l.val ∧ 3072 + l.val - 2560 < 512); omega), blk_off 2048 _ R _ (by show ¬(2048 ≤ 3072 + l.val ∧ 3072 + l.val - 2048 < 512); omega)]
  simp only [zero_add, add_zero]

theorem v244_3584 (R : Fin 2048) (l : Fin 512) : val_main_v244 (F := Ideal) x0 x3 x4 x5 x6 x7 x8 (ix2 R ⟨3584 + l.val, by omega⟩) = val_main_v192 (F := Ideal) x0 x4 x5 x6 x7 x8 (ix2 R l) := by
  rw [v244_at, blk_on, blk_off 4096 _ R _ (by show ¬(4096 ≤ 3584 + l.val ∧ 3584 + l.val - 4096 < 512); omega), blk_off 3072 _ R _ (by show ¬(3072 ≤ 3584 + l.val ∧ 3584 + l.val - 3072 < 512); omega), blk_off 2560 _ R _ (by show ¬(2560 ≤ 3584 + l.val ∧ 3584 + l.val - 2560 < 512); omega), blk_off 2048 _ R _ (by show ¬(2048 ≤ 3584 + l.val ∧ 3584 + l.val - 2048 < 512); omega)]
  simp only [zero_add, add_zero]

theorem v244_4096 (R : Fin 2048) (l : Fin 512) : val_main_v244 (F := Ideal) x0 x3 x4 x5 x6 x7 x8 (ix2 R ⟨4096 + l.val, by omega⟩) = val_main_v178 (F := Ideal) x0 x4 x6 x8 (ix2 R l) := by
  rw [v244_at, blk_on, blk_off 3584 _ R _ (by show ¬(3584 ≤ 4096 + l.val ∧ 4096 + l.val - 3584 < 512); omega), blk_off 3072 _ R _ (by show ¬(3072 ≤ 4096 + l.val ∧ 4096 + l.val - 3072 < 512); omega), blk_off 2560 _ R _ (by show ¬(2560 ≤ 4096 + l.val ∧ 4096 + l.val - 2560 < 512); omega), blk_off 2048 _ R _ (by show ¬(2048 ≤ 4096 + l.val ∧ 4096 + l.val - 2048 < 512); omega)]
  simp only [zero_add, add_zero]

theorem v229_at (R : Fin 2048) (l : Fin 512) : val_main_v229 (F := Ideal) x0 x3 x8 (ix2 R l) = outZ x0 x3 x8 R l * x0 (ix2 R ⟨3072 + l.val, by omega⟩) := by
  rw [← v227_at]
  generalize hv : val_main_v227 (F := Ideal) x0 x3 x8 = a
  pointwise [val_main_v229, val_main_v4, hv]

theorem v228_at (R : Fin 2048) (l : Fin 512) : val_main_v228 (F := Ideal) x0 x3 x8 (ix2 R l) = outZ x0 x3 x8 R l * x0 (ix2 R ⟨2560 + l.val, by omega⟩) := by
  rw [← v227_at, mul_comm]
  generalize hv : val_main_v227 (F := Ideal) x0 x3 x8 = a
  pointwise [val_main_v228, val_main_v3, hv]

/-! ## The spatial gate's results, as the kernel forms them -/

theorem dnl_col (n : Fin 16) (k : Fin 128) (g : Fin 4) (d : Fin 128) : dnl x0 x8 x6 n k (col g d) = dvn (fun j k => x6 (ix3 g j k)) (ds x0 x8 n g) k d := by
  unfold dnl dvn ds
  simp only [MxbBlk.grp_col]

theorem dv_at (n : Fin 16) (k : Fin 128) (l : Fin 512) : dv x0 x6 x8 (row n k) l = dnl x0 x8 x6 n k l := by
  obtain ⟨g, d, rfl⟩ : ∃ (g : Fin 4) (d : Fin 128), l = col g d := ⟨⟨l.val / 128, by omega⟩, ⟨l.val % 128, by omega⟩, Fin.ext (by show l.val = 128 * (l.val / 128) + l.val % 128; omega)⟩
  rw [dnl_col]
  exact v133_at x0 x6 x8 n k g d

theorem sum_row (f : Fin 2048 → EReal) : ∑ n : Fin 16, ∑ j : Fin 128, f (row n j) = ∑ R, f R := sum_tiles (N := 16) (b := 128) (K := 2048) rfl f fun i r => (row i r).isLt

theorem v142_out (l : Fin 512) : val_main_v142 (F := Ideal) x0 x6 x8 (ix1 l) = ∑ n : Fin 16, outG x0 x8 x6 n l := by
  rw [v142_at, ← sum_row]
  unfold outG
  simp only [dv_at]

theorem v136_out (l : Fin 512) : val_main_v136 (F := Ideal) x0 x6 x8 (ix1 l) = ∑ n : Fin 16, outB x0 x8 x6 n l := by
  rw [v136_at, ← sum_row]
  unfold outB
  simp only [dv_at]

theorem v132_out (g : Fin 4) (j k : Fin 128) : val_main_v132 (F := Ideal) x0 x4 x5 x8 (ix3 g j k) = ∑ n : Fin 16, outW x0 x8 x4 x5 n g j k := by
  rw [v132_at]
  unfold outW vr low
  split
  · rfl
  · exact Finset.sum_const_zero.symm

theorem v245_out (j : Fin 128) (g : Fin 4) : val_main_v245 (F := Ideal) x0 x8 (ix2 j g) = ∑ d : Fin 128, ∑ n : Fin 16, ds x0 x8 n g j d := by
  rw [v245_at, Finset.sum_comm]

section
variable (h0 : ∀ i, IsR (x0 i)) (h4 : ∀ i, IsR (x4 i)) (h5 : ∀ i, IsR (x5 i)) (h6 : ∀ i, IsR (x6 i)) (h7 : ∀ i, IsR (x7 i)) (h8 : ∀ i, IsR (x8 i))
include h0 h6 h8

theorem dnl_real (n : Fin 16) (k : Fin 128) (l : Fin 512) : IsR (dnl x0 x8 x6 n k l) :=
  IsR.sum fun _ => (IsR.low (h6 _)).mul ((h8 _).mul (IsR.kg (h0 _)))

include h4

theorem v178_out (n : Fin 16) (j : Fin 128) (l : Fin 512) : val_main_v178 (F := Ideal) x0 x4 x6 x8 (ix2 (row n j) l) = outV x0 x8 x4 x6 n j l := by
  have hd : ∀ l, IsR (dnl x0 x8 x6 n j l * vec x4 l) := fun l => (dnl_real x0 x6 x8 h0 h6 h8 n j l).mul (h4 _)
  have hv : ∀ l, IsR (vrow x0 (row n j) l) := fun l => h0 _
  rw [v178_at]
  unfold outV
  rw [kd_eq (IsR.kln hv hd l) (hv l), kln_eq hv hd]
  have he : dh x0 x4 x6 x8 (row n j) = fun l => dnl x0 x8 x6 n j l * vec x4 l := funext fun l => by unfold dh; rw [dv_at]
  rw [he]

include h5 h7

theorem v192_out (n : Fin 16) (g : Fin 4) (j d : Fin 128) : val_main_v192 (F := Ideal) x0 x4 x5 x6 x7 x8 (ix2 (row n j) (col g d)) = outU x0 x8 x4 x5 x6 x7 n g j d := by
  have hn : ∀ k, IsR (vr x0 x4 x5 n k (col g d)) := fun k => IsR.vn (fun _ => h0 _) (fun _ => h4 _) (fun _ => h5 _) _
  rw [v192_at, v119_at]
  unfold outU
  refine (kd_eq ((h8 _).mul ((IsR.sum fun k => (IsR.low (h6 _)).mul (hn k)).add (h7 _))) (h0 _)).symm

end

end Cert.Proof.RefC

end
-- ==== Proof.MxbClaim.lean ====
/-
  The claim of the backward mixer: on the entries the mask names, the kernel's results are the transposed plain lines'.
-/
module

public import proofs.«01_k».proof.Defs
public import proofs.«01_k».proof.Proof.MxbRun
public import proofs.«01_k».proof.Proof.RefC
public import proofs.«01_k».proof.Proof.Reals
public import proofs.«01_k».proof.Proof.Gen.Pre_mxb_finite
public import proofs.«01_k».proof.Proof.Gen.On_mxb_on
public import proofs.«01_k».proof.Proof.Gen.MxbReferenceIdeal.Run
public import proofs.«01_k».proof.MxbKernel
public import proofs.«01_k».proof.Proof.Gen.MxbKernel
public import proofs.«01_k».proof.Proof.MxbFrame

@[expose] public section

set_option maxRecDepth 16384

noncomputable section

/-! ## The mask -/

namespace Cert.On_mxb_on

open Idealize.ShloMosaic

variable {F : FTy → Type} [FloatOps F] [Facts]

section
variable {x0 : FVec F S2048x4608 .f32} {x1 x2 : FVec F S512 .f32} {x3 : FVec F S3x512 .f32} {x4 x5 : FVec F S512 .f32} {x6 : FVec F S4x128x128 .f32} {x7 : FVec F S4x128 .f32}
  {x8 : FVec F S2048x1536 .f32}

/-- Where the mask is set on the first result, the column is not one of the recurrence's. -/
theorem col_ge (i : S2048x4608.Idx) (h : (fn x0 x1 x2 x3 x4 x5 x6 x7 x8).1 i = 1#1) : 2048 ≤ (i 1 : Nat) := by
  have h1 : (i 1 : Nat) < 4608 := (i 1).isLt
  have h' : IntOp.cmpi .sge (BitVec.ofNat 32 (i 1 : Nat)) 2048#32 = 1#1 := h
  generalize (i 1 : Nat) = k at h' h1 ⊢
  have e : (BitVec.ofNat 32 k).toInt = (k : Int) := by
    rw [BitVec.toInt_eq_toNat_of_lt (by simp; omega)]
    simp
    omega
  by_contra hk
  simp [IntOp.cmpi, BitVec.sle, e, hk] at h'

/-- Where the mask is set on the second result, the row is one of the middle five. -/
theorem row_mem (i : S8x512.Idx) (h : (fn x0 x1 x2 x3 x4 x5 x6 x7 x8).2.1 i = 1#1) : (i 0 : Nat) = 2 ∨ (i 0 : Nat) = 3 ∨ (i 0 : Nat) = 4 ∨ (i 0 : Nat) = 5 ∨ (i 0 : Nat) = 6 := by
  have key : ∀ r < 8, IntOp.cmpi .sge (BitVec.ofNat 32 r) 2#32 &&& IntOp.cmpi .slt (BitVec.ofNat 32 r) 7#32 = 1#1 → r = 2 ∨ r = 3 ∨ r = 4 ∨ r = 5 ∨ r = 6 := by decide
  exact key _ (i 0).isLt h

end

end Cert.On_mxb_on

namespace Cert.Proof.MxbClaim

open Idealize.ShloMosaic Idealize.ShloMosaic.TcCoe Idealize.SL.Sem Sg MxbFrame MxbTile MxbRun Reals MxbKernelIdeal MxbKernelIdeal.Gen
open MxbReferenceIdeal.Read (val_main_v244 val_main_v243 val_main_v132 val_main_v245)
open RefS (row vrow vec ds)
open scoped BigOperators

variable (m : (ℓ : Loc nD τ sig) → Buf (Elt Ideal) ℓ) (c : Dev nD)

/-- The arguments the spatial gate reads are real. -/
structure Real : Prop where
  p : ∀ i, IsR (ap m c i)
  lg : ∀ i, IsR (alg m c i)
  lb : ∀ i, IsR (alb m c i)
  ws : ∀ i, IsR (aws m c i)
  bs : ∀ i, IsR (abs' m c i)
  z : ∀ i, IsR (az m c i)

/-! ## The results -/

/-- The first result. -/
abbrev dpOf : FVec Ideal S2048x4608 .bf16 := val_main_v244 (F := Ideal) (ap m c) (awc m c) (alg m c) (alb m c) (aws m c) (abs' m c) (az m c)

theorem tileOf (R : Fin 2048) : ∃ (t : Fin cfg0.N) (r : Fin 256), R = Rw t r :=
  ⟨⟨7 - R.val / 256, by have hN : cfg0.N = 8 := N_0; omega⟩, ⟨R.val % 256, by omega⟩, Fin.ext (by show R.val = 256 * (7 - (7 - R.val / 256)) + R.val % 256; omega)⟩

theorem halfOf (r : Fin 256) : ∃ (h : Fin 2) (j : Fin 128), r = ⟨128 * h.val + j.val, by omega⟩ :=
  ⟨⟨r.val / 128, by omega⟩, ⟨r.val % 128, by omega⟩, Fin.ext (by show r.val = 128 * (r.val / 128) + r.val % 128; omega)⟩

theorem conv_block (t : Fin cfg0.N) (r : Fin 256) (l : Fin 512) :
    (stAt m c t.val t.isLt).dp (ix2 r ⟨2048 + l.val, by omega⟩) = dpOf m c (ix2 (Rw t r) ⟨2048 + l.val, by omega⟩)
    ∧ (stAt m c t.val t.isLt).dp (ix2 r ⟨2560 + l.val, by omega⟩) = dpOf m c (ix2 (Rw t r) ⟨2560 + l.val, by omega⟩)
    ∧ (stAt m c t.val t.isLt).dp (ix2 r ⟨3072 + l.val, by omega⟩) = dpOf m c (ix2 (Rw t r) ⟨3072 + l.val, by omega⟩) :=
  ⟨(bg_at m c t r l).trans ((RefC.v244_2048 (ap m c) (awc m c) (alg m c) (alb m c) (aws m c) (abs' m c) (az m c) (Rw t r) l).trans (RefC.v194_at _ _ _ _ _)).symm,
    (cg_at m c t r l).trans ((RefC.v244_2560 (ap m c) (awc m c) (alg m c) (alb m c) (aws m c) (abs' m c) (az m c) (Rw t r) l).trans (RefC.v229_at _ _ _ _ _)).symm,
    (xc_at m c t r l).trans ((RefC.v244_3072 (ap m c) (awc m c) (alg m c) (alb m c) (aws m c) (abs' m c) (az m c) (Rw t r) l).trans (RefC.v228_at _ _ _ _ _)).symm⟩

theorem gate_block (hr : Real m c) (t : Fin cfg0.N) (r : Fin 256) (l : Fin 512) :
    (stAt m c t.val t.isLt).dp (ix2 r ⟨3584 + l.val, by omega⟩) = dpOf m c (ix2 (Rw t r) ⟨3584 + l.val, by omega⟩)
    ∧ (stAt m c t.val t.isLt).dp (ix2 r ⟨4096 + l.val, by omega⟩) = dpOf m c (ix2 (Rw t r) ⟨4096 + l.val, by omega⟩) := by
  obtain ⟨h, j, rfl⟩ := halfOf r
  obtain ⟨g, d, rfl⟩ : ∃ (g : Fin 4) (d : Fin 128), l = col g d := ⟨⟨l.val / 128, by omega⟩, ⟨l.val % 128, by omega⟩, Fin.ext (by show l.val = 128 * (l.val / 128) + l.val % 128; omega)⟩
  rw [Rw_row]
  refine ⟨Eq.trans ?_ ((RefC.v244_3584 (ap m c) (awc m c) (alg m c) (alb m c) (aws m c) (abs' m c) (az m c) (row (Ch t h) j) (col g d)).trans (RefC.v192_out _ _ _ _ _ _ hr.p hr.lg hr.lb hr.ws hr.bs hr.z (Ch t h) g j d)).symm,
    (v_at m c t h j (col g d)).trans ((RefC.v244_4096 (ap m c) (awc m c) (alg m c) (alb m c) (aws m c) (abs' m c) (az m c) (row (Ch t h) j) (col g d)).trans (RefC.v178_out _ _ _ _ hr.p hr.lg hr.ws hr.z (Ch t h) j (col g d))).symm⟩
  refine Eq.trans ?_ (u_at m c t h g j d)
  exact congrArg (fun k => (stAt m c t.val t.isLt).dp (ix2 ⟨128 * h.val + j.val, by omega⟩ k)) (Fin.ext (by show 3584 + (128 * g.val + d.val) = 3584 + 128 * g.val + d.val; omega))

theorem first (hr : Real m c) (i : S2048x4608.Idx) (hi : 2048 ≤ (i 1 : Nat)) : ((data m 0 c).arrAt 21 cfg0.N : FVec Ideal S2048x4608 .bf16) i = dpOf m c i := by
  obtain ⟨R, k, rfl⟩ := Blocks.eq_ix2 (A := 2048) (B := 4608) i
  obtain ⟨t, r, rfl⟩ := tileOf R
  have hk : 2048 ≤ k.val := hi
  have hk' := k.isLt
  rw [final21]
  have e : ∀ (o : ℕ) (h : o ≤ k.val) (h' : k.val < o + 512), ∃ l : Fin 512, ∃ h'' : o + l.val < 4608, k = ⟨o + l.val, h''⟩ := fun o h h' =>
    ⟨⟨k.val - o, by omega⟩, by show o + (k.val - o) < 4608; omega, Fin.ext (by show k.val = o + (k.val - o); omega)⟩
  rcases Nat.lt_or_ge k.val 2560 with h1 | h1
  · obtain ⟨l, hl, rfl⟩ := e 2048 hk h1; exact (conv_block m c t r l).1
  rcases Nat.lt_or_ge k.val 3072 with h2 | h2
  · obtain ⟨l, hl, rfl⟩ := e 2560 h1 h2; exact (conv_block m c t r l).2.1
  rcases Nat.lt_or_ge k.val 3584 with h3 | h3
  · obtain ⟨l, hl, rfl⟩ := e 3072 h2 h3; exact (conv_block m c t r l).2.2
  rcases Nat.lt_or_ge k.val 4096 with h4 | h4
  · obtain ⟨l, hl, rfl⟩ := e 3584 h3 h4; exact (gate_block m c hr t r l).1
  · obtain ⟨l, hl, rfl⟩ := e 4096 h4 hk'; exact (gate_block m c hr t r l).2

/-- The second result. -/
abbrev vecOf : FVec Ideal S8x512 .f32 := val_main_v243 (F := Ideal) (ap m c) (aws m c) (az m c)

theorem second (i : S8x512.Idx) (hi : (i 0 : Nat) = 2 ∨ (i 0 : Nat) = 3 ∨ (i 0 : Nat) = 4 ∨ (i 0 : Nat) = 5 ∨ (i 0 : Nat) = 6) :
    ((data m 0 c).arrAt 22 cfg0.N : FVec Ideal S8x512 .f32) i = vecOf m c i := by
  obtain ⟨e, l, rfl⟩ := Blocks.eq_ix2 (A := 8) (B := 512) i
  have he : e = 2 ∨ e = 3 ∨ e = 4 ∨ e = 5 ∨ e = 6 := by
    rcases hi with h | h | h | h | h
    · exact .inl (Fin.ext h)
    · exact .inr (.inl (Fin.ext h))
    · exact .inr (.inr (.inl (Fin.ext h)))
    · exact .inr (.inr (.inr (.inl (Fin.ext h))))
    · exact .inr (.inr (.inr (.inr (Fin.ext h))))
  rw [final22]
  rcases he with rfl | rfl | rfl | rfl | rfl
  · exact (vec2_at m c t0_7 rfl l).trans ((RefC.v243_2 _ _ _ l).trans (RefC.v142_out _ _ _ l)).symm
  · exact (vec3_at m c t0_7 rfl l).trans ((RefC.v243_3 _ _ _ l).trans (RefC.v136_out _ _ _ l)).symm
  · exact (vec4_at m c t0_7 rfl l).trans ((RefC.v243_4 _ _ _ l).trans ((RefC.v225_0 _ _ l).trans ((RefC.v220_at _ _ l).trans (RefC.shift _ _ 2 l)))).symm
  · exact (vec5_at m c t0_7 rfl l).trans ((RefC.v243_5 _ _ _ l).trans ((RefC.v225_1 _ _ l).trans ((RefC.v209_at _ _ l).trans (RefC.shift _ _ 1 l)))).symm
  · refine (vec6_at m c t0_7 rfl l).trans ((RefC.v243_6 _ _ _ l).trans ((RefC.v225_2 _ _ l).trans ((RefC.v200_at _ _ l).trans ?_))).symm
    exact Finset.sum_congr rfl fun R _ => mul_comm _ _

theorem third (i : S4x128x128.Idx) : ((data m 0 c).arrAt 23 cfg0.N : FVec Ideal S4x128x128 .f32) i = val_main_v132 (F := Ideal) (ap m c) (alg m c) (alb m c) (az m c) i := by
  obtain ⟨g, j, k, rfl⟩ : ∃ (g : Fin 4) (j k : Fin 128), i = ix3 g j k := ⟨i 0, i 1, i 2, funext fun a => by fin_cases a <;> rfl⟩
  rw [final23]
  exact (dw_at m c t0_7 rfl g j k).trans (RefC.v132_out _ _ _ _ g j k).symm

theorem fourth (i : S128x4.Idx) : ((data m 0 c).arrAt 24 cfg0.N : FVec Ideal S128x4 .f32) i = val_main_v245 (F := Ideal) (ap m c) (az m c) i := by
  obtain ⟨j, g, rfl⟩ := Blocks.eq_ix2 (A := 128) (B := 4) i
  rw [final24]
  exact (db_at m c t0_7 rfl g j).trans (RefC.v245_out _ _ j g).symm

/-! ## The run and the claim -/

theorem run (ρ : Dev nD → PrngReg) : θ_run defs (onTc (τ := τ) (main (F := Ideal))) ⟨m, fun _ => 0, ρ⟩ fun r => ∀ c : Dev nD,
      r.2.mem ((c : Thread nD τ).loc main_v352_0) = (data m 0 c).arrAt 21 cfg0.N
      ∧ r.2.mem ((c : Thread nD τ).loc main_v352_1) = (data m 0 c).arrAt 22 cfg0.N
      ∧ r.2.mem ((c : Thread nD τ).loc main_v352_2) = (data m 0 c).arrAt 23 cfg0.N
      ∧ r.2.mem ((c : Thread nD τ).loc main_v352_3) = (data m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ hs c => by
    have h := hs.1
    exact ⟨(h c).1 21, (h c).1 22, (h c).1 23, (h c).1 24,
      ((h c).1 10).trans (((data m 0 c).arrAt_in 10 rfl _).trans ((data_arr m c 10).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 16).trans (((data m 0 c).arrAt_in 16 rfl _).trans ((data_arr m c 16).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 19).trans (((data m 0 c).arrAt_in 19 rfl _).trans ((data_arr m c 19).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (runs m ρ)

theorem real (hpre : Pre_MxbKernelIdeal_mxb_finite m) : Real m c := by
  obtain ⟨h0, h1, h2, h3, h4, h5⟩ := hpre c
  exact ⟨fun i => exists_real ofBits_inf (congrFun h0 i), fun i => exists_real ofBits_inf (congrFun h1 i), fun i => exists_real ofBits_inf (congrFun h2 i),
    fun i => exists_real ofBits_inf (congrFun h3 i), fun i => exists_real ofBits_inf (congrFun h4 i), fun i => exists_real ofBits_inf (congrFun h5 i)⟩

end Cert.Proof.MxbClaim

namespace Cert.Proof

open Idealize.ShloMosaic Idealize.ShloMosaic.TcCoe Idealize.SL.Sem MxbTile MxbClaim

theorem algebraic_MxbKernelIdeal_MxbReferenceIdeal : algebraic_MxbKernelIdeal_MxbReferenceIdeal_on_mxb_on_pre_mxb_finite := by
  intro m ρ m' ρ' hpre hagree
  refine ⟨fun c => dpOf m c, fun c => vecOf m c, fun c => MxbReferenceIdeal.Read.val_main_v132 (F := Ideal) (ap m c) (alg m c) (alb m c) (az m c),
    fun c => MxbReferenceIdeal.Read.val_main_v245 (F := Ideal) (ap m c) (az m c), ?_, ?_⟩
  · refine (θ_run MxbKernelIdeal.defs _ _).mono (fun _ h c => ?_) (MxbClaim.run m ρ)
    obtain ⟨h0, h1, h2, h3, hk⟩ := h c
    exact ⟨fun i hi => (congrFun h0 i).trans (first m c (real m c hpre) i (On_mxb_on.col_ge i hi)), fun i hi => (congrFun h1 i).trans (second m c i (On_mxb_on.row_mem i hi)),
      fun i _ => (congrFun h2 i).trans (third m c i), fun i _ => (congrFun h3 i).trans (fourth m c i), hk⟩
  · refine (θ_run MxbReferenceIdeal.defs _ _).mono (fun _ h c => ?_) (MxbReferenceIdeal.Value.run (F := Ideal) m' ρ')
    obtain ⟨h0, h1, h2, h3, hk⟩ := h c
    obtain ⟨a0, a1, a2, a3, a4, a5, a6, a7, a8⟩ := hagree c
    have b0 : StableHlo.launchContents m' c (Proc.tc.devRef MxbReferenceIdeal.main_arg0) = ap m c := a0
    have b3 : StableHlo.launchContents m' c (Proc.tc.devRef MxbReferenceIdeal.main_arg3) = awc m c := a3
    have b4 : StableHlo.launchContents m' c (Proc.tc.devRef MxbReferenceIdeal.main_arg4) = alg m c := a4
    have b5 : StableHlo.launchContents m' c (Proc.tc.devRef MxbReferenceIdeal.main_arg5) = alb m c := a5
    have b6 : StableHlo.launchContents m' c (Proc.tc.devRef MxbReferenceIdeal.main_arg6) = aws m c := a6
    have b7 : StableHlo.launchContents m' c (Proc.tc.devRef MxbReferenceIdeal.main_arg7) = abs' m c := a7
    have b8 : StableHlo.launchContents m' c (Proc.tc.devRef MxbReferenceIdeal.main_arg8) = az m c := a8
    rw [MxbReferenceIdeal.Read.val_main_v244_eq, b0, b3, b4, b5, b6, b7, b8] at h0
    rw [MxbReferenceIdeal.Read.val_main_v243_eq, b0, b6, b8] at h1
    rw [MxbReferenceIdeal.Read.val_main_v132_eq, b0, b4, b5, b8] at h2
    rw [MxbReferenceIdeal.Read.val_main_v245_eq, b0, b8] at h3
    exact ⟨fun i _ => congrFun h0 i, fun i _ => congrFun h1 i, fun i _ => congrFun h2 i, fun i _ => congrFun h3 i, hk⟩

end Cert.Proof

section
set_option maxRecDepth 65536
namespace Cert.Proof.MxbPlain

open MxbKernel MxbKernel.Gen
open Idealize.ShloMosaic Idealize.ShloMosaic.TcCoe Idealize.ShloMosaic.Tactic Idealize.SL.Sem

variable {F : FTy → Type} [FloatOps F]

/-- A named constant read as its pattern. -/
abbrev plain : Named F := ⟨fun _ _ {φ} bits => FloatOps.ofBits (F := F) φ bits⟩

/-- The frame: the arguments end as they were, and every counter at zero. -/
theorem frame : ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Eq.mpr (by sl_kernel_rfl) (fun m ρ => letI : Named F := plain; MxbFrame.frame (F := F) m ρ)

end Cert.Proof.MxbPlain
end

end
-- ==== Proof.HgPay.lean ====
/-
  The gated recurrence's pieces in the forward mixer, entry by entry: a chunk's running decays, its scores and outputs for
  one head, and the state it hands on.
-/
module

public import proofs.«01_k».proof.Proof.Rects
public import proofs.«01_k».proof.Proof.SgMath
public import proofs.«01_k».proof.Proof.Gen.MxfKernelIdeal.Skeleton

@[expose] public section

set_option maxRecDepth 16384

noncomputable section

namespace Cert.Proof.HgPay

open Idealize.ShloMosaic Idealize.ShloMosaic.TcCoe Idealize.ShloMosaic.Tactic
open Rects Reals Sg MxfKernelIdeal MxfKernelIdeal.Gen
open scoped BigOperators

abbrev Blk := FVec Ideal S64x512 .f32

/-- The running sums of the chunk's log decays. -/
def bW (lb : FVec Ideal S1x512 .f32) (fp : Blk) : Blk :=
  k0_pay14 k0_pay7 (k0_pay10 lb) (k0_pay11 lb) (k0_pay12 fp) (Scalar.ofBits .f32 0x00000000#32)
/-- The last of them. -/
def blW (b : Blk) : FVec Ideal S1x512 .f32 :=
  shapeCast S1x512 (multiReduction (F := Ideal) (φ := .f32) .add [0] S512 (select (broadcastTo S64x512 (shapeCast S64x1 k0_pay8 shapeCasts_S64x1_S64x1) broadcasts_S64x1_S64x512) b
    (broadcast S64x512 (Scalar.ofBits .f32 0x00000000#32))) 0x00000000#32 reduces_S64x512_S512 (.inl rfl) rfl) shapeCasts_S512_S1x512
def qbW (q b : Blk) : FVec Ideal S64x512 .bf16 := truncf .bf16 (mulf (k0_pay9 q) (exp b)) bitsLt_bf16_f32
def kbW (kk b : Blk) : FVec Ideal S64x512 .bf16 := truncf .bf16 (mulf kk (exp (subf (broadcast S64x512 (Scalar.ofBits .f32 0x00000000#32)) b))) bitsLt_bf16_f32
def kdW (kk b : Blk) (bl : FVec Ideal S1x512 .f32) : FVec Ideal S64x512 .bf16 :=
  truncf .bf16 (mulf kk (exp (subf (broadcastTo S64x512 bl broadcasts_S1x512_S64x512) b))) bitsLt_bf16_f32

/-- One head's scores against the chunk's values, and its reading of the state. -/
def att (q k v : FVec Ideal S64x128 .bf16) (st : FVec Ideal S1x128x128 .f32) : FVec Ideal S64x128 .f32 :=
  addf (matmul dot_S64x64_S64x128_S64x128_1_0_0_1_n_n none
      (truncf .bf16 (select k0_pay6 (matmul dot_S64x128_S64x128_S64x64_1_1_0_0_n_n none q k (constant S64x64 .f32 0x00000000#32))
        (broadcast S64x64 (Scalar.ofBits .f32 0x00000000#32))) bitsLt_bf16_f32) v (constant S64x128 .f32 0x00000000#32))
    (matmul dot_S64x128_S128x128_S64x128_1_1_0_0_n_n none q (truncf .bf16 (shapeCast S128x128 st shapeCasts_S1x128x128_S128x128) bitsLt_bf16_f32) (constant S64x128 .f32 0x00000000#32))
/-- The state the chunk hands on. -/
def stn (e : FVec Ideal S1x128 .f32) (v kd : FVec Ideal S64x128 .bf16) (st : FVec Ideal S1x128x128 .f32) : FVec Ideal S1x128x128 .f32 :=
  shapeCast S1x128x128 (addf (mulf (shapeCast S128x128 st shapeCasts_S1x128x128_S128x128) (broadcastTo S128x128 e broadcasts_S1x128_S128x128))
    (matmul dot_S64x128_S64x128_S128x128_0_0_1_1_n_n none v kd (constant S128x128 .f32 0x00000000#32))) shapeCasts_S128x128_S1x128x128
/-- The outputs, normalised over the head and gated. -/
def gat (o : FVec Ideal S64x128 .f32) (g : FVec Ideal S1x128 .f32) (s : FVec Ideal S64x128 .f32) : FVec Ideal S64x128 .bf16 :=
  truncf .bf16 (mulf (mulf (mulf o (broadcastTo S64x128 (rsqrt (addf (divf (shapeCast S64x1 (multiReduction (F := Ideal) (φ := .f32) .add [1] S64 (mulf o o) 0x00000000#32 reduces_S64x128_S64 (.inl rfl) rfl) shapeCasts_S64_S64x1)
    (broadcast S64x1 (Scalar.ofBits .f32 0x43000000#32))) (broadcast S64x1 (Scalar.ofBits .f32 0x358637BD#32)))) broadcasts_S64x1_S64x128))
    (broadcastTo S64x128 g broadcasts_S1x128_S64x128)) s) bitsLt_bf16_f32

theorem toInt64 (a : Fin 64) : (BitVec.ofNat 32 a.val).toInt = (a.val : Int) := by
  rw [BitVec.toInt_eq_toNat_of_lt (by simp; omega)]
  simp
  omega
theorem sel64 (t s : Fin 64) (x : EReal) :
    Scalar.select (IntOp.cmpi .sle (BitVec.ofNat 32 s.val) (BitVec.ofNat 32 t.val)) x 0 = if s ≤ t then x else 0 := by
  by_cases hk : s.val ≤ t.val
  · simp [Scalar.select, IntOp.cmpi, BitVec.sle, toInt64, hk, Fin.le_def]
  · simp [Scalar.select, IntOp.cmpi, BitVec.sle, toInt64, hk, Fin.le_def]
/-- The kernel's `1` on and below the diagonal. -/
def tri (t s : Fin 64) : EReal := FloatOps.sitofp (F := Ideal) FTy.f32 (BitVec.setWidth 32 (IntOp.cmpi CmpIPredicate.sle (BitVec.ofNat 32 s.val) (BitVec.ofNat 32 t.val)))
theorem tri_eq (t s : Fin 64) : tri t s = if s ≤ t then 1 else 0 := by
  unfold tri
  by_cases hk : s.val ≤ t.val
  · simp [IntOp.cmpi, BitVec.sle, toInt64, hk, Fin.le_def, FloatOps.sitofp]
  · simp [IntOp.cmpi, BitVec.sle, toInt64, hk, Fin.le_def, FloatOps.sitofp]
theorem last64 (x : Fin 64) (a : EReal) : Scalar.select (IntOp.cmpi CmpIPredicate.eq (BitVec.ofNat 32 x.val) 63#32) a 0 = if x = 63 then a else 0 := by
  by_cases h : x = 63
  · subst h; rfl
  · have e : IntOp.cmpi CmpIPredicate.eq (BitVec.ofNat 32 x.val) 63#32 = 0#1 := by revert x; decide
    rw [if_neg h, e]; rfl

/-- The softplus. -/
def sp (x : EReal) : EReal := max x 0 + Ideal.log1p (Ideal.exp (-(FloatOps.absf (F := Ideal) (φ := .f32) x)))
def lgc (lb fp : EReal) : EReal := Ideal.log1p (-lb) - sp (-fp)
def lga (lb : EReal) : EReal := Ideal.log (max lb (Ideal.ofBits .f32 228737632#32))
/-- The logarithm of a decay: of the lower bound and the gate's sigmoid. -/
def lf (lb fp : EReal) : EReal :=
  max (lga lb) (lgc lb fp) + Ideal.log1p (Ideal.exp (-(FloatOps.absf (F := Ideal) (φ := .f32) (lga lb - lgc lb fp))))

theorem att_at (q k v : FVec Ideal S64x128 .bf16) (st : FVec Ideal S1x128x128 .f32) (t : Fin 64) (l : Fin 128) :
    att q k v st (ix2 t l) = (∑ s : Fin 64, (if s ≤ t then ∑ d : Fin 128, q (ix2 t d) * k (ix2 s d) else 0) * v (ix2 s l))
      + ∑ d : Fin 128, q (ix2 t d) * st (ix3 0 l d) := by
  pointwise [att, k0_pay6]
  refine congrArg (· + _) (Finset.sum_congr rfl fun s _ => ?_)
  rw [sel64]
  split
  · rfl
  · rw [zero_mul]
theorem stn_at (e : FVec Ideal S1x128 .f32) (v kd : FVec Ideal S64x128 .bf16) (st : FVec Ideal S1x128x128 .f32) (l d : Fin 128) :
    stn e v kd st (ix3 0 l d) = st (ix3 0 l d) * e (ix2 0 d) + ∑ s : Fin 64, v (ix2 s l) * kd (ix2 s d) := by
  pointwise [stn]
theorem gat_at (o : FVec Ideal S64x128 .f32) (g : FVec Ideal S1x128 .f32) (s : FVec Ideal S64x128 .f32) (t : Fin 64) (l : Fin 128) :
    gat o g s (ix2 t l) = o (ix2 t l) * Ideal.rsqrt (Ideal.div (∑ d : Fin 128, o (ix2 t d) * o (ix2 t d)) (Ideal.ofBits .f32 0x43000000#32) + Ideal.ofBits .f32 0x358637BD#32) * g (ix2 0 l) * s (ix2 t l) := by
  pointwise [gat]
theorem kb_at (kk b : Blk) (t : Fin 64) (l : Fin 512) : kbW kk b (ix2 t l) = kk (ix2 t l) * Ideal.exp (- b (ix2 t l)) := by
  pointwise [kbW]
  rw [zero_sub]
theorem kd_at (kk b : Blk) (bl) (t : Fin 64) (l : Fin 512) : kdW kk b bl (ix2 t l) = kk (ix2 t l) * Ideal.exp (bl (ix2 0 l) - b (ix2 t l)) := by
  pointwise [kdW]
theorem qb_at (q b : Blk) (t : Fin 64) (l : Fin 512) : qbW q b (ix2 t l) = q (ix2 t l) * Ideal.logistic (q (ix2 t l)) * Ideal.exp (b (ix2 t l)) := by
  pointwise [qbW, k0_pay9]
theorem kk_at (lb : FVec Ideal S1x512 .f32) (fp : Blk) (t : Fin 64) (l : Fin 512) : k0_pay13 lb fp (ix2 t l) = (1 - lb (ix2 0 l)) * Ideal.logistic (- fp (ix2 t l)) := by
  pointwise [k0_pay13]
  rw [zero_sub]
theorem bl_at (b : Blk) (l : Fin 512) : blW b (ix2 0 l) = b (ix2 63 l) := by
  pointwise [blW, k0_pay8]
  simp only [last64, Finset.sum_ite_eq', Finset.mem_univ, if_true]
theorem b_at3 (lb : FVec Ideal S1x512 .f32) (fp : Blk) (t : Fin 64) (l : Fin 512) : bW lb fp (ix2 t l) = ((∑ s : Fin 64, tri t s * lf (lb (ix2 0 l)) (fp (ix2 s l)))
    + ∑ s : Fin 64, tri t s * (lf (lb (ix2 0 l)) (fp (ix2 s l)) - lf (lb (ix2 0 l)) (fp (ix2 s l))))
    + ∑ s : Fin 64, tri t s * ((lf (lb (ix2 0 l)) (fp (ix2 s l)) - lf (lb (ix2 0 l)) (fp (ix2 s l))) - (lf (lb (ix2 0 l)) (fp (ix2 s l)) - lf (lb (ix2 0 l)) (fp (ix2 s l)))) := by
  unfold bW
  pointwise [k0_pay14, k0_pay7, k0_pay6, k0_pay10, k0_pay11, k0_pay12, k0_pay4]
  simp only [ne_eq, not_true_eq_false, if_false, zero_sub, ← sub_eq_add_neg]
  exact rfl

theorem absf_eq (x : EReal) : FloatOps.absf (F := Ideal) (φ := .f32) x = max x (-x) := rfl
theorem soft_bot : Ideal.log1p (Ideal.exp ⊥) = ((0 : ℝ) : EReal) := by
  unfold Ideal.log1p
  rw [show Ideal.exp ⊥ = 0 from rfl, add_zero, one_up]
  show (if _ then _ else _) = _
  rw [if_neg (by norm_num), Real.log_one]
/-- `log (1 + exp (-|x|))` is a number of zero or more. -/
theorem soft_real (x : EReal) : ∃ r : ℝ, 0 ≤ r ∧ Ideal.log1p (Ideal.exp (-(FloatOps.absf (F := Ideal) (φ := .f32) x))) = (r : EReal) := by
  rw [absf_eq]
  induction x using EReal.rec with
  | bot => refine ⟨0, le_rfl, by rw [show -max _ (-_) = (⊥ : EReal) by simp]; exact soft_bot⟩
  | top => refine ⟨0, le_rfl, by rw [show -max _ (-_) = (⊥ : EReal) by simp]; exact soft_bot⟩
  | coe r =>
    rw [neg_up, max_up, neg_up, exp_up]
    unfold Ideal.log1p
    rw [one_up, add_up]
    have h : 0 < Real.exp (-max r (-r)) := Real.exp_pos _
    refine ⟨Real.log (1 + Real.exp (-max r (-r))), Real.log_nonneg (by linarith), ?_⟩
    show (if _ then _ else _) = _
    rw [if_neg (by linarith)]
theorem floor_pos : ∃ f : ℝ, 0 < f ∧ Ideal.ofBits .f32 228737632#32 = (f : EReal) := by
  refine ⟨_, ?_, by simp [Ideal.ofBits, Ideal.ieee]; rfl⟩
  norm_num
theorem lf_real {lb : EReal} (h : IsR lb) (fp : EReal) : IsR (lf lb fp) := by
  obtain ⟨b, rfl⟩ := h
  obtain ⟨f, hf, ef⟩ := floor_pos
  obtain ⟨s, -, es⟩ := soft_real (lga b - lgc b fp)
  have ha : IsR (lga b) := by
    refine ⟨Real.log (max b f), ?_⟩
    unfold lga
    rw [ef, max_up]
    show (if _ then _ else _) = _
    rw [if_neg (not_le.mpr (lt_max_of_lt_right hf))]
  obtain ⟨a, ea⟩ := ha
  have hc : lgc b fp ≠ ⊤ := by
    obtain ⟨p, hp, ep⟩ := soft_real (-fp)
    have h1 : sp (-fp) ≠ ⊥ := by
      unfold sp
      rw [ep]
      have : (0 : EReal) ≤ max (-fp) 0 + (p : EReal) := add_nonneg (le_max_right _ _) (by exact_mod_cast hp)
      exact fun h => absurd (h ▸ this) (by simp)
    have h2 : Ideal.log1p (-(b : EReal)) ≠ ⊤ := by
      unfold Ideal.log1p
      rw [neg_up, one_up, add_up]
      show (if _ then _ else _) ≠ _
      split
      · exact bot_ne_top
      · exact EReal.coe_ne_top _
    unfold lgc
    rw [sub_eq_add_neg]
    exact EReal.add_ne_top h2 (by simpa using h1)
  unfold lf
  rw [es, ea]
  induction hx : lgc b fp using EReal.rec with
  | bot => exact ⟨a + s, by simp⟩
  | top => exact absurd hx hc
  | coe x => exact ⟨max a x + s, by rw [max_up, add_up]⟩
theorem b_at (lb : FVec Ideal S1x512 .f32) (fp : Blk) (t : Fin 64) (l : Fin 512) (h : IsR (lb (ix2 0 l))) :
    bW lb fp (ix2 t l) = ∑ s : Fin 64, if s ≤ t then lf (lb (ix2 0 l)) (fp (ix2 s l)) else 0 := by
  rw [b_at3]
  have e (s : Fin 64) : lf (lb (ix2 0 l)) (fp (ix2 s l)) - lf (lb (ix2 0 l)) (fp (ix2 s l)) = 0 := by
    obtain ⟨r, er⟩ := lf_real h (fp (ix2 s l))
    rw [er, sub_up, sub_self]; rfl
  simp only [e, sub_zero, mul_zero, Finset.sum_const_zero, add_zero, tri_eq, ite_mul, one_mul, zero_mul]
end Cert.Proof.HgPay

end
-- ==== Proof.HgSpec.lean ====
/-
  The gated recurrence entry by entry, from the mixer's arguments: decays, state, outputs and gated outputs.
-/
module

public import proofs.«01_k».proof.Proof.HgPay

@[expose] public section

noncomputable section

namespace Cert.Proof.HgSpec

open Idealize.ShloMosaic Idealize.ShloMosaic.TcCoe
open Reals Sg HgPay MxfKernelIdeal
open scoped BigOperators

/-- Row `s` of chunk `j`. -/
def hrow (j : ℕ) (s : Fin 64) : Fin 2048 := ⟨(64 * j + s.val) % 2048, Nat.mod_lt _ (by decide)⟩

variable (p : FVec Ideal S2048x4608 .f32) (lb : FVec Ideal S512 .f32)

def lfR (j : ℕ) (s : Fin 64) (q : Fin 512) : EReal := lf (lb (ix1 q)) (p (ix2 (hrow j s) ⟨512 + q.val, by omega⟩))
/-- The running sum of the log decays. -/
def bR (j : ℕ) (t : Fin 64) (q : Fin 512) : EReal := ∑ s : Fin 64, if s ≤ t then lfR p lb j s q else 0
def kR (j : ℕ) (s : Fin 64) (q : Fin 512) : EReal := (1 - lb (ix1 q)) * Ideal.logistic (-(p (ix2 (hrow j s) ⟨512 + q.val, by omega⟩) : EReal))
def qR (j : ℕ) (s : Fin 64) (q : Fin 512) : EReal := p (ix2 (hrow j s) ⟨q.val, by omega⟩) * Ideal.logistic (p (ix2 (hrow j s) ⟨q.val, by omega⟩))
def vR (j : ℕ) (s : Fin 64) (q : Fin 512) : EReal := p (ix2 (hrow j s) ⟨1024 + q.val, by omega⟩)
/-- The state before a chunk. -/
def KS : ℕ → Fin 4 → Fin 128 → Fin 128 → EReal
  | 0, _, _, _ => 0
  | j + 1, h, l, d => KS j h l d * Ideal.exp (bR p lb j 63 (col h d))
      + ∑ s : Fin 64, vR p j s (col h l) * (kR p lb j s (col h d) * Ideal.exp (bR p lb j 63 (col h d) - bR p lb j s (col h d)))
theorem KS_succ (j : ℕ) (h : Fin 4) (l d : Fin 128) : KS p lb (j + 1) h l d = KS p lb j h l d * Ideal.exp (bR p lb j 63 (col h d))
    + ∑ s : Fin 64, vR p j s (col h l) * (kR p lb j s (col h d) * Ideal.exp (bR p lb j 63 (col h d) - bR p lb j s (col h d))) := rfl
/-- The scores of a chunk's rows. -/
def aR (j : ℕ) (h : Fin 4) (t s : Fin 64) : EReal :=
  if s ≤ t then ∑ d : Fin 128, qR p j t (col h d) * Ideal.exp (bR p lb j t (col h d)) * (kR p lb j s (col h d) * Ideal.exp (-bR p lb j s (col h d))) else 0
def oR (j : ℕ) (h : Fin 4) (t : Fin 64) (l : Fin 128) : EReal :=
  (∑ s : Fin 64, aR p lb j h t s * vR p j s (col h l)) + ∑ d : Fin 128, qR p j t (col h d) * Ideal.exp (bR p lb j t (col h d)) * KS p lb j h l d
/-- The outputs, normalised over the head and gated. -/
def zR (g : FVec Ideal S512 .f32) (j : ℕ) (h : Fin 4) (t : Fin 64) (l : Fin 128) : EReal :=
  oR p lb j h t l * Ideal.rsqrt (Ideal.div (∑ d : Fin 128, oR p lb j h t d * oR p lb j h t d) (Ideal.ofBits .f32 0x43000000#32) + Ideal.ofBits .f32 0x358637BD#32)
    * g (ix1 (col h l)) * Ideal.logistic (p (ix2 (hrow j t) ⟨1536 + (col h l).val, by omega⟩))

variable {p lb}
theorem bR_real (h : ∀ q, IsR (lb (ix1 q))) (j : ℕ) (t : Fin 64) (q : Fin 512) : IsR (bR p lb j t q) := by
  unfold bR
  refine Finset.sum_induction _ IsR (fun a b => ?_) ⟨0, rfl⟩ fun s _ => ?_
  · rintro ⟨x, rfl⟩ ⟨y, rfl⟩; exact ⟨x + y, by rw [add_up]⟩
  · split
    · exact lf_real (h q) _
    · exact ⟨0, rfl⟩
/-- A decay between two rows, in two factors. -/
theorem decay_eq {x y : EReal} (hx : IsR x) (hy : IsR y) (a b : EReal) : a * b * Ideal.exp (x - y) = a * Ideal.exp x * (b * Ideal.exp (-y)) := by
  obtain ⟨r, rfl⟩ := hx
  obtain ⟨s, rfl⟩ := hy
  have e : Ideal.exp ((r : EReal) - s) = Ideal.exp r * Ideal.exp (-(s : EReal)) := by
    rw [sub_up, exp_up, neg_up, exp_up, exp_up, mul_up, sub_eq_add_neg, Real.exp_add]
  rw [e, mul_mul_mul_comm]
/-- The scores, as sums of products decayed between rows. -/
theorem aR_eq (h : ∀ q, IsR (lb (ix1 q))) (j : ℕ) (hh : Fin 4) (t s : Fin 64) :
    aR p lb j hh t s = ∑ d : Fin 128, qR p j t (col hh d) * kR p lb j s (col hh d)
      * (if s ≤ t then Ideal.exp (bR p lb j t (col hh d) - bR p lb j s (col hh d)) else 0) := by
  unfold aR
  split
  · exact Finset.sum_congr rfl fun d _ => (decay_eq (bR_real h _ _ _) (bR_real h _ _ _) _ _).symm
  · simp only [mul_zero, Finset.sum_const_zero]
end Cert.Proof.HgSpec

end
-- ==== Proof.Window.lean ====
/-
  A running sum down a chunk, as a window sum writes it.
-/
module

public import proofs.«01_k».proof.Proof.Reals
public import proofs.«01_k».proof.MxfReferenceIdeal
public import Idealize.ShloMosaic.Lib.Pointwise
public import Idealize.ShloMosaic.Lib.IdealHost

@[expose] public section

set_option maxRecDepth 16384

noncomputable section

namespace Cert.Proof.Window

open Idealize.ShloMosaic
open scoped BigOperators

theorem fold_sum (n : ℕ) (g : Fin n → EReal) (v : EReal) : (List.finRange n).foldl (fun r k => r + g k) v = v + ∑ k, g k := by
  rw [Fin.sum_univ_def]
  generalize List.finRange n = L
  induction L generalizing v with
  | nil => simp
  | cons a L ih => rw [List.foldl_cons, ih, List.map_cons, List.sum_cons, add_assoc]

/-- Adding one more than `t`, round the chunk. -/
def turn (t : Fin 64) : Fin 64 ≃ Fin 64 := Equiv.addRight (t + 1)
theorem turn_val (t n : Fin 64) : (turn t n).val = (n.val + t.val + 1) % 64 := by
  show (n + (t + 1)).val = _
  rw [Fin.val_add, Fin.val_add]
  show (n.val + (t.val + 1) % 64) % 64 = _
  omega

theorem running (x : (⟨3, ![4, 64, 128]⟩ : Shape).Idx → EReal) (H) (init : EReal) (hi : init = 0) (h : Fin 4) (t : Fin 64) (d : Fin 128) :
    Ideal.hostReduceWindowAdd (s := ⟨3, ![4, 64, 128]⟩) (t := ⟨3, ![4, 64, 128]⟩) ![1, 64, 1] ![1, 1, 1] ![0, 63, 0] ![0, 0, 0] H x init (ix3 h t d)
      = ∑ s : Fin 64, if s ≤ t then x (ix3 h s d) else 0 := by
  subst hi
  unfold Ideal.hostReduceWindowAdd Host.reduceWindow
  refine (fold_sum _ _ _).trans ?_
  rw [zero_add]
  rw [← Equiv.sum_comp (⟨3, ![1, 64, 1]⟩ : Shape).rowMajor]
  rw [sum_idx3]
  rw [Fin.sum_univ_one]
  rw [← Equiv.sum_comp (turn t) (fun s : Fin 64 => if s ≤ t then x (ix3 h s d) else 0)]
  refine Finset.sum_congr rfl fun n _ => ?_
  rw [Fin.sum_univ_one]
  simp only [Equiv.symm_apply_apply]
  have hv := turn_val t n
  by_cases hc : 63 ≤ t.val + n.val
  · have hs : (turn t n).val = t.val + n.val - 63 := by omega
    rw [if_pos (show turn t n ≤ t by rw [Fin.le_def]; omega), dif_pos]
    · congr 1
      funext a
      apply Fin.ext
      match a with
      | ⟨0, _⟩ => show h.val * 1 + 0 - 0 = h.val; omega
      | ⟨1, _⟩ => show t.val * 1 + n.val - 63 = (turn t n).val; omega
      | ⟨2, _⟩ => show d.val * 1 + 0 - 0 = d.val; omega
    · intro a
      match a with
      | ⟨0, _⟩ => show 0 ≤ h.val * 1 + 0 ∧ h.val * 1 + 0 - 0 < 4; omega
      | ⟨1, _⟩ => show 63 ≤ t.val * 1 + n.val ∧ t.val * 1 + n.val - 63 < 64; omega
      | ⟨2, _⟩ => show 0 ≤ d.val * 1 + 0 ∧ d.val * 1 + 0 - 0 < 128; omega
  · rw [if_neg (show ¬ turn t n ≤ t by rw [Fin.le_def]; omega), dif_neg]
    intro hin
    have h1 : 63 ≤ t.val * 1 + n.val := (hin (1 : Fin 3)).1
    omega
end Cert.Proof.Window

end
-- ==== Proof.RefStep.lean ====
/-
  The reference's run in the words of one trip: its loop's buffers after every trip hold the trip's state.
-/
module

public import proofs.«01_k».proof.Proof.Gen.MxfReferenceIdeal.Run
public import proofs.«01_k».proof.Proof.Gen.MxfReferenceIdeal.Step
public import proofs.«01_k».proof.Proof.Reals

@[expose] public section

set_option maxRecDepth 65536

noncomputable section

namespace Cert.Proof.RefStep

open Idealize.ShloMosaic Idealize.ShloMosaic.TcCoe Idealize.ShloMosaic.StableHlo Idealize.ShloMosaic.Tactic
open Idealize.SL Idealize.SL.RA Idealize.SL.BI Idealize.SL.Sem
open MxfReferenceIdeal MxfReferenceIdeal.Gen MxfReferenceIdeal.Value MxfReferenceIdeal.Step

/-- The loop's buffers hold a state, before the trip of a number. -/
structure Holds (V0 : Valuation τ sig (Elt Ideal)) (s : State Ideal) (j : ℕ) : Prop where
  f0 : V0 (Proc.devRef .tc main_v65_0) = s.main_v65_0
  f1 : V0 (Proc.devRef .tc main_v65_1) = s.main_v65_1
  f2 : V0 (Proc.devRef .tc main_v65_2) = s.main_v65_2
  f3 : V0 (Proc.devRef .tc main_v65_3) = s.main_v65_3
  f6 : V0 (Proc.devRef .tc main_v65_6) = s.main_v65_6
  f7 : V0 (Proc.devRef .tc main_v65_7) = s.main_v65_7
  k4 : V0 (Proc.devRef .tc main_v65_4) = K_main_v54 (F := Ideal)
  n5 : V0 (Proc.devRef .tc main_v65_5) = constantI S_ 32 (BitVec.ofNat 32 j)

section
variable {V0 : Valuation τ sig (Elt Ideal)} {s : State Ideal} {j : ℕ} (h : Holds V0 s j)
include h
theorem w186 : res_main_while0b_v186 V0 = b4 j s := by
  unfold res_main_while0b_v186
  rw [h.f0, h.n5]; rfl
theorem w187 : res_main_while0b_v187 V0 = b9 j s := by
  unfold res_main_while0b_v187
  rw [h.f1, h.n5]; rfl
theorem w188 : res_main_while0b_v188 V0 = b14 j s := by
  unfold res_main_while0b_v188
  rw [h.f2, h.n5]; rfl
theorem w190 : res_main_while0b_v190 V0 = b22 j s := by
  unfold res_main_while0b_v190
  rw [h.f3, h.n5]; rfl
theorem w211 : res_main_while0b_v211 V0 = b52 j s := by
  unfold res_main_while0b_v211
  rw [w190 h]; rfl
theorem s6 : Value.step_main_v65_6 V0 = b63 j s := by
  unfold Value.step_main_v65_6
  rw [w211 h, w187 h, w188 h, w190 h, h.f6]; rfl
theorem s7 : Value.step_main_v65_7 V0 = b68 j s := by
  unfold Value.step_main_v65_7
  rw [w186 h, w187 h, w188 h, w190 h, h.f6, h.f7, h.k4, h.n5]; rfl
theorem s5 : Value.step_main_v65_5 V0 = constantI S_ 32 (BitVec.ofNat 32 (j + 1)) := by
  unfold Value.step_main_v65_5
  rw [h.n5]
  funext i
  show BitVec.ofNat 32 j + 1#32 = BitVec.ofNat 32 (j + 1)
  rw [BitVec.ofNat_add]
theorem holds_step : Holds (STEP V0) (step j s) (j + 1) where
  f0 := (STEP_main_v65_0 V0).trans h.f0
  f1 := (STEP_main_v65_1 V0).trans h.f1
  f2 := (STEP_main_v65_2 V0).trans h.f2
  f3 := (STEP_main_v65_3 V0).trans h.f3
  f6 := (STEP_main_v65_6 V0).trans (s6 h)
  f7 := (STEP_main_v65_7 V0).trans (s7 h)
  k4 := (STEP_main_v65_4 V0).trans h.k4
  n5 := (STEP_main_v65_5 V0).trans (s5 h)
end

variable (m : (ℓ : Loc nD τ sig) → Buf (Elt Ideal) ℓ) (ρ : Dev nD → PrngReg)

set_option maxHeartbeats 1000000 in
theorem entry_holds (c : Dev nD) : Holds (entryContents preI m c) (init (m ((c.tc : Thread nD τ).loc main_arg0)) (m ((c.tc : Thread nD τ).loc main_arg1))) 0 := by
  constructor <;> (simp only [entryContents, preI, afterL_cons, afterL_nil]; after_reads_simp) <;> rfl

/-- The state after so many trips. -/
def stateAt (a0 : FVec Ideal S2048x4608 .f32) (a1 : FVec Ideal S512 .f32) : ℕ → State Ideal
  | 0 => init a0 a1
  | j + 1 => step j (stateAt a0 a1 j)

theorem iter_holds (c : Dev nD) (j : ℕ) : Holds (STEP^[j] (entryContents preI m c)) (stateAt (m ((c.tc : Thread nD τ).loc main_arg0)) (m ((c.tc : Thread nD τ).loc main_arg1)) j) j := by
  induction j with
  | zero => exact entry_holds m c
  | succ j ih =>
    rw [Function.iterate_succ_apply']
    exact holds_step ih

theorem out_eq (c : Dev nD) : out_main_v185 (STEP^[32] (entryContents preI m c))
    = R_main_v185 (stateAt (m ((c.tc : Thread nD τ).loc main_arg0)) (m ((c.tc : Thread nD τ).loc main_arg1)) 32) (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold out_main_v185
  rw [(iter_holds m c 32).f7, iter_main_arg0 m c 32, iter_main_arg2 m c 32, iter_main_arg3 m c 32, iter_main_arg4 m c 32, iter_main_arg5 m c 32, iter_main_arg6 m c 32, iter_main_arg7 m c 32]
  rfl
end Cert.Proof.RefStep

end
-- ==== Proof.HgRef.lean ====
/-
  One trip of the reference's loop, entry by entry, and its state after any number of trips.
-/
module

public import proofs.«01_k».proof.Proof.HgSpec
public import proofs.«01_k».proof.Proof.Window
public import proofs.«01_k».proof.Proof.RefStep
public import Idealize.ShloMosaic.Lib.DynamicIndex

@[expose] public section

set_option maxRecDepth 16384

noncomputable section

namespace Cert.Proof.HgRef

open Idealize.ShloMosaic Idealize.ShloMosaic.TcCoe Idealize.ShloMosaic.Tactic
open Reals Sg HgPay HgSpec RefStep
open MxfReferenceIdeal MxfReferenceIdeal.Gen MxfReferenceIdeal.Step
open scoped BigOperators

variable (p : FVec Ideal S2048x4608 .f32) (lb : FVec Ideal S512 .f32)

section
variable (j : Fin 32) (h : Fin 4) (s : Fin 64) (d : Fin 128)
theorem e_row (hh) : (⟨j.val * 64 + s.val, hh⟩ : Fin 2048) = hrow j.val s := Fin.ext (by show j.val * 64 + s.val = (64 * j.val + s.val) % 2048; omega)
theorem e_col (hh) : (⟨h.val * 128 + d.val, hh⟩ : Fin 512) = col h d := Fin.ext (by show h.val * 128 + d.val = 128 * h.val + d.val; omega)
theorem e_cols (n : ℕ) (hh) (hn : n + (col h d).val < 4608) : (⟨n + (h.val * 128 + d.val), hh⟩ : Fin 4608) = ⟨n + (col h d).val, hn⟩ :=
  Fin.ext (by show n + (h.val * 128 + d.val) = n + (128 * h.val + d.val); omega)
theorem e_col0 (hh) (hn : (col h d).val < 4608) : (⟨h.val * 128 + d.val, hh⟩ : Fin 4608) = ⟨(col h d).val, hn⟩ :=
  Fin.ext (by show h.val * 128 + d.val = 128 * h.val + d.val; omega)
end

theorem q_at (j : Fin 32) (h : Fin 4) (s : Fin 64) (d : Fin 128) : A_main_v57 (F := Ideal) p lb (ix4 j h s d) = qR p j.val s (col h d) := by
  pointwise [A_main_v57, A_main_v56, A_main_v3, A_main_v0, A_main_call0_v5, A_main_call0_v3, A_main_call0_v1, A_main_call0_v0, K_main_call0_v2, K_main_call0_v4, K_main_call0_cst, K_main_call0_cst_0]
  rw [e_row, e_col0 h d _ (by have := (col h d).isLt; omega)]
  rfl
theorem v_at (j : Fin 32) (h : Fin 4) (s : Fin 64) (d : Fin 128) : A_main_v61 (F := Ideal) p lb (ix4 j h s d) = vR p j.val s (col h d) := by
  pointwise [A_main_v61, A_main_v60, A_main_v2]
  rw [e_row, e_cols h d 1024 _ (by have := (col h d).isLt; omega)]
  rfl
theorem k_at (j : Fin 32) (h : Fin 4) (s : Fin 64) (d : Fin 128) : A_main_v59 (F := Ideal) p lb (ix4 j h s d) = kR p lb j.val s (col h d) := by
  pointwise [A_main_v59, A_main_v58, A_main_v51, A_main_v50, A_main_v49, A_main_v48, A_main_v46, A_main_v44, A_main_v43, A_main_v42, A_main_v41, A_main_v1, K_main_v40, K_main_cst_1, K_main_v45, K_main_cst_2, K_main_v47, K_main_cst_3]
  rw [e_row, e_cols h d 512 _ (by have := (col h d).isLt; omega), e_col, neg_neg]
  unfold kR Ideal.logistic
  rw [neg_neg]
theorem lf_at (j : Fin 32) (h : Fin 4) (s : Fin 64) (d : Fin 128) : A_main_v63 (F := Ideal) p lb (ix4 j h s d) = lfR p lb j.val s (col h d) := by
  pointwise [A_main_v63, A_main_v62, A_main_v39, A_main_v38, A_main_v37, A_main_v36, A_main_v35, A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v14, A_main_v13, A_main_v11, A_main_v9, A_main_v8, A_main_v7, A_main_v6, A_main_v5, A_main_v1, K_main_v4, K_main_cst, K_main_v10, K_main_v12, K_main_v15, K_main_cst_0]
  rw [e_row, e_cols h d 512 _ (by have := (col h d).isLt; omega), e_col]
  simp only [ne_eq, not_true_eq_false, if_false]
  rfl

section
variable (X : FVec Ideal S32x4x64x128 .f32) (j : Fin 32)
theorem fits : S32x4x64x128.Slices ![j.val, 0, 0, 0] S1x4x64x128 := by revert j; decide
theorem take_at (start : Fin 4 → Int) (hs : ∀ a, start a = ((![j.val, 0, 0, 0] : Fin 4 → ℕ) a : Int)) (H) (h : Fin 4) (s : Fin 64) (d : Fin 128) :
    shapeCast S4x64x128 (Host.dynamicSlice S1x4x64x128 X start H) shapeCasts_S1x4x64x128_S4x64x128 (ix3 h s d) = X (ix4 j h s d) := by
  rw [Host.dynamicSlice_eq_extractStridedSlice S1x4x64x128 X start ![j.val, 0, 0, 0] H (fits j) hs]
  pointwise []
theorem put_at (U : FVec Ideal S1x4x64x128 .f32) (start : Fin 4 → Int) (hs : ∀ a, start a = ((![j.val, 0, 0, 0] : Fin 4 → ℕ) a : Int)) (H) (i : Fin 32) (h : Fin 4) (s : Fin 64) (d : Fin 128) :
    Host.dynamicUpdateSlice X U start H (ix4 i h s d) = if i = j then U (ix4 0 h s d) else X (ix4 i h s d) := by
  have hc : ∀ a : Fin 4, Host.clampedStart S32x4x64x128 S1x4x64x128 H.1 start a = (![j.val, 0, 0, 0] : Fin 4 → ℕ) a := by
    intro a
    refine Host.clampedStart_of_le H.1 start a _ (hs a) ?_
    exact (fits j).2 a
  rw [Host.dynamicUpdateSlice_apply]
  by_cases hi : i = j
  · subst hi
    rw [if_pos rfl, dif_pos]
    · congr 1
      funext a
      apply Fin.ext
      match a with
      | ⟨0, _⟩ => show i.val - Host.clampedStart S32x4x64x128 S1x4x64x128 H.1 start (0 : Fin 4) = 0; rw [hc 0]; exact Nat.sub_self _
      | ⟨1, _⟩ => show h.val - Host.clampedStart S32x4x64x128 S1x4x64x128 H.1 start (1 : Fin 4) = h.val; rw [hc 1]; rfl
      | ⟨2, _⟩ => show s.val - Host.clampedStart S32x4x64x128 S1x4x64x128 H.1 start (2 : Fin 4) = s.val; rw [hc 2]; rfl
      | ⟨3, _⟩ => show d.val - Host.clampedStart S32x4x64x128 S1x4x64x128 H.1 start (3 : Fin 4) = d.val; rw [hc 3]; rfl
    · intro a
      rw [hc a]
      match a with
      | ⟨0, _⟩ => show i.val ≤ i.val ∧ i.val < i.val + 1; omega
      | ⟨1, _⟩ => show 0 ≤ h.val ∧ h.val < 0 + 4; omega
      | ⟨2, _⟩ => show 0 ≤ s.val ∧ s.val < 0 + 64; omega
      | ⟨3, _⟩ => show 0 ≤ d.val ∧ d.val < 0 + 128; omega
  · rw [if_neg hi, dif_neg]
    intro hin
    have h0 := hin (0 : Fin 4)
    rw [hc 0] at h0
    have h1 : j.val ≤ i.val := h0.1
    have h2 : i.val < j.val + 1 := h0.2
    exact hi (Fin.ext (by omega))
end

/-- The loop's inputs, which no trip changes. -/
structure Ins (S : State Ideal) : Prop where
  q : S.main_v65_0 = A_main_v57 p lb
  k : S.main_v65_1 = A_main_v59 p lb
  v : S.main_v65_2 = A_main_v61 p lb
  l : S.main_v65_3 = A_main_v63 p lb
theorem ins (j : ℕ) : Ins p lb (stateAt p lb j) := by
  induction j with
  | zero => exact ⟨rfl, rfl, rfl, rfl⟩
  | succ j ih => exact ⟨ih.q, ih.k, ih.v, ih.l⟩

theorem tn (j : Fin 32) : (BitVec.ofNat 32 j.val).toInt = (j.val : Int) := toInt_ofNat_of_lt (by omega)
theorem mask_at (t s : Fin 64) : K_main_v54 (F := Ideal) (ix3 t s 0) = if s ≤ t then 1#1 else 0#1 := by
  pointwise [K_main_v54, K_main_v53, K_main_v52, K_main_c, K_main_call1_v4, K_main_call1_v3, K_main_call1_v2, K_main_call1_v1, K_main_call1_v0, K_main_call1_c, K_main_call1_v5, K_main_call1_c_0]
  by_cases hk : s.val ≤ t.val
  · simp [Scalar.select, IntOp.cmpi, IntOp.addi, BitVec.sle, toInt64, hk, Fin.le_def]
  · simp [Scalar.select, IntOp.cmpi, IntOp.addi, BitVec.sle, toInt64, hk, Fin.le_def]

section
variable (S : State Ideal) (hI : Ins p lb S) (j : Fin 32)
include hI
theorem b4_at (h : Fin 4) (s : Fin 64) (d : Fin 128) : b4 j.val S (ix3 h s d) = qR p j.val s (col h d) := by
  unfold b4 b3
  refine (take_at _ j _ (fun a => ?_) _ h s d).trans (by rw [hI.q, q_at])
  match a with
  | ⟨0, _⟩ => exact tn j
  | ⟨1, _⟩ | ⟨2, _⟩ | ⟨3, _⟩ => rfl
theorem b9_at (h : Fin 4) (s : Fin 64) (d : Fin 128) : b9 j.val S (ix3 h s d) = kR p lb j.val s (col h d) := by
  unfold b9 b8
  refine (take_at _ j _ (fun a => ?_) _ h s d).trans (by rw [hI.k, k_at])
  match a with
  | ⟨0, _⟩ => exact tn j
  | ⟨1, _⟩ | ⟨2, _⟩ | ⟨3, _⟩ => rfl
theorem b14_at (h : Fin 4) (s : Fin 64) (d : Fin 128) : b14 j.val S (ix3 h s d) = vR p j.val s (col h d) := by
  unfold b14 b13
  refine (take_at _ j _ (fun a => ?_) _ h s d).trans (by rw [hI.v, v_at])
  match a with
  | ⟨0, _⟩ => exact tn j
  | ⟨1, _⟩ | ⟨2, _⟩ | ⟨3, _⟩ => rfl
theorem b19_at (h : Fin 4) (s : Fin 64) (d : Fin 128) : b19 j.val S (ix3 h s d) = lfR p lb j.val s (col h d) := by
  unfold b19 b18
  refine (take_at _ j _ (fun a => ?_) _ h s d).trans (by rw [hI.l, lf_at])
  match a with
  | ⟨0, _⟩ => exact tn j
  | ⟨1, _⟩ | ⟨2, _⟩ | ⟨3, _⟩ => rfl
theorem b22_at (h : Fin 4) (t : Fin 64) (d : Fin 128) : b22 j.val S (ix3 h t d) = bR p lb j.val t (col h d) := by
  unfold b22
  have h0 : b21 (F := Ideal) j.val S (Shape.Idx.first h_S_) = 0 := by
    rw [show Shape.Idx.first h_S_ = ix0 from funext fun a => a.elim0]
    pointwise [b21, b20]
  refine (Window.running (b19 j.val S) reduceWindows_S4x64x128_S4x64x128_w1s1p0_0_w64s1p63_0_w1s1p0_0 _ h0 h t d).trans ?_
  unfold bR
  refine Finset.sum_congr rfl fun s _ => ?_
  rw [b19_at p lb S hI j h s d]
theorem b46_at (h : Fin 4) (t s : Fin 64) : b46 j.val S (ix3 h t s) = ∑ d : Fin 128, qR p j.val t (col h d) * kR p lb j.val s (col h d)
      * (if s ≤ t then Ideal.exp (bR p lb j.val t (col h d) - bR p lb j.val s (col h d)) else 0) := by
  pointwise [b46, b45, b44, b43, b42, b41, b40, b39, b38, b37, b36, b35, b34, b33, b32, b31, b30, b29, b28, b27, b26, b25, b24, b23]
  simp only [b4_at p lb S hI j, b9_at p lb S hI j, b22_at p lb S hI j, mask_at]
  refine Finset.sum_congr rfl fun d _ => ?_
  by_cases hc : s ≤ t
  · simp [hc, Scalar.select]
  · simp [hc, Scalar.select]
theorem b51_at (h : Fin 4) (t : Fin 64) (l : Fin 128) : b51 j.val S (ix3 h t l)
    = (∑ s : Fin 64, b46 j.val S (ix3 h t s) * vR p j.val s (col h l)) + ∑ d : Fin 128, qR p j.val t (col h d) * Ideal.exp (bR p lb j.val t (col h d)) * S.main_v65_6 (ix3 h d l) := by
  pointwise [b51, b50, b49, b48, b47]
  simp only [b4_at p lb S hI j, b14_at p lb S hI j, b22_at p lb S hI j]
theorem b63_at (h : Fin 4) (d l : Fin 128) : b63 j.val S (ix3 h d l) = Ideal.exp (bR p lb j.val 63 (col h d)) * S.main_v65_6 (ix3 h d l)
    + ∑ s : Fin 64, kR p lb j.val s (col h d) * Ideal.exp (bR p lb j.val 63 (col h d) - bR p lb j.val s (col h d)) * vR p j.val s (col h l) := by
  pointwise [b63, b62, b61, b60, b59, b58, b57, b56, b55, b54, b53, b52]
  simp only [b9_at p lb S hI j, b14_at p lb S hI j, b22_at p lb S hI j]
theorem b68_at (i : Fin 32) (h : Fin 4) (t : Fin 64) (l : Fin 128) : b68 j.val S (ix4 i h t l) = if i = j then b51 j.val S (ix3 h t l) else S.main_v65_7 (ix4 i h t l) := by
  unfold b68
  refine (put_at _ j _ _ (fun a => ?_) _ i h t l).trans ?_
  · match a with
    | ⟨0, _⟩ => exact tn j
    | ⟨1, _⟩ | ⟨2, _⟩ | ⟨3, _⟩ => rfl
  · pointwise [b64]
end

/-- The carried state before a trip. -/
theorem state_at (j : ℕ) (hj : j ≤ 32) (h : Fin 4) (d l : Fin 128) : (stateAt p lb j).main_v65_6 (ix3 h d l) = KS p lb j h l d := by
  induction j generalizing h d l with
  | zero => show K_main_v55 (F := Ideal) (ix3 h d l) = 0; pointwise [K_main_v55, K_main_cst_4]
  | succ j ih =>
    refine (b63_at p lb _ (ins p lb j) ⟨j, hj⟩ h d l).trans ?_
    rw [ih (by omega)]
    rw [KS_succ, mul_comm]
    exact congrArg _ (Finset.sum_congr rfl fun s _ => mul_comm (G := EReal) _ _)
/-- The outputs after so many trips. -/
theorem o_at (hb : ∀ q, IsR (lb (ix1 q))) (j : ℕ) (hj : j ≤ 32) (i : Fin 32) (hi : i.val < j) (h : Fin 4) (t : Fin 64) (l : Fin 128) :
    (stateAt p lb j).main_v65_7 (ix4 i h t l) = oR p lb i.val h t l := by
  induction j with
  | zero => omega
  | succ j ih =>
    refine (b68_at p lb _ (ins p lb j) ⟨j, hj⟩ i h t l).trans ?_
    split
    · rename_i e
      subst e
      rw [b51_at p lb _ (ins p lb j) ⟨j, hj⟩]
      unfold oR
      simp only [b46_at p lb _ (ins p lb j) ⟨j, hj⟩, aR_eq hb, state_at p lb j (by omega)]
    · rename_i e
      exact ih (by omega) (Nat.lt_of_le_of_ne (Nat.le_of_lt_succ hi) fun q => e (Fin.ext q))

end Cert.Proof.HgRef

end
-- ==== Proof.MxfBlk.lean ====
/-
  The forward mixer's spatial gating at one grid point, entry by entry.
-/
module

public import proofs.«01_k».proof.Proof.Rects
public import proofs.«01_k».proof.Proof.Gen.MxfKernelIdeal.Skeleton

@[expose] public section

set_option maxRecDepth 16384

noncomputable section

namespace Cert.Proof.MxfBlk

open Idealize.ShloMosaic Idealize.ShloMosaic.TcCoe Rects Sg MxfKernelIdeal MxfKernelIdeal.Gen
open scoped BigOperators

/-- The cubic coefficient of the activation, as rounded. -/
abbrev wa : EReal := Ideal.ofBits .f32 1027024659#32
/-- The activation. -/
def fg (x : EReal) : EReal := whalf * x * (wone + Ideal.tanh (wc * (x + wa * x * x * x)))
/-- A row less its mean. -/
def mid (v : Fin 512 → EReal) (l : Fin 512) : EReal := v l - Ideal.div (∑ k, v k) w512
/-- A row's layer normalisation. -/
def ln (v g b : Fin 512 → EReal) (l : Fin 512) : EReal :=
  mid v l * Ideal.rsqrt (Ideal.div (∑ k, mid v k * mid v k) w512 + weps) * g l + b l

section
variable (U V : Vec Ideal S128x512 .f32) (K : FVec Ideal S128x512 .f32) (N : FVec Ideal S128x512 .bf16)
  (W : FVec Ideal S128x128 .bf16) (B : Vec Ideal S128x1 .f32) (G H : FVec Ideal S1x512 .f32)

/-- One entry of a stored block, from its operands. -/
def ent (g : Fin 4) (j d : Fin 128) : EReal :=
  K (ix2 j (col g d)) * ((∑ k : Fin 128, W (ix2 j k) * N (ix2 k (col g d))) + B (ix2 j 0))

theorem p181 (j : Fin 128) (l : Fin 512) : k0_pay181 (F := Ideal) U (ix2 j l) = fg (U (ix2 j l)) := by
  unfold fg
  pointwise [k0_pay181]
theorem p189 (j : Fin 128) (l : Fin 512) : k0_pay189 (F := Ideal) U (ix2 j l) = fg (U (ix2 j l)) := by
  unfold fg
  pointwise [k0_pay189]
theorem p184 (j : Fin 128) (l : Fin 512) : k0_pay184 (F := Ideal) G H (k0_pay182 V) (k0_pay183 V) (ix2 j l)
    = ln (fun l => fg (V (ix2 j l))) (fun l => G (ix2 0 l)) (fun l => H (ix2 0 l)) l := by
  unfold ln mid fg
  pointwise [k0_pay184, k0_pay182, k0_pay183]
theorem p191 (j : Fin 128) (l : Fin 512) : k0_pay191 (F := Ideal) G H V k0_pay190 (ix2 j l)
    = ln (fun l => fg (V (ix2 j l))) (fun l => G (ix2 0 l)) (fun l => H (ix2 0 l)) l := by
  unfold ln mid fg
  pointwise [k0_pay191, k0_pay190]

variable (X Y : FVec Ideal S128x512 .f32)
theorem s00 (j d : Fin 128) : k0_pay185 G H W K X Y B (ix2 j d) = ent K (k0_pay184 G H X Y) W B 0 j d := by
  unfold ent col
  pointwise [k0_pay185]
theorem s01 (j d : Fin 128) : k0_pay186 G H W K X Y B (ix2 j d) = ent K (k0_pay184 G H X Y) W B 1 j d := by
  unfold ent col
  pointwise [k0_pay186]
theorem s02 (j d : Fin 128) : k0_pay187 W K N B (ix2 j d) = ent K N W B 2 j d := by
  unfold ent col
  pointwise [k0_pay187]
theorem s03 (j d : Fin 128) : k0_pay188 W K N B (ix2 j d) = ent K N W B 3 j d := by
  unfold ent col
  pointwise [k0_pay188]
theorem s10 (j d : Fin 128) : k0_pay192 G H W K V X B (ix2 j d) = ent K (k0_pay191 G H V X) W B 0 j d := by
  unfold ent col
  pointwise [k0_pay192]
theorem s11 (j d : Fin 128) : k0_pay194 K (k0_pay193 G H W V X) B (ix2 j d) = ent K (k0_pay191 G H V X) W B 1 j d := by
  unfold ent col
  pointwise [k0_pay194, k0_pay193]
theorem s12 (j d : Fin 128) : k0_pay195 W K N B (ix2 j d) = ent K N W B 2 j d := by
  unfold ent col
  pointwise [k0_pay195]
theorem s13 (j d : Fin 128) : k0_pay1 W K N B (ix2 j d) = ent K N W B 3 j d := by
  unfold ent col
  pointwise [k0_pay1]
end

section
variable (x7 x8 : Vec Ideal S256x512 .f32) (x12 x13 : Vec Ideal S1x512 .f32) (x14 : Vec Ideal S4x128x128 .f32) (x15 : Vec Ideal S128x4 .f32)

/-- The gate's result at row `j` of chunk `h`, column `d` of group `g`. -/
def gz (h : Fin 2) (g : Fin 4) (j d : Fin 128) : EReal :=
  fg (x7 (ix2 ⟨128 * h.val + j.val, by omega⟩ (col g d)))
    * ((∑ k : Fin 128, low j k (x14 (ix3 g j k))
        * ln (fun l => fg (x8 (ix2 ⟨128 * h.val + k.val, by omega⟩ l))) (fun l => x12 (ix2 0 l)) (fun l => x13 (ix2 0 l)) (col g d)) + x15 (ix2 j g))

def U0 (x : Vec Ideal S256x512 .f32) : Vec Ideal S128x512 .f32 := View.ld x (Rect.unit ![0, 0] ![128, 512] inb_S256x512_S128x512_0_0)
def U1 (x : Vec Ideal S256x512 .f32) : Vec Ideal S128x512 .f32 := View.ld x (Rect.unit ![128, 0] ![128, 512] inb_S256x512_S128x512_128_0)
def vG (x : Vec Ideal S1x512 .f32) : FVec Ideal S1x512 .f32 := shapeCast S1x512 (View.ld x (Rect.unit ![0, 0] ![1, 512] inb_S1x512_S1x512_0_0)) shapeCasts_S1x512_S1x512
def K0 : FVec Ideal S128x512 .f32 := k0_pay181 (U0 x7)
def K1 : FVec Ideal S128x512 .f32 := k0_pay189 (U1 x7)
def N0 : FVec Ideal S128x512 .bf16 := k0_pay184 (vG x12) (vG x13) (k0_pay182 (U0 x8)) (k0_pay183 (U0 x8))
def N1 : FVec Ideal S128x512 .bf16 := k0_pay191 (vG x12) (vG x13) (U1 x8) k0_pay190
theorem inbW (g : Fin 4) : ∀ i, (![g.val, 0, 0] : Fin 3 → ℕ) i + (![1, 128, 128] : Fin 3 → ℕ) i ≤ S4x128x128.size i := by
  fin_cases g <;> decide
theorem inbB (g : Fin 4) : ∀ i, (![0, g.val] : Fin 2 → ℕ) i + (![128, 1] : Fin 2 → ℕ) i ≤ S128x4.size i := by
  fin_cases g <;> decide
def wG (g : Fin 4) : FVec Ideal S128x128 .bf16 := k0_pay177 (View.ld x14 (Rect.unit ![g.val, 0, 0] ![1, 128, 128] (inbW g)))
def bG (g : Fin 4) : Vec Ideal S128x1 .f32 := View.ld x15 (Rect.unit ![0, g.val] ![128, 1] (inbB g))

theorem U0_at (x : Vec Ideal S256x512 .f32) (j : Fin 128) (l : Fin 512) : U0 x (ix2 j l) = x (ix2 ⟨128 * (0 : Fin 2).val + j.val, by show 128 * 0 + j.val < 256; omega⟩ l) := ld2 _ _ _ _ _ _ rfl (Nat.zero_add _).symm
theorem U1_at (x : Vec Ideal S256x512 .f32) (j : Fin 128) (l : Fin 512) : U1 x (ix2 j l) = x (ix2 ⟨128 * (1 : Fin 2).val + j.val, by show 128 * 1 + j.val < 256; omega⟩ l) := ld2 _ _ _ _ _ _ rfl (Nat.zero_add _).symm
theorem vG_at (x : Vec Ideal S1x512 .f32) (l : Fin 512) : vG x (ix2 0 l) = x (ix2 0 l) := by
  refine Eq.trans ?_ (ld2 x inb_S1x512_S1x512_0_0 0 l 0 l rfl (Nat.zero_add _).symm)
  unfold vG
  pointwise []
theorem wm (X : Vec Ideal S1x128x128 .f32) (j k : Fin 128) : k0_pay177 (F := Ideal) X (ix2 j k) = low j k (X (ix3 0 j k)) := by
  rw [← sel_le]
  pointwise [k0_pay177, k0_pay176]
theorem wG_at (g : Fin 4) (j k : Fin 128) : wG x14 g (ix2 j k) = low j k (x14 (ix3 g j k)) := (wm _ j k).trans (by rw [ld3 x14 (inbW g) 0 j k g j k rfl rfl rfl])
theorem bG_at (g : Fin 4) (j : Fin 128) : bG x15 g (ix2 j 0) = x15 (ix2 j g) := ld2 _ _ _ _ _ _ (Nat.zero_add _).symm rfl

theorem ent0 (g : Fin 4) (j d : Fin 128) : ent (K0 x7) (N0 x8 x12 x13) (wG x14 g) (bG x15 g) g j d = gz x7 x8 x12 x13 x14 x15 0 g j d := by
  unfold ent gz K0 N0
  simp only [p181, p184, U0_at, vG_at, wG_at, bG_at]
theorem ent1 (g : Fin 4) (j d : Fin 128) : ent (K1 x7) (N1 x8 x12 x13) (wG x14 g) (bG x15 g) g j d = gz x7 x8 x12 x13 x14 x15 1 g j d := by
  unfold ent gz K1 N1
  simp only [p189, p191, U1_at, vG_at, wG_at, bG_at]

/-- The stores of the gate, the newest first. -/
def gatePieces : List (View.Piece (Elt Ideal) S256x1536 .bf16) :=
  [⟨Rect.unit ![128, 1408] ![128, 128] inb_S256x1536_S128x128_128_1408, k0_pay1 (wG x14 3) (K1 x7) (N1 x8 x12 x13) (bG x15 3)⟩,
   ⟨Rect.unit ![128, 1280] ![128, 128] inb_S256x1536_S128x128_128_1280, k0_pay195 (wG x14 2) (K1 x7) (N1 x8 x12 x13) (bG x15 2)⟩,
   ⟨Rect.unit ![128, 1152] ![128, 128] inb_S256x1536_S128x128_128_1152, k0_pay194 (K1 x7) (k0_pay193 (vG x12) (vG x13) (wG x14 1) (U1 x8) k0_pay190) (bG x15 1)⟩,
   ⟨Rect.unit ![128, 1024] ![128, 128] inb_S256x1536_S128x128_128_1024, k0_pay192 (vG x12) (vG x13) (wG x14 0) (K1 x7) (U1 x8) k0_pay190 (bG x15 0)⟩,
   ⟨Rect.unit ![0, 1408] ![128, 128] inb_S256x1536_S128x128_0_1408, k0_pay188 (wG x14 3) (K0 x7) (N0 x8 x12 x13) (bG x15 3)⟩,
   ⟨Rect.unit ![0, 1280] ![128, 128] inb_S256x1536_S128x128_0_1280, k0_pay187 (wG x14 2) (K0 x7) (N0 x8 x12 x13) (bG x15 2)⟩,
   ⟨Rect.unit ![0, 1152] ![128, 128] inb_S256x1536_S128x128_0_1152, k0_pay186 (vG x12) (vG x13) (wG x14 1) (K0 x7) (k0_pay182 (U0 x8)) (k0_pay183 (U0 x8)) (bG x15 1)⟩,
   ⟨Rect.unit ![0, 1024] ![128, 128] inb_S256x1536_S128x128_0_1024, k0_pay185 (vG x12) (vG x13) (wG x14 0) (K0 x7) (k0_pay182 (U0 x8)) (k0_pay183 (U0 x8)) (bG x15 0)⟩]

variable {sig : RefSig} {κ : Kind} {sp : Space} (v : View sig κ sp S256x1536 .bf16) (f) (R : List (View.Piece (Elt Ideal) S256x1536 .bf16))

theorem gate_z (h : Fin 2) (g : Fin 4) (j d : Fin 128) : v.read (Elt Ideal) (v.writes (Elt Ideal) f (gatePieces x7 x8 x12 x13 x14 x15 ++ R))
      (ix2 ⟨128 * h.val + j.val, by omega⟩ ⟨1024 + (col g d).val, by omega⟩) = gz x7 x8 x12 x13 x14 x15 h g j d := by
  fin_cases h
  · refine Eq.trans ?_ (ent0 x7 x8 x12 x13 x14 x15 g j d)
    unfold gatePieces col
    simp only [List.cons_append, List.nil_append]
    iterate 4 refine (skip2 _ _ _ _ _ _ _).trans ?_
    fin_cases g
    · iterate 3 refine (skip2 _ _ _ _ _ _ _).trans ?_
      exact (take2 _ _ _ _ _ _ _ j d).trans (s00 _ _ _ _ _ _ _ j d)
    · iterate 2 refine (skip2 _ _ _ _ _ _ _).trans ?_
      exact (take2 _ _ _ _ _ _ _ j d).trans (s01 _ _ _ _ _ _ _ j d)
    · refine (skip2 _ _ _ _ _ _ _).trans ?_
      exact (take2 _ _ _ _ _ _ _ j d).trans (s02 _ _ _ _ j d)
    · exact (take2 _ _ _ _ _ _ _ j d).trans (s03 _ _ _ _ j d)
  · refine Eq.trans ?_ (ent1 x7 x8 x12 x13 x14 x15 g j d)
    unfold gatePieces col
    simp only [List.cons_append, List.nil_append]
    fin_cases g
    · iterate 3 refine (skip2 _ _ _ _ _ _ _).trans ?_
      exact (take2 _ _ _ _ _ _ _ j d).trans (s10 _ _ _ _ _ _ _ j d)
    · iterate 2 refine (skip2 _ _ _ _ _ _ _).trans ?_
      exact (take2 _ _ _ _ _ _ _ j d).trans (s11 _ _ _ _ _ _ _ j d)
    · refine (skip2 _ _ _ _ _ _ _).trans ?_
      exact (take2 _ _ _ _ _ _ _ j d).trans (s12 _ _ _ _ j d)
    · exact (take2 _ _ _ _ _ _ _ j d).trans (s13 _ _ _ _ j d)
end

end Cert.Proof.MxfBlk

end
-- ==== Proof.MxfSt.lean ====
/-
  What the forward mixer's body leaves at a grid point: its gated columns, its convolution's columns, and the rows it
  hands on.
-/
module

public import proofs.«01_k».proof.Proof.MxfBlk
public import proofs.«01_k».proof.Proof.Gen.MxfKernelIdeal.Value

@[expose] public section

set_option maxRecDepth 16384

noncomputable section

namespace Cert.Proof.MxfSt

open Idealize.ShloMosaic Idealize.ShloMosaic.TcCoe Idealize.ShloMosaic.Tactic
open MxfBlk Rects Sg MxfKernelIdeal MxfKernelIdeal.Gen
open scoped BigOperators

section
variable (x4 x5 x6 : Vec Ideal S256x512 .f32) (x11 : Vec Ideal S3x512 .f32)

/-- The gated input of the convolution. -/
def zin (r : Fin 256) (l : Fin 512) : EReal := x5 (ix2 r l) * x6 (ix2 r l)
/-- A row of the tile or, past its first row, of the tile before. -/
def back (tl : Fin 8 → Fin 512 → EReal) (s : ℕ) (hs : s ≤ 2) (r : Fin 256) (l : Fin 512) : EReal :=
  if h : r.val < s then tl ⟨8 - s + r.val, by omega⟩ l else zin x5 x6 ⟨r.val - s, by omega⟩ l
/-- The gated convolution. -/
def cY (tl : Fin 8 → Fin 512 → EReal) (r : Fin 256) (l : Fin 512) : EReal :=
  x4 (ix2 r l) * ((x11 (ix2 0 l) * back x5 x6 tl 2 le_rfl r l + x11 (ix2 1 l) * back x5 x6 tl 1 (by decide) r l) + x11 (ix2 2 l) * zin x5 x6 r l)

abbrev l256 (x : Vec Ideal S256x512 .f32) : Vec Ideal S256x512 .f32 := View.ld x (Rect.unit ![0, 0] ![256, 512] (by decide))
theorem l256_at (x : Vec Ideal S256x512 .f32) (r : Fin 256) (l : Fin 512) : l256 x (ix2 r l) = x (ix2 r l) := ld2 _ _ _ _ _ _ (Nat.zero_add _).symm (Nat.zero_add _).symm
theorem z_at (r : Fin 256) (l : Fin 512) : k0_pay170 (l256 x5) (l256 x6) (ix2 r l) = zin x5 x6 r l := by
  show l256 x5 (ix2 r l) * l256 x6 (ix2 r l) = _
  rw [l256_at, l256_at]; rfl
theorem zS_at (r : Fin 256) (l : Fin 512) : k0_pay171 (l256 x5) (l256 x6) (ix2 r l) = zin x5 x6 r l := by
  rw [← z_at]
  pointwise [k0_pay171]
theorem zero8_at (e : Fin 8) (l : Fin 512) : k0_pay3 (F := Ideal) (ix2 e l) = 0 := by
  pointwise [k0_pay3]
theorem id8_at (X : Vec Ideal S8x512 .f32) (e : Fin 8) (l : Fin 512) : k0_pay173 (F := Ideal) X (ix2 e l) = X (ix2 e l) := by
  pointwise [k0_pay173]

/-- The stored block of the convolution. -/
theorem conv_of (tl : Fin 8 → Fin 512 → EReal) (Y6 Y7 : Vec Ideal S256x512 .f32) (r : Fin 256) (l : Fin 512)
    (h6 : Y6 (ix2 r l) = back x5 x6 tl 2 le_rfl r l) (h7 : Y7 (ix2 r l) = back x5 x6 tl 1 (by decide) r l) :
    k0_pay172 (k0_pay170 (l256 x5) (l256 x6)) (View.ld x11 (Rect.unit ![0, 0] ![1, 512] (by decide))) Y6
      (View.ld x11 (Rect.unit ![1, 0] ![1, 512] (by decide))) Y7 (View.ld x11 (Rect.unit ![2, 0] ![1, 512] (by decide))) (l256 x4) (ix2 r l)
      = cY x4 x5 x6 x11 tl r l := by
  unfold cY
  rw [← h6, ← h7, ← z_at, ← l256_at x4, ← ld2 x11 (o0 := 0) (o1 := 0) (a := 1) (b := 512) (by decide) 0 l 0 l rfl (Nat.zero_add _).symm,
    ← ld2 x11 (o0 := 1) (o1 := 0) (a := 1) (b := 512) (by decide) 0 l 1 l rfl (Nat.zero_add _).symm,
    ← ld2 x11 (o0 := 2) (o1 := 0) (a := 1) (b := 512) (by decide) 0 l 2 l rfl (Nat.zero_add _).symm]
  generalize k0_pay170 (l256 x5) (l256 x6) = Z
  pointwise [k0_pay172]
/-- The rows before, out of the buffer that holds them. -/
theorem zbuf_at {sig : RefSig} {κ : Kind} {sp : Space} (v : View sig κ sp S264x512 .f32) (f) (P : S256x512.Idx → EReal) (L)
    (tl : Fin 8 → Fin 512 → EReal) (hP : ∀ r l, P (ix2 r l) = zin x5 x6 r l)
    (hT : ∀ (e : Fin 8) l, v.read (Elt Ideal) (v.writes (Elt Ideal) f L) (ix2 ⟨e.val, by omega⟩ l) = tl e l) (s : ℕ) (hs : s ≤ 2)
    (i8) (r : Fin 256) (l : Fin 512) :
    v.read (Elt Ideal) (v.writes (Elt Ideal) f (⟨Rect.unit ![8, 0] ![256, 512] i8, P⟩ :: L)) (ix2 ⟨8 - s + r.val, by omega⟩ l)
      = back x5 x6 tl s hs r l := by
  unfold back
  split
  · exact (skip2 _ _ _ _ _ _ _).trans (hT ⟨8 - s + r.val, by omega⟩ l)
  · exact (take2 _ _ _ _ _ _ _ ⟨r.val - s, by omega⟩ l).trans (hP _ _)

/-- The last rows of the tile, out of the same buffer. -/
theorem last_at {sig : RefSig} {κ : Kind} {sp : Space} (v : View sig κ sp S264x512 .f32) (f) (P : S256x512.Idx → EReal) (L)
    (hP : ∀ r l, P (ix2 r l) = zin x5 x6 r l) (i8) (e : Fin 8) (l : Fin 512) :
    v.read (Elt Ideal) (v.writes (Elt Ideal) f (⟨Rect.unit ![8, 0] ![256, 512] i8, P⟩ :: L)) (ix2 ⟨256 + e.val, by omega⟩ l)
      = zin x5 x6 ⟨248 + e.val, by omega⟩ l :=
  (take2 _ _ _ _ _ _ _ ⟨248 + e.val, by omega⟩ l).trans (hP _ _)
end

variable (m : (ℓ : Loc nD τ sig) → Buf (Elt Ideal) ℓ)
set_option maxHeartbeats 1000000

theorem listA (c : Dev nD) (t : Fin cfg0.N) (h0 : t.val % 8 = 0) : ∃ R, (outsAt0 m c t.val t.isLt).1
    = VO0_16.read (Elt Ideal) (VO0_16.writes (Elt Ideal) VO0_16.junk (gatePieces (iblk m c 7 t) (iblk m c 8 t) (iblk m c 12 t) (iblk m c 13 t) (iblk m c 14 t) (iblk m c 15 t) ++ R)) := by
  rw [outsAt0_A m c t h0]
  apply Exists.intro
  dsimp only
  unfold out0_A_16 kernelRun0_A
  dsimp only
  sl_unfold_words
  simp only [View.readAt_eq_ld, (hs0_7 t).read_unread, (hs0_8 t).read_unread, (hs0_12 t).read_unread, (hs0_13 t).read_unread, (hs0_14 t).read_unread, (hs0_15 t).read_unread]
  exact rfl

theorem convA (c : Dev nD) (t : Fin cfg0.N) (h0 : t.val % 8 = 0) (r : Fin 256) (l : Fin 512) :
    (outsAt0 m c t.val t.isLt).1 (ix2 r ⟨512 + l.val, by omega⟩) = cY (iblk m c 4 t) (iblk m c 5 t) (iblk m c 6 t) (iblk m c 11 t) (fun _ _ => 0) r l := by
  rw [outsAt0_A m c t h0]
  dsimp only
  unfold out0_A_16 kernelRun0_A
  dsimp only
  iterate 8 refine (skip2 _ _ _ _ _ _ _).trans ?_
  refine (take2 _ _ _ _ _ _ _ r l).trans ?_
  sl_unfold_words
  simp only [View.readAt_eq_ld, (hs0_4 t).read_unread, (hs0_5 t).read_unread, (hs0_6 t).read_unread, (hs0_11 t).read_unread]
  refine conv_of _ _ _ _ _ _ _ r l ?_ ?_
  · refine (cov2 _ _ _ r l ⟨8 - 2 + r.val, by omega⟩ l).trans ?_
    exact zbuf_at _ _ _ _ _ _ _ (zS_at _ _) (fun e l => (take2 _ _ _ _ _ _ _ e l).trans (zero8_at e l)) 2 (by decide) _ r l
  · refine (cov2 _ _ _ r l ⟨8 - 1 + r.val, by omega⟩ l).trans ?_
    exact zbuf_at _ _ _ _ _ _ _ (zS_at _ _) (fun e l => (take2 _ _ _ _ _ _ _ e l).trans (zero8_at e l)) 1 (by decide) _ r l

theorem handA (c : Dev nD) (t : Fin cfg0.N) (h0 : t.val % 8 = 0) (e : Fin 8) (l : Fin 512) :
    (outsAt0 m c t.val t.isLt).2.2.2.2 (ix2 ⟨e.val, by omega⟩ l) = zin (iblk m c 5 t) (iblk m c 6 t) ⟨248 + e.val, by omega⟩ l := by
  rw [outsAt0_A m c t h0]
  dsimp only
  unfold sout0_A_1 kernelRun0_A
  dsimp only
  refine (take2 _ _ _ _ _ _ _ e l).trans ?_
  sl_unfold_words
  simp only [View.readAt_eq_ld, (hs0_5 t).read_unread, (hs0_6 t).read_unread]
  refine (id8_at _ e l).trans ?_
  refine (cov2 _ _ _ e l ⟨256 + e.val, by omega⟩ l).trans ?_
  exact last_at _ _ _ _ _ _ (zS_at _ _) _ e l

theorem listB (c : Dev nD) (t : Fin cfg0.N) (h0 : ¬t.val % 8 = 0) : ∃ R, (outsAt0 m c t.val t.isLt).1
    = VO0_16.read (Elt Ideal) (VO0_16.writes (Elt Ideal) VO0_16.junk (gatePieces (iblk m c 7 t) (iblk m c 8 t) (iblk m c 12 t) (iblk m c 13 t) (iblk m c 14 t) (iblk m c 15 t) ++ R)) := by
  rw [outsAt0_B m c t h0]
  apply Exists.intro
  dsimp only
  unfold out0_B_16 kernelRun0_B
  dsimp only
  sl_unfold_words
  simp only [View.readAt_eq_ld, (hs0_7 t).read_unread, (hs0_8 t).read_unread, (hs0_12 t).read_unread, (hs0_13 t).read_unread, (hs0_14 t).read_unread, (hs0_15 t).read_unread]
  exact rfl

/-- The rows the point before hands on. -/
def prevOf (c : Dev nD) (t : Fin cfg0.N) (e : Fin 8) (l : Fin 512) : EReal :=
  (outsAt0 m c (t.val - 1) (by omega)).2.2.2.2 (ix2 ⟨e.val, by omega⟩ l)

theorem convB (c : Dev nD) (t : Fin cfg0.N) (h0 : ¬t.val % 8 = 0) (r : Fin 256) (l : Fin 512) :
    (outsAt0 m c t.val t.isLt).1 (ix2 r ⟨512 + l.val, by omega⟩) = cY (iblk m c 4 t) (iblk m c 5 t) (iblk m c 6 t) (iblk m c 11 t) (prevOf m c t) r l := by
  rw [outsAt0_B m c t h0]
  dsimp only
  unfold out0_B_16 kernelRun0_B
  dsimp only
  iterate 8 refine (skip2 _ _ _ _ _ _ _).trans ?_
  refine (take2 _ _ _ _ _ _ _ r l).trans ?_
  sl_unfold_words
  simp only [View.readAt_eq_ld, (hs0_4 t).read_unread, (hs0_5 t).read_unread, (hs0_6 t).read_unread, (hs0_11 t).read_unread]
  refine conv_of _ _ _ _ _ _ _ r l ?_ ?_
  · refine (ld2 _ _ r l ⟨8 - 2 + r.val, by omega⟩ l).trans ?_
    exact zbuf_at _ _ _ _ _ _ _ (zS_at _ _) (fun e l => congrFun (Memref.IsWhole.read_unread _ _) _) 2 (by decide) _ r l
  · refine (ld2 _ _ r l ⟨8 - 1 + r.val, by omega⟩ l).trans ?_
    exact zbuf_at _ _ _ _ _ _ _ (zS_at _ _) (fun e l => congrFun (Memref.IsWhole.read_unread _ _) _) 1 (by decide) _ r l

theorem handB (c : Dev nD) (t : Fin cfg0.N) (h0 : ¬t.val % 8 = 0) (e : Fin 8) (l : Fin 512) :
    (outsAt0 m c t.val t.isLt).2.2.2.2 (ix2 ⟨e.val, by omega⟩ l) = zin (iblk m c 5 t) (iblk m c 6 t) ⟨248 + e.val, by omega⟩ l := by
  rw [outsAt0_B m c t h0]
  dsimp only
  unfold sout0_B_1 kernelRun0_B
  dsimp only
  refine (take2 _ _ _ _ _ _ _ e l).trans ?_
  sl_unfold_words
  simp only [View.readAt_eq_ld, (hs0_5 t).read_unread, (hs0_6 t).read_unread]
  refine (id8_at _ e l).trans ?_
  refine (ld2 _ _ e l ⟨256 + e.val, by omega⟩ l).trans ?_
  exact last_at _ _ _ _ _ _ (zS_at _ _) _ e l

end Cert.Proof.MxfSt

end
-- ==== Proof.HgRun.lean ====
/-
  The gated recurrence of the forward mixer at a grid point: the states its body writes, and the gated columns it stores,
  each in the words of the state read before.
-/
module

public import proofs.«01_k».proof.Proof.MxfSt
public import proofs.«01_k».proof.Proof.HgPay

@[expose] public section

set_option maxRecDepth 65536

noncomputable section

namespace Cert.Proof.HgRun

open Idealize.ShloMosaic Idealize.ShloMosaic.TcCoe Idealize.ShloMosaic.Tactic
open MxfBlk Rects HgPay MxfKernelIdeal MxfKernelIdeal.Gen
open scoped BigOperators

abbrev St := FVec Ideal S1x128x128 .f32

theorem inbC (k : Fin 4) : ∀ i, (![64 * k.val, 0] : Fin 2 → ℕ) i + (![64, 512] : Fin 2 → ℕ) i ≤ S256x512.size i := by
  revert k; decide
theorem inbS (h : Fin 4) : ∀ i, (![h.val, 0, 0] : Fin 3 → ℕ) i + (![1, 128, 128] : Fin 3 → ℕ) i ≤ S4x128x128.size i := by
  revert h; decide
theorem slB (h : Fin 4) : S64x512.Slices ![0, 128 * h.val] S64x128 := by revert h; decide
theorem slE (h : Fin 4) : S1x512.Slices ![0, 128 * h.val] S1x128 := by revert h; decide

def rS (h : Fin 4) : Rect S4x128x128 := Rect.unit ![h.val, 0, 0] ![1, 128, 128] (inbS h)
def rC (k : Fin 4) : Rect S256x512 := Rect.unit ![64 * k.val, 0] ![64, 512] (inbC k)
def r1 : Rect S1x512 := Rect.unit ![0, 0] ![1, 512] inb_S1x512_S1x512_0_0

section
variable (X0 X1 X2 X3 : Fin 4 → Blk) (Y9 Y10 : FVec Ideal S1x512 .f32)
def bB (k : Fin 4) : Blk := bW Y9 (X1 k)
def kkB (k : Fin 4) : Blk := k0_pay13 (k0_pay4 Y9) (X1 k)
def blB (k : Fin 4) : FVec Ideal S1x512 .f32 := blW (bB X1 Y9 k)
def vB (k : Fin 4) : FVec Ideal S64x512 .bf16 := truncf .bf16 (X2 k) bitsLt_bf16_f32
def sl {φ : FTy} (h : Fin 4) (x : FVec Ideal S64x512 φ) : FVec Ideal S64x128 φ := extractStridedSlice S64x128 ![0, 128 * h.val] x (slB h)
def se (h : Fin 4) (x : FVec Ideal S1x512 .f32) : FVec Ideal S1x128 .f32 := extractStridedSlice S1x128 ![0, 128 * h.val] x (slE h)
def nxt (k h : Fin 4) (S : St) : St := stn (se h (exp (blB X1 Y9 k))) (sl h (vB X2 k)) (sl h (kdW (kkB X1 Y9 k) (bB X1 Y9 k) (blB X1 Y9 k))) S
def oB (k h : Fin 4) (S : St) : FVec Ideal S64x128 .bf16 :=
  gat (att (sl h (qbW (X0 k) (bB X1 Y9 k))) (sl h (kbW (kkB X1 Y9 k) (bB X1 Y9 k))) (sl h (vB X2 k)) S) (se h (k0_pay5 Y10)) (sl h (k0_pay22 (X3 k)))
end

def nk (n : ℕ) : Fin 4 := ⟨n / 4 % 4, Nat.mod_lt _ (by decide)⟩
def nh (n : ℕ) : Fin 4 := ⟨n % 4, Nat.mod_lt _ (by decide)⟩

section
variable (c : Dev nD) (arg2 : Memref sig .tc .vmem S256x512 .f32) (harg2 : arg2.IsWhole) (arg3 : Memref sig .tc .vmem S256x512 .f32) (harg3 : arg3.IsWhole)
  (arg10 : Memref sig .tc .vmem S1x512 .f32) (harg10 : arg10.IsWhole) (arg20 : Memref sig .tc .vmem S4x128x128 .f32) (harg20 : arg20.IsWhole)
  (x1 x2 : Vec Ideal S256x512 .f32) (x9 : Vec Ideal S1x512 .f32) (xs0 : Vec Ideal S4x128x128 .f32)

/-- A tile's block of rows, as read. -/
def rdC (a : Memref sig .tc .vmem S256x512 .f32) (ha : a.IsWhole) (x : Vec Ideal S256x512 .f32) (k : Fin 4) : Blk :=
  View.readAt (Elt Ideal) a.view (rC k).toLoadRect (ha.unread x)
def rd1 (a : Memref sig .tc .vmem S1x512 .f32) (ha : a.IsWhole) (x : Vec Ideal S1x512 .f32) : FVec Ideal S1x512 .f32 :=
  View.readAt (Elt Ideal) a.view r1.toLoadRect (ha.unread x)
def rdS (h : Fin 4) : St := View.readAt (Elt Ideal) arg20.view (rS h).toLoadRect (harg20.unread xs0)

abbrev Lst := List (View.Piece (Elt Ideal) S4x128x128 .f32)
/-- The piece a head of a chunk stores, of the state it read. -/
abbrev pc (n : ℕ) (S : St) : View.Piece (Elt Ideal) S4x128x128 .f32 :=
  ⟨rS (nh n), nxt (rdC arg2 harg2 x1) (rdC arg3 harg3 x2) (rd1 arg10 harg10 x9) (nk n) (nh n) S⟩
abbrev cov (n : ℕ) (L : Lst) : St := arg20.view.readCov L (rS (nh n)).toLoadRect

local notation "pcT" => pc arg2 harg2 arg3 harg3 arg10 harg10 x1 x2 x9
local notation "at[" f "]" => f c arg2 harg2 arg3 harg3 arg10 harg10 arg20 harg20 x1 x2 x9 xs0
local notation "at0[" f "]" => f c arg2 harg2 arg3 harg3 arg10 harg10 arg20 x1 x2 x9

/-- The states' pieces of a later tile, after so many heads of chunks. -/
def lB : ℕ → Lst
  | 0 => []
  | 1 => [pcT 0 (rdS arg20 harg20 xs0 0)]
  | 2 => [pcT 1 (rdS arg20 harg20 xs0 1), pcT 0 (rdS arg20 harg20 xs0 0)]
  | 3 => [pcT 2 (rdS arg20 harg20 xs0 2), pcT 1 (rdS arg20 harg20 xs0 1), pcT 0 (rdS arg20 harg20 xs0 0)]
  | 4 => at[kernelRun0_B.sl.HS0_4]
  | 5 => at[kernelRun0_B.sl.HS0_5]
  | 6 => at[kernelRun0_B.sl.HS0_6]
  | 7 => at[kernelRun0_B.sl.HS0_7]
  | 8 => at[kernelRun0_B.sl.HS0_8]
  | 9 => at[kernelRun0_B.sl.HS0_9]
  | 10 => at[kernelRun0_B.sl.HS0_10]
  | 11 => at[kernelRun0_B.sl.HS0_11]
  | 12 => at[kernelRun0_B.sl.HS0_12]
  | 13 => at[kernelRun0_B.sl.HS0_13]
  | 14 => at[kernelRun0_B.sl.HS0_14]
  | 15 => at[kernelRun0_B.sl.HS0_15]
  | _ => pcT 15 (cov arg20 15 (at[kernelRun0_B.sl.HS0_15])) :: at[kernelRun0_B.sl.HS0_15]
/-- What each head of a chunk reads there. -/
def sB (n : ℕ) : St := if n < 4 then rdS arg20 harg20 xs0 (nh n) else cov arg20 n (at[lB] n)
theorem lB_step (n : ℕ) (hn : n < 16) : at[lB] (n + 1) = pcT n (at[sB] n) :: at[lB] n := by
  interval_cases n <;> exact rfl

/-- The states' pieces of a sequence's first tile. -/
def lA : ℕ → Lst
  | 0 => kernelRun0_A.sl.HS0_1
  | 1 => at0[kernelRun0_A.sl.HS0_2]
  | 2 => at0[kernelRun0_A.sl.HS0_3]
  | 3 => at0[kernelRun0_A.sl.HS0_4]
  | 4 => at0[kernelRun0_A.sl.HS0_5]
  | 5 => at0[kernelRun0_A.sl.HS0_6]
  | 6 => at0[kernelRun0_A.sl.HS0_7]
  | 7 => at0[kernelRun0_A.sl.HS0_8]
  | 8 => at0[kernelRun0_A.sl.HS0_9]
  | 9 => at0[kernelRun0_A.sl.HS0_10]
  | 10 => at0[kernelRun0_A.sl.HS0_11]
  | 11 => at0[kernelRun0_A.sl.HS0_12]
  | 12 => at0[kernelRun0_A.sl.HS0_13]
  | 13 => at0[kernelRun0_A.sl.HS0_14]
  | 14 => at0[kernelRun0_A.sl.HS0_15]
  | 15 => at0[kernelRun0_A.sl.HS0_16]
  | _ => pcT 15 (cov arg20 15 (at0[kernelRun0_A.sl.HS0_16])) :: at0[kernelRun0_A.sl.HS0_16]
def sA (n : ℕ) : St := cov arg20 n (at0[lA] n)
theorem lA_step (n : ℕ) (hn : n < 16) : at0[lA] (n + 1) = pcT n (at0[sA] n) :: at0[lA] n := by
  interval_cases n <;> exact rfl
end

variable (m : (ℓ : Loc nD τ sig) → Buf (Elt Ideal) ℓ)
/-- The state the point before hands on. -/
def pS (c : Dev nD) (t : Fin cfg0.N) : Vec Ideal S4x128x128 .f32 := (outsAt0 m c (t.val - 1) (by omega)).2.2.2.1
/-- The states' pieces at a grid point, and what each head of a chunk reads. -/
def lT (c : Dev nD) (t : Fin cfg0.N) : ℕ → Lst :=
  if t.val % 8 = 0 then lA c (ms0_1 t) (hs0_1 t) (ms0_2 t) (hs0_2 t) (ms0_9 t) (hs0_9 t) scM0_0 (iblk m c 1 t) (iblk m c 2 t) (iblk m c 9 t)
  else lB c (ms0_1 t) (hs0_1 t) (ms0_2 t) (hs0_2 t) (ms0_9 t) (hs0_9 t) scM0_0 (Memref.isWhole_whole _) (iblk m c 1 t) (iblk m c 2 t) (iblk m c 9 t) (pS m c t)
def sT (c : Dev nD) (t : Fin cfg0.N) : ℕ → St :=
  if t.val % 8 = 0 then sA c (ms0_1 t) (hs0_1 t) (ms0_2 t) (hs0_2 t) (ms0_9 t) (hs0_9 t) scM0_0 (iblk m c 1 t) (iblk m c 2 t) (iblk m c 9 t)
  else sB c (ms0_1 t) (hs0_1 t) (ms0_2 t) (hs0_2 t) (ms0_9 t) (hs0_9 t) scM0_0 (Memref.isWhole_whole _) (iblk m c 1 t) (iblk m c 2 t) (iblk m c 9 t) (pS m c t)

theorem st_out (c : Dev nD) (t : Fin cfg0.N) : (outsAt0 m c t.val t.isLt).2.2.2.1
    = VS0_0.read (Elt Ideal) (VS0_0.writes (Elt Ideal) VS0_0.junk (lT m c t 16)) := by
  unfold lT
  split
  next h0 =>
    rw [outsAt0_A m c t h0]
    dsimp only
    unfold sout0_A_0 kernelRun0_A
    dsimp only
    exact rfl
  next h0 =>
    rw [outsAt0_B m c t h0]
    dsimp only
    unfold sout0_B_0 kernelRun0_B
    dsimp only
    exact rfl

theorem inbZ (k h : Fin 4) : ∀ i, (![64 * k.val, 128 * h.val] : Fin 2 → ℕ) i + (![64, 128] : Fin 2 → ℕ) i ≤ S256x1536.size i := by
  revert k h; decide
/-- The stored outputs of the heads of chunks. -/
def zL (c : Dev nD) (t : Fin cfg0.N) (S : ℕ → St) : ℕ → List (View.Piece (Elt Ideal) S256x1536 .bf16)
  | 0 => []
  | n + 1 => ⟨Rect.unit ![64 * (nk n).val, 128 * (nh n).val] ![64, 128] (inbZ (nk n) (nh n)),
      oB (rdC (ms0_0 t) (hs0_0 t) (iblk m c 0 t)) (rdC (ms0_1 t) (hs0_1 t) (iblk m c 1 t)) (rdC (ms0_2 t) (hs0_2 t) (iblk m c 2 t)) (rdC (ms0_3 t) (hs0_3 t) (iblk m c 3 t))
        (rd1 (ms0_9 t) (hs0_9 t) (iblk m c 9 t)) (rd1 (ms0_10 t) (hs0_10 t) (iblk m c 10 t)) (nk n) (nh n) (S n)⟩ :: zL c t S n

theorem z_out (c : Dev nD) (t : Fin cfg0.N) (r : Fin 256) (l : Fin 512) : (outsAt0 m c t.val t.isLt).1 (ix2 r ⟨l.val, by omega⟩)
    = VO0_16.read (Elt Ideal) (VO0_16.writes (Elt Ideal) VO0_16.junk (zL m c t (sT m c t) 16)) (ix2 r ⟨l.val, by omega⟩) := by
  unfold sT
  split
  next h0 =>
    rw [outsAt0_A m c t h0]
    dsimp only
    unfold out0_A_16 kernelRun0_A
    dsimp only
    iterate 9 refine (skip2 _ _ _ _ _ _ _).trans ?_
    exact rfl
  next h0 =>
    rw [outsAt0_B m c t h0]
    dsimp only
    unfold out0_B_16 kernelRun0_B
    dsimp only
    iterate 9 refine (skip2 _ _ _ _ _ _ _).trans ?_
    exact rfl
end Cert.Proof.HgRun

end
-- ==== Proof.MxfRun.lean ====
/-
  The forward mixer's gated blocks in terms of its arguments, and the array they end in.
-/
module

public import proofs.«01_k».proof.Proof.Blocks
public import proofs.«01_k».proof.Proof.MxfSt

@[expose] public section

set_option maxRecDepth 16384

noncomputable section

namespace Cert.Proof.MxfRun

open Blocks Idealize.ShloMosaic Idealize.ShloMosaic.TcCoe Sg MxfBlk MxfSt MxfKernelIdeal MxfKernelIdeal.Gen MxfKernelIdeal.Value
open scoped BigOperators

/-! ## The results, from the arguments -/

/-- Row `j` of chunk `n`. -/
def row (n : Fin 16) (j : Fin 128) : Fin 2048 := ⟨128 * n.val + j.val, by omega⟩

section Spec
variable (p : FVec Ideal S2048x4608 .f32) (kc : FVec Ideal S3x512 .f32)

/-- The convolution's input. -/
def zc (R : Fin 2048) (l : Fin 512) : EReal := p (ix2 R ⟨2560 + l.val, by omega⟩) * p (ix2 R ⟨3072 + l.val, by omega⟩)
/-- The input `s` rows before, zero before the first row. -/
def zb (s : ℕ) (R : Fin 2048) (l : Fin 512) : EReal := if s ≤ R.val then zc p ⟨R.val - s, by omega⟩ l else 0
/-- The gated convolution. -/
def outC (R : Fin 2048) (l : Fin 512) : EReal :=
  p (ix2 R ⟨2048 + l.val, by omega⟩) * ((kc (ix2 0 l) * zb p 2 R l + kc (ix2 1 l) * zb p 1 R l) + kc (ix2 2 l) * zc p R l)

variable (lg lb : FVec Ideal S512 .f32) (ws : FVec Ideal S4x128x128 .f32) (bs : FVec Ideal S4x128 .f32)

/-- A row of the second gate, activated and normalised. -/
def nrow (R : Fin 2048) (l : Fin 512) : EReal :=
  ln (fun l => fg (p (ix2 R ⟨4096 + l.val, by omega⟩))) (fun l => lg (ix1 l)) (fun l => lb (ix1 l)) l
/-- The spatially gated rows. -/
def outS (n : Fin 16) (j : Fin 128) (g : Fin 4) (d : Fin 128) : EReal :=
  fg (p (ix2 (row n j) ⟨3584 + (col g d).val, by omega⟩))
    * ((∑ k : Fin 128, low j k (ws (ix3 g j k)) * nrow p lg lb (row n k) (col g d)) + bs (ix2 g j))
end Spec

variable (m : (ℓ : Loc nD τ sig) → Buf (Elt Ideal) ℓ) (c : Dev nD)

abbrev ap : FVec Ideal S2048x4608 .f32 := m ((c : Thread nD τ).loc main_arg0)
abbrev awc : FVec Ideal S3x512 .f32 := m ((c : Thread nD τ).loc main_arg3)
abbrev alg : FVec Ideal S512 .f32 := m ((c : Thread nD τ).loc main_arg4)
abbrev alb : FVec Ideal S512 .f32 := m ((c : Thread nD τ).loc main_arg5)
abbrev aws : FVec Ideal S4x128x128 .f32 := m ((c : Thread nD τ).loc main_arg6)
abbrev abs' : FVec Ideal S4x128 .f32 := m ((c : Thread nD τ).loc main_arg7)

/-- Row `r` of tile `t`. -/
def Rw (t : Fin cfg0.N) (r : Fin 256) : Fin 2048 := ⟨256 * t.val + r.val, by have hN : cfg0.N = 8 := N_0; omega⟩
/-- Chunk `h` of tile `t`. -/
def Ch (t : Fin cfg0.N) (h : Fin 2) : Fin 16 := ⟨2 * t.val + h.val, by have hN : cfg0.N = 8 := N_0; omega⟩
theorem Rw_row (t : Fin cfg0.N) (h : Fin 2) (j : Fin 128) : Rw t ⟨128 * h.val + j.val, by omega⟩ = row (Ch t h) j :=
  Fin.ext (by show 256 * t.val + (128 * h.val + j.val) = 128 * (2 * t.val + h.val) + j.val; omega)

theorem bcast_at (g : FVec Ideal S512 .f32) (l : Fin 512) : broadcastInDim S1x512 ![1] bcast_S512_S1x512_1 g (ix2 0 l) = g (ix1 l) := by
  pointwise []
theorem trans_at (b : FVec Ideal S4x128 .f32) (j : Fin 128) (g : Fin 4) : transpose S128x4 [1, 0] b transposes_S4x128_S128x4_1_0 (ix2 j g) = b (ix2 g j) := by
  pointwise []
theorem V_v2 : V m c main_v2 = broadcastInDim S1x512 ![1] bcast_S512_S1x512_1 (alg m c) := by
  unfold_abbrev_sides
  after_results
theorem V_v3 : V m c main_v3 = broadcastInDim S1x512 ![1] bcast_S512_S1x512_1 (alb m c) := by
  unfold_abbrev_sides
  after_results
theorem V_v4 : V m c main_v4 = transpose S128x4 [1, 0] (abs' m c) transposes_S4x128_S128x4_1_0 := by
  unfold_abbrev_sides
  after_results

theorem index4 : ∀ t : Fin cfg0.N, win0_4.index t 0 = t.val ∧ win0_4.index t 1 = 4 := by decide +kernel
theorem iblk4 (t : Fin cfg0.N) (r : Fin 256) (l : Fin 512) : iblk m c 4 t (ix2 r l) = ap m c (ix2 (Rw t r) ⟨2048 + l.val, by omega⟩) :=
  (congrArg (V m c main_arg0) (emb_block (index4 t) r l _ _)).trans (congrFun (V_main_arg0 m c) _)
theorem index5 : ∀ t : Fin cfg0.N, win0_5.index t 0 = t.val ∧ win0_5.index t 1 = 5 := by decide +kernel
theorem iblk5 (t : Fin cfg0.N) (r : Fin 256) (l : Fin 512) : iblk m c 5 t (ix2 r l) = ap m c (ix2 (Rw t r) ⟨2560 + l.val, by omega⟩) :=
  (congrArg (V m c main_arg0) (emb_block (index5 t) r l _ _)).trans (congrFun (V_main_arg0 m c) _)
theorem index6 : ∀ t : Fin cfg0.N, win0_6.index t 0 = t.val ∧ win0_6.index t 1 = 6 := by decide +kernel
theorem iblk6 (t : Fin cfg0.N) (r : Fin 256) (l : Fin 512) : iblk m c 6 t (ix2 r l) = ap m c (ix2 (Rw t r) ⟨3072 + l.val, by omega⟩) :=
  (congrArg (V m c main_arg0) (emb_block (index6 t) r l _ _)).trans (congrFun (V_main_arg0 m c) _)
theorem index7 : ∀ t : Fin cfg0.N, win0_7.index t 0 = t.val ∧ win0_7.index t 1 = 7 := by decide +kernel
theorem iblk7 (t : Fin cfg0.N) (r : Fin 256) (l : Fin 512) : iblk m c 7 t (ix2 r l) = ap m c (ix2 (Rw t r) ⟨3584 + l.val, by omega⟩) :=
  (congrArg (V m c main_arg0) (emb_block (index7 t) r l _ _)).trans (congrFun (V_main_arg0 m c) _)
theorem index8 : ∀ t : Fin cfg0.N, win0_8.index t 0 = t.val ∧ win0_8.index t 1 = 8 := by decide +kernel
theorem iblk8 (t : Fin cfg0.N) (r : Fin 256) (l : Fin 512) : iblk m c 8 t (ix2 r l) = ap m c (ix2 (Rw t r) ⟨4096 + l.val, by omega⟩) :=
  (congrArg (V m c main_arg0) (emb_block (index8 t) r l _ _)).trans (congrFun (V_main_arg0 m c) _)
theorem index11 : ∀ t : Fin cfg0.N, win0_11.index t 0 = 0 ∧ win0_11.index t 1 = 0 := by decide +kernel
theorem iblk11 (t : Fin cfg0.N) (r : Fin 3) (l : Fin 512) : iblk m c 11 t (ix2 r l) = awc m c (ix2 r l) :=
  (congrArg (V m c main_arg3) (emb_block (index11 t) r l _ _)).trans (congrFun (V_main_arg3 m c) _)
theorem index12 : ∀ t : Fin cfg0.N, win0_12.index t 0 = 0 ∧ win0_12.index t 1 = 0 := by decide +kernel
theorem iblk12 (t : Fin cfg0.N) (l : Fin 512) : iblk m c 12 t (ix2 0 l) = alg m c (ix1 l) :=
  (congrArg (V m c main_v2) (emb_block (index12 t) 0 l _ _)).trans ((congrFun (V_v2 m c) _).trans (bcast_at _ _))
theorem index13 : ∀ t : Fin cfg0.N, win0_13.index t 0 = 0 ∧ win0_13.index t 1 = 0 := by decide +kernel
theorem iblk13 (t : Fin cfg0.N) (l : Fin 512) : iblk m c 13 t (ix2 0 l) = alb m c (ix1 l) :=
  (congrArg (V m c main_v3) (emb_block (index13 t) 0 l _ _)).trans ((congrFun (V_v3 m c) _).trans (bcast_at _ _))
theorem index15 : ∀ t : Fin cfg0.N, win0_15.index t 0 = 0 ∧ win0_15.index t 1 = 0 := by decide +kernel
theorem iblk15 (t : Fin cfg0.N) (r : Fin 128) (l : Fin 4) : iblk m c 15 t (ix2 r l) = abs' m c (ix2 l r) :=
  (congrArg (V m c main_v4) (emb_block (index15 t) r l _ _)).trans ((congrFun (V_v4 m c) _).trans (trans_at _ _ _))
theorem index14 : ∀ t : Fin cfg0.N, win0_14.index t 0 = 0 ∧ win0_14.index t 1 = 0 ∧ win0_14.index t 2 = 0 := by decide +kernel
theorem iblk14 (t : Fin cfg0.N) (g : Fin 4) (j k : Fin 128) : iblk m c 14 t (ix3 g j k) = aws m c (ix3 g j k) := by
  have hi := index14 t
  unfold iblk
  rw [View.read_apply]
  have hV := V_main_arg6 m c
  generalize V m c = W at hV ⊢
  show W main_arg6 _ = _
  rw [hV]
  congr 1
  funext a
  apply Fin.ext
  match a with
  | ⟨0, _⟩ => show win0_14.index t 0 * 4 + 1 * g.val = g.val; rw [hi.1]; omega
  | ⟨1, _⟩ => show win0_14.index t 1 * 128 + 1 * j.val = j.val; rw [hi.2.1]; omega
  | ⟨2, _⟩ => show win0_14.index t 2 * 128 + 1 * k.val = k.val; rw [hi.2.2]; omega

/-! ## The blocks -/

theorem gate_block (t : Fin cfg0.N) (h : Fin 2) (g : Fin 4) (j d : Fin 128) :
    (outsAt0 m c t.val t.isLt).1 (ix2 ⟨128 * h.val + j.val, by omega⟩ ⟨1024 + (col g d).val, by omega⟩)
      = outS (ap m c) (alg m c) (alb m c) (aws m c) (abs' m c) (Ch t h) j g d := by
  have e : gz (iblk m c 7 t) (iblk m c 8 t) (iblk m c 12 t) (iblk m c 13 t) (iblk m c 14 t) (iblk m c 15 t) h g j d
      = outS (ap m c) (alg m c) (alb m c) (aws m c) (abs' m c) (Ch t h) j g d := by
    unfold gz outS nrow
    simp only [iblk7, iblk8, iblk12, iblk13, iblk14, iblk15, Rw_row]
  by_cases h0 : t.val % 8 = 0
  · obtain ⟨R, hR⟩ := listA m c t h0
    rw [hR]
    exact (gate_z _ _ _ _ _ _ _ _ _ h g j d).trans e
  · obtain ⟨R, hR⟩ := listB m c t h0
    rw [hR]
    exact (gate_z _ _ _ _ _ _ _ _ _ h g j d).trans e

theorem zin_at (t : Fin cfg0.N) (r : Fin 256) (l : Fin 512) : zin (iblk m c 5 t) (iblk m c 6 t) r l = zc (ap m c) (Rw t r) l := by
  unfold zin zc
  rw [iblk5, iblk6]

/-- The rows a point hands on are its tile's last. -/
theorem hand (t : Fin cfg0.N) (e : Fin 8) (l : Fin 512) :
    (outsAt0 m c t.val t.isLt).2.2.2.2 (ix2 ⟨e.val, by omega⟩ l) = zc (ap m c) (Rw t ⟨248 + e.val, by omega⟩) l := by
  rw [← zin_at]
  by_cases h0 : t.val % 8 = 0
  · exact handA m c t h0 e l
  · exact handB m c t h0 e l

theorem back_at (t : Fin cfg0.N) (tl : Fin 8 → Fin 512 → EReal) (s : ℕ) (hs : s ≤ 2) (r : Fin 256) (l : Fin 512)
    (htl : ∀ e : Fin 8, 8 ≤ e.val + s → tl e l = if s ≤ 256 * t.val + (e.val + s - 8) then zc (ap m c) ⟨256 * t.val + e.val - 8, by have hN : cfg0.N = 8 := N_0; omega⟩ l else 0) :
    back (iblk m c 5 t) (iblk m c 6 t) tl s hs r l = zb (ap m c) s (Rw t r) l := by
  unfold back zb
  split
  · rename_i h
    rw [htl _ (by show 8 ≤ 8 - s + r.val + s; omega)]
    have e1 : 256 * t.val + (8 - s + r.val + s - 8) = (Rw t r).val := by show _ = 256 * t.val + r.val; omega
    show (if s ≤ 256 * t.val + (8 - s + r.val + s - 8) then _ else _) = _
    rw [e1]
    by_cases hc : s ≤ (Rw t r).val
    · rw [if_pos hc, if_pos hc]
      exact congrArg (fun q => zc (ap m c) q l) (Fin.ext (by show 256 * t.val + (8 - s + r.val) - 8 = 256 * t.val + r.val - s; omega))
    · rw [if_neg hc, if_neg hc]
  · rename_i h
    rw [zin_at, if_pos (show s ≤ (Rw t r).val by show s ≤ 256 * t.val + r.val; omega)]
    exact congrArg (fun q => zc (ap m c) q l) (Fin.ext (by show 256 * t.val + (r.val - s) = 256 * t.val + r.val - s; omega))

theorem conv_block (t : Fin cfg0.N) (r : Fin 256) (l : Fin 512) :
    (outsAt0 m c t.val t.isLt).1 (ix2 r ⟨512 + l.val, by omega⟩) = outC (ap m c) (awc m c) (Rw t r) l := by
  have hN : cfg0.N = 8 := N_0
  have fin (tl : Fin 8 → Fin 512 → EReal)
      (htl : ∀ (s : ℕ), s ≤ 2 → ∀ e : Fin 8, 8 ≤ e.val + s → tl e l = if s ≤ 256 * t.val + (e.val + s - 8) then zc (ap m c) ⟨256 * t.val + e.val - 8, by omega⟩ l else 0) :
      cY (iblk m c 4 t) (iblk m c 5 t) (iblk m c 6 t) (iblk m c 11 t) tl r l = outC (ap m c) (awc m c) (Rw t r) l := by
    unfold cY outC
    rw [back_at m c t tl 2 le_rfl r l (htl 2 le_rfl), back_at m c t tl 1 (by decide) r l (htl 1 (by decide)), iblk4, iblk11, iblk11, iblk11, zin_at]
  by_cases h0 : t.val % 8 = 0
  · refine (convA m c t h0 r l).trans (fin _ fun s hs e he => ?_)
    rw [if_neg (by omega)]
  · refine (convB m c t h0 r l).trans (fin _ fun s hs e he => ?_)
    rw [if_pos (by omega)]
    exact (hand m c ⟨t.val - 1, by omega⟩ e l).trans (congrArg (fun q => zc (ap m c) q l) (Fin.ext (by show 256 * (t.val - 1) + (248 + e.val) = 256 * t.val + e.val - 8; omega)))

/-! ## The array -/

theorem array_at (t : Fin cfg0.N) (r : Fin 256) (q : Fin 1536) : G16 m c (ix2 (Rw t r) q) = (outsAt0 m c t.val t.isLt).1 (ix2 r q) := by
  have hN : cfg0.N = 8 := N_0
  have ht : pt16Of (ix2 (Rw t r) q) = t.val := by
    show 1 * ((256 * t.val + r.val) / 256 - 0) + 1 * (q.val / 1536 - 0) = t.val
    omega
  have hl : loc16Of (ix2 (Rw t r) q) = ix2 r q := by
    funext a
    apply Fin.ext
    match a with
    | ⟨0, _⟩ => show (256 * t.val + r.val) % 256 = r.val; omega
    | ⟨1, _⟩ => show q.val % 1536 = q.val; omega
  unfold G16
  rw [dif_pos (show pt16Of (ix2 (Rw t r) q) < cfg0.N by rw [ht]; exact t.isLt), hl, outsAt0_sweep]
  exact congrFun (congrArg Prod.fst (fold0_congr m c _ _ _ _ ht)) _

theorem tileOf (R : Fin 2048) : ∃ (t : Fin cfg0.N) (r : Fin 256), R = Rw t r :=
  ⟨⟨R.val / 256, by have hN : cfg0.N = 8 := N_0; omega⟩, ⟨R.val % 256, by omega⟩, Fin.ext (by show R.val = 256 * (R.val / 256) + R.val % 256; omega)⟩
theorem chunkOf (n : Fin 16) : ∃ (t : Fin cfg0.N) (h : Fin 2), n = Ch t h :=
  ⟨⟨n.val / 2, by have hN : cfg0.N = 8 := N_0; omega⟩, ⟨n.val % 2, by omega⟩, Fin.ext (by show n.val = 2 * (n.val / 2) + n.val % 2; omega)⟩

theorem conv_at (R : Fin 2048) (l : Fin 512) : G16 m c (ix2 R ⟨512 + l.val, by omega⟩) = outC (ap m c) (awc m c) R l := by
  obtain ⟨t, r, rfl⟩ := tileOf R
  rw [array_at, conv_block]
theorem gate_at (n : Fin 16) (j : Fin 128) (g : Fin 4) (d : Fin 128) :
    G16 m c (ix2 (row n j) ⟨1024 + (col g d).val, by omega⟩) = outS (ap m c) (alg m c) (alb m c) (aws m c) (abs' m c) n j g d := by
  obtain ⟨t, h, rfl⟩ := chunkOf n
  rw [← Rw_row, array_at, gate_block]

end Cert.Proof.MxfRun

end
-- ==== Proof.HgTile.lean ====
/-
  The gated recurrence of the forward mixer, tile by tile: the states it carries and the columns it stores, in the words of
  its arguments.
-/
module

public import proofs.«01_k».proof.Proof.HgRun
public import proofs.«01_k».proof.Proof.HgSpec
public import proofs.«01_k».proof.Proof.MxfRun

@[expose] public section

set_option maxRecDepth 16384

noncomputable section

namespace Cert.Proof.HgTile

open Idealize.ShloMosaic Idealize.ShloMosaic.TcCoe Idealize.ShloMosaic.Tactic
open Reals Sg Rects Blocks MxfBlk MxfRun HgPay HgRun HgSpec MxfKernelIdeal MxfKernelIdeal.Gen MxfKernelIdeal.Value
open scoped BigOperators

/-! ## What is read -/

theorem rdC_at (a : Memref sig .tc .vmem S256x512 .f32) (ha : a.IsWhole) (x : Vec Ideal S256x512 .f32) (k : Fin 4) (s : Fin 64) (q : Fin 512) :
    rdC a ha x k (ix2 s q) = x (ix2 ⟨64 * k.val + s.val, by omega⟩ q) := by
  unfold rdC
  rw [View.readAt_eq_ld, ha.read_unread]
  exact ld2 x (inbC k) s q _ q rfl (Nat.zero_add _).symm
theorem rd1_at (a : Memref sig .tc .vmem S1x512 .f32) (ha : a.IsWhole) (x : Vec Ideal S1x512 .f32) (q : Fin 512) : rd1 a ha x (ix2 0 q) = x (ix2 0 q) := by
  unfold rd1
  rw [View.readAt_eq_ld, ha.read_unread]
  exact ld2 x inb_S1x512_S1x512_0_0 0 q 0 q rfl (Nat.zero_add _).symm
theorem rdS_at (a : Memref sig .tc .vmem S4x128x128 .f32) (ha : a.IsWhole) (x : Vec Ideal S4x128x128 .f32) (h : Fin 4) (l d : Fin 128) : rdS a ha x h (ix3 0 l d) = x (ix3 h l d) := by
  unfold rdS
  rw [View.readAt_eq_ld, ha.read_unread]
  exact ld3 x (inbS h) 0 l d h l d rfl rfl rfl

variable (m : (ℓ : Loc nD τ sig) → Buf (Elt Ideal) ℓ) (c : Dev nD)

abbrev alo : FVec Ideal S512 .f32 := m ((c : Thread nD τ).loc main_arg1)
abbrev ago : FVec Ideal S512 .f32 := m ((c : Thread nD τ).loc main_arg2)
theorem V_v0 : V m c main_v0 = broadcastInDim S1x512 ![1] bcast_S512_S1x512_1 (alo m c) := by
  unfold_abbrev_sides
  after_results
theorem V_v1 : V m c main_v1 = broadcastInDim S1x512 ![1] bcast_S512_S1x512_1 (ago m c) := by
  unfold_abbrev_sides
  after_results

theorem index0 : ∀ t : Fin cfg0.N, win0_0.index t 0 = t.val ∧ win0_0.index t 1 = 0 := by decide +kernel
theorem iblk0 (t : Fin cfg0.N) (r : Fin 256) (l : Fin 512) : iblk m c 0 t (ix2 r l) = ap m c (ix2 (Rw t r) ⟨l.val, by omega⟩) :=
  (congrArg (V m c main_arg0) (emb_block (index0 t) r l _ _ rfl (by show l.val = 512 * 0 + l.val; omega))).trans (congrFun (V_main_arg0 m c) _)
theorem index1 : ∀ t : Fin cfg0.N, win0_1.index t 0 = t.val ∧ win0_1.index t 1 = 1 := by decide +kernel
theorem iblk1 (t : Fin cfg0.N) (r : Fin 256) (l : Fin 512) : iblk m c 1 t (ix2 r l) = ap m c (ix2 (Rw t r) ⟨512 + l.val, by omega⟩) :=
  (congrArg (V m c main_arg0) (emb_block (index1 t) r l _ _)).trans (congrFun (V_main_arg0 m c) _)
theorem index2 : ∀ t : Fin cfg0.N, win0_2.index t 0 = t.val ∧ win0_2.index t 1 = 2 := by decide +kernel
theorem iblk2 (t : Fin cfg0.N) (r : Fin 256) (l : Fin 512) : iblk m c 2 t (ix2 r l) = ap m c (ix2 (Rw t r) ⟨1024 + l.val, by omega⟩) :=
  (congrArg (V m c main_arg0) (emb_block (index2 t) r l _ _)).trans (congrFun (V_main_arg0 m c) _)
theorem index3 : ∀ t : Fin cfg0.N, win0_3.index t 0 = t.val ∧ win0_3.index t 1 = 3 := by decide +kernel
theorem iblk3 (t : Fin cfg0.N) (r : Fin 256) (l : Fin 512) : iblk m c 3 t (ix2 r l) = ap m c (ix2 (Rw t r) ⟨1536 + l.val, by omega⟩) :=
  (congrArg (V m c main_arg0) (emb_block (index3 t) r l _ _)).trans (congrFun (V_main_arg0 m c) _)
theorem index9 : ∀ t : Fin cfg0.N, win0_9.index t 0 = 0 ∧ win0_9.index t 1 = 0 := by decide +kernel
theorem iblk9 (t : Fin cfg0.N) (l : Fin 512) : iblk m c 9 t (ix2 0 l) = alo m c (ix1 l) :=
  (congrArg (V m c main_v0) (emb_block (index9 t) 0 l _ _)).trans ((congrFun (V_v0 m c) _).trans (bcast_at _ _))
theorem index10 : ∀ t : Fin cfg0.N, win0_10.index t 0 = 0 ∧ win0_10.index t 1 = 0 := by decide +kernel
theorem iblk10 (t : Fin cfg0.N) (l : Fin 512) : iblk m c 10 t (ix2 0 l) = ago m c (ix1 l) :=
  (congrArg (V m c main_v1) (emb_block (index10 t) 0 l _ _)).trans ((congrFun (V_v1 m c) _).trans (bcast_at _ _))

/-! ## One head of a chunk -/

theorem Rw_hrow (t : Fin cfg0.N) (k : Fin 4) (s : Fin 64) : Rw t ⟨64 * k.val + s.val, by omega⟩ = hrow (4 * t.val + k.val) s :=
  Fin.ext (by have hN : cfg0.N = 8 := N_0; show 256 * t.val + (64 * k.val + s.val) = (64 * (4 * t.val + k.val) + s.val) % 2048; omega)

section
variable (t : Fin cfg0.N) (k : Fin 4)
abbrev X0 : Fin 4 → Blk := rdC (ms0_0 t) (hs0_0 t) (iblk m c 0 t)
abbrev X1 : Fin 4 → Blk := rdC (ms0_1 t) (hs0_1 t) (iblk m c 1 t)
abbrev X2 : Fin 4 → Blk := rdC (ms0_2 t) (hs0_2 t) (iblk m c 2 t)
abbrev X3 : Fin 4 → Blk := rdC (ms0_3 t) (hs0_3 t) (iblk m c 3 t)
abbrev Y9 : FVec Ideal S1x512 .f32 := rd1 (ms0_9 t) (hs0_9 t) (iblk m c 9 t)
abbrev Y10 : FVec Ideal S1x512 .f32 := rd1 (ms0_10 t) (hs0_10 t) (iblk m c 10 t)

theorem X0_at (s : Fin 64) (q : Fin 512) : X0 m c t k (ix2 s q) = ap m c (ix2 (hrow (4 * t.val + k.val) s) ⟨q.val, by omega⟩) := by
  rw [X0, rdC_at, iblk0, Rw_hrow]
theorem X1_at (s : Fin 64) (q : Fin 512) : X1 m c t k (ix2 s q) = ap m c (ix2 (hrow (4 * t.val + k.val) s) ⟨512 + q.val, by omega⟩) := by
  rw [X1, rdC_at, iblk1, Rw_hrow]
theorem X2_at (s : Fin 64) (q : Fin 512) : X2 m c t k (ix2 s q) = ap m c (ix2 (hrow (4 * t.val + k.val) s) ⟨1024 + q.val, by omega⟩) := by
  rw [X2, rdC_at, iblk2, Rw_hrow]
theorem X3_at (s : Fin 64) (q : Fin 512) : X3 m c t k (ix2 s q) = ap m c (ix2 (hrow (4 * t.val + k.val) s) ⟨1536 + q.val, by omega⟩) := by
  rw [X3, rdC_at, iblk3, Rw_hrow]
theorem Y9_at (q : Fin 512) : Y9 m c t (ix2 0 q) = alo m c (ix1 q) := by rw [Y9, rd1_at, iblk9]
theorem Y10_at (q : Fin 512) : Y10 m c t (ix2 0 q) = ago m c (ix1 q) := by rw [Y10, rd1_at, iblk10]

theorem sl_at {φ : FTy} (h : Fin 4) (x : FVec Ideal S64x512 φ) (s : Fin 64) (d : Fin 128) : sl h x (ix2 s d) = x (ix2 s (col h d)) := by
  unfold sl
  refine congrArg x (funext fun a => Fin.ext ?_)
  match a with
  | ⟨0, _⟩ => show 0 + s.val = s.val; omega
  | ⟨1, _⟩ => rfl
theorem se_at (h : Fin 4) (x : FVec Ideal S1x512 .f32) (d : Fin 128) : se h x (ix2 0 d) = x (ix2 0 (col h d)) := by
  unfold se
  refine congrArg x (funext fun a => Fin.ext ?_)
  match a with
  | ⟨0, _⟩ => rfl
  | ⟨1, _⟩ => rfl

variable (hb : ∀ q, IsR (alo m c (ix1 q)))
include hb
theorem bB_at (s : Fin 64) (q : Fin 512) : bB (X1 m c t) (Y9 m c t) k (ix2 s q) = bR (ap m c) (alo m c) (4 * t.val + k.val) s q := by
  unfold bB
  rw [b_at _ _ _ _ (by rw [Y9_at]; exact hb q)]
  unfold bR lfR
  simp only [Y9_at, X1_at]
omit hb in
theorem kkB_at (s : Fin 64) (q : Fin 512) : kkB (X1 m c t) (Y9 m c t) k (ix2 s q) = kR (ap m c) (alo m c) (4 * t.val + k.val) s q := by
  unfold kkB
  rw [kk_at, X1_at]
  have e : k0_pay4 (F := Ideal) (Y9 m c t) (ix2 0 q) = alo m c (ix1 q) := by
    rw [← Y9_at m c t]
    generalize Y9 m c t = y
    pointwise [k0_pay4]
  unfold kR
  rw [e]
theorem nxt_at (h : Fin 4) (S : St) (hS : ∀ l d, S (ix3 0 l d) = KS (ap m c) (alo m c) (4 * t.val + k.val) h l d) (l d : Fin 128) :
    nxt (X1 m c t) (X2 m c t) (Y9 m c t) k h S (ix3 0 l d) = KS (ap m c) (alo m c) (4 * t.val + k.val + 1) h l d := by
  unfold nxt
  rw [stn_at, se_at, hS, KS_succ]
  have e1 : exp (blB (X1 m c t) (Y9 m c t) k) (ix2 0 (col h d)) = Ideal.exp (bR (ap m c) (alo m c) (4 * t.val + k.val) 63 (col h d)) := by
    show Ideal.exp (blB (X1 m c t) (Y9 m c t) k (ix2 0 (col h d))) = _
    unfold blB
    rw [bl_at, bB_at m c t k hb]
  rw [e1]
  refine congrArg _ (Finset.sum_congr rfl fun s _ => ?_)
  rw [sl_at, sl_at, kd_at, kkB_at, bB_at m c t k hb]
  unfold blB
  rw [bl_at, bB_at m c t k hb]
  have e2 : vB (X2 m c t) k (ix2 s (col h l)) = vR (ap m c) (4 * t.val + k.val) s (col h l) := X2_at m c t k s (col h l)
  rw [e2]
theorem oB_at (h : Fin 4) (S : St) (hS : ∀ l d, S (ix3 0 l d) = KS (ap m c) (alo m c) (4 * t.val + k.val) h l d) (s : Fin 64) (l : Fin 128) :
    oB (X0 m c t) (X1 m c t) (X2 m c t) (X3 m c t) (Y9 m c t) (Y10 m c t) k h S (ix2 s l) = zR (ap m c) (alo m c) (ago m c) (4 * t.val + k.val) h s l := by
  have ho (l : Fin 128) : att (sl h (qbW (X0 m c t k) (bB (X1 m c t) (Y9 m c t) k))) (sl h (kbW (kkB (X1 m c t) (Y9 m c t) k) (bB (X1 m c t) (Y9 m c t) k))) (sl h (vB (X2 m c t) k)) S (ix2 s l)
      = oR (ap m c) (alo m c) (4 * t.val + k.val) h s l := by
    rw [att_at]
    have e2 (s l) : vB (X2 m c t) k (ix2 s (col h l)) = vR (ap m c) (4 * t.val + k.val) s (col h l) := X2_at m c t k s (col h l)
    simp only [sl_at, qb_at, kb_at, kkB_at, bB_at m c t k hb, X0_at, hS, e2]
    rfl
  unfold oB
  rw [gat_at]
  simp only [ho, sl_at, se_at]
  have e3 : k0_pay5 (F := Ideal) (Y10 m c t) (ix2 0 (col h l)) = ago m c (ix1 (col h l)) := by
    rw [← Y10_at m c t]
    generalize Y10 m c t = y
    pointwise [k0_pay5]
  have e4 : k0_pay22 (F := Ideal) (X3 m c t k) (ix2 s (col h l)) = Ideal.logistic (ap m c (ix2 (hrow (4 * t.val + k.val) s) ⟨1536 + (col h l).val, by omega⟩)) := by
    rw [← X3_at]
    generalize X3 m c t k = y
    pointwise [k0_pay22]
  rw [e3, e4]
  rfl
end
/-! ## A tile's heads of chunks -/

/-- An entry of the states, after the pieces of a list. -/
def cell (L : Lst) (h : Fin 4) (l d : Fin 128) : EReal := scM0_0.view.read (Elt Ideal) (scM0_0.view.writes (Elt Ideal) scM0_0.view.junk L) (ix3 h l d)

theorem nk_val (n : ℕ) (hn : n < 16) : (nk n).val = n / 4 := by show n / 4 % 4 = n / 4; omega
theorem nh_val (n : ℕ) : (nh n).val = n % 4 := rfl

section
variable (K : ℕ → Fin 4 → Fin 128 → Fin 128 → EReal) (T : ℕ) (L : ℕ → Lst) (s : ℕ → St) (w : ℕ → St → St) (base : Prop)
  (hL : ∀ n, n < 16 → L (n + 1) = ⟨rS (nh n), w n (s n)⟩ :: L n)
  (hw : ∀ n, n < 16 → ∀ S : St, (∀ l d, S (ix3 0 l d) = K (4 * T + n / 4) (nh n) l d) → ∀ l d, w n S (ix3 0 l d) = K (4 * T + n / 4 + 1) (nh n) l d)
  (hs : ∀ n, n < 16 → ((base ∨ 4 ≤ n) ∧ ∀ l d, s n (ix3 0 l d) = cell (L n) (nh n) l d) ∨ (n < 4 ∧ ∀ l d, s n (ix3 0 l d) = K (4 * T) (nh n) l d))
  (h0 : base → ∀ h l d, cell (L 0) h l d = K (4 * T) h l d)
include hL hw hs h0

/-- After so many heads of chunks: each head's state is that after its chunks so far. -/
theorem heads (n : ℕ) (hn : n ≤ 16) : (∀ n', n' < n → ∀ l d, s n' (ix3 0 l d) = K (4 * T + n' / 4) (nh n') l d)
    ∧ ∀ h : Fin 4, base ∨ h.val < n → ∀ l d, cell (L n) h l d = K (4 * T + (n + 3 - h.val) / 4) h l d := by
  induction n with
  | zero =>
    refine ⟨fun n' h => absurd h (by omega), fun h hb l d => ?_⟩
    rcases hb with hb | hb
    · rw [h0 hb]
      exact congrArg (fun q => K q h l d) (by omega)
    · omega
  | succ n ih =>
    obtain ⟨i1, i2⟩ := ih (by omega)
    have hr : ∀ l d, s n (ix3 0 l d) = K (4 * T + n / 4) (nh n) l d := by
      intro l d
      rcases hs n (by omega) with ⟨hb, e⟩ | ⟨hb, e⟩
      · rw [e, i2 (nh n) (hb.imp id fun q => by rw [nh_val]; omega)]
        exact congrArg (fun q => K q (nh n) l d) (by rw [nh_val]; omega)
      · rw [e]
        exact congrArg (fun q => K q (nh n) l d) (by omega)
    refine ⟨fun n' h => ?_, fun h hb l d => ?_⟩
    · rcases Nat.lt_succ_iff_lt_or_eq.mp h with h | rfl
      · exact i1 n' h
      · exact hr
    · unfold cell
      rw [hL n (by omega)]
      by_cases hh : h = nh n
      · subst hh
        refine (take3 _ _ (inbS (nh n)) _ _ (nh n) l d 0 l d rfl rfl rfl).trans ?_
        rw [hw n (by omega) _ hr]
        exact congrArg (fun q => K q (nh n) l d) (by rw [nh_val]; omega)
      · have hne : h.val ≠ n % 4 := fun q => hh (Fin.ext q)
        refine (skip3 _ _ (inbS (nh n)) _ _ h l d (by rw [nh_val]; omega)).trans ?_
        have hb' : base ∨ h.val < n := hb.imp id fun q => by omega
        refine (i2 h hb' l d).trans (congrArg (fun q => K q h l d) ?_)
        have := h.isLt
        omega
end

section
variable (hb : ∀ q, IsR (alo m c (ix1 q)))
include hb

/-- What a tile's heads of chunks read, and the states it hands on. -/
theorem tile (n : ℕ) (hn : n < cfg0.N) : (∀ n', n' < 16 → ∀ l d, sT m c ⟨n, hn⟩ n' (ix3 0 l d) = KS (ap m c) (alo m c) (4 * n + n' / 4) (nh n') l d)
    ∧ ∀ h l d, (outsAt0 m c n hn).2.2.2.1 (ix3 h l d) = KS (ap m c) (alo m c) (4 * (n + 1)) h l d := by
  have hN : cfg0.N = 8 := N_0
  induction n with
  | zero =>
    have h00 : (⟨0, hn⟩ : Fin cfg0.N).val % 8 = 0 := rfl
    have hh := heads (KS (ap m c) (alo m c)) 0 (lT m c ⟨0, hn⟩) (sT m c ⟨0, hn⟩) (fun n S => nxt (X1 m c ⟨0, hn⟩) (X2 m c ⟨0, hn⟩) (Y9 m c ⟨0, hn⟩) (nk n) (nh n) S) True
      (fun n h => by
        unfold lT sT
        rw [if_pos h00, if_pos h00]
        exact lA_step _ _ _ _ _ _ _ _ _ _ _ n h)
      (fun n h S hS l d => by
        have e := nxt_at m c ⟨0, hn⟩ (nk n) hb (nh n) S
        rw [nk_val n h] at e
        exact e hS l d)
      (fun n h => .inl ⟨.inl trivial, fun l d => by
        unfold lT sT
        rw [if_pos h00, if_pos h00]
        exact cov3 _ _ (inbS (nh n)) 0 l d (nh n) l d rfl rfl rfl⟩)
      (fun _ h l d => by
        unfold lT
        rw [if_pos h00]
        show cell [⟨Rect.unit ![0, 0, 0] ![4, 128, 128] inb_S4x128x128_S4x128x128_0_0_0, k0_pay2 (F := Ideal)⟩] h l d = 0
        refine (take3 _ _ inb_S4x128x128_S4x128x128_0_0_0 _ _ h l d h l d (Nat.zero_add _).symm rfl rfl).trans ?_
        pointwise [k0_pay2]) 16 le_rfl
    refine ⟨hh.1, fun h l d => ?_⟩
    rw [st_out m c ⟨0, hn⟩]
    refine (hh.2 h (.inl trivial) l d).trans (congrArg (fun q => KS (ap m c) (alo m c) q h l d) ?_)
    have := h.isLt
    omega
  | succ n ih =>
    have hne : ¬ (⟨n + 1, hn⟩ : Fin cfg0.N).val % 8 = 0 := by show ¬ (n + 1) % 8 = 0; omega
    have hp := (ih (by omega)).2
    have hh := heads (KS (ap m c) (alo m c)) (n + 1) (lT m c ⟨n + 1, hn⟩) (sT m c ⟨n + 1, hn⟩) (fun k S => nxt (X1 m c ⟨n + 1, hn⟩) (X2 m c ⟨n + 1, hn⟩) (Y9 m c ⟨n + 1, hn⟩) (nk k) (nh k) S) False
      (fun k h => by
        unfold lT sT
        rw [if_neg hne, if_neg hne]
        exact lB_step _ _ _ _ _ _ _ _ _ _ _ _ _ k h)
      (fun k h S hS l d => by
        have e := nxt_at m c ⟨n + 1, hn⟩ (nk k) hb (nh k) S
        rw [nk_val k h] at e
        exact e hS l d)
      (fun k h => by
        unfold lT sT
        rw [if_neg hne, if_neg hne]
        by_cases h4 : k < 4
        · refine .inr ⟨h4, fun l d => ?_⟩
          unfold sB
          rw [if_pos h4, rdS_at]
          exact hp (nh k) l d
        · refine .inl ⟨.inr (by omega), fun l d => ?_⟩
          unfold sB
          rw [if_neg h4]
          exact cov3 _ _ (inbS (nh k)) 0 l d (nh k) l d rfl rfl rfl)
      (fun q => q.elim) 16 le_rfl
    refine ⟨hh.1, fun h l d => ?_⟩
    rw [st_out m c ⟨n + 1, hn⟩]
    refine (hh.2 h (.inr (by have := h.isLt; omega)) l d).trans (congrArg (fun q => KS (ap m c) (alo m c) q h l d) ?_)
    have := h.isLt
    omega

/-- The stored outputs of one head of a chunk. -/
theorem z_at (t : Fin cfg0.N) (k h : Fin 4) (s : Fin 64) (l : Fin 128) :
    (outsAt0 m c t.val t.isLt).1 (ix2 ⟨64 * k.val + s.val, by omega⟩ ⟨(col h l).val, by omega⟩) = zR (ap m c) (alo m c) (ago m c) (4 * t.val + k.val) h s l := by
  rw [z_out]
  have key : ∀ N, 4 * k.val + h.val < N → N ≤ 16 →
      VO0_16.read (Elt Ideal) (VO0_16.writes (Elt Ideal) VO0_16.junk (zL m c t (sT m c t) N)) (ix2 ⟨64 * k.val + s.val, by omega⟩ ⟨(col h l).val, by omega⟩)
        = zR (ap m c) (alo m c) (ago m c) (4 * t.val + k.val) h s l := by
    intro N h1 h2
    induction N with
    | zero => omega
    | succ N ih =>
      unfold zL
      by_cases e : N = 4 * k.val + h.val
      · subst e
        have ek : nk (4 * k.val + h.val) = k := Fin.ext (by rw [nk_val _ (by omega)]; omega)
        have eh : nh (4 * k.val + h.val) = h := Fin.ext (by rw [nh_val]; omega)
        have hS := (tile m c hb t.val t.isLt).1 (4 * k.val + h.val) (by omega)
        rw [eh, show (4 * k.val + h.val) / 4 = k.val by omega] at hS
        refine (take2 _ _ (inbZ (nk _) (nh _)) _ _ _ _ s l (by rw [ek]) (by rw [eh]; rfl)).trans ?_
        rw [ek, eh]
        exact oB_at m c t k hb h _ hS s l
      · refine (skip2 _ _ (inbZ (nk N) (nh N)) _ _ _ _ ?_).trans (ih (by omega) (by omega))
        have e1 := nk_val N (by omega)
        have e2 := nh_val N
        have e3 : (col h l).val = 128 * h.val + l.val := rfl
        rw [e1, e2]
        show 64 * k.val + s.val < 64 * (N / 4) ∨ 64 * (N / 4) + 64 ≤ 64 * k.val + s.val ∨ (col h l).val < 128 * (N % 4) ∨ 128 * (N % 4) + 128 ≤ (col h l).val
        omega
  exact key 16 (by omega) le_rfl

/-- The gated outputs, in the array the mixer leaves. -/
theorem hgrn_at (j : Fin 32) (h : Fin 4) (s : Fin 64) (l : Fin 128) :
    G16 m c (ix2 (hrow j.val s) ⟨(col h l).val, by omega⟩) = zR (ap m c) (alo m c) (ago m c) j.val h s l := by
  have hN : cfg0.N = 8 := N_0
  have e := z_at m c hb ⟨j.val / 4, by omega⟩ ⟨j.val % 4, by omega⟩ h s l
  rw [← array_at, Rw_hrow] at e
  rw [show 4 * (⟨j.val / 4, by omega⟩ : Fin cfg0.N).val + (⟨j.val % 4, by omega⟩ : Fin 4).val = j.val from by show 4 * (j.val / 4) + j.val % 4 = j.val; omega] at e
  exact e
end

end Cert.Proof.HgTile

end
-- ==== Proof.RefM.lean ====
/-
  The plain lines of the forward mixer after the loop, entry by entry.
-/
module

public import proofs.«01_k».proof.Proof.HgRef
public import proofs.«01_k».proof.Proof.HgTile
public import proofs.«01_k».proof.Proof.Tiles
public import proofs.«01_k».proof.Defs
public import proofs.«01_k».proof.Proof.Gen.Pre_mxf_finite

@[expose] public section

set_option maxRecDepth 16384
set_option maxHeartbeats 1000000

noncomputable section

namespace Cert.Proof.RefM

open Idealize.ShloMosaic Idealize.ShloMosaic.TcCoe Idealize.ShloMosaic.Tactic Reals Sg MxfBlk MxfRun HgSpec HgRef
open MxfReferenceIdeal MxfReferenceIdeal.Gen MxfReferenceIdeal.Step
open scoped BigOperators

/-- A constant, at every element. -/
abbrev con (b : BitVec 32) : FVec Ideal S2048x512 .f32 := broadcastInDim S2048x512 ![] bcast_S_S2048x512 (constant S_ .f32 b)
abbrev con1 (b : BitVec 32) : FVec Ideal S2048x1 .f32 := broadcastInDim S2048x1 ![] bcast_S_S2048x1 (constant S_ .f32 b)
abbrev conH (b : BitVec 32) : FVec Ideal S2048x4x1 .f32 := broadcastInDim S2048x4x1 ![] bcast_S_S2048x4x1 (constant S_ .f32 b)

variable (p : FVec Ideal S2048x4608 .f32) (lb : FVec Ideal S512 .f32) (wc : FVec Ideal S3x512 .f32) (lg lc : FVec Ideal S512 .f32) (ws : FVec Ideal S4x128x128 .f32) (bs : FVec Ideal S4x128 .f32)

/-! ## The convolution -/

/-- The product of the last two parts. -/
def zprod : FVec Ideal S2048x512 .f32 :=
  mulf (extractStridedSlice S2048x512 ![0, 2560] p slices_S2048x4608_S2048x512_0_2560) (extractStridedSlice S2048x512 ![0, 3072] p slices_S2048x4608_S2048x512_0_3072)

/-- Two rows of zeros before it. -/
def zpad (z : FVec Ideal S2048x512 .f32) : FVec Ideal S2050x512 .f32 :=
  concatenate S2050x512 0 [⟨S2x512, (broadcastInDim S2x512 ![] bcast_S_S2x512 (constant (F := Ideal) S_ .f32 0x00000000#32) : FVec Ideal S2x512 .f32)⟩, ⟨S2048x512, z⟩] concatenates_S2x512_S2048x512_S2050x512_d0

/-- One tap, as a whole block. -/
def tap (x : FVec Ideal S1x512 .f32) : FVec Ideal S2048x512 .f32 :=
  broadcastInDim S2048x512 ![0, 1] bcast_S1x512_S2048x512_0_1 (broadcastInDim S1x512 ![1] bcast_S512_S1x512_1 (shapeCast _ x shapeCasts_S1x512_S512))

def convW : FVec Ideal S2048x512 .f32 :=
  mulf (extractStridedSlice S2048x512 ![0, 2048] p slices_S2048x4608_S2048x512_0_2048)
    (addf (addf (mulf (tap (extractStridedSlice S1x512 ![0, 0] wc slices_S3x512_S1x512_0_0)) (extractStridedSlice S2048x512 ![0, 0] (zpad (zprod p)) slices_S2050x512_S2048x512_0_0))
      (mulf (tap (extractStridedSlice S1x512 ![1, 0] wc slices_S3x512_S1x512_1_0)) (extractStridedSlice S2048x512 ![1, 0] (zpad (zprod p)) slices_S2050x512_S2048x512_1_0)))
      (mulf (tap (extractStridedSlice S1x512 ![2, 0] wc slices_S3x512_S1x512_2_0)) (extractStridedSlice S2048x512 ![2, 0] (zpad (zprod p)) slices_S2050x512_S2048x512_2_0)))

theorem zprod_at (R : Fin 2048) (l : Fin 512) : zprod p (ix2 R l) = zc p R l := by
  unfold zc
  pointwise [zprod]

theorem sh0 (R : Fin 2048) (l : Fin 512) : extractStridedSlice S2048x512 ![0, 0] (zpad (zprod p)) slices_S2050x512_S2048x512_0_0 (ix2 R l) = zb p 2 R l := by
  have h := zprod_at p
  generalize hv : zprod p = a at h
  unfold zb
  simp only [← h]
  pointwise [zpad, hv]
  by_cases hR : 2 ≤ R.val
  · rw [if_pos hR, dif_neg (by omega)]
  · rw [if_neg hR, dif_pos (by omega)]

theorem sh1 (R : Fin 2048) (l : Fin 512) : extractStridedSlice S2048x512 ![1, 0] (zpad (zprod p)) slices_S2050x512_S2048x512_1_0 (ix2 R l) = zb p 1 R l := by
  have h := zprod_at p
  generalize hv : zprod p = a at h
  unfold zb
  simp only [← h]
  pointwise [zpad, hv]
  by_cases hR : 1 ≤ R.val
  · rw [if_pos hR, dif_neg (by omega)]
    exact congrArg (fun S => a (ix2 S l)) (Fin.ext (by show 1 + R.val - 2 = R.val - 1; omega))
  · rw [if_neg hR, dif_pos (by omega)]

theorem sh2 (R : Fin 2048) (l : Fin 512) : extractStridedSlice S2048x512 ![2, 0] (zpad (zprod p)) slices_S2050x512_S2048x512_2_0 (ix2 R l) = zc p R l := by
  rw [← zprod_at]
  generalize hv : zprod p = a
  pointwise [zpad, hv]

theorem convW_at (R : Fin 2048) (l : Fin 512) : convW p wc (ix2 R l) = outC p wc R l := by
  have h0 := sh0 p
  have h1 := sh1 p
  have h2 := sh2 p
  unfold outC convW
  generalize hv : extractStridedSlice S2048x512 ![0, 0] (zpad (zprod p)) slices_S2050x512_S2048x512_0_0 = a at h0
  generalize hw : extractStridedSlice S2048x512 ![1, 0] (zpad (zprod p)) slices_S2050x512_S2048x512_1_0 = b at h1
  generalize hz : extractStridedSlice S2048x512 ![2, 0] (zpad (zprod p)) slices_S2050x512_S2048x512_2_0 = d at h2
  simp only [← h0, ← h1, ← h2]
  pointwise [tap]

/-! ## The spatial gate -/

/-- The smooth gate. -/
def gel (a : FVec Ideal S2048x512 .f32) : FVec Ideal S2048x512 .f32 :=
  mulf a (mulf (con 0x3F000000#32) (addf (con 0x3F800000#32) (Host.tanh (mulf (con 0x3F4C422A#32) (addf a (mulf (con 0x3D372713#32) (mulf (mulf a a) a)))))))

def uW : FVec Ideal S2048x512 .f32 := gel (extractStridedSlice S2048x512 ![0, 3584] p slices_S2048x4608_S2048x512_0_3584)
def vW : FVec Ideal S2048x512 .f32 := gel (extractStridedSlice S2048x512 ![0, 4096] p slices_S2048x4608_S2048x512_0_4096)

/-- A row's mean. -/
def mean (v : FVec Ideal S2048x512 .f32) : FVec Ideal S2048x1 .f32 :=
  Host.divf (broadcastInDim S2048x1 ![0] bcast_S2048_S2048x1_0 (Host.reduceAdd v (constant S_ .f32 0x00000000#32) reducesTo_S2048x512_S2048_d1 h_S_)) (con1 0x44000000#32)
def midW (v : FVec Ideal S2048x512 .f32) : FVec Ideal S2048x512 .f32 := subf v (broadcastInDim S2048x512 ![0, 1] bcast_S2048x1_S2048x512_0_1 (mean v))
def rsW (d : FVec Ideal S2048x512 .f32) : FVec Ideal S2048x1 .f32 := Host.rsqrt (addf (mean (mulf d d)) (con1 0x3727C5AC#32))
def lnW (d : FVec Ideal S2048x512 .f32) (r : FVec Ideal S2048x1 .f32) : FVec Ideal S2048x512 .f32 :=
  addf (mulf (mulf d (broadcastInDim S2048x512 ![0, 1] bcast_S2048x1_S2048x512_0_1 r)) (broadcastInDim S2048x512 ![0, 1] bcast_S1x512_S2048x512_0_1 (broadcastInDim S1x512 ![1] bcast_S512_S1x512_1 lg)))
    (broadcastInDim S2048x512 ![0, 1] bcast_S1x512_S2048x512_0_1 (broadcastInDim S1x512 ![1] bcast_S512_S1x512_1 lc))
def nW : FVec Ideal S2048x512 .f32 := lnW lg lc (midW (vW p)) (rsW (midW (vW p)))

/-- The triangle of ones. -/
def triW : FVec Ideal S128x128 .f32 :=
  select (cmpi .sge (addi (iotaInDim S128x128 32 0) (broadcastInDim S128x128 ![] bcast_S_S128x128 (constantI S_ 32 0#32))) (iotaInDim S128x128 32 1))
    (broadcastInDim S128x128 ![] bcast_S_S128x128 (constant S_ .f32 0x3F800000#32)) (broadcastInDim S128x128 ![] bcast_S_S128x128 (constant S_ .f32 0x00000000#32))
def wlow : FVec Ideal S4x128x128 .f32 :=
  mulf ws (broadcastInDim S4x128x128 ![0, 1, 2] bcast_S1x128x128_S4x128x128_0_1_2 (broadcastInDim S1x128x128 ![1, 2] bcast_S128x128_S1x128x128_1_2 triW))
def n4 : FVec Ideal S16x128x4x128 .f32 := shapeCast _ (nW p lg lc) shapeCasts_S2048x512_S16x128x4x128
def mixW (n : FVec Ideal S16x128x4x128 .f32) (w : FVec Ideal S4x128x128 .f32) : FVec Ideal S2048x512 .f32 :=
  shapeCast _ (addf (transpose S16x128x4x128 [1, 3, 0, 2] (Host.dotGeneral dot_S16x128x4x128_S4x128x128_S4x16x128x128_1_2_03_1_2_0 none n w) transposes_S4x16x128x128_S16x128x4x128_1_3_0_2)
    (broadcastInDim S16x128x4x128 ![0, 1, 2, 3] bcast_S1x128x4x1_S16x128x4x128_0_1_2_3 (broadcastInDim S1x128x4x1 ![1, 2, 3] bcast_S128x4x1_S1x128x4x1_1_2_3
      (broadcastInDim S128x4x1 ![0, 1] bcast_S128x4_S128x4x1_0_1 (transpose S128x4 [1, 0] bs transposes_S4x128_S128x4_1_0))))) shapeCasts_S16x128x4x128_S2048x512
def gateW : FVec Ideal S2048x512 .f32 := mulf (uW p) (mixW bs (n4 p lg lc) (wlow ws))

theorem fg_eq (x : EReal) : fg x = x * (whalf * (wone + Ideal.tanh (Sg.wc * (x + wa * (x * x * x))))) := by
  unfold fg
  rw [mul_comm whalf, mul_assoc, mul_assoc wa x x, mul_assoc wa (x * x) x]

theorem uW_at (R : Fin 2048) (l : Fin 512) : uW p (ix2 R l) = fg (p (ix2 R ⟨3584 + l.val, by omega⟩)) := by
  rw [fg_eq]
  pointwise [uW, gel, con]

theorem vW_at (R : Fin 2048) (l : Fin 512) : vW p (ix2 R l) = fg (p (ix2 R ⟨4096 + l.val, by omega⟩)) := by
  rw [fg_eq]
  pointwise [vW, gel, con]

/-- A row of the second gate. -/
abbrev vrow (R : Fin 2048) (l : Fin 512) : EReal := fg (p (ix2 R ⟨4096 + l.val, by omega⟩))

theorem mid_at (R : Fin 2048) (l : Fin 512) : midW (vW p) (ix2 R l) = mid (vrow p R) l := by
  have h := vW_at p
  generalize hv : vW p = a at h
  unfold mid vrow
  simp only [← h]
  pointwise [midW, mean, con1]

theorem rs_at (R : Fin 2048) : rsW (midW (vW p)) (ix2 R 0) = Ideal.rsqrt (Ideal.div (∑ k, mid (vrow p R) k * mid (vrow p R) k) w512 + weps) := by
  have h := mid_at p
  generalize hv : midW (vW p) = a at h
  simp only [← h]
  pointwise [rsW, mean, con1]

theorem nW_at (R : Fin 2048) (l : Fin 512) : nW p lg lc (ix2 R l) = nrow p lg lc R l := by
  unfold nrow ln nW
  rw [← mid_at, ← rs_at]
  generalize midW (vW p) = a
  generalize rsW a = b
  pointwise [lnW]

theorem sel_ge (j k : Fin 128) (x : EReal) :
    Scalar.select (IntOp.cmpi .sge (IntOp.addi (BitVec.ofNat 32 j.val) 0#32) (BitVec.ofNat 32 k.val)) x 0 = low j k x := by
  have h : IntOp.addi (BitVec.ofNat 32 j.val) 0#32 = BitVec.ofNat 32 j.val := by simp [IntOp.addi]
  have e (a : Fin 128) : (BitVec.ofNat 32 a.val).toInt = (a.val : Int) := by
    rw [BitVec.toInt_eq_toNat_of_lt (by simp; omega)]
    simp
    omega
  rw [h]
  unfold low
  by_cases hk : k.val ≤ j.val
  · simp [Scalar.select, IntOp.cmpi, BitVec.sle, e, hk]
  · simp [Scalar.select, IntOp.cmpi, BitVec.sle, e, hk]

theorem low_mul (j k : Fin 128) (x : EReal) : x * low j k 1 = low j k x := by
  unfold low
  split <;> simp

theorem tri_at (j k : Fin 128) : triW (ix2 j k) = low j k 1 := by
  refine Eq.trans ?_ (sel_ge j k 1)
  pointwise [triW]

theorem wlow_at (g : Fin 4) (j k : Fin 128) : wlow ws (ix3 g j k) = low j k (ws (ix3 g j k)) := by
  rw [← low_mul, ← tri_at]
  generalize hv : triW = a
  pointwise [wlow, hv]

theorem row' (n : Fin 16) (j : Fin 128) (h : n.val * 128 + j.val < 2048) : (⟨n.val * 128 + j.val, h⟩ : Fin 2048) = row n j := Fin.ext (show n.val * 128 + j.val = 128 * n.val + j.val by omega)
theorem col' (g : Fin 4) (d : Fin 128) (h : g.val * 128 + d.val < 512) : (⟨g.val * 128 + d.val, h⟩ : Fin 512) = col g d := Fin.ext (show g.val * 128 + d.val = 128 * g.val + d.val by omega)
theorem row_div (n : Fin 16) (j : Fin 128) (h : (row n j).val / 128 < 16) : (⟨(row n j).val / 128, h⟩ : Fin 16) = n := Fin.ext (by show (128 * n.val + j.val) / 128 = n.val; omega)
theorem row_mod (n : Fin 16) (j : Fin 128) (h : (row n j).val % 128 < 128) : (⟨(row n j).val % 128, h⟩ : Fin 128) = j := Fin.ext (by show (128 * n.val + j.val) % 128 = j.val; omega)
theorem col_div (g : Fin 4) (d : Fin 128) (h : (col g d).val / 128 < 4) : (⟨(col g d).val / 128, h⟩ : Fin 4) = g := Fin.ext (by show (128 * g.val + d.val) / 128 = g.val; omega)
theorem col_mod (g : Fin 4) (d : Fin 128) (h : (col g d).val % 128 < 128) : (⟨(col g d).val % 128, h⟩ : Fin 128) = d := Fin.ext (by show (128 * g.val + d.val) % 128 = d.val; omega)

theorem n4_at (n : Fin 16) (j : Fin 128) (g : Fin 4) (d : Fin 128) : n4 p lg lc (ix4 n j g d) = nrow p lg lc (row n j) (col g d) := by
  rw [← nW_at]
  generalize hv : nW p lg lc = a
  pointwise [n4, hv]
  rw [row', col']

theorem mix_at (n : Fin 16) (j : Fin 128) (g : Fin 4) (d : Fin 128) : mixW bs (n4 p lg lc) (wlow ws) (ix2 (row n j) (col g d))
    = (∑ k : Fin 128, low j k (ws (ix3 g j k)) * nrow p lg lc (row n k) (col g d)) + bs (ix2 g j) := by
  have h1 := n4_at p lg lc
  have h2 := wlow_at ws
  generalize hv : n4 p lg lc = a at h1
  generalize hw : wlow ws = b at h2
  simp only [← h1, ← h2]
  pointwise [mixW]
  simp only [row_div, row_mod, col_div, col_mod]
  exact congrArg (· + _) (Finset.sum_congr rfl fun _ _ => mul_comm _ _)

/-! ## The recurrence's columns -/

/-- The rows of the loop's result, in order. -/
def oW (o : FVec Ideal S32x4x64x128 .f32) : FVec Ideal S2048x4x128 .f32 :=
  shapeCast _ (transpose S32x64x4x128 [0, 2, 1, 3] o transposes_S32x4x64x128_S32x64x4x128_0_2_1_3) shapeCasts_S32x64x4x128_S2048x4x128
/-- A head's inverse root of its mean square. -/
def rH (o : FVec Ideal S2048x4x128 .f32) : FVec Ideal S2048x4x1 .f32 :=
  Host.rsqrt (addf (Host.divf (broadcastInDim S2048x4x1 ![0, 1] bcast_S2048x4_S2048x4x1_0_1 (Host.reduceAdd (mulf o o) (constant S_ .f32 0x00000000#32) reducesTo_S2048x4x128_S2048x4_d2 h_S_))
    (conH 0x43000000#32)) (conH 0x358637BD#32))
/-- The rule's gate. -/
def sgW : FVec Ideal S2048x512 .f32 :=
  Host.divf (con 0x3F800000#32) (addf (con 0x3F800000#32) (Host.exp (Host.negf (extractStridedSlice S2048x512 ![0, 1536] p slices_S2048x4608_S2048x512_0_1536))))
def hgW (g : FVec Ideal S512 .f32) (o : FVec Ideal S2048x4x128 .f32) (r : FVec Ideal S2048x4x1 .f32) (s : FVec Ideal S2048x512 .f32) : FVec Ideal S2048x512 .f32 :=
  shapeCast _ (mulf (mulf (mulf o (broadcastInDim S2048x4x128 ![0, 1, 2] bcast_S2048x4x1_S2048x4x128_0_1_2 r))
    (broadcastInDim S2048x4x128 ![0, 1, 2] bcast_S1x4x128_S2048x4x128_0_1_2 (broadcastInDim S1x4x128 ![1, 2] bcast_S4x128_S1x4x128_1_2 (shapeCast _ g shapeCasts_S512_S4x128))))
    (shapeCast _ s shapeCasts_S2048x512_S2048x4x128)) shapeCasts_S2048x4x128_S2048x512

variable (g : FVec Ideal S512 .f32)

section
variable (j : Fin 32) (h : Fin 4) (s : Fin 64) (d : Fin 128)
theorem hrow_div (hh) : (⟨(hrow j.val s).val / 64, hh⟩ : Fin 32) = j := Fin.ext (by show (64 * j.val + s.val) % 2048 / 64 = j.val; omega)
theorem hrow_mod (hh) : (⟨(hrow j.val s).val % 64, hh⟩ : Fin 64) = s := Fin.ext (by show (64 * j.val + s.val) % 2048 % 64 = s.val; omega)
end

theorem oW_at (o : FVec Ideal S32x4x64x128 .f32) (j : Fin 32) (h : Fin 4) (s : Fin 64) (d : Fin 128) : oW o (ix3 (hrow j.val s) h d) = o (ix4 j h s d) := by
  pointwise [oW]
  rw [hrow_div, hrow_mod]

theorem rH_at (o : FVec Ideal S2048x4x128 .f32) (R : Fin 2048) (h : Fin 4) :
    rH o (ix3 R h 0) = Ideal.rsqrt (Ideal.div (∑ l : Fin 128, o (ix3 R h l) * o (ix3 R h l)) (Ideal.ofBits .f32 0x43000000#32) + Ideal.ofBits .f32 0x358637BD#32) := by
  pointwise [rH, conH]

theorem sgW_at (R : Fin 2048) (q : Fin 512) : sgW p (ix2 R q) = Ideal.logistic (p (ix2 R ⟨1536 + q.val, by omega⟩)) := by
  pointwise [sgW, con]
  rfl

theorem hgW_at (o : FVec Ideal S2048x4x128 .f32) (r : FVec Ideal S2048x4x1 .f32) (s : FVec Ideal S2048x512 .f32) (R : Fin 2048) (h : Fin 4) (d : Fin 128) :
    hgW g o r s (ix2 R (col h d)) = o (ix3 R h d) * r (ix3 R h 0) * g (ix1 (col h d)) * s (ix2 R (col h d)) := by
  pointwise [hgW]
  simp only [col_div, col_mod, col']

/-! ## The result -/

/-- The three blocks side by side. -/
def all (o : FVec Ideal S2048x512 .f32) (a : FVec Ideal S2048x512 .f32) (b : FVec Ideal S2048x512 .f32) : FVec Ideal S2048x1536 .bf16 :=
  truncf .bf16 (concatenate S2048x1536 1 [⟨S2048x512, o⟩, ⟨S2048x512, a⟩, ⟨S2048x512, b⟩] concatenates_S2048x512_S2048x512_S2048x512_S2048x1536_d1 : FVec Ideal S2048x1536 .f32) bitsLt_bf16_f32

theorem all_0 (o a b : FVec Ideal S2048x512 .f32) (R : Fin 2048) (l : Fin 512) : all o a b (ix2 R ⟨l.val, by omega⟩) = o (ix2 R l) := by
  pointwise [all]
theorem all_1 (o a b : FVec Ideal S2048x512 .f32) (R : Fin 2048) (l : Fin 512) : all o a b (ix2 R ⟨512 + l.val, by omega⟩) = a (ix2 R l) := by
  pointwise [all]
theorem all_2 (o a b : FVec Ideal S2048x512 .f32) (R : Fin 2048) (l : Fin 512) : all o a b (ix2 R ⟨1024 + l.val, by omega⟩) = b (ix2 R l) := by
  pointwise [all]
  rw [dif_neg (by omega), dif_neg (by omega)]
  exact congrArg (fun q => b (ix2 R q)) (Fin.ext (by show 1024 + l.val - 512 - 512 = l.val; omega))

theorem R_eq (s : State Ideal) : R_main_v185 s p g wc lg lc ws bs
    = all (hgW g (oW s.main_v65_7) (rH (oW s.main_v65_7)) (sgW p)) (convW p wc) (gateW p lg lc ws bs) := rfl

theorem conv_at (s : State Ideal) (R : Fin 2048) (l : Fin 512) : R_main_v185 s p g wc lg lc ws bs (ix2 R ⟨512 + l.val, by omega⟩) = outC p wc R l := by
  rw [R_eq, all_1, convW_at]

theorem gate_at (s : State Ideal) (n : Fin 16) (j : Fin 128) (h : Fin 4) (d : Fin 128) :
    R_main_v185 s p g wc lg lc ws bs (ix2 (row n j) ⟨1024 + (col h d).val, by omega⟩) = outS p lg lc ws bs n j h d := by
  unfold outS
  rw [R_eq, all_2, ← mix_at, ← uW_at]
  rfl

theorem hgrn_at (hb : ∀ q, IsR (lb (ix1 q))) (j : Fin 32) (h : Fin 4) (s : Fin 64) (d : Fin 128) :
    R_main_v185 (RefStep.stateAt p lb 32) p g wc lg lc ws bs (ix2 (hrow j.val s) ⟨(col h d).val, by omega⟩) = zR p lb g j.val h s d := by
  have ho := fun h s l => o_at p lb hb 32 le_rfl j j.isLt h s l
  rw [R_eq, all_0, hgW_at, rH_at, sgW_at]
  generalize (RefStep.stateAt p lb 32).main_v65_7 = o at ho
  simp only [oW_at, ho]
  rfl

end Cert.Proof.RefM

namespace Cert.Proof.MxfClaim

open Idealize.ShloMosaic Idealize.ShloMosaic.TcCoe Idealize.SL.Sem Reals Sg MxfRun HgSpec HgTile
open MxfKernelIdeal MxfKernelIdeal.Gen

variable (m : (ℓ : Loc nD τ sig) → Buf (Elt Ideal) ℓ) (c : Dev nD)

/-- The result. -/
abbrev zOf : FVec Ideal S2048x1536 .bf16 :=
  MxfReferenceIdeal.Step.R_main_v185 (RefStep.stateAt (ap m c) (alo m c) 32) (ap m c) (ago m c) (awc m c) (alg m c) (alb m c) (aws m c) (abs' m c)

theorem split (l : Fin 512) : l = col ⟨l.val / 128, by omega⟩ ⟨l.val % 128, by omega⟩ := Fin.ext (by show l.val = 128 * (l.val / 128) + l.val % 128; omega)

theorem hgrn_col (hb : ∀ q, IsR (alo m c (ix1 q))) (R : Fin 2048) (l : Fin 512) : Value.G16 m c (ix2 R ⟨l.val, by omega⟩) = zOf m c (ix2 R ⟨l.val, by omega⟩) := by
  have hR : R = hrow (⟨R.val / 64, by omega⟩ : Fin 32).val ⟨R.val % 64, by omega⟩ := Fin.ext (by show R.val = (64 * (R.val / 64) + R.val % 64) % 2048; omega)
  rw [hR, split l]
  exact (hgrn_at m c hb _ _ _ _).trans (RefM.hgrn_at (ap m c) (alo m c) (awc m c) (alg m c) (alb m c) (aws m c) (abs' m c) (ago m c) hb _ _ _ _).symm
theorem conv_col (R : Fin 2048) (l : Fin 512) : Value.G16 m c (ix2 R ⟨512 + l.val, by omega⟩) = zOf m c (ix2 R ⟨512 + l.val, by omega⟩) :=
  (conv_at m c R l).trans (RefM.conv_at _ _ _ _ _ _ _ _ R l).symm
theorem gate_col (R : Fin 2048) (l : Fin 512) : Value.G16 m c (ix2 R ⟨1024 + l.val, by omega⟩) = zOf m c (ix2 R ⟨1024 + l.val, by omega⟩) := by
  have hR : R = row ⟨R.val / 128, by omega⟩ ⟨R.val % 128, by omega⟩ := Fin.ext (by show R.val = 128 * (R.val / 128) + R.val % 128; omega)
  rw [hR, split l]
  exact (gate_at m c _ _ _ _).trans (RefM.gate_at (ap m c) (awc m c) (alg m c) (alb m c) (aws m c) (abs' m c) (ago m c) _ _ _ _ _).symm

theorem first (hb : ∀ q, IsR (alo m c (ix1 q))) : Value.G16 m c = zOf m c := by
  funext i
  have h1 : (i 1 : Nat) < 1536 := (i 1).isLt
  have e (n : ℕ) (hn : n < 1536) (h : (i 1).val = n) : i = ix2 (i 0) ⟨n, hn⟩ := by
    funext a
    match a with
    | ⟨0, _⟩ => rfl
    | ⟨1, _⟩ => exact Fin.ext h
  by_cases h2 : (i 1).val < 512
  · rw [e _ (by show (⟨(i 1).val, h2⟩ : Fin 512).val < 1536; omega) rfl]
    exact hgrn_col m c hb (i 0) ⟨(i 1).val, h2⟩
  by_cases h3 : (i 1).val < 1024
  · rw [e (512 + (⟨(i 1).val - 512, by omega⟩ : Fin 512).val) (by omega) (by show (i 1).val = 512 + ((i 1).val - 512); omega)]
    exact conv_col m c (i 0) _
  · rw [e (1024 + (⟨(i 1).val - 1024, by omega⟩ : Fin 512).val) (by omega) (by show (i 1).val = 1024 + ((i 1).val - 1024); omega)]
    exact gate_col m c (i 0) _

theorem real (h : Pre_MxfKernelIdeal_mxf_finite m) (q : Fin 512) : IsR (alo m c (ix1 q)) :=
  exists_real ofBits_inf (congrFun (h c) (ix1 q))

end Cert.Proof.MxfClaim

namespace Cert.Proof

open Idealize.ShloMosaic Idealize.ShloMosaic.TcCoe Idealize.SL.Sem MxfRun MxfClaim HgTile

theorem algebraic_MxfKernelIdeal_MxfReferenceIdeal : algebraic_MxfKernelIdeal_MxfReferenceIdeal_pre_mxf_finite := by
  intro m ρ m' ρ' hpre hagree
  refine ⟨fun c => zOf m c, ?_, ?_⟩
  · refine (θ_run MxfKernelIdeal.defs _ _).mono (fun _ h c => ?_) (MxfKernelIdeal.Value.run m ρ)
    obtain ⟨h0, _, _, hk⟩ := h c
    exact ⟨h0.trans (first m c (real m c hpre)), hk⟩
  · refine (θ_run MxfReferenceIdeal.defs _ _).mono (fun _ h c => ?_) (MxfReferenceIdeal.Value.run (F := Ideal) m' ρ')
    obtain ⟨h0, hk⟩ := h c
    obtain ⟨a0, a1, a2, a3, a4, a5, a6, a7⟩ := hagree c
    rw [RefStep.out_eq m' c, a0, a1, a2, a3, a4, a5, a6, a7] at h0
    exact ⟨h0, hk⟩

end Cert.Proof

end
-- ==== Proof.lean ====
/-
  The proof of `Cert.Claim`: each program's frame, and the claims of Proof/ put together.
-/
module

public import proofs.«01_k».proof.Defs
public import proofs.«01_k».proof.Proof.Gen.LbKernel.Frame
public import proofs.«01_k».proof.Proof.LbVal
public import proofs.«01_k».proof.Proof.Gen.LbReferenceIdeal.Run
public import proofs.«01_k».proof.Proof.Gen.FinKernel.Frame
public import proofs.«01_k».proof.Proof.FinRun
public import proofs.«01_k».proof.Proof.Gen.FinReferenceIdeal.Run
public import proofs.«01_k».proof.Proof.Gen.FfnKernel.Frame
public import proofs.«01_k».proof.Proof.FfnRun
public import proofs.«01_k».proof.Proof.Gen.FfnReferenceIdeal.Run
public import proofs.«01_k».proof.Proof.Gen.MrgKernel.Frame
public import proofs.«01_k».proof.Proof.MrgRun
public import proofs.«01_k».proof.Proof.Gen.MrgReferenceIdeal.Run
public import proofs.«01_k».proof.Proof.Gen.DhKernel.Frame
public import proofs.«01_k».proof.Proof.DhRun
public import proofs.«01_k».proof.Proof.Gen.DhReferenceIdeal.Run
public import proofs.«01_k».proof.Proof.FfwRun
public import proofs.«01_k».proof.Proof.Gen.FfwReferenceIdeal.Run
public import proofs.«01_k».proof.Proof.RmfRun
public import proofs.«01_k».proof.Proof.Gen.RmfReferenceIdeal.Run
public import proofs.«01_k».proof.Proof.Gen.BgfKernel.Frame
public import proofs.«01_k».proof.Proof.BgfVal
public import proofs.«01_k».proof.Proof.Gen.BgfReferenceIdeal.Run
public import proofs.«01_k».proof.Proof.Gen.LbfKernel.Frame
public import proofs.«01_k».proof.Proof.LbfVal
public import proofs.«01_k».proof.Proof.Gen.LbfReferenceIdeal.Run
public import proofs.«01_k».proof.Proof.Gen.Pre_lbf_finite
public import proofs.«01_k».proof.Proof.MxbClaim
public import proofs.«01_k».proof.Proof.Gen.MxbReferenceIdeal.Run
public import proofs.«01_k».proof.Proof.Gen.MxfKernel.Frame
public import proofs.«01_k».proof.Proof.RefM
public import proofs.«01_k».proof.Proof.Gen.MxfReferenceIdeal.Run
public import proofs.«01_k».proof.Proof.Gen.Pre_mxf_finite
public import proofs.«01_k».proof.Proof.Gen.Pre_mxb_finite
public import proofs.«01_k».proof.Proof.Gen.On_mxb_on
public import proofs.«01_k».proof.Proof.Gen.Pre_lb_finite
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_LbReferenceIdeal : quiescent_LbReferenceIdeal := fun m ρ _ =>
  (θ_run LbReferenceIdeal.defs _ _).mono (fun r h => ⟨fun c => (h c).2, sem_eq_zero_of_no_sems (by decide) r.2⟩)
    (LbReferenceIdeal.Value.run (F := Ideal) m ρ)

theorem quiescent_FinReferenceIdeal : quiescent_FinReferenceIdeal := fun m ρ _ =>
  (θ_run FinReferenceIdeal.defs _ _).mono (fun r h => ⟨fun c => (h c).2.2.2.2, sem_eq_zero_of_no_sems (by decide) r.2⟩)
    (FinReferenceIdeal.Value.run (F := Ideal) m ρ)

theorem quiescent_FfnReferenceIdeal : quiescent_FfnReferenceIdeal := fun m ρ _ =>
  (θ_run FfnReferenceIdeal.defs _ _).mono (fun r h => ⟨fun c => (h c).2.2.2.2, sem_eq_zero_of_no_sems (by decide) r.2⟩)
    (FfnReferenceIdeal.Value.run (F := Ideal) m ρ)

theorem quiescent_MrgReferenceIdeal : quiescent_MrgReferenceIdeal := fun m ρ _ =>
  (θ_run MrgReferenceIdeal.defs _ _).mono (fun r h => ⟨fun c => (h c).2.2.2, sem_eq_zero_of_no_sems (by decide) r.2⟩)
    (MrgReferenceIdeal.Value.run (F := Ideal) m ρ)

theorem quiescent_DhReferenceIdeal : quiescent_DhReferenceIdeal := fun m ρ _ =>
  (θ_run DhReferenceIdeal.defs _ _).mono (fun r h => ⟨fun c => (h c).2.2.2, sem_eq_zero_of_no_sems (by decide) r.2⟩)
    (DhReferenceIdeal.Value.run (F := Ideal) m ρ)

theorem quiescent_FfwReferenceIdeal : quiescent_FfwReferenceIdeal := fun m ρ _ =>
  (θ_run FfwReferenceIdeal.defs _ _).mono (fun r h => ⟨fun c => (h c).2.2.2, sem_eq_zero_of_no_sems (by decide) r.2⟩)
    (FfwReferenceIdeal.Value.run (F := Ideal) m ρ)
theorem quiescent_RmfReferenceIdeal : quiescent_RmfReferenceIdeal := fun m ρ _ =>
  (θ_run RmfReferenceIdeal.defs _ _).mono (fun r h => ⟨fun c => (h c).2.2.2, sem_eq_zero_of_no_sems (by decide) r.2⟩)
    (RmfReferenceIdeal.Value.run (F := Ideal) m ρ)

theorem quiescent_BgfReferenceIdeal : quiescent_BgfReferenceIdeal := fun m ρ _ =>
  (θ_run BgfReferenceIdeal.defs _ _).mono (fun r h => ⟨fun c => (h c).2.2.2, sem_eq_zero_of_no_sems (by decide) r.2⟩)
    (BgfReferenceIdeal.Value.run (F := Ideal) m ρ)

theorem quiescent_LbfReferenceIdeal : quiescent_LbfReferenceIdeal := fun m ρ _ =>
  (θ_run LbfReferenceIdeal.defs _ _).mono (fun r h => ⟨fun c => (h c).2, sem_eq_zero_of_no_sems (by decide) r.2⟩)
    (LbfReferenceIdeal.Value.run (F := Ideal) m ρ)

theorem quiescent_MxbReferenceIdeal : quiescent_MxbReferenceIdeal := fun m ρ _ =>
  (θ_run MxbReferenceIdeal.defs _ _).mono (fun r h => ⟨fun c => (h c).2.2.2.2, sem_eq_zero_of_no_sems (by decide) r.2⟩)
    (MxbReferenceIdeal.Value.run (F := Ideal) m ρ)

theorem quiescent_MxfReferenceIdeal : quiescent_MxfReferenceIdeal := fun m ρ _ =>
  (θ_run MxfReferenceIdeal.defs _ _).mono (fun r h => ⟨fun c => (h c).2, sem_eq_zero_of_no_sems (by decide) r.2⟩)
    (MxfReferenceIdeal.Value.run (F := Ideal) m ρ)

theorem preserves_MxbKernel_MxbKernelIdeal : preserves_MxbKernel_MxbKernelIdeal :=
  ⟨IdealRules.named_const.statement MxbKernelIdeal.κ "gelu_a" .f32 0x3D372713#32 ((8943 / 200000 : ℝ) : EReal) rfl,
    IdealRules.named_const.statement MxbKernelIdeal.κ "gelu_3a" .f32 0x3E095D4F#32 ((26829 / 200000 : ℝ) : EReal) rfl⟩

theorem claim : Claim := ⟨
  LbKernel.Gen.facts,
  LbKernelIdeal.Gen.facts,
  LbReferenceIdeal.Gen.facts,
  FinKernel.Gen.facts,
  FinKernelIdeal.Gen.facts,
  FinReferenceIdeal.Gen.facts,
  FfnKernel.Gen.facts,
  FfnKernelIdeal.Gen.facts,
  FfnReferenceIdeal.Gen.facts,
  MrgKernel.Gen.facts,
  MrgKernelIdeal.Gen.facts,
  MrgReferenceIdeal.Gen.facts,
  DhKernel.Gen.facts,
  DhKernelIdeal.Gen.facts,
  DhReferenceIdeal.Gen.facts,
  FfwKernel.Gen.facts,
  FfwKernelIdeal.Gen.facts,
  FfwReferenceIdeal.Gen.facts,
  RmfKernel.Gen.facts,
  RmfKernelIdeal.Gen.facts,
  RmfReferenceIdeal.Gen.facts,
  BgfKernel.Gen.facts,
  BgfKernelIdeal.Gen.facts,
  BgfReferenceIdeal.Gen.facts,
  LbfKernel.Gen.facts,
  LbfKernelIdeal.Gen.facts,
  LbfReferenceIdeal.Gen.facts,
  MxbKernel.Gen.facts,
  MxbKernelIdeal.Gen.facts,
  MxbReferenceIdeal.Gen.facts,
  MxfKernel.Gen.facts,
  MxfKernelIdeal.Gen.facts,
  MxfReferenceIdeal.Gen.facts,
  Pre_lb_finite.Gen.facts,
  Pre_lbf_finite.Gen.facts,
  Pre_mxb_finite.Gen.facts,
  Pre_mxf_finite.Gen.facts,
  On_mxb_on.Gen.facts,
  fun m ρ _ => LbKernel.Gen.frame m ρ,
  fun m ρ _ => LbKernelIdeal.Gen.frame m ρ,
  fun m ρ _ => LbKernelIdeal.Gen.frame m ρ,
  quiescent_LbReferenceIdeal,
  fun m ρ _ => quiescent_LbReferenceIdeal m ρ trivial,
  fun m ρ _ => FinKernel.Gen.frame m ρ,
  fun m ρ _ => FinKernelIdeal.Gen.frame m ρ,
  quiescent_FinReferenceIdeal,
  fun m ρ _ => FfnKernel.Gen.frame m ρ,
  fun m ρ _ => FfnKernelIdeal.Gen.frame m ρ,
  quiescent_FfnReferenceIdeal,
  fun m ρ _ => MrgKernel.Gen.frame m ρ,
  fun m ρ _ => MrgKernelIdeal.Gen.frame m ρ,
  quiescent_MrgReferenceIdeal,
  fun m ρ _ => DhKernel.Gen.frame m ρ,
  fun m ρ _ => DhKernelIdeal.Gen.frame m ρ,
  quiescent_DhReferenceIdeal,
  fun m ρ _ => FfwPlain.frame m ρ,
  fun m ρ _ => FfwFrame.frame m ρ,
  quiescent_FfwReferenceIdeal,
  fun m ρ _ => RmfPlain.frame m ρ,
  fun m ρ _ => RmfFrame.frame m ρ,
  quiescent_RmfReferenceIdeal,
  fun m ρ _ => BgfKernel.Gen.frame m ρ,
  fun m ρ _ => BgfKernelIdeal.Gen.frame m ρ,
  quiescent_BgfReferenceIdeal,
  fun m ρ _ => LbfKernel.Gen.frame m ρ,
  fun m ρ _ => LbfKernelIdeal.Gen.frame m ρ,
  fun m ρ _ => LbfKernelIdeal.Gen.frame m ρ,
  quiescent_LbfReferenceIdeal,
  fun m ρ _ => quiescent_LbfReferenceIdeal m ρ trivial,
  fun m ρ _ => MxbPlain.frame m ρ,
  fun m ρ _ => MxbFrame.frame m ρ,
  fun m ρ _ => MxbFrame.frame m ρ,
  quiescent_MxbReferenceIdeal,
  fun m ρ _ => quiescent_MxbReferenceIdeal m ρ trivial,
  fun m ρ _ => MxfKernel.Gen.frame m ρ,
  fun m ρ _ => MxfKernelIdeal.Gen.frame m ρ,
  fun m ρ _ => MxfKernelIdeal.Gen.frame m ρ,
  quiescent_MxfReferenceIdeal,
  fun m ρ _ => quiescent_MxfReferenceIdeal m ρ trivial,
  (trivial : preserves_LbKernel_LbKernelIdeal),
  algebraic_LbKernelIdeal_LbReferenceIdeal,
  (trivial : preserves_FinKernel_FinKernelIdeal),
  algebraic_FinKernelIdeal_FinReferenceIdeal,
  (trivial : preserves_FfnKernel_FfnKernelIdeal),
  algebraic_FfnKernelIdeal_FfnReferenceIdeal,
  (trivial : preserves_MrgKernel_MrgKernelIdeal),
  algebraic_MrgKernelIdeal_MrgReferenceIdeal,
  (trivial : preserves_DhKernel_DhKernelIdeal),
  algebraic_DhKernelIdeal_DhReferenceIdeal,
  (trivial : preserves_FfwKernel_FfwKernelIdeal),
  algebraic_FfwKernelIdeal_FfwReferenceIdeal,
  (trivial : preserves_RmfKernel_RmfKernelIdeal),
  algebraic_RmfKernelIdeal_RmfReferenceIdeal,
  (trivial : preserves_BgfKernel_BgfKernelIdeal),
  algebraic_BgfKernelIdeal_BgfReferenceIdeal,
  (trivial : preserves_LbfKernel_LbfKernelIdeal),
  algebraic_LbfKernelIdeal_LbfReferenceIdeal,
  preserves_MxbKernel_MxbKernelIdeal,
  algebraic_MxbKernelIdeal_MxbReferenceIdeal,
  (trivial : preserves_MxfKernel_MxfKernelIdeal),
  algebraic_MxfKernelIdeal_MxfReferenceIdeal⟩

end Cert.Proof

end
